-- ==== Defs.lean ====
def Pre_Kernel [hPre_table_range : Cert.Pre_table_range.Facts] (m : (ℓ : Loc Cert.Kernel.nD Cert.Kernel.τ Cert.Kernel.sig) → Buf (Elt Bits) ℓ) : Prop :=
  ∀ c : Dev Cert.Kernel.nD,
    (Cert.Pre_table_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_table_range : Cert.Pre_table_range.Facts] (m : (ℓ : Loc Cert.KernelIdeal.nD Cert.KernelIdeal.τ Cert.KernelIdeal.sig) → Buf (Elt Ideal) ℓ) : Prop :=
  ∀ c : Dev Cert.KernelIdeal.nD,
    (Cert.Pre_table_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_range [hPre_table_range : Cert.Pre_table_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_mods_finite [hPre_mods_finite : Cert.Pre_mods_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_mods_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_mods_finite [hPre_mods_finite : Cert.Pre_mods_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_mods_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_mods_finite0 [hPre_mods_finite0 : Cert.Pre_mods_finite0.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_mods_finite0.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_mods_finite0 [hPre_mods_finite0 : Cert.Pre_mods_finite0.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_mods_finite0.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def quiescent_Kernel [hKernel : Cert.Kernel.Facts] [hPre_table_range : Cert.Pre_table_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_table_range : Cert.Pre_table_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_table_range [hReferenceIdeal : Cert.ReferenceIdeal.Facts] [hPre_table_range : Cert.Pre_table_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_mods_finite [hKernel4Ideal : Cert.Kernel4Ideal.Facts] [hPre_mods_finite : Cert.Pre_mods_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_mods_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_mods_finite [hReference4Ideal : Cert.Reference4Ideal.Facts] [hPre_mods_finite : Cert.Pre_mods_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_mods_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_mods_finite0 [hKernel5Ideal : Cert.Kernel5Ideal.Facts] [hPre_mods_finite0 : Cert.Pre_mods_finite0.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_mods_finite0 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_mods_finite0 [hReference5Ideal : Cert.Reference5Ideal.Facts] [hPre_mods_finite0 : Cert.Pre_mods_finite0.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_mods_finite0 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_table_range : Cert.Pre_table_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v139) = v0 c
          ∧ r.2.mem ((c.tc : Thread Cert.Reference3Ideal.nD Cert.Reference3Ideal.τ).loc Cert.Reference3Ideal.main_v141) = v1 c
          ∧ r.2.mem ((c.tc : Thread Cert.Reference3Ideal.nD Cert.Reference3Ideal.τ).loc Cert.Reference3Ideal.main_v143) = v2 c
          ∧ r.2.mem ((c.tc : Thread Cert.Reference3Ideal.nD Cert.Reference3Ideal.τ).loc Cert.Reference3Ideal.main_v128) = v3 c
          ∧ r.2.mem ((c.tc : Thread Cert.Reference3Ideal.nD Cert.Reference3Ideal.τ).loc Cert.Reference3Ideal.main_v138) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_mods_finite [hKernel4Ideal : Cert.Kernel4Ideal.Facts] [hReference4Ideal : Cert.Reference4Ideal.Facts] [hPre_mods_finite : Cert.Pre_mods_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_mods_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v261) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_mods_finite0 [hKernel5Ideal : Cert.Kernel5Ideal.Facts] [hReference5Ideal : Cert.Reference5Ideal.Facts] [hPre_mods_finite0 : Cert.Pre_mods_finite0.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_mods_finite0 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v263) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_table_range : Cert.Pre_table_range.Facts) (hPre_mods_finite : Cert.Pre_mods_finite.Facts) (hPre_mods_finite0 : Cert.Pre_mods_finite0.Facts),
    quiescent_Kernel (hKernel := hKernel) (hPre_table_range := hPre_table_range)
    ∧ quiescent_KernelIdeal (hKernelIdeal := hKernelIdeal) (hPre_table_range := hPre_table_range)
    ∧ quiescent_ReferenceIdeal (hReferenceIdeal := hReferenceIdeal)
    ∧ quiescent_ReferenceIdeal_pre_table_range (hReferenceIdeal := hReferenceIdeal) (hPre_table_range := hPre_table_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_mods_finite (hKernel4Ideal := hKernel4Ideal) (hPre_mods_finite := hPre_mods_finite)
    ∧ quiescent_Reference4Ideal (hReference4Ideal := hReference4Ideal)
    ∧ quiescent_Reference4Ideal_pre_mods_finite (hReference4Ideal := hReference4Ideal) (hPre_mods_finite := hPre_mods_finite)
    ∧ quiescent_Kernel5 (hKernel5 := hKernel5)
    ∧ quiescent_Kernel5Ideal (hKernel5Ideal := hKernel5Ideal)
    ∧ quiescent_Kernel5Ideal_pre_mods_finite0 (hKernel5Ideal := hKernel5Ideal) (hPre_mods_finite0 := hPre_mods_finite0)
    ∧ quiescent_Reference5Ideal (hReference5Ideal := hReference5Ideal)
    ∧ quiescent_Reference5Ideal_pre_mods_finite0 (hReference5Ideal := hReference5Ideal) (hPre_mods_finite0 := hPre_mods_finite0)
    ∧ preserves_Kernel_KernelIdeal
    ∧ algebraic_KernelIdeal_ReferenceIdeal (hKernelIdeal := hKernelIdeal) (hReferenceIdeal := hReferenceIdeal) (hPre_table_range := hPre_table_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_mods_finite (hKernel4Ideal := hKernel4Ideal) (hReference4Ideal := hReference4Ideal) (hPre_mods_finite := hPre_mods_finite)
    ∧ preserves_Kernel5_Kernel5Ideal
    ∧ algebraic_Kernel5Ideal_Reference5Ideal_pre_mods_finite0 (hKernel5Ideal := hKernel5Ideal) (hReference5Ideal := hReference5Ideal) (hPre_mods_finite0 := hPre_mods_finite0)
-- ==== Pre_mods_finite.lean ====
abbrev S33280x1024 : Shape := ⟨2, ![33280, 1024]⟩
abbrev S4x8x6144 : Shape := ⟨3, ![4, 8, 6144]⟩
abbrev S4x1x1024 : Shape := ⟨3, ![4, 1, 1024]⟩
abbrev S2x4x256x768 : Shape := ⟨4, ![2, 4, 256, 768]⟩
abbrev S2x4x256x256 : Shape := ⟨4, ![2, 4, 256, 256]⟩
abbrev S2x1x1024 : Shape := ⟨3, ![2, 1, 1024]⟩
abbrev S2x1024x2816 : Shape := ⟨3, ![2, 1024, 2816]⟩
abbrev S2x2816x1024 : Shape := ⟨3, ![2, 2816, 1024]⟩
abbrev S1x8x2048 : Shape := ⟨3, ![1, 8, 2048]⟩
abbrev S8x2048 : Shape := ⟨2, ![8, 2048]⟩
abbrev S_ : Shape := ⟨0, ![]⟩
abbrev S1x1x1024 : Shape := ⟨3, ![1, 1, 1024]⟩
abbrev S1024 : Shape := ⟨1, ![1024]⟩

class Facts : Prop where
  slices_S4x8x6144_S1x8x2048_2_0_0 : S4x8x6144.Slices ![2, 0, 0] S1x8x2048
  shapeCasts_S1x8x2048_S8x2048 : S1x8x2048.ShapeCasts S8x2048
  bcast_S_S8x2048 : S_.BroadcastsInDim S8x2048 (![] : Fin 0 → Fin S8x2048.rank)
  reducesTo_S8x2048_S_d0_1 : S8x2048.ReducesTo [0, 1] S_
  h_S_ : 0 < S_.numel
  slices_S4x1x1024_S1x1x1024_2_0_0 : S4x1x1024.Slices ![2, 0, 0] S1x1x1024
  shapeCasts_S1x1x1024_S1024 : S1x1x1024.ShapeCasts S1024
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S33280x1024 .f32) (main_arg1 : FVec F S4x8x6144 .f32) (main_arg2 : FVec F S4x1x1024 .f32) (main_arg3 : FVec F S4x1x1024 .f32) (main_arg4 : FVec F S2x4x256x768 .bf16) (main_arg5 : FVec F S2x4x256x256 .bf16) (main_arg6 : FVec F S2x1x1024 .f32) (main_arg7 : FVec F S2x1024x2816 .bf16) (main_arg8 : FVec F S2x1024x2816 .bf16) (main_arg9 : FVec F S2x2816x1024 .bf16) : IVec S_ 1 :=
  let main_v0 : FVec F S1x8x2048 .f32 := (extractStridedSlice S1x8x2048 ![2, 0, 0] · slices_S4x8x6144_S1x8x2048_2_0_0) main_arg1
  let main_v1 : FVec F S8x2048 .f32 := shapeCast S8x2048 main_v0 shapeCasts_S1x8x2048_S8x2048
  let main_v2 : FVec F S8x2048 .f32 := Host.absf main_v1
  let main_cst : FVec F S_ .f32 := constant S_ .f32 0x7F800000#32
  let main_v3 : FVec F S8x2048 .f32 := broadcastInDim S8x2048 ![] bcast_S_S8x2048 main_cst
  let main_v4 : IVec S8x2048 1 := cmpf .olt main_v2 main_v3
  let main_c : IVec S_ 1 := constantI S_ 1 1#1
  let main_v5 : IVec S_ 1 := (fun x v => Host.reduce IntOp.andi x v reducesTo_S8x2048_S_d0_1 h_S_) main_v4 main_c
  let main_v6 : FVec F S1x1x1024 .f32 := (extractStridedSlice S1x1x1024 ![2, 0, 0] · slices_S4x1x1024_S1x1x1024_2_0_0) main_arg2
  let main_v7 : FVec F S1024 .f32 := shapeCast S1024 main_v6 shapeCasts_S1x1x1024_S1024
  let main_v8 : FVec F S1024 .f32 := Host.absf main_v7
  let main_cst_0 : FVec F S_ .f32 := constant S_ .f32 0x7F800000#32
  let main_v9 : FVec F S1024 .f32 := broadcastInDim S1024 ![] bcast_S_S1024 main_cst_0
  let main_v10 : IVec S1024 1 := cmpf .olt main_v8 main_v9
  let main_c_1 : IVec S_ 1 := constantI S_ 1 1#1
  let main_v11 : IVec S_ 1 := (fun x v => Host.reduce IntOp.andi x v reducesTo_S1024_S_d0 h_S_) main_v10 main_c_1
  let main_v12 : IVec S_ 1 := andi main_v5 main_v11
  main_v12
-- ==== Pre_mods_finite0.lean ====
abbrev S2x256x1024 : Shape := ⟨3, ![2, 256, 1024]⟩
abbrev S2x16384x1024 : Shape := ⟨3, ![2, 16384, 1024]⟩
abbrev S4x8x6144 : Shape := ⟨3, ![4, 8, 6144]⟩
abbrev S4x1x1024 : Shape := ⟨3, ![4, 1, 1024]⟩
abbrev S2x4x256x768 : Shape := ⟨4, ![2, 4, 256, 768]⟩
abbrev S2x4x256x256 : Shape := ⟨4, ![2, 4, 256, 256]⟩
abbrev S2x1x1024 : Shape := ⟨3, ![2, 1, 1024]⟩
abbrev S2x1024x2816 : Shape := ⟨3, ![2, 1024, 2816]⟩
abbrev S2x2816x1024 : Shape := ⟨3, ![2, 2816, 1024]⟩
abbrev S1x8x2048 : Shape := ⟨3, ![1, 8, 2048]⟩
abbrev S8x2048 : Shape := ⟨2, ![8, 2048]⟩
abbrev S_ : Shape := ⟨0, ![]⟩
abbrev S1x1x1024 : Shape := ⟨3, ![1, 1, 1024]⟩
abbrev S1024 : Shape := ⟨1, ![1024]⟩

class Facts : Prop where
  slices_S4x8x6144_S1x8x2048_0_0_0 : S4x8x6144.Slices ![0, 0, 0] S1x8x2048
  shapeCasts_S1x8x2048_S8x2048 : S1x8x2048.ShapeCasts S8x2048
  bcast_S_S8x2048 : S_.BroadcastsInDim S8x2048 (![] : Fin 0 → Fin S8x2048.rank)
  reducesTo_S8x2048_S_d0_1 : S8x2048.ReducesTo [0, 1] S_
  h_S_ : 0 < S_.numel
  slices_S4x1x1024_S1x1x1024_0_0_0 : S4x1x1024.Slices ![0, 0, 0] S1x1x1024
  shapeCasts_S1x1x1024_S1024 : S1x1x1024.ShapeCasts S1024
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x256x1024 .f32) (main_arg1 : FVec F S2x16384x1024 .f32) (main_arg2 : FVec F S4x8x6144 .f32) (main_arg3 : FVec F S4x1x1024 .f32) (main_arg4 : FVec F S4x1x1024 .f32) (main_arg5 : FVec F S2x4x256x768 .bf16) (main_arg6 : FVec F S2x4x256x256 .bf16) (main_arg7 : FVec F S2x1x1024 .f32) (main_arg8 : FVec F S2x1024x2816 .bf16) (main_arg9 : FVec F S2x1024x2816 .bf16) (main_arg10 : FVec F S2x2816x1024 .bf16) : IVec S_ 1 :=
  let main_v0 : FVec F S1x8x2048 .f32 := (extractStridedSlice S1x8x2048 ![0, 0, 0] · slices_S4x8x6144_S1x8x2048_0_0_0) main_arg2
  let main_v1 : FVec F S8x2048 .f32 := shapeCast S8x2048 main_v0 shapeCasts_S1x8x2048_S8x2048
  let main_v2 : FVec F S8x2048 .f32 := Host.absf main_v1
  let main_cst : FVec F S_ .f32 := constant S_ .f32 0x7F800000#32
  let main_v3 : FVec F S8x2048 .f32 := broadcastInDim S8x2048 ![] bcast_S_S8x2048 main_cst
  let main_v4 : IVec S8x2048 1 := cmpf .olt main_v2 main_v3
  let main_c : IVec S_ 1 := constantI S_ 1 1#1
  let main_v5 : IVec S_ 1 := (fun x v => Host.reduce IntOp.andi x v reducesTo_S8x2048_S_d0_1 h_S_) main_v4 main_c
  let main_v6 : FVec F S1x1x1024 .f32 := (extractStridedSlice S1x1x1024 ![0, 0, 0] · slices_S4x1x1024_S1x1x1024_0_0_0) main_arg3
  let main_v7 : FVec F S1024 .f32 := shapeCast S1024 main_v6 shapeCasts_S1x1x1024_S1024
  let main_v8 : FVec F S1024 .f32 := Host.absf main_v7
  let main_cst_0 : FVec F S_ .f32 := constant S_ .f32 0x7F800000#32
  let main_v9 : FVec F S1024 .f32 := broadcastInDim S1024 ![] bcast_S_S1024 main_cst_0
  let main_v10 : IVec S1024 1 := cmpf .olt main_v8 main_v9
  let main_c_1 : IVec S_ 1 := constantI S_ 1 1#1
  let main_v11 : IVec S_ 1 := (fun x v => Host.reduce IntOp.andi x v reducesTo_S1024_S_d0 h_S_) main_v10 main_c_1
  let main_v12 : IVec S_ 1 := andi main_v5 main_v11
  main_v12
-- ==== Pre_table_range.lean ====
abbrev S565248x128 : Shape := ⟨2, ![565248, 128]⟩
abbrev S138 : Shape := ⟨1, ![138]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S138 : S_.BroadcastsInDim S138 (![] : Fin 0 → Fin S138.rank)
  reducesTo_S138_S_d0 : S138.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S565248x128 .f32) (main_arg1 : IVec S138 32) (main_arg2 : IVec S1 32) (main_arg3 : FVec F S2x8x1024x3584 .bf16) (main_arg4 : FVec F S2x8x1024x3584 .bf16) (main_arg5 : FVec F S2x8x3584x1024 .bf16) : IVec S_ 1 :=
  let main_c : IVec S_ 32 := constantI S_ 32 0#32
  let main_v0 : IVec S138 32 := broadcastInDim S138 ![] bcast_S_S138 main_c
  let main_v1 : IVec S138 1 := cmpi .sge main_arg1 main_v0
  let main_c_0 : IVec S_ 1 := constantI S_ 1 1#1
  let main_v2 : IVec S_ 1 := (fun x v => Host.reduce IntOp.andi x v reducesTo_S138_S_d0 h_S_) main_v1 main_c_0
  let main_c_1 : IVec S_ 32 := constantI S_ 32 8#32
  let main_v3 : IVec S138 32 := broadcastInDim S138 ![] bcast_S_S138 main_c_1
  let main_v4 : IVec S138 1 := cmpi .slt main_arg1 main_v3
  let main_c_2 : IVec S_ 1 := constantI S_ 1 1#1
  let main_v5 : IVec S_ 1 := (fun x v => Host.reduce IntOp.andi x v reducesTo_S138_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S565248x128 : Shape := ⟨2, ![565248, 128]⟩
abbrev S138 : Shape := ⟨1, ![138]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S4096x128 : Shape := ⟨2, ![4096, 128]⟩
abbrev S1x1x1024x3584 : Shape := ⟨4, ![1, 1, 1024, 3584]⟩
abbrev S1x1x3584x1024 : Shape := ⟨4, ![1, 1, 3584, 1024]⟩
abbrev S512x128 : Shape := ⟨2, ![512, 128]⟩
abbrev S512x1024 : Shape := ⟨2, ![512, 1024]⟩
abbrev S1x1x1024x512 : Shape := ⟨4, ![1, 1, 1024, 512]⟩
abbrev S1024x512 : Shape := ⟨2, ![1024, 512]⟩
abbrev S512x512 : Shape := ⟨2, ![512, 512]⟩
abbrev S1x1x512x1024 : Shape := ⟨4, ![1, 1, 512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S565248x128, .f32⟩
  | .hbm, ⟨1, _⟩ => ⟨S2x8x1024x3584, .bf16⟩
  | .hbm, ⟨2, _⟩ => ⟨S2x8x1024x3584, .bf16⟩
  | .hbm, ⟨3, _⟩ => ⟨S2x8x3584x1024, .bf16⟩
  | .hbm, ⟨4, _⟩ => ⟨S565248x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x3584, .bf16⟩
  | .local _ .vmem, ⟨3, _⟩ => ⟨S1x1x1024x3584, .bf16⟩
  | .local _ .vmem, ⟨4, _⟩ => ⟨S1x1x1024x3584, .bf16⟩
  | .local _ .vmem, ⟨5, _⟩ => ⟨S1x1x1024x3584, .bf16⟩
  | .local _ .vmem, ⟨6, _⟩ => ⟨S1x1x3584x1024, .bf16⟩
  | .local _ .vmem, ⟨7, _⟩ => ⟨S1x1x3584x1024, .bf16⟩
  | .local _ .vmem, ⟨8, _⟩ => ⟨S4096x128, .f32⟩
  | .local _ .vmem, ⟨9, _⟩ => ⟨S4096x128, .f32⟩
  | .local _ .smem, ⟨0, _⟩ => ⟨S138, .i32⟩
  | .local _ .smem, ⟨1, _⟩ => ⟨S1, .i32⟩
  | _, _ => ⟨S565248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![138], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S138.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S138.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S138.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S565248x128 : Shape := ⟨2, ![565248, 128]⟩
abbrev S138 : Shape := ⟨1, ![138]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S70656x1024 : Shape := ⟨2, ![70656, 1024]⟩
abbrev S70656 : Shape := ⟨1, ![70656]⟩
abbrev S_ : Shape := ⟨0, ![]⟩
abbrev S70656x1 : Shape := ⟨2, ![70656, 1]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S70656x3584 : Shape := ⟨2, ![70656, 3584]⟩

abbrev nBuf : Space → Nat
  | .hbm => 301
  | .vmem => 0
  | .smem => 0
  | _ => 0

abbrev hbmTy0_0 (i : Nat) : BufTy := match i % 128 with
  | 0 => ⟨S565248x128, .f32⟩
  | 1 => ⟨S138, .i32⟩
  | 2 => ⟨S1, .i32⟩
  | 3 => ⟨S2x8x1024x3584, .bf16⟩
  | 4 => ⟨S2x8x1024x3584, .bf16⟩
  | 5 => ⟨S2x8x3584x1024, .bf16⟩
  | 6 => ⟨S70656x1024, .f32⟩
  | 7 => ⟨S70656, .i32⟩
  | 8 => ⟨S_, .i32⟩
  | 9 => ⟨S_, .i32⟩
  | 10 => ⟨S70656, .i32⟩
  | 11 => ⟨S70656, .i32⟩
  | 12 => ⟨S70656, .i32⟩
  | 13 => ⟨S_, .i32⟩
  | 14 => ⟨S70656, .i32⟩
  | 15 => ⟨S70656, .i1⟩
  | 16 => ⟨S70656, .i32⟩
  | 17 => ⟨S70656, .i32⟩
  | 18 => ⟨S_, .i32⟩
  | 19 => ⟨S70656, .i32⟩
  | 20 => ⟨S70656, .i1⟩
  | 21 => ⟨S70656, .i1⟩
  | 22 => ⟨S_, .i32⟩
  | 23 => ⟨S70656, .i32⟩
  | 24 => ⟨S70656, .i32⟩
  | 25 => ⟨S70656, .i32⟩
  | 26 => ⟨S_, .i32⟩
  | 27 => ⟨S70656, .i32⟩
  | 28 => ⟨S70656, .i1⟩
  | 29 => ⟨S_, .i32⟩
  | 30 => ⟨S70656, .i32⟩
  | 31 => ⟨S70656, .i1⟩
  | 32 => ⟨S_, .i32⟩
  | 33 => ⟨S70656, .i32⟩
  | 34 => ⟨S70656, .i32⟩
  | 35 => ⟨S70656, .i32⟩
  | 36 => ⟨S70656x1, .i32⟩
  | 37 => ⟨S70656, .i32⟩
  | 38 => ⟨S_, .i32⟩
  | 39 => ⟨S_, .i32⟩
  | 40 => ⟨S70656, .i32⟩
  | 41 => ⟨S70656, .i32⟩
  | 42 => ⟨S_, .f32⟩
  | 43 => ⟨S70656x1024, .f32⟩
  | 44 => ⟨S_, .i32⟩
  | 45 => ⟨S70656, .i32⟩
  | 46 => ⟨S70656, .i1⟩
  | 47 => ⟨S70656x1, .i1⟩
  | 48 => ⟨S1x1x1024x3584, .bf16⟩
  | 49 => ⟨S1024x3584, .bf16⟩
  | 50 => ⟨S1024x3584, .f32⟩
  | 51 => ⟨S1x1x1024x3584, .bf16⟩
  | 52 => ⟨S1024x3584, .bf16⟩
  | 53 => ⟨S1024x3584, .f32⟩
  | 54 => ⟨S1x1x3584x1024, .bf16⟩
  | 55 => ⟨S3584x1024, .bf16⟩
  | 56 => ⟨S3584x1024, .f32⟩
  | 57 => ⟨S70656x3584, .f32⟩
  | 58 => ⟨S70656x3584, .f32⟩
  | 59 => ⟨S70656x3584, .f32⟩
  | 60 => ⟨S_, .f32⟩
  | 61 => ⟨S70656x3584, .f32⟩
  | 62 => ⟨S70656x3584, .f32⟩
  | 63 => ⟨S_, .f32⟩
  | 64 => ⟨S70656x3584, .f32⟩
  | 65 => ⟨S70656x3584, .f32⟩
  | 66 => ⟨S70656x3584, .f32⟩
  | 67 => ⟨S70656x3584, .f32⟩
  | 68 => ⟨S70656x3584, .f32⟩
  | 69 => ⟨S70656x1024, .f32⟩
  | 70 => ⟨S_, .f32⟩
  | 71 => ⟨S_, .f32⟩
  | 72 => ⟨S70656x1024, .i1⟩
  | 73 => ⟨S70656x1024, .f32⟩
  | 74 => ⟨S70656x1024, .f32⟩
  | 75 => ⟨S70656x1024, .f32⟩
  | 76 => ⟨S_, .i32⟩
  | 77 => ⟨S70656, .i32⟩
  | 78 => ⟨S70656, .i1⟩
  | 79 => ⟨S70656x1, .i1⟩
  | 80 => ⟨S1x1x1024x3584, .bf16⟩
  | 81 => ⟨S1024x3584, .bf16⟩
  | 82 => ⟨S1024x3584, .f32⟩
  | 83 => ⟨S1x1x1024x3584, .bf16⟩
  | 84 => ⟨S1024x3584, .bf16⟩
  | 85 => ⟨S1024x3584, .f32⟩
  | 86 => ⟨S1x1x3584x1024, .bf16⟩
  | 87 => ⟨S3584x1024, .bf16⟩
  | 88 => ⟨S3584x1024, .f32⟩
  | 89 => ⟨S70656x3584, .f32⟩
  | 90 => ⟨S70656x3584, .f32⟩
  | 91 => ⟨S70656x3584, .f32⟩
  | 92 => ⟨S_, .f32⟩
  | 93 => ⟨S70656x3584, .f32⟩
  | 94 => ⟨S70656x3584, .f32⟩
  | 95 => ⟨S_, .f32⟩
  | 96 => ⟨S70656x3584, .f32⟩
  | 97 => ⟨S70656x3584, .f32⟩
  | 98 => ⟨S70656x3584, .f32⟩
  | 99 => ⟨S70656x3584, .f32⟩
  | 100 => ⟨S70656x3584, .f32⟩
  | 101 => ⟨S70656x1024, .f32⟩
  | 102 => ⟨S_, .f32⟩
  | 103 => ⟨S_, .f32⟩
  | 104 => ⟨S70656x1024, .i1⟩
  | 105 => ⟨S70656x1024, .f32⟩
  | 106 => ⟨S70656x1024, .f32⟩
  | 107 => ⟨S70656x1024, .f32⟩
  | 108 => ⟨S_, .i32⟩
  | 109 => ⟨S70656, .i32⟩
  | 110 => ⟨S70656, .i1⟩
  | 111 => ⟨S70656x1, .i1⟩
  | 112 => ⟨S1x1x1024x3584, .bf16⟩
  | 113 => ⟨S1024x3584, .bf16⟩
  | 114 => ⟨S1024x3584, .f32⟩
  | 115 => ⟨S1x1x1024x3584, .bf16⟩
  | 116 => ⟨S1024x3584, .bf16⟩
  | 117 => ⟨S1024x3584, .f32⟩
  | 118 => ⟨S1x1x3584x1024, .bf16⟩
  | 119 => ⟨S3584x1024, .bf16⟩
  | 120 => ⟨S3584x1024, .f32⟩
  | 121 => ⟨S70656x3584, .f32⟩
  | 122 => ⟨S70656x3584, .f32⟩
  | 123 => ⟨S70656x3584, .f32⟩
  | 124 => ⟨S_, .f32⟩
  | 125 => ⟨S70656x3584, .f32⟩
  | 126 => ⟨S70656x3584, .f32⟩
  | 127 => ⟨S_, .f32⟩
  | _ => ⟨S565248x128, .f32⟩

abbrev hbmTy0_1 (i : Nat) : BufTy := match i % 128 with
  | 0 => ⟨S70656x3584, .f32⟩
  | 1 => ⟨S70656x3584, .f32⟩
  | 2 => ⟨S70656x3584, .f32⟩
  | 3 => ⟨S70656x3584, .f32⟩
  | 4 => ⟨S70656x3584, .f32⟩
  | 5 => ⟨S70656x1024, .f32⟩
  | 6 => ⟨S_, .f32⟩
  | 7 => ⟨S_, .f32⟩
  | 8 => ⟨S70656x1024, .i1⟩
  | 9 => ⟨S70656x1024, .f32⟩
  | 10 => ⟨S70656x1024, .f32⟩
  | 11 => ⟨S70656x1024, .f32⟩
  | 12 => ⟨S_, .i32⟩
  | 13 => ⟨S70656, .i32⟩
  | 14 => ⟨S70656, .i1⟩
  | 15 => ⟨S70656x1, .i1⟩
  | 16 => ⟨S1x1x1024x3584, .bf16⟩
  | 17 => ⟨S1024x3584, .bf16⟩
  | 18 => ⟨S1024x3584, .f32⟩
  | 19 => ⟨S1x1x1024x3584, .bf16⟩
  | 20 => ⟨S1024x3584, .bf16⟩
  | 21 => ⟨S1024x3584, .f32⟩
  | 22 => ⟨S1x1x3584x1024, .bf16⟩
  | 23 => ⟨S3584x1024, .bf16⟩
  | 24 => ⟨S3584x1024, .f32⟩
  | 25 => ⟨S70656x3584, .f32⟩
  | 26 => ⟨S70656x3584, .f32⟩
  | 27 => ⟨S70656x3584, .f32⟩
  | 28 => ⟨S_, .f32⟩
  | 29 => ⟨S70656x3584, .f32⟩
  | 30 => ⟨S70656x3584, .f32⟩
  | 31 => ⟨S_, .f32⟩
  | 32 => ⟨S70656x3584, .f32⟩
  | 33 => ⟨S70656x3584, .f32⟩
  | 34 => ⟨S70656x3584, .f32⟩
  | 35 => ⟨S70656x3584, .f32⟩
  | 36 => ⟨S70656x3584, .f32⟩
  | 37 => ⟨S70656x1024, .f32⟩
  | 38 => ⟨S_, .f32⟩
  | 39 => ⟨S_, .f32⟩
  | 40 => ⟨S70656x1024, .i1⟩
  | 41 => ⟨S70656x1024, .f32⟩
  | 42 => ⟨S70656x1024, .f32⟩
  | 43 => ⟨S70656x1024, .f32⟩
  | 44 => ⟨S_, .i32⟩
  | 45 => ⟨S70656, .i32⟩
  | 46 => ⟨S70656, .i1⟩
  | 47 => ⟨S70656x1, .i1⟩
  | 48 => ⟨S1x1x1024x3584, .bf16⟩
  | 49 => ⟨S1024x3584, .bf16⟩
  | 50 => ⟨S1024x3584, .f32⟩
  | 51 => ⟨S1x1x1024x3584, .bf16⟩
  | 52 => ⟨S1024x3584, .bf16⟩
  | 53 => ⟨S1024x3584, .f32⟩
  | 54 => ⟨S1x1x3584x1024, .bf16⟩
  | 55 => ⟨S3584x1024, .bf16⟩
  | 56 => ⟨S3584x1024, .f32⟩
  | 57 => ⟨S70656x3584, .f32⟩
  | 58 => ⟨S70656x3584, .f32⟩
  | 59 => ⟨S70656x3584, .f32⟩
  | 60 => ⟨S_, .f32⟩
  | 61 => ⟨S70656x3584, .f32⟩
  | 62 => ⟨S70656x3584, .f32⟩
  | 63 => ⟨S_, .f32⟩
  | 64 => ⟨S70656x3584, .f32⟩
  | 65 => ⟨S70656x3584, .f32⟩
  | 66 => ⟨S70656x3584, .f32⟩
  | 67 => ⟨S70656x3584, .f32⟩
  | 68 => ⟨S70656x3584, .f32⟩
  | 69 => ⟨S70656x1024, .f32⟩
  | 70 => ⟨S_, .f32⟩
  | 71 => ⟨S_, .f32⟩
  | 72 => ⟨S70656x1024, .i1⟩
  | 73 => ⟨S70656x1024, .f32⟩
  | 74 => ⟨S70656x1024, .f32⟩
  | 75 => ⟨S70656x1024, .f32⟩
  | 76 => ⟨S_, .i32⟩
  | 77 => ⟨S70656, .i32⟩
  | 78 => ⟨S70656, .i1⟩
  | 79 => ⟨S70656x1, .i1⟩
  | 80 => ⟨S1x1x1024x3584, .bf16⟩
  | 81 => ⟨S1024x3584, .bf16⟩
  | 82 => ⟨S1024x3584, .f32⟩
  | 83 => ⟨S1x1x1024x3584, .bf16⟩
  | 84 => ⟨S1024x3584, .bf16⟩
  | 85 => ⟨S1024x3584, .f32⟩
  | 86 => ⟨S1x1x3584x1024, .bf16⟩
  | 87 => ⟨S3584x1024, .bf16⟩
  | 88 => ⟨S3584x1024, .f32⟩
  | 89 => ⟨S70656x3584, .f32⟩
  | 90 => ⟨S70656x3584, .f32⟩
  | 91 => ⟨S70656x3584, .f32⟩
  | 92 => ⟨S_, .f32⟩
  | 93 => ⟨S70656x3584, .f32⟩
  | 94 => ⟨S70656x3584, .f32⟩
  | 95 => ⟨S_, .f32⟩
  | 96 => ⟨S70656x3584, .f32⟩
  | 97 => ⟨S70656x3584, .f32⟩
  | 98 => ⟨S70656x3584, .f32⟩
  | 99 => ⟨S70656x3584, .f32⟩
  | 100 => ⟨S70656x3584, .f32⟩
  | 101 => ⟨S70656x1024, .f32⟩
  | 102 => ⟨S_, .f32⟩
  | 103 => ⟨S_, .f32⟩
  | 104 => ⟨S70656x1024, .i1⟩
  | 105 => ⟨S70656x1024, .f32⟩
  | 106 => ⟨S70656x1024, .f32⟩
  | 107 => ⟨S70656x1024, .f32⟩
  | 108 => ⟨S_, .i32⟩
  | 109 => ⟨S70656, .i32⟩
  | 110 => ⟨S70656, .i1⟩
  | 111 => ⟨S70656x1, .i1⟩
  | 112 => ⟨S1x1x1024x3584, .bf16⟩
  | 113 => ⟨S1024x3584, .bf16⟩
  | 114 => ⟨S1024x3584, .f32⟩
  | 115 => ⟨S1x1x1024x3584, .bf16⟩
  | 116 => ⟨S1024x3584, .bf16⟩
  | 117 => ⟨S1024x3584, .f32⟩
  | 118 => ⟨S1x1x3584x1024, .bf16⟩
  | 119 => ⟨S3584x1024, .bf16⟩
  | 120 => ⟨S3584x1024, .f32⟩
  | 121 => ⟨S70656x3584, .f32⟩
  | 122 => ⟨S70656x3584, .f32⟩
  | 123 => ⟨S70656x3584, .f32⟩
  | 124 => ⟨S_, .f32⟩
  | 125 => ⟨S70656x3584, .f32⟩
  | 126 => ⟨S70656x3584, .f32⟩
  | 127 => ⟨S_, .f32⟩
  | _ => ⟨S565248x128, .f32⟩

abbrev hbmTy0_2 (i : Nat) : BufTy := match i % 128 with
  | 0 => ⟨S70656x3584, .f32⟩
  | 1 => ⟨S70656x3584, .f32⟩
  | 2 => ⟨S70656x3584, .f32⟩
  | 3 => ⟨S70656x3584, .f32⟩
  | 4 => ⟨S70656x3584, .f32⟩
  | 5 => ⟨S70656x1024, .f32⟩
  | 6 => ⟨S_, .f32⟩
  | 7 => ⟨S_, .f32⟩
  | 8 => ⟨S70656x1024, .i1⟩
  | 9 => ⟨S70656x1024, .f32⟩
  | 10 => ⟨S70656x1024, .f32⟩
  | 11 => ⟨S70656x1024, .f32⟩
  | 12 => ⟨S_, .i32⟩
  | 13 => ⟨S70656, .i32⟩
  | 14 => ⟨S70656, .i1⟩
  | 15 => ⟨S70656x1, .i1⟩
  | 16 => ⟨S1x1x1024x3584, .bf16⟩
  | 17 => ⟨S1024x3584, .bf16⟩
  | 18 => ⟨S1024x3584, .f32⟩
  | 19 => ⟨S1x1x1024x3584, .bf16⟩
  | 20 => ⟨S1024x3584, .bf16⟩
  | 21 => ⟨S1024x3584, .f32⟩
  | 22 => ⟨S1x1x3584x1024, .bf16⟩
  | 23 => ⟨S3584x1024, .bf16⟩
  | 24 => ⟨S3584x1024, .f32⟩
  | 25 => ⟨S70656x3584, .f32⟩
  | 26 => ⟨S70656x3584, .f32⟩
  | 27 => ⟨S70656x3584, .f32⟩
  | 28 => ⟨S_, .f32⟩
  | 29 => ⟨S70656x3584, .f32⟩
  | 30 => ⟨S70656x3584, .f32⟩
  | 31 => ⟨S_, .f32⟩
  | 32 => ⟨S70656x3584, .f32⟩
  | 33 => ⟨S70656x3584, .f32⟩
  | 34 => ⟨S70656x3584, .f32⟩
  | 35 => ⟨S70656x3584, .f32⟩
  | 36 => ⟨S70656x3584, .f32⟩
  | 37 => ⟨S70656x1024, .f32⟩
  | 38 => ⟨S_, .f32⟩
  | 39 => ⟨S_, .f32⟩
  | 40 => ⟨S70656x1024, .i1⟩
  | 41 => ⟨S70656x1024, .f32⟩
  | 42 => ⟨S70656x1024, .f32⟩
  | 43 => ⟨S70656x1024, .f32⟩
  | 44 => ⟨S565248x128, .f32⟩
  | _ => ⟨S565248x128, .f32⟩

abbrev hbmTy (i : Nat) : BufTy := match i / 128 with
  | 0 => hbmTy0_0 i
  | 1 => hbmTy0_1 i
  | 2 => hbmTy0_2 i
  | _ => ⟨S565248x128, .f32⟩

abbrev bufTy : (tb : Table) → Fin (tcTables nBuf tb) → BufTy
  | .hbm, ⟨i, _⟩ => hbmTy i
  | _, _ => ⟨S565248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_call1_v0 : Ref sig .tc := ⟨.hbm, 39, rfl⟩
abbrev main_call1_v1 : Ref sig .tc := ⟨.hbm, 40, rfl⟩
abbrev main_v13 : Ref sig .tc := ⟨.hbm, 41, rfl⟩
abbrev main_cst : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v32 : Ref sig .tc := ⟨.hbm, 74, rfl⟩
abbrev main_v33 : Ref sig .tc := ⟨.hbm, 75, rfl⟩
abbrev main_c_5 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call4_v0 : Ref sig .tc := ⟨.hbm, 90, rfl⟩
abbrev main_call4_v1 : Ref sig .tc := ⟨.hbm, 91, rfl⟩
abbrev main_call4_cst : Ref sig .tc := ⟨.hbm, 92, rfl⟩
abbrev main_call4_v2 : Ref sig .tc := ⟨.hbm, 93, rfl⟩
abbrev main_call4_v3 : Ref sig .tc := ⟨.hbm, 94, rfl⟩
abbrev main_call4_cst_0 : Ref sig .tc := ⟨.hbm, 95, rfl⟩
abbrev main_call4_v4 : Ref sig .tc := ⟨.hbm, 96, rfl⟩
abbrev main_call4_v5 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_6 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_v51 : Ref sig .tc := ⟨.hbm, 106, rfl⟩
abbrev main_v52 : Ref sig .tc := ⟨.hbm, 107, rfl⟩
abbrev main_c_7 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_call6_v0 : Ref sig .tc := ⟨.hbm, 122, rfl⟩
abbrev main_call6_v1 : Ref sig .tc := ⟨.hbm, 123, rfl⟩
abbrev main_call6_cst : Ref sig .tc := ⟨.hbm, 124, rfl⟩
abbrev main_call6_v2 : Ref sig .tc := ⟨.hbm, 125, rfl⟩
abbrev main_call6_v3 : Ref sig .tc := ⟨.hbm, 126, rfl⟩
abbrev main_call6_cst_0 : Ref sig .tc := ⟨.hbm, 127, rfl⟩
abbrev main_call6_v4 : Ref sig .tc := ⟨.hbm, 128, rfl⟩
abbrev main_call6_v5 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_cst_8 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_v70 : Ref sig .tc := ⟨.hbm, 138, rfl⟩
abbrev main_v71 : Ref sig .tc := ⟨.hbm, 139, rfl⟩
abbrev main_c_9 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_call8_v0 : Ref sig .tc := ⟨.hbm, 154, rfl⟩
abbrev main_call8_v1 : Ref sig .tc := ⟨.hbm, 155, rfl⟩
abbrev main_call8_cst : Ref sig .tc := ⟨.hbm, 156, rfl⟩
abbrev main_call8_v2 : Ref sig .tc := ⟨.hbm, 157, rfl⟩
abbrev main_call8_v3 : Ref sig .tc := ⟨.hbm, 158, rfl⟩
abbrev main_call8_cst_0 : Ref sig .tc := ⟨.hbm, 159, rfl⟩
abbrev main_call8_v4 : Ref sig .tc := ⟨.hbm, 160, rfl⟩
abbrev main_call8_v5 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_cst_10 : Ref sig .tc := ⟨.hbm, 166, rfl⟩
abbrev main_call9_v0 : Ref sig .tc := ⟨.hbm, 167, rfl⟩
abbrev main_call9_v1 : Ref sig .tc := ⟨.hbm, 168, rfl⟩
abbrev main_call9_v2 : Ref sig .tc := ⟨.hbm, 169, rfl⟩
abbrev main_v89 : Ref sig .tc := ⟨.hbm, 170, rfl⟩
abbrev main_v90 : Ref sig .tc := ⟨.hbm, 171, rfl⟩
abbrev main_c_11 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_call10_v0 : Ref sig .tc := ⟨.hbm, 186, rfl⟩
abbrev main_call10_v1 : Ref sig .tc := ⟨.hbm, 187, rfl⟩
abbrev main_call10_cst : Ref sig .tc := ⟨.hbm, 188, rfl⟩
abbrev main_call10_v2 : Ref sig .tc := ⟨.hbm, 189, rfl⟩
abbrev main_call10_v3 : Ref sig .tc := ⟨.hbm, 190, rfl⟩
abbrev main_call10_cst_0 : Ref sig .tc := ⟨.hbm, 191, rfl⟩
abbrev main_call10_v4 : Ref sig .tc := ⟨.hbm, 192, rfl⟩
abbrev main_call10_v5 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_cst_12 : Ref sig .tc := ⟨.hbm, 198, rfl⟩
abbrev main_call11_v0 : Ref sig .tc := ⟨.hbm, 199, rfl⟩
abbrev main_call11_v1 : Ref sig .tc := ⟨.hbm, 200, rfl⟩
abbrev main_call11_v2 : Ref sig .tc := ⟨.hbm, 201, rfl⟩
abbrev main_v108 : Ref sig .tc := ⟨.hbm, 202, rfl⟩
abbrev main_v109 : Ref sig .tc := ⟨.hbm, 203, rfl⟩
abbrev main_c_13 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_call12_v0 : Ref sig .tc := ⟨.hbm, 218, rfl⟩
abbrev main_call12_v1 : Ref sig .tc := ⟨.hbm, 219, rfl⟩
abbrev main_call12_cst : Ref sig .tc := ⟨.hbm, 220, rfl⟩
abbrev main_call12_v2 : Ref sig .tc := ⟨.hbm, 221, rfl⟩
abbrev main_call12_v3 : Ref sig .tc := ⟨.hbm, 222, rfl⟩
abbrev main_call12_cst_0 : Ref sig .tc := ⟨.hbm, 223, rfl⟩
abbrev main_call12_v4 : Ref sig .tc := ⟨.hbm, 224, rfl⟩
abbrev main_call12_v5 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_cst_14 : Ref sig .tc := ⟨.hbm, 230, rfl⟩
abbrev main_call13_v0 : Ref sig .tc := ⟨.hbm, 231, rfl⟩
abbrev main_call13_v1 : Ref sig .tc := ⟨.hbm, 232, rfl⟩
abbrev main_call13_v2 : Ref sig .tc := ⟨.hbm, 233, rfl⟩
abbrev main_v127 : Ref sig .tc := ⟨.hbm, 234, rfl⟩
abbrev main_v128 : Ref sig .tc := ⟨.hbm, 235, rfl⟩
abbrev main_c_15 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_call14_v0 : Ref sig .tc := ⟨.hbm, 250, rfl⟩
abbrev main_call14_v1 : Ref sig .tc := ⟨.hbm, 251, rfl⟩
abbrev main_call14_cst : Ref sig .tc := ⟨.hbm, 252, rfl⟩
abbrev main_call14_v2 : Ref sig .tc := ⟨.hbm, 253, rfl⟩
abbrev main_call14_v3 : Ref sig .tc := ⟨.hbm, 254, rfl⟩
abbrev main_call14_cst_0 : Ref sig .tc := ⟨.hbm, 255, rfl⟩
abbrev main_call14_v4 : Ref sig .tc := ⟨.hbm, 256, rfl⟩
abbrev main_call14_v5 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_cst_16 : Ref sig .tc := ⟨.hbm, 262, rfl⟩
abbrev main_call15_v0 : Ref sig .tc := ⟨.hbm, 263, rfl⟩
abbrev main_call15_v1 : Ref sig .tc := ⟨.hbm, 264, rfl⟩
abbrev main_call15_v2 : Ref sig .tc := ⟨.hbm, 265, rfl⟩
abbrev main_v146 : Ref sig .tc := ⟨.hbm, 266, rfl⟩
abbrev main_v147 : Ref sig .tc := ⟨.hbm, 267, rfl⟩
abbrev main_c_17 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_call16_v0 : Ref sig .tc := ⟨.hbm, 282, rfl⟩
abbrev main_call16_v1 : Ref sig .tc := ⟨.hbm, 283, rfl⟩
abbrev main_call16_cst : Ref sig .tc := ⟨.hbm, 284, rfl⟩
abbrev main_call16_v2 : Ref sig .tc := ⟨.hbm, 285, rfl⟩
abbrev main_call16_v3 : Ref sig .tc := ⟨.hbm, 286, rfl⟩
abbrev main_call16_cst_0 : Ref sig .tc := ⟨.hbm, 287, rfl⟩
abbrev main_call16_v4 : Ref sig .tc := ⟨.hbm, 288, rfl⟩
abbrev main_call16_v5 : Ref sig .tc := ⟨.hbm, 289, rfl⟩
abbrev main_v161 : Ref sig .tc := ⟨.hbm, 290, rfl⟩
abbrev main_v162 : Ref sig .tc := ⟨.hbm, 291, rfl⟩
abbrev main_v163 : Ref sig .tc := ⟨.hbm, 292, rfl⟩
abbrev main_v164 : Ref sig .tc := ⟨.hbm, 293, rfl⟩
abbrev main_cst_18 : Ref sig .tc := ⟨.hbm, 294, rfl⟩
abbrev main_call17_v0 : Ref sig .tc := ⟨.hbm, 295, rfl⟩
abbrev main_call17_v1 : Ref sig .tc := ⟨.hbm, 296, rfl⟩
abbrev main_call17_v2 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩

abbrev nD : Nat := 1
abbrev τ : Topo := Topo.v7x

variable {F : FTy → Type} [FloatOps F]
-- ==== Kernel2.lean ====
abbrev S33280x2048 : Shape := ⟨2, ![33280, 2048]⟩
abbrev S33280x1024 : Shape := ⟨2, ![33280, 1024]⟩
abbrev S4x8x6144 : Shape := ⟨3, ![4, 8, 6144]⟩
abbrev S2x1x2048 : Shape := ⟨3, ![2, 1, 2048]⟩
abbrev S2x2048x1024 : Shape := ⟨3, ![2, 2048, 1024]⟩
abbrev S4x1x1024 : Shape := ⟨3, ![4, 1, 1024]⟩
abbrev S2x1024x128 : Shape := ⟨3, ![2, 1024, 128]⟩
abbrev S256x256 : Shape := ⟨2, ![256, 256]⟩
abbrev S33280x8 : Shape := ⟨2, ![33280, 8]⟩
abbrev S8x128 : Shape := ⟨2, ![8, 128]⟩
abbrev S512x2048 : Shape := ⟨2, ![512, 2048]⟩
abbrev S512x1024 : Shape := ⟨2, ![512, 1024]⟩
abbrev S1x8x6144 : Shape := ⟨3, ![1, 8, 6144]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S1x1024x128 : Shape := ⟨3, ![1, 1024, 128]⟩
abbrev S512x8 : Shape := ⟨2, ![512, 8]⟩
abbrev S1x128 : Shape := ⟨2, ![1, 128]⟩
abbrev S1x2048 : Shape := ⟨2, ![1, 2048]⟩
abbrev S512 : Shape := ⟨1, ![512]⟩
abbrev S512x1 : Shape := ⟨2, ![512, 1]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x128 : Shape := ⟨2, ![1024, 128]⟩
abbrev S128 : Shape := ⟨1, ![128]⟩
abbrev S256x8 : Shape := ⟨2, ![256, 8]⟩

abbrev nBuf : Space → Nat
  | .hbm => 13
  | .vmem => 20
  | .smem => 0
  | _ => 0

abbrev bufTy : (tb : Table) → Fin (tcTables nBuf tb) → BufTy
  | .hbm, ⟨0, _⟩ => ⟨S33280x2048, .bf16⟩
  | .hbm, ⟨1, _⟩ => ⟨S33280x2048, .bf16⟩
  | .hbm, ⟨2, _⟩ => ⟨S33280x2048, .bf16⟩
  | .hbm, ⟨3, _⟩ => ⟨S33280x1024, .f32⟩
  | .hbm, ⟨4, _⟩ => ⟨S4x8x6144, .f32⟩
  | .hbm, ⟨5, _⟩ => ⟨S2x1x2048, .f32⟩
  | .hbm, ⟨6, _⟩ => ⟨S2x2048x1024, .bf16⟩
  | .hbm, ⟨7, _⟩ => ⟨S4x1x1024, .f32⟩
  | .hbm, ⟨8, _⟩ => ⟨S2x1024x128, .f32⟩
  | .hbm, ⟨9, _⟩ => ⟨S256x256, .bf16⟩
  | .hbm, ⟨10, _⟩ => ⟨S33280x1024, .f32⟩
  | .hbm, ⟨11, _⟩ => ⟨S33280x8, .f32⟩
  | .hbm, ⟨12, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x8x6144, .f32⟩
  | .local _ .vmem, ⟨9, _⟩ => ⟨S1x1x2048, .f32⟩
  | .local _ .vmem, ⟨10, _⟩ => ⟨S1x2048x1024, .bf16⟩
  | .local _ .vmem, ⟨11, _⟩ => ⟨S1x1x1024, .f32⟩
  | .local _ .vmem, ⟨12, _⟩ => ⟨S1x1024x128, .f32⟩
  | .local _ .vmem, ⟨13, _⟩ => ⟨S256x256, .bf16⟩
  | .local _ .vmem, ⟨14, _⟩ => ⟨S512x1024, .f32⟩
  | .local _ .vmem, ⟨15, _⟩ => ⟨S512x1024, .f32⟩
  | .local _ .vmem, ⟨16, _⟩ => ⟨S512x8, .f32⟩
  | .local _ .vmem, ⟨17, _⟩ => ⟨S512x8, .f32⟩
  | .local _ .vmem, ⟨18, _⟩ => ⟨S8x128, .f32⟩
  | .local _ .vmem, ⟨19, _⟩ => ⟨S1x128, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![65], ![false]⟩

def k0_off1 (i : grid0.Coords) (c0_i32_18 : BitVec 32) : Fin 3 → Nat :=
  let c0_27 : Index := 0#32
  let arg0 : BitVec 32 := BitVec.ofNat 32 (i 0).val
  let c2_i32 : BitVec 32 := 2#32
  let v37 : BitVec 32 := Scalar.muli arg0 c2_i32
  let v38 : BitVec 32 := Scalar.addi v37 c0_i32_18
  let c0_i32_19 : BitVec 32 := 0#32
  let v40 : BitVec 1 := Scalar.cmpi .sgt v38 c0_i32_19
  let v41 : BitVec 32 := Scalar.extui v40
  let c0_i32_20 : BitVec 32 := 0#32
  let v42 : BitVec 1 := Scalar.cmpi .slt v38 c0_i32_20
  let v43 : BitVec 32 := Scalar.extui v42
  let v44 : BitVec 32 := Scalar.subi v41 v43
  let c65_i32 : BitVec 32 := 65#32
  let c0_i32_21 : BitVec 32 := 0#32
  let v45 : BitVec 1 := Scalar.cmpi .sgt c65_i32 c0_i32_21
  let v46 : BitVec 32 := Scalar.extui v45
  let c0_i32_22 : BitVec 32 := 0#32
  let v47 : BitVec 1 := Scalar.cmpi .slt c65_i32 c0_i32_22
  let v48 : BitVec 32 := Scalar.extui v47
  let v49 : BitVec 32 := Scalar.subi v46 v48
  let v50 : BitVec 1 := Scalar.cmpi .ne v44 v49
  let v51 : BitVec 32 := Scalar.remsi v38 c65_i32
  let c0_i32_23 : BitVec 32 := 0#32
  let v52 : BitVec 1 := Scalar.cmpi .ne v51 c0_i32_23
  let v53 : BitVec 1 := Scalar.andi v50 v52
  let v39 : BitVec 32 := Scalar.divsi v38 c65_i32
  let c1_i32 : BitVec 32 := 1#32
  let v54 : BitVec 32 := Scalar.subi v39 c1_i32
  let v55 : BitVec 32 := Scalar.select v53 v54 v39
  let c65_i32_24 : BitVec 32 := 65#32
  let v56 : BitVec 32 := Scalar.muli v55 c65_i32_24
  let v57 : BitVec 32 := Scalar.subi v38 v56
  let c1_i32_25 : BitVec 32 := 1#32
  let v58 : BitVec 1 := Scalar.cmpi .slt v57 c1_i32_25
  let c2_i32_26 : BitVec 32 := 2#32
  let v59 : BitVec 32 := Scalar.select v58 c2_i32_26 v55
  let v60 : Index := Scalar.indexCast v59
  let c2048 : Index := 2048#32
  ![0, v60.toNat, 2048]
def k0_off2 (i : grid0.Coords) (c0_i32_18 : BitVec 32) : Fin 3 → Nat :=
  let c0_32 : Index := 0#32
  let arg0 : BitVec 32 := BitVec.ofNat 32 (i 0).val
  let c2_i32 : BitVec 32 := 2#32
  let v37 : BitVec 32 := Scalar.muli arg0 c2_i32
  let v38 : BitVec 32 := Scalar.addi v37 c0_i32_18
  let c0_i32_19 : BitVec 32 := 0#32
  let v40 : BitVec 1 := Scalar.cmpi .sgt v38 c0_i32_19
  let v41 : BitVec 32 := Scalar.extui v40
  let c0_i32_20 : BitVec 32 := 0#32
  let v42 : BitVec 1 := Scalar.cmpi .slt v38 c0_i32_20
  let v43 : BitVec 32 := Scalar.extui v42
  let v44 : BitVec 32 := Scalar.subi v41 v43
  let c65_i32 : BitVec 32 := 65#32
  let c0_i32_21 : BitVec 32 := 0#32
  let v45 : BitVec 1 := Scalar.cmpi .sgt c65_i32 c0_i32_21
  let v46 : BitVec 32 := Scalar.extui v45
  let c0_i32_22 : BitVec 32 := 0#32
  let v47 : BitVec 1 := Scalar.cmpi .slt c65_i32 c0_i32_22
  let v48 : BitVec 32 := Scalar.extui v47
  let v49 : BitVec 32 := Scalar.subi v46 v48
  let v50 : BitVec 1 := Scalar.cmpi .ne v44 v49
  let v51 : BitVec 32 := Scalar.remsi v38 c65_i32
  let c0_i32_23 : BitVec 32 := 0#32
  let v52 : BitVec 1 := Scalar.cmpi .ne v51 c0_i32_23
  let v53 : BitVec 1 := Scalar.andi v50 v52
  let v39 : BitVec 32 := Scalar.divsi v38 c65_i32
  let c1_i32 : BitVec 32 := 1#32
  let v54 : BitVec 32 := Scalar.subi v39 c1_i32
  let v55 : BitVec 32 := Scalar.select v53 v54 v39
  let c65_i32_24 : BitVec 32 := 65#32
  let v56 : BitVec 32 := Scalar.muli v55 c65_i32_24
  let v57 : BitVec 32 := Scalar.subi v38 v56
  let c1_i32_25 : BitVec 32 := 1#32
  let v58 : BitVec 1 := Scalar.cmpi .slt v57 c1_i32_25
  let c2_i32_26 : BitVec 32 := 2#32
  let v59 : BitVec 32 := Scalar.select v58 c2_i32_26 v55
  let v69 : Index := Scalar.indexCast v59
  let c3072 : Index := 3072#32
  ![0, v69.toNat, 3072]
def k0_off3 (i : grid0.Coords) (c0_i32_18 : BitVec 32) : Fin 3 → Nat :=
  let c0_33 : Index := 0#32
  let arg0 : BitVec 32 := BitVec.ofNat 32 (i 0).val
  let c2_i32 : BitVec 32 := 2#32
  let v37 : BitVec 32 := Scalar.muli arg0 c2_i32
  let v38 : BitVec 32 := Scalar.addi v37 c0_i32_18
  let c0_i32_19 : BitVec 32 := 0#32
  let v40 : BitVec 1 := Scalar.cmpi .sgt v38 c0_i32_19
  let v41 : BitVec 32 := Scalar.extui v40
  let c0_i32_20 : BitVec 32 := 0#32
  let v42 : BitVec 1 := Scalar.cmpi .slt v38 c0_i32_20
  let v43 : BitVec 32 := Scalar.extui v42
  let v44 : BitVec 32 := Scalar.subi v41 v43
  let c65_i32 : BitVec 32 := 65#32
  let c0_i32_21 : BitVec 32 := 0#32
  let v45 : BitVec 1 := Scalar.cmpi .sgt c65_i32 c0_i32_21
  let v46 : BitVec 32 := Scalar.extui v45
  let c0_i32_22 : BitVec 32 := 0#32
  let v47 : BitVec 1 := Scalar.cmpi .slt c65_i32 c0_i32_22
  let v48 : BitVec 32 := Scalar.extui v47
  let v49 : BitVec 32 := Scalar.subi v46 v48
  let v50 : BitVec 1 := Scalar.cmpi .ne v44 v49
  let v51 : BitVec 32 := Scalar.remsi v38 c65_i32
  let c0_i32_23 : BitVec 32 := 0#32
  let v52 : BitVec 1 := Scalar.cmpi .ne v51 c0_i32_23
  let v53 : BitVec 1 := Scalar.andi v50 v52
  let v39 : BitVec 32 := Scalar.divsi v38 c65_i32
  let c1_i32 : BitVec 32 := 1#32
  let v54 : BitVec 32 := Scalar.subi v39 c1_i32
  let v55 : BitVec 32 := Scalar.select v53 v54 v39
  let c65_i32_24 : BitVec 32 := 65#32
  let v56 : BitVec 32 := Scalar.muli v55 c65_i32_24
  let v57 : BitVec 32 := Scalar.subi v38 v56
  let c1_i32_25 : BitVec 32 := 1#32
  let v58 : BitVec 1 := Scalar.cmpi .slt v57 c1_i32_25
  let c2_i32_26 : BitVec 32 := 2#32
  let v59 : BitVec 32 := Scalar.select v58 c2_i32_26 v55
  let v72 : Index := Scalar.indexCast v59
  let c4096 : Index := 4096#32
  ![0, v72.toNat, 4096]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S33280x2048 : Shape := ⟨2, ![33280, 2048]⟩
abbrev S33280x1024 : Shape := ⟨2, ![33280, 1024]⟩
abbrev S4x8x6144 : Shape := ⟨3, ![4, 8, 6144]⟩
abbrev S2x1x2048 : Shape := ⟨3, ![2, 1, 2048]⟩
abbrev S2x2048x1024 : Shape := ⟨3, ![2, 2048, 1024]⟩
abbrev S4x1x1024 : Shape := ⟨3, ![4, 1, 1024]⟩
abbrev S2x1024x128 : Shape := ⟨3, ![2, 1024, 128]⟩
abbrev S256x256 : Shape := ⟨2, ![256, 256]⟩
abbrev S_ : Shape := ⟨0, ![]⟩
abbrev S1x1x2048 : Shape := ⟨3, ![1, 1, 2048]⟩
abbrev S2048 : Shape := ⟨1, ![2048]⟩
abbrev S33280 : Shape := ⟨1, ![33280]⟩
abbrev S33280x1 : Shape := ⟨2, ![33280, 1]⟩
abbrev S1x2048 : Shape := ⟨2, ![1, 2048]⟩
abbrev S1x2048x1024 : Shape := ⟨3, ![1, 2048, 1024]⟩
abbrev S2048x1024 : Shape := ⟨2, ![2048, 1024]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩
abbrev S2x256x1024 : Shape := ⟨3, ![2, 256, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S2x16640x1024 : Shape := ⟨3, ![2, 16640, 1024]⟩

abbrev nBuf : Space → Nat
  | .hbm => 58
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S33280x2048, .bf16⟩
  | .hbm, ⟨2, _⟩ => ⟨S33280x2048, .bf16⟩
  | .hbm, ⟨3, _⟩ => ⟨S33280x1024, .f32⟩
  | .hbm, ⟨4, _⟩ => ⟨S4x8x6144, .f32⟩
  | .hbm, ⟨5, _⟩ => ⟨S2x1x2048, .f32⟩
  | .hbm, ⟨6, _⟩ => ⟨S2x2048x1024, .bf16⟩
  | .hbm, ⟨7, _⟩ => ⟨S4x1x1024, .f32⟩
  | .hbm, ⟨8, _⟩ => ⟨S2x1024x128, .f32⟩
  | .hbm, ⟨9, _⟩ => ⟨S256x256, .bf16⟩
  | .hbm, ⟨10, _⟩ => ⟨S33280x2048, .f32⟩
  | .hbm, ⟨11, _⟩ => ⟨S33280x2048, .f32⟩
  | .hbm, ⟨12, _⟩ => ⟨S33280x2048, .f32⟩
  | .hbm, ⟨13, _⟩ => ⟨S33280x2048, .f32⟩
  | .hbm, ⟨14, _⟩ => ⟨S33280x2048, .f32⟩
  | .hbm, ⟨15, _⟩ => ⟨S33280x2048, .f32⟩
  | .hbm, ⟨16, _⟩ => ⟨S_, .f32⟩
  | .hbm, ⟨17, _⟩ => ⟨S33280x2048, .f32⟩
  | .hbm, ⟨18, _⟩ => ⟨S33280x2048, .f32⟩
  | .hbm, ⟨19, _⟩ => ⟨S_, .f32⟩
  | .hbm, ⟨20, _⟩ => ⟨S33280x2048, .f32⟩
  | .hbm, ⟨21, _⟩ => ⟨S33280x2048, .f32⟩
  | .hbm, ⟨22, _⟩ => ⟨S33280x2048, .f32⟩
  | .hbm, ⟨23, _⟩ => ⟨S33280x2048, .f32⟩
  | .hbm, ⟨24, _⟩ => ⟨S1x1x2048, .f32⟩
  | .hbm, ⟨25, _⟩ => ⟨S2048, .f32⟩
  | .hbm, ⟨26, _⟩ => ⟨S33280x2048, .f32⟩
  | .hbm, ⟨27, _⟩ => ⟨S_, .f32⟩
  | .hbm, ⟨28, _⟩ => ⟨S33280, .f32⟩
  | .hbm, ⟨29, _⟩ => ⟨S33280x1, .f32⟩
  | .hbm, ⟨30, _⟩ => ⟨S_, .f32⟩
  | .hbm, ⟨31, _⟩ => ⟨S33280x1, .f32⟩
  | .hbm, ⟨32, _⟩ => ⟨S33280x1, .f32⟩
  | .hbm, ⟨33, _⟩ => ⟨S_, .f32⟩
  | .hbm, ⟨34, _⟩ => ⟨S33280x1, .f32⟩
  | .hbm, ⟨35, _⟩ => ⟨S33280x1, .f32⟩
  | .hbm, ⟨36, _⟩ => ⟨S33280x1, .f32⟩
  | .hbm, ⟨37, _⟩ => ⟨S33280x2048, .f32⟩
  | .hbm, ⟨38, _⟩ => ⟨S33280x2048, .f32⟩
  | .hbm, ⟨39, _⟩ => ⟨S1x2048, .f32⟩
  | .hbm, ⟨40, _⟩ => ⟨S33280x2048, .f32⟩
  | .hbm, ⟨41, _⟩ => ⟨S33280x2048, .f32⟩
  | .hbm, ⟨42, _⟩ => ⟨S1x2048x1024, .bf16⟩
  | .hbm, ⟨43, _⟩ => ⟨S2048x1024, .bf16⟩
  | .hbm, ⟨44, _⟩ => ⟨S2048x1024, .f32⟩
  | .hbm, ⟨45, _⟩ => ⟨S33280x1024, .f32⟩
  | .hbm, ⟨46, _⟩ => ⟨S1x8x1024, .f32⟩
  | .hbm, ⟨47, _⟩ => ⟨S8x1024, .f32⟩
  | .hbm, ⟨48, _⟩ => ⟨S1x1024, .f32⟩
  | .hbm, ⟨49, _⟩ => ⟨S1024, .f32⟩
  | .hbm, ⟨50, _⟩ => ⟨S2x256x1024, .f32⟩
  | .hbm, ⟨51, _⟩ => ⟨S2x1024, .f32⟩
  | .hbm, ⟨52, _⟩ => ⟨S2x1x1024, .f32⟩
  | .hbm, ⟨53, _⟩ => ⟨S2x16384x1024, .f32⟩
  | .hbm, ⟨54, _⟩ => ⟨S2x16640x1024, .f32⟩
  | .hbm, ⟨55, _⟩ => ⟨S33280x1024, .f32⟩
  | .hbm, ⟨56, _⟩ => ⟨S33280x1024, .f32⟩
  | .hbm, ⟨57, _⟩ => ⟨S33280x1024, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel3.lean ====
abbrev S33280x1024 : Shape := ⟨2, ![33280, 1024]⟩
abbrev S4x8x6144 : Shape := ⟨3, ![4, 8, 6144]⟩
abbrev S4x1x1024 : Shape := ⟨3, ![4, 1, 1024]⟩
abbrev S2x1024x2048 : Shape := ⟨3, ![2, 1024, 2048]⟩
abbrev S2x1024x3072 : Shape := ⟨3, ![2, 1024, 3072]⟩
abbrev S2x1024x128 : Shape := ⟨3, ![2, 1024, 128]⟩
abbrev S2x4x3072 : Shape := ⟨3, ![2, 4, 3072]⟩
abbrev S2x1x3072 : Shape := ⟨3, ![2, 1, 3072]⟩
abbrev S2x2x128 : Shape := ⟨3, ![2, 2, 128]⟩
abbrev S33280x2048 : Shape := ⟨2, ![33280, 2048]⟩
abbrev S33280x128 : Shape := ⟨2, ![33280, 128]⟩
abbrev S8x1024 : Shape := ⟨2, ![8, 1024]⟩
abbrev S512x1024 : Shape := ⟨2, ![512, 1024]⟩
abbrev S1x8x6144 : Shape := ⟨3, ![1, 8, 6144]⟩
abbrev S1x1x1024 : Shape := ⟨3, ![1, 1, 1024]⟩
abbrev S1x1024x2048 : Shape := ⟨3, ![1, 1024, 2048]⟩
abbrev S1x1024x3072 : Shape := ⟨3, ![1, 1024, 3072]⟩
abbrev S1x1024x128 : Shape := ⟨3, ![1, 1024, 128]⟩
abbrev S1x4x3072 : Shape := ⟨3, ![1, 4, 3072]⟩
abbrev S1x1x3072 : Shape := ⟨3, ![1, 1, 3072]⟩
abbrev S1x2x128 : Shape := ⟨3, ![1, 2, 128]⟩
abbrev S512x2048 : Shape := ⟨2, ![512, 2048]⟩
abbrev S512x128 : Shape := ⟨2, ![512, 128]⟩
abbrev S24x272x128 : Shape := ⟨3, ![24, 272, 128]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S8 : Shape := ⟨1, ![8]⟩
abbrev S8x1 : Shape := ⟨2, ![8, 1]⟩
abbrev S272x1024 : Shape := ⟨2, ![272, 1024]⟩
abbrev S1x1024x256 : Shape := ⟨3, ![1, 1024, 256]⟩
abbrev S1024x256 : Shape := ⟨2, ![1024, 256]⟩
abbrev S272x256 : Shape := ⟨2, ![272, 256]⟩
abbrev S272x128 : Shape := ⟨2, ![272, 128]⟩
abbrev S1x272x128 : Shape := ⟨3, ![1, 272, 128]⟩
abbrev S256x256 : Shape := ⟨2, ![256, 256]⟩
abbrev S1x1x128 : Shape := ⟨3, ![1, 1, 128]⟩
abbrev S1x128 : Shape := ⟨2, ![1, 128]⟩
abbrev S1x256x128 : Shape := ⟨3, ![1, 256, 128]⟩
abbrev S256x128 : Shape := ⟨2, ![256, 128]⟩
abbrev S1024x128 : Shape := ⟨2, ![1024, 128]⟩

abbrev nBuf : Space → Nat
  | .hbm => 15
  | .vmem => 27
  | .smem => 0
  | _ => 0

abbrev bufTy : (tb : Table) → Fin (tcTables nBuf tb) → BufTy
  | .hbm, ⟨0, _⟩ => ⟨S33280x1024, .f32⟩
  | .hbm, ⟨1, _⟩ => ⟨S4x8x6144, .f32⟩
  | .hbm, ⟨2, _⟩ => ⟨S4x1x1024, .f32⟩
  | .hbm, ⟨3, _⟩ => ⟨S2x1024x2048, .bf16⟩
  | .hbm, ⟨4, _⟩ => ⟨S2x1024x3072, .bf16⟩
  | .hbm, ⟨5, _⟩ => ⟨S2x1024x128, .bf16⟩
  | .hbm, ⟨6, _⟩ => ⟨S2x1024x128, .bf16⟩
  | .hbm, ⟨7, _⟩ => ⟨S2x4x3072, .f32⟩
  | .hbm, ⟨8, _⟩ => ⟨S2x1x3072, .f32⟩
  | .hbm, ⟨9, _⟩ => ⟨S2x2x128, .f32⟩
  | .hbm, ⟨10, _⟩ => ⟨S33280x2048, .bf16⟩
  | .hbm, ⟨11, _⟩ => ⟨S33280x2048, .bf16⟩
  | .hbm, ⟨12, _⟩ => ⟨S33280x1024, .bf16⟩
  | .hbm, ⟨13, _⟩ => ⟨S33280x128, .f32⟩
  | .hbm, ⟨14, _⟩ => ⟨S33280x128, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S1x8x6144, .f32⟩
  | .local _ .vmem, ⟨7, _⟩ => ⟨S1x1x1024, .f32⟩
  | .local _ .vmem, ⟨8, _⟩ => ⟨S1x1024x2048, .bf16⟩
  | .local _ .vmem, ⟨9, _⟩ => ⟨S1x1024x3072, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x4x3072, .f32⟩
  | .local _ .vmem, ⟨13, _⟩ => ⟨S1x1x3072, .f32⟩
  | .local _ .vmem, ⟨14, _⟩ => ⟨S1x2x128, .f32⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S24x272x128, .f32⟩
  | .local _ .vmem, ⟨26, _⟩ => ⟨S24x272x128, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![65], ![false]⟩

def k0_off1 (i : grid0.Coords) (c0_i32 : BitVec 32) : Fin 3 → Nat :=
  let c0_15 : Index := 0#32
  let arg0 : BitVec 32 := BitVec.ofNat 32 (i 0).val
  let c2_i32 : BitVec 32 := 2#32
  let v2 : BitVec 32 := Scalar.muli arg0 c2_i32
  let v3 : BitVec 32 := Scalar.addi v2 c0_i32
  let c0_i32_4 : BitVec 32 := 0#32
  let v6 : BitVec 1 := Scalar.cmpi .sgt v3 c0_i32_4
  let v7 : BitVec 32 := Scalar.extui v6
  let c0_i32_5 : BitVec 32 := 0#32
  let v8 : BitVec 1 := Scalar.cmpi .slt v3 c0_i32_5
  let v9 : BitVec 32 := Scalar.extui v8
  let v10 : BitVec 32 := Scalar.subi v7 v9
  let c65_i32 : BitVec 32 := 65#32
  let c0_i32_6 : BitVec 32 := 0#32
  let v11 : BitVec 1 := Scalar.cmpi .sgt c65_i32 c0_i32_6
  let v12 : BitVec 32 := Scalar.extui v11
  let c0_i32_7 : BitVec 32 := 0#32
  let v13 : BitVec 1 := Scalar.cmpi .slt c65_i32 c0_i32_7
  let v14 : BitVec 32 := Scalar.extui v13
  let v15 : BitVec 32 := Scalar.subi v12 v14
  let v16 : BitVec 1 := Scalar.cmpi .ne v10 v15
  let v17 : BitVec 32 := Scalar.remsi v3 c65_i32
  let c0_i32_8 : BitVec 32 := 0#32
  let v18 : BitVec 1 := Scalar.cmpi .ne v17 c0_i32_8
  let v19 : BitVec 1 := Scalar.andi v16 v18
  let v5 : BitVec 32 := Scalar.divsi v3 c65_i32
  let c1_i32 : BitVec 32 := 1#32
  let v20 : BitVec 32 := Scalar.subi v5 c1_i32
  let v21 : BitVec 32 := Scalar.select v19 v20 v5
  let c65_i32_9 : BitVec 32 := 65#32
  let v22 : BitVec 32 := Scalar.muli v21 c65_i32_9
  let v23 : BitVec 32 := Scalar.subi v3 v22
  let c1_i32_10 : BitVec 32 := 1#32
  let v24 : BitVec 1 := Scalar.cmpi .slt v23 c1_i32_10
  let c2_i32_11 : BitVec 32 := 2#32
  let v25 : BitVec 32 := Scalar.select v24 c2_i32_11 v21
  let v32 : Index := Scalar.indexCast v25
  let c0_16 : Index := 0#32
  ![0, v32.toNat, 0]
def k0_off2 (i : grid0.Coords) (c0_i32 : BitVec 32) : Fin 3 → Nat :=
  let c0_17 : Index := 0#32
  let arg0 : BitVec 32 := BitVec.ofNat 32 (i 0).val
  let c2_i32 : BitVec 32 := 2#32
  let v2 : BitVec 32 := Scalar.muli arg0 c2_i32
  let v3 : BitVec 32 := Scalar.addi v2 c0_i32
  let c0_i32_4 : BitVec 32 := 0#32
  let v6 : BitVec 1 := Scalar.cmpi .sgt v3 c0_i32_4
  let v7 : BitVec 32 := Scalar.extui v6
  let c0_i32_5 : BitVec 32 := 0#32
  let v8 : BitVec 1 := Scalar.cmpi .slt v3 c0_i32_5
  let v9 : BitVec 32 := Scalar.extui v8
  let v10 : BitVec 32 := Scalar.subi v7 v9
  let c65_i32 : BitVec 32 := 65#32
  let c0_i32_6 : BitVec 32 := 0#32
  let v11 : BitVec 1 := Scalar.cmpi .sgt c65_i32 c0_i32_6
  let v12 : BitVec 32 := Scalar.extui v11
  let c0_i32_7 : BitVec 32 := 0#32
  let v13 : BitVec 1 := Scalar.cmpi .slt c65_i32 c0_i32_7
  let v14 : BitVec 32 := Scalar.extui v13
  let v15 : BitVec 32 := Scalar.subi v12 v14
  let v16 : BitVec 1 := Scalar.cmpi .ne v10 v15
  let v17 : BitVec 32 := Scalar.remsi v3 c65_i32
  let c0_i32_8 : BitVec 32 := 0#32
  let v18 : BitVec 1 := Scalar.cmpi .ne v17 c0_i32_8
  let v19 : BitVec 1 := Scalar.andi v16 v18
  let v5 : BitVec 32 := Scalar.divsi v3 c65_i32
  let c1_i32 : BitVec 32 := 1#32
  let v20 : BitVec 32 := Scalar.subi v5 c1_i32
  let v21 : BitVec 32 := Scalar.select v19 v20 v5
  let c65_i32_9 : BitVec 32 := 65#32
  let v22 : BitVec 32 := Scalar.muli v21 c65_i32_9
  let v23 : BitVec 32 := Scalar.subi v3 v22
  let c1_i32_10 : BitVec 32 := 1#32
  let v24 : BitVec 1 := Scalar.cmpi .slt v23 c1_i32_10
  let c2_i32_11 : BitVec 32 := 2#32
  let v25 : BitVec 32 := Scalar.select v24 c2_i32_11 v21
  let v35 : Index := Scalar.indexCast v25
  let c1024 : Index := 1024#32
  ![0, v35.toNat, 1024]
def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4159_i32 : BitVec 32 := 4159#32
  let v2 : BitVec 32 := Scalar.minsi v1 c4159_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S33280x1024 : Shape := ⟨2, ![33280, 1024]⟩
abbrev S4x8x6144 : Shape := ⟨3, ![4, 8, 6144]⟩
abbrev S4x1x1024 : Shape := ⟨3, ![4, 1, 1024]⟩
abbrev S2x1024x2048 : Shape := ⟨3, ![2, 1024, 2048]⟩
abbrev S2x1024x3072 : Shape := ⟨3, ![2, 1024, 3072]⟩
abbrev S2x1024x128 : Shape := ⟨3, ![2, 1024, 128]⟩
abbrev S2x4x3072 : Shape := ⟨3, ![2, 4, 3072]⟩
abbrev S2x1x3072 : Shape := ⟨3, ![2, 1, 3072]⟩
abbrev S2x2x128 : Shape := ⟨3, ![2, 2, 128]⟩
abbrev S1x1x1024 : Shape := ⟨3, ![1, 1, 1024]⟩
abbrev S1024 : Shape := ⟨1, ![1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S1x8x1024 : Shape := ⟨3, ![1, 8, 1024]⟩
abbrev S8x1024 : Shape := ⟨2, ![8, 1024]⟩
abbrev S2x256x1024 : Shape := ⟨3, ![2, 256, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S2x16640x1024 : Shape := ⟨3, ![2, 16640, 1024]⟩
abbrev S1x1024x2048 : Shape := ⟨3, ![1, 1024, 2048]⟩
abbrev S1024x2048 : Shape := ⟨2, ![1024, 2048]⟩
abbrev S33280x2048 : Shape := ⟨2, ![33280, 2048]⟩
abbrev S1x1024x3072 : Shape := ⟨3, ![1, 1024, 3072]⟩
abbrev S1024x3072 : Shape := ⟨2, ![1024, 3072]⟩
abbrev S33280x3072 : Shape := ⟨2, ![33280, 3072]⟩
abbrev S2x16640x3072 : Shape := ⟨3, ![2, 16640, 3072]⟩
abbrev S2x256x3072 : Shape := ⟨3, ![2, 256, 3072]⟩
abbrev S2x259x3072 : Shape := ⟨3, ![2, 259, 3072]⟩
abbrev S1x1x3072 : Shape := ⟨3, ![1, 1, 3072]⟩
abbrev S3072 : Shape := ⟨1, ![3072]⟩
abbrev S2x16384x3072 : Shape := ⟨3, ![2, 16384, 3072]⟩
abbrev S2x16387x3072 : Shape := ⟨3, ![2, 16387, 3072]⟩
abbrev S1x1024x128 : Shape := ⟨3, ![1, 1024, 128]⟩
abbrev S1024x128 : Shape := ⟨2, ![1024, 128]⟩
abbrev S33280x128 : Shape := ⟨2, ![33280, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 196
  | .vmem => 0
  | .smem => 0
  | _ => 0

abbrev hbmTy0_0 (i : Nat) : BufTy := match i % 128 with
  | 0 => ⟨S33280x1024, .f32⟩
  | 1 => ⟨S4x8x6144, .f32⟩
  | 2 => ⟨S4x1x1024, .f32⟩
  | 3 => ⟨S2x1024x2048, .bf16⟩
  | 4 => ⟨S2x1024x3072, .bf16⟩
  | 5 => ⟨S2x1024x128, .bf16⟩
  | 6 => ⟨S2x1024x128, .bf16⟩
  | 7 => ⟨S2x4x3072, .f32⟩
  | 8 => ⟨S2x1x3072, .f32⟩
  | 9 => ⟨S2x2x128, .f32⟩
  | 10 => ⟨S1x1x1024, .f32⟩
  | 11 => ⟨S1024, .f32⟩
  | 12 => ⟨S33280x1024, .f32⟩
  | 13 => ⟨S_, .f32⟩
  | 14 => ⟨S33280, .f32⟩
  | 15 => ⟨S33280x1, .f32⟩
  | 16 => ⟨S_, .f32⟩
  | 17 => ⟨S33280x1, .f32⟩
  | 18 => ⟨S33280x1, .f32⟩
  | 19 => ⟨S_, .f32⟩
  | 20 => ⟨S33280x1, .f32⟩
  | 21 => ⟨S33280x1, .f32⟩
  | 22 => ⟨S33280x1, .f32⟩
  | 23 => ⟨S33280x1024, .f32⟩
  | 24 => ⟨S33280x1024, .f32⟩
  | 25 => ⟨S1x1024, .f32⟩
  | 26 => ⟨S33280x1024, .f32⟩
  | 27 => ⟨S33280x1024, .f32⟩
  | 28 => ⟨S1x8x1024, .f32⟩
  | 29 => ⟨S8x1024, .f32⟩
  | 30 => ⟨S1x1024, .f32⟩
  | 31 => ⟨S1024, .f32⟩
  | 32 => ⟨S2x256x1024, .f32⟩
  | 33 => ⟨S2x1024, .f32⟩
  | 34 => ⟨S2x1x1024, .f32⟩
  | 35 => ⟨S2x16384x1024, .f32⟩
  | 36 => ⟨S2x16640x1024, .f32⟩
  | 37 => ⟨S33280x1024, .f32⟩
  | 38 => ⟨S_, .f32⟩
  | 39 => ⟨S33280x1024, .f32⟩
  | 40 => ⟨S33280x1024, .f32⟩
  | 41 => ⟨S33280x1024, .f32⟩
  | 42 => ⟨S1x8x1024, .f32⟩
  | 43 => ⟨S8x1024, .f32⟩
  | 44 => ⟨S1x1024, .f32⟩
  | 45 => ⟨S1024, .f32⟩
  | 46 => ⟨S2x256x1024, .f32⟩
  | 47 => ⟨S2x1024, .f32⟩
  | 48 => ⟨S2x1x1024, .f32⟩
  | 49 => ⟨S2x16384x1024, .f32⟩
  | 50 => ⟨S2x16640x1024, .f32⟩
  | 51 => ⟨S33280x1024, .f32⟩
  | 52 => ⟨S33280x1024, .f32⟩
  | 53 => ⟨S1x1024x2048, .bf16⟩
  | 54 => ⟨S1024x2048, .bf16⟩
  | 55 => ⟨S1024x2048, .f32⟩
  | 56 => ⟨S33280x2048, .f32⟩
  | 57 => ⟨S1x1024x3072, .bf16⟩
  | 58 => ⟨S1024x3072, .bf16⟩
  | 59 => ⟨S1024x3072, .f32⟩
  | 60 => ⟨S33280x3072, .f32⟩
  | 61 => ⟨S2x16640x3072, .f32⟩
  | 62 => ⟨S2x256x3072, .f32⟩
  | 63 => ⟨S_, .i32⟩
  | 64 => ⟨S_, .f32⟩
  | 65 => ⟨S2x259x3072, .f32⟩
  | 66 => ⟨S1x1x3072, .f32⟩
  | 67 => ⟨S3072, .f32⟩
  | 68 => ⟨S2x256x3072, .f32⟩
  | 69 => ⟨S1x1x3072, .f32⟩
  | 70 => ⟨S3072, .f32⟩
  | 71 => ⟨S1x1x3072, .f32⟩
  | 72 => ⟨S2x256x3072, .f32⟩
  | 73 => ⟨S2x256x3072, .f32⟩
  | 74 => ⟨S1x1x3072, .f32⟩
  | 75 => ⟨S2x256x3072, .f32⟩
  | 76 => ⟨S2x256x3072, .f32⟩
  | 77 => ⟨S2x256x3072, .f32⟩
  | 78 => ⟨S1x1x3072, .f32⟩
  | 79 => ⟨S3072, .f32⟩
  | 80 => ⟨S1x1x3072, .f32⟩
  | 81 => ⟨S2x256x3072, .f32⟩
  | 82 => ⟨S2x256x3072, .f32⟩
  | 83 => ⟨S2x256x3072, .f32⟩
  | 84 => ⟨S2x256x3072, .f32⟩
  | 85 => ⟨S1x1x3072, .f32⟩
  | 86 => ⟨S3072, .f32⟩
  | 87 => ⟨S1x1x3072, .f32⟩
  | 88 => ⟨S2x256x3072, .f32⟩
  | 89 => ⟨S2x256x3072, .f32⟩
  | 90 => ⟨S2x256x3072, .f32⟩
  | 91 => ⟨S2x256x3072, .f32⟩
  | 92 => ⟨S1x1x3072, .f32⟩
  | 93 => ⟨S3072, .f32⟩
  | 94 => ⟨S1x1x3072, .f32⟩
  | 95 => ⟨S2x256x3072, .f32⟩
  | 96 => ⟨S2x256x3072, .f32⟩
  | 97 => ⟨S2x256x3072, .f32⟩
  | 98 => ⟨S2x16384x3072, .f32⟩
  | 99 => ⟨S_, .i32⟩
  | 100 => ⟨S_, .f32⟩
  | 101 => ⟨S2x16387x3072, .f32⟩
  | 102 => ⟨S1x1x3072, .f32⟩
  | 103 => ⟨S3072, .f32⟩
  | 104 => ⟨S2x16384x3072, .f32⟩
  | 105 => ⟨S1x1x3072, .f32⟩
  | 106 => ⟨S3072, .f32⟩
  | 107 => ⟨S1x1x3072, .f32⟩
  | 108 => ⟨S2x16384x3072, .f32⟩
  | 109 => ⟨S2x16384x3072, .f32⟩
  | 110 => ⟨S1x1x3072, .f32⟩
  | 111 => ⟨S2x16384x3072, .f32⟩
  | 112 => ⟨S2x16384x3072, .f32⟩
  | 113 => ⟨S2x16384x3072, .f32⟩
  | 114 => ⟨S1x1x3072, .f32⟩
  | 115 => ⟨S3072, .f32⟩
  | 116 => ⟨S1x1x3072, .f32⟩
  | 117 => ⟨S2x16384x3072, .f32⟩
  | 118 => ⟨S2x16384x3072, .f32⟩
  | 119 => ⟨S2x16384x3072, .f32⟩
  | 120 => ⟨S2x16384x3072, .f32⟩
  | 121 => ⟨S1x1x3072, .f32⟩
  | 122 => ⟨S3072, .f32⟩
  | 123 => ⟨S1x1x3072, .f32⟩
  | 124 => ⟨S2x16384x3072, .f32⟩
  | 125 => ⟨S2x16384x3072, .f32⟩
  | 126 => ⟨S2x16384x3072, .f32⟩
  | 127 => ⟨S2x16384x3072, .f32⟩
  | _ => ⟨S33280x1024, .f32⟩

abbrev hbmTy0_1 (i : Nat) : BufTy := match i % 128 with
  | 0 => ⟨S1x1x3072, .f32⟩
  | 1 => ⟨S3072, .f32⟩
  | 2 => ⟨S1x1x3072, .f32⟩
  | 3 => ⟨S2x16384x3072, .f32⟩
  | 4 => ⟨S2x16384x3072, .f32⟩
  | 5 => ⟨S2x16384x3072, .f32⟩
  | 6 => ⟨S2x16640x3072, .f32⟩
  | 7 => ⟨S2x16640x3072, .f32⟩
  | 8 => ⟨S2x16640x3072, .f32⟩
  | 9 => ⟨S_, .f32⟩
  | 10 => ⟨S2x16640x3072, .f32⟩
  | 11 => ⟨S2x16640x3072, .f32⟩
  | 12 => ⟨S_, .f32⟩
  | 13 => ⟨S2x16640x3072, .f32⟩
  | 14 => ⟨S2x16640x3072, .f32⟩
  | 15 => ⟨S2x16640x3072, .f32⟩
  | 16 => ⟨S33280x3072, .f32⟩
  | 17 => ⟨S1x1024x128, .bf16⟩
  | 18 => ⟨S1024x128, .bf16⟩
  | 19 => ⟨S1024x128, .f32⟩
  | 20 => ⟨S33280x128, .f32⟩
  | 21 => ⟨S1x1x128, .f32⟩
  | 22 => ⟨S128, .f32⟩
  | 23 => ⟨S1x128, .f32⟩
  | 24 => ⟨S33280x128, .f32⟩
  | 25 => ⟨S33280x128, .f32⟩
  | 26 => ⟨S_, .f32⟩
  | 27 => ⟨S33280x128, .f32⟩
  | 28 => ⟨S33280x128, .f32⟩
  | 29 => ⟨S33280x128, .f32⟩
  | 30 => ⟨S33280x128, .f32⟩
  | 31 => ⟨S33280x128, .i1⟩
  | 32 => ⟨S33280x128, .f32⟩
  | 33 => ⟨S33280x128, .f32⟩
  | 34 => ⟨S33280x128, .f32⟩
  | 35 => ⟨S33280x128, .f32⟩
  | 36 => ⟨S33280x128, .f32⟩
  | 37 => ⟨S33280x128, .f32⟩
  | 38 => ⟨S33280x128, .f32⟩
  | 39 => ⟨S33280x128, .f32⟩
  | 40 => ⟨S1x1024x128, .bf16⟩
  | 41 => ⟨S1024x128, .bf16⟩
  | 42 => ⟨S1024x128, .f32⟩
  | 43 => ⟨S33280x128, .f32⟩
  | 44 => ⟨S1x1x128, .f32⟩
  | 45 => ⟨S128, .f32⟩
  | 46 => ⟨S1x128, .f32⟩
  | 47 => ⟨S33280x128, .f32⟩
  | 48 => ⟨S33280x128, .f32⟩
  | 49 => ⟨S_, .f32⟩
  | 50 => ⟨S33280x128, .f32⟩
  | 51 => ⟨S33280x128, .f32⟩
  | 52 => ⟨S33280x128, .f32⟩
  | 53 => ⟨S33280x128, .f32⟩
  | 54 => ⟨S33280x128, .i1⟩
  | 55 => ⟨S33280x128, .f32⟩
  | 56 => ⟨S33280x128, .f32⟩
  | 57 => ⟨S33280x128, .f32⟩
  | 58 => ⟨S33280x128, .f32⟩
  | 59 => ⟨S33280x128, .f32⟩
  | 60 => ⟨S33280x128, .f32⟩
  | 61 => ⟨S33280x128, .f32⟩
  | 62 => ⟨S33280x128, .f32⟩
  | 63 => ⟨S33280x2048, .bf16⟩
  | 64 => ⟨S33280x2048, .f32⟩
  | 65 => ⟨S33280x2048, .bf16⟩
  | 66 => ⟨S33280x1024, .f32⟩
  | 67 => ⟨S33280x1024, .bf16⟩
  | _ => ⟨S33280x1024, .f32⟩

abbrev hbmTy (i : Nat) : BufTy := match i / 128 with
  | 0 => hbmTy0_0 i
  | 1 => hbmTy0_1 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c : Ref sig .tc := ⟨.hbm, 63, rfl⟩
abbrev main_call0_v0 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_c_3 : Ref sig .tc := ⟨.hbm, 99, rfl⟩
abbrev main_call1_v0 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_call2_v0 : Ref sig .tc := ⟨.hbm, 135, rfl⟩
abbrev main_call2_v1 : Ref sig .tc := ⟨.hbm, 136, rfl⟩
abbrev main_call2_cst : Ref sig .tc := ⟨.hbm, 137, rfl⟩
abbrev main_call2_v2 : Ref sig .tc := ⟨.hbm, 138, rfl⟩
abbrev main_call2_v3 : Ref sig .tc := ⟨.hbm, 139, rfl⟩
abbrev main_call2_cst_0 : Ref sig .tc := ⟨.hbm, 140, rfl⟩
abbrev main_call2_v4 : Ref sig .tc := ⟨.hbm, 141, rfl⟩
abbrev main_call2_v5 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_call3_cst : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_v5 : Ref sig .tc := ⟨.hbm, 160, rfl⟩
abbrev main_call3_v6 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_call4_cst : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_v5 : Ref sig .tc := ⟨.hbm, 183, rfl⟩
abbrev main_call4_v6 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_call4_v11 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩

abbrev nD : Nat := 1
abbrev τ : Topo := Topo.v7x

variable {F : FTy → Type} [FloatOps F]
-- ==== Kernel4.lean ====
abbrev S33280x1024 : Shape := ⟨2, ![33280, 1024]⟩
abbrev S4x8x6144 : Shape := ⟨3, ![4, 8, 6144]⟩
abbrev S4x1x1024 : Shape := ⟨3, ![4, 1, 1024]⟩
abbrev S2x4x256x768 : Shape := ⟨4, ![2, 4, 256, 768]⟩
abbrev S2x4x256x256 : Shape := ⟨4, ![2, 4, 256, 256]⟩
abbrev S2x1x1024 : Shape := ⟨3, ![2, 1, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S512x1024 : Shape := ⟨2, ![512, 1024]⟩
abbrev S1x8x6144 : Shape := ⟨3, ![1, 8, 6144]⟩
abbrev S1x1x1024 : Shape := ⟨3, ![1, 1, 1024]⟩
abbrev S1x4x256x256 : Shape := ⟨4, ![1, 4, 256, 256]⟩
abbrev S1x1024x2816 : Shape := ⟨3, ![1, 1024, 2816]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x1x256x768 : Shape := ⟨4, ![1, 1, 256, 768]⟩
abbrev S256x768 : Shape := ⟨2, ![256, 768]⟩
abbrev S768x256 : Shape := ⟨2, ![768, 256]⟩
abbrev S1x1x256x256 : Shape := ⟨4, ![1, 1, 256, 256]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S33280x1024, .f32⟩
  | .hbm, ⟨1, _⟩ => ⟨S4x8x6144, .f32⟩
  | .hbm, ⟨2, _⟩ => ⟨S4x1x1024, .f32⟩
  | .hbm, ⟨3, _⟩ => ⟨S4x1x1024, .f32⟩
  | .hbm, ⟨4, _⟩ => ⟨S2x4x256x768, .bf16⟩
  | .hbm, ⟨5, _⟩ => ⟨S2x4x256x256, .bf16⟩
  | .hbm, ⟨6, _⟩ => ⟨S2x1x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S1024, .f32⟩
  | .hbm, ⟨12, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S1x8x6144, .f32⟩
  | .local _ .vmem, ⟨3, _⟩ => ⟨S1x1x1024, .f32⟩
  | .local _ .vmem, ⟨4, _⟩ => ⟨S1x1x1024, .f32⟩
  | .local _ .vmem, ⟨5, _⟩ => ⟨S2x4x256x768, .bf16⟩
  | .local _ .vmem, ⟨6, _⟩ => ⟨S1x4x256x256, .bf16⟩
  | .local _ .vmem, ⟨7, _⟩ => ⟨S1x1x1024, .f32⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S512x1024, .f32⟩
  | .local _ .vmem, ⟨12, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![65], ![false]⟩

def k0_off1 (i : grid0.Coords) (c0_i32 : BitVec 32) : Fin 3 → Nat :=
  let c0_14 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v39 : Index := Scalar.indexCast v22
  let c1024 : Index := 1024#32
  ![0, v39.toNat, 1024]
def k0_off2 (i : grid0.Coords) (c0_i32 : BitVec 32) : Fin 3 → Nat :=
  let c0_16 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v46 : Index := Scalar.indexCast v22
  let c0_17 : Index := 0#32
  ![0, v46.toNat, 0]
def k0_off3 (i : grid0.Coords) (c0_i32 : BitVec 32) : Fin 4 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let v23 : BitVec 32 := Scalar.extui v21
  let v56 : Index := Scalar.indexCast v23
  let c0_18 : Index := 0#32
  let c0_19 : Index := 0#32
  let c0_20 : Index := 0#32
  ![v56.toNat, 0, 0, 0]
def k0_off4 (i : grid0.Coords) (c0_i32 : BitVec 32) : Fin 4 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let v23 : BitVec 32 := Scalar.extui v21
  let v71 : Index := Scalar.indexCast v23
  let c1 : Index := 1#32
  let c0_27 : Index := 0#32
  let c0_28 : Index := 0#32
  ![v71.toNat, 1, 0, 0]
def k0_off5 (i : grid0.Coords) (c0_i32 : BitVec 32) : Fin 4 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let v23 : BitVec 32 := Scalar.extui v21
  let v86 : Index := Scalar.indexCast v23
  let c2 : Index := 2#32
  let c0_35 : Index := 0#32
  let c0_36 : Index := 0#32
  ![v86.toNat, 2, 0, 0]
def k0_off6 (i : grid0.Coords) (c0_i32 : BitVec 32) : Fin 4 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let v23 : BitVec 32 := Scalar.extui v21
  let v101 : Index := Scalar.indexCast v23
  let c3 : Index := 3#32
  let c0_43 : Index := 0#32
  let c0_44 : Index := 0#32
  ![v101.toNat, 3, 0, 0]
def k0_off7 (i : grid0.Coords) (c0_i32 : BitVec 32) : Fin 3 → Nat :=
  let c0_54 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v116 : Index := Scalar.indexCast v22
  let c2048 : Index := 2048#32
  ![0, v116.toNat, 2048]
def k0_off8 (i : grid0.Coords) (c0_i32 : BitVec 32) : Fin 3 → Nat :=
  let c0_61 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v136 : Index := Scalar.indexCast v22
  let c4096 : Index := 4096#32
  ![0, v136.toNat, 4096]
def k0_off9 (i : grid0.Coords) (c0_i32 : BitVec 32) : Fin 3 → Nat :=
  let c0_63 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v143 : Index := Scalar.indexCast v22
  let c3072 : Index := 3072#32
  ![0, v143.toNat, 3072]
def k0_off10 (i : grid0.Coords) (c0_i32_228 : BitVec 32) : Fin 3 → Nat :=
  let c0_239 : Index := 0#32
  let arg0 : BitVec 32 := BitVec.ofNat 32 (i 0).val
  let c2_i32_227 : BitVec 32 := 2#32
  let v418 : BitVec 32 := Scalar.muli arg0 c2_i32_227
  let v419 : BitVec 32 := Scalar.addi v418 c0_i32_228
  let c0_i32_230 : BitVec 32 := 0#32
  let v421 : BitVec 1 := Scalar.cmpi .sgt v419 c0_i32_230
  let v422 : BitVec 32 := Scalar.extui v421
  let c0_i32_231 : BitVec 32 := 0#32
  let v423 : BitVec 1 := Scalar.cmpi .slt v419 c0_i32_231
  let v424 : BitVec 32 := Scalar.extui v423
  let v425 : BitVec 32 := Scalar.subi v422 v424
  let c65_i32_229 : BitVec 32 := 65#32
  let c0_i32_232 : BitVec 32 := 0#32
  let v426 : BitVec 1 := Scalar.cmpi .sgt c65_i32_229 c0_i32_232
  let v427 : BitVec 32 := Scalar.extui v426
  let c0_i32_233 : BitVec 32 := 0#32
  let v428 : BitVec 1 := Scalar.cmpi .slt c65_i32_229 c0_i32_233
  let v429 : BitVec 32 := Scalar.extui v428
  let v430 : BitVec 32 := Scalar.subi v427 v429
  let v431 : BitVec 1 := Scalar.cmpi .ne v425 v430
  let v432 : BitVec 32 := Scalar.remsi v419 c65_i32_229
  let c0_i32_234 : BitVec 32 := 0#32
  let v433 : BitVec 1 := Scalar.cmpi .ne v432 c0_i32_234
  let v434 : BitVec 1 := Scalar.andi v431 v433
  let v420 : BitVec 32 := Scalar.divsi v419 c65_i32_229
  let c1_i32_235 : BitVec 32 := 1#32
  let v435 : BitVec 32 := Scalar.subi v420 c1_i32_235
  let v436 : BitVec 32 := Scalar.select v434 v435 v420
  let c65_i32_236 : BitVec 32 := 65#32
  let v437 : BitVec 32 := Scalar.muli v436 c65_i32_236
  let v438 : BitVec 32 := Scalar.subi v419 v437
  let c1_i32_237 : BitVec 32 := 1#32
  let v439 : BitVec 1 := Scalar.cmpi .slt v438 c1_i32_237
  let c2_i32_238 : BitVec 32 := 2#32
  let v440 : BitVec 32 := Scalar.select v439 c2_i32_238 v436
  let v441 : Index := Scalar.indexCast v440
  let c5120 : Index := 5120#32
  ![0, v441.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4x256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S33280x1024 : Shape := ⟨2, ![33280, 1024]⟩
abbrev S4x8x6144 : Shape := ⟨3, ![4, 8, 6144]⟩
abbrev S4x1x1024 : Shape := ⟨3, ![4, 1, 1024]⟩
abbrev S2x4x256x768 : Shape := ⟨4, ![2, 4, 256, 768]⟩
abbrev S2x4x256x256 : Shape := ⟨4, ![2, 4, 256, 256]⟩
abbrev S2x1x1024 : Shape := ⟨3, ![2, 1, 1024]⟩
abbrev S2x1024x2816 : Shape := ⟨3, ![2, 1024, 2816]⟩
abbrev S2x2816x1024 : Shape := ⟨3, ![2, 2816, 1024]⟩
abbrev S1x1x1024 : Shape := ⟨3, ![1, 1, 1024]⟩
abbrev S1024 : Shape := ⟨1, ![1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S1x8x1024 : Shape := ⟨3, ![1, 8, 1024]⟩
abbrev S8x1024 : Shape := ⟨2, ![8, 1024]⟩
abbrev S2x256x1024 : Shape := ⟨3, ![2, 256, 1024]⟩
abbrev S2x1024 : Shape := ⟨2, ![2, 1024]⟩
abbrev S2x16384x1024 : Shape := ⟨3, ![2, 16384, 1024]⟩
abbrev S2x16640x1024 : Shape := ⟨3, ![2, 16640, 1024]⟩
abbrev S33280x256 : Shape := ⟨2, ![33280, 256]⟩
abbrev S2x16640x256 : Shape := ⟨3, ![2, 16640, 256]⟩
abbrev S2x16384x256 : Shape := ⟨3, ![2, 16384, 256]⟩
abbrev S128x256x256 : Shape := ⟨3, ![128, 256, 256]⟩
abbrev S1x1x256x256 : Shape := ⟨4, ![1, 1, 256, 256]⟩
abbrev S256x256 : Shape := ⟨2, ![256, 256]⟩
abbrev S2x256x256 : Shape := ⟨3, ![2, 256, 256]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S33280x2816 : Shape := ⟨2, ![33280, 2816]⟩

abbrev nBuf : Space → Nat
  | .hbm => 288
  | .vmem => 0
  | .smem => 0
  | _ => 0

abbrev hbmTy0_0 (i : Nat) : BufTy := match i % 128 with
  | 0 => ⟨S33280x1024, .f32⟩
  | 1 => ⟨S4x8x6144, .f32⟩
  | 2 => ⟨S4x1x1024, .f32⟩
  | 3 => ⟨S4x1x1024, .f32⟩
  | 4 => ⟨S2x4x256x768, .bf16⟩
  | 5 => ⟨S2x4x256x256, .bf16⟩
  | 6 => ⟨S2x1x1024, .f32⟩
  | 7 => ⟨S2x1024x2816, .bf16⟩
  | 8 => ⟨S2x1024x2816, .bf16⟩
  | 9 => ⟨S2x2816x1024, .bf16⟩
  | 10 => ⟨S1x1x1024, .f32⟩
  | 11 => ⟨S1024, .f32⟩
  | 12 => ⟨S33280x1024, .f32⟩
  | 13 => ⟨S_, .f32⟩
  | 14 => ⟨S33280, .f32⟩
  | 15 => ⟨S33280x1, .f32⟩
  | 16 => ⟨S_, .f32⟩
  | 17 => ⟨S33280x1, .f32⟩
  | 18 => ⟨S33280x1, .f32⟩
  | 19 => ⟨S_, .f32⟩
  | 20 => ⟨S33280x1, .f32⟩
  | 21 => ⟨S33280x1, .f32⟩
  | 22 => ⟨S33280x1, .f32⟩
  | 23 => ⟨S33280x1024, .f32⟩
  | 24 => ⟨S33280x1024, .f32⟩
  | 25 => ⟨S1x1024, .f32⟩
  | 26 => ⟨S33280x1024, .f32⟩
  | 27 => ⟨S33280x1024, .f32⟩
  | 28 => ⟨S1x8x1024, .f32⟩
  | 29 => ⟨S8x1024, .f32⟩
  | 30 => ⟨S1x1024, .f32⟩
  | 31 => ⟨S1024, .f32⟩
  | 32 => ⟨S2x256x1024, .f32⟩
  | 33 => ⟨S2x1024, .f32⟩
  | 34 => ⟨S2x1x1024, .f32⟩
  | 35 => ⟨S2x16384x1024, .f32⟩
  | 36 => ⟨S2x16640x1024, .f32⟩
  | 37 => ⟨S33280x1024, .f32⟩
  | 38 => ⟨S_, .f32⟩
  | 39 => ⟨S33280x1024, .f32⟩
  | 40 => ⟨S33280x1024, .f32⟩
  | 41 => ⟨S33280x1024, .f32⟩
  | 42 => ⟨S1x8x1024, .f32⟩
  | 43 => ⟨S8x1024, .f32⟩
  | 44 => ⟨S1x1024, .f32⟩
  | 45 => ⟨S1024, .f32⟩
  | 46 => ⟨S2x256x1024, .f32⟩
  | 47 => ⟨S2x1024, .f32⟩
  | 48 => ⟨S2x1x1024, .f32⟩
  | 49 => ⟨S2x16384x1024, .f32⟩
  | 50 => ⟨S2x16640x1024, .f32⟩
  | 51 => ⟨S33280x1024, .f32⟩
  | 52 => ⟨S33280x1024, .f32⟩
  | 53 => ⟨S33280x256, .f32⟩
  | 54 => ⟨S2x16640x256, .f32⟩
  | 55 => ⟨S2x16384x256, .f32⟩
  | 56 => ⟨S128x256x256, .f32⟩
  | 57 => ⟨S1x1x256x256, .bf16⟩
  | 58 => ⟨S256x256, .bf16⟩
  | 59 => ⟨S256x256, .f32⟩
  | 60 => ⟨S1x1x256x256, .bf16⟩
  | 61 => ⟨S256x256, .bf16⟩
  | 62 => ⟨S256x256, .f32⟩
  | 63 => ⟨S128x256x256, .f32⟩
  | 64 => ⟨S128x256x256, .f32⟩
  | 65 => ⟨S128x256x256, .f32⟩
  | 66 => ⟨S128x256x256, .f32⟩
  | 67 => ⟨S128x256x256, .f32⟩
  | 68 => ⟨S2x16384x256, .f32⟩
  | 69 => ⟨S2x256x256, .f32⟩
  | 70 => ⟨S1x1x256x256, .bf16⟩
  | 71 => ⟨S256x256, .bf16⟩
  | 72 => ⟨S256x256, .f32⟩
  | 73 => ⟨S1x1x256x256, .bf16⟩
  | 74 => ⟨S256x256, .bf16⟩
  | 75 => ⟨S256x256, .f32⟩
  | 76 => ⟨S2x256x256, .f32⟩
  | 77 => ⟨S2x256x256, .f32⟩
  | 78 => ⟨S2x256x256, .f32⟩
  | 79 => ⟨S2x256x256, .f32⟩
  | 80 => ⟨S2x256x256, .f32⟩
  | 81 => ⟨S2x16640x256, .f32⟩
  | 82 => ⟨S2x16640x256, .f32⟩
  | 83 => ⟨S33280x256, .f32⟩
  | 84 => ⟨S1x1x256x256, .bf16⟩
  | 85 => ⟨S256x256, .bf16⟩
  | 86 => ⟨S256x256, .f32⟩
  | 87 => ⟨S33280x256, .f32⟩
  | 88 => ⟨S33280x256, .f32⟩
  | 89 => ⟨S2x16640x256, .f32⟩
  | 90 => ⟨S2x16384x256, .f32⟩
  | 91 => ⟨S128x256x256, .f32⟩
  | 92 => ⟨S1x1x256x256, .bf16⟩
  | 93 => ⟨S256x256, .bf16⟩
  | 94 => ⟨S256x256, .f32⟩
  | 95 => ⟨S1x1x256x256, .bf16⟩
  | 96 => ⟨S256x256, .bf16⟩
  | 97 => ⟨S256x256, .f32⟩
  | 98 => ⟨S128x256x256, .f32⟩
  | 99 => ⟨S128x256x256, .f32⟩
  | 100 => ⟨S128x256x256, .f32⟩
  | 101 => ⟨S128x256x256, .f32⟩
  | 102 => ⟨S128x256x256, .f32⟩
  | 103 => ⟨S2x16384x256, .f32⟩
  | 104 => ⟨S2x256x256, .f32⟩
  | 105 => ⟨S1x1x256x256, .bf16⟩
  | 106 => ⟨S256x256, .bf16⟩
  | 107 => ⟨S256x256, .f32⟩
  | 108 => ⟨S1x1x256x256, .bf16⟩
  | 109 => ⟨S256x256, .bf16⟩
  | 110 => ⟨S256x256, .f32⟩
  | 111 => ⟨S2x256x256, .f32⟩
  | 112 => ⟨S2x256x256, .f32⟩
  | 113 => ⟨S2x256x256, .f32⟩
  | 114 => ⟨S2x256x256, .f32⟩
  | 115 => ⟨S2x256x256, .f32⟩
  | 116 => ⟨S2x16640x256, .f32⟩
  | 117 => ⟨S2x16640x256, .f32⟩
  | 118 => ⟨S33280x256, .f32⟩
  | 119 => ⟨S1x1x256x256, .bf16⟩
  | 120 => ⟨S256x256, .bf16⟩
  | 121 => ⟨S256x256, .f32⟩
  | 122 => ⟨S33280x256, .f32⟩
  | 123 => ⟨S33280x256, .f32⟩
  | 124 => ⟨S2x16640x256, .f32⟩
  | 125 => ⟨S2x16384x256, .f32⟩
  | 126 => ⟨S128x256x256, .f32⟩
  | 127 => ⟨S1x1x256x256, .bf16⟩
  | _ => ⟨S33280x1024, .f32⟩

abbrev hbmTy0_1 (i : Nat) : BufTy := match i % 128 with
  | 0 => ⟨S256x256, .bf16⟩
  | 1 => ⟨S256x256, .f32⟩
  | 2 => ⟨S1x1x256x256, .bf16⟩
  | 3 => ⟨S256x256, .bf16⟩
  | 4 => ⟨S256x256, .f32⟩
  | 5 => ⟨S128x256x256, .f32⟩
  | 6 => ⟨S128x256x256, .f32⟩
  | 7 => ⟨S128x256x256, .f32⟩
  | 8 => ⟨S128x256x256, .f32⟩
  | 9 => ⟨S128x256x256, .f32⟩
  | 10 => ⟨S2x16384x256, .f32⟩
  | 11 => ⟨S2x256x256, .f32⟩
  | 12 => ⟨S1x1x256x256, .bf16⟩
  | 13 => ⟨S256x256, .bf16⟩
  | 14 => ⟨S256x256, .f32⟩
  | 15 => ⟨S1x1x256x256, .bf16⟩
  | 16 => ⟨S256x256, .bf16⟩
  | 17 => ⟨S256x256, .f32⟩
  | 18 => ⟨S2x256x256, .f32⟩
  | 19 => ⟨S2x256x256, .f32⟩
  | 20 => ⟨S2x256x256, .f32⟩
  | 21 => ⟨S2x256x256, .f32⟩
  | 22 => ⟨S2x256x256, .f32⟩
  | 23 => ⟨S2x16640x256, .f32⟩
  | 24 => ⟨S2x16640x256, .f32⟩
  | 25 => ⟨S33280x256, .f32⟩
  | 26 => ⟨S1x1x256x256, .bf16⟩
  | 27 => ⟨S256x256, .bf16⟩
  | 28 => ⟨S256x256, .f32⟩
  | 29 => ⟨S33280x256, .f32⟩
  | 30 => ⟨S33280x256, .f32⟩
  | 31 => ⟨S2x16640x256, .f32⟩
  | 32 => ⟨S2x16384x256, .f32⟩
  | 33 => ⟨S128x256x256, .f32⟩
  | 34 => ⟨S1x1x256x256, .bf16⟩
  | 35 => ⟨S256x256, .bf16⟩
  | 36 => ⟨S256x256, .f32⟩
  | 37 => ⟨S1x1x256x256, .bf16⟩
  | 38 => ⟨S256x256, .bf16⟩
  | 39 => ⟨S256x256, .f32⟩
  | 40 => ⟨S128x256x256, .f32⟩
  | 41 => ⟨S128x256x256, .f32⟩
  | 42 => ⟨S128x256x256, .f32⟩
  | 43 => ⟨S128x256x256, .f32⟩
  | 44 => ⟨S128x256x256, .f32⟩
  | 45 => ⟨S2x16384x256, .f32⟩
  | 46 => ⟨S2x256x256, .f32⟩
  | 47 => ⟨S1x1x256x256, .bf16⟩
  | 48 => ⟨S256x256, .bf16⟩
  | 49 => ⟨S256x256, .f32⟩
  | 50 => ⟨S1x1x256x256, .bf16⟩
  | 51 => ⟨S256x256, .bf16⟩
  | 52 => ⟨S256x256, .f32⟩
  | 53 => ⟨S2x256x256, .f32⟩
  | 54 => ⟨S2x256x256, .f32⟩
  | 55 => ⟨S2x256x256, .f32⟩
  | 56 => ⟨S2x256x256, .f32⟩
  | 57 => ⟨S2x256x256, .f32⟩
  | 58 => ⟨S2x16640x256, .f32⟩
  | 59 => ⟨S2x16640x256, .f32⟩
  | 60 => ⟨S33280x256, .f32⟩
  | 61 => ⟨S1x1x256x256, .bf16⟩
  | 62 => ⟨S256x256, .bf16⟩
  | 63 => ⟨S256x256, .f32⟩
  | 64 => ⟨S33280x256, .f32⟩
  | 65 => ⟨S1x8x1024, .f32⟩
  | 66 => ⟨S8x1024, .f32⟩
  | 67 => ⟨S1x1024, .f32⟩
  | 68 => ⟨S1024, .f32⟩
  | 69 => ⟨S2x256x1024, .f32⟩
  | 70 => ⟨S2x1024, .f32⟩
  | 71 => ⟨S2x1x1024, .f32⟩
  | 72 => ⟨S2x16384x1024, .f32⟩
  | 73 => ⟨S2x16640x1024, .f32⟩
  | 74 => ⟨S33280x1024, .f32⟩
  | 75 => ⟨S33280x1024, .f32⟩
  | 76 => ⟨S1x1x1024, .f32⟩
  | 77 => ⟨S1024, .f32⟩
  | 78 => ⟨S1x1024, .f32⟩
  | 79 => ⟨S33280x1024, .f32⟩
  | 80 => ⟨S33280x1024, .f32⟩
  | 81 => ⟨S33280x1024, .f32⟩
  | 82 => ⟨S33280x1024, .f32⟩
  | 83 => ⟨S1x1x1024, .f32⟩
  | 84 => ⟨S1024, .f32⟩
  | 85 => ⟨S33280x1024, .f32⟩
  | 86 => ⟨S_, .f32⟩
  | 87 => ⟨S33280, .f32⟩
  | 88 => ⟨S33280x1, .f32⟩
  | 89 => ⟨S_, .f32⟩
  | 90 => ⟨S33280x1, .f32⟩
  | 91 => ⟨S33280x1, .f32⟩
  | 92 => ⟨S_, .f32⟩
  | 93 => ⟨S33280x1, .f32⟩
  | 94 => ⟨S33280x1, .f32⟩
  | 95 => ⟨S33280x1, .f32⟩
  | 96 => ⟨S33280x1024, .f32⟩
  | 97 => ⟨S33280x1024, .f32⟩
  | 98 => ⟨S1x1024, .f32⟩
  | 99 => ⟨S33280x1024, .f32⟩
  | 100 => ⟨S33280x1024, .f32⟩
  | 101 => ⟨S1x8x1024, .f32⟩
  | 102 => ⟨S8x1024, .f32⟩
  | 103 => ⟨S1x1024, .f32⟩
  | 104 => ⟨S1024, .f32⟩
  | 105 => ⟨S2x256x1024, .f32⟩
  | 106 => ⟨S2x1024, .f32⟩
  | 107 => ⟨S2x1x1024, .f32⟩
  | 108 => ⟨S2x16384x1024, .f32⟩
  | 109 => ⟨S2x16640x1024, .f32⟩
  | 110 => ⟨S33280x1024, .f32⟩
  | 111 => ⟨S_, .f32⟩
  | 112 => ⟨S33280x1024, .f32⟩
  | 113 => ⟨S33280x1024, .f32⟩
  | 114 => ⟨S33280x1024, .f32⟩
  | 115 => ⟨S1x8x1024, .f32⟩
  | 116 => ⟨S8x1024, .f32⟩
  | 117 => ⟨S1x1024, .f32⟩
  | 118 => ⟨S1024, .f32⟩
  | 119 => ⟨S2x256x1024, .f32⟩
  | 120 => ⟨S2x1024, .f32⟩
  | 121 => ⟨S2x1x1024, .f32⟩
  | 122 => ⟨S2x16384x1024, .f32⟩
  | 123 => ⟨S2x16640x1024, .f32⟩
  | 124 => ⟨S33280x1024, .f32⟩
  | 125 => ⟨S33280x1024, .f32⟩
  | 126 => ⟨S1x8x1024, .f32⟩
  | 127 => ⟨S8x1024, .f32⟩
  | _ => ⟨S33280x1024, .f32⟩

abbrev hbmTy0_2 (i : Nat) : BufTy := match i % 128 with
  | 0 => ⟨S1x1024, .f32⟩
  | 1 => ⟨S1024, .f32⟩
  | 2 => ⟨S2x256x1024, .f32⟩
  | 3 => ⟨S2x1024, .f32⟩
  | 4 => ⟨S2x1x1024, .f32⟩
  | 5 => ⟨S2x16384x1024, .f32⟩
  | 6 => ⟨S2x16640x1024, .f32⟩
  | 7 => ⟨S33280x1024, .f32⟩
  | 8 => ⟨S1x1024x2816, .bf16⟩
  | 9 => ⟨S1024x2816, .bf16⟩
  | 10 => ⟨S1024x2816, .f32⟩
  | 11 => ⟨S1x1024x2816, .bf16⟩
  | 12 => ⟨S1024x2816, .bf16⟩
  | 13 => ⟨S1024x2816, .f32⟩
  | 14 => ⟨S1x2816x1024, .bf16⟩
  | 15 => ⟨S2816x1024, .bf16⟩
  | 16 => ⟨S2816x1024, .f32⟩
  | 17 => ⟨S33280x2816, .f32⟩
  | 18 => ⟨S33280x2816, .f32⟩
  | 19 => ⟨S33280x2816, .f32⟩
  | 20 => ⟨S_, .f32⟩
  | 21 => ⟨S33280x2816, .f32⟩
  | 22 => ⟨S33280x2816, .f32⟩
  | 23 => ⟨S_, .f32⟩
  | 24 => ⟨S33280x2816, .f32⟩
  | 25 => ⟨S33280x2816, .f32⟩
  | 26 => ⟨S33280x2816, .f32⟩
  | 27 => ⟨S33280x2816, .f32⟩
  | 28 => ⟨S33280x2816, .f32⟩
  | 29 => ⟨S33280x1024, .f32⟩
  | 30 => ⟨S33280x1024, .f32⟩
  | 31 => ⟨S33280x1024, .f32⟩
  | _ => ⟨S33280x1024, .f32⟩

abbrev hbmTy (i : Nat) : BufTy := match i / 128 with
  | 0 => hbmTy0_0 i
  | 1 => hbmTy0_1 i
  | 2 => hbmTy0_2 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_cst_3 : Ref sig .tc := ⟨.hbm, 214, rfl⟩
abbrev main_v200 : Ref sig .tc := ⟨.hbm, 215, rfl⟩
abbrev main_v201 : Ref sig .tc := ⟨.hbm, 216, rfl⟩
abbrev main_cst_4 : Ref sig .tc := ⟨.hbm, 217, rfl⟩
abbrev main_v202 : Ref sig .tc := ⟨.hbm, 218, rfl⟩
abbrev main_v203 : Ref sig .tc := ⟨.hbm, 219, rfl⟩
abbrev main_cst_5 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_cst_6 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_call0_v5 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩

abbrev nD : Nat := 1
abbrev τ : Topo := Topo.v7x

variable {F : FTy → Type} [FloatOps F]
-- ==== Kernel5.lean ====
abbrev S2x256x1024 : Shape := ⟨3, ![2, 256, 1024]⟩
abbrev S2x16384x1024 : Shape := ⟨3, ![2, 16384, 1024]⟩
abbrev S4x8x6144 : Shape := ⟨3, ![4, 8, 6144]⟩
abbrev S4x1x1024 : Shape := ⟨3, ![4, 1, 1024]⟩
abbrev S2x4x256x768 : Shape := ⟨4, ![2, 4, 256, 768]⟩
abbrev S2x4x256x256 : Shape := ⟨4, ![2, 4, 256, 256]⟩
abbrev S2x1x1024 : Shape := ⟨3, ![2, 1, 1024]⟩
abbrev S2x1024x2816 : Shape := ⟨3, ![2, 1024, 2816]⟩
abbrev S2x2816x1024 : Shape := ⟨3, ![2, 2816, 1024]⟩
abbrev S33280x1024 : Shape := ⟨2, ![33280, 1024]⟩
abbrev S1x256x1024 : Shape := ⟨3, ![1, 256, 1024]⟩
abbrev S1x8x6144 : Shape := ⟨3, ![1, 8, 6144]⟩
abbrev S1x1x1024 : Shape := ⟨3, ![1, 1, 1024]⟩
abbrev S1x4x256x256 : Shape := ⟨4, ![1, 4, 256, 256]⟩
abbrev S1x1024x2816 : Shape := ⟨3, ![1, 1024, 2816]⟩
abbrev S1x2816x1024 : Shape := ⟨3, ![1, 2816, 1024]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x256 : Shape := ⟨2, ![256, 256]⟩
abbrev S1x1x256x768 : Shape := ⟨4, ![1, 1, 256, 768]⟩
abbrev S256x768 : Shape := ⟨2, ![256, 768]⟩
abbrev S768x256 : Shape := ⟨2, ![768, 256]⟩
abbrev S1x1x256x256 : Shape := ⟨4, ![1, 1, 256, 256]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 12
  | .vmem => 19
  | .smem => 0
  | _ => 0

abbrev bufTy : (tb : Table) → Fin (tcTables nBuf tb) → BufTy
  | .hbm, ⟨0, _⟩ => ⟨S2x256x1024, .f32⟩
  | .hbm, ⟨1, _⟩ => ⟨S2x16384x1024, .f32⟩
  | .hbm, ⟨2, _⟩ => ⟨S4x8x6144, .f32⟩
  | .hbm, ⟨3, _⟩ => ⟨S4x1x1024, .f32⟩
  | .hbm, ⟨4, _⟩ => ⟨S4x1x1024, .f32⟩
  | .hbm, ⟨5, _⟩ => ⟨S2x4x256x768, .bf16⟩
  | .hbm, ⟨6, _⟩ => ⟨S2x4x256x256, .bf16⟩
  | .hbm, ⟨7, _⟩ => ⟨S2x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S33280x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x8x6144, .f32⟩
  | .local _ .vmem, ⟨9, _⟩ => ⟨S1x1x1024, .f32⟩
  | .local _ .vmem, ⟨10, _⟩ => ⟨S1x1x1024, .f32⟩
  | .local _ .vmem, ⟨11, _⟩ => ⟨S2x4x256x768, .bf16⟩
  | .local _ .vmem, ⟨12, _⟩ => ⟨S1x4x256x256, .bf16⟩
  | .local _ .vmem, ⟨13, _⟩ => ⟨S1x1x1024, .f32⟩
  | .local _ .vmem, ⟨14, _⟩ => ⟨S1x1024x2816, .bf16⟩
  | .local _ .vmem, ⟨15, _⟩ => ⟨S1x1024x2816, .bf16⟩
  | .local _ .vmem, ⟨16, _⟩ => ⟨S1x2816x1024, .bf16⟩
  | .local _ .vmem, ⟨17, _⟩ => ⟨S512x1024, .f32⟩
  | .local _ .vmem, ⟨18, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![65], ![false]⟩

def k0_off1 (i : grid0.Coords) (c0_i32 : BitVec 32) : Fin 3 → Nat :=
  let c0_18 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v43 : Index := Scalar.indexCast v22
  let c1024 : Index := 1024#32
  ![0, v43.toNat, 1024]
def k0_off2 (i : grid0.Coords) (c0_i32 : BitVec 32) : Fin 3 → Nat :=
  let c0_20 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v50 : Index := Scalar.indexCast v22
  let c0_21 : Index := 0#32
  ![0, v50.toNat, 0]
def k0_off3 (i : grid0.Coords) (c0_i32 : BitVec 32) : Fin 4 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let v23 : BitVec 32 := Scalar.extui v21
  let v60 : Index := Scalar.indexCast v23
  let c0_22 : Index := 0#32
  let c0_23 : Index := 0#32
  let c0_24 : Index := 0#32
  ![v60.toNat, 0, 0, 0]
def k0_off4 (i : grid0.Coords) (c0_i32 : BitVec 32) : Fin 4 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let v23 : BitVec 32 := Scalar.extui v21
  let v75 : Index := Scalar.indexCast v23
  let c1 : Index := 1#32
  let c0_31 : Index := 0#32
  let c0_32 : Index := 0#32
  ![v75.toNat, 1, 0, 0]
def k0_off5 (i : grid0.Coords) (c0_i32 : BitVec 32) : Fin 4 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let v23 : BitVec 32 := Scalar.extui v21
  let v90 : Index := Scalar.indexCast v23
  let c2 : Index := 2#32
  let c0_39 : Index := 0#32
  let c0_40 : Index := 0#32
  ![v90.toNat, 2, 0, 0]
def k0_off6 (i : grid0.Coords) (c0_i32 : BitVec 32) : Fin 4 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let v23 : BitVec 32 := Scalar.extui v21
  let v105 : Index := Scalar.indexCast v23
  let c3 : Index := 3#32
  let c0_47 : Index := 0#32
  let c0_48 : Index := 0#32
  ![v105.toNat, 3, 0, 0]
def k0_off7 (i : grid0.Coords) (c0_i32 : BitVec 32) : Fin 3 → Nat :=
  let c0_58 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v120 : Index := Scalar.indexCast v22
  let c2048 : Index := 2048#32
  ![0, v120.toNat, 2048]
def k0_off8 (i : grid0.Coords) (c0_i32 : BitVec 32) : Fin 3 → Nat :=
  let c0_65 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v140 : Index := Scalar.indexCast v22
  let c4096 : Index := 4096#32
  ![0, v140.toNat, 4096]
def k0_off9 (i : grid0.Coords) (c0_i32 : BitVec 32) : Fin 3 → Nat :=
  let c0_67 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c65_i32 : BitVec 32 := 65#32
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let v2 : BitVec 32 := Scalar.divsi v1 c65_i32
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 1 := Scalar.cmpi .slt v20 c1_i32_6
  let c2_i32_7 : BitVec 32 := 2#32
  let v22 : BitVec 32 := Scalar.select v21 c2_i32_7 v18
  let v147 : Index := Scalar.indexCast v22
  let c3072 : Index := 3072#32
  ![0, v147.toNat, 3072]
def k0_off10 (i : grid0.Coords) (c0_i32_237 : BitVec 32) : Fin 3 → Nat :=
  let c0_248 : Index := 0#32
  let arg0 : BitVec 32 := BitVec.ofNat 32 (i 0).val
  let c2_i32_236 : BitVec 32 := 2#32
  let v426 : BitVec 32 := Scalar.muli arg0 c2_i32_236
  let v427 : BitVec 32 := Scalar.addi v426 c0_i32_237
  let c0_i32_239 : BitVec 32 := 0#32
  let v429 : BitVec 1 := Scalar.cmpi .sgt v427 c0_i32_239
  let v430 : BitVec 32 := Scalar.extui v429
  let c0_i32_240 : BitVec 32 := 0#32
  let v431 : BitVec 1 := Scalar.cmpi .slt v427 c0_i32_240
  let v432 : BitVec 32 := Scalar.extui v431
  let v433 : BitVec 32 := Scalar.subi v430 v432
  let c65_i32_238 : BitVec 32 := 65#32
  let c0_i32_241 : BitVec 32 := 0#32
  let v434 : BitVec 1 := Scalar.cmpi .sgt c65_i32_238 c0_i32_241
  let v435 : BitVec 32 := Scalar.extui v434
  let c0_i32_242 : BitVec 32 := 0#32
  let v436 : BitVec 1 := Scalar.cmpi .slt c65_i32_238 c0_i32_242
  let v437 : BitVec 32 := Scalar.extui v436
  let v438 : BitVec 32 := Scalar.subi v435 v437
  let v439 : BitVec 1 := Scalar.cmpi .ne v433 v438
  let v440 : BitVec 32 := Scalar.remsi v427 c65_i32_238
  let c0_i32_243 : BitVec 32 := 0#32
  let v441 : BitVec 1 := Scalar.cmpi .ne v440 c0_i32_243
  let v442 : BitVec 1 := Scalar.andi v439 v441
  let v428 : BitVec 32 := Scalar.divsi v427 c65_i32_238
  let c1_i32_244 : BitVec 32 := 1#32
  let v443 : BitVec 32 := Scalar.subi v428 c1_i32_244
  let v444 : BitVec 32 := Scalar.select v442 v443 v428
  let c65_i32_245 : BitVec 32 := 65#32
  let v445 : BitVec 32 := Scalar.muli v444 c65_i32_245
  let v446 : BitVec 32 := Scalar.subi v427 v445
  let c1_i32_246 : BitVec 32 := 1#32
  let v447 : BitVec 1 := Scalar.cmpi .slt v446 c1_i32_246
  let c2_i32_247 : BitVec 32 := 2#32
  let v448 : BitVec 32 := Scalar.select v447 c2_i32_247 v444
  let v449 : Index := Scalar.indexCast v448
  let c5120 : Index := 5120#32
  ![0, v449.toNat, 5120]
def cc0_transform_0 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c65_i32 : BitVec 32 := 65#32
  let v2 : BitVec 32 := Scalar.divsi v1 c65_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c0_i32_6 : BitVec 32 := 0#32
  let v21 : BitVec 32 := Scalar.minsi v20 c0_i32_6
  let c0_i32_7 : BitVec 32 := 0#32
  let c0_i32_8 : BitVec 32 := 0#32
  ![v18.toNat, v21.toNat, c0_i32_7.toNat]

def cc0_transform_1 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c65_i32 : BitVec 32 := 65#32
  let v2 : BitVec 32 := Scalar.divsi v1 c65_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c65_i32 c0_i32_2
  let v9 : BitVec 32 := Scalar.extui v8
  let c0_i32_3 : BitVec 32 := 0#32
  let v10 : BitVec 1 := Scalar.cmpi .slt c65_i32 c0_i32_3
  let v11 : BitVec 32 := Scalar.extui v10
  let v12 : BitVec 32 := Scalar.subi v9 v11
  let v13 : BitVec 1 := Scalar.cmpi .ne v7 v12
  let v14 : BitVec 32 := Scalar.remsi v1 c65_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 32 := Scalar.subi v20 c1_i32_6
  let c0_i32_7 : BitVec 32 := 0#32
  let v22 : BitVec 32 := Scalar.maxsi v21 c0_i32_7
  let c0_i32_8 : BitVec 32 := 0#32
  let c0_i32_9 : BitVec 32 := 0#32
  ![v18.toNat, v22.toNat, c0_i32_8.toNat]

def cc0_transform_2 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c65_i32 : BitVec 32 := 65#32
  let v2 : BitVec 32 := Scalar.divsi v1 c65_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c65_i32 c0_i32_1
  let v9 : BitVec 32 := Scalar.extui v8
  let c0_i32_2 : BitVec 32 := 0#32
  let v10 : BitVec 1 := Scalar.cmpi .slt c65_i32 c0_i32_2
  let v11 : BitVec 32 := Scalar.extui v10
  let v12 : BitVec 32 := Scalar.subi v9 v11
  let v13 : BitVec 1 := Scalar.cmpi .ne v7 v12
  let v14 : BitVec 32 := Scalar.remsi v1 c65_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c65_i32_5 : BitVec 32 := 65#32
  let v19 : BitVec 32 := Scalar.muli v18 c65_i32_5
  let v20 : BitVec 32 := Scalar.subi v1 v19
  let c0_i32_6 : BitVec 32 := 0#32
  let v21 : BitVec 32 := Scalar.minsi v20 c0_i32_6
  let c0_i32_7 : BitVec 32 := 0#32
  let c0_i32_8 : BitVec 32 := 0#32
  ![v18.toNat, v21.toNat, c0_i32_7.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c65_i32 : BitVec 32 := 65#32
  let v2 : BitVec 32 := Scalar.divsi v1 c65_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c65_i32 c0_i32_1
  let v9 : BitVec 32 := Scalar.extui v8
  let c0_i32_2 : BitVec 32 := 0#32
  let v10 : BitVec 1 := Scalar.cmpi .slt c65_i32 c0_i32_2
  let v11 : BitVec 32 := Scalar.extui v10
  let v12 : BitVec 32 := Scalar.subi v9 v11
  let v13 : BitVec 1 := Scalar.cmpi .ne v7 v12
  let v14 : BitVec 32 := Scalar.remsi v1 c65_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c65_i32_5 : BitVec 32 := 65#32
  let v19 : BitVec 32 := Scalar.muli v18 c65_i32_5
  let v20 : BitVec 32 := Scalar.subi v1 v19
  let c1_i32_6 : BitVec 32 := 1#32
  let v21 : BitVec 32 := Scalar.subi v20 c1_i32_6
  let c0_i32_7 : BitVec 32 := 0#32
  let v22 : BitVec 32 := Scalar.maxsi v21 c0_i32_7
  let c0_i32_8 : BitVec 32 := 0#32
  let c0_i32_9 : BitVec 32 := 0#32
  ![v18.toNat, v22.toNat, c0_i32_8.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S2x256x1024 : Shape := ⟨3, ![2, 256, 1024]⟩
abbrev S2x16384x1024 : Shape := ⟨3, ![2, 16384, 1024]⟩
abbrev S4x8x6144 : Shape := ⟨3, ![4, 8, 6144]⟩
abbrev S4x1x1024 : Shape := ⟨3, ![4, 1, 1024]⟩
abbrev S2x4x256x768 : Shape := ⟨4, ![2, 4, 256, 768]⟩
abbrev S2x4x256x256 : Shape := ⟨4, ![2, 4, 256, 256]⟩
abbrev S2x1x1024 : Shape := ⟨3, ![2, 1, 1024]⟩
abbrev S2x1024x2816 : Shape := ⟨3, ![2, 1024, 2816]⟩
abbrev S2x2816x1024 : Shape := ⟨3, ![2, 2816, 1024]⟩
abbrev S2x16640x1024 : Shape := ⟨3, ![2, 16640, 1024]⟩
abbrev S33280x1024 : Shape := ⟨2, ![33280, 1024]⟩
abbrev S1x1x1024 : Shape := ⟨3, ![1, 1, 1024]⟩
abbrev S1024 : Shape := ⟨1, ![1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S1x8x1024 : Shape := ⟨3, ![1, 8, 1024]⟩
abbrev S8x1024 : Shape := ⟨2, ![8, 1024]⟩
abbrev S2x1024 : Shape := ⟨2, ![2, 1024]⟩
abbrev S33280x256 : Shape := ⟨2, ![33280, 256]⟩
abbrev S2x16640x256 : Shape := ⟨3, ![2, 16640, 256]⟩
abbrev S2x16384x256 : Shape := ⟨3, ![2, 16384, 256]⟩
abbrev S128x256x256 : Shape := ⟨3, ![128, 256, 256]⟩
abbrev S1x1x256x256 : Shape := ⟨4, ![1, 1, 256, 256]⟩
abbrev S256x256 : Shape := ⟨2, ![256, 256]⟩
abbrev S2x256x256 : Shape := ⟨3, ![2, 256, 256]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S33280x2816 : Shape := ⟨2, ![33280, 2816]⟩

abbrev nBuf : Space → Nat
  | .hbm => 291
  | .vmem => 0
  | .smem => 0
  | _ => 0

abbrev hbmTy0_0 (i : Nat) : BufTy := match i % 128 with
  | 0 => ⟨S2x256x1024, .f32⟩
  | 1 => ⟨S2x16384x1024, .f32⟩
  | 2 => ⟨S4x8x6144, .f32⟩
  | 3 => ⟨S4x1x1024, .f32⟩
  | 4 => ⟨S4x1x1024, .f32⟩
  | 5 => ⟨S2x4x256x768, .bf16⟩
  | 6 => ⟨S2x4x256x256, .bf16⟩
  | 7 => ⟨S2x1x1024, .f32⟩
  | 8 => ⟨S2x1024x2816, .bf16⟩
  | 9 => ⟨S2x1024x2816, .bf16⟩
  | 10 => ⟨S2x2816x1024, .bf16⟩
  | 11 => ⟨S2x16640x1024, .f32⟩
  | 12 => ⟨S33280x1024, .f32⟩
  | 13 => ⟨S1x1x1024, .f32⟩
  | 14 => ⟨S1024, .f32⟩
  | 15 => ⟨S33280x1024, .f32⟩
  | 16 => ⟨S_, .f32⟩
  | 17 => ⟨S33280, .f32⟩
  | 18 => ⟨S33280x1, .f32⟩
  | 19 => ⟨S_, .f32⟩
  | 20 => ⟨S33280x1, .f32⟩
  | 21 => ⟨S33280x1, .f32⟩
  | 22 => ⟨S_, .f32⟩
  | 23 => ⟨S33280x1, .f32⟩
  | 24 => ⟨S33280x1, .f32⟩
  | 25 => ⟨S33280x1, .f32⟩
  | 26 => ⟨S33280x1024, .f32⟩
  | 27 => ⟨S33280x1024, .f32⟩
  | 28 => ⟨S1x1024, .f32⟩
  | 29 => ⟨S33280x1024, .f32⟩
  | 30 => ⟨S33280x1024, .f32⟩
  | 31 => ⟨S1x8x1024, .f32⟩
  | 32 => ⟨S8x1024, .f32⟩
  | 33 => ⟨S1x1024, .f32⟩
  | 34 => ⟨S1024, .f32⟩
  | 35 => ⟨S2x256x1024, .f32⟩
  | 36 => ⟨S2x1024, .f32⟩
  | 37 => ⟨S2x1x1024, .f32⟩
  | 38 => ⟨S2x16384x1024, .f32⟩
  | 39 => ⟨S2x16640x1024, .f32⟩
  | 40 => ⟨S33280x1024, .f32⟩
  | 41 => ⟨S_, .f32⟩
  | 42 => ⟨S33280x1024, .f32⟩
  | 43 => ⟨S33280x1024, .f32⟩
  | 44 => ⟨S33280x1024, .f32⟩
  | 45 => ⟨S1x8x1024, .f32⟩
  | 46 => ⟨S8x1024, .f32⟩
  | 47 => ⟨S1x1024, .f32⟩
  | 48 => ⟨S1024, .f32⟩
  | 49 => ⟨S2x256x1024, .f32⟩
  | 50 => ⟨S2x1024, .f32⟩
  | 51 => ⟨S2x1x1024, .f32⟩
  | 52 => ⟨S2x16384x1024, .f32⟩
  | 53 => ⟨S2x16640x1024, .f32⟩
  | 54 => ⟨S33280x1024, .f32⟩
  | 55 => ⟨S33280x1024, .f32⟩
  | 56 => ⟨S33280x256, .f32⟩
  | 57 => ⟨S2x16640x256, .f32⟩
  | 58 => ⟨S2x16384x256, .f32⟩
  | 59 => ⟨S128x256x256, .f32⟩
  | 60 => ⟨S1x1x256x256, .bf16⟩
  | 61 => ⟨S256x256, .bf16⟩
  | 62 => ⟨S256x256, .f32⟩
  | 63 => ⟨S1x1x256x256, .bf16⟩
  | 64 => ⟨S256x256, .bf16⟩
  | 65 => ⟨S256x256, .f32⟩
  | 66 => ⟨S128x256x256, .f32⟩
  | 67 => ⟨S128x256x256, .f32⟩
  | 68 => ⟨S128x256x256, .f32⟩
  | 69 => ⟨S128x256x256, .f32⟩
  | 70 => ⟨S128x256x256, .f32⟩
  | 71 => ⟨S2x16384x256, .f32⟩
  | 72 => ⟨S2x256x256, .f32⟩
  | 73 => ⟨S1x1x256x256, .bf16⟩
  | 74 => ⟨S256x256, .bf16⟩
  | 75 => ⟨S256x256, .f32⟩
  | 76 => ⟨S1x1x256x256, .bf16⟩
  | 77 => ⟨S256x256, .bf16⟩
  | 78 => ⟨S256x256, .f32⟩
  | 79 => ⟨S2x256x256, .f32⟩
  | 80 => ⟨S2x256x256, .f32⟩
  | 81 => ⟨S2x256x256, .f32⟩
  | 82 => ⟨S2x256x256, .f32⟩
  | 83 => ⟨S2x256x256, .f32⟩
  | 84 => ⟨S2x16640x256, .f32⟩
  | 85 => ⟨S2x16640x256, .f32⟩
  | 86 => ⟨S33280x256, .f32⟩
  | 87 => ⟨S1x1x256x256, .bf16⟩
  | 88 => ⟨S256x256, .bf16⟩
  | 89 => ⟨S256x256, .f32⟩
  | 90 => ⟨S33280x256, .f32⟩
  | 91 => ⟨S33280x256, .f32⟩
  | 92 => ⟨S2x16640x256, .f32⟩
  | 93 => ⟨S2x16384x256, .f32⟩
  | 94 => ⟨S128x256x256, .f32⟩
  | 95 => ⟨S1x1x256x256, .bf16⟩
  | 96 => ⟨S256x256, .bf16⟩
  | 97 => ⟨S256x256, .f32⟩
  | 98 => ⟨S1x1x256x256, .bf16⟩
  | 99 => ⟨S256x256, .bf16⟩
  | 100 => ⟨S256x256, .f32⟩
  | 101 => ⟨S128x256x256, .f32⟩
  | 102 => ⟨S128x256x256, .f32⟩
  | 103 => ⟨S128x256x256, .f32⟩
  | 104 => ⟨S128x256x256, .f32⟩
  | 105 => ⟨S128x256x256, .f32⟩
  | 106 => ⟨S2x16384x256, .f32⟩
  | 107 => ⟨S2x256x256, .f32⟩
  | 108 => ⟨S1x1x256x256, .bf16⟩
  | 109 => ⟨S256x256, .bf16⟩
  | 110 => ⟨S256x256, .f32⟩
  | 111 => ⟨S1x1x256x256, .bf16⟩
  | 112 => ⟨S256x256, .bf16⟩
  | 113 => ⟨S256x256, .f32⟩
  | 114 => ⟨S2x256x256, .f32⟩
  | 115 => ⟨S2x256x256, .f32⟩
  | 116 => ⟨S2x256x256, .f32⟩
  | 117 => ⟨S2x256x256, .f32⟩
  | 118 => ⟨S2x256x256, .f32⟩
  | 119 => ⟨S2x16640x256, .f32⟩
  | 120 => ⟨S2x16640x256, .f32⟩
  | 121 => ⟨S33280x256, .f32⟩
  | 122 => ⟨S1x1x256x256, .bf16⟩
  | 123 => ⟨S256x256, .bf16⟩
  | 124 => ⟨S256x256, .f32⟩
  | 125 => ⟨S33280x256, .f32⟩
  | 126 => ⟨S33280x256, .f32⟩
  | 127 => ⟨S2x16640x256, .f32⟩
  | _ => ⟨S2x256x1024, .f32⟩

abbrev hbmTy0_1 (i : Nat) : BufTy := match i % 128 with
  | 0 => ⟨S2x16384x256, .f32⟩
  | 1 => ⟨S128x256x256, .f32⟩
  | 2 => ⟨S1x1x256x256, .bf16⟩
  | 3 => ⟨S256x256, .bf16⟩
  | 4 => ⟨S256x256, .f32⟩
  | 5 => ⟨S1x1x256x256, .bf16⟩
  | 6 => ⟨S256x256, .bf16⟩
  | 7 => ⟨S256x256, .f32⟩
  | 8 => ⟨S128x256x256, .f32⟩
  | 9 => ⟨S128x256x256, .f32⟩
  | 10 => ⟨S128x256x256, .f32⟩
  | 11 => ⟨S128x256x256, .f32⟩
  | 12 => ⟨S128x256x256, .f32⟩
  | 13 => ⟨S2x16384x256, .f32⟩
  | 14 => ⟨S2x256x256, .f32⟩
  | 15 => ⟨S1x1x256x256, .bf16⟩
  | 16 => ⟨S256x256, .bf16⟩
  | 17 => ⟨S256x256, .f32⟩
  | 18 => ⟨S1x1x256x256, .bf16⟩
  | 19 => ⟨S256x256, .bf16⟩
  | 20 => ⟨S256x256, .f32⟩
  | 21 => ⟨S2x256x256, .f32⟩
  | 22 => ⟨S2x256x256, .f32⟩
  | 23 => ⟨S2x256x256, .f32⟩
  | 24 => ⟨S2x256x256, .f32⟩
  | 25 => ⟨S2x256x256, .f32⟩
  | 26 => ⟨S2x16640x256, .f32⟩
  | 27 => ⟨S2x16640x256, .f32⟩
  | 28 => ⟨S33280x256, .f32⟩
  | 29 => ⟨S1x1x256x256, .bf16⟩
  | 30 => ⟨S256x256, .bf16⟩
  | 31 => ⟨S256x256, .f32⟩
  | 32 => ⟨S33280x256, .f32⟩
  | 33 => ⟨S33280x256, .f32⟩
  | 34 => ⟨S2x16640x256, .f32⟩
  | 35 => ⟨S2x16384x256, .f32⟩
  | 36 => ⟨S128x256x256, .f32⟩
  | 37 => ⟨S1x1x256x256, .bf16⟩
  | 38 => ⟨S256x256, .bf16⟩
  | 39 => ⟨S256x256, .f32⟩
  | 40 => ⟨S1x1x256x256, .bf16⟩
  | 41 => ⟨S256x256, .bf16⟩
  | 42 => ⟨S256x256, .f32⟩
  | 43 => ⟨S128x256x256, .f32⟩
  | 44 => ⟨S128x256x256, .f32⟩
  | 45 => ⟨S128x256x256, .f32⟩
  | 46 => ⟨S128x256x256, .f32⟩
  | 47 => ⟨S128x256x256, .f32⟩
  | 48 => ⟨S2x16384x256, .f32⟩
  | 49 => ⟨S2x256x256, .f32⟩
  | 50 => ⟨S1x1x256x256, .bf16⟩
  | 51 => ⟨S256x256, .bf16⟩
  | 52 => ⟨S256x256, .f32⟩
  | 53 => ⟨S1x1x256x256, .bf16⟩
  | 54 => ⟨S256x256, .bf16⟩
  | 55 => ⟨S256x256, .f32⟩
  | 56 => ⟨S2x256x256, .f32⟩
  | 57 => ⟨S2x256x256, .f32⟩
  | 58 => ⟨S2x256x256, .f32⟩
  | 59 => ⟨S2x256x256, .f32⟩
  | 60 => ⟨S2x256x256, .f32⟩
  | 61 => ⟨S2x16640x256, .f32⟩
  | 62 => ⟨S2x16640x256, .f32⟩
  | 63 => ⟨S33280x256, .f32⟩
  | 64 => ⟨S1x1x256x256, .bf16⟩
  | 65 => ⟨S256x256, .bf16⟩
  | 66 => ⟨S256x256, .f32⟩
  | 67 => ⟨S33280x256, .f32⟩
  | 68 => ⟨S1x8x1024, .f32⟩
  | 69 => ⟨S8x1024, .f32⟩
  | 70 => ⟨S1x1024, .f32⟩
  | 71 => ⟨S1024, .f32⟩
  | 72 => ⟨S2x256x1024, .f32⟩
  | 73 => ⟨S2x1024, .f32⟩
  | 74 => ⟨S2x1x1024, .f32⟩
  | 75 => ⟨S2x16384x1024, .f32⟩
  | 76 => ⟨S2x16640x1024, .f32⟩
  | 77 => ⟨S33280x1024, .f32⟩
  | 78 => ⟨S33280x1024, .f32⟩
  | 79 => ⟨S1x1x1024, .f32⟩
  | 80 => ⟨S1024, .f32⟩
  | 81 => ⟨S1x1024, .f32⟩
  | 82 => ⟨S33280x1024, .f32⟩
  | 83 => ⟨S33280x1024, .f32⟩
  | 84 => ⟨S33280x1024, .f32⟩
  | 85 => ⟨S33280x1024, .f32⟩
  | 86 => ⟨S1x1x1024, .f32⟩
  | 87 => ⟨S1024, .f32⟩
  | 88 => ⟨S33280x1024, .f32⟩
  | 89 => ⟨S_, .f32⟩
  | 90 => ⟨S33280, .f32⟩
  | 91 => ⟨S33280x1, .f32⟩
  | 92 => ⟨S_, .f32⟩
  | 93 => ⟨S33280x1, .f32⟩
  | 94 => ⟨S33280x1, .f32⟩
  | 95 => ⟨S_, .f32⟩
  | 96 => ⟨S33280x1, .f32⟩
  | 97 => ⟨S33280x1, .f32⟩
  | 98 => ⟨S33280x1, .f32⟩
  | 99 => ⟨S33280x1024, .f32⟩
  | 100 => ⟨S33280x1024, .f32⟩
  | 101 => ⟨S1x1024, .f32⟩
  | 102 => ⟨S33280x1024, .f32⟩
  | 103 => ⟨S33280x1024, .f32⟩
  | 104 => ⟨S1x8x1024, .f32⟩
  | 105 => ⟨S8x1024, .f32⟩
  | 106 => ⟨S1x1024, .f32⟩
  | 107 => ⟨S1024, .f32⟩
  | 108 => ⟨S2x256x1024, .f32⟩
  | 109 => ⟨S2x1024, .f32⟩
  | 110 => ⟨S2x1x1024, .f32⟩
  | 111 => ⟨S2x16384x1024, .f32⟩
  | 112 => ⟨S2x16640x1024, .f32⟩
  | 113 => ⟨S33280x1024, .f32⟩
  | 114 => ⟨S_, .f32⟩
  | 115 => ⟨S33280x1024, .f32⟩
  | 116 => ⟨S33280x1024, .f32⟩
  | 117 => ⟨S33280x1024, .f32⟩
  | 118 => ⟨S1x8x1024, .f32⟩
  | 119 => ⟨S8x1024, .f32⟩
  | 120 => ⟨S1x1024, .f32⟩
  | 121 => ⟨S1024, .f32⟩
  | 122 => ⟨S2x256x1024, .f32⟩
  | 123 => ⟨S2x1024, .f32⟩
  | 124 => ⟨S2x1x1024, .f32⟩
  | 125 => ⟨S2x16384x1024, .f32⟩
  | 126 => ⟨S2x16640x1024, .f32⟩
  | 127 => ⟨S33280x1024, .f32⟩
  | _ => ⟨S2x256x1024, .f32⟩

abbrev hbmTy0_2 (i : Nat) : BufTy := match i % 128 with
  | 0 => ⟨S33280x1024, .f32⟩
  | 1 => ⟨S1x8x1024, .f32⟩
  | 2 => ⟨S8x1024, .f32⟩
  | 3 => ⟨S1x1024, .f32⟩
  | 4 => ⟨S1024, .f32⟩
  | 5 => ⟨S2x256x1024, .f32⟩
  | 6 => ⟨S2x1024, .f32⟩
  | 7 => ⟨S2x1x1024, .f32⟩
  | 8 => ⟨S2x16384x1024, .f32⟩
  | 9 => ⟨S2x16640x1024, .f32⟩
  | 10 => ⟨S33280x1024, .f32⟩
  | 11 => ⟨S1x1024x2816, .bf16⟩
  | 12 => ⟨S1024x2816, .bf16⟩
  | 13 => ⟨S1024x2816, .f32⟩
  | 14 => ⟨S1x1024x2816, .bf16⟩
  | 15 => ⟨S1024x2816, .bf16⟩
  | 16 => ⟨S1024x2816, .f32⟩
  | 17 => ⟨S1x2816x1024, .bf16⟩
  | 18 => ⟨S2816x1024, .bf16⟩
  | 19 => ⟨S2816x1024, .f32⟩
  | 20 => ⟨S33280x2816, .f32⟩
  | 21 => ⟨S33280x2816, .f32⟩
  | 22 => ⟨S33280x2816, .f32⟩
  | 23 => ⟨S_, .f32⟩
  | 24 => ⟨S33280x2816, .f32⟩
  | 25 => ⟨S33280x2816, .f32⟩
  | 26 => ⟨S_, .f32⟩
  | 27 => ⟨S33280x2816, .f32⟩
  | 28 => ⟨S33280x2816, .f32⟩
  | 29 => ⟨S33280x2816, .f32⟩
  | 30 => ⟨S33280x2816, .f32⟩
  | 31 => ⟨S33280x2816, .f32⟩
  | 32 => ⟨S33280x1024, .f32⟩
  | 33 => ⟨S33280x1024, .f32⟩
  | 34 => ⟨S33280x1024, .f32⟩
  | _ => ⟨S2x256x1024, .f32⟩

abbrev hbmTy (i : Nat) : BufTy := match i / 128 with
  | 0 => hbmTy0_0 i
  | 1 => hbmTy0_1 i
  | 2 => hbmTy0_2 i
  | _ => ⟨S2x256x1024, .f32⟩

abbrev bufTy : (tb : Table) → Fin (tcTables nBuf tb) → BufTy
  | .hbm, ⟨i, _⟩ => hbmTy i
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_cst_3 : Ref sig .tc := ⟨.hbm, 217, rfl⟩
abbrev main_v202 : Ref sig .tc := ⟨.hbm, 218, rfl⟩
abbrev main_v203 : Ref sig .tc := ⟨.hbm, 219, rfl⟩
abbrev main_cst_4 : Ref sig .tc := ⟨.hbm, 220, rfl⟩
abbrev main_v204 : Ref sig .tc := ⟨.hbm, 221, rfl⟩
abbrev main_v205 : Ref sig .tc := ⟨.hbm, 222, rfl⟩
abbrev main_cst_5 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_cst_6 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_call0_v0 : Ref sig .tc := ⟨.hbm, 277, rfl⟩
abbrev main_call0_v1 : Ref sig .tc := ⟨.hbm, 278, rfl⟩
abbrev main_call0_cst : Ref sig .tc := ⟨.hbm, 279, rfl⟩
abbrev main_call0_v2 : Ref sig .tc := ⟨.hbm, 280, rfl⟩
abbrev main_call0_v3 : Ref sig .tc := ⟨.hbm, 281, rfl⟩
abbrev main_call0_cst_0 : Ref sig .tc := ⟨.hbm, 282, rfl⟩
abbrev main_call0_v4 : Ref sig .tc := ⟨.hbm, 283, rfl⟩
abbrev main_call0_v5 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩

abbrev nD : Nat := 1
abbrev τ : Topo := Topo.v7x

variable {F : FTy → Type} [FloatOps F]
-- ==== Proof.KernelBody.lean ====
/- The body of the grouped expert product, run once per branch on staging buffers with any contents:
   a tile that is used stores the eight 128-lane columns of its product, a tile past the last used one
   stores zeros. -/
module

public import proofs.«01_k».proof.Defs
public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model at this program's instance. -/
local notation "𝕄" => MT nD τ sig Unit (Elt Bits) ℕ (UR sig nD τ) ℕ

/-- The two tables, as the body's scalar operands. -/
abbrev tabE : Memref sig .tc .smem S138 .i32 := Memref.whole main_arg1
abbrev tabN : Memref sig .tc .smem S1 .i32 := Memref.whole main_arg2

/-- The word the body reads for the number of used tiles. -/
abbrev usedWord (T1 : S1.Idx → Elt Bits .i32) : BitVec 32 :=
  View.readAt (Elt Bits) tabN.view (Rect.unit (s := S1) ![0] S1.size inb_S1_S1_0).toLoadRect T1 (Shape.Idx.first (numel1_S1.symm ▸ Nat.one_pos))

/-- One staging buffer of the output, through which a block's contents are stated. -/
abbrev outV : View sig .tc .vmem S4096x128 .f32 := (Memref.whole cc0_stg4_0 : Memref sig .tc .vmem S4096x128 .f32).view

section
variable (c : Dev nD) (i : grid0.Coords)
  (mx : Memref sig .tc .vmem S4096x128 .f32) (hx : mx.IsWhole)
  (ma : Memref sig .tc .vmem S1x1x1024x3584 .bf16) (ha : ma.IsWhole)
  (mb : Memref sig .tc .vmem S1x1x1024x3584 .bf16) (hb : mb.IsWhole)
  (mc : Memref sig .tc .vmem S1x1x3584x1024 .bf16) (hc : mc.IsWhole)
  (mo : Memref sig .tc .vmem S4096x128 .f32) (ho : mo.IsWhole)
  (T0 : S138.Idx → Elt Bits .i32) (T1 : S1.Idx → Elt Bits .i32)
  (x : S4096x128.Idx → Elt Bits .f32) (w1 w3 : S1x1x1024x3584.Idx → Elt Bits .bf16) (w2 : S1x1x3584x1024.Idx → Elt Bits .bf16)

/-- What the body holds at its ends beside the output: its four inputs at their blocks and its halves of the tables. -/
abbrev held : sProp 𝕄 :=
  iprop((mx.view.loc (c : Thread nD τ) ↦[mx.view.set]{fullShare} mx.view.rep x)
    ∗ (ma.view.loc (c : Thread nD τ) ↦[ma.view.set]{fullShare} ma.view.rep w1)
    ∗ (mb.view.loc (c : Thread nD τ) ↦[mb.view.set]{fullShare} mb.view.rep w3)
    ∗ (mc.view.loc (c : Thread nD τ) ↦[mc.view.set]{fullShare} mc.view.rep w2)
    ∗ (tabE.view.loc (c : Thread nD τ) ↦{fullShare.right} T0)
    ∗ (tabN.view.loc (c : Thread nD τ) ↦{fullShare.right} T1))

/-- The body, from its inputs and an output at anything, ends with the output at the written pieces `L`. -/
abbrev BodyLeaves (L : List (View.Piece (Elt Bits) S4096x128 .f32)) : Prop :=
  ∀ K : PUnit → sProp 𝕄,
    iprop(held c mx ma mb mc T0 T1 x w1 w3 w2 ∗ (∃ d, owns (c : Thread nD τ) mo fullShare d)
      ∗ (iprop(held c mx ma mb mc T0 T1 x w1 w3 w2
          ∗ (∃ f, mo.view.loc (c : Thread nD τ) ↦[mo.view.set]{fullShare} mo.view.writes (Elt Bits) f L)) -∗ K ⟨⟩))
    ⊢ wp frame (wpE (defs₀ (F := Bits)) Variants.none c none) Set.univ
        (cc0_experts_0 i tabE (Memref.isWhole_whole _) tabN (Memref.isWhole_whole _) mx hx ma ha mb hb mc hc mo ho) K

set_option backward.proofsInPublic true in
set_option maxHeartbeats 8000000 in
/-- A used tile: the pieces its body writes, found by running it. -/
noncomputable def runUsed (h1 : ¬(k0_cond1 i (usedWord T1) = 1#1)) (h2 : k0_cond2 i (usedWord T1) = 1#1) :
    { L : List (View.Piece (Elt Bits) S4096x128 .f32) // BodyLeaves c i mx hx ma ha mb hb mc hc mo ho T0 T1 x w1 w3 w2 L } :=
  ⟨_, fun K => by
    unfold owns
    rw [cc0_experts_0_eq_skeleton]; unfold cc0_experts_0_skel
    iintro ⟨⟨H0, H1, H2, H3, HT0, HT1⟩, ⟨%d, %f, -, HO⟩, Hk⟩
    have hT0 : tabE.IsWhole := Memref.isWhole_whole _
    have hT1 : tabN.IsWhole := Memref.isWhole_whole _
    sl_exec! (disch := first | (guard_target = ¬(k0_cond1 _ _ = _); exact h1) | (guard_target = k0_cond2 _ _ = _; exact h2))
    sl_step
    iapply Hk
    isplitr [HO]
    · isplitl [H0]; · iexact H0
      isplitl [H1]; · iexact H1
      isplitl [H2]; · iexact H2
      isplitl [H3]; · iexact H3
      isplitl [HT0]; · iexact HT0
      iexact HT1
    · iexists _; iexact HO⟩

set_option backward.proofsInPublic true in
set_option maxHeartbeats 8000000 in
/-- A tile past the last used one. -/
noncomputable def runIdle (h1 : k0_cond1 i (usedWord T1) = 1#1) (h2 : ¬(k0_cond2 i (usedWord T1) = 1#1)) :
    { L : List (View.Piece (Elt Bits) S4096x128 .f32) // BodyLeaves c i mx hx ma ha mb hb mc hc mo ho T0 T1 x w1 w3 w2 L } :=
  ⟨_, fun K => by
    unfold owns
    rw [cc0_experts_0_eq_skeleton]; unfold cc0_experts_0_skel
    iintro ⟨⟨H0, H1, H2, H3, HT0, HT1⟩, ⟨%d, %f, -, HO⟩, Hk⟩
    have hT0 : tabE.IsWhole := Memref.isWhole_whole _
    have hT1 : tabN.IsWhole := Memref.isWhole_whole _
    sl_exec! (disch := first | (guard_target = k0_cond1 _ _ = _; exact h1) | (guard_target = ¬(k0_cond2 _ _ = _); exact h2))
    sl_step
    iapply Hk
    isplitr [HO]
    · isplitl [H0]; · iexact H0
      isplitl [H1]; · iexact H1
      isplitl [H2]; · iexact H2
      isplitl [H3]; · iexact H3
      isplitl [HT0]; · iexact HT0
      iexact HT1
    · iexists _; iexact HO⟩

/-- The eight lane columns, each a strided set of rows, meet every place of a block. -/
theorem mem_column (y : S4096x128.Idx) (k : ℕ) (hk : (y 0).val % 8 = k) (r : Rect S4096x128)
    (h0 : r.off 0 = k) (h1 : r.off 1 = 0) (s0 : r.stride 0 = 8) (s1 : r.stride 1 = 1) (z0 : r.size 0 = 512) (z1 : r.size 1 = 128) :
    y ∈ r.set := by
  have a0 : (y 0).val < 4096 := (y 0).isLt
  have a1 : (y 1).val < 128 := (y 1).isLt
  refine r.mem_set.mpr fun a => ?_
  match a with
  | ⟨0, _⟩ => exact ⟨(y 0).val / 8, by rw [show r.size ⟨0, _⟩ = 512 from z0]; omega, by
      rw [show r.off ⟨0, _⟩ = k from h0, show r.stride ⟨0, _⟩ = 8 from s0]; show (y 0).val = _; omega⟩
  | ⟨1, _⟩ => exact ⟨(y 1).val, by rw [show r.size ⟨1, _⟩ = 128 from z1]; omega, by
      rw [show r.off ⟨1, _⟩ = 0 from h1, show r.stride ⟨1, _⟩ = 1 from s1]; show (y 1).val = _; omega⟩

theorem coverUsed (h1 : ¬(k0_cond1 i (usedWord T1) = 1#1)) (h2 : k0_cond2 i (usedWord T1) = 1#1) (y : S4096x128.Idx) :
    ∃ p ∈ (runUsed c i mx hx ma ha mb hb mc hc mo ho T0 T1 x w1 w3 w2 h1 h2).1, y ∈ p.1.set := by
  have hk : (y 0).val % 8 < 8 := Nat.mod_lt _ (by decide)
  unfold runUsed
  generalize hm : (y 0).val % 8 = k at hk
  interval_cases k
  · exact ⟨_, .tail _ (.tail _ (.tail _ (.tail _ (.tail _ (.tail _ (.tail _ (.head _))))))), mem_column y 0 hm _ rfl rfl rfl rfl rfl rfl⟩
  · exact ⟨_, .tail _ (.tail _ (.tail _ (.tail _ (.tail _ (.tail _ (.head _)))))), mem_column y 1 hm _ rfl rfl rfl rfl rfl rfl⟩
  · exact ⟨_, .tail _ (.tail _ (.tail _ (.tail _ (.tail _ (.head _))))), mem_column y 2 hm _ rfl rfl rfl rfl rfl rfl⟩
  · exact ⟨_, .tail _ (.tail _ (.tail _ (.tail _ (.head _)))), mem_column y 3 hm _ rfl rfl rfl rfl rfl rfl⟩
  · exact ⟨_, .tail _ (.tail _ (.tail _ (.head _))), mem_column y 4 hm _ rfl rfl rfl rfl rfl rfl⟩
  · exact ⟨_, .tail _ (.tail _ (.head _)), mem_column y 5 hm _ rfl rfl rfl rfl rfl rfl⟩
  · exact ⟨_, .tail _ (.head _), mem_column y 6 hm _ rfl rfl rfl rfl rfl rfl⟩
  · exact ⟨_, .head _, mem_column y 7 hm _ rfl rfl rfl rfl rfl rfl⟩

theorem coverIdle (h1 : k0_cond1 i (usedWord T1) = 1#1) (h2 : ¬(k0_cond2 i (usedWord T1) = 1#1)) (y : S4096x128.Idx) :
    ∃ p ∈ (runIdle c i mx hx ma ha mb hb mc hc mo ho T0 T1 x w1 w3 w2 h1 h2).1, y ∈ p.1.set :=
  View.cover_of_tiledL (runIdle c i mx hx ma ha mb hb mc hc mo ho T0 T1 x w1 w3 w2 h1 h2).1 S4096x128.size (by sl_kernel_rfl) y

/-- What a used tile's body leaves in the output block. -/
def outUsed (h1 : ¬(k0_cond1 i (usedWord T1) = 1#1)) (h2 : k0_cond2 i (usedWord T1) = 1#1) : S4096x128.Idx → Elt Bits .f32 :=
  outV.read (Elt Bits) (outV.writes (Elt Bits) outV.junk (runUsed c i mx hx ma ha mb hb mc hc mo ho T0 T1 x w1 w3 w2 h1 h2).1)

/-- What an unused tile's body leaves there. -/
def outIdle (h1 : k0_cond1 i (usedWord T1) = 1#1) (h2 : ¬(k0_cond2 i (usedWord T1) = 1#1)) : S4096x128.Idx → Elt Bits .f32 :=
  outV.read (Elt Bits) (outV.writes (Elt Bits) outV.junk (runIdle c i mx hx ma ha mb hb mc hc mo ho T0 T1 x w1 w3 w2 h1 h2).1)

end

end Cert.Kernel.Experts

end
-- ==== Proof.KernelRun.lean ====
/- The launch of the grouped expert product at any tables the precondition admits: every grid point's body
   obligation, and what the whole run leaves. -/
module

public import proofs.«01_k».proof.Proof.KernelBody

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model at this program's instance. -/
local notation "𝕄" => MT nD τ sig Unit (Elt Bits) ℕ (UR sig nD τ) ℕ

/-- The rounds library's resource algebra, embedded whole. -/
abbrev EP : Emb (UR sig nD τ) 𝕄 := emb₁

/-! ## The tables -/

/-- Tables the launch may be handed: the expert of each tile, below eight, and the number of used tiles, at least one
    (as a signed word). -/
structure Tables where
  te : S138.Idx → BitVec 32
  nu : S1.Idx → BitVec 32
  te_lt : ∀ x, (te x).toNat < 8
  nu_pos : ∀ x, 1 ≤ (nu x).toNat
  nu_lt : ∀ x, (nu x).toNat < 2 ^ 31

variable (T : Tables)

/-- The one place of a length-one table. -/
def place : S1.Idx := fun a => ⟨0, by fin_cases a; decide⟩

/-- The number of used tiles. -/
def Tables.n : ℕ := (T.nu place).toNat

theorem Tables.n_pos : 1 ≤ T.n := T.nu_pos _
theorem Tables.n_lt : T.n < 2 ^ 31 := T.nu_lt _

/-- A length-one table has one place. -/
theorem nu_at (x : S1.Idx) : T.nu x = T.nu place := by
  have h : x = place := by
    funext a
    match a with
    | ⟨0, _⟩ => exact Subsingleton.elim (α := Fin 1) _ _
  rw [h]

/-- The tables' contents as the pipeline reads them. -/
def pfT : pre0.Contents (Elt Bits) := fun | ⟨0, _⟩ => T.te | ⟨1, _⟩ => T.nu | ⟨_ + 2, h⟩ => absurd h (by simp)

theorem coord_lt (i : grid0.Coords) : (i 0).val < 138 := (i 0).isLt

/-- The signed smaller of a tile number and the last used tile, as numbers. -/
theorem minsi_last (k n : ℕ) (v : BitVec 32) (hk : k < 138) (hv : v.toNat = n) (h1 : 1 ≤ n) (h2 : n < 2 ^ 31) :
    (Scalar.minsi (BitVec.ofNat 32 k) (Scalar.subi v 1#32)).toNat = min k (n - 1) := by
  have e1 : (BitVec.ofNat 32 k).toNat = k := by rw [BitVec.toNat_ofNat]; omega
  have e2 : (v - 1#32).toNat = n - 1 := by rw [BitVec.toNat_sub, hv]; simp; omega
  have i1 : (BitVec.ofNat 32 k).toInt = k := by rw [BitVec.toInt_eq_toNat_of_lt (by rw [e1]; omega), e1]
  have i2 : (v - 1#32).toInt = ((n - 1 : ℕ) : ℤ) := by rw [BitVec.toInt_eq_toNat_of_lt (by rw [e2]; omega), e2]
  show (if (BitVec.ofNat 32 k).slt (v - 1#32) then BitVec.ofNat 32 k else v - 1#32).toNat = _
  by_cases h : k < n - 1
  · rw [if_pos (by rw [BitVec.slt_iff_toInt_lt, i1, i2]; exact_mod_cast h), e1]; omega
  · rw [if_neg (by rw [BitVec.slt_iff_toInt_lt, i1, i2]; exact_mod_cast h), e2]; omega

/-- The input block a grid point reads. -/
theorem ix_x (i : grid0.Coords) : cc0_transform_0 (F := Bits) inb_S1_S1_0 numel1_S1 (pfT T) i = ![min (i 0).val (T.n - 1), 0] := by
  have h := minsi_last (i 0).val T.n (T.nu place) (coord_lt i) rfl T.n_pos T.n_lt
  have e : (pfT T).at 1 (Rect.unit (s := S1) ![0] S1.size inb_S1_S1_0) numel1_S1 = T.nu place := nu_at T _
  unfold cc0_transform_0
  simp only [e, h]
  rfl

theorem ok_x : ∀ i : grid0.Coords, ∃ h : (∀ a, (cc0_transform_0 (F := Bits) inb_S1_S1_0 numel1_S1 (pfT T) i a + 1) * S4096x128.size a ≤ S565248x128.size a), EltTy.bits .f32 = 32 ∨ (Rect.block (s := S565248x128) S4096x128.size (cc0_transform_0 (F := Bits) inb_S1_S1_0 numel1_S1 (pfT T) i) h).WholeWords (EltTy.packing .f32) := fun i =>
  ⟨fun a => by
    rw [ix_x T i]
    have := coord_lt i
    match a with
    | ⟨0, _⟩ => show (min (i 0).val (T.n - 1) + 1) * 4096 ≤ 565248; omega
    | ⟨1, _⟩ => show (0 + 1) * 128 ≤ 128; omega, .inl rfl⟩

/-- The word an index map reads of the experts' table. -/
abbrev teAt (i : grid0.Coords) : BitVec 32 :=
  (pfT T).at 0 (Rect.unit (s := S138) ![(Scalar.indexCast (BitVec.ofNat 32 (i 0).val)).toNat] S1.size (k0_off1_inb i)) numel1_S1

theorem teAt_lt (i : grid0.Coords) : (teAt T i).toNat < 8 := T.te_lt _

theorem ix_1 (i : grid0.Coords) : cc0_transform_1 (F := Bits) k0_off1_inb numel1_S1 (pfT T) i = ![0, (teAt T i).toNat, 0, 0] := rfl
theorem ix_2 (i : grid0.Coords) : cc0_transform_2 (F := Bits) k0_off1_inb numel1_S1 (pfT T) i = ![0, (teAt T i).toNat, 0, 0] := rfl
theorem ix_3 (i : grid0.Coords) : cc0_transform_3 (F := Bits) k0_off1_inb numel1_S1 (pfT T) i = ![0, (teAt T i).toNat, 0, 0] := rfl

theorem inb_13 (i : grid0.Coords) (a : Fin 4) : ((![0, (teAt T i).toNat, 0, 0] : Fin 4 → ℕ) a + 1) * S1x1x1024x3584.size a ≤ S2x8x1024x3584.size a := by
  have h := teAt_lt T i
  match a with
  | ⟨0, _⟩ => show (0 + 1) * 1 ≤ 2; omega
  | ⟨1, _⟩ => show ((teAt T i).toNat + 1) * 1 ≤ 8; omega
  | ⟨2, _⟩ => show (0 + 1) * 1024 ≤ 1024; omega
  | ⟨3, _⟩ => show (0 + 1) * 3584 ≤ 3584; omega

theorem inb_2 (i : grid0.Coords) (a : Fin 4) : ((![0, (teAt T i).toNat, 0, 0] : Fin 4 → ℕ) a + 1) * S1x1x3584x1024.size a ≤ S2x8x3584x1024.size a := by
  have h := teAt_lt T i
  match a with
  | ⟨0, _⟩ => show (0 + 1) * 1 ≤ 2; omega
  | ⟨1, _⟩ => show ((teAt T i).toNat + 1) * 1 ≤ 8; omega
  | ⟨2, _⟩ => show (0 + 1) * 3584 ≤ 3584; omega
  | ⟨3, _⟩ => show (0 + 1) * 1024 ≤ 1024; omega

/-- The region's check of the tables it reads passes. -/
theorem okT : ok0 (F := Bits) (pfT T) :=
  ⟨ok_x T,
   fun i => ⟨inb_13 T i, .inr (Affine.block_words_dvd (s := S2x8x1024x3584) (p := EltTy.packing .bf16) (by decide) (by decide))⟩,
   fun i => ⟨inb_13 T i, .inr (Affine.block_words_dvd (s := S2x8x1024x3584) (p := EltTy.packing .bf16) (by decide) (by decide))⟩,
   fun i => ⟨inb_2 T i, .inr (Affine.block_words_dvd (s := S2x8x3584x1024) (p := EltTy.packing .bf16) (by decide) (by decide))⟩⟩

/-- The admitted tables, and the pipeline at them. -/
def adm : (pcfg0 (F := Bits)).Adm := ⟨pfT T, okT T⟩
abbrev cfgA : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-- The launch memory holds these tables. -/
def Holds : Prop :=
  (∀ c : Dev nD, m ((c : Thread nD τ).loc main_arg1) = T.te) ∧ (∀ c : Dev nD, m ((c : Thread nD τ).loc main_arg2) = T.nu)

/-! ## A grid point -/

/-- Point `t`'s coordinates; its one coordinate is `t`. -/
abbrev crd (t : Fin (cfgA T).N) : (cfgA T).grid.Coords := (cfgA T).grid.coords t

theorem crd_val : ∀ t : Fin grid0.N, (grid0.coords t 0).val = t.val := by decide +kernel

abbrev sx (t : Fin (cfgA T).N) : Memref sig .tc .vmem S4096x128 .f32 := spec0_0.stage ((cfgA T).slots t (0 : Fin 5))
abbrev hsx (t : Fin (cfgA T).N) : (sx T t).IsWhole := hstage0_0 (((cfgA T).slots t (0 : Fin 5)).cast nbuf0_0)
abbrev sa (t : Fin (cfgA T).N) : Memref sig .tc .vmem S1x1x1024x3584 .bf16 := spec0_1.stage ((cfgA T).slots t (1 : Fin 5))
abbrev hsa (t : Fin (cfgA T).N) : (sa T t).IsWhole := hstage0_1 (((cfgA T).slots t (1 : Fin 5)).cast nbuf0_1)
abbrev sb (t : Fin (cfgA T).N) : Memref sig .tc .vmem S1x1x1024x3584 .bf16 := spec0_2.stage ((cfgA T).slots t (2 : Fin 5))
abbrev hsb (t : Fin (cfgA T).N) : (sb T t).IsWhole := hstage0_2 (((cfgA T).slots t (2 : Fin 5)).cast nbuf0_2)
abbrev sc (t : Fin (cfgA T).N) : Memref sig .tc .vmem S1x1x3584x1024 .bf16 := spec0_3.stage ((cfgA T).slots t (3 : Fin 5))
abbrev hsc (t : Fin (cfgA T).N) : (sc T t).IsWhole := hstage0_3 (((cfgA T).slots t (3 : Fin 5)).cast nbuf0_3)
abbrev so (t : Fin (cfgA T).N) : Memref sig .tc .vmem S4096x128 .f32 := spec0_4.stage ((cfgA T).slots t (4 : Fin 5))
abbrev hso (t : Fin (cfgA T).N) : (so T t).IsWhole := hstage0_4 (((cfgA T).slots t (4 : Fin 5)).cast nbuf0_4)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-! ## The branch a point takes -/

/-- The word the body reads is the table's one word. -/
theorem usedWord_eq : usedWord T.nu = T.nu place := by
  refine Eq.trans ?_ (nu_at T ((Rect.unit (s := S1) ![0] S1.size inb_S1_S1_0).point numel1_S1))
  rfl

theorem cmp_words (k n : ℕ) (v : BitVec 32) (hk : k < 138) (hv : v.toNat = n) (h2 : n < 2 ^ 31) :
    v.sle (BitVec.ofNat 32 k) = decide (n ≤ k) ∧ (BitVec.ofNat 32 k).slt v = decide (k < n) := by
  have e1 : (BitVec.ofNat 32 k).toNat = k := by rw [BitVec.toNat_ofNat]; omega
  have i1 : (BitVec.ofNat 32 k).toInt = k := by rw [BitVec.toInt_eq_toNat_of_lt (by rw [e1]; omega), e1]
  have i2 : v.toInt = (n : ℤ) := by rw [BitVec.toInt_eq_toNat_of_lt (by rw [hv]; omega), hv]
  constructor
  · rw [Bool.eq_iff_iff, BitVec.sle_iff_toInt_le, i1, i2, decide_eq_true_iff]; exact Int.ofNat_le
  · rw [Bool.eq_iff_iff, BitVec.slt_iff_toInt_lt, i1, i2, decide_eq_true_iff]; exact Int.ofNat_lt

/-- The body takes the zero branch at the tiles past the last used one, -/
theorem cond1_iff (i : grid0.Coords) : k0_cond1 i (T.nu place) = 1#1 ↔ T.n ≤ (i 0).val := by
  have h := (cmp_words (i 0).val T.n (T.nu place) (coord_lt i) rfl T.n_lt).1
  unfold k0_cond1
  simp only [Scalar.cmpi, IntOp.cmpi, Scalar.extui, h]
  by_cases hc : T.n ≤ (i 0).val <;> simp [hc]

/-- the product branch at the used tiles. -/
theorem cond2_iff (i : grid0.Coords) : k0_cond2 i (T.nu place) = 1#1 ↔ (i 0).val < T.n := by
  have h := (cmp_words (i 0).val T.n (T.nu place) (coord_lt i) rfl T.n_lt).2
  unfold k0_cond2
  simp only [Scalar.cmpi, IntOp.cmpi, Scalar.extui, h]
  by_cases hc : (i 0).val < T.n <;> simp [hc]

theorem used1 (t : Fin (cfgA T).N) (h : t.val < T.n) : ¬(k0_cond1 (crd T t) (usedWord T.nu) = 1#1) := by
  rw [usedWord_eq, cond1_iff, show ((crd T t) 0).val = t.val from crd_val t]; omega
theorem used2 (t : Fin (cfgA T).N) (h : t.val < T.n) : k0_cond2 (crd T t) (usedWord T.nu) = 1#1 := by
  rw [usedWord_eq, cond2_iff, show ((crd T t) 0).val = t.val from crd_val t]; exact h
theorem idle1 (t : Fin (cfgA T).N) (h : ¬t.val < T.n) : k0_cond1 (crd T t) (usedWord T.nu) = 1#1 := by
  rw [usedWord_eq, cond1_iff, show ((crd T t) 0).val = t.val from crd_val t]; omega
theorem idle2 (t : Fin (cfgA T).N) (h : ¬t.val < T.n) : ¬(k0_cond2 (crd T t) (usedWord T.nu) = 1#1) := by
  rw [usedWord_eq, cond2_iff, show ((crd T t) 0).val = t.val from crd_val t]; exact h

/-- The body stores into its output at every point, -/
theorem stores (t : Fin (cfgA T).N) : (cfgA T).idle (4 : Fin 5) ((cfgA T).grid.coords t) = false := by
  have e : (pfT T).atD 1 ![0] = T.nu place := by
    unfold Pipeline.Prefetch.Contents.atD
    exact nu_at T _
  show (!(k0_cond1 (crd T t) ((pfT T).atD 1 ![0]) == 1#1) && !(k0_cond2 (crd T t) ((pfT T).atD 1 ![0]) == 1#1)) = false
  rw [e]
  by_cases h : ((crd T t) 0).val < T.n
  · simp [(cond2_iff T (crd T t)).mpr h]
  · simp [(cond1_iff T (crd T t)).mpr (by omega)]

/-- and every point's block is written back: -/
theorem outIx_ne : ∀ t : Fin grid0.N, t.val + 1 = grid0.N ∨ ∃ h : t.val + 1 < grid0.N, ∃ a, cc0_transform_4 (grid0.coords ⟨t.val + 1, h⟩) a ≠ cc0_transform_4 (grid0.coords t) a := by
  decide +kernel

theorem flushes (t : Fin (cfgA T).N) : ((cfgA T).win (4 : Fin 5)).flush t = true := by
  refine (Pipeline.Window.flush_out _ rfl t).mpr ?_
  rcases outIx_ne t with h | ⟨h, a, ha⟩
  · exact .inl h
  · exact .inr ⟨h, fun he => ha (congrFun he a)⟩

/-- so the buffer holds nothing of an earlier point's. -/
theorem fresh_all (t : Fin (cfgA T).N) : (cfgA T).fresh (4 : Fin 5) t.val = true :=
  Pipeline.Cfg.fresh_tab (cfgA T) (4 : Fin 5) (fun _ => true) rfl (fun t => by rw [flushes T t]; rfl) t.val (Nat.le_of_lt t.isLt)

/-! ## The proof data -/

/-- What the body leaves in the output block at point `t`. -/
def outAt (c : Dev nD) (t : Fin (cfgA T).N) : S4096x128.Idx → Elt Bits .f32 :=
  if h : t.val < T.n then
    outUsed c (crd T t) (sx T t) (hsx T t) (sa T t) (hsa T t) (sb T t) (hsb T t) (sc T t) (hsc T t) (so T t) (hso T t) T.te T.nu
      (iblk T m ρ c (0 : Fin 5) t) (iblk T m ρ c (1 : Fin 5) t) (iblk T m ρ c (2 : Fin 5) t) (iblk T m ρ c (3 : Fin 5) t) (used1 T t h) (used2 T t h)
  else
    outIdle c (crd T t) (sx T t) (hsx T t) (sa T t) (hsa T t) (sb T t) (hsb T t) (sc T t) (hsc T t) (so T t) (hso T t) T.te T.nu
      (iblk T m ρ c (0 : Fin 5) t) (iblk T m ρ c (1 : Fin 5) t) (iblk T m ρ c (2 : Fin 5) t) (iblk T m ρ c (3 : Fin 5) t) (idle1 T t h) (idle2 T t h)

/-- Between points the body keeps its halves of the tables. -/
def Phi (c : Dev nD) : sProp 𝕄 :=
  iprop((tabE.view.loc (c : Thread nD τ) ↦{fullShare.right} T.te) ∗ (tabN.view.loc (c : Thread nD τ) ↦{fullShare.right} T.nu))

/-- The pipeline's proof data on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAt T m ρ c t
  Φ _ := Phi T c
  q _ := fullShare
  owed _ := 0

theorem after0 (c : Dev nD) (t : Fin (cfgA T).N) : (dats T m ρ 0 c).after (0 : Fin 5) t = iblk T m ρ c (0 : Fin 5) t := rfl
theorem after1 (c : Dev nD) (t : Fin (cfgA T).N) : (dats T m ρ 0 c).after (1 : Fin 5) t = iblk T m ρ c (1 : Fin 5) t := rfl
theorem after2 (c : Dev nD) (t : Fin (cfgA T).N) : (dats T m ρ 0 c).after (2 : Fin 5) t = iblk T m ρ c (2 : Fin 5) t := rfl
theorem after3 (c : Dev nD) (t : Fin (cfgA T).N) : (dats T m ρ 0 c).after (3 : Fin 5) t = iblk T m ρ c (3 : Fin 5) t := rfl
theorem after4 (c : Dev nD) (t : Fin (cfgA T).N) : (dats T m ρ 0 c).after (4 : Fin 5) t = outAt T m ρ c t := rfl

/-- Each input's buffer holds its block, fetched at this point or earlier. -/
theorem before0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body obligation -/

/-- The body at point `t`, as the pipeline calls it. -/
abbrev bodyAt (t : Fin (cfgA T).N) : Prog (TpuEff nD τ sig (Elt Bits) Λ₀ .tc) PUnit :=
  cc0_experts_0 (crd T t) tabE (Memref.isWhole_whole _) tabN (Memref.isWhole_whole _) (sx T t) (hsx T t) (sa T t) (hsa T t) (sb T t) (hsb T t) (sc T t) (hsc T t) (so T t) (hso T t)

/-- A branch's run, from the buffers at their contents to the buffers at what follows. -/
theorem of_leaves (c : Dev nD) (t : Fin (cfgA T).N) (L : List (View.Piece (Elt Bits) S4096x128 .f32))
    (x : S4096x128.Idx → Elt Bits .f32) (w1 w3 : S1x1x1024x3584.Idx → Elt Bits .bf16) (w2 : S1x1x3584x1024.Idx → Elt Bits .bf16)
    (hL : ∀ y, ∃ p ∈ L, y ∈ p.1.set)
    (hrun : BodyLeaves c (crd T t) (sx T t) (hsx T t) (sa T t) (hsa T t) (sb T t) (hsb T t) (sc T t) (hsc T t) (so T t) (hso T t) T.te T.nu x w1 w3 w2 L)
    (R : sProp 𝕄) :
    iprop(Phi T c ∗ R
        ∗ (∃ d : S4096x128.Idx → Elt Bits .f32, owns (c : Thread nD τ) (sx T t) fullShare x) ∗ (∃ d : S1x1x1024x3584.Idx → Elt Bits .bf16, owns (c : Thread nD τ) (sa T t) fullShare w1)
        ∗ (∃ d : S1x1x1024x3584.Idx → Elt Bits .bf16, owns (c : Thread nD τ) (sb T t) fullShare w3) ∗ (∃ d : S1x1x3584x1024.Idx → Elt Bits .bf16, owns (c : Thread nD τ) (sc T t) fullShare w2)
        ∗ (∃ d, owns (c : Thread nD τ) (so T t) fullShare d))
      ⊢ wp frame (wpE (defs₀ (F := Bits)) Variants.none c none) Set.univ (bodyAt T t) fun _ =>
          iprop(Phi T c ∗ R ∗ owns (c : Thread nD τ) (sx T t) fullShare x ∗ owns (c : Thread nD τ) (sa T t) fullShare w1
            ∗ owns (c : Thread nD τ) (sb T t) fullShare w3 ∗ owns (c : Thread nD τ) (sc T t) fullShare w2
            ∗ owns (c : Thread nD τ) (so T t) fullShare (outV.read (Elt Bits) (outV.writes (Elt Bits) outV.junk L))) := by
  unfold Phi
  iintro ⟨⟨HT0, HT1⟩, HR, ⟨%d0, H0⟩, ⟨%d1, H1⟩, ⟨%d2, H2⟩, ⟨%d3, H3⟩, ⟨%d4, H4⟩⟩
  iapply hrun _
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  iintro ⟨⟨H0, H1, H2, H3, HT0, HT1⟩, ⟨%e4, H4⟩⟩
  isplitl [HT0 HT1]
  · isplitl [HT0]; · iexact HT0
    iexact HT1
  isplitl [HR]; · iexact HR
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ hL

set_option maxHeartbeats 4000000 in
/-- The library's body obligation at every point. -/
theorem body_obligation (c : Dev nD) : BodyObligation (dats T m ρ 0 c) (defs₀ (F := Bits)) Variants.none () Set.univ := fun t => by
  rw [bigSep_W0, bigSep_W0]
  rewrite [stores T t]
  simp only [before0, before1, before2, before3, after0, after1, after2, after3, after4]
  rewrite [show (dats T m ρ 0 c).Φ t.succ = Phi T c from rfl, show (dats T m ρ 0 c).Φ t.castSucc = Phi T c from rfl,
      show (dats T m ρ 0 c).owesAt () t.succ = (dats T m ρ 0 c).owesAt () t.castSucc from rfl]
  by_cases h : t.val < T.n
  · have e : outAt T m ρ c t = outUsed c (crd T t) (sx T t) (hsx T t) (sa T t) (hsa T t) (sb T t) (hsb T t) (sc T t) (hsc T t) (so T t) (hso T t) T.te T.nu
      (iblk T m ρ c (0 : Fin 5) t) (iblk T m ρ c (1 : Fin 5) t) (iblk T m ρ c (2 : Fin 5) t) (iblk T m ρ c (3 : Fin 5) t) (used1 T t h) (used2 T t h) := dif_pos h
    rewrite [e]
    have key := of_leaves T c t _ (iblk T m ρ c (0 : Fin 5) t) (iblk T m ρ c (1 : Fin 5) t) (iblk T m ρ c (2 : Fin 5) t) (iblk T m ρ c (3 : Fin 5) t)
      (coverUsed c (crd T t) (sx T t) (hsx T t) (sa T t) (hsa T t) (sb T t) (hsb T t) (sc T t) (hsc T t) (so T t) (hso T t) T.te T.nu
        (iblk T m ρ c (0 : Fin 5) t) (iblk T m ρ c (1 : Fin 5) t) (iblk T m ρ c (2 : Fin 5) t) (iblk T m ρ c (3 : Fin 5) t) (used1 T t h) (used2 T t h))
      (runUsed c (crd T t) (sx T t) (hsx T t) (sa T t) (hsa T t) (sb T t) (hsb T t) (sc T t) (hsc T t) (so T t) (hso T t) T.te T.nu
        (iblk T m ρ c (0 : Fin 5) t) (iblk T m ρ c (1 : Fin 5) t) (iblk T m ρ c (2 : Fin 5) t) (iblk T m ρ c (3 : Fin 5) t) (used1 T t h) (used2 T t h)).2
      ((dats T m ρ 0 c).owesAt () t.castSucc)
    iintro ⟨Hp, Ho, H0, H1, H2, H3, ⟨%d4, H4⟩⟩
    iapply key
    isplitl [Hp]; · iexact Hp
    isplitl [Ho]; · iexact Ho
    isplitl [H0]; · iexact H0
    isplitl [H1]; · iexact H1
    isplitl [H2]; · iexact H2
    isplitl [H3]; · iexact H3
    iexists _; iexact H4
  · have e : outAt T m ρ c t = outIdle c (crd T t) (sx T t) (hsx T t) (sa T t) (hsa T t) (sb T t) (hsb T t) (sc T t) (hsc T t) (so T t) (hso T t) T.te T.nu
      (iblk T m ρ c (0 : Fin 5) t) (iblk T m ρ c (1 : Fin 5) t) (iblk T m ρ c (2 : Fin 5) t) (iblk T m ρ c (3 : Fin 5) t) (idle1 T t h) (idle2 T t h) := dif_neg h
    rewrite [e]
    have key := of_leaves T c t _ (iblk T m ρ c (0 : Fin 5) t) (iblk T m ρ c (1 : Fin 5) t) (iblk T m ρ c (2 : Fin 5) t) (iblk T m ρ c (3 : Fin 5) t)
      (coverIdle c (crd T t) (sx T t) (hsx T t) (sa T t) (hsa T t) (sb T t) (hsb T t) (sc T t) (hsc T t) (so T t) (hso T t) T.te T.nu
        (iblk T m ρ c (0 : Fin 5) t) (iblk T m ρ c (1 : Fin 5) t) (iblk T m ρ c (2 : Fin 5) t) (iblk T m ρ c (3 : Fin 5) t) (idle1 T t h) (idle2 T t h))
      (runIdle c (crd T t) (sx T t) (hsx T t) (sa T t) (hsa T t) (sb T t) (hsb T t) (sc T t) (hsc T t) (so T t) (hso T t) T.te T.nu
        (iblk T m ρ c (0 : Fin 5) t) (iblk T m ρ c (1 : Fin 5) t) (iblk T m ρ c (2 : Fin 5) t) (iblk T m ρ c (3 : Fin 5) t) (idle1 T t h) (idle2 T t h)).2
      ((dats T m ρ 0 c).owesAt () t.castSucc)
    iintro ⟨Hp, Ho, H0, H1, H2, H3, ⟨%d4, H4⟩⟩
    iapply key
    isplitl [Hp]; · iexact Hp
    isplitl [Ho]; · iexact Ho
    isplitl [H0]; · iexact H0
    isplitl [H1]; · iexact H1
    isplitl [H2]; · iexact H2
    isplitl [H3]; · iexact H3
    iexists _; iexact H4

/-! ## The launch -/

/-- The rounds library's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T c from rfl]
  unfold Phi
  iintro ⟨-, ⟨HT0, HT1⟩, -⟩
  isplitl [HT0]
  · iexact HT0
  iexact HT1

theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T c from rfl]
  unfold Phi
  iintro ⟨-, -⟩
  isplitr; · iempintro
  iempintro

/-- Every array ends at what the pipeline computes, every table as it was. -/
def Ends : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem tables_held (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every execution from such a memory ends there, every counter at zero. -/
theorem run_main_quiescent (hp : Holds T m) : θ_run (defs (F := Bits)) (onTc (τ := τ) (main (F := Bits))) (s₀ m ρ) (fun r => Ends T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := tables_held T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged at such an end. -/
theorem args_of_ends (hp : Holds T m) (r : PUnit × MemSt nD τ sig (Elt Bits)) (h : Ends T m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 (0 : Fin 5)).trans ((dats T m ρ 0 c).arrAt_in (0 : Fin 5) rfl _), ((h c).2 0).trans (hp.1 c).symm, ((h c).2 1).trans (hp.2 c).symm,
    ((h c).1 (1 : Fin 5)).trans ((dats T m ρ 0 c).arrAt_in (1 : Fin 5) rfl _), ((h c).1 (2 : Fin 5)).trans ((dats T m ρ 0 c).arrAt_in (2 : Fin 5) rfl _),
    ((h c).1 (3 : Fin 5)).trans ((dats T m ρ 0 c).arrAt_in (3 : Fin 5) rfl _)⟩

/-- The frame: the run terminates, its arguments unchanged, every counter at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_ends T m ρ hp r h.1, h.2⟩) (run_main_quiescent T m ρ hp)

/-- The value side: the arguments unchanged and the result's array at the computed contents. -/
theorem run_value (hp : Holds T m) :
    θ_run (defs (F := Bits)) (onTc (τ := τ) (main (F := Bits))) ⟨m, fun _ => 0, ρ⟩ (fun r => ∀ c : Dev nD,
      r.2.mem ((c.tc : Thread nD τ).loc main_v0) = (dats T m ρ 0 c).arrAt (4 : Fin 5) (cfgA T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 (4 : Fin 5), args_of_ends T m ρ hp r h.1 c⟩) (run_main_quiescent T m ρ hp)

end Cert.Kernel.Experts

end
-- ==== Proof.KernelIdealBody.lean ====
/- The body of the grouped expert product, run once per branch on staging buffers with any contents:
   a tile that is used stores the eight 128-lane columns of its product, a tile past the last used one
   stores zeros. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model at this program's instance. -/
local notation "𝕄" => MT nD τ sig Unit (Elt Ideal) ℕ (UR sig nD τ) ℕ

/-- The two tables, as the body's scalar operands. -/
abbrev tabE : Memref sig .tc .smem S138 .i32 := Memref.whole main_arg1
abbrev tabN : Memref sig .tc .smem S1 .i32 := Memref.whole main_arg2

/-- The word the body reads for the number of used tiles. -/
abbrev usedWord (T1 : S1.Idx → Elt Ideal .i32) : BitVec 32 :=
  View.readAt (Elt Ideal) tabN.view (Rect.unit (s := S1) ![0] S1.size inb_S1_S1_0).toLoadRect T1 (Shape.Idx.first (numel1_S1.symm ▸ Nat.one_pos))

/-- One staging buffer of the output, through which a block's contents are stated. -/
abbrev outV : View sig .tc .vmem S4096x128 .f32 := (Memref.whole cc0_stg4_0 : Memref sig .tc .vmem S4096x128 .f32).view

section
variable (c : Dev nD) (i : grid0.Coords)
  (mx : Memref sig .tc .vmem S4096x128 .f32) (hx : mx.IsWhole)
  (ma : Memref sig .tc .vmem S1x1x1024x3584 .bf16) (ha : ma.IsWhole)
  (mb : Memref sig .tc .vmem S1x1x1024x3584 .bf16) (hb : mb.IsWhole)
  (mc : Memref sig .tc .vmem S1x1x3584x1024 .bf16) (hc : mc.IsWhole)
  (mo : Memref sig .tc .vmem S4096x128 .f32) (ho : mo.IsWhole)
  (T0 : S138.Idx → Elt Ideal .i32) (T1 : S1.Idx → Elt Ideal .i32)
  (x : S4096x128.Idx → Elt Ideal .f32) (w1 w3 : S1x1x1024x3584.Idx → Elt Ideal .bf16) (w2 : S1x1x3584x1024.Idx → Elt Ideal .bf16)

/-- What the body holds at its ends beside the output: its four inputs at their blocks and its halves of the tables. -/
abbrev held : sProp 𝕄 :=
  iprop((mx.view.loc (c : Thread nD τ) ↦[mx.view.set]{fullShare} mx.view.rep x)
    ∗ (ma.view.loc (c : Thread nD τ) ↦[ma.view.set]{fullShare} ma.view.rep w1)
    ∗ (mb.view.loc (c : Thread nD τ) ↦[mb.view.set]{fullShare} mb.view.rep w3)
    ∗ (mc.view.loc (c : Thread nD τ) ↦[mc.view.set]{fullShare} mc.view.rep w2)
    ∗ (tabE.view.loc (c : Thread nD τ) ↦{fullShare.right} T0)
    ∗ (tabN.view.loc (c : Thread nD τ) ↦{fullShare.right} T1))

/-- The body, from its inputs and an output at anything, ends with the output at the written pieces `L`. -/
abbrev BodyLeaves (L : List (View.Piece (Elt Ideal) S4096x128 .f32)) : Prop :=
  ∀ K : PUnit → sProp 𝕄,
    iprop(held c mx ma mb mc T0 T1 x w1 w3 w2 ∗ (∃ d, owns (c : Thread nD τ) mo fullShare d)
      ∗ (iprop(held c mx ma mb mc T0 T1 x w1 w3 w2
          ∗ (∃ f, mo.view.loc (c : Thread nD τ) ↦[mo.view.set]{fullShare} mo.view.writes (Elt Ideal) f L)) -∗ K ⟨⟩))
    ⊢ wp frame (wpE (defs₀ (F := Ideal)) Variants.none c none) Set.univ
        (cc0_experts_0 i tabE (Memref.isWhole_whole _) tabN (Memref.isWhole_whole _) mx hx ma ha mb hb mc hc mo ho) K

set_option backward.proofsInPublic true in
set_option maxHeartbeats 8000000 in
/-- A used tile: the pieces its body writes, found by running it. -/
noncomputable def runUsed (h1 : ¬(k0_cond1 i (usedWord T1) = 1#1)) (h2 : k0_cond2 i (usedWord T1) = 1#1) :
    { L : List (View.Piece (Elt Ideal) S4096x128 .f32) // BodyLeaves c i mx hx ma ha mb hb mc hc mo ho T0 T1 x w1 w3 w2 L } :=
  ⟨_, fun K => by
    unfold owns
    rw [cc0_experts_0_eq_skeleton]; unfold cc0_experts_0_skel
    iintro ⟨⟨H0, H1, H2, H3, HT0, HT1⟩, ⟨%d, %f, -, HO⟩, Hk⟩
    have hT0 : tabE.IsWhole := Memref.isWhole_whole _
    have hT1 : tabN.IsWhole := Memref.isWhole_whole _
    sl_exec! (disch := first | (guard_target = ¬(k0_cond1 _ _ = _); exact h1) | (guard_target = k0_cond2 _ _ = _; exact h2))
    sl_step
    iapply Hk
    isplitr [HO]
    · isplitl [H0]; · iexact H0
      isplitl [H1]; · iexact H1
      isplitl [H2]; · iexact H2
      isplitl [H3]; · iexact H3
      isplitl [HT0]; · iexact HT0
      iexact HT1
    · iexists _; iexact HO⟩

set_option backward.proofsInPublic true in
set_option maxHeartbeats 8000000 in
/-- A tile past the last used one. -/
noncomputable def runIdle (h1 : k0_cond1 i (usedWord T1) = 1#1) (h2 : ¬(k0_cond2 i (usedWord T1) = 1#1)) :
    { L : List (View.Piece (Elt Ideal) S4096x128 .f32) // BodyLeaves c i mx hx ma ha mb hb mc hc mo ho T0 T1 x w1 w3 w2 L } :=
  ⟨_, fun K => by
    unfold owns
    rw [cc0_experts_0_eq_skeleton]; unfold cc0_experts_0_skel
    iintro ⟨⟨H0, H1, H2, H3, HT0, HT1⟩, ⟨%d, %f, -, HO⟩, Hk⟩
    have hT0 : tabE.IsWhole := Memref.isWhole_whole _
    have hT1 : tabN.IsWhole := Memref.isWhole_whole _
    sl_exec! (disch := first | (guard_target = k0_cond1 _ _ = _; exact h1) | (guard_target = ¬(k0_cond2 _ _ = _); exact h2))
    sl_step
    iapply Hk
    isplitr [HO]
    · isplitl [H0]; · iexact H0
      isplitl [H1]; · iexact H1
      isplitl [H2]; · iexact H2
      isplitl [H3]; · iexact H3
      isplitl [HT0]; · iexact HT0
      iexact HT1
    · iexists _; iexact HO⟩

/-- The eight lane columns, each a strided set of rows, meet every place of a block. -/
theorem mem_column (y : S4096x128.Idx) (k : ℕ) (hk : (y 0).val % 8 = k) (r : Rect S4096x128)
    (h0 : r.off 0 = k) (h1 : r.off 1 = 0) (s0 : r.stride 0 = 8) (s1 : r.stride 1 = 1) (z0 : r.size 0 = 512) (z1 : r.size 1 = 128) :
    y ∈ r.set := by
  have a0 : (y 0).val < 4096 := (y 0).isLt
  have a1 : (y 1).val < 128 := (y 1).isLt
  refine r.mem_set.mpr fun a => ?_
  match a with
  | ⟨0, _⟩ => exact ⟨(y 0).val / 8, by rw [show r.size ⟨0, _⟩ = 512 from z0]; omega, by
      rw [show r.off ⟨0, _⟩ = k from h0, show r.stride ⟨0, _⟩ = 8 from s0]; show (y 0).val = _; omega⟩
  | ⟨1, _⟩ => exact ⟨(y 1).val, by rw [show r.size ⟨1, _⟩ = 128 from z1]; omega, by
      rw [show r.off ⟨1, _⟩ = 0 from h1, show r.stride ⟨1, _⟩ = 1 from s1]; show (y 1).val = _; omega⟩

theorem coverUsed (h1 : ¬(k0_cond1 i (usedWord T1) = 1#1)) (h2 : k0_cond2 i (usedWord T1) = 1#1) (y : S4096x128.Idx) :
    ∃ p ∈ (runUsed c i mx hx ma ha mb hb mc hc mo ho T0 T1 x w1 w3 w2 h1 h2).1, y ∈ p.1.set := by
  have hk : (y 0).val % 8 < 8 := Nat.mod_lt _ (by decide)
  unfold runUsed
  generalize hm : (y 0).val % 8 = k at hk
  interval_cases k
  · exact ⟨_, .tail _ (.tail _ (.tail _ (.tail _ (.tail _ (.tail _ (.tail _ (.head _))))))), mem_column y 0 hm _ rfl rfl rfl rfl rfl rfl⟩
  · exact ⟨_, .tail _ (.tail _ (.tail _ (.tail _ (.tail _ (.tail _ (.head _)))))), mem_column y 1 hm _ rfl rfl rfl rfl rfl rfl⟩
  · exact ⟨_, .tail _ (.tail _ (.tail _ (.tail _ (.tail _ (.head _))))), mem_column y 2 hm _ rfl rfl rfl rfl rfl rfl⟩
  · exact ⟨_, .tail _ (.tail _ (.tail _ (.tail _ (.head _)))), mem_column y 3 hm _ rfl rfl rfl rfl rfl rfl⟩
  · exact ⟨_, .tail _ (.tail _ (.tail _ (.head _))), mem_column y 4 hm _ rfl rfl rfl rfl rfl rfl⟩
  · exact ⟨_, .tail _ (.tail _ (.head _)), mem_column y 5 hm _ rfl rfl rfl rfl rfl rfl⟩
  · exact ⟨_, .tail _ (.head _), mem_column y 6 hm _ rfl rfl rfl rfl rfl rfl⟩
  · exact ⟨_, .head _, mem_column y 7 hm _ rfl rfl rfl rfl rfl rfl⟩

theorem coverIdle (h1 : k0_cond1 i (usedWord T1) = 1#1) (h2 : ¬(k0_cond2 i (usedWord T1) = 1#1)) (y : S4096x128.Idx) :
    ∃ p ∈ (runIdle c i mx hx ma ha mb hb mc hc mo ho T0 T1 x w1 w3 w2 h1 h2).1, y ∈ p.1.set :=
  View.cover_of_tiledL (runIdle c i mx hx ma ha mb hb mc hc mo ho T0 T1 x w1 w3 w2 h1 h2).1 S4096x128.size (by sl_kernel_rfl) y

/-- What a used tile's body leaves in the output block. -/
def outUsed (h1 : ¬(k0_cond1 i (usedWord T1) = 1#1)) (h2 : k0_cond2 i (usedWord T1) = 1#1) : S4096x128.Idx → Elt Ideal .f32 :=
  outV.read (Elt Ideal) (outV.writes (Elt Ideal) outV.junk (runUsed c i mx hx ma ha mb hb mc hc mo ho T0 T1 x w1 w3 w2 h1 h2).1)

/-- What an unused tile's body leaves there. -/
def outIdle (h1 : k0_cond1 i (usedWord T1) = 1#1) (h2 : ¬(k0_cond2 i (usedWord T1) = 1#1)) : S4096x128.Idx → Elt Ideal .f32 :=
  outV.read (Elt Ideal) (outV.writes (Elt Ideal) outV.junk (runIdle c i mx hx ma ha mb hb mc hc mo ho T0 T1 x w1 w3 w2 h1 h2).1)

end

end Cert.KernelIdeal.Experts

end
-- ==== Proof.KernelIdealRun.lean ====
/- The launch of the grouped expert product at any tables the precondition admits: every grid point's body
   obligation, and what the whole run leaves. -/
module

public import proofs.«01_k».proof.Proof.KernelIdealBody

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model at this program's instance. -/
local notation "𝕄" => MT nD τ sig Unit (Elt Ideal) ℕ (UR sig nD τ) ℕ

/-- The rounds library's resource algebra, embedded whole. -/
abbrev EP : Emb (UR sig nD τ) 𝕄 := emb₁

/-! ## The tables -/

/-- Tables the launch may be handed: the expert of each tile, below eight, and the number of used tiles, at least one
    (as a signed word). -/
structure Tables where
  te : S138.Idx → BitVec 32
  nu : S1.Idx → BitVec 32
  te_lt : ∀ x, (te x).toNat < 8
  nu_pos : ∀ x, 1 ≤ (nu x).toNat
  nu_lt : ∀ x, (nu x).toNat < 2 ^ 31

variable (T : Tables)

/-- The one place of a length-one table. -/
def place : S1.Idx := fun a => ⟨0, by fin_cases a; decide⟩

/-- The number of used tiles. -/
def Tables.n : ℕ := (T.nu place).toNat

theorem Tables.n_pos : 1 ≤ T.n := T.nu_pos _
theorem Tables.n_lt : T.n < 2 ^ 31 := T.nu_lt _

/-- A length-one table has one place. -/
theorem nu_at (x : S1.Idx) : T.nu x = T.nu place := by
  have h : x = place := by
    funext a
    match a with
    | ⟨0, _⟩ => exact Subsingleton.elim (α := Fin 1) _ _
  rw [h]

/-- The tables' contents as the pipeline reads them. -/
def pfT : pre0.Contents (Elt Ideal) := fun | ⟨0, _⟩ => T.te | ⟨1, _⟩ => T.nu | ⟨_ + 2, h⟩ => absurd h (by simp)

theorem coord_lt (i : grid0.Coords) : (i 0).val < 138 := (i 0).isLt

/-- The signed smaller of a tile number and the last used tile, as numbers. -/
theorem minsi_last (k n : ℕ) (v : BitVec 32) (hk : k < 138) (hv : v.toNat = n) (h1 : 1 ≤ n) (h2 : n < 2 ^ 31) :
    (Scalar.minsi (BitVec.ofNat 32 k) (Scalar.subi v 1#32)).toNat = min k (n - 1) := by
  have e1 : (BitVec.ofNat 32 k).toNat = k := by rw [BitVec.toNat_ofNat]; omega
  have e2 : (v - 1#32).toNat = n - 1 := by rw [BitVec.toNat_sub, hv]; simp; omega
  have i1 : (BitVec.ofNat 32 k).toInt = k := by rw [BitVec.toInt_eq_toNat_of_lt (by rw [e1]; omega), e1]
  have i2 : (v - 1#32).toInt = ((n - 1 : ℕ) : ℤ) := by rw [BitVec.toInt_eq_toNat_of_lt (by rw [e2]; omega), e2]
  show (if (BitVec.ofNat 32 k).slt (v - 1#32) then BitVec.ofNat 32 k else v - 1#32).toNat = _
  by_cases h : k < n - 1
  · rw [if_pos (by rw [BitVec.slt_iff_toInt_lt, i1, i2]; exact_mod_cast h), e1]; omega
  · rw [if_neg (by rw [BitVec.slt_iff_toInt_lt, i1, i2]; exact_mod_cast h), e2]; omega

/-- The input block a grid point reads. -/
theorem ix_x (i : grid0.Coords) : cc0_transform_0 (F := Ideal) inb_S1_S1_0 numel1_S1 (pfT T) i = ![min (i 0).val (T.n - 1), 0] := by
  have h := minsi_last (i 0).val T.n (T.nu place) (coord_lt i) rfl T.n_pos T.n_lt
  have e : (pfT T).at 1 (Rect.unit (s := S1) ![0] S1.size inb_S1_S1_0) numel1_S1 = T.nu place := nu_at T _
  unfold cc0_transform_0
  simp only [e, h]
  rfl

theorem ok_x : ∀ i : grid0.Coords, ∃ h : (∀ a, (cc0_transform_0 (F := Ideal) inb_S1_S1_0 numel1_S1 (pfT T) i a + 1) * S4096x128.size a ≤ S565248x128.size a), EltTy.bits .f32 = 32 ∨ (Rect.block (s := S565248x128) S4096x128.size (cc0_transform_0 (F := Ideal) inb_S1_S1_0 numel1_S1 (pfT T) i) h).WholeWords (EltTy.packing .f32) := fun i =>
  ⟨fun a => by
    rw [ix_x T i]
    have := coord_lt i
    match a with
    | ⟨0, _⟩ => show (min (i 0).val (T.n - 1) + 1) * 4096 ≤ 565248; omega
    | ⟨1, _⟩ => show (0 + 1) * 128 ≤ 128; omega, .inl rfl⟩

/-- The word an index map reads of the experts' table. -/
abbrev teAt (i : grid0.Coords) : BitVec 32 :=
  (pfT T).at 0 (Rect.unit (s := S138) ![(Scalar.indexCast (BitVec.ofNat 32 (i 0).val)).toNat] S1.size (k0_off1_inb i)) numel1_S1

theorem teAt_lt (i : grid0.Coords) : (teAt T i).toNat < 8 := T.te_lt _

theorem ix_1 (i : grid0.Coords) : cc0_transform_1 (F := Ideal) k0_off1_inb numel1_S1 (pfT T) i = ![0, (teAt T i).toNat, 0, 0] := rfl
theorem ix_2 (i : grid0.Coords) : cc0_transform_2 (F := Ideal) k0_off1_inb numel1_S1 (pfT T) i = ![0, (teAt T i).toNat, 0, 0] := rfl
theorem ix_3 (i : grid0.Coords) : cc0_transform_3 (F := Ideal) k0_off1_inb numel1_S1 (pfT T) i = ![0, (teAt T i).toNat, 0, 0] := rfl

theorem inb_13 (i : grid0.Coords) (a : Fin 4) : ((![0, (teAt T i).toNat, 0, 0] : Fin 4 → ℕ) a + 1) * S1x1x1024x3584.size a ≤ S2x8x1024x3584.size a := by
  have h := teAt_lt T i
  match a with
  | ⟨0, _⟩ => show (0 + 1) * 1 ≤ 2; omega
  | ⟨1, _⟩ => show ((teAt T i).toNat + 1) * 1 ≤ 8; omega
  | ⟨2, _⟩ => show (0 + 1) * 1024 ≤ 1024; omega
  | ⟨3, _⟩ => show (0 + 1) * 3584 ≤ 3584; omega

theorem inb_2 (i : grid0.Coords) (a : Fin 4) : ((![0, (teAt T i).toNat, 0, 0] : Fin 4 → ℕ) a + 1) * S1x1x3584x1024.size a ≤ S2x8x3584x1024.size a := by
  have h := teAt_lt T i
  match a with
  | ⟨0, _⟩ => show (0 + 1) * 1 ≤ 2; omega
  | ⟨1, _⟩ => show ((teAt T i).toNat + 1) * 1 ≤ 8; omega
  | ⟨2, _⟩ => show (0 + 1) * 3584 ≤ 3584; omega
  | ⟨3, _⟩ => show (0 + 1) * 1024 ≤ 1024; omega

/-- The region's check of the tables it reads passes. -/
theorem okT : ok0 (F := Ideal) (pfT T) :=
  ⟨ok_x T,
   fun i => ⟨inb_13 T i, .inr (Affine.block_words_dvd (s := S2x8x1024x3584) (p := EltTy.packing .bf16) (by decide) (by decide))⟩,
   fun i => ⟨inb_13 T i, .inr (Affine.block_words_dvd (s := S2x8x1024x3584) (p := EltTy.packing .bf16) (by decide) (by decide))⟩,
   fun i => ⟨inb_2 T i, .inr (Affine.block_words_dvd (s := S2x8x3584x1024) (p := EltTy.packing .bf16) (by decide) (by decide))⟩⟩

/-- The admitted tables, and the pipeline at them. -/
def adm : (pcfg0 (F := Ideal)).Adm := ⟨pfT T, okT T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- The launch memory holds these tables. -/
def Holds : Prop :=
  (∀ c : Dev nD, m ((c : Thread nD τ).loc main_arg1) = T.te) ∧ (∀ c : Dev nD, m ((c : Thread nD τ).loc main_arg2) = T.nu)

/-! ## A grid point -/

/-- Point `t`'s coordinates; its one coordinate is `t`. -/
abbrev crd (t : Fin (cfgA T).N) : (cfgA T).grid.Coords := (cfgA T).grid.coords t

theorem crd_val : ∀ t : Fin grid0.N, (grid0.coords t 0).val = t.val := by decide +kernel

abbrev sx (t : Fin (cfgA T).N) : Memref sig .tc .vmem S4096x128 .f32 := spec0_0.stage ((cfgA T).slots t (0 : Fin 5))
abbrev hsx (t : Fin (cfgA T).N) : (sx T t).IsWhole := hstage0_0 (((cfgA T).slots t (0 : Fin 5)).cast nbuf0_0)
abbrev sa (t : Fin (cfgA T).N) : Memref sig .tc .vmem S1x1x1024x3584 .bf16 := spec0_1.stage ((cfgA T).slots t (1 : Fin 5))
abbrev hsa (t : Fin (cfgA T).N) : (sa T t).IsWhole := hstage0_1 (((cfgA T).slots t (1 : Fin 5)).cast nbuf0_1)
abbrev sb (t : Fin (cfgA T).N) : Memref sig .tc .vmem S1x1x1024x3584 .bf16 := spec0_2.stage ((cfgA T).slots t (2 : Fin 5))
abbrev hsb (t : Fin (cfgA T).N) : (sb T t).IsWhole := hstage0_2 (((cfgA T).slots t (2 : Fin 5)).cast nbuf0_2)
abbrev sc (t : Fin (cfgA T).N) : Memref sig .tc .vmem S1x1x3584x1024 .bf16 := spec0_3.stage ((cfgA T).slots t (3 : Fin 5))
abbrev hsc (t : Fin (cfgA T).N) : (sc T t).IsWhole := hstage0_3 (((cfgA T).slots t (3 : Fin 5)).cast nbuf0_3)
abbrev so (t : Fin (cfgA T).N) : Memref sig .tc .vmem S4096x128 .f32 := spec0_4.stage ((cfgA T).slots t (4 : Fin 5))
abbrev hso (t : Fin (cfgA T).N) : (so T t).IsWhole := hstage0_4 (((cfgA T).slots t (4 : Fin 5)).cast nbuf0_4)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-! ## The branch a point takes -/

/-- The word the body reads is the table's one word. -/
theorem usedWord_eq : usedWord T.nu = T.nu place := by
  refine Eq.trans ?_ (nu_at T ((Rect.unit (s := S1) ![0] S1.size inb_S1_S1_0).point numel1_S1))
  rfl

theorem cmp_words (k n : ℕ) (v : BitVec 32) (hk : k < 138) (hv : v.toNat = n) (h2 : n < 2 ^ 31) :
    v.sle (BitVec.ofNat 32 k) = decide (n ≤ k) ∧ (BitVec.ofNat 32 k).slt v = decide (k < n) := by
  have e1 : (BitVec.ofNat 32 k).toNat = k := by rw [BitVec.toNat_ofNat]; omega
  have i1 : (BitVec.ofNat 32 k).toInt = k := by rw [BitVec.toInt_eq_toNat_of_lt (by rw [e1]; omega), e1]
  have i2 : v.toInt = (n : ℤ) := by rw [BitVec.toInt_eq_toNat_of_lt (by rw [hv]; omega), hv]
  constructor
  · rw [Bool.eq_iff_iff, BitVec.sle_iff_toInt_le, i1, i2, decide_eq_true_iff]; exact Int.ofNat_le
  · rw [Bool.eq_iff_iff, BitVec.slt_iff_toInt_lt, i1, i2, decide_eq_true_iff]; exact Int.ofNat_lt

/-- The body takes the zero branch at the tiles past the last used one, -/
theorem cond1_iff (i : grid0.Coords) : k0_cond1 i (T.nu place) = 1#1 ↔ T.n ≤ (i 0).val := by
  have h := (cmp_words (i 0).val T.n (T.nu place) (coord_lt i) rfl T.n_lt).1
  unfold k0_cond1
  simp only [Scalar.cmpi, IntOp.cmpi, Scalar.extui, h]
  by_cases hc : T.n ≤ (i 0).val <;> simp [hc]

/-- the product branch at the used tiles. -/
theorem cond2_iff (i : grid0.Coords) : k0_cond2 i (T.nu place) = 1#1 ↔ (i 0).val < T.n := by
  have h := (cmp_words (i 0).val T.n (T.nu place) (coord_lt i) rfl T.n_lt).2
  unfold k0_cond2
  simp only [Scalar.cmpi, IntOp.cmpi, Scalar.extui, h]
  by_cases hc : (i 0).val < T.n <;> simp [hc]

theorem used1 (t : Fin (cfgA T).N) (h : t.val < T.n) : ¬(k0_cond1 (crd T t) (usedWord T.nu) = 1#1) := by
  rw [usedWord_eq, cond1_iff, show ((crd T t) 0).val = t.val from crd_val t]; omega
theorem used2 (t : Fin (cfgA T).N) (h : t.val < T.n) : k0_cond2 (crd T t) (usedWord T.nu) = 1#1 := by
  rw [usedWord_eq, cond2_iff, show ((crd T t) 0).val = t.val from crd_val t]; exact h
theorem idle1 (t : Fin (cfgA T).N) (h : ¬t.val < T.n) : k0_cond1 (crd T t) (usedWord T.nu) = 1#1 := by
  rw [usedWord_eq, cond1_iff, show ((crd T t) 0).val = t.val from crd_val t]; omega
theorem idle2 (t : Fin (cfgA T).N) (h : ¬t.val < T.n) : ¬(k0_cond2 (crd T t) (usedWord T.nu) = 1#1) := by
  rw [usedWord_eq, cond2_iff, show ((crd T t) 0).val = t.val from crd_val t]; exact h

/-- The body stores into its output at every point, -/
theorem stores (t : Fin (cfgA T).N) : (cfgA T).idle (4 : Fin 5) ((cfgA T).grid.coords t) = false := by
  have e : (pfT T).atD 1 ![0] = T.nu place := by
    unfold Pipeline.Prefetch.Contents.atD
    exact nu_at T _
  show (!(k0_cond1 (crd T t) ((pfT T).atD 1 ![0]) == 1#1) && !(k0_cond2 (crd T t) ((pfT T).atD 1 ![0]) == 1#1)) = false
  rw [e]
  by_cases h : ((crd T t) 0).val < T.n
  · simp [(cond2_iff T (crd T t)).mpr h]
  · simp [(cond1_iff T (crd T t)).mpr (by omega)]

/-- and every point's block is written back: -/
theorem outIx_ne : ∀ t : Fin grid0.N, t.val + 1 = grid0.N ∨ ∃ h : t.val + 1 < grid0.N, ∃ a, cc0_transform_4 (grid0.coords ⟨t.val + 1, h⟩) a ≠ cc0_transform_4 (grid0.coords t) a := by
  decide +kernel

theorem flushes (t : Fin (cfgA T).N) : ((cfgA T).win (4 : Fin 5)).flush t = true := by
  refine (Pipeline.Window.flush_out _ rfl t).mpr ?_
  rcases outIx_ne t with h | ⟨h, a, ha⟩
  · exact .inl h
  · exact .inr ⟨h, fun he => ha (congrFun he a)⟩

/-- so the buffer holds nothing of an earlier point's. -/
theorem fresh_all (t : Fin (cfgA T).N) : (cfgA T).fresh (4 : Fin 5) t.val = true :=
  Pipeline.Cfg.fresh_tab (cfgA T) (4 : Fin 5) (fun _ => true) rfl (fun t => by rw [flushes T t]; rfl) t.val (Nat.le_of_lt t.isLt)

/-! ## The proof data -/

/-- What the body leaves in the output block at point `t`. -/
def outAt (c : Dev nD) (t : Fin (cfgA T).N) : S4096x128.Idx → Elt Ideal .f32 :=
  if h : t.val < T.n then
    outUsed c (crd T t) (sx T t) (hsx T t) (sa T t) (hsa T t) (sb T t) (hsb T t) (sc T t) (hsc T t) (so T t) (hso T t) T.te T.nu
      (iblk T m ρ c (0 : Fin 5) t) (iblk T m ρ c (1 : Fin 5) t) (iblk T m ρ c (2 : Fin 5) t) (iblk T m ρ c (3 : Fin 5) t) (used1 T t h) (used2 T t h)
  else
    outIdle c (crd T t) (sx T t) (hsx T t) (sa T t) (hsa T t) (sb T t) (hsb T t) (sc T t) (hsc T t) (so T t) (hso T t) T.te T.nu
      (iblk T m ρ c (0 : Fin 5) t) (iblk T m ρ c (1 : Fin 5) t) (iblk T m ρ c (2 : Fin 5) t) (iblk T m ρ c (3 : Fin 5) t) (idle1 T t h) (idle2 T t h)

/-- Between points the body keeps its halves of the tables. -/
def Phi (c : Dev nD) : sProp 𝕄 :=
  iprop((tabE.view.loc (c : Thread nD τ) ↦{fullShare.right} T.te) ∗ (tabN.view.loc (c : Thread nD τ) ↦{fullShare.right} T.nu))

/-- The pipeline's proof data on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAt T m ρ c t
  Φ _ := Phi T c
  q _ := fullShare
  owed _ := 0

theorem after0 (c : Dev nD) (t : Fin (cfgA T).N) : (dats T m ρ 0 c).after (0 : Fin 5) t = iblk T m ρ c (0 : Fin 5) t := rfl
theorem after1 (c : Dev nD) (t : Fin (cfgA T).N) : (dats T m ρ 0 c).after (1 : Fin 5) t = iblk T m ρ c (1 : Fin 5) t := rfl
theorem after2 (c : Dev nD) (t : Fin (cfgA T).N) : (dats T m ρ 0 c).after (2 : Fin 5) t = iblk T m ρ c (2 : Fin 5) t := rfl
theorem after3 (c : Dev nD) (t : Fin (cfgA T).N) : (dats T m ρ 0 c).after (3 : Fin 5) t = iblk T m ρ c (3 : Fin 5) t := rfl
theorem after4 (c : Dev nD) (t : Fin (cfgA T).N) : (dats T m ρ 0 c).after (4 : Fin 5) t = outAt T m ρ c t := rfl

/-- Each input's buffer holds its block, fetched at this point or earlier. -/
theorem before0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body obligation -/

/-- The body at point `t`, as the pipeline calls it. -/
abbrev bodyAt (t : Fin (cfgA T).N) : Prog (TpuEff nD τ sig (Elt Ideal) Λ₀ .tc) PUnit :=
  cc0_experts_0 (crd T t) tabE (Memref.isWhole_whole _) tabN (Memref.isWhole_whole _) (sx T t) (hsx T t) (sa T t) (hsa T t) (sb T t) (hsb T t) (sc T t) (hsc T t) (so T t) (hso T t)

/-- A branch's run, from the buffers at their contents to the buffers at what follows. -/
theorem of_leaves (c : Dev nD) (t : Fin (cfgA T).N) (L : List (View.Piece (Elt Ideal) S4096x128 .f32))
    (x : S4096x128.Idx → Elt Ideal .f32) (w1 w3 : S1x1x1024x3584.Idx → Elt Ideal .bf16) (w2 : S1x1x3584x1024.Idx → Elt Ideal .bf16)
    (hL : ∀ y, ∃ p ∈ L, y ∈ p.1.set)
    (hrun : BodyLeaves c (crd T t) (sx T t) (hsx T t) (sa T t) (hsa T t) (sb T t) (hsb T t) (sc T t) (hsc T t) (so T t) (hso T t) T.te T.nu x w1 w3 w2 L)
    (R : sProp 𝕄) :
    iprop(Phi T c ∗ R
        ∗ (∃ d : S4096x128.Idx → Elt Ideal .f32, owns (c : Thread nD τ) (sx T t) fullShare x) ∗ (∃ d : S1x1x1024x3584.Idx → Elt Ideal .bf16, owns (c : Thread nD τ) (sa T t) fullShare w1)
        ∗ (∃ d : S1x1x1024x3584.Idx → Elt Ideal .bf16, owns (c : Thread nD τ) (sb T t) fullShare w3) ∗ (∃ d : S1x1x3584x1024.Idx → Elt Ideal .bf16, owns (c : Thread nD τ) (sc T t) fullShare w2)
        ∗ (∃ d, owns (c : Thread nD τ) (so T t) fullShare d))
      ⊢ wp frame (wpE (defs₀ (F := Ideal)) Variants.none c none) Set.univ (bodyAt T t) fun _ =>
          iprop(Phi T c ∗ R ∗ owns (c : Thread nD τ) (sx T t) fullShare x ∗ owns (c : Thread nD τ) (sa T t) fullShare w1
            ∗ owns (c : Thread nD τ) (sb T t) fullShare w3 ∗ owns (c : Thread nD τ) (sc T t) fullShare w2
            ∗ owns (c : Thread nD τ) (so T t) fullShare (outV.read (Elt Ideal) (outV.writes (Elt Ideal) outV.junk L))) := by
  unfold Phi
  iintro ⟨⟨HT0, HT1⟩, HR, ⟨%d0, H0⟩, ⟨%d1, H1⟩, ⟨%d2, H2⟩, ⟨%d3, H3⟩, ⟨%d4, H4⟩⟩
  iapply hrun _
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  iintro ⟨⟨H0, H1, H2, H3, HT0, HT1⟩, ⟨%e4, H4⟩⟩
  isplitl [HT0 HT1]
  · isplitl [HT0]; · iexact HT0
    iexact HT1
  isplitl [HR]; · iexact HR
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ hL

set_option maxHeartbeats 4000000 in
/-- The library's body obligation at every point. -/
theorem body_obligation (c : Dev nD) : BodyObligation (dats T m ρ 0 c) (defs₀ (F := Ideal)) Variants.none () Set.univ := fun t => by
  rw [bigSep_W0, bigSep_W0]
  rewrite [stores T t]
  simp only [before0, before1, before2, before3, after0, after1, after2, after3, after4]
  rewrite [show (dats T m ρ 0 c).Φ t.succ = Phi T c from rfl, show (dats T m ρ 0 c).Φ t.castSucc = Phi T c from rfl,
      show (dats T m ρ 0 c).owesAt () t.succ = (dats T m ρ 0 c).owesAt () t.castSucc from rfl]
  by_cases h : t.val < T.n
  · have e : outAt T m ρ c t = outUsed c (crd T t) (sx T t) (hsx T t) (sa T t) (hsa T t) (sb T t) (hsb T t) (sc T t) (hsc T t) (so T t) (hso T t) T.te T.nu
      (iblk T m ρ c (0 : Fin 5) t) (iblk T m ρ c (1 : Fin 5) t) (iblk T m ρ c (2 : Fin 5) t) (iblk T m ρ c (3 : Fin 5) t) (used1 T t h) (used2 T t h) := dif_pos h
    rewrite [e]
    have key := of_leaves T c t _ (iblk T m ρ c (0 : Fin 5) t) (iblk T m ρ c (1 : Fin 5) t) (iblk T m ρ c (2 : Fin 5) t) (iblk T m ρ c (3 : Fin 5) t)
      (coverUsed c (crd T t) (sx T t) (hsx T t) (sa T t) (hsa T t) (sb T t) (hsb T t) (sc T t) (hsc T t) (so T t) (hso T t) T.te T.nu
        (iblk T m ρ c (0 : Fin 5) t) (iblk T m ρ c (1 : Fin 5) t) (iblk T m ρ c (2 : Fin 5) t) (iblk T m ρ c (3 : Fin 5) t) (used1 T t h) (used2 T t h))
      (runUsed c (crd T t) (sx T t) (hsx T t) (sa T t) (hsa T t) (sb T t) (hsb T t) (sc T t) (hsc T t) (so T t) (hso T t) T.te T.nu
        (iblk T m ρ c (0 : Fin 5) t) (iblk T m ρ c (1 : Fin 5) t) (iblk T m ρ c (2 : Fin 5) t) (iblk T m ρ c (3 : Fin 5) t) (used1 T t h) (used2 T t h)).2
      ((dats T m ρ 0 c).owesAt () t.castSucc)
    iintro ⟨Hp, Ho, H0, H1, H2, H3, ⟨%d4, H4⟩⟩
    iapply key
    isplitl [Hp]; · iexact Hp
    isplitl [Ho]; · iexact Ho
    isplitl [H0]; · iexact H0
    isplitl [H1]; · iexact H1
    isplitl [H2]; · iexact H2
    isplitl [H3]; · iexact H3
    iexists _; iexact H4
  · have e : outAt T m ρ c t = outIdle c (crd T t) (sx T t) (hsx T t) (sa T t) (hsa T t) (sb T t) (hsb T t) (sc T t) (hsc T t) (so T t) (hso T t) T.te T.nu
      (iblk T m ρ c (0 : Fin 5) t) (iblk T m ρ c (1 : Fin 5) t) (iblk T m ρ c (2 : Fin 5) t) (iblk T m ρ c (3 : Fin 5) t) (idle1 T t h) (idle2 T t h) := dif_neg h
    rewrite [e]
    have key := of_leaves T c t _ (iblk T m ρ c (0 : Fin 5) t) (iblk T m ρ c (1 : Fin 5) t) (iblk T m ρ c (2 : Fin 5) t) (iblk T m ρ c (3 : Fin 5) t)
      (coverIdle c (crd T t) (sx T t) (hsx T t) (sa T t) (hsa T t) (sb T t) (hsb T t) (sc T t) (hsc T t) (so T t) (hso T t) T.te T.nu
        (iblk T m ρ c (0 : Fin 5) t) (iblk T m ρ c (1 : Fin 5) t) (iblk T m ρ c (2 : Fin 5) t) (iblk T m ρ c (3 : Fin 5) t) (idle1 T t h) (idle2 T t h))
      (runIdle c (crd T t) (sx T t) (hsx T t) (sa T t) (hsa T t) (sb T t) (hsb T t) (sc T t) (hsc T t) (so T t) (hso T t) T.te T.nu
        (iblk T m ρ c (0 : Fin 5) t) (iblk T m ρ c (1 : Fin 5) t) (iblk T m ρ c (2 : Fin 5) t) (iblk T m ρ c (3 : Fin 5) t) (idle1 T t h) (idle2 T t h)).2
      ((dats T m ρ 0 c).owesAt () t.castSucc)
    iintro ⟨Hp, Ho, H0, H1, H2, H3, ⟨%d4, H4⟩⟩
    iapply key
    isplitl [Hp]; · iexact Hp
    isplitl [Ho]; · iexact Ho
    isplitl [H0]; · iexact H0
    isplitl [H1]; · iexact H1
    isplitl [H2]; · iexact H2
    isplitl [H3]; · iexact H3
    iexists _; iexact H4

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T c from rfl]
  unfold Phi
  iintro ⟨-, ⟨HT0, HT1⟩, -⟩
  isplitl [HT0]
  · iexact HT0
  iexact HT1

theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T c from rfl]
  unfold Phi
  iintro ⟨-, -⟩
  isplitr; · iempintro
  iempintro

/-- Every array ends at what the pipeline computes, every table as it was. -/
def Ends : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem tables_held (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every execution from such a memory ends there, every counter at zero. -/
theorem run_main_quiescent (hp : Holds T m) : θ_run (defs (F := Ideal)) (onTc (τ := τ) (main (F := Ideal))) (s₀ m ρ) (fun r => Ends T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := tables_held T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged at such an end. -/
theorem args_of_ends (hp : Holds T m) (r : PUnit × MemSt nD τ sig (Elt Ideal)) (h : Ends T m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 (0 : Fin 5)).trans ((dats T m ρ 0 c).arrAt_in (0 : Fin 5) rfl _), ((h c).2 0).trans (hp.1 c).symm, ((h c).2 1).trans (hp.2 c).symm,
    ((h c).1 (1 : Fin 5)).trans ((dats T m ρ 0 c).arrAt_in (1 : Fin 5) rfl _), ((h c).1 (2 : Fin 5)).trans ((dats T m ρ 0 c).arrAt_in (2 : Fin 5) rfl _),
    ((h c).1 (3 : Fin 5)).trans ((dats T m ρ 0 c).arrAt_in (3 : Fin 5) rfl _)⟩

/-- The frame: the run terminates, its arguments unchanged, every counter at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_ends T m ρ hp r h.1, h.2⟩) (run_main_quiescent T m ρ hp)

/-- The value side: the arguments unchanged and the result's array at the computed contents. -/
theorem run_value (hp : Holds T m) :
    θ_run (defs (F := Ideal)) (onTc (τ := τ) (main (F := Ideal))) ⟨m, fun _ => 0, ρ⟩ (fun r => ∀ c : Dev nD,
      r.2.mem ((c.tc : Thread nD τ).loc main_v0) = (dats T m ρ 0 c).arrAt (4 : Fin 5) (cfgA T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 (4 : Fin 5), args_of_ends T m ρ hp r h.1 c⟩) (run_main_quiescent T m ρ hp)

end Cert.KernelIdeal.Experts

end
-- ==== Proof.KernelIdealPre.lean ====
/- What the precondition says: the tables the launch is handed are admitted ones. -/
module

public import proofs.«01_k».proof.Proof.KernelIdealRun
public import proofs.«01_k».proof.Defs
public import proofs.«01_k».proof.Proof.Gen.Pre_table_range
public import Idealize.ShloMosaic.Lib.ReduceAll

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model at this program's instance. -/
local notation "𝕄" => MT nD τ sig Unit (Elt Ideal) ℕ (UR sig nD τ) ℕ

/-- The predicate, read at every entry. -/
theorem entries_of_pre (m : (ℓ : Loc nD τ sig) → Buf (Elt Ideal) ℓ) (h : Cert.Pre_KernelIdeal (hPre_table_range := Cert.Pre_table_range.Gen.facts) m) (c : Dev nD) :
    (∀ x, 0 ≤ (m ((c : Thread nD τ).loc main_arg1) x).toInt) ∧ (∀ x, (m ((c : Thread nD τ).loc main_arg1) x).toInt < 8)
      ∧ ∀ x, 1 ≤ (m ((c : Thread nD τ).loc main_arg2) x).toInt := by
  have and_one : ∀ a b : BitVec 1, IntOp.andi a b = 1#1 ↔ a = 1#1 ∧ b = 1#1 := by decide
  have e := congrFun (h c) (fun a => a.elim0)
  simp only [Pre_table_range.fn, andi, and_one] at e
  obtain ⟨⟨e0, e1⟩, e2⟩ := e
  refine ⟨fun x => ?_, fun x => ?_, fun x => ?_⟩
  · exact IntOp.cmpi_sge.1 (Host.reduce_andi_all _ _ _ _ _ e0 x)
  · exact IntOp.cmpi_slt.1 (Host.reduce_andi_all _ _ _ _ _ e1 x)
  · exact IntOp.cmpi_sge.1 (Host.reduce_andi_all _ _ _ _ _ e2 x)

theorem toNat_of_toInt (v : BitVec 32) (k : ℕ) (h0 : 0 ≤ v.toInt) (hk : v.toInt < k) : v.toNat < k := by
  rw [BitVec.toInt_eq_toNat_cond] at h0 hk
  have := v.isLt
  split at h0 <;> omega

theorem le_toNat (v : BitVec 32) (h : 1 ≤ v.toInt) : 1 ≤ v.toNat ∧ v.toNat < 2 ^ 31 := by
  rw [BitVec.toInt_eq_toNat_cond] at h
  have := v.isLt
  split at h <;> omega

/-- A launch memory the precondition admits holds admitted tables. -/
theorem tables_of_pre (m : (ℓ : Loc nD τ sig) → Buf (Elt Ideal) ℓ) (h : Cert.Pre_KernelIdeal (hPre_table_range := Cert.Pre_table_range.Gen.facts) m) :
    ∃ T : Tables, Holds T m := by
  have hc : ∀ c : Dev nD, c = 0 := fun c => Subsingleton.elim _ _
  obtain ⟨h0, h1, h2⟩ := entries_of_pre m h 0
  exact ⟨⟨m (((0 : Dev nD) : Thread nD τ).loc main_arg1), m (((0 : Dev nD) : Thread nD τ).loc main_arg2),
      fun x => toNat_of_toInt _ 8 (h0 x) (h1 x), fun x => (le_toNat _ (h2 x)).1, fun x => (le_toNat _ (h2 x)).2⟩,
    fun c => by rw [hc c], fun c => by rw [hc c]⟩

end Cert.KernelIdeal.Experts

end
-- ==== Proof.KernelIdealPure.lean ====
/- The expert's arithmetic at one place: what the body's values are in the loaded vectors. -/
module

public import proofs.«01_k».proof.Proof.KernelIdealRun
public import Idealize.ShloMosaic.Lib.Pipeline.ValueKit
public import Idealize.ShloMosaic.Lib.Pointwise

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model at this program's instance. -/
local notation "𝕄" => MT nD τ sig Unit (Elt Ideal) ℕ (UR sig nD τ) ℕ

/-- A row's product with a column of an up projection's chunk. -/
def up (X : FVec Ideal S512x1024 .bf16) (W : FVec Ideal S1x1x1024x512 .bf16) (i k : Fin 512) : EReal :=
  ∑ d : Fin 1024, X (ix2 i d) * W (ix4 0 0 d k)

/-- The gated activation of two such products. -/
def gate (g u : EReal) : EReal := g * Ideal.div 1 (1 + Ideal.exp (-g)) * u

/-- A chunk's share of the down projection. -/
def part (X : FVec Ideal S512x1024 .bf16) (Wa Wb : FVec Ideal S1x1x1024x512 .bf16) (Wc : FVec Ideal S1x1x512x1024 .bf16) (i : Fin 512) (l : Fin 1024) : EReal :=
  ∑ k : Fin 512, gate (up X Wa i k) (up X Wb i k) * Wc (ix4 0 0 k l)

section
variable (X : FVec Ideal S512x1024 .bf16) (a b a' b' : FVec Ideal S1x1x1024x512 .bf16) (w w' : FVec Ideal S1x1x512x1024 .bf16)
  (i : Fin 512) (k : Fin 512) (l : Fin 1024)

theorem pay9_at (v8 v9 v10 v11 v12 v13 v14 v15 : FVec Ideal S512x128 .f32) :
    k0_pay9 (F := Ideal) v8 v9 v10 v11 v12 v13 v14 v15 a b (ix2 i k)
      = gate (up (k0_pay8 v8 v9 v10 v11 v12 v13 v14 v15) a i k) (up (k0_pay8 v8 v9 v10 v11 v12 v13 v14 v15) b i k) := by
  pointwise [k0_pay9, gate, up]
  simp only [zero_sub]

theorem pay10_at (v33 : FVec Ideal S512x512 .bf16) :
    k0_pay10 (F := Ideal) X v33 w a b w' (ix2 i l) = (∑ k : Fin 512, v33 (ix2 i k) * w (ix4 0 0 k l)) + part X a b w' i l := by
  pointwise [k0_pay10, part, gate, up]
  simp only [zero_sub]

theorem pay14_at (v56 : FVec Ideal S512x1024 .f32) :
    k0_pay14 (F := Ideal) X v56 (k0_pay11 X a) (k0_pay12 X b) (k0_pay13 X a) w a' b' w' (ix2 i l)
      = v56 (ix2 i l) + part X a b w i l + part X a' b' w' i l := by
  pointwise [k0_pay14, k0_pay11, k0_pay12, k0_pay13, part, gate, up]
  simp only [zero_sub]

theorem pay15_at (v96 : FVec Ideal S512x1024 .f32) :
    k0_pay15 (F := Ideal) X v96 a b w (ix2 i l) = v96 (ix2 i l) + part X a b w i l := by
  pointwise [k0_pay15, part, gate, up]
  simp only [zero_sub]

theorem pay20_at (v116 : FVec Ideal S512x1024 .f32) :
    k0_pay20 (F := Ideal) X v116 (k0_pay16 X a) (k0_pay17 X b) (k0_pay18 X a) k0_pay19 w a' b' w' (ix2 i l)
      = v116 (ix2 i l) + part X a b w i l + part X a' b' w' i l := by
  pointwise [k0_pay20, k0_pay16, k0_pay17, k0_pay18, k0_pay19, part, gate, up]
  simp only [zero_sub]

end

/-! ## The loads -/

/-- A load of 512 columns of an up projection's block, from column `n` on. -/
def colsFrom (w : FVec Ideal S1x1x1024x3584 .bf16) (n : ℕ) (h : n + 512 ≤ 3584) : FVec Ideal S1x1x1024x512 .bf16 :=
  fun y => w (ix4 0 0 (y 2) ⟨n + (y 3).val, by have : (y 3).val < 512 := (y 3).isLt; omega⟩)

/-- A load of 512 rows of the down projection's block, from row `n` on. -/
def rowsFrom (w : FVec Ideal S1x1x3584x1024 .bf16) (n : ℕ) (h : n + 512 ≤ 3584) : FVec Ideal S1x1x512x1024 .bf16 :=
  fun y => w (ix4 0 0 ⟨n + (y 2).val, by have : (y 2).val < 512 := (y 2).isLt; omega⟩ (y 3))

/-- The block's rows, eight of its 128-lane rows to each. -/
def rowsOf (x : FVec Ideal S4096x128 .f32) : FVec Ideal S512x1024 .bf16 :=
  fun y => x (ix2 ⟨8 * (y 0).val + (y 1).val / 128, by have : (y 0).val < 512 := (y 0).isLt; have : (y 1).val < 1024 := (y 1).isLt; omega⟩
    ⟨(y 1).val % 128, Nat.mod_lt _ (by decide)⟩)

theorem load_cols (ma : Memref sig .tc .vmem S1x1x1024x3584 .bf16) (w : FVec Ideal S1x1x1024x3584 .bf16) (n : ℕ) (h : n + 512 ≤ 3584)
    (inb : ∀ a, (![0, 0, 0, n] : Fin 4 → ℕ) a + S1x1x1024x512.size a ≤ S1x1x1024x3584.size a) :
    View.readAt (Elt Ideal) ma.view (Rect.unit (s := S1x1x1024x3584) ![0, 0, 0, n] S1x1x1024x512.size inb).toLoadRect (ma.view.rep w) = colsFrom w n h := by
  rw [View.readAt_rep]
  funext y
  refine congrArg w (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 0 + 1 * (y 2).val = (y 2).val; omega
  | ⟨3, _⟩ => show n + 1 * (y 3).val = n + (y 3).val; omega

theorem load_rows (mc : Memref sig .tc .vmem S1x1x3584x1024 .bf16) (w : FVec Ideal S1x1x3584x1024 .bf16) (n : ℕ) (h : n + 512 ≤ 3584)
    (inb : ∀ a, (![0, 0, n, 0] : Fin 4 → ℕ) a + S1x1x512x1024.size a ≤ S1x1x3584x1024.size a) :
    View.readAt (Elt Ideal) mc.view (Rect.unit (s := S1x1x3584x1024) ![0, 0, n, 0] S1x1x512x1024.size inb).toLoadRect (mc.view.rep w) = rowsFrom w n h := by
  rw [View.readAt_rep]
  funext y
  refine congrArg w (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show n + 1 * (y 2).val = n + (y 2).val; omega
  | ⟨3, _⟩ => show 0 + 1 * (y 3).val = (y 3).val; omega

/-- One strided load of the block, at a place. -/
theorem load_strided (mx : Memref sig .tc .vmem S4096x128 .f32) (x : FVec Ideal S4096x128 .f32) (k : ℕ) (hk : k < 8)
    (inb : ∀ a, S512x128.size a = 0 ∨ (![k, 0] : Fin 2 → ℕ) a + (![8, 1] : Fin 2 → ℕ) a * (S512x128.size a - 1) < S4096x128.size a) (y : S512x128.Idx) :
    View.readAt (Elt Ideal) mx.view ({ off := ![k, 0], size := S512x128.size, stride := ![8, 1], inb := inb } : LoadRect S4096x128) (mx.view.rep x) y
      = x (ix2 ⟨8 * (y 0).val + k, by have : (y 0).val < 512 := (y 0).isLt; omega⟩ ⟨(y 1).val, (y 1).isLt⟩) := by
  rw [View.readAt_rep]
  refine congrArg x (funext fun a => Fin.ext ?_)
  match a with
  | ⟨0, _⟩ => show k + 8 * (y 0).val = 8 * (y 0).val + k; omega
  | ⟨1, _⟩ => show 0 + 1 * (y 1).val = (y 1).val; omega

theorem load_column (mx : Memref sig .tc .vmem S4096x128 .f32) (x : FVec Ideal S4096x128 .f32) (k : ℕ) (hk : k < 8)
    (inb : ∀ a, S512x128.size a = 0 ∨ (![k, 0] : Fin 2 → ℕ) a + (![8, 1] : Fin 2 → ℕ) a * (S512x128.size a - 1) < S4096x128.size a)
    (y0 : Fin 512) (y1 : Fin 1024) (e : Fin 128) (h : y1.val = 128 * k + e.val) :
    View.readAt (Elt Ideal) mx.view ({ off := ![k, 0], size := S512x128.size, stride := ![8, 1], inb := inb } : LoadRect S4096x128) (mx.view.rep x) (ix2 y0 e)
      = rowsOf x (ix2 y0 y1) := by
  refine (load_strided mx x k hk inb _).trans ?_
  have he := e.isLt
  refine congrArg x (funext fun a => Fin.ext ?_)
  match a with
  | ⟨0, _⟩ => show 8 * y0.val + k = 8 * y0.val + y1.val / 128; omega
  | ⟨1, _⟩ => show e.val = y1.val % 128; omega

/-- Eight lane columns side by side are the rows. -/
theorem joined (R : Fin 512 → Fin 1024 → EReal) (v0 v1 v2 v3 v4 v5 v6 v7 : FVec Ideal S512x128 .f32) (y0 : Fin 512) (y1 : Fin 1024)
    (h0 : ∀ e : Fin 128, y1.val = 128 * 0 + e.val → v0 (ix2 y0 e) = R y0 y1)
    (h1 : ∀ e : Fin 128, y1.val = 128 * 1 + e.val → v1 (ix2 y0 e) = R y0 y1)
    (h2 : ∀ e : Fin 128, y1.val = 128 * 2 + e.val → v2 (ix2 y0 e) = R y0 y1)
    (h3 : ∀ e : Fin 128, y1.val = 128 * 3 + e.val → v3 (ix2 y0 e) = R y0 y1)
    (h4 : ∀ e : Fin 128, y1.val = 128 * 4 + e.val → v4 (ix2 y0 e) = R y0 y1)
    (h5 : ∀ e : Fin 128, y1.val = 128 * 5 + e.val → v5 (ix2 y0 e) = R y0 y1)
    (h6 : ∀ e : Fin 128, y1.val = 128 * 6 + e.val → v6 (ix2 y0 e) = R y0 y1)
    (h7 : ∀ e : Fin 128, y1.val = 128 * 7 + e.val → v7 (ix2 y0 e) = R y0 y1) :
    k0_pay8 (F := Ideal) v0 v1 v2 v3 v4 v5 v6 v7 (ix2 y0 y1) = R y0 y1 := by
  have hy := y1.isLt
  pointwise [k0_pay8]
  by_cases c0 : y1.val < 128
  · rw [dif_pos c0]; exact h0 ⟨y1.val, by omega⟩ (by show y1.val = 128 * 0 + (y1.val); omega)
  rw [dif_neg c0]
  by_cases c1 : y1.val - 128 < 128
  · rw [dif_pos c1]; exact h1 ⟨y1.val - 128, by omega⟩ (by show y1.val = 128 * 1 + (y1.val - 128); omega)
  rw [dif_neg c1]
  by_cases c2 : y1.val - 128 - 128 < 128
  · rw [dif_pos c2]; exact h2 ⟨y1.val - 128 - 128, by omega⟩ (by show y1.val = 128 * 2 + (y1.val - 128 - 128); omega)
  rw [dif_neg c2]
  by_cases c3 : y1.val - 128 - 128 - 128 < 128
  · rw [dif_pos c3]; exact h3 ⟨y1.val - 128 - 128 - 128, by omega⟩ (by show y1.val = 128 * 3 + (y1.val - 128 - 128 - 128); omega)
  rw [dif_neg c3]
  by_cases c4 : y1.val - 128 - 128 - 128 - 128 < 128
  · rw [dif_pos c4]; exact h4 ⟨y1.val - 128 - 128 - 128 - 128, by omega⟩ (by show y1.val = 128 * 4 + (y1.val - 128 - 128 - 128 - 128); omega)
  rw [dif_neg c4]
  by_cases c5 : y1.val - 128 - 128 - 128 - 128 - 128 < 128
  · rw [dif_pos c5]; exact h5 ⟨y1.val - 128 - 128 - 128 - 128 - 128, by omega⟩ (by show y1.val = 128 * 5 + (y1.val - 128 - 128 - 128 - 128 - 128); omega)
  rw [dif_neg c5]
  by_cases c6 : y1.val - 128 - 128 - 128 - 128 - 128 - 128 < 128
  · rw [dif_pos c6]; exact h6 ⟨y1.val - 128 - 128 - 128 - 128 - 128 - 128, by omega⟩ (by show y1.val = 128 * 6 + (y1.val - 128 - 128 - 128 - 128 - 128 - 128); omega)
  rw [dif_neg c6]
  exact h7 ⟨y1.val - 128 - 128 - 128 - 128 - 128 - 128 - 128, by omega⟩ (by show y1.val = 128 * 7 + (y1.val - 128 - 128 - 128 - 128 - 128 - 128 - 128); omega)

theorem loaded_rows (mx : Memref sig .tc .vmem S4096x128 .f32) (x : FVec Ideal S4096x128 .f32) : runUsed.sl.r_1 mx x = rowsOf x := by
  unfold runUsed.sl.r_1
  funext y
  idx_vars y
  exact joined (fun a b => rowsOf x (ix2 a b)) _ _ _ _ _ _ _ _ y0 y1
    (fun e h => load_column mx x 0 (by decide) _ y0 y1 e h)
    (fun e h => load_column mx x 1 (by decide) _ y0 y1 e h)
    (fun e h => load_column mx x 2 (by decide) _ y0 y1 e h)
    (fun e h => load_column mx x 3 (by decide) _ y0 y1 e h)
    (fun e h => load_column mx x 4 (by decide) _ y0 y1 e h)
    (fun e h => load_column mx x 5 (by decide) _ y0 y1 e h)
    (fun e h => load_column mx x 6 (by decide) _ y0 y1 e h)
    (fun e h => load_column mx x 7 (by decide) _ y0 y1 e h)

/-! ## The whole expert -/

/-- Hidden unit `k` of row `i`. -/
def hidden (X : FVec Ideal S512x1024 .bf16) (w1 w3 : FVec Ideal S1x1x1024x3584 .bf16) (i : Fin 512) (k : Fin 3584) : EReal :=
  gate (∑ d : Fin 1024, X (ix2 i d) * w1 (ix4 0 0 d k)) (∑ d : Fin 1024, X (ix2 i d) * w3 (ix4 0 0 d k))

/-- The expert's output `l` of row `i`. -/
def expert (X : FVec Ideal S512x1024 .bf16) (w1 w3 : FVec Ideal S1x1x1024x3584 .bf16) (w2 : FVec Ideal S1x1x3584x1024 .bf16) (i : Fin 512) (l : Fin 1024) : EReal :=
  ∑ k : Fin 3584, hidden X w1 w3 i k * w2 (ix4 0 0 k l)

/-- One chunk is one stretch of the sum over the hidden units. -/
theorem part_chunk (X : FVec Ideal S512x1024 .bf16) (w1 w3 : FVec Ideal S1x1x1024x3584 .bf16) (w2 : FVec Ideal S1x1x3584x1024 .bf16) (i : Fin 512) (l : Fin 1024)
    (c : Fin 7) (n : ℕ) (h : n + 512 ≤ 3584) (hn : n = c.val * 512) :
    part X (colsFrom w1 n h) (colsFrom w3 n h) (rowsFrom w2 n h) i l
      = ∑ t : Fin 512, (fun k : Fin (7 * 512) => hidden X w1 w3 i k * w2 (ix4 0 0 k l)) ⟨c.val * 512 + t.val, by have := c.isLt; have := t.isLt; omega⟩ := by
  subst hn
  rfl

/-- Seven chunks make the whole. -/
theorem expert_chunks (X : FVec Ideal S512x1024 .bf16) (w1 w3 : FVec Ideal S1x1x1024x3584 .bf16) (w2 : FVec Ideal S1x1x3584x1024 .bf16) (i : Fin 512) (l : Fin 1024) :
    part X (colsFrom w1 0 (by decide)) (colsFrom w3 0 (by decide)) (rowsFrom w2 0 (by decide)) i l
      + part X (colsFrom w1 512 (by decide)) (colsFrom w3 512 (by decide)) (rowsFrom w2 512 (by decide)) i l
      + part X (colsFrom w1 1024 (by decide)) (colsFrom w3 1024 (by decide)) (rowsFrom w2 1024 (by decide)) i l
      + part X (colsFrom w1 1536 (by decide)) (colsFrom w3 1536 (by decide)) (rowsFrom w2 1536 (by decide)) i l
      + part X (colsFrom w1 2048 (by decide)) (colsFrom w3 2048 (by decide)) (rowsFrom w2 2048 (by decide)) i l
      + part X (colsFrom w1 2560 (by decide)) (colsFrom w3 2560 (by decide)) (rowsFrom w2 2560 (by decide)) i l
      + part X (colsFrom w1 3072 (by decide)) (colsFrom w3 3072 (by decide)) (rowsFrom w2 3072 (by decide)) i l
      = expert X w1 w3 w2 i l := by
  rw [part_chunk X w1 w3 w2 i l 0 0 (by decide) rfl, part_chunk X w1 w3 w2 i l 1 512 (by decide) rfl, part_chunk X w1 w3 w2 i l 2 1024 (by decide) rfl,
    part_chunk X w1 w3 w2 i l 3 1536 (by decide) rfl, part_chunk X w1 w3 w2 i l 4 2048 (by decide) rfl, part_chunk X w1 w3 w2 i l 5 2560 (by decide) rfl,
    part_chunk X w1 w3 w2 i l 6 3072 (by decide) rfl]
  have e := Fin.sum_univ_tiles 7 512 rfl (fun k : Fin (7 * 512) => hidden X w1 w3 i k * w2 (ix4 0 0 k l))
  rw [Fin.sum_univ_seven] at e
  exact e.symm

section
variable (mx : Memref sig .tc .vmem S4096x128 .f32) (ma mb : Memref sig .tc .vmem S1x1x1024x3584 .bf16) (mc : Memref sig .tc .vmem S1x1x3584x1024 .bf16)
  (x : FVec Ideal S4096x128 .f32) (w1 w3 : FVec Ideal S1x1x1024x3584 .bf16) (w2 : FVec Ideal S1x1x3584x1024 .bf16)

theorem first_hidden (i k : Fin 512) : runUsed.sl.r_2 mx ma mb x w1 w3 (ix2 i k)
    = gate (up (rowsOf x) (colsFrom w1 0 (by decide)) i k) (up (rowsOf x) (colsFrom w3 0 (by decide)) i k) := by
  rw [← loaded_rows mx x, ← load_cols ma w1 0 (by decide) inb_S1x1x1024x3584_S1x1x1024x512_0_0_0_0, ← load_cols mb w3 0 (by decide) inb_S1x1x1024x3584_S1x1x1024x512_0_0_0_0]
  exact pay9_at _ _ i k _ _ _ _ _ _ _ _

theorem first_rows : runUsed.sl.r_3 mc w2 = rowsFrom w2 0 (by decide) :=
  load_rows mc w2 0 (by decide) inb_S1x1x3584x1024_S1x1x512x1024_0_0_0_0

theorem part_loaded (n : ℕ) (h : n + 512 ≤ 3584)
    (ia : ∀ a, (![0, 0, 0, n] : Fin 4 → ℕ) a + S1x1x1024x512.size a ≤ S1x1x1024x3584.size a)
    (ic : ∀ a, (![0, 0, n, 0] : Fin 4 → ℕ) a + S1x1x512x1024.size a ≤ S1x1x3584x1024.size a) (i : Fin 512) (l : Fin 1024) :
    part (runUsed.sl.r_1 mx x)
      (View.readAt (Elt Ideal) ma.view (Rect.unit (s := S1x1x1024x3584) ![0, 0, 0, n] S1x1x1024x512.size ia).toLoadRect (ma.view.rep w1))
      (View.readAt (Elt Ideal) mb.view (Rect.unit (s := S1x1x1024x3584) ![0, 0, 0, n] S1x1x1024x512.size ia).toLoadRect (mb.view.rep w3))
      (View.readAt (Elt Ideal) mc.view (Rect.unit (s := S1x1x3584x1024) ![0, 0, n, 0] S1x1x512x1024.size ic).toLoadRect (mc.view.rep w2)) i l
      = part (rowsOf x) (colsFrom w1 n h) (colsFrom w3 n h) (rowsFrom w2 n h) i l := by
  rw [loaded_rows, load_cols ma w1 n h, load_cols mb w3 n h, load_rows mc w2 n h]

/-- The body's accumulated product is the expert's output. -/
theorem acc_at (i : Fin 512) (l : Fin 1024) : runUsed.sl.r_13 mx ma mb mc x w1 w3 w2 (ix2 i l) = expert (rowsOf x) w1 w3 w2 i l := by
  rw [← expert_chunks]
  unfold runUsed.sl.r_13 runUsed.sl.r_10 runUsed.sl.r_11 runUsed.sl.r_12
  rw [pay20_at]
  unfold runUsed.sl.r_9
  rw [pay15_at]
  unfold runUsed.sl.r_8 runUsed.sl.r_5 runUsed.sl.r_6 runUsed.sl.r_7
  rw [pay14_at]
  unfold runUsed.sl.r_4
  rw [pay10_at]
  refine congrArg₂ (· + ·) ?_ (part_loaded mx ma mb mc x w1 w3 w2 3072 (by decide) _ _ i l)
  refine congrArg₂ (· + ·) ?_ (part_loaded mx ma mb mc x w1 w3 w2 2560 (by decide) _ _ i l)
  refine congrArg₂ (· + ·) ?_ (part_loaded mx ma mb mc x w1 w3 w2 2048 (by decide) _ _ i l)
  refine congrArg₂ (· + ·) ?_ (part_loaded mx ma mb mc x w1 w3 w2 1536 (by decide) _ _ i l)
  refine congrArg₂ (· + ·) ?_ (part_loaded mx ma mb mc x w1 w3 w2 1024 (by decide) _ _ i l)
  refine congrArg₂ (· + ·) ?_ (part_loaded mx ma mb mc x w1 w3 w2 512 (by decide) _ _ i l)
  unfold part
  exact Finset.sum_congr rfl fun k _ => by rw [first_hidden, first_rows]

end

end Cert.KernelIdeal.Experts

end
-- ==== Proof.KernelIdealValue.lean ====
/- The kernel's result: what the body leaves in a block, and the array the launch ends with. -/
module

public import proofs.«01_k».proof.Proof.KernelIdealPure
public import Idealize.ShloMosaic.Lib.Pipeline.Covers

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model at this program's instance. -/
local notation "𝕄" => MT nD τ sig Unit (Elt Ideal) ℕ (UR sig nD τ) ℕ

/-! ## The output block -/

/-- A used tile's block: each place is one expert output of one row. -/
def usedBlock (x : FVec Ideal S4096x128 .f32) (w1 w3 : FVec Ideal S1x1x1024x3584 .bf16) (w2 : FVec Ideal S1x1x3584x1024 .bf16) : S4096x128.Idx → EReal :=
  fun y => expert (rowsOf x) w1 w3 w2 ⟨(y 0).val / 8, by have : (y 0).val < 4096 := (y 0).isLt; omega⟩
    ⟨(y 0).val % 8 * 128 + (y 1).val, by have : (y 1).val < 128 := (y 1).isLt; omega⟩

section
variable (x : FVec Ideal S4096x128 .f32) (w1 w3 : FVec Ideal S1x1x1024x3584 .bf16) (w2 : FVec Ideal S1x1x3584x1024 .bf16)

/-- A column of 128 outputs stored at every eighth row is the block's. -/
theorem column_agrees (k : ℕ) (hk : k < 8) (w : S512x128.Idx → EReal)
    (hw : ∀ (i : Fin 512) (e : Fin 128), w (ix2 i e) = expert (rowsOf x) w1 w3 w2 i ⟨128 * k + e.val, by have := e.isLt; omega⟩)
    (inb : ∀ a, S512x128.size a = 0 ∨ (![k, 0] : Fin 2 → ℕ) a + (![8, 1] : Fin 2 → ℕ) a * (S512x128.size a - 1) < S4096x128.size a)
    (pos : ∀ a, 0 < (![8, 1] : Fin 2 → ℕ) a) (z : S512x128.Idx) :
    w z = usedBlock x w1 w3 w2 ((({ off := ![k, 0], size := S512x128.size, stride := ![8, 1], inb := inb, stride_pos := pos } : Rect S4096x128)).emb z) := by
  obtain ⟨i, e, rfl⟩ : ∃ (i : Fin 512) (e : Fin 128), z = ix2 i e := ⟨z 0, z 1, by idx_vars z⟩
  rw [hw]
  have hi := i.isLt
  have he := e.isLt
  have a0 : ((({ off := ![k, 0], size := S512x128.size, stride := ![8, 1], inb := inb, stride_pos := pos } : Rect S4096x128)).emb (ix2 i e) 0).val = k + 8 * i.val := rfl
  have a1 : ((({ off := ![k, 0], size := S512x128.size, stride := ![8, 1], inb := inb, stride_pos := pos } : Rect S4096x128)).emb (ix2 i e) 1).val = 0 + 1 * e.val := rfl
  unfold usedBlock
  refine congrArg₂ (expert (rowsOf x) w1 w3 w2) (Fin.ext ?_) (Fin.ext ?_)
  · show i.val = (k + 8 * i.val) / 8; omega
  · show 128 * k + e.val = (k + 8 * i.val) % 8 * 128 + (0 + 1 * e.val); omega

variable (c : Dev nD) (i : grid0.Coords)
  (mx : Memref sig .tc .vmem S4096x128 .f32) (hx : mx.IsWhole)
  (ma : Memref sig .tc .vmem S1x1x1024x3584 .bf16) (ha : ma.IsWhole)
  (mb : Memref sig .tc .vmem S1x1x1024x3584 .bf16) (hb : mb.IsWhole)
  (mc : Memref sig .tc .vmem S1x1x3584x1024 .bf16) (hc : mc.IsWhole)
  (mo : Memref sig .tc .vmem S4096x128 .f32) (ho : mo.IsWhole)
  (T0 : S138.Idx → BitVec 32) (T1 : S1.Idx → BitVec 32)

set_option maxHeartbeats 1000000 in
theorem outUsed_eq (h1 : ¬(k0_cond1 i (usedWord T1) = 1#1)) (h2 : k0_cond2 i (usedWord T1) = 1#1) (y : S4096x128.Idx) :
    outUsed c i mx hx ma ha mb hb mc hc mo ho T0 T1 x w1 w3 w2 h1 h2 y = usedBlock x w1 w3 w2 y := by
  unfold outUsed
  refine View.read_writes_apply_of_pieces _ _ (usedBlock x w1 w3 w2) _ ?_ y (coverUsed c i mx hx ma ha mb hb mc hc mo ho T0 T1 x w1 w3 w2 h1 h2 y)
  unfold runUsed
  refine List.forall_mem_cons.mpr ⟨fun z => column_agrees x w1 w3 w2 7 (by decide) _ (fun i e => ?_) _ _ z, ?_⟩
  · refine (?_ : _ = _).trans (acc_at mx ma mb mc x w1 w3 w2 i _)
    pointwise [k0_pay7]
  refine List.forall_mem_cons.mpr ⟨fun z => column_agrees x w1 w3 w2 6 (by decide) _ (fun i e => ?_) _ _ z, ?_⟩
  · refine (?_ : _ = _).trans (acc_at mx ma mb mc x w1 w3 w2 i _)
    pointwise [k0_pay6]
  refine List.forall_mem_cons.mpr ⟨fun z => column_agrees x w1 w3 w2 5 (by decide) _ (fun i e => ?_) _ _ z, ?_⟩
  · refine (?_ : _ = _).trans (acc_at mx ma mb mc x w1 w3 w2 i _)
    pointwise [k0_pay5]
  refine List.forall_mem_cons.mpr ⟨fun z => column_agrees x w1 w3 w2 4 (by decide) _ (fun i e => ?_) _ _ z, ?_⟩
  · refine (?_ : _ = _).trans (acc_at mx ma mb mc x w1 w3 w2 i _)
    pointwise [k0_pay4]
  refine List.forall_mem_cons.mpr ⟨fun z => column_agrees x w1 w3 w2 3 (by decide) _ (fun i e => ?_) _ _ z, ?_⟩
  · refine (?_ : _ = _).trans (acc_at mx ma mb mc x w1 w3 w2 i _)
    pointwise [k0_pay3]
  refine List.forall_mem_cons.mpr ⟨fun z => column_agrees x w1 w3 w2 2 (by decide) _ (fun i e => ?_) _ _ z, ?_⟩
  · refine (?_ : _ = _).trans (acc_at mx ma mb mc x w1 w3 w2 i _)
    pointwise [k0_pay2]
  refine List.forall_mem_cons.mpr ⟨fun z => column_agrees x w1 w3 w2 1 (by decide) _ (fun i e => ?_) _ _ z, ?_⟩
  · refine (?_ : _ = _).trans (acc_at mx ma mb mc x w1 w3 w2 i _)
    unfold runUsed.sl.r_14 runUsed.sl.r_13
    pointwise [k0_pay22]
  refine List.forall_mem_cons.mpr ⟨fun z => column_agrees x w1 w3 w2 0 (by decide) _ (fun i e => ?_) _ _ z, fun _ h => nomatch h⟩
  refine (?_ : _ = _).trans (acc_at mx ma mb mc x w1 w3 w2 i _)
  unfold runUsed.sl.r_13
  pointwise [k0_pay21]

theorem outIdle_eq (h1 : k0_cond1 i (usedWord T1) = 1#1) (h2 : ¬(k0_cond2 i (usedWord T1) = 1#1)) (y : S4096x128.Idx) :
    outIdle c i mx hx ma ha mb hb mc hc mo ho T0 T1 x w1 w3 w2 h1 h2 y = 0 := by
  unfold outIdle
  refine View.read_writes_apply_of_pieces _ _ (fun _ => (0 : EReal)) _ ?_ y (coverIdle c i mx hx ma ha mb hb mc hc mo ho T0 T1 x w1 w3 w2 h1 h2 y)
  unfold runIdle
  refine List.forall_mem_cons.mpr ⟨fun z => ?_, fun _ h => nomatch h⟩
  pointwise [k0_pay1]

end

/-! ## The array -/

/-- Row `r` of the slots, eight 128-lane rows of the array to each. -/
def slotRow (X : S565248x128.Idx → EReal) (r : Fin 70656) (d : Fin 1024) : EReal :=
  X (ix2 ⟨8 * r.val + d.val / 128, by have := r.isLt; have := d.isLt; omega⟩ ⟨d.val % 128, Nat.mod_lt _ (by decide)⟩)

/-- Expert `e` of the first layer's weights at output `l`, of one row. -/
def mix (X : Fin 1024 → EReal) (W1 W3 : S2x8x1024x3584.Idx → EReal) (W2 : S2x8x3584x1024.Idx → EReal) (e : Fin 8) (l : Fin 1024) : EReal :=
  ∑ k : Fin 3584, gate (∑ d : Fin 1024, X d * W1 (ix4 0 e d k)) (∑ d : Fin 1024, X d * W3 (ix4 0 e d k)) * W2 (ix4 0 e k l)

variable (T : Tables)

/-- The expert of tile `t`. -/
def expertOf (t : Fin 138) : Fin 8 := ⟨(T.te (ix1 t)).toNat, T.te_lt _⟩

/-- What the launch leaves in the result: each slot's row through its tile's expert, nothing past the used tiles. -/
def result (X : S565248x128.Idx → EReal) (W1 W3 : S2x8x1024x3584.Idx → EReal) (W2 : S2x8x3584x1024.Idx → EReal) : S565248x128.Idx → EReal :=
  fun j => if (j 0).val / 4096 < T.n then
      mix (slotRow X ⟨(j 0).val / 8, by have : (j 0).val < 565248 := (j 0).isLt; omega⟩) W1 W3 W2
        (expertOf T ⟨(j 0).val / 4096, by have : (j 0).val < 565248 := (j 0).isLt; omega⟩)
        ⟨(j 0).val % 8 * 128 + (j 1).val, by have : (j 1).val < 128 := (j 1).isLt; omega⟩
    else 0

variable (m : (ℓ : Loc nD τ sig) → Buf (Elt Ideal) ℓ) (ρ : Dev nD → PrngReg) (c : Dev nD)

theorem N_eq : (cfgA T).N = 138 := (by decide +kernel : grid0.N = 138)

/-- The word a point's index maps read is its tile's. -/
theorem teAt_eq (t : Fin (cfgA T).N) : (teAt T (crd T t)).toNat = (expertOf T ⟨t.val, by rw [← N_eq T]; exact t.isLt⟩).val := by
  have hc : ((crd T t) 0).val = t.val := crd_val t
  have ht : t.val < 138 := by rw [← N_eq T]; exact t.isLt
  show (T.te _).toNat = (T.te _).toNat
  refine congrArg (fun z => (T.te z).toNat) (funext fun a => Fin.ext ?_)
  match a with
  | ⟨0, _⟩ =>
    show (BitVec.ofNat 32 ((crd T t) 0).val).toNat + 1 * 0 = t.val
    rw [hc, BitVec.toNat_ofNat]; omega

theorem block_x (t : Fin (cfgA T).N) (h : t.val < T.n) (y : S4096x128.Idx) :
    iblk T m ρ c (0 : Fin 5) t y = m ((c.tc : Thread nD τ).loc main_arg0)
      (ix2 ⟨t.val * 4096 + (y 0).val, by have : (y 0).val < 4096 := (y 0).isLt; have := t.isLt; have := N_eq T; omega⟩ ⟨(y 1).val, (y 1).isLt⟩) := by
  have hc : ((crd T t) 0).val = t.val := crd_val t
  refine congrArg (m ((c.tc : Thread nD τ).loc main_arg0)) (funext fun a => Fin.ext ?_)
  match a with
  | ⟨0, _⟩ =>
    show cc0_transform_0 (F := Ideal) inb_S1_S1_0 numel1_S1 (pfT T) (crd T t) 0 * 4096 + 1 * (y 0).val = t.val * 4096 + (y 0).val
    rw [ix_x T]
    show min ((crd T t) 0).val (T.n - 1) * 4096 + 1 * (y 0).val = _
    rw [hc, Nat.min_eq_left (by omega)]; omega
  | ⟨1, _⟩ =>
    show cc0_transform_0 (F := Ideal) inb_S1_S1_0 numel1_S1 (pfT T) (crd T t) 1 * 128 + 1 * (y 1).val = (y 1).val
    rw [ix_x T]
    show 0 * 128 + 1 * (y 1).val = _
    omega

theorem block_1 (t : Fin (cfgA T).N) (d : Fin 1024) (k : Fin 3584) :
    iblk T m ρ c (1 : Fin 5) t (ix4 0 0 d k) = m ((c.tc : Thread nD τ).loc main_arg3) (ix4 0 (expertOf T ⟨t.val, by rw [← N_eq T]; exact t.isLt⟩) d k) := by
  refine congrArg (m ((c.tc : Thread nD τ).loc main_arg3)) (funext fun a => Fin.ext ?_)
  match a with
  | ⟨0, _⟩ => rfl
  | ⟨1, _⟩ =>
    show (teAt T (crd T t)).toNat * 1 + 1 * 0 = _
    rw [teAt_eq]; exact (Nat.add_zero _).trans (Nat.mul_one _)
  | ⟨2, _⟩ => show 0 * 1024 + 1 * d.val = d.val; omega
  | ⟨3, _⟩ => show 0 * 3584 + 1 * k.val = k.val; omega

theorem block_2 (t : Fin (cfgA T).N) (d : Fin 1024) (k : Fin 3584) :
    iblk T m ρ c (2 : Fin 5) t (ix4 0 0 d k) = m ((c.tc : Thread nD τ).loc main_arg4) (ix4 0 (expertOf T ⟨t.val, by rw [← N_eq T]; exact t.isLt⟩) d k) := by
  refine congrArg (m ((c.tc : Thread nD τ).loc main_arg4)) (funext fun a => Fin.ext ?_)
  match a with
  | ⟨0, _⟩ => rfl
  | ⟨1, _⟩ =>
    show (teAt T (crd T t)).toNat * 1 + 1 * 0 = _
    rw [teAt_eq]; exact (Nat.add_zero _).trans (Nat.mul_one _)
  | ⟨2, _⟩ => show 0 * 1024 + 1 * d.val = d.val; omega
  | ⟨3, _⟩ => show 0 * 3584 + 1 * k.val = k.val; omega

theorem block_3 (t : Fin (cfgA T).N) (d : Fin 3584) (k : Fin 1024) :
    iblk T m ρ c (3 : Fin 5) t (ix4 0 0 d k) = m ((c.tc : Thread nD τ).loc main_arg5) (ix4 0 (expertOf T ⟨t.val, by rw [← N_eq T]; exact t.isLt⟩) d k) := by
  refine congrArg (m ((c.tc : Thread nD τ).loc main_arg5)) (funext fun a => Fin.ext ?_)
  match a with
  | ⟨0, _⟩ => rfl
  | ⟨1, _⟩ =>
    show (teAt T (crd T t)).toNat * 1 + 1 * 0 = _
    rw [teAt_eq]; exact (Nat.add_zero _).trans (Nat.mul_one _)
  | ⟨2, _⟩ => show 0 * 3584 + 1 * d.val = d.val; omega
  | ⟨3, _⟩ => show 0 * 1024 + 1 * k.val = k.val; omega

/-- The expert of a used tile's blocks is the whole arrays' expert of the tile. -/
theorem expert_blocks (t : Fin (cfgA T).N) (h : t.val < T.n) (i : Fin 512) (l : Fin 1024) :
    expert (rowsOf (iblk T m ρ c (0 : Fin 5) t)) (iblk T m ρ c (1 : Fin 5) t) (iblk T m ρ c (2 : Fin 5) t) (iblk T m ρ c (3 : Fin 5) t) i l
      = mix (slotRow (m ((c.tc : Thread nD τ).loc main_arg0)) ⟨t.val * 512 + i.val, by have := t.isLt; have := N_eq T; have := i.isLt; omega⟩)
          (m ((c.tc : Thread nD τ).loc main_arg3)) (m ((c.tc : Thread nD τ).loc main_arg4)) (m ((c.tc : Thread nD τ).loc main_arg5))
          (expertOf T ⟨t.val, by rw [← N_eq T]; exact t.isLt⟩) l := by
  have hx : ∀ d : Fin 1024, rowsOf (iblk T m ρ c (0 : Fin 5) t) (ix2 i d)
      = slotRow (m ((c.tc : Thread nD τ).loc main_arg0)) ⟨t.val * 512 + i.val, by have := t.isLt; have := N_eq T; have := i.isLt; omega⟩ d := fun d => by
    refine (block_x T m ρ c t h _).trans (congrArg (m ((c.tc : Thread nD τ).loc main_arg0)) (funext fun a => Fin.ext ?_))
    match a with
    | ⟨0, _⟩ => show t.val * 4096 + (8 * i.val + d.val / 128) = 8 * (t.val * 512 + i.val) + d.val / 128; omega
    | ⟨1, _⟩ => rfl
  unfold expert mix hidden
  refine Finset.sum_congr rfl fun k _ => congrArg₂ (· * ·) (congrArg₂ gate ?_ ?_) (block_3 T m ρ c t k l)
  · exact Finset.sum_congr rfl fun d _ => congrArg₂ (· * ·) (hx d) (block_1 T m ρ c t d k)
  · exact Finset.sum_congr rfl fun d _ => congrArg₂ (· * ·) (hx d) (block_2 T m ρ c t d k)

/-- The output's block at a point is the tile of that number. -/
theorem ix_o : ∀ t : Fin grid0.N, ∀ a, cc0_transform_4 (grid0.coords t) a = (![t.val, 0] : Fin 2 → ℕ) a := by decide +kernel

theorem covers_o : ((cfgA T).win (4 : Fin 5)).Covers := by
  refine Pipeline.Window.covers_of_index_surj _ rfl (fun a => by match a with | ⟨0, _⟩ => exact (by decide : 0 < 4096) | ⟨1, _⟩ => exact (by decide : 0 < 128)) fun β => ?_
  have h0 : (β (0 : Fin 2)).val < 138 := lt_of_lt_of_eq (β (0 : Fin 2)).isLt (by decide : (565248 + 4096 - 1) / 4096 = 138)
  have h1 : (β (1 : Fin 2)).val < 1 := lt_of_lt_of_eq (β (1 : Fin 2)).isLt (by decide : (128 + 128 - 1) / 128 = 1)
  refine ⟨⟨(β (0 : Fin 2)).val, by have := N_eq T; show _ < (cfgA T).N; omega⟩, fun a => ?_⟩
  refine (ix_o _ a).trans ?_
  match a with
  | ⟨0, _⟩ => rfl
  | ⟨1, _⟩ => show 0 = (β (1 : Fin 2)).val; omega

/-- The result array after the launch. -/
theorem final : (dats T m ρ 0 c).arrAt (4 : Fin 5) (cfgA T).N
    = result T (m ((c.tc : Thread nD τ).loc main_arg0)) (m ((c.tc : Thread nD τ).loc main_arg3)) (m ((c.tc : Thread nD τ).loc main_arg4)) (m ((c.tc : Thread nD τ).loc main_arg5)) := by
  refine (dats T m ρ 0 c).arrAt_eq_of_covers (4 : Fin 5) _ (covers_o T) (fun t hf y => ?_) (Memref.isWhole_whole _)
  show outAt T m ρ c t y = _
  have y0 : (y (0 : Fin 2)).val < 4096 := (y (0 : Fin 2)).isLt
  have y1 : (y (1 : Fin 2)).val < 128 := (y (1 : Fin 2)).isLt
  have e0 : (((((cfgA T).win (4 : Fin 5)).blk t).view.emb y) (0 : Fin 2)).val = t.val * 4096 + (y (0 : Fin 2)).val := by
    show cc0_transform_4 (crd T t) 0 * 4096 + 1 * (y (0 : Fin 2)).val = _
    rw [show cc0_transform_4 (crd T t) 0 = t.val from ix_o t 0]; omega
  have e1 : (((((cfgA T).win (4 : Fin 5)).blk t).view.emb y) (1 : Fin 2)).val = (y (1 : Fin 2)).val := by
    show cc0_transform_4 (crd T t) 1 * 128 + 1 * (y (1 : Fin 2)).val = _
    rw [show cc0_transform_4 (crd T t) 1 = 0 from ix_o t 1]; omega
  generalize (((cfgA T).win (4 : Fin 5)).blk t).view.emb y = j at e0 e1
  by_cases h : t.val < T.n
  · unfold outAt
    rw [dif_pos h, outUsed_eq]
    unfold usedBlock
    rw [expert_blocks T m ρ c t h]
    unfold result
    rw [if_pos (by show (j (0 : Fin 2)).val / 4096 < T.n; omega)]
    congr 1
    · refine congrArg _ (Fin.ext ?_); show t.val * 512 + (y (0 : Fin 2)).val / 8 = (j (0 : Fin 2)).val / 8; omega
    · refine congrArg _ (Fin.ext ?_); show t.val = (j (0 : Fin 2)).val / 4096; omega
    · refine Fin.ext ?_; show (y (0 : Fin 2)).val % 8 * 128 + (y (1 : Fin 2)).val = (j (0 : Fin 2)).val % 8 * 128 + (j (1 : Fin 2)).val; omega
  · unfold outAt
    rw [dif_neg h, outIdle_eq]
    unfold result
    rw [if_neg (by show ¬(j (0 : Fin 2)).val / 4096 < T.n; omega)]

end Cert.KernelIdeal.Experts

end
-- ==== Proof.ReferenceIdealValue.lean ====
/- The reference's result at one place: the row's expert, or zero. -/
module

public import proofs.«01_k».proof.Proof.Gen.ReferenceIdeal.Run
public import Idealize.ShloMosaic.Lib.Pointwise

@[expose] public section

set_option maxRecDepth 16384
set_option Elab.async false

noncomputable section

namespace Cert.ReferenceIdeal.Experts

open Cert.ReferenceIdeal Cert.ReferenceIdeal.Gen Cert.ReferenceIdeal.Value
open Idealize.ShloMosaic
open Idealize.ShloMosaic.TcCoe Idealize.ShloMosaic.Tactic
open Idealize.SL Idealize.SL.Sem

/-! ## The row's tile and expert -/

theorem msb_small (k : ℕ) (h : k < 2 ^ 31) : (BitVec.ofNat 32 k).msb = false := by
  rw [BitVec.msb_eq_false_iff_two_mul_lt, BitVec.toNat_ofNat]; omega

theorem div_small (k : ℕ) (h : k < 2 ^ 31) : IntOp.divsi ArithUnit.host (BitVec.ofNat 32 k) 512#32 = BitVec.ofNat 32 (k / 512) := by
  have hc : ¬IntOp.SDivCorner (BitVec.ofNat 32 k) 512#32 := by
    unfold IntOp.SDivCorner
    rintro (h' | ⟨-, h'⟩)
    · exact absurd h' (by decide)
    · exact absurd h' (by decide)
  unfold IntOp.divsi
  rw [if_neg hc]
  unfold BitVec.sdiv
  rw [msb_small k h, show (512#32).msb = false from by decide]
  apply BitVec.eq_of_toNat_eq
  show (BitVec.ofNat 32 k / 512#32).toNat = _
  rw [BitVec.toNat_udiv, BitVec.toNat_ofNat, BitVec.toNat_ofNat, BitVec.toNat_ofNat, Nat.mod_eq_of_lt (show k < 2 ^ 32 by omega),
    Nat.mod_eq_of_lt (show k / 512 < 2 ^ 32 by omega)]

/-- The floor division by 512, as the program computes it. -/
theorem floor_small (k : ℕ) (h : k < 2 ^ 31) :
    Scalar.select
      (IntOp.andi
        (IntOp.cmpi CmpIPredicate.ne
          (if BitVec.ofNat 32 k = 0 then 0 else if (BitVec.ofNat 32 k).msb = true then -1 else 1)
          (1#32))
        (IntOp.cmpi CmpIPredicate.ne (IntOp.remsi ArithUnit.host (BitVec.ofNat 32 k) 512#32) 0#32))
      (IntOp.subi (IntOp.divsi ArithUnit.host (BitVec.ofNat 32 k) 512#32) 1#32)
      (IntOp.divsi ArithUnit.host (BitVec.ofNat 32 k) 512#32) = BitVec.ofNat 32 (k / 512) := by
  rw [div_small k h]
  by_cases h0 : k = 0
  · subst h0; decide
  · have hn : BitVec.ofNat 32 k ≠ 0 := fun e => by
      have := congrArg BitVec.toNat e
      rw [BitVec.toNat_ofNat] at this
      have e0 : (0 : BitVec 32).toNat = 0 := rfl
      omega
    rw [if_neg hn, msb_small k h]
    generalize IntOp.cmpi CmpIPredicate.ne (IntOp.remsi ArithUnit.host (BitVec.ofNat 32 k) 512#32) 0#32 = q
    have : ∀ q : BitVec 1, IntOp.andi (IntOp.cmpi CmpIPredicate.ne (if false = true then -1 else (1 : BitVec 32)) (1#32)) q = 0#1 := by decide
    rw [this q]
    rfl

variable (V0 : Valuation τ sig (Elt Ideal))

/-- The launch contents of the arguments. -/
abbrev slots : S565248x128.Idx → EReal := V0 (Proc.devRef .tc main_arg0)
abbrev table : S138.Idx → BitVec 32 := V0 (Proc.devRef .tc main_arg1)
abbrev count : S1.Idx → BitVec 32 := V0 (Proc.devRef .tc main_arg2)
abbrev gates : S2x8x1024x3584.Idx → EReal := V0 (Proc.devRef .tc main_arg3)
abbrev ups : S2x8x1024x3584.Idx → EReal := V0 (Proc.devRef .tc main_arg4)
abbrev downs : S2x8x3584x1024.Idx → EReal := V0 (Proc.devRef .tc main_arg5)

theorem tile_at (r : Fin 70656) : res_main_v2 V0 (ix1 r) = BitVec.ofNat 32 (r.val / 512) := by
  pointwise [res_main_v2, res_main_v1, res_main_call0_v0, res_main_call0_v2]
  exact floor_small r.val (by have := r.isLt; omega)

/-- The gather reads the table at the index's word. -/
theorem gather_at (x : S138.Idx → BitVec 32) (idx : IVec S70656x1 32) (r : Fin 70656) (t : Fin 138) (h : (idx (ix2 r 0)) = BitVec.ofNat 32 t.val) :
    Host.gather gather_S138_S70656x1_S70656_n_0_n_n_0_1_1 x idx (ix1 r) = x (ix1 t) := by
  refine congrArg x (funext fun a => Fin.ext ?_)
  have ht := t.isLt
  match a with
  | ⟨0, _⟩ =>
    show min (idx _).toInt.toNat (138 - 1) + 0 + 0 = t.val
    rw [show (gather_S138_S70656x1_S70656_n_0_n_n_0_1_1.siIdx (ix1 r) _ : S70656x1.Idx) = ix2 r 0 from funext fun b => Fin.ext (match b with | ⟨0, _⟩ => rfl | ⟨1, _⟩ => rfl), h]
    rw [BitVec.toInt_eq_toNat_of_lt (by rw [BitVec.toNat_ofNat]; omega), BitVec.toNat_ofNat]
    omega

/-- The expert of row `r`: its tile's, or minus one past the used tiles. -/
theorem expert_at (n : ℕ) (hn : ((count V0) (ix1 0)).toNat = n) (hlt : n < 2 ^ 31) (r : Fin 70656) :
    res_main_v13 V0 (ix1 r) = if r.val / 512 < n then table V0 (ix1 ⟨r.val / 512, by have := r.isLt; omega⟩) else 4294967295#32 := by
  have hr := r.isLt
  pointwise [res_main_v13]
  have e1 : (BitVec.ofNat 32 (r.val / 512)).toInt = (r.val / 512 : ℕ) := by
    rw [BitVec.toInt_eq_toNat_of_lt (by rw [BitVec.toNat_ofNat]; omega), BitVec.toNat_ofNat, Nat.mod_eq_of_lt (by omega)]
  have e2 : ((count V0) (ix1 0)).toInt = (n : ℤ) := by rw [BitVec.toInt_eq_toNat_of_lt (by rw [hn]; omega), hn]
  rw [gather_at _ _ r ⟨r.val / 512, by omega⟩ (by
    pointwise
    rw [tile_at]
    have hz : (BitVec.ofNat 32 (r.val / 512)).slt 0#32 = false := by
      rw [Bool.eq_false_iff]
      intro hs
      rw [BitVec.slt_iff_toInt_lt, e1, show (0#32).toInt = 0 from rfl] at hs
      omega
    show Scalar.select (BitVec.ofBool ((BitVec.ofNat 32 (r.val / 512)).slt 0#32)) _ _ = _
    rw [hz]
    rfl)]
  rw [tile_at]
  have hs : (BitVec.ofNat 32 (r.val / 512)).slt ((count V0) (ix1 0)) = decide (r.val / 512 < n) := by
    rw [Bool.eq_iff_iff, BitVec.slt_iff_toInt_lt, e1, e2, decide_eq_true_iff]; exact Int.ofNat_lt
  show Scalar.select (BitVec.ofBool ((BitVec.ofNat 32 (r.val / 512)).slt ((count V0) (ix1 0)))) _ _ = _
  rw [hs]
  by_cases h : r.val / 512 < n
  · rw [if_pos h, decide_eq_true h]; rfl
  · rw [if_neg h, decide_eq_false h]; rfl

/-! ## One expert of one row -/

/-- Row `r` of the slots. -/
def row (X : S565248x128.Idx → EReal) (r : Fin 70656) (d : Fin 1024) : EReal :=
  X (ix2 ⟨8 * r.val + d.val / 128, by have := r.isLt; have := d.isLt; omega⟩ ⟨d.val % 128, Nat.mod_lt _ (by decide)⟩)

/-- Hidden unit `k`'s gate of expert `e`. -/
def pre (r : Fin 70656) (e : Fin 8) (k : Fin 3584) : EReal := ∑ d : Fin 1024, row (slots V0) r d * gates V0 (ix4 0 e d k)

/-- The gated unit of expert `e` at output `l`. -/
def swiglu (r : Fin 70656) (e : Fin 8) (l : Fin 1024) : EReal :=
  ∑ k : Fin 3584, (pre V0 r e k * Ideal.div 1 (1 + Ideal.exp (-pre V0 r e k)) * ∑ d : Fin 1024, row (slots V0) r d * ups V0 (ix4 0 e d k)) * downs V0 (ix4 0 e k l)

theorem zero_at : (id (constant (F := Ideal) S_ .f32 0x00000000#32) ix0 : EReal) = 0 := by
  show constant (F := Ideal) S_ .f32 0x00000000#32 ix0 = (0 : EReal)
  pointwise

theorem rows_at (r : Fin 70656) (d : Fin 1024) : res_main_v0 V0 (ix2 r d) = row (slots V0) r d := by
  pointwise [res_main_v0]
  refine congrArg (slots V0) (funext fun a => Fin.ext ?_)
  match a with
  | ⟨0, _⟩ => show r.val * 8 + d.val / 128 = 8 * r.val + d.val / 128; omega
  | ⟨1, _⟩ => rfl

theorem pre_at_0 (r : Fin 70656) (k : Fin 3584) : res_main_v27 V0 (ix2 r k) = pre V0 r 0 k := by
  pointwise [res_main_v27]
  simp only [rows_at]
  rfl

theorem pre_at_1 (r : Fin 70656) (k : Fin 3584) : res_main_v46 V0 (ix2 r k) = pre V0 r 1 k := by
  pointwise [res_main_v46]
  simp only [rows_at]
  rfl

theorem pre_at_2 (r : Fin 70656) (k : Fin 3584) : res_main_v65 V0 (ix2 r k) = pre V0 r 2 k := by
  pointwise [res_main_v65]
  simp only [rows_at]
  rfl

theorem pre_at_3 (r : Fin 70656) (k : Fin 3584) : res_main_v84 V0 (ix2 r k) = pre V0 r 3 k := by
  pointwise [res_main_v84]
  simp only [rows_at]
  rfl

theorem pre_at_4 (r : Fin 70656) (k : Fin 3584) : res_main_v103 V0 (ix2 r k) = pre V0 r 4 k := by
  pointwise [res_main_v103]
  simp only [rows_at]
  rfl

theorem pre_at_5 (r : Fin 70656) (k : Fin 3584) : res_main_v122 V0 (ix2 r k) = pre V0 r 5 k := by
  pointwise [res_main_v122]
  simp only [rows_at]
  rfl

theorem pre_at_6 (r : Fin 70656) (k : Fin 3584) : res_main_v141 V0 (ix2 r k) = pre V0 r 6 k := by
  pointwise [res_main_v141]
  simp only [rows_at]
  rfl

theorem pre_at_7 (r : Fin 70656) (k : Fin 3584) : res_main_v160 V0 (ix2 r k) = pre V0 r 7 k := by
  pointwise [res_main_v160]
  simp only [rows_at]
  rfl

/-- The first four experts' sum. -/
theorem first_half (r : Fin 70656) (l : Fin 1024) : res_main_v90 V0 (ix2 r l)
    = Scalar.select (IntOp.cmpi CmpIPredicate.eq (res_main_v13 V0 (ix1 r)) 0#32) (swiglu V0 r 0 l) 0 + Scalar.select (IntOp.cmpi CmpIPredicate.eq (res_main_v13 V0 (ix1 r)) 1#32) (swiglu V0 r 1 l) 0 + Scalar.select (IntOp.cmpi CmpIPredicate.eq (res_main_v13 V0 (ix1 r)) 2#32) (swiglu V0 r 2 l) 0 + Scalar.select (IntOp.cmpi CmpIPredicate.eq (res_main_v13 V0 (ix1 r)) 3#32) (swiglu V0 r 3 l) 0 := by
  pointwise [res_main_v90]
  simp only [pre_at_0, pre_at_1, pre_at_2, pre_at_3, rows_at]
  rw [zero_at]
  rfl

/-- All eight experts' sum. -/
theorem all_at (r : Fin 70656) (l : Fin 1024) : res_main_v166 V0 (ix2 r l)
    = Scalar.select (IntOp.cmpi CmpIPredicate.eq (res_main_v13 V0 (ix1 r)) 0#32) (swiglu V0 r 0 l) 0 + Scalar.select (IntOp.cmpi CmpIPredicate.eq (res_main_v13 V0 (ix1 r)) 1#32) (swiglu V0 r 1 l) 0 + Scalar.select (IntOp.cmpi CmpIPredicate.eq (res_main_v13 V0 (ix1 r)) 2#32) (swiglu V0 r 2 l) 0 + Scalar.select (IntOp.cmpi CmpIPredicate.eq (res_main_v13 V0 (ix1 r)) 3#32) (swiglu V0 r 3 l) 0 + Scalar.select (IntOp.cmpi CmpIPredicate.eq (res_main_v13 V0 (ix1 r)) 4#32) (swiglu V0 r 4 l) 0 + Scalar.select (IntOp.cmpi CmpIPredicate.eq (res_main_v13 V0 (ix1 r)) 5#32) (swiglu V0 r 5 l) 0 + Scalar.select (IntOp.cmpi CmpIPredicate.eq (res_main_v13 V0 (ix1 r)) 6#32) (swiglu V0 r 6 l) 0 + Scalar.select (IntOp.cmpi CmpIPredicate.eq (res_main_v13 V0 (ix1 r)) 7#32) (swiglu V0 r 7 l) 0 := by
  pointwise [res_main_v166]
  rw [first_half]
  simp only [pre_at_4, pre_at_5, pre_at_6, pre_at_7, rows_at]
  rw [zero_at]
  rfl

/-- Of eight selected terms the one of the word's number is left. -/
theorem one_of_eight (f : Fin 8 → EReal) (v : BitVec 32) (h : v.toNat < 8) :
    Scalar.select (IntOp.cmpi CmpIPredicate.eq v 0#32) (f 0) 0 + Scalar.select (IntOp.cmpi CmpIPredicate.eq v 1#32) (f 1) 0 + Scalar.select (IntOp.cmpi CmpIPredicate.eq v 2#32) (f 2) 0 + Scalar.select (IntOp.cmpi CmpIPredicate.eq v 3#32) (f 3) 0 + Scalar.select (IntOp.cmpi CmpIPredicate.eq v 4#32) (f 4) 0 + Scalar.select (IntOp.cmpi CmpIPredicate.eq v 5#32) (f 5) 0 + Scalar.select (IntOp.cmpi CmpIPredicate.eq v 6#32) (f 6) 0 + Scalar.select (IntOp.cmpi CmpIPredicate.eq v 7#32) (f 7) 0 = f ⟨v.toNat, h⟩ := by
  obtain ⟨k, hk, rfl⟩ : ∃ k, k < 8 ∧ v = BitVec.ofNat 32 k := ⟨v.toNat, h, by rw [BitVec.ofNat_toNat, BitVec.setWidth_eq]⟩
  interval_cases k <;> simp [Scalar.select, IntOp.cmpi]

theorem none_of_eight (f : Fin 8 → EReal) :
    Scalar.select (IntOp.cmpi CmpIPredicate.eq 4294967295#32 0#32) (f 0) 0 + Scalar.select (IntOp.cmpi CmpIPredicate.eq 4294967295#32 1#32) (f 1) 0 + Scalar.select (IntOp.cmpi CmpIPredicate.eq 4294967295#32 2#32) (f 2) 0 + Scalar.select (IntOp.cmpi CmpIPredicate.eq 4294967295#32 3#32) (f 3) 0 + Scalar.select (IntOp.cmpi CmpIPredicate.eq 4294967295#32 4#32) (f 4) 0 + Scalar.select (IntOp.cmpi CmpIPredicate.eq 4294967295#32 5#32) (f 5) 0 + Scalar.select (IntOp.cmpi CmpIPredicate.eq 4294967295#32 6#32) (f 6) 0 + Scalar.select (IntOp.cmpi CmpIPredicate.eq 4294967295#32 7#32) (f 7) 0 = 0 := by
  simp [Scalar.select, IntOp.cmpi]

/-- The reference's result at a place. -/
theorem result_at (n : ℕ) (hn : ((count V0) (ix1 0)).toNat = n) (hlt : n < 2 ^ 31) (hte : ∀ x, (table V0 x).toNat < 8) (r : Fin 70656) (l : Fin 1024) :
    res_main_v166 V0 (ix2 r l) = if r.val / 512 < n then swiglu V0 r ⟨(table V0 (ix1 ⟨r.val / 512, by have := r.isLt; omega⟩)).toNat, hte _⟩ l else 0 := by
  rw [all_at, expert_at V0 n hn hlt r]
  by_cases h : r.val / 512 < n
  · rw [if_pos h, if_pos h]; exact one_of_eight (fun e => swiglu V0 r e l) _ (hte _)
  · rw [if_neg h, if_neg h]; exact none_of_eight (fun e => swiglu V0 r e l)

end Cert.ReferenceIdeal.Experts

end
-- ==== Proof.Equal.lean ====
/- The two programs' results are equal. -/
module

public import proofs.«01_k».proof.Defs
public import proofs.«01_k».proof.Proof.KernelIdealPre
public import proofs.«01_k».proof.Proof.KernelIdealValue
public import proofs.«01_k».proof.Proof.ReferenceIdealValue

@[expose] public section

set_option maxRecDepth 16384

noncomputable section

namespace Cert.Experts

open Idealize.ShloMosaic
open Idealize.ShloMosaic.TcCoe Idealize.ShloMosaic.Tactic
open Idealize.SL Idealize.SL.Sem
open Cert.ReferenceIdeal.Experts (slots table count gates ups downs)

/-- The reference's result, from arguments that hold the tables, is the kernel's. -/
theorem reference_eq (T : Cert.KernelIdeal.Experts.Tables) (V0 : Valuation Cert.ReferenceIdeal.τ Cert.ReferenceIdeal.sig (Elt Ideal))
    (ht : table V0 = T.te) (hc : count V0 = T.nu) :
    shapeCast Cert.ReferenceIdeal.S565248x128 (Cert.ReferenceIdeal.Value.res_main_v166 V0) Cert.ReferenceIdeal.Gen.shapeCasts_S70656x1024_S565248x128
      = Cert.KernelIdeal.Experts.result T (slots V0) (gates V0) (ups V0) (downs V0) := by
  funext y
  idx_vars y
  have h0 := y0.isLt
  have h1 := y1.isLt
  pointwise
  have hn : ((Cert.ReferenceIdeal.Experts.count V0) (ix1 0)).toNat = T.n := by rw [hc, Cert.KernelIdeal.Experts.nu_at]; rfl
  rw [Cert.ReferenceIdeal.Experts.result_at V0 T.n hn T.n_lt (fun x => by rw [ht]; exact T.te_lt x)]
  unfold Cert.KernelIdeal.Experts.result
  by_cases h : y0.val / 4096 < T.n
  · rw [if_pos (by show y0.val / 8 / 512 < T.n; omega), if_pos (by show y0.val / 4096 < T.n; omega)]
    have e : Cert.ReferenceIdeal.Experts.swiglu V0 ⟨y0.val / 8, by omega⟩ (Cert.KernelIdeal.Experts.expertOf T ⟨y0.val / 4096, by omega⟩) ⟨y0.val % 8 * 128 + y1.val, by omega⟩
        = Cert.KernelIdeal.Experts.mix (Cert.KernelIdeal.Experts.slotRow (slots V0) ⟨y0.val / 8, by omega⟩) (gates V0) (ups V0) (downs V0)
            (Cert.KernelIdeal.Experts.expertOf T ⟨y0.val / 4096, by omega⟩) ⟨y0.val % 8 * 128 + y1.val, by omega⟩ := rfl
    refine Eq.trans ?_ e
    refine congrArg (fun z => Cert.ReferenceIdeal.Experts.swiglu V0 ⟨y0.val / 8, by omega⟩ z ⟨y0.val % 8 * 128 + y1.val, by omega⟩) (Fin.ext ?_)
    show (table V0 (ix1 ⟨y0.val / 8 / 512, _⟩)).toNat = (T.te (ix1 ⟨y0.val / 4096, _⟩)).toNat
    rw [ht]
    refine congrArg (fun z => (T.te (ix1 z)).toNat) (Fin.ext ?_)
    show y0.val / 8 / 512 = y0.val / 4096
    omega
  · rw [if_neg (by show ¬y0.val / 8 / 512 < T.n; omega), if_neg (by show ¬y0.val / 4096 < T.n; omega)]

open Cert.KernelIdeal.Experts in
/-- Both programs run, and end with equal results. -/
theorem algebraic : Cert.algebraic_KernelIdeal_ReferenceIdeal (hKernelIdeal := Cert.KernelIdeal.Gen.facts) (hReferenceIdeal := Cert.ReferenceIdeal.Gen.facts)
    (hPre_table_range := Cert.Pre_table_range.Gen.facts) := by
  intro m g m' g' hpre hagree
  obtain ⟨T, hp⟩ := tables_of_pre m hpre
  refine ⟨fun c => (dats T m g 0 c).arrAt (4 : Fin 5) (cfgA T).N, run_value T m g hp, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5⟩ := hagree c
  refine (reference_eq T (StableHlo.launchContents m' c) (a1.trans (hp.1 c)) (a2.trans (hp.2 c))).trans ?_
  refine Eq.trans ?_ (final T m g c).symm
  rw [show slots (StableHlo.launchContents m' c) = _ from a0, show gates (StableHlo.launchContents m' c) = _ from a3,
    show ups (StableHlo.launchContents m' c) = _ from a4, show downs (StableHlo.launchContents m' c) = _ from a5]

/-- The reference runs, leaves its arguments, and has no counters. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

end Cert.Experts

end
-- ==== Proof.Rows.lean ====
/- The row-wise pieces that the layers' formulas share. -/
module

public import Idealize.ShloMosaic.Lib.Pointwise
public import Idealize.ShloMosaic.Lib.Pipeline.ValueKit
public import Idealize.ShloMosaic.Lib.WholeRead

@[expose] public section

noncomputable section

namespace Cert.Rows

open Idealize.ShloMosaic

/-- The smoothing constant of the norms. -/
abbrev eps : EReal := Ideal.ofBits .f32 0x358637BD#32

/-- The weighted root-mean-square norm of a row, at place `k`; `len` is the row's length as a number. -/
def rms {n : ℕ} (len : EReal) (x w : Fin n → EReal) (k : Fin n) : EReal :=
  x k * Ideal.rsqrt (Ideal.div (∑ j : Fin n, x j * x j) len + eps) * w k

/-- The gated linear unit of one number. -/
def silu (z : EReal) : EReal := z * Ideal.div 1 (1 + Ideal.exp (-z))

/-- The row of the modulation table that belongs to a token: the context's row 2 for the first 256 tokens of a sample, else the sample's. -/
def modRow (r : ℕ) : ℕ := if r % 16640 < 256 then 2 else r / 16640

theorem modRow_lt (r : Fin 33280) : modRow r.val < 8 := by
  have := r.isLt
  unfold modRow
  split <;> omega

/-- The modulation row as a place of the table. -/
def modAt (r : Fin 33280) : Fin 8 := ⟨modRow r.val, modRow_lt r⟩

/-- One place of the SSD mixer's output: the residual plus the gate times the projected, normed, gated sum of the two directions. -/
def outPlace (yf yb z nw wo : Fin 2048 → EReal) (h g : EReal) : EReal :=
  h + g * ∑ k : Fin 2048, rms (Ideal.ofBits .f32 0x45000000#32) (fun k => (yf k + yb k) * silu (z k)) nw k * wo k

theorem outPlace_congr {yf yb z nw wo yf' yb' z' nw' wo' : Fin 2048 → EReal} {h g h' g' : EReal} (e0 : ∀ k, yf k = yf' k) (e1 : ∀ k, yb k = yb' k)
    (e2 : ∀ k, z k = z' k) (e3 : ∀ k, nw k = nw' k) (e4 : ∀ k, wo k = wo' k) (e5 : h = h') (e6 : g = g') :
    outPlace yf yb z nw wo h g = outPlace yf' yb' z' nw' wo' h' g' := by
  rw [funext e0, funext e1, funext e2, funext e3, funext e4, e5, e6]

/-- A load of a rectangle from a whole buffer that holds `X` reads `X` at the place with the rectangle's offset added. -/
theorem load_at {sig : RefSig} {Val : EltTy → Type} {κ : Kind} {sp : Space} {s : Shape} {e : EltTy} {m : Memref sig κ sp s e} (h : m.IsWhole)
    (X : s.Idx → Val e) (off size : Fin s.rank → ℕ) (inb : ∀ a, off a + size a ≤ s.size a)
    (x : (Rect.unit (s := s) off size inb).toLoadRect.shape.Idx) (j : s.Idx) (hj : ∀ a, (j a).val = off a + 1 * (x a).val) :
    View.readAt Val m.view (Rect.unit (s := s) off size inb).toLoadRect (h.unread X) x = X j :=
  (h.readAt_unread X _ x).trans (congrArg X (funext fun a => Fin.ext (hj a).symm))

end Cert.Rows

end
-- ==== Proof.SsdOutBody.lean ====
/- What the body of the output projection leaves in a block of 512 rows. -/
module

public import proofs.«01_k».proof.Proof.Rows
public import proofs.«01_k».proof.Proof.Gen.Kernel2Ideal.Value

@[expose] public section

set_option maxRecDepth 16384
set_option Elab.async false

noncomputable section

namespace Cert.Kernel2Ideal.SsdOut

open Cert.Kernel2Ideal Cert.Kernel2Ideal.Gen
open Idealize.ShloMosaic
open Idealize.ShloMosaic.TcCoe Idealize.ShloMosaic.Tactic
open Idealize.SL Idealize.SL.Sem
open Cert.Rows

section
variable (v3 v5 v8 : FVec Ideal S512x2048 .bf16) (v19 : FVec Ideal S1x1x2048 .f32) (v34 : FVec Ideal S1x2048x1024 .bf16)
  (v61 : FVec Ideal S1x1x1024 .f32) (v63 : FVec Ideal S256x1024 .f32) (i : Fin 256) (l : Fin 1024)

/-- The first 256 rows' store. -/
theorem first_at : k0_pay5 (F := Ideal) (k0_pay4 v3 v5 v8 v19 v34) v61 v63 (ix2 i l)
    = outPlace (fun k => v3 (ix2 ⟨0 + i.val, by omega⟩ k)) (fun k => v5 (ix2 ⟨0 + i.val, by omega⟩ k)) (fun k => v8 (ix2 ⟨0 + i.val, by omega⟩ k))
        (fun k => v19 (ix3 0 0 k)) (fun k => v34 (ix3 0 k l)) (v63 (ix2 i l)) (v61 (ix3 0 0 l)) := by
  pointwise [k0_pay5, k0_pay4, outPlace, rms, silu]
  simp only [zero_sub, Nat.zero_add]

/-- The last 256 rows' store. -/
theorem last_at : k0_pay27 (F := Ideal) (k0_pay4 v3 v5 v8 v19 v34) v61 v63 (ix2 i l)
    = outPlace (fun k => v3 (ix2 ⟨256 + i.val, by omega⟩ k)) (fun k => v5 (ix2 ⟨256 + i.val, by omega⟩ k)) (fun k => v8 (ix2 ⟨256 + i.val, by omega⟩ k))
        (fun k => v19 (ix3 0 0 k)) (fun k => v34 (ix3 0 k l)) (v63 (ix2 i l)) (v61 (ix3 0 0 l)) := by
  pointwise [k0_pay27, k0_pay4, outPlace, rms, silu]
  simp only [zero_sub]
end

/-- The table's row for half `s` of the block at point `t`, and its columns. -/
theorem off_at : ∀ t : Fin grid0.N, ∀ s : Fin 2, k0_off1 (grid0.coords t) (BitVec.ofNat 32 s.val)
    = ![0, modRow (t.val * 512 + s.val * 256), 2048] := by decide +kernel

variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S1x8x6144 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S1x1x1024 .f32) (harg8 : arg8.IsWhole) (arg9 : Memref sig .tc .vmem S1x1024x128 .f32) (harg9 : arg9.IsWhole) (arg10 : Memref sig .tc .vmem S256x256 .bf16) (harg10 : arg10.IsWhole) (arg11 : Memref sig .tc .vmem S512x1024 .f32) (harg11 : arg11.IsWhole) (arg12 : Memref sig .tc .vmem S512x8 .f32) (harg12 : arg12.IsWhole) (arg13 : Memref sig .tc .vmem S8x128 .f32) (harg13 : arg13.IsWhole) (arg14 : Memref sig .tc .vmem S1x128 .f32) (harg14 : arg14.IsWhole)
    (x0 : Vec Ideal S512x2048 .bf16) (x1 : Vec Ideal S512x2048 .bf16) (x2 : Vec Ideal S512x2048 .bf16) (x3 : Vec Ideal S512x1024 .f32) (x4 : Vec Ideal S1x8x6144 .f32) (x5 : Vec Ideal S1x1x2048 .f32) (x6 : Vec Ideal S1x2048x1024 .bf16) (x7 : Vec Ideal S1x1x1024 .f32) (x8 : Vec Ideal S1x1024x128 .f32) (x9 : Vec Ideal S256x256 .bf16)

/-- The block's formula, from the loaded blocks and the number of the grid point. -/
def block (t : Fin grid0.N) : S512x1024.Idx → EReal := fun y =>
  outPlace (fun k => x0 (ix2 (y 0) k)) (fun k => x1 (ix2 (y 0) k)) (fun k => x2 (ix2 (y 0) k)) (fun k => x5 (ix3 0 0 k))
    (fun k => x6 (ix3 0 k (y 1))) (x3 y)
    (x4 (ix3 0 (modAt ⟨t.val * 512 + (y 0).val, by have : (y 0).val < 512 := (y 0).isLt; have : t.val < 65 := t.isLt; omega⟩)
      ⟨2048 + (y 1).val, by have : (y 1).val < 1024 := (y 1).isLt; omega⟩))

/-- The store of the first 256 rows is the block's part. -/
theorem first_half (t : Fin grid0.N) (z : S256x1024.Idx) :
    k0_pay5 (F := Ideal) (k0_pay4 (View.readAt (Elt Ideal) arg1.view (Rect.unit (s := S512x2048) ![0, 0] S512x2048.size inb_S512x2048_S512x2048_0_0).toLoadRect (harg1.unread x0))
        (View.readAt (Elt Ideal) arg2.view (Rect.unit (s := S512x2048) ![0, 0] S512x2048.size inb_S512x2048_S512x2048_0_0).toLoadRect (harg2.unread x1))
        (View.readAt (Elt Ideal) arg3.view (Rect.unit (s := S512x2048) ![0, 0] S512x2048.size inb_S512x2048_S512x2048_0_0).toLoadRect (harg3.unread x2))
        (View.readAt (Elt Ideal) arg6.view (Rect.unit (s := S1x1x2048) ![0, 0, 0] S1x1x2048.size inb_S1x1x2048_S1x1x2048_0_0_0).toLoadRect (harg6.unread x5))
        (View.readAt (Elt Ideal) arg7.view (Rect.unit (s := S1x2048x1024) ![0, 0, 0] S1x2048x1024.size inb_S1x2048x1024_S1x2048x1024_0_0_0).toLoadRect (harg7.unread x6)))
      (View.readAt (Elt Ideal) arg5.view (Rect.unit (s := S1x8x6144) (k0_off1 (grid0.coords t) 0#32) S1x1x1024.size (k0_off1_inb (grid0.coords t) 0)).toLoadRect (harg5.unread x4))
      (View.readAt (Elt Ideal) arg4.view (Rect.unit (s := S512x1024) ![0, 0] S256x1024.size inb_S512x1024_S256x1024_0_0).toLoadRect (harg4.unread x3)) z
      = block x0 x1 x2 x3 x4 x5 x6 t ((Rect.unit (s := S512x1024) ![0, 0] S256x1024.size inb_S512x1024_S256x1024_0_0).emb z) := by
  obtain ⟨i, l, rfl⟩ : ∃ (i : Fin 256) (l : Fin 1024), z = ix2 i l := ⟨z 0, z 1, by idx_vars z⟩
  rw [first_at]
  unfold block
  have e0 : (((Rect.unit (s := S512x1024) ![0, 0] S256x1024.size inb_S512x1024_S256x1024_0_0).emb (ix2 i l)) 0).val = 0 + 1 * i.val := rfl
  have e1 : (((Rect.unit (s := S512x1024) ![0, 0] S256x1024.size inb_S512x1024_S256x1024_0_0).emb (ix2 i l)) 1).val = 0 + 1 * l.val := rfl
  have row : ∀ k : Fin 2048, ∀ a, ((ix2 (((Rect.unit (s := S512x1024) ![0, 0] S256x1024.size inb_S512x1024_S256x1024_0_0).emb (ix2 i l)) 0) k : S512x2048.Idx) a).val
      = (![0, 0] : Fin 2 → ℕ) a + 1 * ((ix2 (⟨0 + i.val, by omega⟩ : Fin 512) k : S512x2048.Idx) a).val := fun k a => by
    match a with
    | ⟨0, _⟩ => show 0 + 1 * i.val = 0 + 1 * (0 + i.val); omega
    | ⟨1, _⟩ => show k.val = 0 + 1 * k.val; omega
  refine outPlace_congr (fun k => load_at harg1 x0 _ _ _ _ _ (row k)) (fun k => load_at harg2 x1 _ _ _ _ _ (row k)) (fun k => load_at harg3 x2 _ _ _ _ _ (row k))
    (fun k => load_at harg6 x5 _ _ _ _ _ fun a => ?_) (fun k => load_at harg7 x6 _ _ _ _ _ fun a => ?_) (load_at harg4 x3 _ _ _ _ _ fun a => ?_) (load_at harg5 x4 _ _ _ _ _ fun a => ?_)
  · match a with
    | ⟨0, _⟩ => rfl
    | ⟨1, _⟩ => rfl
    | ⟨2, _⟩ => show k.val = 0 + 1 * k.val; omega
  · match a with
    | ⟨0, _⟩ => rfl
    | ⟨1, _⟩ => show k.val = 0 + 1 * k.val; omega
    | ⟨2, _⟩ => show 0 + 1 * l.val = 0 + 1 * l.val; rfl
  · match a with
    | ⟨0, _⟩ => rfl
    | ⟨1, _⟩ => rfl
  · refine Eq.trans ?_ (congrArg (fun q => q + 1 * ((ix3 0 0 l : S1x1x1024.Idx) a).val) (congrFun (off_at t 0) a).symm)
    match a with
    | ⟨0, _⟩ => rfl
    | ⟨1, _⟩ =>
      show modRow (t.val * 512 + (0 + 1 * i.val)) = modRow (t.val * 512 + 0 * 256) + 1 * 0
      have := i.isLt
      have := t.isLt
      unfold modRow
      split <;> split <;> omega
    | ⟨2, _⟩ => show 2048 + (0 + 1 * l.val) = 2048 + 1 * l.val; omega

/-- The store of the last 256 rows is the block's part. -/
theorem last_half (t : Fin grid0.N) (z : S256x1024.Idx) :
    k0_pay27 (F := Ideal) (k0_pay4 (View.readAt (Elt Ideal) arg1.view (Rect.unit (s := S512x2048) ![0, 0] S512x2048.size inb_S512x2048_S512x2048_0_0).toLoadRect (harg1.unread x0))
        (View.readAt (Elt Ideal) arg2.view (Rect.unit (s := S512x2048) ![0, 0] S512x2048.size inb_S512x2048_S512x2048_0_0).toLoadRect (harg2.unread x1))
        (View.readAt (Elt Ideal) arg3.view (Rect.unit (s := S512x2048) ![0, 0] S512x2048.size inb_S512x2048_S512x2048_0_0).toLoadRect (harg3.unread x2))
        (View.readAt (Elt Ideal) arg6.view (Rect.unit (s := S1x1x2048) ![0, 0, 0] S1x1x2048.size inb_S1x1x2048_S1x1x2048_0_0_0).toLoadRect (harg6.unread x5))
        (View.readAt (Elt Ideal) arg7.view (Rect.unit (s := S1x2048x1024) ![0, 0, 0] S1x2048x1024.size inb_S1x2048x1024_S1x2048x1024_0_0_0).toLoadRect (harg7.unread x6)))
      (View.readAt (Elt Ideal) arg5.view (Rect.unit (s := S1x8x6144) (k0_off1 (grid0.coords t) 1#32) S1x1x1024.size (k0_off1_inb (grid0.coords t) 1)).toLoadRect (harg5.unread x4))
      (View.readAt (Elt Ideal) arg4.view (Rect.unit (s := S512x1024) ![256, 0] S256x1024.size inb_S512x1024_S256x1024_256_0).toLoadRect (harg4.unread x3)) z
      = block x0 x1 x2 x3 x4 x5 x6 t ((Rect.unit (s := S512x1024) ![256, 0] S256x1024.size inb_S512x1024_S256x1024_256_0).emb z) := by
  obtain ⟨i, l, rfl⟩ : ∃ (i : Fin 256) (l : Fin 1024), z = ix2 i l := ⟨z 0, z 1, by idx_vars z⟩
  rw [last_at]
  unfold block
  have e0 : (((Rect.unit (s := S512x1024) ![256, 0] S256x1024.size inb_S512x1024_S256x1024_256_0).emb (ix2 i l)) 0).val = 256 + 1 * i.val := rfl
  have e1 : (((Rect.unit (s := S512x1024) ![256, 0] S256x1024.size inb_S512x1024_S256x1024_256_0).emb (ix2 i l)) 1).val = 0 + 1 * l.val := rfl
  have row : ∀ k : Fin 2048, ∀ a, ((ix2 (((Rect.unit (s := S512x1024) ![256, 0] S256x1024.size inb_S512x1024_S256x1024_256_0).emb (ix2 i l)) 0) k : S512x2048.Idx) a).val
      = (![0, 0] : Fin 2 → ℕ) a + 1 * ((ix2 (⟨256 + i.val, by omega⟩ : Fin 512) k : S512x2048.Idx) a).val := fun k a => by
    match a with
    | ⟨0, _⟩ => show 256 + 1 * i.val = 0 + 1 * (256 + i.val); omega
    | ⟨1, _⟩ => show k.val = 0 + 1 * k.val; omega
  refine outPlace_congr (fun k => load_at harg1 x0 _ _ _ _ _ (row k)) (fun k => load_at harg2 x1 _ _ _ _ _ (row k)) (fun k => load_at harg3 x2 _ _ _ _ _ (row k))
    (fun k => load_at harg6 x5 _ _ _ _ _ fun a => ?_) (fun k => load_at harg7 x6 _ _ _ _ _ fun a => ?_) (load_at harg4 x3 _ _ _ _ _ fun a => ?_) (load_at harg5 x4 _ _ _ _ _ fun a => ?_)
  · match a with
    | ⟨0, _⟩ => rfl
    | ⟨1, _⟩ => rfl
    | ⟨2, _⟩ => show k.val = 0 + 1 * k.val; omega
  · match a with
    | ⟨0, _⟩ => rfl
    | ⟨1, _⟩ => show k.val = 0 + 1 * k.val; omega
    | ⟨2, _⟩ => show 0 + 1 * l.val = 0 + 1 * l.val; rfl
  · match a with
    | ⟨0, _⟩ => rfl
    | ⟨1, _⟩ => rfl
  · refine Eq.trans ?_ (congrArg (fun q => q + 1 * ((ix3 0 0 l : S1x1x1024.Idx) a).val) (congrFun (off_at t 1) a).symm)
    match a with
    | ⟨0, _⟩ => rfl
    | ⟨1, _⟩ =>
      show modRow (t.val * 512 + (256 + 1 * i.val)) = modRow (t.val * 512 + 1 * 256) + 1 * 0
      have := i.isLt
      have := t.isLt
      unfold modRow
      split <;> split <;> omega
    | ⟨2, _⟩ => show 2048 + (0 + 1 * l.val) = 2048 + 1 * l.val; omega

theorem outA_eq (t : Fin grid0.N) (hc0 : cond0_0 (grid0.coords t)) (y : S512x1024.Idx) :
    out0_A_10 c (grid0.coords t) arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 y = block x0 x1 x2 x3 x4 x5 x6 t y := by
  unfold out0_A_10
  refine View.read_writes_apply_of_pieces _ _ (block x0 x1 x2 x3 x4 x5 x6 t) _ ?_ y (cover0_A_10 c (grid0.coords t) arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 y)
  unfold kernelRun0_A
  exact List.forall_mem_cons.mpr ⟨fun z => last_half arg1 harg1 arg2 harg2 arg3 harg3 arg4 harg4 arg5 harg5 arg6 harg6 arg7 harg7 x0 x1 x2 x3 x4 x5 x6 t z,
    List.forall_mem_cons.mpr ⟨fun z => first_half arg1 harg1 arg2 harg2 arg3 harg3 arg4 harg4 arg5 harg5 arg6 harg6 arg7 harg7 x0 x1 x2 x3 x4 x5 x6 t z, fun _ h => nomatch h⟩⟩

theorem outB_eq (t : Fin grid0.N) (hc0 : ¬cond0_0 (grid0.coords t)) (xs0 : Vec Ideal S1x128 .f32) (y : S512x1024.Idx) :
    out0_B_10 c (grid0.coords t) arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 y = block x0 x1 x2 x3 x4 x5 x6 t y := by
  unfold out0_B_10
  refine View.read_writes_apply_of_pieces _ _ (block x0 x1 x2 x3 x4 x5 x6 t) _ ?_ y (cover0_B_10 c (grid0.coords t) arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 y)
  unfold kernelRun0_B
  exact List.forall_mem_cons.mpr ⟨fun z => last_half arg1 harg1 arg2 harg2 arg3 harg3 arg4 harg4 arg5 harg5 arg6 harg6 arg7 harg7 x0 x1 x2 x3 x4 x5 x6 t z,
    List.forall_mem_cons.mpr ⟨fun z => first_half arg1 harg1 arg2 harg2 arg3 harg3 arg4 harg4 arg5 harg5 arg6 harg6 arg7 harg7 x0 x1 x2 x3 x4 x5 x6 t z, fun _ h => nomatch h⟩⟩

end Cert.Kernel2Ideal.SsdOut

end
-- ==== Proof.SsdOutReference.lean ====
/- What the reference of the output projection computes, row by row. -/
module

public import proofs.«01_k».proof.Proof.Rows
public import proofs.«01_k».proof.Proof.Gen.Reference2Ideal.Run

@[expose] public section

set_option maxRecDepth 16384
set_option Elab.async false

noncomputable section

namespace Cert.Reference2Ideal.SsdOut

open Cert.Reference2Ideal Cert.Reference2Ideal.Gen
open Idealize.ShloMosaic
open Idealize.ShloMosaic.TcCoe Idealize.ShloMosaic.Tactic
open Idealize.SL Idealize.SL.Sem
open Cert.Rows

variable (m : (ℓ : Loc nD τ sig) → Buf (Elt Ideal) ℓ) (ρ : Dev nD → PrngReg)

/-- The result's formula in the arguments. -/
def result (c : Dev nD) (r : Fin 33280) (l : Fin 1024) : EReal :=
  outPlace (fun k => m ((c.tc : Thread nD τ).loc main_arg0) (ix2 r k)) (fun k => m ((c.tc : Thread nD τ).loc main_arg1) (ix2 r k))
    (fun k => m ((c.tc : Thread nD τ).loc main_arg2) (ix2 r k)) (fun k => m ((c.tc : Thread nD τ).loc main_arg5) (ix3 0 0 k))
    (fun k => m ((c.tc : Thread nD τ).loc main_arg6) (ix3 0 k l)) (m ((c.tc : Thread nD τ).loc main_arg3) (ix2 r l))
    (m ((c.tc : Thread nD τ).loc main_arg4) (ix3 1 (modAt r) ⟨2048 + l.val, by omega⟩))

/-- The run, with the result as that formula, and the arguments kept. -/
theorem run_rows : θ_run defs (onTc (τ := τ) (main (F := Ideal))) ⟨m, fun _ => 0, ρ⟩ fun r => ∀ c : Dev nD,
    r.2.mem ((c.tc : Thread nD τ).loc main_v36) = (fun j => result m c (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ⟨?_, (h c).2⟩) (Value.run m ρ)
  refine (h c).1.trans (funext fun j => ?_)
  idx_vars j
  pointwise [result, outPlace, rms, silu]
  refine congrArg₂ (· + ·) rfl (congrArg₂ (· * ·) ?_ rfl)
  have h0 := j0.isLt
  by_cases h : j0.val % 16640 < 256
  · rw [dif_pos h]
    refine congrArg (fun q => m ((c.tc : Thread nD τ).loc main_arg4) (ix3 1 q ⟨2048 + j1.val, by omega⟩)) (Fin.ext ?_)
    exact (if_pos h).symm
  · rw [dif_neg h]
    refine congrArg (fun q => m ((c.tc : Thread nD τ).loc main_arg4) (ix3 1 q ⟨2048 + j1.val, by omega⟩)) (Fin.ext ?_)
    exact (if_neg h).symm

end Cert.Reference2Ideal.SsdOut

end
-- ==== Proof.SsdOutValue.lean ====
/- The output projection's first result array, and its equality with the reference's. -/
module

public import proofs.«01_k».proof.Defs
public import proofs.«01_k».proof.Proof.Rows
public import proofs.«01_k».proof.Proof.SsdOutBody
public import proofs.«01_k».proof.Proof.SsdOutReference
public import proofs.«01_k».proof.Proof.Gen.Kernel2Ideal.Value

@[expose] public section

set_option maxRecDepth 16384

noncomputable section

namespace Cert.Kernel2Ideal.SsdOut

open Idealize.ShloMosaic
open Idealize.ShloMosaic.TcCoe Idealize.ShloMosaic.Tactic
open Idealize.SL Idealize.SL.Sem
open Cert.Kernel2Ideal Cert.Kernel2Ideal.Gen Cert.Rows

variable (m : (ℓ : Loc nD τ sig) → Buf (Elt Ideal) ℓ) (c : Dev nD)

theorem ix0 : ∀ t : Fin grid0.N, ∀ a, win0_0.index t a = (![t.val, 0] : Fin 2 → ℕ) a := by decide +kernel
theorem ix1 : ∀ t : Fin grid0.N, ∀ a, win0_1.index t a = (![t.val, 0] : Fin 2 → ℕ) a := by decide +kernel
theorem ix2' : ∀ t : Fin grid0.N, ∀ a, win0_2.index t a = (![t.val, 0] : Fin 2 → ℕ) a := by decide +kernel
theorem ix3' : ∀ t : Fin grid0.N, ∀ a, win0_3.index t a = (![t.val, 0] : Fin 2 → ℕ) a := by decide +kernel
theorem ix4 : ∀ t : Fin grid0.N, ∀ a, win0_4.index t a = (![1, 0, 0] : Fin 3 → ℕ) a := by decide +kernel
theorem ix5 : ∀ t : Fin grid0.N, ∀ a, win0_5.index t a = (![0, 0, 0] : Fin 3 → ℕ) a := by decide +kernel
theorem ix6 : ∀ t : Fin grid0.N, ∀ a, win0_6.index t a = (![0, 0, 0] : Fin 3 → ℕ) a := by decide +kernel
theorem ix10 : ∀ t : Fin grid0.N, ∀ a, win0_10.index t a = (![t.val, 0] : Fin 2 → ℕ) a := by decide +kernel

variable (t : Fin grid0.N)

theorem blk0 (y : S512x2048.Idx) (j : S33280x2048.Idx) (h0 : (j 0).val = t.val * 512 + (y 0).val) (h1 : (j 1).val = (y 1).val) :
    iblk m c 0 t y = m ((c.tc : Thread nD τ).loc main_arg0) j := by
  refine congrArg (m ((c.tc : Thread nD τ).loc main_arg0)) (funext fun a => Fin.ext ?_)
  match a with
  | ⟨0, _⟩ => show win0_0.index t 0 * 512 + 1 * (y 0).val = (j 0).val; rw [ix0 t 0, h0]; show t.val * 512 + _ = _; omega
  | ⟨1, _⟩ => show win0_0.index t 1 * 2048 + 1 * (y 1).val = (j 1).val; rw [ix0 t 1, h1]; show 0 * 2048 + _ = _; omega

theorem blk1 (y : S512x2048.Idx) (j : S33280x2048.Idx) (h0 : (j 0).val = t.val * 512 + (y 0).val) (h1 : (j 1).val = (y 1).val) :
    iblk m c 1 t y = m ((c.tc : Thread nD τ).loc main_arg1) j := by
  refine congrArg (m ((c.tc : Thread nD τ).loc main_arg1)) (funext fun a => Fin.ext ?_)
  match a with
  | ⟨0, _⟩ => show win0_1.index t 0 * 512 + 1 * (y 0).val = (j 0).val; rw [ix1 t 0, h0]; show t.val * 512 + _ = _; omega
  | ⟨1, _⟩ => show win0_1.index t 1 * 2048 + 1 * (y 1).val = (j 1).val; rw [ix1 t 1, h1]; show 0 * 2048 + _ = _; omega

theorem blk2 (y : S512x2048.Idx) (j : S33280x2048.Idx) (h0 : (j 0).val = t.val * 512 + (y 0).val) (h1 : (j 1).val = (y 1).val) :
    iblk m c 2 t y = m ((c.tc : Thread nD τ).loc main_arg2) j := by
  refine congrArg (m ((c.tc : Thread nD τ).loc main_arg2)) (funext fun a => Fin.ext ?_)
  match a with
  | ⟨0, _⟩ => show win0_2.index t 0 * 512 + 1 * (y 0).val = (j 0).val; rw [ix2' t 0, h0]; show t.val * 512 + _ = _; omega
  | ⟨1, _⟩ => show win0_2.index t 1 * 2048 + 1 * (y 1).val = (j 1).val; rw [ix2' t 1, h1]; show 0 * 2048 + _ = _; omega

theorem blk3 (y : S512x1024.Idx) (j : S33280x1024.Idx) (h0 : (j 0).val = t.val * 512 + (y 0).val) (h1 : (j 1).val = (y 1).val) :
    iblk m c 3 t y = m ((c.tc : Thread nD τ).loc main_arg3) j := by
  refine congrArg (m ((c.tc : Thread nD τ).loc main_arg3)) (funext fun a => Fin.ext ?_)
  match a with
  | ⟨0, _⟩ => show win0_3.index t 0 * 512 + 1 * (y 0).val = (j 0).val; rw [ix3' t 0, h0]; show t.val * 512 + _ = _; omega
  | ⟨1, _⟩ => show win0_3.index t 1 * 1024 + 1 * (y 1).val = (j 1).val; rw [ix3' t 1, h1]; show 0 * 1024 + _ = _; omega

theorem blk4 (y : S1x8x6144.Idx) (j : S4x8x6144.Idx) (h0 : (j 0).val = 1) (h1 : (j 1).val = (y 1).val) (h2 : (j 2).val = (y 2).val) :
    iblk m c 4 t y = m ((c.tc : Thread nD τ).loc main_arg4) j := by
  refine congrArg (m ((c.tc : Thread nD τ).loc main_arg4)) (funext fun a => Fin.ext ?_)
  have y0 : (y 0).val < 1 := (y 0).isLt
  match a with
  | ⟨0, _⟩ => show win0_4.index t 0 * 1 + 1 * (y 0).val = (j 0).val; rw [ix4 t 0, h0]; show 1 * 1 + _ = _; omega
  | ⟨1, _⟩ => show win0_4.index t 1 * 8 + 1 * (y 1).val = (j 1).val; rw [ix4 t 1, h1]; show 0 * 8 + _ = _; omega
  | ⟨2, _⟩ => show win0_4.index t 2 * 6144 + 1 * (y 2).val = (j 2).val; rw [ix4 t 2, h2]; show 0 * 6144 + _ = _; omega

theorem blk5 (y : S1x1x2048.Idx) (j : S2x1x2048.Idx) (h0 : (j 0).val = 0) (h1 : (j 1).val = (y 1).val) (h2 : (j 2).val = (y 2).val) :
    iblk m c 5 t y = m ((c.tc : Thread nD τ).loc main_arg5) j := by
  refine congrArg (m ((c.tc : Thread nD τ).loc main_arg5)) (funext fun a => Fin.ext ?_)
  have y0 : (y 0).val < 1 := (y 0).isLt
  match a with
  | ⟨0, _⟩ => show win0_5.index t 0 * 1 + 1 * (y 0).val = (j 0).val; rw [ix5 t 0, h0]; show 0 * 1 + _ = _; omega
  | ⟨1, _⟩ => show win0_5.index t 1 * 1 + 1 * (y 1).val = (j 1).val; rw [ix5 t 1, h1]; show 0 * 1 + _ = _; omega
  | ⟨2, _⟩ => show win0_5.index t 2 * 2048 + 1 * (y 2).val = (j 2).val; rw [ix5 t 2, h2]; show 0 * 2048 + _ = _; omega

theorem blk6 (y : S1x2048x1024.Idx) (j : S2x2048x1024.Idx) (h0 : (j 0).val = 0) (h1 : (j 1).val = (y 1).val) (h2 : (j 2).val = (y 2).val) :
    iblk m c 6 t y = m ((c.tc : Thread nD τ).loc main_arg6) j := by
  refine congrArg (m ((c.tc : Thread nD τ).loc main_arg6)) (funext fun a => Fin.ext ?_)
  have y0 : (y 0).val < 1 := (y 0).isLt
  match a with
  | ⟨0, _⟩ => show win0_6.index t 0 * 1 + 1 * (y 0).val = (j 0).val; rw [ix6 t 0, h0]; show 0 * 1 + _ = _; omega
  | ⟨1, _⟩ => show win0_6.index t 1 * 2048 + 1 * (y 1).val = (j 1).val; rw [ix6 t 1, h1]; show 0 * 2048 + _ = _; omega
  | ⟨2, _⟩ => show win0_6.index t 2 * 1024 + 1 * (y 2).val = (j 2).val; rw [ix6 t 2, h2]; show 0 * 1024 + _ = _; omega

/-- The mixer's output at a row and a place, from the program's arguments. -/
def result (r : Fin 33280) (l : Fin 1024) : EReal :=
  outPlace (fun k => m ((c.tc : Thread nD τ).loc main_arg0) (ix2 r k)) (fun k => m ((c.tc : Thread nD τ).loc main_arg1) (ix2 r k))
    (fun k => m ((c.tc : Thread nD τ).loc main_arg2) (ix2 r k)) (fun k => m ((c.tc : Thread nD τ).loc main_arg5) (ix3 0 0 k))
    (fun k => m ((c.tc : Thread nD τ).loc main_arg6) (ix3 0 k l)) (m ((c.tc : Thread nD τ).loc main_arg3) (ix2 r l))
    (m ((c.tc : Thread nD τ).loc main_arg4) (ix3 1 (modAt r) ⟨2048 + l.val, by have := l.isLt; omega⟩))

/-- A point's block, as a part of the result. -/
theorem block_eq (y : S512x1024.Idx) (j : S33280x1024.Idx) (h0 : (j 0).val = t.val * 512 + (y 0).val) (h1 : (j 1).val = (y 1).val) :
    block (iblk m c 0 t) (iblk m c 1 t) (iblk m c 2 t) (iblk m c 3 t) (iblk m c 4 t) (iblk m c 5 t) (iblk m c 6 t) t y = result m c (j 0) (j 1) := by
  unfold block result
  refine outPlace_congr (fun k => blk0 m c t _ _ h0 rfl) (fun k => blk1 m c t _ _ h0 rfl) (fun k => blk2 m c t _ _ h0 rfl)
    (fun k => blk5 m c t _ _ rfl rfl rfl) (fun k => blk6 m c t _ _ rfl rfl h1) (blk3 m c t _ _ h0 h1) (blk4 m c t _ _ rfl ?_ ?_)
  · show modRow (j 0).val = modRow (t.val * 512 + (y 0).val)
    rw [h0]
  · show 2048 + (j 1).val = 2048 + (y 1).val
    rw [h1]

theorem covers10 : (cfg0.win 10).Covers := by decide +kernel

theorem final : (dats m 0 c).arrAt 10 cfg0.N = fun j : S33280x1024.Idx => result m c (j 0) (j 1) := by
  refine (dats m 0 c).arrAt_eq_of_covers 10 _ covers10 (fun t hf y => ?_) (Memref.isWhole_whole _)
  refine Eq.trans ?_ (block_eq m c t y _ ?_ ?_)
  · show (dats m 0 c).flushed 10 t y = _
    by_cases h : t.val % 65 = 0
    · rw [Cert.Kernel2Ideal.Value.flushed10_A m c t h]
      exact outA_eq _ _ _ _ _ _ _ _ _ _ _ _ _ _ _ _ _ _ _ _ _ _ _ _ _ _ _ _ _ _ _ _ _ _ _ _ _ _ _ t _ y
    · rw [Cert.Kernel2Ideal.Value.flushed10_B m c t h]
      exact outB_eq _ _ _ _ _ _ _ _ _ _ _ _ _ _ _ _ _ _ _ _ _ _ _ _ _ _ _ _ _ _ _ _ _ _ _ _ _ _ _ t _ _ y
  · show win0_10.index t 0 * 512 + 1 * (y 0).val = _
    rw [ix10 t 0]; show t.val * 512 + _ = _; omega
  · show win0_10.index t 1 * 1024 + 1 * (y 1).val = _
    rw [ix10 t 1]; show 0 * 1024 + _ = _; omega

end Cert.Kernel2Ideal.SsdOut

end

noncomputable section

namespace Cert.SsdOut

open Idealize.ShloMosaic
open Idealize.ShloMosaic.TcCoe Idealize.ShloMosaic.Tactic
open Idealize.SL Idealize.SL.Sem

/-- Both programs run, and end with equal results. -/
theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => (Cert.Kernel2Ideal.Gen.dats m 0 c).arrAt 10 Cert.Kernel2Ideal.cfg0.N,
    (θ_run Cert.Kernel2Ideal.defs _ _).mono (fun r h c => ⟨(h c).1, (h c).2.2.2⟩) (Cert.Kernel2Ideal.Value.run_blocks (F := Ideal) m g), ?_⟩
  refine (θ_run Cert.Reference2Ideal.defs _ _).mono (fun r h c => ⟨(h c).1.trans ?_, (h c).2⟩) (Cert.Reference2Ideal.SsdOut.run_rows m' g')
  obtain ⟨a0, a1, a2, a3, a4, a5, a6, a7, a8, a9⟩ := hagree c
  refine Eq.trans (funext fun j => ?_) (Cert.Kernel2Ideal.SsdOut.final m c).symm
  unfold Cert.Reference2Ideal.SsdOut.result Cert.Kernel2Ideal.SsdOut.result
  exact Cert.Rows.outPlace_congr (fun k => congrFun a0 _) (fun k => congrFun a1 _) (fun k => congrFun a2 _) (fun k => congrFun a5 _)
    (fun k => congrFun a6 _) (congrFun a3 _) (congrFun a4 _)

/-- The reference runs, leaves its arguments, and has no counters. -/
theorem reference_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

end Cert.SsdOut

end
-- ==== Proof.SsdInFrame.lean ====
/- The input projection's reference runs and keeps its arguments. -/
module

public import proofs.«01_k».proof.Defs
public import proofs.«01_k».proof.Proof.Rows
public import proofs.«01_k».proof.Proof.Gen.Reference3Ideal.Run
public import Idealize.ShloMosaic.Adequacy
public import Idealize.ShloMosaic.Init

@[expose] public section

set_option maxRecDepth 16384

noncomputable section

namespace Cert.SsdIn

open Idealize.ShloMosaic
open Idealize.ShloMosaic.TcCoe Idealize.ShloMosaic.Tactic
open Idealize.SL Idealize.SL.Sem

/-- The reference runs, leaves its arguments, and has no counters. -/
theorem reference_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0) :=
  (θ_run Cert.Reference3Ideal.defs _ _).mono (fun r h => ⟨fun c => (h c).2.2.2.2.2, sem_eq_zero_of_no_sems (by decide) r.2⟩)
    (Cert.Reference3Ideal.Value.run (F := Ideal) m g)

end Cert.SsdIn

end
-- ==== Proof.SsdInRows.lean ====
/- The row-wise pieces of the input projection. -/
module

public import proofs.«01_k».proof.Proof.Rows

@[expose] public section

noncomputable section

namespace Cert.Rows

open Idealize.ShloMosaic

/-- The modulated norm of a row of 1024, at place `k`. -/
def urow (x w sc sh : Fin 1024 → EReal) (k : Fin 1024) : EReal := rms (Ideal.ofBits .f32 0x44800000#32) x w k * (1 + sc k) + sh k

/-- The softplus of one number. -/
def softplus (z : EReal) : EReal := max z 0 + Ideal.log1p (Ideal.exp (-(max z (-z))))

/-- A row of numbers against a column of weights. -/
def dot (u w : Fin 1024 → EReal) : EReal := ∑ k : Fin 1024, u k * w k

/-- The row `k - 2` rows after row `r` lies in the same part (context or latents of one sample) as row `r`. -/
def InPart (r k : ℕ) : Prop := if r % 16640 < 256 then 2 ≤ r % 16640 + k ∧ r % 16640 + k < 258 else 258 ≤ r % 16640 + k ∧ r % 16640 + k < 16642

instance (r k : ℕ) : Decidable (InPart r k) := by unfold InPart; infer_instance

theorem InPart.lt {r : Fin 33280} {k : ℕ} (h : InPart r.val k) : r.val + k - 2 < 33280 := by
  have := r.isLt
  unfold InPart at h
  split at h <;> omega

/-- What the convolution's tap `k` sees at row `r` of the projected rows `P`: the row `k - 2` rows on, or zero outside the part. -/
def tap (P : Fin 33280 → EReal) (r : Fin 33280) (k : ℕ) : EReal := if h : InPart r.val k then P ⟨r.val + k - 2, h.lt⟩ else 0

/-- The convolution over four rows, with the bias first, and the gate. -/
def convOf (t0 t1 t2 t3 c0 c1 c2 c3 b : EReal) : EReal := silu (b + t0 * c0 + t1 * c1 + t2 * c2 + t3 * c3)

/-- The modulated norm of row `r` of `h`, by the table's rows and the norm's weights. -/
def uOf (h : Fin 33280 → Fin 1024 → EReal) (tbl : Fin 8 → Fin 6144 → EReal) (w : Fin 1024 → EReal) (r : Fin 33280) : Fin 1024 → EReal :=
  urow (h r) w (fun k => tbl (modAt r) ⟨1024 + k.val, by omega⟩) (fun k => tbl (modAt r) ⟨k.val, by omega⟩)

/-- A place of the convolved and gated projection, from the column of weights and the four taps' weights. -/
def convRow (U : Fin 33280 → Fin 1024 → EReal) (w : Fin 1024 → EReal) (c0 c1 c2 c3 b : EReal) (r : Fin 33280) : EReal :=
  convOf (tap (fun q => dot (U q) w) r 0) (tap (fun q => dot (U q) w) r 1) (tap (fun q => dot (U q) w) r 2) (tap (fun q => dot (U q) w) r 3) c0 c1 c2 c3 b

end Cert.Rows

end
-- ==== Proof.SsdInBody.lean ====
/- The input projection's payloads, read at one place. -/
module

public import proofs.«01_k».proof.Proof.SsdInRows
public import proofs.«01_k».proof.Proof.Gen.Kernel3Ideal.Frame.RunA

@[expose] public section

set_option maxRecDepth 16384
set_option Elab.async false

noncomputable section

namespace Cert.Kernel3Ideal.SsdIn

open Cert.Kernel3Ideal Cert.Kernel3Ideal.Gen
open Idealize.ShloMosaic
open Idealize.ShloMosaic.TcCoe Idealize.ShloMosaic.Tactic
open Idealize.SL Idealize.SL.Sem
open Cert.Rows

/-- A row kept after a half is one of eight. -/
theorem after_lt (i : Fin 272) : i.val - 8 - 256 < 8 := by omega
/-- A column of the table's shift and scale. -/
theorem shift_lt (k : Fin 1024) : k.val < 6144 := by omega
theorem scale_lt (k : Fin 1024) : 1024 + k.val < 6144 := by omega

section
variable (U : FVec Ideal S272x1024 .bf16) (W : FVec Ideal S1x1024x256 .bf16) (i : Fin 272) (l : Fin 128)

/-- The left half of a projected slab. -/
theorem lo_at : k0_pay97 (F := Ideal) U W (ix3 0 i l) = dot (fun k => U (ix2 i k)) (fun k => W (ix3 0 k ⟨0 + l.val, by omega⟩)) := by
  pointwise [k0_pay97, k0_pay96, dot]

/-- The right half of a projected slab. -/
theorem hi_at : k0_pay98 (F := Ideal) U W (ix3 0 i l) = dot (fun k => U (ix2 i k)) (fun k => W (ix3 0 k ⟨128 + l.val, by omega⟩)) := by
  pointwise [k0_pay98, k0_pay96, dot]
end

section
variable (U : FVec Ideal S256x1024 .bf16) (W : FVec Ideal S1x1024x256 .bf16) (W' : FVec Ideal S1x1024x128 .bf16) (b : FVec Ideal S1x1x128 .f32)
  (i : Fin 256) (k : Fin 256) (l : Fin 128)

/-- The gate's projection. -/
theorem gate_at : k0_pay90 (F := Ideal) U W (ix2 i k) = dot (fun q => U (ix2 i q)) (fun q => W (ix3 0 q k)) := by
  pointwise [k0_pay90, dot]

/-- A step width. -/
theorem step_at : k0_pay102 (F := Ideal) (k0_pay100 U W' b) (k0_pay101 U W' b) (ix2 i l)
    = softplus (dot (fun q => U (ix2 i q)) (fun q => W' (ix3 0 q l)) + b (ix3 0 0 l)) := by
  pointwise [k0_pay102, k0_pay101, k0_pay100, k0_pay99, dot, softplus]
  simp only [zero_sub]
  rfl
end

section
variable (b w0 w1 w2 w3 : FVec Ideal S1x1x128 .f32) (s0 s1 s2 s3 : FVec Ideal S1x256x128 .f32) (i : Fin 256) (l : Fin 128)

/-- The convolution of four loads. -/
theorem conv_at : k0_pay95 (F := Ideal) (k0_pay94 b s0 w0 s1 w1 s2 w2 s3 w3) (ix2 i l)
    = convOf (s0 (ix3 0 i l)) (s1 (ix3 0 i l)) (s2 (ix3 0 i l)) (s3 (ix3 0 i l)) (w0 (ix3 0 0 l)) (w1 (ix3 0 0 l)) (w2 (ix3 0 0 l)) (w3 (ix3 0 0 l)) (b (ix3 0 0 l)) := by
  pointwise [k0_pay95, k0_pay94, convOf, silu]
  simp only [zero_sub]
end

section
variable (nx pv : FVec Ideal S8x1024 .f32) (x : FVec Ideal S256x1024 .f32) (v31 v28 : BitVec 1) (sh sc w : FVec Ideal S1x1x1024 .f32) (k : Fin 1024)

/-- The first half's modulated rows. -/
theorem first_rows (i : Fin 256) : k0_pay6 (F := Ideal) x (k0_pay2 sh) sc w (ix2 i k)
    = urow (fun q => x (ix2 i q)) (fun q => w (ix3 0 0 q)) (fun q => sc (ix3 0 0 q)) (fun q => sh (ix3 0 0 q)) k := by
  pointwise [k0_pay6, k0_pay5, k0_pay2, k0_pay3, k0_pay4, urow, rms]

/-- The last half's modulated rows. -/
theorem last_rows (i : Fin 256) : k0_pay140 (F := Ideal) x sh sc w (ix2 i k)
    = urow (fun q => x (ix2 i q)) (fun q => w (ix3 0 0 q)) (fun q => sc (ix3 0 0 q)) (fun q => sh (ix3 0 0 q)) k := by
  pointwise [k0_pay140, k0_pay139, k0_pay136, k0_pay137, k0_pay138, urow, rms]

/-- The first half's rows with eight rows on either side. -/
theorem first_ext (i : Fin 272) : k0_pay8 (F := Ideal) nx v31 (k0_pay2 sh) (k0_pay3 sc) (k0_pay4 w) (k0_pay5 x (k0_pay2 sh) sc w) (k0_pay7 pv v28 (k0_pay2 sh) sc w) (ix2 i k)
    = if h : i.val < 8 then Scalar.select v28 0 (urow (fun q => pv (ix2 ⟨i.val, h⟩ q)) (fun q => w (ix3 0 0 q)) (fun q => sc (ix3 0 0 q)) (fun q => sh (ix3 0 0 q)) k)
      else if h' : i.val - 8 < 256 then urow (fun q => x (ix2 ⟨i.val - 8, h'⟩ q)) (fun q => w (ix3 0 0 q)) (fun q => sc (ix3 0 0 q)) (fun q => sh (ix3 0 0 q)) k
      else Scalar.select v31 0 (urow (fun q => nx (ix2 ⟨i.val - 8 - 256, after_lt i⟩ q)) (fun q => w (ix3 0 0 q)) (fun q => sc (ix3 0 0 q)) (fun q => sh (ix3 0 0 q)) k) := by
  pointwise [k0_pay8, k0_pay7, k0_pay5, k0_pay2, k0_pay3, k0_pay4, urow, rms]

/-- The last half's rows with eight rows on either side. -/
theorem last_ext (i : Fin 272) : k0_pay142 (F := Ideal) nx v28 v31 (k0_pay136 sh) (k0_pay137 sc) (k0_pay138 w) (k0_pay139 x sh sc w) (k0_pay141 pv w) (ix2 i k)
    = if h : i.val < 8 then Scalar.select v28 0 (urow (fun q => pv (ix2 ⟨i.val, h⟩ q)) (fun q => w (ix3 0 0 q)) (fun q => sc (ix3 0 0 q)) (fun q => sh (ix3 0 0 q)) k)
      else if h' : i.val - 8 < 256 then urow (fun q => x (ix2 ⟨i.val - 8, h'⟩ q)) (fun q => w (ix3 0 0 q)) (fun q => sc (ix3 0 0 q)) (fun q => sh (ix3 0 0 q)) k
      else Scalar.select v31 0 (urow (fun q => nx (ix2 ⟨i.val - 8 - 256, after_lt i⟩ q)) (fun q => w (ix3 0 0 q)) (fun q => sc (ix3 0 0 q)) (fun q => sh (ix3 0 0 q)) k) := by
  pointwise [k0_pay142, k0_pay141, k0_pay139, k0_pay136, k0_pay137, k0_pay138, urow, rms]
end

end Cert.Kernel3Ideal.SsdIn

end
-- ==== Proof.SsdInSlabs.lean ====
/- The projected slabs the input projection keeps between its products and its convolutions, and what the convolutions load of them. -/
module

public import proofs.«01_k».proof.Proof.SsdInBody

@[expose] public section

set_option maxRecDepth 16384
set_option Elab.async false

noncomputable section

namespace Cert.Kernel3Ideal.SsdIn

open Cert.Kernel3Ideal Cert.Kernel3Ideal.Gen
open Idealize.ShloMosaic
open Idealize.ShloMosaic.TcCoe Idealize.ShloMosaic.Tactic
open Idealize.SL Idealize.SL.Sem
open Cert.Rows

/-- A row of the rows `U` against column `n` of the weights. -/
def proj (U : FVec Ideal S272x1024 .bf16) (x6 : Vec Ideal S1x1024x3072 .bf16) (i : Fin 272) (n : Fin 3072) : EReal :=
  dot (fun k => U (ix2 i k)) (fun k => x6 (ix3 0 k n))

/-- What the slabs hold. -/
def slab (U : FVec Ideal S272x1024 .bf16) (x6 : Vec Ideal S1x1024x3072 .bf16) (y : S24x272x128.Idx) : EReal :=
  proj U x6 (y 1) ⟨128 * (y 0).val + (y 2).val, by have : (y 0).val < 24 := (y 0).isLt; have : (y 2).val < 128 := (y 2).isLt; omega⟩

/-- The stores `L` are stores of the slabs' values and reach the first `n` slabs. -/
def Good (U : FVec Ideal S272x1024 .bf16) (x6 : Vec Ideal S1x1024x3072 .bf16) (n : ℕ) (L : List (View.Piece (Elt Ideal) S24x272x128 .f32)) : Prop :=
  (∀ p ∈ L, ∀ z : p.1.shape.Idx, p.2 z = slab U x6 (p.1.emb z)) ∧ ∀ y : S24x272x128.Idx, (y 0).val < n → ∃ p ∈ L, y ∈ p.1.set

theorem good_nil (U : FVec Ideal S272x1024 .bf16) (x6 : Vec Ideal S1x1024x3072 .bf16) : Good U x6 0 [] :=
  ⟨fun _ h => (nomatch h), fun _ h => absurd h (Nat.not_lt_zero _)⟩

theorem mem_slab (q : ℕ) (inb : ∀ a, (![q, 0, 0] : Fin 3 → ℕ) a + S1x272x128.size a ≤ S24x272x128.size a) (y : S24x272x128.Idx) (h : (y 0).val = q) :
    y ∈ (Rect.unit (s := S24x272x128) ![q, 0, 0] S1x272x128.size inb).set :=
  Rect.mem_set_unit.mpr fun a => match a with
    | ⟨0, _⟩ => ⟨by show q ≤ (y 0).val; omega, by show (y 0).val < q + 1; omega⟩
    | ⟨1, _⟩ => ⟨Nat.zero_le _, by show (y 1).val < 0 + 272; rw [Nat.zero_add]; exact (y 1).isLt⟩
    | ⟨2, _⟩ => ⟨Nat.zero_le _, by show (y 2).val < 0 + 128; rw [Nat.zero_add]; exact (y 2).isLt⟩

section
variable (arg7 : Memref sig .tc .vmem S1x1024x3072 .bf16) (harg7 : arg7.IsWhole) (U : FVec Ideal S272x1024 .bf16) (x6 : Vec Ideal S1x1024x3072 .bf16)

theorem lo_slab (q o : ℕ) (ho : o = 128 * q) (inb : ∀ a, (![q, 0, 0] : Fin 3 → ℕ) a + S1x272x128.size a ≤ S24x272x128.size a)
    (inbo : ∀ a, (![0, 0, o] : Fin 3 → ℕ) a + S1x1024x256.size a ≤ S1x1024x3072.size a) (z : S1x272x128.Idx) :
    k0_pay97 (F := Ideal) U (View.readAt (Elt Ideal) arg7.view (Rect.unit (s := S1x1024x3072) ![0, 0, o] S1x1024x256.size inbo).toLoadRect (harg7.unread x6)) z
      = slab U x6 ((Rect.unit (s := S24x272x128) ![q, 0, 0] S1x272x128.size inb).emb z) := by
  obtain ⟨i, l, rfl⟩ : ∃ (i : Fin 272) (l : Fin 128), z = ix3 0 i l := ⟨z 1, z 2, funext fun a => match a with | ⟨0, _⟩ => Subsingleton.elim (α := Fin 1) _ _ | ⟨1, _⟩ => rfl | ⟨2, _⟩ => rfl⟩
  rw [lo_at]
  unfold slab proj dot
  refine Finset.sum_congr rfl fun k _ => congrArg₂ (· * ·) (congrArg U (funext fun a => Fin.ext ?_)) (load_at harg7 x6 _ _ _ _ _ fun a => ?_)
  · match a with
    | ⟨0, _⟩ => show i.val = 0 + 1 * i.val; omega
    | ⟨1, _⟩ => rfl
  · match a with
    | ⟨0, _⟩ => rfl
    | ⟨1, _⟩ => show k.val = 0 + 1 * k.val; omega
    | ⟨2, _⟩ => show 128 * (q + 1 * 0) + (0 + 1 * l.val) = o + 1 * (0 + l.val); omega

theorem hi_slab (q o : ℕ) (ho : o + 128 = 128 * q) (inb : ∀ a, (![q, 0, 0] : Fin 3 → ℕ) a + S1x272x128.size a ≤ S24x272x128.size a)
    (inbo : ∀ a, (![0, 0, o] : Fin 3 → ℕ) a + S1x1024x256.size a ≤ S1x1024x3072.size a) (z : S1x272x128.Idx) :
    k0_pay98 (F := Ideal) U (View.readAt (Elt Ideal) arg7.view (Rect.unit (s := S1x1024x3072) ![0, 0, o] S1x1024x256.size inbo).toLoadRect (harg7.unread x6)) z
      = slab U x6 ((Rect.unit (s := S24x272x128) ![q, 0, 0] S1x272x128.size inb).emb z) := by
  obtain ⟨i, l, rfl⟩ : ∃ (i : Fin 272) (l : Fin 128), z = ix3 0 i l := ⟨z 1, z 2, funext fun a => match a with | ⟨0, _⟩ => Subsingleton.elim (α := Fin 1) _ _ | ⟨1, _⟩ => rfl | ⟨2, _⟩ => rfl⟩
  rw [hi_at]
  unfold slab proj dot
  refine Finset.sum_congr rfl fun k _ => congrArg₂ (· * ·) (congrArg U (funext fun a => Fin.ext ?_)) (load_at harg7 x6 _ _ _ _ _ fun a => ?_)
  · match a with
    | ⟨0, _⟩ => show i.val = 0 + 1 * i.val; omega
    | ⟨1, _⟩ => rfl
  · match a with
    | ⟨0, _⟩ => rfl
    | ⟨1, _⟩ => show k.val = 0 + 1 * k.val; omega
    | ⟨2, _⟩ => show 128 * (q + 1 * 0) + (0 + 1 * l.val) = o + 1 * (128 + l.val); omega

/-- Two more slabs. -/
theorem good_step (q q' o : ℕ) (hq : q' = q + 1) (ho : o = 128 * q) (inb : ∀ a, (![q, 0, 0] : Fin 3 → ℕ) a + S1x272x128.size a ≤ S24x272x128.size a)
    (inb' : ∀ a, (![q', 0, 0] : Fin 3 → ℕ) a + S1x272x128.size a ≤ S24x272x128.size a)
    (inbo : ∀ a, (![0, 0, o] : Fin 3 → ℕ) a + S1x1024x256.size a ≤ S1x1024x3072.size a) (L : List (View.Piece (Elt Ideal) S24x272x128 .f32)) (h : Good U x6 q L) :
    Good U x6 (q + 2) (⟨Rect.unit (s := S24x272x128) ![q', 0, 0] S1x272x128.size inb', k0_pay98 (F := Ideal) U (View.readAt (Elt Ideal) arg7.view (Rect.unit (s := S1x1024x3072) ![0, 0, o] S1x1024x256.size inbo).toLoadRect (harg7.unread x6))⟩
      :: ⟨Rect.unit (s := S24x272x128) ![q, 0, 0] S1x272x128.size inb, k0_pay97 (F := Ideal) U (View.readAt (Elt Ideal) arg7.view (Rect.unit (s := S1x1024x3072) ![0, 0, o] S1x1024x256.size inbo).toLoadRect (harg7.unread x6))⟩ :: L) := by
  refine ⟨List.forall_mem_cons.mpr ⟨fun z => hi_slab arg7 harg7 U x6 q' o (by omega) inb' inbo z, List.forall_mem_cons.mpr ⟨fun z => lo_slab arg7 harg7 U x6 q o ho inb inbo z, h.1⟩⟩, fun y hy => ?_⟩
  by_cases h1 : (y 0).val = q'
  · exact ⟨_, List.mem_cons_self, mem_slab q' inb' y h1⟩
  by_cases h0 : (y 0).val = q
  · exact ⟨_, List.mem_cons_of_mem _ List.mem_cons_self, mem_slab q inb y h0⟩
  obtain ⟨p, hp, hm⟩ := h.2 y (by omega)
  exact ⟨p, List.mem_cons_of_mem _ (List.mem_cons_of_mem _ hp), hm⟩
end

/-- A load of 256 rows of one slab, from row `a` on. -/
theorem load_slab (U : FVec Ideal S272x1024 .bf16) (x6 : Vec Ideal S1x1024x3072 .bf16) (n : ℕ) (L : List (View.Piece (Elt Ideal) S24x272x128 .f32)) (h : Good U x6 n L)
    (arg : Memref sig .tc .vmem S24x272x128 .f32) (q a : ℕ) (hq : q < n) (hq' : q < 24) (ha : a + 256 ≤ 272)
    (inb : ∀ b, (![q, a, 0] : Fin 3 → ℕ) b + S1x256x128.size b ≤ S24x272x128.size b) (i : Fin 256) (l : Fin 128) :
    arg.view.readCov L (Rect.unit (s := S24x272x128) ![q, a, 0] S1x256x128.size inb).toLoadRect (ix3 0 i l : S1x256x128.Idx)
      = proj U x6 ⟨a + i.val, by omega⟩ ⟨128 * q + l.val, by omega⟩ := by
  refine (View.read_writes_apply_of_pieces _ _ (slab U x6) L h.1 ((Rect.unit (s := S24x272x128) ![q, a, 0] S1x256x128.size inb).toLoadRect.idx (ix3 0 i l : S1x256x128.Idx)) (h.2 _ ?_)).trans ?_
  · show q + 1 * 0 < n; omega
  · refine congrArg₂ (proj U x6) (Fin.ext ?_) (Fin.ext ?_)
    · show a + 1 * i.val = a + i.val; omega
    · show 128 * (q + 1 * 0) + (0 + 1 * l.val) = 128 * q + l.val; omega

variable (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S1x8x6144 .f32) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1024x3072 .bf16) (harg7 : arg7.IsWhole) (arg8 : Memref sig .tc .vmem S1x1024x128 .bf16) (harg8 : arg8.IsWhole) (arg9 : Memref sig .tc .vmem S1x1024x128 .bf16) (harg9 : arg9.IsWhole) (arg10 : Memref sig .tc .vmem S1x4x3072 .f32) (harg10 : arg10.IsWhole) (arg11 : Memref sig .tc .vmem S1x1x3072 .f32) (harg11 : arg11.IsWhole) (arg12 : Memref sig .tc .vmem S1x2x128 .f32) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x1024 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S24x272x128 .f32) (harg18 : arg18.IsWhole) (arg19 : Memref sig .tc .vmem S24x272x128 .f32) (harg19 : arg19.IsWhole)
    (x0 : Vec Ideal S8x1024 .f32) (x1 : Vec Ideal S512x1024 .f32) (x2 : Vec Ideal S8x1024 .f32) (x3 : Vec Ideal S1x8x6144 .f32) (x4 : Vec Ideal S1x1x1024 .f32) (x5 : Vec Ideal S1x1024x2048 .bf16) (x6 : Vec Ideal S1x1024x3072 .bf16) (x7 : Vec Ideal S1x1024x128 .bf16) (x8 : Vec Ideal S1x1024x128 .bf16) (x9 : Vec Ideal S1x4x3072 .f32) (x10 : Vec Ideal S1x1x3072 .f32) (x11 : Vec Ideal S1x2x128 .f32)

theorem hs0_4 : Good (kernelRun0_A.sl.r_8 c i arg1 harg1 arg2 harg2 arg4 harg4 arg5 harg5 x0 x1 x3 x4) x6 4 (kernelRun0_A.sl.HS0_4 c i arg1 harg1 arg2 harg2 arg4 harg4 arg5 harg5 arg7 harg7 x0 x1 x3 x4 x6) := by
  unfold kernelRun0_A.sl.HS0_4
  exact good_step arg7 harg7 (kernelRun0_A.sl.r_8 c i arg1 harg1 arg2 harg2 arg4 harg4 arg5 harg5 x0 x1 x3 x4) x6 2 3 256 rfl rfl _ _ inb_S1x1024x3072_S1x1024x256_0_0_256 _ (good_step arg7 harg7 (kernelRun0_A.sl.r_8 c i arg1 harg1 arg2 harg2 arg4 harg4 arg5 harg5 x0 x1 x3 x4) x6 0 1 0 rfl rfl _ _ inb_S1x1024x3072_S1x1024x256_0_0_0 _ (good_nil (kernelRun0_A.sl.r_8 c i arg1 harg1 arg2 harg2 arg4 harg4 arg5 harg5 x0 x1 x3 x4) x6))

theorem hs0_6 : Good (kernelRun0_A.sl.r_8 c i arg1 harg1 arg2 harg2 arg4 harg4 arg5 harg5 x0 x1 x3 x4) x6 6 (kernelRun0_A.sl.HS0_6 c i arg1 harg1 arg2 harg2 arg4 harg4 arg5 harg5 arg7 harg7 x0 x1 x3 x4 x6) := by
  unfold kernelRun0_A.sl.HS0_6
  exact good_step arg7 harg7 (kernelRun0_A.sl.r_8 c i arg1 harg1 arg2 harg2 arg4 harg4 arg5 harg5 x0 x1 x3 x4) x6 4 5 512 rfl rfl _ _ inb_S1x1024x3072_S1x1024x256_0_0_512 _ (hs0_4 c i arg1 harg1 arg2 harg2 arg4 harg4 arg5 harg5 arg7 harg7 x0 x1 x3 x4 x6)

theorem hs0_8 : Good (kernelRun0_A.sl.r_8 c i arg1 harg1 arg2 harg2 arg4 harg4 arg5 harg5 x0 x1 x3 x4) x6 8 (kernelRun0_A.sl.HS0_8 c i arg1 harg1 arg2 harg2 arg4 harg4 arg5 harg5 arg7 harg7 x0 x1 x3 x4 x6) := by
  unfold kernelRun0_A.sl.HS0_8
  exact good_step arg7 harg7 (kernelRun0_A.sl.r_8 c i arg1 harg1 arg2 harg2 arg4 harg4 arg5 harg5 x0 x1 x3 x4) x6 6 7 768 rfl rfl _ _ inb_S1x1024x3072_S1x1024x256_0_0_768 _ (hs0_6 c i arg1 harg1 arg2 harg2 arg4 harg4 arg5 harg5 arg7 harg7 x0 x1 x3 x4 x6)

theorem hs0_10 : Good (kernelRun0_A.sl.r_8 c i arg1 harg1 arg2 harg2 arg4 harg4 arg5 harg5 x0 x1 x3 x4) x6 10 (kernelRun0_A.sl.HS0_10 c i arg1 harg1 arg2 harg2 arg4 harg4 arg5 harg5 arg7 harg7 x0 x1 x3 x4 x6) := by
  unfold kernelRun0_A.sl.HS0_10
  exact good_step arg7 harg7 (kernelRun0_A.sl.r_8 c i arg1 harg1 arg2 harg2 arg4 harg4 arg5 harg5 x0 x1 x3 x4) x6 8 9 1024 rfl rfl _ _ inb_S1x1024x3072_S1x1024x256_0_0_1024 _ (hs0_8 c i arg1 harg1 arg2 harg2 arg4 harg4 arg5 harg5 arg7 harg7 x0 x1 x3 x4 x6)

theorem hs0_12 : Good (kernelRun0_A.sl.r_8 c i arg1 harg1 arg2 harg2 arg4 harg4 arg5 harg5 x0 x1 x3 x4) x6 12 (kernelRun0_A.sl.HS0_12 c i arg1 harg1 arg2 harg2 arg4 harg4 arg5 harg5 arg7 harg7 x0 x1 x3 x4 x6) := by
  unfold kernelRun0_A.sl.HS0_12
  exact good_step arg7 harg7 (kernelRun0_A.sl.r_8 c i arg1 harg1 arg2 harg2 arg4 harg4 arg5 harg5 x0 x1 x3 x4) x6 10 11 1280 rfl rfl _ _ inb_S1x1024x3072_S1x1024x256_0_0_1280 _ (hs0_10 c i arg1 harg1 arg2 harg2 arg4 harg4 arg5 harg5 arg7 harg7 x0 x1 x3 x4 x6)

theorem hs0_14 : Good (kernelRun0_A.sl.r_8 c i arg1 harg1 arg2 harg2 arg4 harg4 arg5 harg5 x0 x1 x3 x4) x6 14 (kernelRun0_A.sl.HS0_14 c i arg1 harg1 arg2 harg2 arg4 harg4 arg5 harg5 arg7 harg7 x0 x1 x3 x4 x6) := by
  unfold kernelRun0_A.sl.HS0_14
  exact good_step arg7 harg7 (kernelRun0_A.sl.r_8 c i arg1 harg1 arg2 harg2 arg4 harg4 arg5 harg5 x0 x1 x3 x4) x6 12 13 1536 rfl rfl _ _ inb_S1x1024x3072_S1x1024x256_0_0_1536 _ (hs0_12 c i arg1 harg1 arg2 harg2 arg4 harg4 arg5 harg5 arg7 harg7 x0 x1 x3 x4 x6)

theorem hs0_16 : Good (kernelRun0_A.sl.r_8 c i arg1 harg1 arg2 harg2 arg4 harg4 arg5 harg5 x0 x1 x3 x4) x6 16 (kernelRun0_A.sl.HS0_16 c i arg1 harg1 arg2 harg2 arg4 harg4 arg5 harg5 arg7 harg7 x0 x1 x3 x4 x6) := by
  unfold kernelRun0_A.sl.HS0_16
  exact good_step arg7 harg7 (kernelRun0_A.sl.r_8 c i arg1 harg1 arg2 harg2 arg4 harg4 arg5 harg5 x0 x1 x3 x4) x6 14 15 1792 rfl rfl _ _ inb_S1x1024x3072_S1x1024x256_0_0_1792 _ (hs0_14 c i arg1 harg1 arg2 harg2 arg4 harg4 arg5 harg5 arg7 harg7 x0 x1 x3 x4 x6)

theorem hs0_18 : Good (kernelRun0_A.sl.r_8 c i arg1 harg1 arg2 harg2 arg4 harg4 arg5 harg5 x0 x1 x3 x4) x6 18 (kernelRun0_A.sl.HS0_18 c i arg1 harg1 arg2 harg2 arg4 harg4 arg5 harg5 arg7 harg7 x0 x1 x3 x4 x6) := by
  unfold kernelRun0_A.sl.HS0_18
  exact good_step arg7 harg7 (kernelRun0_A.sl.r_8 c i arg1 harg1 arg2 harg2 arg4 harg4 arg5 harg5 x0 x1 x3 x4) x6 16 17 2048 rfl rfl _ _ inb_S1x1024x3072_S1x1024x256_0_0_2048 _ (hs0_16 c i arg1 harg1 arg2 harg2 arg4 harg4 arg5 harg5 arg7 harg7 x0 x1 x3 x4 x6)

theorem hs0_20 : Good (kernelRun0_A.sl.r_8 c i arg1 harg1 arg2 harg2 arg4 harg4 arg5 harg5 x0 x1 x3 x4) x6 20 (kernelRun0_A.sl.HS0_20 c i arg1 harg1 arg2 harg2 arg4 harg4 arg5 harg5 arg7 harg7 x0 x1 x3 x4 x6) := by
  unfold kernelRun0_A.sl.HS0_20
  exact good_step arg7 harg7 (kernelRun0_A.sl.r_8 c i arg1 harg1 arg2 harg2 arg4 harg4 arg5 harg5 x0 x1 x3 x4) x6 18 19 2304 rfl rfl _ _ inb_S1x1024x3072_S1x1024x256_0_0_2304 _ (hs0_18 c i arg1 harg1 arg2 harg2 arg4 harg4 arg5 harg5 arg7 harg7 x0 x1 x3 x4 x6)

theorem hs0_22 : Good (kernelRun0_A.sl.r_8 c i arg1 harg1 arg2 harg2 arg4 harg4 arg5 harg5 x0 x1 x3 x4) x6 22 (kernelRun0_A.sl.HS0_22 c i arg1 harg1 arg2 harg2 arg4 harg4 arg5 harg5 arg7 harg7 x0 x1 x3 x4 x6) := by
  unfold kernelRun0_A.sl.HS0_22
  exact good_step arg7 harg7 (kernelRun0_A.sl.r_8 c i arg1 harg1 arg2 harg2 arg4 harg4 arg5 harg5 x0 x1 x3 x4) x6 20 21 2560 rfl rfl _ _ inb_S1x1024x3072_S1x1024x256_0_0_2560 _ (hs0_20 c i arg1 harg1 arg2 harg2 arg4 harg4 arg5 harg5 arg7 harg7 x0 x1 x3 x4 x6)

theorem hs0_24 : Good (kernelRun0_A.sl.r_8 c i arg1 harg1 arg2 harg2 arg4 harg4 arg5 harg5 x0 x1 x3 x4) x6 24 (kernelRun0_A.sl.HS0_24 c i arg1 harg1 arg2 harg2 arg4 harg4 arg5 harg5 arg7 harg7 x0 x1 x3 x4 x6) := by
  unfold kernelRun0_A.sl.HS0_24
  exact good_step arg7 harg7 (kernelRun0_A.sl.r_8 c i arg1 harg1 arg2 harg2 arg4 harg4 arg5 harg5 x0 x1 x3 x4) x6 22 23 2816 rfl rfl _ _ inb_S1x1024x3072_S1x1024x256_0_0_2816 _ (hs0_22 c i arg1 harg1 arg2 harg2 arg4 harg4 arg5 harg5 arg7 harg7 x0 x1 x3 x4 x6)

theorem hs1_4 : Good (kernelRun0_A.sl.r_78 c i arg2 harg2 arg3 harg3 arg4 harg4 arg5 harg5 x1 x2 x3 x4) x6 4 (kernelRun0_A.sl.HS1_4 c i arg2 harg2 arg3 harg3 arg4 harg4 arg5 harg5 arg7 harg7 x1 x2 x3 x4 x6) := by
  unfold kernelRun0_A.sl.HS1_4
  exact good_step arg7 harg7 (kernelRun0_A.sl.r_78 c i arg2 harg2 arg3 harg3 arg4 harg4 arg5 harg5 x1 x2 x3 x4) x6 2 3 256 rfl rfl _ _ inb_S1x1024x3072_S1x1024x256_0_0_256 _ (good_step arg7 harg7 (kernelRun0_A.sl.r_78 c i arg2 harg2 arg3 harg3 arg4 harg4 arg5 harg5 x1 x2 x3 x4) x6 0 1 0 rfl rfl _ _ inb_S1x1024x3072_S1x1024x256_0_0_0 _ (good_nil (kernelRun0_A.sl.r_78 c i arg2 harg2 arg3 harg3 arg4 harg4 arg5 harg5 x1 x2 x3 x4) x6))

theorem hs1_6 : Good (kernelRun0_A.sl.r_78 c i arg2 harg2 arg3 harg3 arg4 harg4 arg5 harg5 x1 x2 x3 x4) x6 6 (kernelRun0_A.sl.HS1_6 c i arg2 harg2 arg3 harg3 arg4 harg4 arg5 harg5 arg7 harg7 x1 x2 x3 x4 x6) := by
  unfold kernelRun0_A.sl.HS1_6
  exact good_step arg7 harg7 (kernelRun0_A.sl.r_78 c i arg2 harg2 arg3 harg3 arg4 harg4 arg5 harg5 x1 x2 x3 x4) x6 4 5 512 rfl rfl _ _ inb_S1x1024x3072_S1x1024x256_0_0_512 _ (hs1_4 c i arg2 harg2 arg3 harg3 arg4 harg4 arg5 harg5 arg7 harg7 x1 x2 x3 x4 x6)

theorem hs1_8 : Good (kernelRun0_A.sl.r_78 c i arg2 harg2 arg3 harg3 arg4 harg4 arg5 harg5 x1 x2 x3 x4) x6 8 (kernelRun0_A.sl.HS1_8 c i arg2 harg2 arg3 harg3 arg4 harg4 arg5 harg5 arg7 harg7 x1 x2 x3 x4 x6) := by
  unfold kernelRun0_A.sl.HS1_8
  exact good_step arg7 harg7 (kernelRun0_A.sl.r_78 c i arg2 harg2 arg3 harg3 arg4 harg4 arg5 harg5 x1 x2 x3 x4) x6 6 7 768 rfl rfl _ _ inb_S1x1024x3072_S1x1024x256_0_0_768 _ (hs1_6 c i arg2 harg2 arg3 harg3 arg4 harg4 arg5 harg5 arg7 harg7 x1 x2 x3 x4 x6)

theorem hs1_10 : Good (kernelRun0_A.sl.r_78 c i arg2 harg2 arg3 harg3 arg4 harg4 arg5 harg5 x1 x2 x3 x4) x6 10 (kernelRun0_A.sl.HS1_10 c i arg2 harg2 arg3 harg3 arg4 harg4 arg5 harg5 arg7 harg7 x1 x2 x3 x4 x6) := by
  unfold kernelRun0_A.sl.HS1_10
  exact good_step arg7 harg7 (kernelRun0_A.sl.r_78 c i arg2 harg2 arg3 harg3 arg4 harg4 arg5 harg5 x1 x2 x3 x4) x6 8 9 1024 rfl rfl _ _ inb_S1x1024x3072_S1x1024x256_0_0_1024 _ (hs1_8 c i arg2 harg2 arg3 harg3 arg4 harg4 arg5 harg5 arg7 harg7 x1 x2 x3 x4 x6)

theorem hs1_12 : Good (kernelRun0_A.sl.r_78 c i arg2 harg2 arg3 harg3 arg4 harg4 arg5 harg5 x1 x2 x3 x4) x6 12 (kernelRun0_A.sl.HS1_12 c i arg2 harg2 arg3 harg3 arg4 harg4 arg5 harg5 arg7 harg7 x1 x2 x3 x4 x6) := by
  unfold kernelRun0_A.sl.HS1_12
  exact good_step arg7 harg7 (kernelRun0_A.sl.r_78 c i arg2 harg2 arg3 harg3 arg4 harg4 arg5 harg5 x1 x2 x3 x4) x6 10 11 1280 rfl rfl _ _ inb_S1x1024x3072_S1x1024x256_0_0_1280 _ (hs1_10 c i arg2 harg2 arg3 harg3 arg4 harg4 arg5 harg5 arg7 harg7 x1 x2 x3 x4 x6)

theorem hs1_14 : Good (kernelRun0_A.sl.r_78 c i arg2 harg2 arg3 harg3 arg4 harg4 arg5 harg5 x1 x2 x3 x4) x6 14 (kernelRun0_A.sl.HS1_14 c i arg2 harg2 arg3 harg3 arg4 harg4 arg5 harg5 arg7 harg7 x1 x2 x3 x4 x6) := by
  unfold kernelRun0_A.sl.HS1_14
  exact good_step arg7 harg7 (kernelRun0_A.sl.r_78 c i arg2 harg2 arg3 harg3 arg4 harg4 arg5 harg5 x1 x2 x3 x4) x6 12 13 1536 rfl rfl _ _ inb_S1x1024x3072_S1x1024x256_0_0_1536 _ (hs1_12 c i arg2 harg2 arg3 harg3 arg4 harg4 arg5 harg5 arg7 harg7 x1 x2 x3 x4 x6)

theorem hs1_16 : Good (kernelRun0_A.sl.r_78 c i arg2 harg2 arg3 harg3 arg4 harg4 arg5 harg5 x1 x2 x3 x4) x6 16 (kernelRun0_A.sl.HS1_16 c i arg2 harg2 arg3 harg3 arg4 harg4 arg5 harg5 arg7 harg7 x1 x2 x3 x4 x6) := by
  unfold kernelRun0_A.sl.HS1_16
  exact good_step arg7 harg7 (kernelRun0_A.sl.r_78 c i arg2 harg2 arg3 harg3 arg4 harg4 arg5 harg5 x1 x2 x3 x4) x6 14 15 1792 rfl rfl _ _ inb_S1x1024x3072_S1x1024x256_0_0_1792 _ (hs1_14 c i arg2 harg2 arg3 harg3 arg4 harg4 arg5 harg5 arg7 harg7 x1 x2 x3 x4 x6)

theorem hs1_18 : Good (kernelRun0_A.sl.r_78 c i arg2 harg2 arg3 harg3 arg4 harg4 arg5 harg5 x1 x2 x3 x4) x6 18 (kernelRun0_A.sl.HS1_18 c i arg2 harg2 arg3 harg3 arg4 harg4 arg5 harg5 arg7 harg7 x1 x2 x3 x4 x6) := by
  unfold kernelRun0_A.sl.HS1_18
  exact good_step arg7 harg7 (kernelRun0_A.sl.r_78 c i arg2 harg2 arg3 harg3 arg4 harg4 arg5 harg5 x1 x2 x3 x4) x6 16 17 2048 rfl rfl _ _ inb_S1x1024x3072_S1x1024x256_0_0_2048 _ (hs1_16 c i arg2 harg2 arg3 harg3 arg4 harg4 arg5 harg5 arg7 harg7 x1 x2 x3 x4 x6)

theorem hs1_20 : Good (kernelRun0_A.sl.r_78 c i arg2 harg2 arg3 harg3 arg4 harg4 arg5 harg5 x1 x2 x3 x4) x6 20 (kernelRun0_A.sl.HS1_20 c i arg2 harg2 arg3 harg3 arg4 harg4 arg5 harg5 arg7 harg7 x1 x2 x3 x4 x6) := by
  unfold kernelRun0_A.sl.HS1_20
  exact good_step arg7 harg7 (kernelRun0_A.sl.r_78 c i arg2 harg2 arg3 harg3 arg4 harg4 arg5 harg5 x1 x2 x3 x4) x6 18 19 2304 rfl rfl _ _ inb_S1x1024x3072_S1x1024x256_0_0_2304 _ (hs1_18 c i arg2 harg2 arg3 harg3 arg4 harg4 arg5 harg5 arg7 harg7 x1 x2 x3 x4 x6)

theorem hs1_22 : Good (kernelRun0_A.sl.r_78 c i arg2 harg2 arg3 harg3 arg4 harg4 arg5 harg5 x1 x2 x3 x4) x6 22 (kernelRun0_A.sl.HS1_22 c i arg2 harg2 arg3 harg3 arg4 harg4 arg5 harg5 arg7 harg7 x1 x2 x3 x4 x6) := by
  unfold kernelRun0_A.sl.HS1_22
  exact good_step arg7 harg7 (kernelRun0_A.sl.r_78 c i arg2 harg2 arg3 harg3 arg4 harg4 arg5 harg5 x1 x2 x3 x4) x6 20 21 2560 rfl rfl _ _ inb_S1x1024x3072_S1x1024x256_0_0_2560 _ (hs1_20 c i arg2 harg2 arg3 harg3 arg4 harg4 arg5 harg5 arg7 harg7 x1 x2 x3 x4 x6)

theorem hs1_24 : Good (kernelRun0_A.sl.r_78 c i arg2 harg2 arg3 harg3 arg4 harg4 arg5 harg5 x1 x2 x3 x4) x6 24 (kernelRun0_A.sl.HS1_24 c i arg2 harg2 arg3 harg3 arg4 harg4 arg5 harg5 arg7 harg7 x1 x2 x3 x4 x6) := by
  unfold kernelRun0_A.sl.HS1_24
  exact good_step arg7 harg7 (kernelRun0_A.sl.r_78 c i arg2 harg2 arg3 harg3 arg4 harg4 arg5 harg5 x1 x2 x3 x4) x6 22 23 2816 rfl rfl _ _ inb_S1x1024x3072_S1x1024x256_0_0_2816 _ (hs1_22 c i arg2 harg2 arg3 harg3 arg4 harg4 arg5 harg5 arg7 harg7 x1 x2 x3 x4 x6)

end Cert.Kernel3Ideal.SsdIn

end
-- ==== Proof.SsdInConv.lean ====
/- The blocks of convolved, gated and projected numbers the input projection leaves. -/
module

public import proofs.«01_k».proof.Proof.SsdInSlabs
public import proofs.«01_k».proof.Proof.Gen.Kernel3Ideal.Frame

@[expose] public section

set_option maxRecDepth 16384
set_option Elab.async false

noncomputable section

namespace Cert.Kernel3Ideal.SsdIn

open Cert.Kernel3Ideal Cert.Kernel3Ideal.Gen
open Idealize.ShloMosaic
open Idealize.ShloMosaic.TcCoe Idealize.ShloMosaic.Tactic
open Idealize.SL Idealize.SL.Sem
open Cert.Rows

/-- Stores that agree with one function, one store more. -/
theorem all_cons {s : Shape} {e : EltTy} {G : s.Idx → Elt Ideal e} {r : Rect s} {w : r.shape.Idx → Elt Ideal e} {L : List (View.Piece (Elt Ideal) s e)}
    (h : ∀ z : r.shape.Idx, w z = G (r.emb z)) (hL : ∀ p ∈ L, ∀ z : p.1.shape.Idx, p.2 z = G (p.1.emb z)) :
    ∀ p ∈ (⟨r, w⟩ :: L : List (View.Piece (Elt Ideal) s e)), ∀ z : p.1.shape.Idx, p.2 z = G (p.1.emb z) :=
  List.forall_mem_cons.mpr ⟨h, hL⟩

/-- The convolution at row `i` of a half and column `n`, from the half's rows with eight rows on either side. -/
def half (U : FVec Ideal S272x1024 .bf16) (x6 : Vec Ideal S1x1024x3072 .bf16) (x9 : Vec Ideal S1x4x3072 .f32) (x10 : Vec Ideal S1x1x3072 .f32) (i : Fin 256) (n : Fin 3072) : EReal :=
  convOf (proj U x6 ⟨6 + i.val, by omega⟩ n) (proj U x6 ⟨7 + i.val, by omega⟩ n) (proj U x6 ⟨8 + i.val, by omega⟩ n) (proj U x6 ⟨9 + i.val, by omega⟩ n)
    (x9 (ix3 0 0 n)) (x9 (ix3 0 1 n)) (x9 (ix3 0 2 n)) (x9 (ix3 0 3 n)) (x10 (ix3 0 0 n))

/-- The convolution at row `i` of a block. -/
def whole (U0 U1 : FVec Ideal S272x1024 .bf16) (x6 : Vec Ideal S1x1024x3072 .bf16) (x9 : Vec Ideal S1x4x3072 .f32) (x10 : Vec Ideal S1x1x3072 .f32) (i : Fin 512) (n : Fin 3072) : EReal :=
  if h : i.val < 256 then half U0 x6 x9 x10 ⟨i.val, h⟩ n else half U1 x6 x9 x10 ⟨i.val - 256, by omega⟩ n

theorem whole_lo (U0 U1 : FVec Ideal S272x1024 .bf16) (x6 : Vec Ideal S1x1024x3072 .bf16) (x9 : Vec Ideal S1x4x3072 .f32) (x10 : Vec Ideal S1x1x3072 .f32) (i : Fin 256) (j : Fin 512)
    (n n' : Fin 3072) (h : j.val = i.val) (hn : n' = n) : half U0 x6 x9 x10 i n = whole U0 U1 x6 x9 x10 j n' := by
  subst hn
  unfold whole
  rw [dif_pos (by omega)]
  exact congrArg (fun r => half U0 x6 x9 x10 r n') (Fin.ext h.symm)

theorem whole_hi (U0 U1 : FVec Ideal S272x1024 .bf16) (x6 : Vec Ideal S1x1024x3072 .bf16) (x9 : Vec Ideal S1x4x3072 .f32) (x10 : Vec Ideal S1x1x3072 .f32) (i : Fin 256) (j : Fin 512)
    (n n' : Fin 3072) (h : j.val = 256 + i.val) (hn : n' = n) : half U1 x6 x9 x10 i n = whole U0 U1 x6 x9 x10 j n' := by
  subst hn
  unfold whole
  rw [dif_neg (by omega)]
  exact congrArg (fun r => half U1 x6 x9 x10 r n') (Fin.ext (by show i.val = j.val - 256; omega))

/-- What block columns from the 2048th on hold. -/
def blockBc (U0 U1 : FVec Ideal S272x1024 .bf16) (x6 : Vec Ideal S1x1024x3072 .bf16) (x9 : Vec Ideal S1x4x3072 .f32) (x10 : Vec Ideal S1x1x3072 .f32) (y : S512x1024.Idx) : EReal :=
  whole U0 U1 x6 x9 x10 (y 0) ⟨2048 + (y 1).val, by have : (y 1).val < 1024 := (y 1).isLt; omega⟩

/-- What the first 2048 block columns hold. -/
def blockXs (U0 U1 : FVec Ideal S272x1024 .bf16) (x6 : Vec Ideal S1x1024x3072 .bf16) (x9 : Vec Ideal S1x4x3072 .f32) (x10 : Vec Ideal S1x1x3072 .f32) (y : S512x2048.Idx) : EReal :=
  whole U0 U1 x6 x9 x10 (y 0) ⟨(y 1).val, by have : (y 1).val < 2048 := (y 1).isLt; omega⟩

theorem inbS (q a : ℕ) (hq : q < 24) (ha : a + 256 ≤ 272) : ∀ b, (![q, a, 0] : Fin 3 → ℕ) b + S1x256x128.size b ≤ S24x272x128.size b := fun b => match b with
  | ⟨0, _⟩ => hq
  | ⟨1, _⟩ => ha
  | ⟨2, _⟩ => Nat.le_refl 128

theorem inbW (a o : ℕ) (ha : a < 4) (ho : o + 128 ≤ 3072) : ∀ b, (![0, a, o] : Fin 3 → ℕ) b + S1x1x128.size b ≤ S1x4x3072.size b := fun b => match b with
  | ⟨0, _⟩ => Nat.le_refl 1
  | ⟨1, _⟩ => ha
  | ⟨2, _⟩ => ho

theorem inbB (o : ℕ) (ho : o + 128 ≤ 3072) : ∀ b, (![0, 0, o] : Fin 3 → ℕ) b + S1x1x128.size b ≤ S1x1x3072.size b := fun b => match b with
  | ⟨0, _⟩ => Nat.le_refl 1
  | ⟨1, _⟩ => Nat.le_refl 1
  | ⟨2, _⟩ => ho

section
variable (arg10 : Memref sig .tc .vmem S1x4x3072 .f32) (harg10 : arg10.IsWhole) (arg11 : Memref sig .tc .vmem S1x1x3072 .f32) (harg11 : arg11.IsWhole) (arg : Memref sig .tc .vmem S24x272x128 .f32)
  (U : FVec Ideal S272x1024 .bf16) (x6 : Vec Ideal S1x1024x3072 .bf16) (x9 : Vec Ideal S1x4x3072 .f32) (x10 : Vec Ideal S1x1x3072 .f32)

/-- A convolution's store of 128 columns, as the payloads compute it from the loads. -/
abbrev stored (L : List (View.Piece (Elt Ideal) S24x272x128 .f32)) (q o : ℕ) (hq : q < 24) (ho : o = 128 * q) : FVec Ideal S256x128 .bf16 :=
  k0_pay95 (F := Ideal) (k0_pay94
    (View.readAt (Elt Ideal) arg11.view (Rect.unit (s := S1x1x3072) ![0, 0, o] S1x1x128.size (inbB o (by omega))).toLoadRect (harg11.unread x10))
    (arg.view.readCov L (Rect.unit (s := S24x272x128) ![q, 6, 0] S1x256x128.size (inbS q 6 hq (by omega))).toLoadRect)
    (View.readAt (Elt Ideal) arg10.view (Rect.unit (s := S1x4x3072) ![0, 0, o] S1x1x128.size (inbW 0 o (by omega) (by omega))).toLoadRect (harg10.unread x9))
    (arg.view.readCov L (Rect.unit (s := S24x272x128) ![q, 7, 0] S1x256x128.size (inbS q 7 hq (by omega))).toLoadRect)
    (View.readAt (Elt Ideal) arg10.view (Rect.unit (s := S1x4x3072) ![0, 1, o] S1x1x128.size (inbW 1 o (by omega) (by omega))).toLoadRect (harg10.unread x9))
    (arg.view.readCov L (Rect.unit (s := S24x272x128) ![q, 8, 0] S1x256x128.size (inbS q 8 hq (by omega))).toLoadRect)
    (View.readAt (Elt Ideal) arg10.view (Rect.unit (s := S1x4x3072) ![0, 2, o] S1x1x128.size (inbW 2 o (by omega) (by omega))).toLoadRect (harg10.unread x9))
    (arg.view.readCov L (Rect.unit (s := S24x272x128) ![q, 9, 0] S1x256x128.size (inbS q 9 hq (by omega))).toLoadRect)
    (View.readAt (Elt Ideal) arg10.view (Rect.unit (s := S1x4x3072) ![0, 3, o] S1x1x128.size (inbW 3 o (by omega) (by omega))).toLoadRect (harg10.unread x9)))

theorem stored_at (n : ℕ) (L : List (View.Piece (Elt Ideal) S24x272x128 .f32)) (h : Good U x6 n L) (q o : ℕ) (hqn : q < n) (hq : q < 24) (ho : o = 128 * q) (i : Fin 256) (l : Fin 128) :
    stored arg10 harg10 arg11 harg11 arg x9 x10 L q o hq ho (ix2 i l) = half U x6 x9 x10 i ⟨128 * q + l.val, by omega⟩ := by
  unfold stored half
  rw [conv_at, load_slab U x6 n L h arg q 6 hqn hq (by omega), load_slab U x6 n L h arg q 7 hqn hq (by omega), load_slab U x6 n L h arg q 8 hqn hq (by omega),
    load_slab U x6 n L h arg q 9 hqn hq (by omega)]
  rw [load_at harg10 x9 _ _ _ _ (ix3 0 0 ⟨128 * q + l.val, by omega⟩) fun a => ?_, load_at harg10 x9 _ _ _ _ (ix3 0 1 ⟨128 * q + l.val, by omega⟩) fun a => ?_,
    load_at harg10 x9 _ _ _ _ (ix3 0 2 ⟨128 * q + l.val, by omega⟩) fun a => ?_, load_at harg10 x9 _ _ _ _ (ix3 0 3 ⟨128 * q + l.val, by omega⟩) fun a => ?_,
    load_at harg11 x10 _ _ _ _ (ix3 0 0 ⟨128 * q + l.val, by omega⟩) fun a => ?_]
  all_goals
    match a with
    | ⟨0, _⟩ => rfl
    | ⟨1, _⟩ => rfl
    | ⟨2, _⟩ => show 128 * q + l.val = o + 1 * l.val; omega

theorem xs_lo (U1 : FVec Ideal S272x1024 .bf16) (n : ℕ) (L : List (View.Piece (Elt Ideal) S24x272x128 .f32)) (h : Good U x6 n L) (q o p : ℕ) (hqn : q < n) (hq : q < 24) (ho : o = 128 * q)
    (hp : o = 0 + p) (inb : ∀ b, (![0, p] : Fin 2 → ℕ) b + S256x128.size b ≤ S512x2048.size b) (z : S256x128.Idx) :
    stored arg10 harg10 arg11 harg11 arg x9 x10 L q o hq ho z = blockXs U U1 x6 x9 x10 ((Rect.unit (s := S512x2048) ![0, p] S256x128.size inb).emb z) := by
  obtain ⟨i, l, rfl⟩ : ∃ (i : Fin 256) (l : Fin 128), z = ix2 i l := ⟨z 0, z 1, by idx_vars z⟩
  rw [stored_at arg10 harg10 arg11 harg11 arg U x6 x9 x10 n L h q o hqn hq ho i l]
  refine whole_lo U U1 x6 x9 x10 i _ _ _ ?_ (Fin.ext ?_)
  · show 0 + 1 * i.val = _; omega
  · show p + 1 * l.val = 128 * q + l.val; omega

theorem xs_hi (U0 : FVec Ideal S272x1024 .bf16) (n : ℕ) (L : List (View.Piece (Elt Ideal) S24x272x128 .f32)) (h : Good U x6 n L) (q o p : ℕ) (hqn : q < n) (hq : q < 24) (ho : o = 128 * q)
    (hp : o = 0 + p) (inb : ∀ b, (![256, p] : Fin 2 → ℕ) b + S256x128.size b ≤ S512x2048.size b) (z : S256x128.Idx) :
    stored arg10 harg10 arg11 harg11 arg x9 x10 L q o hq ho z = blockXs U0 U x6 x9 x10 ((Rect.unit (s := S512x2048) ![256, p] S256x128.size inb).emb z) := by
  obtain ⟨i, l, rfl⟩ : ∃ (i : Fin 256) (l : Fin 128), z = ix2 i l := ⟨z 0, z 1, by idx_vars z⟩
  rw [stored_at arg10 harg10 arg11 harg11 arg U x6 x9 x10 n L h q o hqn hq ho i l]
  refine whole_hi U0 U x6 x9 x10 i _ _ _ ?_ (Fin.ext ?_)
  · show 256 + 1 * i.val = _; omega
  · show p + 1 * l.val = 128 * q + l.val; omega

theorem bc_lo (U1 : FVec Ideal S272x1024 .bf16) (n : ℕ) (L : List (View.Piece (Elt Ideal) S24x272x128 .f32)) (h : Good U x6 n L) (q o p : ℕ) (hqn : q < n) (hq : q < 24) (ho : o = 128 * q)
    (hp : o = 2048 + p) (inb : ∀ b, (![0, p] : Fin 2 → ℕ) b + S256x128.size b ≤ S512x1024.size b) (z : S256x128.Idx) :
    stored arg10 harg10 arg11 harg11 arg x9 x10 L q o hq ho z = blockBc U U1 x6 x9 x10 ((Rect.unit (s := S512x1024) ![0, p] S256x128.size inb).emb z) := by
  obtain ⟨i, l, rfl⟩ : ∃ (i : Fin 256) (l : Fin 128), z = ix2 i l := ⟨z 0, z 1, by idx_vars z⟩
  rw [stored_at arg10 harg10 arg11 harg11 arg U x6 x9 x10 n L h q o hqn hq ho i l]
  refine whole_lo U U1 x6 x9 x10 i _ _ _ ?_ (Fin.ext ?_)
  · show 0 + 1 * i.val = _; omega
  · show 2048 + (p + 1 * l.val) = 128 * q + l.val; omega

theorem bc_hi (U0 : FVec Ideal S272x1024 .bf16) (n : ℕ) (L : List (View.Piece (Elt Ideal) S24x272x128 .f32)) (h : Good U x6 n L) (q o p : ℕ) (hqn : q < n) (hq : q < 24) (ho : o = 128 * q)
    (hp : o = 2048 + p) (inb : ∀ b, (![256, p] : Fin 2 → ℕ) b + S256x128.size b ≤ S512x1024.size b) (z : S256x128.Idx) :
    stored arg10 harg10 arg11 harg11 arg x9 x10 L q o hq ho z = blockBc U0 U x6 x9 x10 ((Rect.unit (s := S512x1024) ![256, p] S256x128.size inb).emb z) := by
  obtain ⟨i, l, rfl⟩ : ∃ (i : Fin 256) (l : Fin 128), z = ix2 i l := ⟨z 0, z 1, by idx_vars z⟩
  rw [stored_at arg10 harg10 arg11 harg11 arg U x6 x9 x10 n L h q o hqn hq ho i l]
  refine whole_hi U0 U x6 x9 x10 i _ _ _ ?_ (Fin.ext ?_)
  · show 256 + 1 * i.val = _; omega
  · show 2048 + (p + 1 * l.val) = 128 * q + l.val; omega

end

variable (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S1x8x6144 .f32) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1024x3072 .bf16) (harg7 : arg7.IsWhole) (arg8 : Memref sig .tc .vmem S1x1024x128 .bf16) (harg8 : arg8.IsWhole) (arg9 : Memref sig .tc .vmem S1x1024x128 .bf16) (harg9 : arg9.IsWhole) (arg10 : Memref sig .tc .vmem S1x4x3072 .f32) (harg10 : arg10.IsWhole) (arg11 : Memref sig .tc .vmem S1x1x3072 .f32) (harg11 : arg11.IsWhole) (arg12 : Memref sig .tc .vmem S1x2x128 .f32) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x1024 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S24x272x128 .f32) (harg18 : arg18.IsWhole) (arg19 : Memref sig .tc .vmem S24x272x128 .f32) (harg19 : arg19.IsWhole)
    (x0 : Vec Ideal S8x1024 .f32) (x1 : Vec Ideal S512x1024 .f32) (x2 : Vec Ideal S8x1024 .f32) (x3 : Vec Ideal S1x8x6144 .f32) (x4 : Vec Ideal S1x1x1024 .f32) (x5 : Vec Ideal S1x1024x2048 .bf16) (x6 : Vec Ideal S1x1024x3072 .bf16) (x7 : Vec Ideal S1x1024x128 .bf16) (x8 : Vec Ideal S1x1024x128 .bf16) (x9 : Vec Ideal S1x4x3072 .f32) (x10 : Vec Ideal S1x1x3072 .f32) (x11 : Vec Ideal S1x2x128 .f32)

/-- The block left in the first convolved result. -/
theorem out13_eq (y : S512x2048.Idx) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = blockXs (kernelRun0_A.sl.r_8 c i arg1 harg1 arg2 harg2 arg4 harg4 arg5 harg5 x0 x1 x3 x4) (kernelRun0_A.sl.r_78 c i arg2 harg2 arg3 harg3 arg4 harg4 arg5 harg5 x1 x2 x3 x4) x6 x9 x10 y := by
  unfold out0_A_13
  refine View.read_writes_apply_of_pieces _ _ (blockXs (kernelRun0_A.sl.r_8 c i arg1 harg1 arg2 harg2 arg4 harg4 arg5 harg5 x0 x1 x3 x4) (kernelRun0_A.sl.r_78 c i arg2 harg2 arg3 harg3 arg4 harg4 arg5 harg5 x1 x2 x3 x4) x6 x9 x10) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 18 (kernelRun0_A.sl.HS1_18 c i arg2 harg2 arg3 harg3 arg4 harg4 arg5 harg5 arg7 harg7 x1 x2 x3 x4 x6) (hs1_18 c i arg2 harg2 arg3 harg3 arg4 harg4 arg5 harg5 arg7 harg7 x1 x2 x3 x4 x6) 15 1920 1920 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 18 (kernelRun0_A.sl.HS1_18 c i arg2 harg2 arg3 harg3 arg4 harg4 arg5 harg5 arg7 harg7 x1 x2 x3 x4 x6) (hs1_18 c i arg2 harg2 arg3 harg3 arg4 harg4 arg5 harg5 arg7 harg7 x1 x2 x3 x4 x6) 14 1792 1792 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 16 (kernelRun0_A.sl.HS1_16 c i arg2 harg2 arg3 harg3 arg4 harg4 arg5 harg5 arg7 harg7 x1 x2 x3 x4 x6) (hs1_16 c i arg2 harg2 arg3 harg3 arg4 harg4 arg5 harg5 arg7 harg7 x1 x2 x3 x4 x6) 13 1664 1664 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 16 (kernelRun0_A.sl.HS1_16 c i arg2 harg2 arg3 harg3 arg4 harg4 arg5 harg5 arg7 harg7 x1 x2 x3 x4 x6) (hs1_16 c i arg2 harg2 arg3 harg3 arg4 harg4 arg5 harg5 arg7 harg7 x1 x2 x3 x4 x6) 12 1536 1536 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 14 (kernelRun0_A.sl.HS1_14 c i arg2 harg2 arg3 harg3 arg4 harg4 arg5 harg5 arg7 harg7 x1 x2 x3 x4 x6) (hs1_14 c i arg2 harg2 arg3 harg3 arg4 harg4 arg5 harg5 arg7 harg7 x1 x2 x3 x4 x6) 11 1408 1408 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 14 (kernelRun0_A.sl.HS1_14 c i arg2 harg2 arg3 harg3 arg4 harg4 arg5 harg5 arg7 harg7 x1 x2 x3 x4 x6) (hs1_14 c i arg2 harg2 arg3 harg3 arg4 harg4 arg5 harg5 arg7 harg7 x1 x2 x3 x4 x6) 10 1280 1280 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 12 (kernelRun0_A.sl.HS1_12 c i arg2 harg2 arg3 harg3 arg4 harg4 arg5 harg5 arg7 harg7 x1 x2 x3 x4 x6) (hs1_12 c i arg2 harg2 arg3 harg3 arg4 harg4 arg5 harg5 arg7 harg7 x1 x2 x3 x4 x6) 9 1152 1152 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 12 (kernelRun0_A.sl.HS1_12 c i arg2 harg2 arg3 harg3 arg4 harg4 arg5 harg5 arg7 harg7 x1 x2 x3 x4 x6) (hs1_12 c i arg2 harg2 arg3 harg3 arg4 harg4 arg5 harg5 arg7 harg7 x1 x2 x3 x4 x6) 8 1024 1024 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 10 (kernelRun0_A.sl.HS1_10 c i arg2 harg2 arg3 harg3 arg4 harg4 arg5 harg5 arg7 harg7 x1 x2 x3 x4 x6) (hs1_10 c i arg2 harg2 arg3 harg3 arg4 harg4 arg5 harg5 arg7 harg7 x1 x2 x3 x4 x6) 7 896 896 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 10 (kernelRun0_A.sl.HS1_10 c i arg2 harg2 arg3 harg3 arg4 harg4 arg5 harg5 arg7 harg7 x1 x2 x3 x4 x6) (hs1_10 c i arg2 harg2 arg3 harg3 arg4 harg4 arg5 harg5 arg7 harg7 x1 x2 x3 x4 x6) 6 768 768 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 8 (kernelRun0_A.sl.HS1_8 c i arg2 harg2 arg3 harg3 arg4 harg4 arg5 harg5 arg7 harg7 x1 x2 x3 x4 x6) (hs1_8 c i arg2 harg2 arg3 harg3 arg4 harg4 arg5 harg5 arg7 harg7 x1 x2 x3 x4 x6) 5 640 640 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 8 (kernelRun0_A.sl.HS1_8 c i arg2 harg2 arg3 harg3 arg4 harg4 arg5 harg5 arg7 harg7 x1 x2 x3 x4 x6) (hs1_8 c i arg2 harg2 arg3 harg3 arg4 harg4 arg5 harg5 arg7 harg7 x1 x2 x3 x4 x6) 4 512 512 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 6 (kernelRun0_A.sl.HS1_6 c i arg2 harg2 arg3 harg3 arg4 harg4 arg5 harg5 arg7 harg7 x1 x2 x3 x4 x6) (hs1_6 c i arg2 harg2 arg3 harg3 arg4 harg4 arg5 harg5 arg7 harg7 x1 x2 x3 x4 x6) 3 384 384 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 6 (kernelRun0_A.sl.HS1_6 c i arg2 harg2 arg3 harg3 arg4 harg4 arg5 harg5 arg7 harg7 x1 x2 x3 x4 x6) (hs1_6 c i arg2 harg2 arg3 harg3 arg4 harg4 arg5 harg5 arg7 harg7 x1 x2 x3 x4 x6) 2 256 256 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 4 (kernelRun0_A.sl.HS1_4 c i arg2 harg2 arg3 harg3 arg4 harg4 arg5 harg5 arg7 harg7 x1 x2 x3 x4 x6) (hs1_4 c i arg2 harg2 arg3 harg3 arg4 harg4 arg5 harg5 arg7 harg7 x1 x2 x3 x4 x6) 1 128 128 (by decide) (by decide) rfl rfl _ z
  refine all_cons (fun z => ?_) ?_
  · exact xs_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 4 (kernelRun0_A.sl.HS1_4 c i arg2 harg2 arg3 harg3 arg4 harg4 arg5 harg5 arg7 harg7 x1 x2 x3 x4 x6) (hs1_4 c i arg2 harg2 arg3 harg3 arg4 harg4 arg5 harg5 arg7 harg7 x1 x2 x3 x4 x6) 0 0 0 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 18 (kernelRun0_A.sl.HS0_18 c i arg1 harg1 arg2 harg2 arg4 harg4 arg5 harg5 arg7 harg7 x0 x1 x3 x4 x6) (hs0_18 c i arg1 harg1 arg2 harg2 arg4 harg4 arg5 harg5 arg7 harg7 x0 x1 x3 x4 x6) 15 1920 1920 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 18 (kernelRun0_A.sl.HS0_18 c i arg1 harg1 arg2 harg2 arg4 harg4 arg5 harg5 arg7 harg7 x0 x1 x3 x4 x6) (hs0_18 c i arg1 harg1 arg2 harg2 arg4 harg4 arg5 harg5 arg7 harg7 x0 x1 x3 x4 x6) 14 1792 1792 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 16 (kernelRun0_A.sl.HS0_16 c i arg1 harg1 arg2 harg2 arg4 harg4 arg5 harg5 arg7 harg7 x0 x1 x3 x4 x6) (hs0_16 c i arg1 harg1 arg2 harg2 arg4 harg4 arg5 harg5 arg7 harg7 x0 x1 x3 x4 x6) 13 1664 1664 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 16 (kernelRun0_A.sl.HS0_16 c i arg1 harg1 arg2 harg2 arg4 harg4 arg5 harg5 arg7 harg7 x0 x1 x3 x4 x6) (hs0_16 c i arg1 harg1 arg2 harg2 arg4 harg4 arg5 harg5 arg7 harg7 x0 x1 x3 x4 x6) 12 1536 1536 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 14 (kernelRun0_A.sl.HS0_14 c i arg1 harg1 arg2 harg2 arg4 harg4 arg5 harg5 arg7 harg7 x0 x1 x3 x4 x6) (hs0_14 c i arg1 harg1 arg2 harg2 arg4 harg4 arg5 harg5 arg7 harg7 x0 x1 x3 x4 x6) 11 1408 1408 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 14 (kernelRun0_A.sl.HS0_14 c i arg1 harg1 arg2 harg2 arg4 harg4 arg5 harg5 arg7 harg7 x0 x1 x3 x4 x6) (hs0_14 c i arg1 harg1 arg2 harg2 arg4 harg4 arg5 harg5 arg7 harg7 x0 x1 x3 x4 x6) 10 1280 1280 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 12 (kernelRun0_A.sl.HS0_12 c i arg1 harg1 arg2 harg2 arg4 harg4 arg5 harg5 arg7 harg7 x0 x1 x3 x4 x6) (hs0_12 c i arg1 harg1 arg2 harg2 arg4 harg4 arg5 harg5 arg7 harg7 x0 x1 x3 x4 x6) 9 1152 1152 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 12 (kernelRun0_A.sl.HS0_12 c i arg1 harg1 arg2 harg2 arg4 harg4 arg5 harg5 arg7 harg7 x0 x1 x3 x4 x6) (hs0_12 c i arg1 harg1 arg2 harg2 arg4 harg4 arg5 harg5 arg7 harg7 x0 x1 x3 x4 x6) 8 1024 1024 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 10 (kernelRun0_A.sl.HS0_10 c i arg1 harg1 arg2 harg2 arg4 harg4 arg5 harg5 arg7 harg7 x0 x1 x3 x4 x6) (hs0_10 c i arg1 harg1 arg2 harg2 arg4 harg4 arg5 harg5 arg7 harg7 x0 x1 x3 x4 x6) 7 896 896 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 10 (kernelRun0_A.sl.HS0_10 c i arg1 harg1 arg2 harg2 arg4 harg4 arg5 harg5 arg7 harg7 x0 x1 x3 x4 x6) (hs0_10 c i arg1 harg1 arg2 harg2 arg4 harg4 arg5 harg5 arg7 harg7 x0 x1 x3 x4 x6) 6 768 768 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 8 (kernelRun0_A.sl.HS0_8 c i arg1 harg1 arg2 harg2 arg4 harg4 arg5 harg5 arg7 harg7 x0 x1 x3 x4 x6) (hs0_8 c i arg1 harg1 arg2 harg2 arg4 harg4 arg5 harg5 arg7 harg7 x0 x1 x3 x4 x6) 5 640 640 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 8 (kernelRun0_A.sl.HS0_8 c i arg1 harg1 arg2 harg2 arg4 harg4 arg5 harg5 arg7 harg7 x0 x1 x3 x4 x6) (hs0_8 c i arg1 harg1 arg2 harg2 arg4 harg4 arg5 harg5 arg7 harg7 x0 x1 x3 x4 x6) 4 512 512 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 6 (kernelRun0_A.sl.HS0_6 c i arg1 harg1 arg2 harg2 arg4 harg4 arg5 harg5 arg7 harg7 x0 x1 x3 x4 x6) (hs0_6 c i arg1 harg1 arg2 harg2 arg4 harg4 arg5 harg5 arg7 harg7 x0 x1 x3 x4 x6) 3 384 384 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 6 (kernelRun0_A.sl.HS0_6 c i arg1 harg1 arg2 harg2 arg4 harg4 arg5 harg5 arg7 harg7 x0 x1 x3 x4 x6) (hs0_6 c i arg1 harg1 arg2 harg2 arg4 harg4 arg5 harg5 arg7 harg7 x0 x1 x3 x4 x6) 2 256 256 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 4 (kernelRun0_A.sl.HS0_4 c i arg1 harg1 arg2 harg2 arg4 harg4 arg5 harg5 arg7 harg7 x0 x1 x3 x4 x6) (hs0_4 c i arg1 harg1 arg2 harg2 arg4 harg4 arg5 harg5 arg7 harg7 x0 x1 x3 x4 x6) 1 128 128 (by decide) (by decide) rfl rfl _ z
  refine all_cons (fun z => ?_) ?_
  · exact xs_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 4 (kernelRun0_A.sl.HS0_4 c i arg1 harg1 arg2 harg2 arg4 harg4 arg5 harg5 arg7 harg7 x0 x1 x3 x4 x6) (hs0_4 c i arg1 harg1 arg2 harg2 arg4 harg4 arg5 harg5 arg7 harg7 x0 x1 x3 x4 x6) 0 0 0 (by decide) (by decide) rfl rfl _ z
  exact fun _ h => (nomatch h)

/-- The block left in the second convolved result. -/
theorem out14_eq (y : S512x1024.Idx) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = blockBc (kernelRun0_A.sl.r_8 c i arg1 harg1 arg2 harg2 arg4 harg4 arg5 harg5 x0 x1 x3 x4) (kernelRun0_A.sl.r_78 c i arg2 harg2 arg3 harg3 arg4 harg4 arg5 harg5 x1 x2 x3 x4) x6 x9 x10 y := by
  unfold out0_A_14
  refine View.read_writes_apply_of_pieces _ _ (blockBc (kernelRun0_A.sl.r_8 c i arg1 harg1 arg2 harg2 arg4 harg4 arg5 harg5 x0 x1 x3 x4) (kernelRun0_A.sl.r_78 c i arg2 harg2 arg3 harg3 arg4 harg4 arg5 harg5 x1 x2 x3 x4) x6 x9 x10) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  refine all_cons (fun z => ?_) ?_
  · exact bc_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 24 (kernelRun0_A.sl.HS1_24 c i arg2 harg2 arg3 harg3 arg4 harg4 arg5 harg5 arg7 harg7 x1 x2 x3 x4 x6) (hs1_24 c i arg2 harg2 arg3 harg3 arg4 harg4 arg5 harg5 arg7 harg7 x1 x2 x3 x4 x6) 23 2944 896 (by decide) (by decide) rfl rfl _ z
  refine all_cons (fun z => ?_) ?_
  · exact bc_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 24 (kernelRun0_A.sl.HS1_24 c i arg2 harg2 arg3 harg3 arg4 harg4 arg5 harg5 arg7 harg7 x1 x2 x3 x4 x6) (hs1_24 c i arg2 harg2 arg3 harg3 arg4 harg4 arg5 harg5 arg7 harg7 x1 x2 x3 x4 x6) 22 2816 768 (by decide) (by decide) rfl rfl _ z
  refine all_cons (fun z => ?_) ?_
  · exact bc_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 24 (kernelRun0_A.sl.HS1_24 c i arg2 harg2 arg3 harg3 arg4 harg4 arg5 harg5 arg7 harg7 x1 x2 x3 x4 x6) (hs1_24 c i arg2 harg2 arg3 harg3 arg4 harg4 arg5 harg5 arg7 harg7 x1 x2 x3 x4 x6) 21 2688 640 (by decide) (by decide) rfl rfl _ z
  refine all_cons (fun z => ?_) ?_
  · exact bc_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 24 (kernelRun0_A.sl.HS1_24 c i arg2 harg2 arg3 harg3 arg4 harg4 arg5 harg5 arg7 harg7 x1 x2 x3 x4 x6) (hs1_24 c i arg2 harg2 arg3 harg3 arg4 harg4 arg5 harg5 arg7 harg7 x1 x2 x3 x4 x6) 20 2560 512 (by decide) (by decide) rfl rfl _ z
  refine all_cons (fun z => ?_) ?_
  · exact bc_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 22 (kernelRun0_A.sl.HS1_22 c i arg2 harg2 arg3 harg3 arg4 harg4 arg5 harg5 arg7 harg7 x1 x2 x3 x4 x6) (hs1_22 c i arg2 harg2 arg3 harg3 arg4 harg4 arg5 harg5 arg7 harg7 x1 x2 x3 x4 x6) 19 2432 384 (by decide) (by decide) rfl rfl _ z
  refine all_cons (fun z => ?_) ?_
  · exact bc_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 22 (kernelRun0_A.sl.HS1_22 c i arg2 harg2 arg3 harg3 arg4 harg4 arg5 harg5 arg7 harg7 x1 x2 x3 x4 x6) (hs1_22 c i arg2 harg2 arg3 harg3 arg4 harg4 arg5 harg5 arg7 harg7 x1 x2 x3 x4 x6) 18 2304 256 (by decide) (by decide) rfl rfl _ z
  refine all_cons (fun z => ?_) ?_
  · exact bc_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 20 (kernelRun0_A.sl.HS1_20 c i arg2 harg2 arg3 harg3 arg4 harg4 arg5 harg5 arg7 harg7 x1 x2 x3 x4 x6) (hs1_20 c i arg2 harg2 arg3 harg3 arg4 harg4 arg5 harg5 arg7 harg7 x1 x2 x3 x4 x6) 17 2176 128 (by decide) (by decide) rfl rfl _ z
  refine all_cons (fun z => ?_) ?_
  · exact bc_hi arg10 harg10 arg11 harg11 arg19 (kernelRun0_A.sl.r_78 c i arg2 harg2 arg3 harg3 arg4 harg4 arg5 harg5 x1 x2 x3 x4) x6 x9 x10 (kernelRun0_A.sl.r_8 c i arg1 harg1 arg2 harg2 arg4 harg4 arg5 harg5 x0 x1 x3 x4) 20 (kernelRun0_A.sl.HS1_20 c i arg2 harg2 arg3 harg3 arg4 harg4 arg5 harg5 arg7 harg7 x1 x2 x3 x4 x6) (hs1_20 c i arg2 harg2 arg3 harg3 arg4 harg4 arg5 harg5 arg7 harg7 x1 x2 x3 x4 x6) 16 2048 0 (by decide) (by decide) rfl rfl _ z
  refine all_cons (fun z => ?_) ?_
  · exact bc_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 24 (kernelRun0_A.sl.HS0_24 c i arg1 harg1 arg2 harg2 arg4 harg4 arg5 harg5 arg7 harg7 x0 x1 x3 x4 x6) (hs0_24 c i arg1 harg1 arg2 harg2 arg4 harg4 arg5 harg5 arg7 harg7 x0 x1 x3 x4 x6) 23 2944 896 (by decide) (by decide) rfl rfl _ z
  refine all_cons (fun z => ?_) ?_
  · exact bc_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 24 (kernelRun0_A.sl.HS0_24 c i arg1 harg1 arg2 harg2 arg4 harg4 arg5 harg5 arg7 harg7 x0 x1 x3 x4 x6) (hs0_24 c i arg1 harg1 arg2 harg2 arg4 harg4 arg5 harg5 arg7 harg7 x0 x1 x3 x4 x6) 22 2816 768 (by decide) (by decide) rfl rfl _ z
  refine all_cons (fun z => ?_) ?_
  · exact bc_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 24 (kernelRun0_A.sl.HS0_24 c i arg1 harg1 arg2 harg2 arg4 harg4 arg5 harg5 arg7 harg7 x0 x1 x3 x4 x6) (hs0_24 c i arg1 harg1 arg2 harg2 arg4 harg4 arg5 harg5 arg7 harg7 x0 x1 x3 x4 x6) 21 2688 640 (by decide) (by decide) rfl rfl _ z
  refine all_cons (fun z => ?_) ?_
  · exact bc_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 24 (kernelRun0_A.sl.HS0_24 c i arg1 harg1 arg2 harg2 arg4 harg4 arg5 harg5 arg7 harg7 x0 x1 x3 x4 x6) (hs0_24 c i arg1 harg1 arg2 harg2 arg4 harg4 arg5 harg5 arg7 harg7 x0 x1 x3 x4 x6) 20 2560 512 (by decide) (by decide) rfl rfl _ z
  refine all_cons (fun z => ?_) ?_
  · exact bc_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 22 (kernelRun0_A.sl.HS0_22 c i arg1 harg1 arg2 harg2 arg4 harg4 arg5 harg5 arg7 harg7 x0 x1 x3 x4 x6) (hs0_22 c i arg1 harg1 arg2 harg2 arg4 harg4 arg5 harg5 arg7 harg7 x0 x1 x3 x4 x6) 19 2432 384 (by decide) (by decide) rfl rfl _ z
  refine all_cons (fun z => ?_) ?_
  · exact bc_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 22 (kernelRun0_A.sl.HS0_22 c i arg1 harg1 arg2 harg2 arg4 harg4 arg5 harg5 arg7 harg7 x0 x1 x3 x4 x6) (hs0_22 c i arg1 harg1 arg2 harg2 arg4 harg4 arg5 harg5 arg7 harg7 x0 x1 x3 x4 x6) 18 2304 256 (by decide) (by decide) rfl rfl _ z
  refine all_cons (fun z => ?_) ?_
  · exact bc_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 20 (kernelRun0_A.sl.HS0_20 c i arg1 harg1 arg2 harg2 arg4 harg4 arg5 harg5 arg7 harg7 x0 x1 x3 x4 x6) (hs0_20 c i arg1 harg1 arg2 harg2 arg4 harg4 arg5 harg5 arg7 harg7 x0 x1 x3 x4 x6) 17 2176 128 (by decide) (by decide) rfl rfl _ z
  refine all_cons (fun z => ?_) ?_
  · exact bc_lo arg10 harg10 arg11 harg11 arg18 (kernelRun0_A.sl.r_8 c i arg1 harg1 arg2 harg2 arg4 harg4 arg5 harg5 x0 x1 x3 x4) x6 x9 x10 (kernelRun0_A.sl.r_78 c i arg2 harg2 arg3 harg3 arg4 harg4 arg5 harg5 x1 x2 x3 x4) 20 (kernelRun0_A.sl.HS0_20 c i arg1 harg1 arg2 harg2 arg4 harg4 arg5 harg5 arg7 harg7 x0 x1 x3 x4 x6) (hs0_20 c i arg1 harg1 arg2 harg2 arg4 harg4 arg5 harg5 arg7 harg7 x0 x1 x3 x4 x6) 16 2048 0 (by decide) (by decide) rfl rfl _ z
  exact fun _ h => (nomatch h)

end Cert.Kernel3Ideal.SsdIn

end
-- ==== Proof.SsdInGate.lean ====
/- The blocks of gates and of step widths the input projection leaves. -/
module

public import proofs.«01_k».proof.Proof.SsdInConv

@[expose] public section

set_option maxRecDepth 16384
set_option Elab.async false

noncomputable section

namespace Cert.Kernel3Ideal.SsdIn

open Cert.Kernel3Ideal Cert.Kernel3Ideal.Gen
open Idealize.ShloMosaic
open Idealize.ShloMosaic.TcCoe Idealize.ShloMosaic.Tactic
open Idealize.SL Idealize.SL.Sem
open Cert.Rows

/-- A block's row, from its two halves. -/
def rows (V0 V1 : FVec Ideal S256x1024 .bf16) (i : Fin 512) (k : Fin 1024) : EReal :=
  if h : i.val < 256 then V0 (ix2 ⟨i.val, h⟩ k) else V1 (ix2 ⟨i.val - 256, by omega⟩ k)

theorem rows_lo (V0 V1 : FVec Ideal S256x1024 .bf16) (i : Fin 256) (j : Fin 512) (k : Fin 1024) (h : j.val = i.val) : V0 (ix2 i k) = rows V0 V1 j k := by
  unfold rows
  rw [dif_pos (by omega)]
  exact congrArg (fun r => V0 (ix2 r k)) (Fin.ext h.symm)

theorem rows_hi (V0 V1 : FVec Ideal S256x1024 .bf16) (i : Fin 256) (j : Fin 512) (k : Fin 1024) (h : j.val = 256 + i.val) : V1 (ix2 i k) = rows V0 V1 j k := by
  unfold rows
  rw [dif_neg (by omega)]
  exact congrArg (fun r => V1 (ix2 r k)) (Fin.ext (by show i.val = j.val - 256; omega))

/-- What a block of gates holds. -/
def blockZ (V0 V1 : FVec Ideal S256x1024 .bf16) (x5 : Vec Ideal S1x1024x2048 .bf16) (y : S512x2048.Idx) : EReal :=
  dot (rows V0 V1 (y 0)) (fun k => x5 (ix3 0 k (y 1)))

/-- What a block of step widths holds; `d` is the direction. -/
def blockDt (d : Fin 2) (V0 V1 : FVec Ideal S256x1024 .bf16) (w : Vec Ideal S1x1024x128 .bf16) (x11 : Vec Ideal S1x2x128 .f32) (y : S512x128.Idx) : EReal :=
  softplus (dot (rows V0 V1 (y 0)) (fun k => w (ix3 0 k (y 1))) + x11 (ix3 0 d (y 1)))

theorem dot_congr {u w u' w' : Fin 1024 → EReal} (e0 : ∀ k, u k = u' k) (e1 : ∀ k, w k = w' k) : dot u w = dot u' w' := by
  rw [funext e0, funext e1]

theorem z_lo (arg6 : Memref sig .tc .vmem S1x1024x2048 .bf16) (harg6 : arg6.IsWhole) (V0 V1 : FVec Ideal S256x1024 .bf16) (x5 : Vec Ideal S1x1024x2048 .bf16) (o : ℕ)
    (inbo : ∀ b, (![0, 0, o] : Fin 3 → ℕ) b + S1x1024x256.size b ≤ S1x1024x2048.size b) (inb : ∀ b, (![0, o] : Fin 2 → ℕ) b + S256x256.size b ≤ S512x2048.size b) (z : S256x256.Idx) :
    k0_pay90 (F := Ideal) V0 (View.readAt (Elt Ideal) arg6.view (Rect.unit (s := S1x1024x2048) ![0, 0, o] S1x1024x256.size inbo).toLoadRect (harg6.unread x5)) z
      = blockZ V0 V1 x5 ((Rect.unit (s := S512x2048) ![0, o] S256x256.size inb).emb z) := by
  obtain ⟨i, l, rfl⟩ : ∃ (i : Fin 256) (l : Fin 256), z = ix2 i l := ⟨z 0, z 1, by idx_vars z⟩
  rw [gate_at]
  refine dot_congr (fun k => rows_lo V0 V1 i _ k ?_) (fun k => load_at harg6 x5 _ _ _ _ _ fun a => ?_)
  · show 0 + 1 * i.val = _; omega
  · match a with
    | ⟨0, _⟩ => rfl
    | ⟨1, _⟩ => show k.val = 0 + 1 * k.val; omega
    | ⟨2, _⟩ => rfl

theorem dt_lo (arg8 : Memref sig .tc .vmem S1x1024x128 .bf16) (harg8 : arg8.IsWhole) (arg12 : Memref sig .tc .vmem S1x2x128 .f32) (harg12 : arg12.IsWhole)
    (V0 V1 : FVec Ideal S256x1024 .bf16) (w : Vec Ideal S1x1024x128 .bf16) (x11 : Vec Ideal S1x2x128 .f32) (d : Fin 2) (e : ℕ) (he : d.val = e)
    (inbo : ∀ b, (![0, 0, 0] : Fin 3 → ℕ) b + S1x1024x128.size b ≤ S1x1024x128.size b) (inbd : ∀ b, (![0, e, 0] : Fin 3 → ℕ) b + S1x1x128.size b ≤ S1x2x128.size b)
    (inb : ∀ b, (![0, 0] : Fin 2 → ℕ) b + S256x128.size b ≤ S512x128.size b) (z : S256x128.Idx) :
    k0_pay102 (F := Ideal)
      (k0_pay100 V0 (View.readAt (Elt Ideal) arg8.view (Rect.unit (s := S1x1024x128) ![0, 0, 0] S1x1024x128.size inbo).toLoadRect (harg8.unread w))
        (View.readAt (Elt Ideal) arg12.view (Rect.unit (s := S1x2x128) ![0, e, 0] S1x1x128.size inbd).toLoadRect (harg12.unread x11)))
      (k0_pay101 V0 (View.readAt (Elt Ideal) arg8.view (Rect.unit (s := S1x1024x128) ![0, 0, 0] S1x1024x128.size inbo).toLoadRect (harg8.unread w))
        (View.readAt (Elt Ideal) arg12.view (Rect.unit (s := S1x2x128) ![0, e, 0] S1x1x128.size inbd).toLoadRect (harg12.unread x11))) z
      = blockDt d V0 V1 w x11 ((Rect.unit (s := S512x128) ![0, 0] S256x128.size inb).emb z) := by
  obtain ⟨i, l, rfl⟩ : ∃ (i : Fin 256) (l : Fin 128), z = ix2 i l := ⟨z 0, z 1, by idx_vars z⟩
  rw [step_at]
  refine congrArg softplus (congrArg₂ (· + ·) (dot_congr (fun k => rows_lo V0 V1 i _ k ?_) (fun k => load_at harg8 w _ _ _ _ _ fun a => ?_)) (load_at harg12 x11 _ _ _ _ _ fun a => ?_))
  · show 0 + 1 * i.val = _; omega
  · match a with
    | ⟨0, _⟩ => rfl
    | ⟨1, _⟩ => show k.val = 0 + 1 * k.val; omega
    | ⟨2, _⟩ => rfl
  · match a with
    | ⟨0, _⟩ => rfl
    | ⟨1, _⟩ => show d.val = e + 1 * 0; omega
    | ⟨2, _⟩ => rfl

theorem z_hi (arg6 : Memref sig .tc .vmem S1x1024x2048 .bf16) (harg6 : arg6.IsWhole) (V0 V1 : FVec Ideal S256x1024 .bf16) (x5 : Vec Ideal S1x1024x2048 .bf16) (o : ℕ)
    (inbo : ∀ b, (![0, 0, o] : Fin 3 → ℕ) b + S1x1024x256.size b ≤ S1x1024x2048.size b) (inb : ∀ b, (![256, o] : Fin 2 → ℕ) b + S256x256.size b ≤ S512x2048.size b) (z : S256x256.Idx) :
    k0_pay90 (F := Ideal) V1 (View.readAt (Elt Ideal) arg6.view (Rect.unit (s := S1x1024x2048) ![0, 0, o] S1x1024x256.size inbo).toLoadRect (harg6.unread x5)) z
      = blockZ V0 V1 x5 ((Rect.unit (s := S512x2048) ![256, o] S256x256.size inb).emb z) := by
  obtain ⟨i, l, rfl⟩ : ∃ (i : Fin 256) (l : Fin 256), z = ix2 i l := ⟨z 0, z 1, by idx_vars z⟩
  rw [gate_at]
  refine dot_congr (fun k => rows_hi V0 V1 i _ k ?_) (fun k => load_at harg6 x5 _ _ _ _ _ fun a => ?_)
  · show 256 + 1 * i.val = _; omega
  · match a with
    | ⟨0, _⟩ => rfl
    | ⟨1, _⟩ => show k.val = 0 + 1 * k.val; omega
    | ⟨2, _⟩ => rfl

theorem dt_hi (arg8 : Memref sig .tc .vmem S1x1024x128 .bf16) (harg8 : arg8.IsWhole) (arg12 : Memref sig .tc .vmem S1x2x128 .f32) (harg12 : arg12.IsWhole)
    (V0 V1 : FVec Ideal S256x1024 .bf16) (w : Vec Ideal S1x1024x128 .bf16) (x11 : Vec Ideal S1x2x128 .f32) (d : Fin 2) (e : ℕ) (he : d.val = e)
    (inbo : ∀ b, (![0, 0, 0] : Fin 3 → ℕ) b + S1x1024x128.size b ≤ S1x1024x128.size b) (inbd : ∀ b, (![0, e, 0] : Fin 3 → ℕ) b + S1x1x128.size b ≤ S1x2x128.size b)
    (inb : ∀ b, (![256, 0] : Fin 2 → ℕ) b + S256x128.size b ≤ S512x128.size b) (z : S256x128.Idx) :
    k0_pay102 (F := Ideal)
      (k0_pay100 V1 (View.readAt (Elt Ideal) arg8.view (Rect.unit (s := S1x1024x128) ![0, 0, 0] S1x1024x128.size inbo).toLoadRect (harg8.unread w))
        (View.readAt (Elt Ideal) arg12.view (Rect.unit (s := S1x2x128) ![0, e, 0] S1x1x128.size inbd).toLoadRect (harg12.unread x11)))
      (k0_pay101 V1 (View.readAt (Elt Ideal) arg8.view (Rect.unit (s := S1x1024x128) ![0, 0, 0] S1x1024x128.size inbo).toLoadRect (harg8.unread w))
        (View.readAt (Elt Ideal) arg12.view (Rect.unit (s := S1x2x128) ![0, e, 0] S1x1x128.size inbd).toLoadRect (harg12.unread x11))) z
      = blockDt d V0 V1 w x11 ((Rect.unit (s := S512x128) ![256, 0] S256x128.size inb).emb z) := by
  obtain ⟨i, l, rfl⟩ : ∃ (i : Fin 256) (l : Fin 128), z = ix2 i l := ⟨z 0, z 1, by idx_vars z⟩
  rw [step_at]
  refine congrArg softplus (congrArg₂ (· + ·) (dot_congr (fun k => rows_hi V0 V1 i _ k ?_) (fun k => load_at harg8 w _ _ _ _ _ fun a => ?_)) (load_at harg12 x11 _ _ _ _ _ fun a => ?_))
  · show 256 + 1 * i.val = _; omega
  · match a with
    | ⟨0, _⟩ => rfl
    | ⟨1, _⟩ => show k.val = 0 + 1 * k.val; omega
    | ⟨2, _⟩ => rfl
  · match a with
    | ⟨0, _⟩ => rfl
    | ⟨1, _⟩ => show d.val = e + 1 * 0; omega
    | ⟨2, _⟩ => rfl

variable (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S1x8x6144 .f32) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1024x3072 .bf16) (harg7 : arg7.IsWhole) (arg8 : Memref sig .tc .vmem S1x1024x128 .bf16) (harg8 : arg8.IsWhole) (arg9 : Memref sig .tc .vmem S1x1024x128 .bf16) (harg9 : arg9.IsWhole) (arg10 : Memref sig .tc .vmem S1x4x3072 .f32) (harg10 : arg10.IsWhole) (arg11 : Memref sig .tc .vmem S1x1x3072 .f32) (harg11 : arg11.IsWhole) (arg12 : Memref sig .tc .vmem S1x2x128 .f32) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x1024 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S24x272x128 .f32) (harg18 : arg18.IsWhole) (arg19 : Memref sig .tc .vmem S24x272x128 .f32) (harg19 : arg19.IsWhole)
    (x0 : Vec Ideal S8x1024 .f32) (x1 : Vec Ideal S512x1024 .f32) (x2 : Vec Ideal S8x1024 .f32) (x3 : Vec Ideal S1x8x6144 .f32) (x4 : Vec Ideal S1x1x1024 .f32) (x5 : Vec Ideal S1x1024x2048 .bf16) (x6 : Vec Ideal S1x1024x3072 .bf16) (x7 : Vec Ideal S1x1024x128 .bf16) (x8 : Vec Ideal S1x1024x128 .bf16) (x9 : Vec Ideal S1x4x3072 .f32) (x10 : Vec Ideal S1x1x3072 .f32) (x11 : Vec Ideal S1x2x128 .f32)

/-- The block left in the gates. -/
theorem out12_eq (y : S512x2048.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = blockZ (kernelRun0_A.sl.r_6 c i arg2 harg2 arg4 harg4 arg5 harg5 x1 x3 x4) (kernelRun0_A.sl.r_76 c i arg2 harg2 arg4 harg4 arg5 harg5 x1 x3 x4) x5 y := by
  unfold out0_A_12
  refine View.read_writes_apply_of_pieces _ _ (blockZ (kernelRun0_A.sl.r_6 c i arg2 harg2 arg4 harg4 arg5 harg5 x1 x3 x4) (kernelRun0_A.sl.r_76 c i arg2 harg2 arg4 harg4 arg5 harg5 x1 x3 x4) x5) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  refine all_cons (fun z => ?_) ?_
  · exact z_hi arg6 harg6 (kernelRun0_A.sl.r_6 c i arg2 harg2 arg4 harg4 arg5 harg5 x1 x3 x4) (kernelRun0_A.sl.r_76 c i arg2 harg2 arg4 harg4 arg5 harg5 x1 x3 x4) x5 1792 inb_S1x1024x2048_S1x1024x256_0_0_1792 _ z
  refine all_cons (fun z => ?_) ?_
  · exact z_hi arg6 harg6 (kernelRun0_A.sl.r_6 c i arg2 harg2 arg4 harg4 arg5 harg5 x1 x3 x4) (kernelRun0_A.sl.r_76 c i arg2 harg2 arg4 harg4 arg5 harg5 x1 x3 x4) x5 1536 inb_S1x1024x2048_S1x1024x256_0_0_1536 _ z
  refine all_cons (fun z => ?_) ?_
  · exact z_hi arg6 harg6 (kernelRun0_A.sl.r_6 c i arg2 harg2 arg4 harg4 arg5 harg5 x1 x3 x4) (kernelRun0_A.sl.r_76 c i arg2 harg2 arg4 harg4 arg5 harg5 x1 x3 x4) x5 1280 inb_S1x1024x2048_S1x1024x256_0_0_1280 _ z
  refine all_cons (fun z => ?_) ?_
  · exact z_hi arg6 harg6 (kernelRun0_A.sl.r_6 c i arg2 harg2 arg4 harg4 arg5 harg5 x1 x3 x4) (kernelRun0_A.sl.r_76 c i arg2 harg2 arg4 harg4 arg5 harg5 x1 x3 x4) x5 1024 inb_S1x1024x2048_S1x1024x256_0_0_1024 _ z
  refine all_cons (fun z => ?_) ?_
  · exact z_hi arg6 harg6 (kernelRun0_A.sl.r_6 c i arg2 harg2 arg4 harg4 arg5 harg5 x1 x3 x4) (kernelRun0_A.sl.r_76 c i arg2 harg2 arg4 harg4 arg5 harg5 x1 x3 x4) x5 768 inb_S1x1024x2048_S1x1024x256_0_0_768 _ z
  refine all_cons (fun z => ?_) ?_
  · exact z_hi arg6 harg6 (kernelRun0_A.sl.r_6 c i arg2 harg2 arg4 harg4 arg5 harg5 x1 x3 x4) (kernelRun0_A.sl.r_76 c i arg2 harg2 arg4 harg4 arg5 harg5 x1 x3 x4) x5 512 inb_S1x1024x2048_S1x1024x256_0_0_512 _ z
  refine all_cons (fun z => ?_) ?_
  · exact z_hi arg6 harg6 (kernelRun0_A.sl.r_6 c i arg2 harg2 arg4 harg4 arg5 harg5 x1 x3 x4) (kernelRun0_A.sl.r_76 c i arg2 harg2 arg4 harg4 arg5 harg5 x1 x3 x4) x5 256 inb_S1x1024x2048_S1x1024x256_0_0_256 _ z
  refine all_cons (fun z => ?_) ?_
  · exact z_hi arg6 harg6 (kernelRun0_A.sl.r_6 c i arg2 harg2 arg4 harg4 arg5 harg5 x1 x3 x4) (kernelRun0_A.sl.r_76 c i arg2 harg2 arg4 harg4 arg5 harg5 x1 x3 x4) x5 0 inb_S1x1024x2048_S1x1024x256_0_0_0 _ z
  refine all_cons (fun z => ?_) ?_
  · exact z_lo arg6 harg6 (kernelRun0_A.sl.r_6 c i arg2 harg2 arg4 harg4 arg5 harg5 x1 x3 x4) (kernelRun0_A.sl.r_76 c i arg2 harg2 arg4 harg4 arg5 harg5 x1 x3 x4) x5 1792 inb_S1x1024x2048_S1x1024x256_0_0_1792 _ z
  refine all_cons (fun z => ?_) ?_
  · exact z_lo arg6 harg6 (kernelRun0_A.sl.r_6 c i arg2 harg2 arg4 harg4 arg5 harg5 x1 x3 x4) (kernelRun0_A.sl.r_76 c i arg2 harg2 arg4 harg4 arg5 harg5 x1 x3 x4) x5 1536 inb_S1x1024x2048_S1x1024x256_0_0_1536 _ z
  refine all_cons (fun z => ?_) ?_
  · exact z_lo arg6 harg6 (kernelRun0_A.sl.r_6 c i arg2 harg2 arg4 harg4 arg5 harg5 x1 x3 x4) (kernelRun0_A.sl.r_76 c i arg2 harg2 arg4 harg4 arg5 harg5 x1 x3 x4) x5 1280 inb_S1x1024x2048_S1x1024x256_0_0_1280 _ z
  refine all_cons (fun z => ?_) ?_
  · exact z_lo arg6 harg6 (kernelRun0_A.sl.r_6 c i arg2 harg2 arg4 harg4 arg5 harg5 x1 x3 x4) (kernelRun0_A.sl.r_76 c i arg2 harg2 arg4 harg4 arg5 harg5 x1 x3 x4) x5 1024 inb_S1x1024x2048_S1x1024x256_0_0_1024 _ z
  refine all_cons (fun z => ?_) ?_
  · exact z_lo arg6 harg6 (kernelRun0_A.sl.r_6 c i arg2 harg2 arg4 harg4 arg5 harg5 x1 x3 x4) (kernelRun0_A.sl.r_76 c i arg2 harg2 arg4 harg4 arg5 harg5 x1 x3 x4) x5 768 inb_S1x1024x2048_S1x1024x256_0_0_768 _ z
  refine all_cons (fun z => ?_) ?_
  · exact z_lo arg6 harg6 (kernelRun0_A.sl.r_6 c i arg2 harg2 arg4 harg4 arg5 harg5 x1 x3 x4) (kernelRun0_A.sl.r_76 c i arg2 harg2 arg4 harg4 arg5 harg5 x1 x3 x4) x5 512 inb_S1x1024x2048_S1x1024x256_0_0_512 _ z
  refine all_cons (fun z => ?_) ?_
  · exact z_lo arg6 harg6 (kernelRun0_A.sl.r_6 c i arg2 harg2 arg4 harg4 arg5 harg5 x1 x3 x4) (kernelRun0_A.sl.r_76 c i arg2 harg2 arg4 harg4 arg5 harg5 x1 x3 x4) x5 256 inb_S1x1024x2048_S1x1024x256_0_0_256 _ z
  refine all_cons (fun z => ?_) ?_
  · exact z_lo arg6 harg6 (kernelRun0_A.sl.r_6 c i arg2 harg2 arg4 harg4 arg5 harg5 x1 x3 x4) (kernelRun0_A.sl.r_76 c i arg2 harg2 arg4 harg4 arg5 harg5 x1 x3 x4) x5 0 inb_S1x1024x2048_S1x1024x256_0_0_0 _ z
  exact fun _ h => (nomatch h)

/-- The block left in the first step widths. -/
theorem out15_eq (y : S512x128.Idx) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = blockDt 0 (kernelRun0_A.sl.r_6 c i arg2 harg2 arg4 harg4 arg5 harg5 x1 x3 x4) (kernelRun0_A.sl.r_76 c i arg2 harg2 arg4 harg4 arg5 harg5 x1 x3 x4) x7 x11 y := by
  unfold out0_A_15
  refine View.read_writes_apply_of_pieces _ _ (blockDt 0 (kernelRun0_A.sl.r_6 c i arg2 harg2 arg4 harg4 arg5 harg5 x1 x3 x4) (kernelRun0_A.sl.r_76 c i arg2 harg2 arg4 harg4 arg5 harg5 x1 x3 x4) x7 x11) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  refine all_cons (fun z => ?_) ?_
  · exact dt_hi arg8 harg8 arg12 harg12 (kernelRun0_A.sl.r_6 c i arg2 harg2 arg4 harg4 arg5 harg5 x1 x3 x4) (kernelRun0_A.sl.r_76 c i arg2 harg2 arg4 harg4 arg5 harg5 x1 x3 x4) x7 x11 0 0 rfl inb_S1x1024x128_S1x1024x128_0_0_0 inb_S1x2x128_S1x1x128_0_0_0 _ z
  refine all_cons (fun z => ?_) ?_
  · exact dt_lo arg8 harg8 arg12 harg12 (kernelRun0_A.sl.r_6 c i arg2 harg2 arg4 harg4 arg5 harg5 x1 x3 x4) (kernelRun0_A.sl.r_76 c i arg2 harg2 arg4 harg4 arg5 harg5 x1 x3 x4) x7 x11 0 0 rfl inb_S1x1024x128_S1x1024x128_0_0_0 inb_S1x2x128_S1x1x128_0_0_0 _ z
  exact fun _ h => (nomatch h)

/-- The block left in the second step widths. -/
theorem out16_eq (y : S512x128.Idx) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = blockDt 1 (kernelRun0_A.sl.r_6 c i arg2 harg2 arg4 harg4 arg5 harg5 x1 x3 x4) (kernelRun0_A.sl.r_76 c i arg2 harg2 arg4 harg4 arg5 harg5 x1 x3 x4) x8 x11 y := by
  unfold out0_A_16
  refine View.read_writes_apply_of_pieces _ _ (blockDt 1 (kernelRun0_A.sl.r_6 c i arg2 harg2 arg4 harg4 arg5 harg5 x1 x3 x4) (kernelRun0_A.sl.r_76 c i arg2 harg2 arg4 harg4 arg5 harg5 x1 x3 x4) x8 x11) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  refine all_cons (fun z => ?_) ?_
  · exact dt_hi arg9 harg9 arg12 harg12 (kernelRun0_A.sl.r_6 c i arg2 harg2 arg4 harg4 arg5 harg5 x1 x3 x4) (kernelRun0_A.sl.r_76 c i arg2 harg2 arg4 harg4 arg5 harg5 x1 x3 x4) x8 x11 1 1 rfl inb_S1x1024x128_S1x1024x128_0_0_0 inb_S1x2x128_S1x1x128_0_1_0 _ z
  refine all_cons (fun z => ?_) ?_
  · exact dt_lo arg9 harg9 arg12 harg12 (kernelRun0_A.sl.r_6 c i arg2 harg2 arg4 harg4 arg5 harg5 x1 x3 x4) (kernelRun0_A.sl.r_76 c i arg2 harg2 arg4 harg4 arg5 harg5 x1 x3 x4) x8 x11 1 1 rfl inb_S1x1024x128_S1x1024x128_0_0_0 inb_S1x2x128_S1x1x128_0_1_0 _ z
  exact fun _ h => (nomatch h)

end Cert.Kernel3Ideal.SsdIn

end
-- ==== Proof.SsdInEdge.lean ====
/- The rows a half of a block keeps on either side, and the convolution's four rows among them. -/
module

public import proofs.«01_k».proof.Proof.SsdInGate

@[expose] public section

set_option maxRecDepth 16384
set_option Elab.async false

noncomputable section

namespace Cert.Kernel3Ideal.SsdIn

open Cert.Kernel3Ideal Cert.Kernel3Ideal.Gen
open Idealize.ShloMosaic
open Idealize.ShloMosaic.TcCoe Idealize.ShloMosaic.Tactic
open Idealize.SL Idealize.SL.Sem
open Cert.Rows

/-- The half of 256 rows from row `r0` on begins a part. -/
def Begins (r0 : ℕ) : Prop := r0 % 16640 = 0 ∨ r0 % 16640 = 256
/-- The half of 256 rows from row `r0` on ends a part. -/
def Ends (r0 : ℕ) : Prop := r0 % 16640 = 0 ∨ r0 % 16640 = 16384

instance (r0 : ℕ) : Decidable (Begins r0) := by unfold Begins; infer_instance
instance (r0 : ℕ) : Decidable (Ends r0) := by unfold Ends; infer_instance

theorem off1_at : ∀ t : Fin grid0.N, ∀ s : Fin 2, k0_off1 (grid0.coords t) (BitVec.ofNat 32 s.val) = ![0, modRow (t.val * 512 + s.val * 256), 0] := by decide +kernel
theorem off2_at : ∀ t : Fin grid0.N, ∀ s : Fin 2, k0_off2 (grid0.coords t) (BitVec.ofNat 32 s.val) = ![0, modRow (t.val * 512 + s.val * 256), 1024] := by decide +kernel
theorem begins_first : ∀ t : Fin grid0.N, kernelRun0_A.sl.v28 (grid0.coords t) = if Begins (t.val * 512) then 1#1 else 0#1 := by decide +kernel
theorem ends_first : ∀ t : Fin grid0.N, kernelRun0_A.sl.v31 (grid0.coords t) = if Ends (t.val * 512) then 1#1 else 0#1 := by decide +kernel
theorem begins_last : ∀ t : Fin grid0.N, kernelRun0_A.sl.v1319 (grid0.coords t) = if Begins (t.val * 512 + 256) then 1#1 else 0#1 := by decide +kernel
theorem ends_last : ∀ t : Fin grid0.N, kernelRun0_A.sl.v1322 (grid0.coords t) = if Ends (t.val * 512 + 256) then 1#1 else 0#1 := by decide +kernel

theorem urow_congr {x w sc sh x' w' sc' sh' : Fin 1024 → EReal} (e0 : ∀ k, x k = x' k) (e1 : ∀ k, w k = w' k) (e2 : ∀ k, sc k = sc' k) (e3 : ∀ k, sh k = sh' k) (k : Fin 1024) :
    urow x w sc sh k = urow x' w' sc' sh' k := by
  rw [funext e0, funext e1, funext e2, funext e3]

/-- Rows within a half share the table's row. -/
theorem modRow_half (r0 r : ℕ) (h0 : r0 % 256 = 0) (h : r0 ≤ r) (h' : r < r0 + 256) : modRow r = modRow r0 := by
  unfold modRow
  split <;> split <;> omega

/-- So do the rows a tap sees. -/
theorem modRow_tap (r0 i a : ℕ) (h0 : r0 % 256 = 0) (hi : i < 256) (h : InPart (r0 + i) a) : modRow (r0 + i + a - 2) = modRow r0 := by
  unfold InPart at h
  unfold modRow
  split at h <;> split <;> split <;> omega

section
variable (H : Fin 33280 → Fin 1024 → EReal) (T : Fin 8 → Fin 6144 → EReal) (N : Fin 1024 → EReal)
  (r0 : ℕ) (h0 : r0 % 256 = 0) (hr : r0 + 256 ≤ 33280) (sh sc w : FVec Ideal S1x1x1024 .f32)
  (hsh : ∀ (k : Fin 1024) (g : Fin 8), g.val = modRow r0 → sh (ix3 0 0 k) = T g ⟨k.val, shift_lt k⟩)
  (hsc : ∀ (k : Fin 1024) (g : Fin 8), g.val = modRow r0 → sc (ix3 0 0 k) = T g ⟨1024 + k.val, scale_lt k⟩)
  (hw : ∀ k : Fin 1024, w (ix3 0 0 k) = N k)

include h0 hsh hsc hw in
/-- A modulated row of the half's, by the table's row of the half. -/
theorem urow_eq (x : Fin 1024 → EReal) (r : Fin 33280) (hm : modRow r.val = modRow r0) (hx : ∀ q, x q = H r q) (k : Fin 1024) :
    urow x (fun q => w (ix3 0 0 q)) (fun q => sc (ix3 0 0 q)) (fun q => sh (ix3 0 0 q)) k = uOf H T N r k :=
  urow_congr hx hw (fun q => hsc q (modAt r) hm) (fun q => hsh q (modAt r) hm) k

variable (nx pv : FVec Ideal S8x1024 .f32) (x : FVec Ideal S256x1024 .f32) (v31 v28 : BitVec 1)
  (hx : ∀ (i : Fin 256) (q : Fin 1024) (j : Fin 33280), j.val = r0 + i.val → x (ix2 i q) = H j q)
  (hpv : ∀ (i : Fin 8) (q : Fin 1024) (j : Fin 33280), j.val + 8 = r0 + i.val → pv (ix2 i q) = H j q)
  (hnx : ∀ (i : Fin 8) (q : Fin 1024) (j : Fin 33280), j.val = r0 + 256 + i.val → nx (ix2 i q) = H j q)
  (hv28 : v28 = if Begins r0 then 1#1 else 0#1) (hv31 : v31 = if Ends r0 then 1#1 else 0#1)

include h0 hr hsh hsc hw hx hpv hnx hv28 hv31 in
/-- The row a tap sees: the modulated row of the token it looks at, or zeros where the part ends. -/
theorem ext_row (U : FVec Ideal S272x1024 .bf16)
    (hU : ∀ (i : Fin 272) (k : Fin 1024), U (ix2 i k)
      = if h : i.val < 8 then Scalar.select v28 0 (urow (fun q => pv (ix2 ⟨i.val, h⟩ q)) (fun q => w (ix3 0 0 q)) (fun q => sc (ix3 0 0 q)) (fun q => sh (ix3 0 0 q)) k)
        else if h' : i.val - 8 < 256 then urow (fun q => x (ix2 ⟨i.val - 8, h'⟩ q)) (fun q => w (ix3 0 0 q)) (fun q => sc (ix3 0 0 q)) (fun q => sh (ix3 0 0 q)) k
        else Scalar.select v31 0 (urow (fun q => nx (ix2 ⟨i.val - 8 - 256, after_lt i⟩ q)) (fun q => w (ix3 0 0 q)) (fun q => sc (ix3 0 0 q)) (fun q => sh (ix3 0 0 q)) k))
    (i : Fin 256) (a : ℕ) (ha : a < 4) (r : Fin 33280) (hr' : r.val = r0 + i.val) (k : Fin 1024) (y : Fin 272) (hy : y.val = 6 + a + i.val) :
    U (ix2 y k) = if h : InPart r.val a then uOf H T N ⟨r.val + a - 2, h.lt⟩ k else 0 := by
  have hi := i.isLt
  rw [hU]
  by_cases c1 : y.val < 8
  · rw [dif_pos c1, hv28]
    by_cases b : Begins r0
    · rw [if_pos b, dif_neg]
      · rfl
      · unfold InPart
        unfold Begins at b
        split <;> omega
    · rw [if_neg b]
      have hp : InPart r.val a := by
        unfold InPart
        unfold Begins at b
        split <;> omega
      rw [dif_pos hp]
      have hlow : 2 ≤ r.val + a := by
        unfold InPart at hp
        split at hp <;> omega
      refine (urow_eq H T N r0 h0 sh sc w hsh hsc hw _ ⟨r.val + a - 2, hp.lt⟩ ?_ (fun q => hpv _ _ _ ?_) k)
      · show modRow (r.val + a - 2) = _
        rw [hr'] at hp ⊢
        exact modRow_tap r0 i.val a h0 hi hp
      · show r.val + a - 2 + 8 = r0 + y.val
        omega
  · rw [dif_neg c1]
    by_cases c2 : y.val - 8 < 256
    · rw [dif_pos c2]
      have hp : InPart r.val a := by
        unfold InPart
        split <;> omega
      rw [dif_pos hp]
      refine (urow_eq H T N r0 h0 sh sc w hsh hsc hw _ ⟨r.val + a - 2, hp.lt⟩ ?_ (fun q => hx _ _ _ ?_) k)
      · show modRow (r.val + a - 2) = _
        rw [hr'] at hp ⊢
        exact modRow_tap r0 i.val a h0 hi hp
      · show r.val + a - 2 = r0 + (y.val - 8)
        omega
    · rw [dif_neg c2, hv31]
      by_cases b : Ends r0
      · rw [if_pos b, dif_neg]
        · rfl
        · unfold InPart
          unfold Ends at b
          split <;> omega
      · rw [if_neg b]
        have hp : InPart r.val a := by
          unfold InPart
          unfold Ends at b
          split <;> omega
        rw [dif_pos hp]
        refine (urow_eq H T N r0 h0 sh sc w hsh hsc hw _ ⟨r.val + a - 2, hp.lt⟩ ?_ (fun q => hnx _ _ _ ?_) k)
        · show modRow (r.val + a - 2) = _
          rw [hr'] at hp ⊢
          exact modRow_tap r0 i.val a h0 hi hp
        · show r.val + a - 2 = r0 + 256 + (y.val - 8 - 256)
          omega
end

/-- The four rows the convolution sees, against a column of the weights. -/
theorem proj_tap (H : Fin 33280 → Fin 1024 → EReal) (T : Fin 8 → Fin 6144 → EReal) (N : Fin 1024 → EReal) (U : FVec Ideal S272x1024 .bf16) (x6 : Vec Ideal S1x1024x3072 .bf16) (a : ℕ) (r : Fin 33280) (y : Fin 272) (n : Fin 3072)
    (W : Fin 1024 → EReal) (hW : ∀ k, x6 (ix3 0 k n) = W k)
    (hU : ∀ k, U (ix2 y k) = if h : InPart r.val a then uOf H T N ⟨r.val + a - 2, h.lt⟩ k else 0) :
    proj U x6 y n = tap (fun q => dot (uOf H T N q) W) r a := by
  unfold proj tap
  by_cases h : InPart r.val a
  · rw [dif_pos h]
    exact dot_congr (fun k => (hU k).trans (dif_pos h)) hW
  · rw [dif_neg h]
    refine (dot_congr (fun k => (hU k).trans (dif_neg h)) hW).trans ?_
    unfold dot
    simp only [zero_mul, Finset.sum_const_zero]

end Cert.Kernel3Ideal.SsdIn

end
-- ==== Proof.SsdInPart.lean ====
/- The input projection's values at a point, by rows of the whole sequence. -/
module

public import proofs.«01_k».proof.Proof.SsdInEdge

@[expose] public section

set_option maxRecDepth 16384
set_option Elab.async false

noncomputable section

namespace Cert.Kernel3Ideal.SsdIn

open Cert.Kernel3Ideal Cert.Kernel3Ideal.Gen
open Idealize.ShloMosaic
open Idealize.ShloMosaic.TcCoe Idealize.ShloMosaic.Tactic
open Idealize.SL Idealize.SL.Sem
open Cert.Rows

variable (H : Fin 33280 → Fin 1024 → EReal) (T : Fin 8 → Fin 6144 → EReal) (N : Fin 1024 → EReal) (c : Dev nD) (t : Fin grid0.N)
  (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S1x8x6144 .f32) (harg4 : arg4.IsWhole) (arg5 : Memref sig .tc .vmem S1x1x1024 .f32) (harg5 : arg5.IsWhole)
  (x0 : Vec Ideal S8x1024 .f32) (x1 : Vec Ideal S512x1024 .f32) (x2 : Vec Ideal S8x1024 .f32) (x3 : Vec Ideal S1x8x6144 .f32) (x4 : Vec Ideal S1x1x1024 .f32)
  (h0 : ∀ (i : Fin 8) (q : Fin 1024) (j : Fin 33280), j.val + 8 = t.val * 512 + i.val → x0 (ix2 i q) = H j q)
  (h1 : ∀ (i : Fin 512) (q : Fin 1024) (j : Fin 33280), j.val = t.val * 512 + i.val → x1 (ix2 i q) = H j q)
  (h2 : ∀ (i : Fin 8) (q : Fin 1024) (j : Fin 33280), j.val = t.val * 512 + 512 + i.val → x2 (ix2 i q) = H j q)
  (h3 : ∀ (g : Fin 8) (k : Fin 6144), x3 (ix3 0 g k) = T g k)
  (h4 : ∀ k : Fin 1024, x4 (ix3 0 0 k) = N k)

/-- A row of the table, read at the half's row and at a column. -/
theorem shift_at (s : Fin 2) (inb : ∀ a, k0_off1 (grid0.coords t) (BitVec.ofNat 32 s.val) a + S1x1x1024.size a ≤ S1x8x6144.size a) (k : Fin 1024) (g : Fin 8) (hg : g.val = modRow (t.val * 512 + s.val * 256)) :
    View.readAt (Elt Ideal) arg4.view (Rect.unit (s := S1x8x6144) (k0_off1 (grid0.coords t) (BitVec.ofNat 32 s.val)) S1x1x1024.size inb).toLoadRect (harg4.unread x3) (ix3 0 0 k) = x3 (ix3 0 g ⟨k.val, shift_lt k⟩) := by
  refine load_at harg4 x3 _ _ _ _ _ fun a => Eq.trans ?_ (congrArg (fun q => q + 1 * ((ix3 0 0 k : S1x1x1024.Idx) a).val) (congrFun (off1_at t s) a).symm)
  match a with
  | ⟨0, _⟩ => rfl
  | ⟨1, _⟩ => exact hg
  | ⟨2, _⟩ => show k.val = 0 + 1 * k.val; omega

theorem scale_at (s : Fin 2) (inb : ∀ a, k0_off2 (grid0.coords t) (BitVec.ofNat 32 s.val) a + S1x1x1024.size a ≤ S1x8x6144.size a) (k : Fin 1024) (g : Fin 8) (hg : g.val = modRow (t.val * 512 + s.val * 256)) :
    View.readAt (Elt Ideal) arg4.view (Rect.unit (s := S1x8x6144) (k0_off2 (grid0.coords t) (BitVec.ofNat 32 s.val)) S1x1x1024.size inb).toLoadRect (harg4.unread x3) (ix3 0 0 k) = x3 (ix3 0 g ⟨1024 + k.val, scale_lt k⟩) := by
  refine load_at harg4 x3 _ _ _ _ _ fun a => Eq.trans ?_ (congrArg (fun q => q + 1 * ((ix3 0 0 k : S1x1x1024.Idx) a).val) (congrFun (off2_at t s) a).symm)
  match a with
  | ⟨0, _⟩ => rfl
  | ⟨1, _⟩ => exact hg
  | ⟨2, _⟩ => show 1024 + k.val = 1024 + 1 * k.val; omega

theorem norm_at (inb) (k : Fin 1024) :
    View.readAt (Elt Ideal) arg5.view (Rect.unit (s := S1x1x1024) ![0, 0, 0] S1x1x1024.size inb).toLoadRect (harg5.unread x4) (ix3 0 0 k) = x4 (ix3 0 0 k) := by
  refine load_at harg5 x4 _ _ _ _ _ fun a => ?_
  match a with
  | ⟨0, _⟩ => rfl
  | ⟨1, _⟩ => rfl
  | ⟨2, _⟩ => show k.val = 0 + 1 * k.val; omega

theorem rows_at (o n : ℕ) (inb) (i : Fin n) (q : Fin 1024) (j : Fin 512) (hj : j.val = o + i.val) :
    View.readAt (Elt Ideal) arg2.view (Rect.unit (s := S512x1024) ![o, 0] ![n, 1024] inb).toLoadRect (harg2.unread x1) (ix2 i q : (⟨2, ![n, 1024]⟩ : Shape).Idx) = x1 (ix2 j q) := by
  refine load_at harg2 x1 _ _ _ _ _ fun a => ?_
  match a with
  | ⟨0, _⟩ => show j.val = o + 1 * i.val; omega
  | ⟨1, _⟩ => show q.val = 0 + 1 * q.val; omega

theorem before_at (inb) (i : Fin 8) (q : Fin 1024) :
    View.readAt (Elt Ideal) arg1.view (Rect.unit (s := S8x1024) ![0, 0] S8x1024.size inb).toLoadRect (harg1.unread x0) (ix2 i q) = x0 (ix2 i q) := by
  refine load_at harg1 x0 _ _ _ _ _ fun a => ?_
  match a with
  | ⟨0, _⟩ => show i.val = 0 + 1 * i.val; omega
  | ⟨1, _⟩ => show q.val = 0 + 1 * q.val; omega

include h0 h1 h2 h3 h4 in
theorem first_seen (i : Fin 256) (a : ℕ) (ha : a < 4) (r : Fin 33280) (hr : r.val = t.val * 512 + i.val) (k : Fin 1024) (y : Fin 272) (hy : y.val = 6 + a + i.val) :
    kernelRun0_A.sl.r_8 (F := Ideal) c (grid0.coords t) arg1 harg1 arg2 harg2 arg4 harg4 arg5 harg5 x0 x1 x3 x4 (ix2 y k)
      = if h : InPart r.val a then uOf H T N ⟨r.val + a - 2, h.lt⟩ k else 0 := by
  have ht : t.val < 65 := t.isLt
  refine ext_row H T N (t.val * 512) (by omega) (by omega) _ _ _ ?_ ?_ ?_ _ _ _ _ _ ?_ ?_ ?_ (begins_first t) (ends_first t) _ (fun i k => first_ext _ _ _ _ _ _ _ _ k i) i a ha r hr k y hy
  · exact fun k g hg => (shift_at t arg4 harg4 x3 0 _ k g hg).trans (h3 g _)
  · exact fun k g hg => (scale_at t arg4 harg4 x3 0 _ k g hg).trans (h3 g _)
  · exact fun k => (norm_at arg5 harg5 x4 _ k).trans (h4 k)
  · exact fun i q j hj => (rows_at arg2 harg2 x1 0 256 _ i q ⟨i.val, by omega⟩ (by show i.val = 0 + i.val; omega)).trans (h1 _ q j hj)
  · exact fun i q j hj => (before_at arg1 harg1 x0 _ i q).trans (h0 i q j hj)
  · exact fun i q j hj => (rows_at arg2 harg2 x1 256 8 _ i q ⟨256 + i.val, by omega⟩ rfl).trans (h1 _ q j (by show j.val = t.val * 512 + (256 + i.val); omega))

include h1 h2 h3 h4 in
theorem last_seen (i : Fin 256) (a : ℕ) (ha : a < 4) (r : Fin 33280) (hr : r.val = t.val * 512 + 256 + i.val) (k : Fin 1024) (y : Fin 272) (hy : y.val = 6 + a + i.val) :
    kernelRun0_A.sl.r_78 (F := Ideal) c (grid0.coords t) arg2 harg2 arg3 harg3 arg4 harg4 arg5 harg5 x1 x2 x3 x4 (ix2 y k)
      = if h : InPart r.val a then uOf H T N ⟨r.val + a - 2, h.lt⟩ k else 0 := by
  have ht : t.val < 65 := t.isLt
  refine ext_row H T N (t.val * 512 + 256) (by omega) (by omega) _ _ _ ?_ ?_ ?_ _ _ _ _ _ ?_ ?_ ?_ (begins_last t) (ends_last t) _ (fun i k => last_ext _ _ _ _ _ _ _ _ k i) i a ha r hr k y hy
  · exact fun k g hg => (shift_at t arg4 harg4 x3 1 _ k g hg).trans (h3 g _)
  · exact fun k g hg => (scale_at t arg4 harg4 x3 1 _ k g hg).trans (h3 g _)
  · exact fun k => (norm_at arg5 harg5 x4 _ k).trans (h4 k)
  · exact fun i q j hj => (rows_at arg2 harg2 x1 256 256 _ i q ⟨256 + i.val, by omega⟩ rfl).trans (h1 _ q j (by show j.val = t.val * 512 + (256 + i.val); omega))
  · exact fun i q j hj => (rows_at arg2 harg2 x1 248 8 _ i q ⟨248 + i.val, by omega⟩ rfl).trans (h1 _ q j (by show j.val = t.val * 512 + (248 + i.val); omega))
  · exact fun i q j hj => (before_at arg3 harg3 x2 _ i q).trans (h2 i q j (by omega))

include h1 h3 h4 in
theorem first_row (i : Fin 256) (r : Fin 33280) (hr : r.val = t.val * 512 + i.val) (k : Fin 1024) :
    kernelRun0_A.sl.r_6 (F := Ideal) c (grid0.coords t) arg2 harg2 arg4 harg4 arg5 harg5 x1 x3 x4 (ix2 i k) = uOf H T N r k := by
  refine (first_rows _ _ _ _ k i).trans (urow_eq H T N (t.val * 512) (by omega) _ _ _ ?_ ?_ ?_ _ r (by rw [hr]; exact modRow_half _ _ (by omega) (by omega) (by omega)) (fun q => ?_) k)
  · exact fun k g hg => (shift_at t arg4 harg4 x3 0 _ k g hg).trans (h3 g _)
  · exact fun k g hg => (scale_at t arg4 harg4 x3 0 _ k g hg).trans (h3 g _)
  · exact fun k => (norm_at arg5 harg5 x4 _ k).trans (h4 k)
  · exact (rows_at arg2 harg2 x1 0 256 _ i q ⟨i.val, by omega⟩ (by show i.val = 0 + i.val; omega)).trans (h1 _ q r hr)

include h1 h3 h4 in
theorem last_row (i : Fin 256) (r : Fin 33280) (hr : r.val = t.val * 512 + 256 + i.val) (k : Fin 1024) :
    kernelRun0_A.sl.r_76 (F := Ideal) c (grid0.coords t) arg2 harg2 arg4 harg4 arg5 harg5 x1 x3 x4 (ix2 i k) = uOf H T N r k := by
  refine (last_rows _ _ _ _ k i).trans (urow_eq H T N (t.val * 512 + 256) (by omega) _ _ _ ?_ ?_ ?_ _ r (by rw [hr]; exact modRow_half _ _ (by omega) (by omega) (by omega)) (fun q => ?_) k)
  · exact fun k g hg => (shift_at t arg4 harg4 x3 1 _ k g hg).trans (h3 g _)
  · exact fun k g hg => (scale_at t arg4 harg4 x3 1 _ k g hg).trans (h3 g _)
  · exact fun k => (norm_at arg5 harg5 x4 _ k).trans (h4 k)
  · exact (rows_at arg2 harg2 x1 256 256 _ i q ⟨256 + i.val, by omega⟩ rfl).trans (h1 _ q r (by show r.val = t.val * 512 + (256 + i.val); omega))

include h1 h3 h4 in
/-- A block's modulated rows. -/
theorem rows_eq (i : Fin 512) (r : Fin 33280) (hr : r.val = t.val * 512 + i.val) (k : Fin 1024) :
    rows (kernelRun0_A.sl.r_6 (F := Ideal) c (grid0.coords t) arg2 harg2 arg4 harg4 arg5 harg5 x1 x3 x4) (kernelRun0_A.sl.r_76 (F := Ideal) c (grid0.coords t) arg2 harg2 arg4 harg4 arg5 harg5 x1 x3 x4) i k = uOf H T N r k := by
  unfold rows
  by_cases h : i.val < 256
  · rw [dif_pos h]
    exact first_row H T N c t arg2 harg2 arg4 harg4 arg5 harg5 x1 x3 x4 h1 h3 h4 _ r hr k
  · rw [dif_neg h]
    exact last_row H T N c t arg2 harg2 arg4 harg4 arg5 harg5 x1 x3 x4 h1 h3 h4 _ r (by show r.val = t.val * 512 + 256 + (i.val - 256); omega) k

/-- A half's convolution, from what its four taps see. -/
theorem half_eq (U : FVec Ideal S272x1024 .bf16) (x6 : Vec Ideal S1x1024x3072 .bf16) (x9 : Vec Ideal S1x4x3072 .f32) (x10 : Vec Ideal S1x1x3072 .f32) (i : Fin 256) (n : Fin 3072) (r : Fin 33280)
    (hU : ∀ (a : ℕ) (ha : a < 4) (k : Fin 1024) (y : Fin 272) (hy : y.val = 6 + a + i.val), U (ix2 y k) = if h : InPart r.val a then uOf H T N ⟨r.val + a - 2, h.lt⟩ k else 0)
    (W : Fin 1024 → EReal) (w0 w1 w2 w3 b : EReal) (hW : ∀ k, x6 (ix3 0 k n) = W k)
    (e0 : x9 (ix3 0 0 n) = w0) (e1 : x9 (ix3 0 1 n) = w1) (e2 : x9 (ix3 0 2 n) = w2) (e3 : x9 (ix3 0 3 n) = w3) (eb : x10 (ix3 0 0 n) = b) :
    half U x6 x9 x10 i n = convRow (uOf H T N) W w0 w1 w2 w3 b r := by
  unfold half convRow
  rw [proj_tap H T N U x6 0 r _ n W hW (fun k => hU 0 (by omega) k _ (by show 6 + i.val = _; omega)),
    proj_tap H T N U x6 1 r _ n W hW (fun k => hU 1 (by omega) k _ (by show 7 + i.val = _; omega)),
    proj_tap H T N U x6 2 r _ n W hW (fun k => hU 2 (by omega) k _ (by show 8 + i.val = _; omega)),
    proj_tap H T N U x6 3 r _ n W hW (fun k => hU 3 (by omega) k _ (by show 9 + i.val = _; omega)), e0, e1, e2, e3, eb]

include h0 h1 h2 h3 h4 in
/-- A block's convolved rows. -/
theorem whole_eq (x6 : Vec Ideal S1x1024x3072 .bf16) (x9 : Vec Ideal S1x4x3072 .f32) (x10 : Vec Ideal S1x1x3072 .f32) (i : Fin 512) (n : Fin 3072) (r : Fin 33280) (hr : r.val = t.val * 512 + i.val)
    (W : Fin 1024 → EReal) (w0 w1 w2 w3 b : EReal) (hW : ∀ k, x6 (ix3 0 k n) = W k)
    (e0 : x9 (ix3 0 0 n) = w0) (e1 : x9 (ix3 0 1 n) = w1) (e2 : x9 (ix3 0 2 n) = w2) (e3 : x9 (ix3 0 3 n) = w3) (eb : x10 (ix3 0 0 n) = b) :
    whole (kernelRun0_A.sl.r_8 (F := Ideal) c (grid0.coords t) arg1 harg1 arg2 harg2 arg4 harg4 arg5 harg5 x0 x1 x3 x4)
      (kernelRun0_A.sl.r_78 (F := Ideal) c (grid0.coords t) arg2 harg2 arg3 harg3 arg4 harg4 arg5 harg5 x1 x2 x3 x4) x6 x9 x10 i n = convRow (uOf H T N) W w0 w1 w2 w3 b r := by
  unfold whole
  by_cases h : i.val < 256
  · rw [dif_pos h]
    exact half_eq H T N _ x6 x9 x10 ⟨i.val, h⟩ n r
      (fun a ha k y hy => first_seen H T N c t arg1 harg1 arg2 harg2 arg4 harg4 arg5 harg5 x0 x1 x2 x3 x4 h0 h1 h2 h3 h4 ⟨i.val, h⟩ a ha r hr k y hy) W w0 w1 w2 w3 b hW e0 e1 e2 e3 eb
  · rw [dif_neg h]
    exact half_eq H T N _ x6 x9 x10 ⟨i.val - 256, by omega⟩ n r
      (fun a ha k y hy => last_seen H T N c t arg2 harg2 arg3 harg3 arg4 harg4 arg5 harg5 x1 x2 x3 x4 h1 h2 h3 h4 ⟨i.val - 256, by omega⟩ a ha r (by show r.val = t.val * 512 + 256 + (i.val - 256); omega) k y hy) W w0 w1 w2 w3 b hW e0 e1 e2 e3 eb

end Cert.Kernel3Ideal.SsdIn

end
-- ==== Proof.SsdInReference.lean ====
/- The input projection's reference, row by row. -/
module

public import proofs.«01_k».proof.Defs
public import proofs.«01_k».proof.Proof.SsdInRows
public import proofs.«01_k».proof.Proof.Gen.Reference3Ideal.Run

@[expose] public section

set_option maxRecDepth 16384

noncomputable section

namespace Cert.Reference3Ideal.SsdIn

open Cert.Reference3Ideal Cert.Reference3Ideal.Gen Cert.Reference3Ideal.Value
open Idealize.ShloMosaic
open Idealize.ShloMosaic.TcCoe Idealize.ShloMosaic.Tactic
open Idealize.SL Idealize.SL.Sem
open Cert.Rows
open Idealize.ShloMosaic.StableHlo (launchContents)

variable (V : Valuation τ sig (Elt Ideal))

/-- The modulated norms, from the program's arguments. -/
abbrev u : Fin 33280 → Fin 1024 → EReal :=
  uOf (fun r k => V (Proc.devRef .tc main_arg0) (ix2 r k)) (fun q k => V (Proc.devRef .tc main_arg1) (ix3 1 q k)) (fun k => V (Proc.devRef .tc main_arg2) (ix3 1 0 k))

/-- The split in context and latents selects the modulation's row. -/
theorem split_eq (r : Fin 33280) (f : Fin 8 → EReal) : (if h : r.val % 16640 < 256 then f 2 else f ⟨r.val / 16640, by omega⟩) = f (modAt r) := by
  by_cases h : r.val % 16640 < 256
  · rw [dif_pos h]; exact congrArg f (Fin.ext (if_pos h).symm)
  · rw [dif_neg h]; exact congrArg f (Fin.ext (if_neg h).symm)

theorem u_at (r : Fin 33280) (k : Fin 1024) : res_main_v38 (F := Ideal) V (ix2 r k) = u V r k := by
  pointwise [res_main_v38, res_main_v16, res_main_v29, uOf, urow, rms]
  exact congrArg₂ (· + ·) (congrArg₂ (· * ·) rfl (congrArg₂ (· + ·) rfl (split_eq r fun q => V (Proc.devRef .tc main_arg1) (ix3 1 q ⟨1024 + k.val, by omega⟩))))
    (split_eq r fun q => V (Proc.devRef .tc main_arg1) (ix3 1 q ⟨k.val, by omega⟩))

/-- A column of the convolution's weights, and its bias. -/
abbrev weight (k : Fin 4) (l : Fin 3072) : EReal := V (Proc.devRef .tc main_arg7) (ix3 0 k l)
abbrev bias (l : Fin 3072) : EReal := V (Proc.devRef .tc main_arg8) (ix3 0 0 l)

/-- What the convolution's tap `k` sees. -/
abbrev seen (r : Fin 33280) (l : Fin 3072) (k : ℕ) : EReal := tap (fun q => dot (u V q) (fun k => V (Proc.devRef .tc main_arg4) (ix3 0 k l))) r k

theorem proj_at (b : Fin 2) (p : Fin 16640) (l : Fin 3072) :
    (res_main_v47 (F := Ideal) V (ix3 b p l) : EReal) = dot (u V ⟨b.val * 16640 + p.val, by omega⟩) (fun k => V (Proc.devRef .tc main_arg4) (ix3 0 k l)) := by
  pointwise [res_main_v47, dot]
  simp only [u_at]

/-- The padding number is zero. -/
theorem sitofp_zero : (FloatOps.sitofp (F := Ideal) .f32 0#32 : EReal) = 0 := by
  show (((0#32).toInt : ℝ) : EReal) = 0
  simp

theorem context_tap (b : Fin 2) (p : Fin 256) (k : ℕ) (hk : k < 4) (q : Fin 259) (hq : q.val = k + p.val) (l : Fin 3072) (r : Fin 33280) (hr : r.val = b.val * 16640 + p.val) :
    (res_main_v49 (F := Ideal) V (ix3 b q l) : EReal) = tap (fun q => dot (u V q) (fun k => V (Proc.devRef .tc main_arg4) (ix3 0 k l))) r k := by
  have hp := p.isLt
  have hb := b.isLt
  pointwise [res_main_v49]
  unfold tap
  by_cases h : 2 ≤ q.val ∧ q.val - 2 < 256
  · have h' : InPart r.val k := by unfold InPart; rw [if_pos (by omega)]; omega
    rw [dif_pos h, dif_pos h']
    refine (proj_at V b _ l).trans (congrArg (fun z => dot (u V z) _) (Fin.ext ?_))
    show b.val * 16640 + (q.val - 2) = r.val + k - 2
    omega
  · have h' : ¬InPart r.val k := by unfold InPart; rw [if_pos (by omega)]; omega
    rw [dif_neg h, dif_neg h']
    exact sitofp_zero

theorem latent_tap (b : Fin 2) (p : Fin 16640) (hp : 256 ≤ p.val) (k : ℕ) (hk : k < 4) (q : Fin 16387) (hq : q.val = k + (p.val - 256)) (l : Fin 3072) (r : Fin 33280) (hr : r.val = b.val * 16640 + p.val) :
    (res_main_v83 (F := Ideal) V (ix3 b q l) : EReal) = tap (fun q => dot (u V q) (fun k => V (Proc.devRef .tc main_arg4) (ix3 0 k l))) r k := by
  have hp' := p.isLt
  have hb := b.isLt
  pointwise [res_main_v83]
  unfold tap
  by_cases h : 2 ≤ q.val ∧ q.val - 2 < 16384
  · have h' : InPart r.val k := by unfold InPart; rw [if_neg (by omega)]; omega
    rw [dif_pos h, dif_pos h']
    refine (proj_at V b _ l).trans (congrArg (fun z => dot (u V z) _) (Fin.ext ?_))
    show b.val * 16640 + (256 + (q.val - 2)) = r.val + k - 2
    omega
  · have h' : ¬InPart r.val k := by unfold InPart; rw [if_neg (by omega)]; omega
    rw [dif_neg h, dif_neg h']
    exact sitofp_zero

/-- The convolved and gated projection, at a row and a place. -/
abbrev conv (r : Fin 33280) (l : Fin 3072) : EReal :=
  convRow (u V) (fun k => V (Proc.devRef .tc main_arg4) (ix3 0 k l)) (V (Proc.devRef .tc main_arg7) (ix3 0 0 l)) (V (Proc.devRef .tc main_arg7) (ix3 0 1 l))
    (V (Proc.devRef .tc main_arg7) (ix3 0 2 l)) (V (Proc.devRef .tc main_arg7) (ix3 0 3 l)) (V (Proc.devRef .tc main_arg8) (ix3 0 0 l)) r

theorem pre_at (r : Fin 33280) (b : Fin 2) (p : Fin 16640) (l : Fin 3072) (hr : r.val = b.val * 16640 + p.val) : (res_main_v116 (F := Ideal) V (ix3 b p l) : EReal)
    = bias V l + seen V r l 0 * weight V 0 l + seen V r l 1 * weight V 1 l + seen V r l 2 * weight V 2 l + seen V r l 3 * weight V 3 l := by
  have hp := p.isLt
  pointwise [res_main_v116]
  by_cases h : p.val < 256
  · rw [dif_pos h, context_tap V b ⟨p.val, h⟩ 0 (by omega) _ (Nat.zero_add _).symm l r hr, context_tap V b ⟨p.val, h⟩ 1 (by omega) _ rfl l r hr,
      context_tap V b ⟨p.val, h⟩ 2 (by omega) _ rfl l r hr, context_tap V b ⟨p.val, h⟩ 3 (by omega) _ rfl l r hr]
  · rw [dif_neg h, latent_tap V b p (by omega) 0 (by omega) _ (Nat.zero_add _).symm l r hr, latent_tap V b p (by omega) 1 (by omega) _ rfl l r hr,
      latent_tap V b p (by omega) 2 (by omega) _ rfl l r hr, latent_tap V b p (by omega) 3 (by omega) _ rfl l r hr]

theorem conv_at (r : Fin 33280) (l : Fin 3072) : (res_main_v118 (F := Ideal) V (ix2 r l) : EReal) = conv V r l := by
  have hr := r.isLt
  pointwise [res_main_v118]
  rw [pre_at V r _ _ l (by show r.val = r.val / 16640 * 16640 + r.val % 16640; omega)]
  rfl

theorem z_at (r : Fin 33280) (l : Fin 2048) :
    truncf (F := Ideal) .bf16 (Host.dotGeneral (φ₁ := .f32) dot_S33280x1024_S1024x2048_S33280x2048_1_0_0_1_n_n none (res_main_v38 (F := Ideal) V : FVec Ideal S33280x1024 .f32) (extf (φ := .bf16) .f32 (shapeCast _ (extractStridedSlice S1x1024x2048 ![0, 0, 0] (V (Proc.devRef .tc main_arg3)) slices_S2x1024x2048_S1x1024x2048_0_0_0) shapeCasts_S1x1024x2048_S1024x2048) bitsLt_bf16_f32)) bitsLt_bf16_f32 (ix2 r l)
      = dot (u V r) (fun k => V (Proc.devRef .tc main_arg3) (ix3 0 k l)) := by
  pointwise [dot]
  simp only [u_at]

theorem dtf_at (r : Fin 33280) (l : Fin 128) :
    select (cmpf .une (res_main_call3_v3 (F := Ideal) V) (res_main_call3_v3 V)) (addf (res_main_v127 V) (broadcastInDim S33280x128 ![] bcast_S_S33280x128 (res_main_call3_cst V))) (addf (maximumf (res_main_v127 V) (broadcastInDim S33280x128 ![] bcast_S_S33280x128 (res_main_call3_cst V))) (Host.log1p (Host.exp (Host.negf (Host.absf (res_main_call3_v3 V)))))) (ix2 r l)
      = softplus (dot (u V r) (fun k => V (Proc.devRef .tc main_arg5) (ix3 0 k l)) + V (Proc.devRef .tc main_arg9) (ix3 0 0 l)) := by
  pointwise [res_main_call3_v3, res_main_call3_cst, res_main_v127, dot, softplus]
  simp only [u_at]
  rw [if_neg fun h => h rfl]
  rfl

theorem dtb_at (r : Fin 33280) (l : Fin 128) :
    select (cmpf .une (res_main_call4_v3 (F := Ideal) V) (res_main_call4_v3 V)) (addf (res_main_v137 V) (broadcastInDim S33280x128 ![] bcast_S_S33280x128 (res_main_call4_cst V))) (addf (maximumf (res_main_v137 V) (broadcastInDim S33280x128 ![] bcast_S_S33280x128 (res_main_call4_cst V))) (Host.log1p (Host.exp (Host.negf (Host.absf (res_main_call4_v3 V)))))) (ix2 r l)
      = softplus (dot (u V r) (fun k => V (Proc.devRef .tc main_arg6) (ix3 0 k l)) + V (Proc.devRef .tc main_arg9) (ix3 0 1 l)) := by
  pointwise [res_main_call4_v3, res_main_call4_cst, res_main_v137, dot, softplus]
  simp only [u_at]
  rw [if_neg fun h => h rfl]
  rfl

variable (m : (ℓ : Loc nD τ sig) → Buf (Elt Ideal) ℓ) (ρ : Dev nD → PrngReg)

/-- The run, with the five results as formulas of the arguments, and the arguments kept. -/
theorem run_rows : θ_run defs (onTc (τ := τ) (main (F := Ideal))) ⟨m, fun _ => 0, ρ⟩ fun r => ∀ c : Dev nD,
    r.2.mem ((c.tc : Thread nD τ).loc main_v139) = (fun j => dot (u (launchContents m c) (j 0)) (fun k => m ((c.tc : Thread nD τ).loc main_arg3) (ix3 0 k (j 1))))
      ∧ r.2.mem ((c.tc : Thread nD τ).loc main_v141) = (fun j => conv (launchContents m c) (j 0) ⟨(j 1).val, by have : (j 1).val < 2048 := (j 1).isLt; omega⟩)
      ∧ r.2.mem ((c.tc : Thread nD τ).loc main_v143) = (fun j => conv (launchContents m c) (j 0) ⟨2048 + (j 1).val, by have : (j 1).val < 1024 := (j 1).isLt; omega⟩)
      ∧ r.2.mem ((c.tc : Thread nD τ).loc main_v128) = (fun j => softplus (dot (u (launchContents m c) (j 0)) (fun k => m ((c.tc : Thread nD τ).loc main_arg5) (ix3 0 k (j 1))) + m ((c.tc : Thread nD τ).loc main_arg9) (ix3 0 0 (j 1))))
      ∧ r.2.mem ((c.tc : Thread nD τ).loc main_v138) = (fun j => softplus (dot (u (launchContents m c) (j 0)) (fun k => m ((c.tc : Thread nD τ).loc main_arg6) (ix3 0 k (j 1))) + m ((c.tc : Thread nD τ).loc main_arg9) (ix3 0 1 (j 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ⟨?_, ?_, ?_, ?_, ?_, (h c).2.2.2.2.2⟩) (Value.run m ρ)
  · refine (h c).1.trans (funext fun j => ?_)
    idx_vars j
    exact z_at (launchContents m c) j0 j1
  · refine (h c).2.1.trans (funext fun j => ?_)
    idx_vars j
    pointwise
    exact conv_at (launchContents m c) j0 ⟨j1.val, by omega⟩
  · refine (h c).2.2.1.trans (funext fun j => ?_)
    idx_vars j
    pointwise
    exact conv_at (launchContents m c) j0 ⟨2048 + j1.val, by omega⟩
  · refine (h c).2.2.2.1.trans (funext fun j => ?_)
    idx_vars j
    exact dtf_at (launchContents m c) j0 j1
  · refine (h c).2.2.2.2.1.trans (funext fun j => ?_)
    idx_vars j
    exact dtb_at (launchContents m c) j0 j1

end Cert.Reference3Ideal.SsdIn

end
-- ==== Proof.SsdInValue.lean ====
/- The input projection's five results, and their equality with the reference's. -/
module

public import proofs.«01_k».proof.Defs
public import proofs.«01_k».proof.Proof.SsdInPart
public import proofs.«01_k».proof.Proof.SsdInReference
public import proofs.«01_k».proof.Proof.Gen.Kernel3Ideal.Value

@[expose] public section

set_option maxRecDepth 16384

noncomputable section

namespace Cert.Kernel3Ideal.SsdIn

open Idealize.ShloMosaic
open Idealize.ShloMosaic.TcCoe Idealize.ShloMosaic.Tactic
open Idealize.SL Idealize.SL.Sem
open Cert.Kernel3Ideal Cert.Kernel3Ideal.Gen Cert.Rows

variable (m : (ℓ : Loc nD τ sig) → Buf (Elt Ideal) ℓ) (c : Dev nD)

theorem ixw0 : ∀ t : Fin grid0.N, ∀ a, win0_0.index t a = (![t.val * 64 - 1, 0] : Fin 2 → ℕ) a := by decide +kernel
theorem ixw1 : ∀ t : Fin grid0.N, ∀ a, win0_1.index t a = (![t.val, 0] : Fin 2 → ℕ) a := by decide +kernel
theorem ixw2 : ∀ t : Fin grid0.N, ∀ a, win0_2.index t a = (![min ((t.val + 1) * 64) 4159, 0] : Fin 2 → ℕ) a := by decide +kernel
theorem ixw3 : ∀ t : Fin grid0.N, ∀ a, win0_3.index t a = (![1, 0, 0] : Fin 3 → ℕ) a := by decide +kernel
theorem ixw4 : ∀ t : Fin grid0.N, ∀ a, win0_4.index t a = (![1, 0, 0] : Fin 3 → ℕ) a := by decide +kernel
theorem ixw5 : ∀ t : Fin grid0.N, ∀ a, win0_5.index t a = (![0, 0, 0] : Fin 3 → ℕ) a := by decide +kernel
theorem ixw6 : ∀ t : Fin grid0.N, ∀ a, win0_6.index t a = (![0, 0, 0] : Fin 3 → ℕ) a := by decide +kernel
theorem ixw7 : ∀ t : Fin grid0.N, ∀ a, win0_7.index t a = (![0, 0, 0] : Fin 3 → ℕ) a := by decide +kernel
theorem ixw8 : ∀ t : Fin grid0.N, ∀ a, win0_8.index t a = (![0, 0, 0] : Fin 3 → ℕ) a := by decide +kernel
theorem ixw9 : ∀ t : Fin grid0.N, ∀ a, win0_9.index t a = (![0, 0, 0] : Fin 3 → ℕ) a := by decide +kernel
theorem ixw10 : ∀ t : Fin grid0.N, ∀ a, win0_10.index t a = (![0, 0, 0] : Fin 3 → ℕ) a := by decide +kernel
theorem ixw11 : ∀ t : Fin grid0.N, ∀ a, win0_11.index t a = (![0, 0, 0] : Fin 3 → ℕ) a := by decide +kernel
theorem ixw12 : ∀ t : Fin grid0.N, ∀ a, win0_12.index t a = (![t.val, 0] : Fin 2 → ℕ) a := by decide +kernel
theorem covers12 : (cfg0.win 12).Covers := by decide +kernel
theorem ixw13 : ∀ t : Fin grid0.N, ∀ a, win0_13.index t a = (![t.val, 0] : Fin 2 → ℕ) a := by decide +kernel
theorem covers13 : (cfg0.win 13).Covers := by decide +kernel
theorem ixw14 : ∀ t : Fin grid0.N, ∀ a, win0_14.index t a = (![t.val, 0] : Fin 2 → ℕ) a := by decide +kernel
theorem covers14 : (cfg0.win 14).Covers := by decide +kernel
theorem ixw15 : ∀ t : Fin grid0.N, ∀ a, win0_15.index t a = (![t.val, 0] : Fin 2 → ℕ) a := by decide +kernel
theorem covers15 : (cfg0.win 15).Covers := by decide +kernel
theorem ixw16 : ∀ t : Fin grid0.N, ∀ a, win0_16.index t a = (![t.val, 0] : Fin 2 → ℕ) a := by decide +kernel
theorem covers16 : (cfg0.win 16).Covers := by decide +kernel

variable (t : Fin grid0.N)

theorem blk0 (i : Fin 8) (q : Fin 1024) (j : Fin 33280) (hj : j.val + 8 = t.val * 512 + i.val) : iblk m c 0 t (ix2 i q) = m ((c.tc : Thread nD τ).loc main_arg0) (ix2 j q) := by
  have ht : t.val < 65 := t.isLt
  have hq := j.isLt
  refine congrArg (m ((c.tc : Thread nD τ).loc main_arg0)) (funext fun a => Fin.ext ?_)
  match a with
  | ⟨0, _⟩ => show win0_0.index t 0 * 8 + 1 * i.val = j.val; rw [ixw0 t 0]; show (t.val * 64 - 1) * 8 + 1 * i.val = j.val; omega
  | ⟨1, _⟩ => show win0_0.index t 1 * 1024 + 1 * q.val = q.val; rw [ixw0 t 1]; show (0) * 1024 + 1 * q.val = q.val; omega

theorem blk1 (i : Fin 512) (q : Fin 1024) (j : Fin 33280) (hj : j.val = t.val * 512 + i.val) : iblk m c 1 t (ix2 i q) = m ((c.tc : Thread nD τ).loc main_arg0) (ix2 j q) := by
  have ht : t.val < 65 := t.isLt
  have hq := j.isLt
  refine congrArg (m ((c.tc : Thread nD τ).loc main_arg0)) (funext fun a => Fin.ext ?_)
  match a with
  | ⟨0, _⟩ => show win0_1.index t 0 * 512 + 1 * i.val = j.val; rw [ixw1 t 0]; show (t.val) * 512 + 1 * i.val = j.val; omega
  | ⟨1, _⟩ => show win0_1.index t 1 * 1024 + 1 * q.val = q.val; rw [ixw1 t 1]; show (0) * 1024 + 1 * q.val = q.val; omega

theorem blk2 (i : Fin 8) (q : Fin 1024) (j : Fin 33280) (hj : j.val = t.val * 512 + 512 + i.val) : iblk m c 2 t (ix2 i q) = m ((c.tc : Thread nD τ).loc main_arg0) (ix2 j q) := by
  have ht : t.val < 65 := t.isLt
  have hq := j.isLt
  refine congrArg (m ((c.tc : Thread nD τ).loc main_arg0)) (funext fun a => Fin.ext ?_)
  match a with
  | ⟨0, _⟩ => show win0_2.index t 0 * 8 + 1 * i.val = j.val; rw [ixw2 t 0]; show (min ((t.val + 1) * 64) 4159) * 8 + 1 * i.val = j.val; omega
  | ⟨1, _⟩ => show win0_2.index t 1 * 1024 + 1 * q.val = q.val; rw [ixw2 t 1]; show (0) * 1024 + 1 * q.val = q.val; omega

theorem blk3 (i : Fin 8) (q : Fin 6144) : iblk m c 3 t (ix3 0 i q) = m ((c.tc : Thread nD τ).loc main_arg1) (ix3 1 i q) := by
  refine congrArg (m ((c.tc : Thread nD τ).loc main_arg1)) (funext fun a => Fin.ext ?_)
  match a with
  | ⟨0, _⟩ => show win0_3.index t 0 * 1 + 1 * 0 = 1; rw [ixw3 t 0]; show (1) * 1 + 1 * 0 = 1; omega
  | ⟨1, _⟩ => show win0_3.index t 1 * 8 + 1 * i.val = i.val; rw [ixw3 t 1]; show (0) * 8 + 1 * i.val = i.val; omega
  | ⟨2, _⟩ => show win0_3.index t 2 * 6144 + 1 * q.val = q.val; rw [ixw3 t 2]; show (0) * 6144 + 1 * q.val = q.val; omega

theorem blk4 (q : Fin 1024) : iblk m c 4 t (ix3 0 0 q) = m ((c.tc : Thread nD τ).loc main_arg2) (ix3 1 0 q) := by
  refine congrArg (m ((c.tc : Thread nD τ).loc main_arg2)) (funext fun a => Fin.ext ?_)
  match a with
  | ⟨0, _⟩ => show win0_4.index t 0 * 1 + 1 * 0 = 1; rw [ixw4 t 0]; show (1) * 1 + 1 * 0 = 1; omega
  | ⟨1, _⟩ => show win0_4.index t 1 * 1 + 1 * 0 = 0; rw [ixw4 t 1]; show (0) * 1 + 1 * 0 = 0; omega
  | ⟨2, _⟩ => show win0_4.index t 2 * 1024 + 1 * q.val = q.val; rw [ixw4 t 2]; show (0) * 1024 + 1 * q.val = q.val; omega

theorem blk5 (i : Fin 1024) (q : Fin 2048) : iblk m c 5 t (ix3 0 i q) = m ((c.tc : Thread nD τ).loc main_arg3) (ix3 0 i q) := by
  refine congrArg (m ((c.tc : Thread nD τ).loc main_arg3)) (funext fun a => Fin.ext ?_)
  match a with
  | ⟨0, _⟩ => show win0_5.index t 0 * 1 + 1 * 0 = 0; rw [ixw5 t 0]; show (0) * 1 + 1 * 0 = 0; omega
  | ⟨1, _⟩ => show win0_5.index t 1 * 1024 + 1 * i.val = i.val; rw [ixw5 t 1]; show (0) * 1024 + 1 * i.val = i.val; omega
  | ⟨2, _⟩ => show win0_5.index t 2 * 2048 + 1 * q.val = q.val; rw [ixw5 t 2]; show (0) * 2048 + 1 * q.val = q.val; omega

theorem blk6 (i : Fin 1024) (q : Fin 3072) : iblk m c 6 t (ix3 0 i q) = m ((c.tc : Thread nD τ).loc main_arg4) (ix3 0 i q) := by
  refine congrArg (m ((c.tc : Thread nD τ).loc main_arg4)) (funext fun a => Fin.ext ?_)
  match a with
  | ⟨0, _⟩ => show win0_6.index t 0 * 1 + 1 * 0 = 0; rw [ixw6 t 0]; show (0) * 1 + 1 * 0 = 0; omega
  | ⟨1, _⟩ => show win0_6.index t 1 * 1024 + 1 * i.val = i.val; rw [ixw6 t 1]; show (0) * 1024 + 1 * i.val = i.val; omega
  | ⟨2, _⟩ => show win0_6.index t 2 * 3072 + 1 * q.val = q.val; rw [ixw6 t 2]; show (0) * 3072 + 1 * q.val = q.val; omega

theorem blk7 (i : Fin 1024) (q : Fin 128) : iblk m c 7 t (ix3 0 i q) = m ((c.tc : Thread nD τ).loc main_arg5) (ix3 0 i q) := by
  refine congrArg (m ((c.tc : Thread nD τ).loc main_arg5)) (funext fun a => Fin.ext ?_)
  match a with
  | ⟨0, _⟩ => show win0_7.index t 0 * 1 + 1 * 0 = 0; rw [ixw7 t 0]; show (0) * 1 + 1 * 0 = 0; omega
  | ⟨1, _⟩ => show win0_7.index t 1 * 1024 + 1 * i.val = i.val; rw [ixw7 t 1]; show (0) * 1024 + 1 * i.val = i.val; omega
  | ⟨2, _⟩ => show win0_7.index t 2 * 128 + 1 * q.val = q.val; rw [ixw7 t 2]; show (0) * 128 + 1 * q.val = q.val; omega

theorem blk8 (i : Fin 1024) (q : Fin 128) : iblk m c 8 t (ix3 0 i q) = m ((c.tc : Thread nD τ).loc main_arg6) (ix3 0 i q) := by
  refine congrArg (m ((c.tc : Thread nD τ).loc main_arg6)) (funext fun a => Fin.ext ?_)
  match a with
  | ⟨0, _⟩ => show win0_8.index t 0 * 1 + 1 * 0 = 0; rw [ixw8 t 0]; show (0) * 1 + 1 * 0 = 0; omega
  | ⟨1, _⟩ => show win0_8.index t 1 * 1024 + 1 * i.val = i.val; rw [ixw8 t 1]; show (0) * 1024 + 1 * i.val = i.val; omega
  | ⟨2, _⟩ => show win0_8.index t 2 * 128 + 1 * q.val = q.val; rw [ixw8 t 2]; show (0) * 128 + 1 * q.val = q.val; omega

theorem blk9 (i : Fin 4) (q : Fin 3072) : iblk m c 9 t (ix3 0 i q) = m ((c.tc : Thread nD τ).loc main_arg7) (ix3 0 i q) := by
  refine congrArg (m ((c.tc : Thread nD τ).loc main_arg7)) (funext fun a => Fin.ext ?_)
  match a with
  | ⟨0, _⟩ => show win0_9.index t 0 * 1 + 1 * 0 = 0; rw [ixw9 t 0]; show (0) * 1 + 1 * 0 = 0; omega
  | ⟨1, _⟩ => show win0_9.index t 1 * 4 + 1 * i.val = i.val; rw [ixw9 t 1]; show (0) * 4 + 1 * i.val = i.val; omega
  | ⟨2, _⟩ => show win0_9.index t 2 * 3072 + 1 * q.val = q.val; rw [ixw9 t 2]; show (0) * 3072 + 1 * q.val = q.val; omega

theorem blk10 (q : Fin 3072) : iblk m c 10 t (ix3 0 0 q) = m ((c.tc : Thread nD τ).loc main_arg8) (ix3 0 0 q) := by
  refine congrArg (m ((c.tc : Thread nD τ).loc main_arg8)) (funext fun a => Fin.ext ?_)
  match a with
  | ⟨0, _⟩ => show win0_10.index t 0 * 1 + 1 * 0 = 0; rw [ixw10 t 0]; show (0) * 1 + 1 * 0 = 0; omega
  | ⟨1, _⟩ => show win0_10.index t 1 * 1 + 1 * 0 = 0; rw [ixw10 t 1]; show (0) * 1 + 1 * 0 = 0; omega
  | ⟨2, _⟩ => show win0_10.index t 2 * 3072 + 1 * q.val = q.val; rw [ixw10 t 2]; show (0) * 3072 + 1 * q.val = q.val; omega

theorem blk11 (i : Fin 2) (q : Fin 128) : iblk m c 11 t (ix3 0 i q) = m ((c.tc : Thread nD τ).loc main_arg9) (ix3 0 i q) := by
  refine congrArg (m ((c.tc : Thread nD τ).loc main_arg9)) (funext fun a => Fin.ext ?_)
  match a with
  | ⟨0, _⟩ => show win0_11.index t 0 * 1 + 1 * 0 = 0; rw [ixw11 t 0]; show (0) * 1 + 1 * 0 = 0; omega
  | ⟨1, _⟩ => show win0_11.index t 1 * 2 + 1 * i.val = i.val; rw [ixw11 t 1]; show (0) * 2 + 1 * i.val = i.val; omega
  | ⟨2, _⟩ => show win0_11.index t 2 * 128 + 1 * q.val = q.val; rw [ixw11 t 2]; show (0) * 128 + 1 * q.val = q.val; omega

theorem convRow_congr {U : Fin 33280 → Fin 1024 → EReal} {W W' : Fin 1024 → EReal} {w0 w1 w2 w3 b w0' w1' w2' w3' b' : EReal} {r : Fin 33280} (e : ∀ k, W k = W' k)
    (e0 : w0 = w0') (e1 : w1 = w1') (e2 : w2 = w2') (e3 : w3 = w3') (eb : b = b') : convRow U W w0 w1 w2 w3 b r = convRow U W' w0' w1' w2' w3' b' r := by
  rw [funext e, e0, e1, e2, e3, eb]

/-- The modulated norms, from the program's arguments. -/
abbrev u : Fin 33280 → Fin 1024 → EReal :=
  uOf (fun r k => m ((c.tc : Thread nD τ).loc main_arg0) (ix2 r k)) (fun q k => m ((c.tc : Thread nD τ).loc main_arg1) (ix3 1 q k)) (fun k => m ((c.tc : Thread nD τ).loc main_arg2) (ix3 1 0 k))

/-- A place of the convolved projection. -/
abbrev conv (r : Fin 33280) (l : Fin 3072) : EReal :=
  convRow (u m c) (fun k => m ((c.tc : Thread nD τ).loc main_arg4) (ix3 0 k l)) (m ((c.tc : Thread nD τ).loc main_arg7) (ix3 0 0 l)) (m ((c.tc : Thread nD τ).loc main_arg7) (ix3 0 1 l)) (m ((c.tc : Thread nD τ).loc main_arg7) (ix3 0 2 l)) (m ((c.tc : Thread nD τ).loc main_arg7) (ix3 0 3 l)) (m ((c.tc : Thread nD τ).loc main_arg8) (ix3 0 0 l)) r

/-- A place of the gate's projection. -/
abbrev gate (r : Fin 33280) (l : Fin 2048) : EReal := dot (u m c r) (fun k => m ((c.tc : Thread nD τ).loc main_arg3) (ix3 0 k l))

/-- A place of the step widths, forwards and backwards. -/
abbrev stepF (r : Fin 33280) (l : Fin 128) : EReal := softplus (dot (u m c r) (fun k => m ((c.tc : Thread nD τ).loc main_arg5) (ix3 0 k l)) + m ((c.tc : Thread nD τ).loc main_arg9) (ix3 0 0 l))
abbrev stepB (r : Fin 33280) (l : Fin 128) : EReal := softplus (dot (u m c r) (fun k => m ((c.tc : Thread nD τ).loc main_arg6) (ix3 0 k l)) + m ((c.tc : Thread nD τ).loc main_arg9) (ix3 0 1 l))

theorem place12 (y : S512x2048.Idx) (j : S33280x2048.Idx) (h0 : (j 0).val = t.val * 512 + (y 0).val) (h1 : (j 1).val = (y 1).val) :
    blockZ (kernelRun0_A.sl.r_6 (F := Ideal) c (grid0.coords t) (ms0_1 t) (Cert.Kernel3Ideal.Gen.hs0_1 t) (ms0_3 t) (Cert.Kernel3Ideal.Gen.hs0_3 t) (ms0_4 t) (Cert.Kernel3Ideal.Gen.hs0_4 t) (iblk m c 1 t) (iblk m c 3 t) (iblk m c 4 t)) (kernelRun0_A.sl.r_76 (F := Ideal) c (grid0.coords t) (ms0_1 t) (Cert.Kernel3Ideal.Gen.hs0_1 t) (ms0_3 t) (Cert.Kernel3Ideal.Gen.hs0_3 t) (ms0_4 t) (Cert.Kernel3Ideal.Gen.hs0_4 t) (iblk m c 1 t) (iblk m c 3 t) (iblk m c 4 t)) (iblk m c 5 t) y = gate m c (j 0) (j 1) := by
  have e : (j 1 : Fin 2048) = y 1 := Fin.ext h1
  unfold blockZ
  refine dot_congr (fun k => rows_eq (fun r k => m ((c.tc : Thread nD τ).loc main_arg0) (ix2 r k)) (fun q k => m ((c.tc : Thread nD τ).loc main_arg1) (ix3 1 q k)) (fun k => m ((c.tc : Thread nD τ).loc main_arg2) (ix3 1 0 k)) c t _ _ _ _ _ _ _ _ _ (fun i q j hj => blk1 m c t i q j hj) (fun g k => blk3 m c t g k) (fun k => blk4 m c t k) (y 0) (j 0) h0 k) (fun k => (blk5 m c t k (y 1)).trans ?_)
  rw [← e]

theorem place13 (y : S512x2048.Idx) (j : S33280x2048.Idx) (h0 : (j 0).val = t.val * 512 + (y 0).val) (h1 : (j 1).val = (y 1).val) :
    blockXs (kernelRun0_A.sl.r_8 (F := Ideal) c (grid0.coords t) (ms0_0 t) (Cert.Kernel3Ideal.Gen.hs0_0 t) (ms0_1 t) (Cert.Kernel3Ideal.Gen.hs0_1 t) (ms0_3 t) (Cert.Kernel3Ideal.Gen.hs0_3 t) (ms0_4 t) (Cert.Kernel3Ideal.Gen.hs0_4 t) (iblk m c 0 t) (iblk m c 1 t) (iblk m c 3 t) (iblk m c 4 t)) (kernelRun0_A.sl.r_78 (F := Ideal) c (grid0.coords t) (ms0_1 t) (Cert.Kernel3Ideal.Gen.hs0_1 t) (ms0_2 t) (Cert.Kernel3Ideal.Gen.hs0_2 t) (ms0_3 t) (Cert.Kernel3Ideal.Gen.hs0_3 t) (ms0_4 t) (Cert.Kernel3Ideal.Gen.hs0_4 t) (iblk m c 1 t) (iblk m c 2 t) (iblk m c 3 t) (iblk m c 4 t)) (iblk m c 6 t) (iblk m c 9 t) (iblk m c 10 t) y = conv m c (j 0) ⟨(j 1).val, by have : (j 1).val < 2048 := (j 1).isLt; omega⟩ := by
  have e : (j 1 : Fin 2048) = y 1 := Fin.ext h1
  unfold blockXs
  refine (whole_eq (fun r k => m ((c.tc : Thread nD τ).loc main_arg0) (ix2 r k)) (fun q k => m ((c.tc : Thread nD τ).loc main_arg1) (ix3 1 q k)) (fun k => m ((c.tc : Thread nD τ).loc main_arg2) (ix3 1 0 k)) c t _ _ _ _ _ _ _ _ _ _ _ _ _ _ _ (fun i q j hj => blk0 m c t i q j hj) (fun i q j hj => blk1 m c t i q j hj) (fun i q j hj => blk2 m c t i q j hj) (fun g k => blk3 m c t g k) (fun k => blk4 m c t k) _ _ _ (y 0) _ (j 0) h0 _ _ _ _ _ _ (fun k => blk6 m c t k _) (blk9 m c t 0 _) (blk9 m c t 1 _) (blk9 m c t 2 _) (blk9 m c t 3 _) (blk10 m c t _)).trans (congrArg (conv m c (j 0)) (Fin.ext ?_))
  show _ = _
  dsimp only
  omega

theorem place14 (y : S512x1024.Idx) (j : S33280x1024.Idx) (h0 : (j 0).val = t.val * 512 + (y 0).val) (h1 : (j 1).val = (y 1).val) :
    blockBc (kernelRun0_A.sl.r_8 (F := Ideal) c (grid0.coords t) (ms0_0 t) (Cert.Kernel3Ideal.Gen.hs0_0 t) (ms0_1 t) (Cert.Kernel3Ideal.Gen.hs0_1 t) (ms0_3 t) (Cert.Kernel3Ideal.Gen.hs0_3 t) (ms0_4 t) (Cert.Kernel3Ideal.Gen.hs0_4 t) (iblk m c 0 t) (iblk m c 1 t) (iblk m c 3 t) (iblk m c 4 t)) (kernelRun0_A.sl.r_78 (F := Ideal) c (grid0.coords t) (ms0_1 t) (Cert.Kernel3Ideal.Gen.hs0_1 t) (ms0_2 t) (Cert.Kernel3Ideal.Gen.hs0_2 t) (ms0_3 t) (Cert.Kernel3Ideal.Gen.hs0_3 t) (ms0_4 t) (Cert.Kernel3Ideal.Gen.hs0_4 t) (iblk m c 1 t) (iblk m c 2 t) (iblk m c 3 t) (iblk m c 4 t)) (iblk m c 6 t) (iblk m c 9 t) (iblk m c 10 t) y = conv m c (j 0) ⟨2048 + (j 1).val, by have : (j 1).val < 1024 := (j 1).isLt; omega⟩ := by
  have e : (j 1 : Fin 1024) = y 1 := Fin.ext h1
  unfold blockBc
  refine (whole_eq (fun r k => m ((c.tc : Thread nD τ).loc main_arg0) (ix2 r k)) (fun q k => m ((c.tc : Thread nD τ).loc main_arg1) (ix3 1 q k)) (fun k => m ((c.tc : Thread nD τ).loc main_arg2) (ix3 1 0 k)) c t _ _ _ _ _ _ _ _ _ _ _ _ _ _ _ (fun i q j hj => blk0 m c t i q j hj) (fun i q j hj => blk1 m c t i q j hj) (fun i q j hj => blk2 m c t i q j hj) (fun g k => blk3 m c t g k) (fun k => blk4 m c t k) _ _ _ (y 0) _ (j 0) h0 _ _ _ _ _ _ (fun k => blk6 m c t k _) (blk9 m c t 0 _) (blk9 m c t 1 _) (blk9 m c t 2 _) (blk9 m c t 3 _) (blk10 m c t _)).trans (congrArg (conv m c (j 0)) (Fin.ext ?_))
  show _ = _
  dsimp only
  omega

theorem place15 (y : S512x128.Idx) (j : S33280x128.Idx) (h0 : (j 0).val = t.val * 512 + (y 0).val) (h1 : (j 1).val = (y 1).val) :
    blockDt 0 (kernelRun0_A.sl.r_6 (F := Ideal) c (grid0.coords t) (ms0_1 t) (Cert.Kernel3Ideal.Gen.hs0_1 t) (ms0_3 t) (Cert.Kernel3Ideal.Gen.hs0_3 t) (ms0_4 t) (Cert.Kernel3Ideal.Gen.hs0_4 t) (iblk m c 1 t) (iblk m c 3 t) (iblk m c 4 t)) (kernelRun0_A.sl.r_76 (F := Ideal) c (grid0.coords t) (ms0_1 t) (Cert.Kernel3Ideal.Gen.hs0_1 t) (ms0_3 t) (Cert.Kernel3Ideal.Gen.hs0_3 t) (ms0_4 t) (Cert.Kernel3Ideal.Gen.hs0_4 t) (iblk m c 1 t) (iblk m c 3 t) (iblk m c 4 t)) (iblk m c 7 t) (iblk m c 11 t) y = stepF m c (j 0) (j 1) := by
  have e : (j 1 : Fin 128) = y 1 := Fin.ext h1
  unfold blockDt
  refine congrArg softplus (congrArg₂ (· + ·) (dot_congr (fun k => rows_eq (fun r k => m ((c.tc : Thread nD τ).loc main_arg0) (ix2 r k)) (fun q k => m ((c.tc : Thread nD τ).loc main_arg1) (ix3 1 q k)) (fun k => m ((c.tc : Thread nD τ).loc main_arg2) (ix3 1 0 k)) c t _ _ _ _ _ _ _ _ _ (fun i q j hj => blk1 m c t i q j hj) (fun g k => blk3 m c t g k) (fun k => blk4 m c t k) (y 0) (j 0) h0 k) (fun k => (blk7 m c t k (y 1)).trans ?_)) ((blk11 m c t 0 (y 1)).trans ?_))
  · rw [← e]
  · rw [← e]

theorem place16 (y : S512x128.Idx) (j : S33280x128.Idx) (h0 : (j 0).val = t.val * 512 + (y 0).val) (h1 : (j 1).val = (y 1).val) :
    blockDt 1 (kernelRun0_A.sl.r_6 (F := Ideal) c (grid0.coords t) (ms0_1 t) (Cert.Kernel3Ideal.Gen.hs0_1 t) (ms0_3 t) (Cert.Kernel3Ideal.Gen.hs0_3 t) (ms0_4 t) (Cert.Kernel3Ideal.Gen.hs0_4 t) (iblk m c 1 t) (iblk m c 3 t) (iblk m c 4 t)) (kernelRun0_A.sl.r_76 (F := Ideal) c (grid0.coords t) (ms0_1 t) (Cert.Kernel3Ideal.Gen.hs0_1 t) (ms0_3 t) (Cert.Kernel3Ideal.Gen.hs0_3 t) (ms0_4 t) (Cert.Kernel3Ideal.Gen.hs0_4 t) (iblk m c 1 t) (iblk m c 3 t) (iblk m c 4 t)) (iblk m c 8 t) (iblk m c 11 t) y = stepB m c (j 0) (j 1) := by
  have e : (j 1 : Fin 128) = y 1 := Fin.ext h1
  unfold blockDt
  refine congrArg softplus (congrArg₂ (· + ·) (dot_congr (fun k => rows_eq (fun r k => m ((c.tc : Thread nD τ).loc main_arg0) (ix2 r k)) (fun q k => m ((c.tc : Thread nD τ).loc main_arg1) (ix3 1 q k)) (fun k => m ((c.tc : Thread nD τ).loc main_arg2) (ix3 1 0 k)) c t _ _ _ _ _ _ _ _ _ (fun i q j hj => blk1 m c t i q j hj) (fun g k => blk3 m c t g k) (fun k => blk4 m c t k) (y 0) (j 0) h0 k) (fun k => (blk8 m c t k (y 1)).trans ?_)) ((blk11 m c t 1 (y 1)).trans ?_))
  · rw [← e]
  · rw [← e]

theorem final12 : (dats m 0 c).arrAt 12 cfg0.N = fun j : S33280x2048.Idx => gate m c (j 0) (j 1) := by
  refine (dats m 0 c).arrAt_eq_of_covers 12 _ covers12 (fun t hf y => ?_) (Memref.isWhole_whole _)
  have y0 : (y 0).val < 512 := (y 0).isLt
  have y1 : (y 1).val < 2048 := (y 1).isLt
  refine Eq.trans ?_ (place12 m c t y _ ?_ ?_)
  · show (dats m 0 c).flushed 12 t y = _
    rw [Cert.Kernel3Ideal.Value.flushed12_A m c t]
    exact out12_eq _ _ _ _ _ _ _ _ _ _ _ _ _ _ _ _ _ _ _ _ _ _ _ _ _ _ _ _ _ _ _ _ _ _ _ _ _ _ _ _ _ _ _ _ _ _ _ _ _ _ _ _ y
  · show win0_12.index t 0 * 512 + 1 * (y 0).val = _
    rw [ixw12 t 0]; show t.val * 512 + _ = _; omega
  · show win0_12.index t 1 * 2048 + 1 * (y 1).val = _
    rw [ixw12 t 1]; show 0 * 2048 + _ = _; omega

theorem final13 : (dats m 0 c).arrAt 13 cfg0.N = fun j : S33280x2048.Idx => conv m c (j 0) ⟨(j 1).val, by have : (j 1).val < 2048 := (j 1).isLt; omega⟩ := by
  refine (dats m 0 c).arrAt_eq_of_covers 13 _ covers13 (fun t hf y => ?_) (Memref.isWhole_whole _)
  have y0 : (y 0).val < 512 := (y 0).isLt
  have y1 : (y 1).val < 2048 := (y 1).isLt
  refine Eq.trans ?_ (place13 m c t y _ ?_ ?_)
  · show (dats m 0 c).flushed 13 t y = _
    rw [Cert.Kernel3Ideal.Value.flushed13_A m c t]
    exact out13_eq _ _ _ _ _ _ _ _ _ _ _ _ _ _ _ _ _ _ _ _ _ _ _ _ _ _ _ _ _ _ _ _ _ _ _ _ _ _ _ _ _ _ _ _ _ _ _ _ _ _ _ _ y
  · show win0_13.index t 0 * 512 + 1 * (y 0).val = _
    rw [ixw13 t 0]; show t.val * 512 + _ = _; omega
  · show win0_13.index t 1 * 2048 + 1 * (y 1).val = _
    rw [ixw13 t 1]; show 0 * 2048 + _ = _; omega

theorem final14 : (dats m 0 c).arrAt 14 cfg0.N = fun j : S33280x1024.Idx => conv m c (j 0) ⟨2048 + (j 1).val, by have : (j 1).val < 1024 := (j 1).isLt; omega⟩ := by
  refine (dats m 0 c).arrAt_eq_of_covers 14 _ covers14 (fun t hf y => ?_) (Memref.isWhole_whole _)
  have y0 : (y 0).val < 512 := (y 0).isLt
  have y1 : (y 1).val < 1024 := (y 1).isLt
  refine Eq.trans ?_ (place14 m c t y _ ?_ ?_)
  · show (dats m 0 c).flushed 14 t y = _
    rw [Cert.Kernel3Ideal.Value.flushed14_A m c t]
    exact out14_eq _ _ _ _ _ _ _ _ _ _ _ _ _ _ _ _ _ _ _ _ _ _ _ _ _ _ _ _ _ _ _ _ _ _ _ _ _ _ _ _ _ _ _ _ _ _ _ _ _ _ _ _ y
  · show win0_14.index t 0 * 512 + 1 * (y 0).val = _
    rw [ixw14 t 0]; show t.val * 512 + _ = _; omega
  · show win0_14.index t 1 * 1024 + 1 * (y 1).val = _
    rw [ixw14 t 1]; show 0 * 1024 + _ = _; omega

theorem final15 : (dats m 0 c).arrAt 15 cfg0.N = fun j : S33280x128.Idx => stepF m c (j 0) (j 1) := by
  refine (dats m 0 c).arrAt_eq_of_covers 15 _ covers15 (fun t hf y => ?_) (Memref.isWhole_whole _)
  have y0 : (y 0).val < 512 := (y 0).isLt
  have y1 : (y 1).val < 128 := (y 1).isLt
  refine Eq.trans ?_ (place15 m c t y _ ?_ ?_)
  · show (dats m 0 c).flushed 15 t y = _
    rw [Cert.Kernel3Ideal.Value.flushed15_A m c t]
    exact out15_eq _ _ _ _ _ _ _ _ _ _ _ _ _ _ _ _ _ _ _ _ _ _ _ _ _ _ _ _ _ _ _ _ _ _ _ _ _ _ _ _ _ _ _ _ _ _ _ _ _ _ _ _ y
  · show win0_15.index t 0 * 512 + 1 * (y 0).val = _
    rw [ixw15 t 0]; show t.val * 512 + _ = _; omega
  · show win0_15.index t 1 * 128 + 1 * (y 1).val = _
    rw [ixw15 t 1]; show 0 * 128 + _ = _; omega

theorem final16 : (dats m 0 c).arrAt 16 cfg0.N = fun j : S33280x128.Idx => stepB m c (j 0) (j 1) := by
  refine (dats m 0 c).arrAt_eq_of_covers 16 _ covers16 (fun t hf y => ?_) (Memref.isWhole_whole _)
  have y0 : (y 0).val < 512 := (y 0).isLt
  have y1 : (y 1).val < 128 := (y 1).isLt
  refine Eq.trans ?_ (place16 m c t y _ ?_ ?_)
  · show (dats m 0 c).flushed 16 t y = _
    rw [Cert.Kernel3Ideal.Value.flushed16_A m c t]
    exact out16_eq _ _ _ _ _ _ _ _ _ _ _ _ _ _ _ _ _ _ _ _ _ _ _ _ _ _ _ _ _ _ _ _ _ _ _ _ _ _ _ _ _ _ _ _ _ _ _ _ _ _ _ _ y
  · show win0_16.index t 0 * 512 + 1 * (y 0).val = _
    rw [ixw16 t 0]; show t.val * 512 + _ = _; omega
  · show win0_16.index t 1 * 128 + 1 * (y 1).val = _
    rw [ixw16 t 1]; show 0 * 128 + _ = _; omega

end Cert.Kernel3Ideal.SsdIn

end

noncomputable section

namespace Cert.SsdIn

open Idealize.ShloMosaic
open Idealize.ShloMosaic.TcCoe Idealize.ShloMosaic.Tactic
open Idealize.SL Idealize.SL.Sem

/-- Both programs run, and end with equal results. -/
theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => (Cert.Kernel3Ideal.Gen.dats m 0 c).arrAt 12 Cert.Kernel3Ideal.cfg0.N, fun c => (Cert.Kernel3Ideal.Gen.dats m 0 c).arrAt 13 Cert.Kernel3Ideal.cfg0.N,
    fun c => (Cert.Kernel3Ideal.Gen.dats m 0 c).arrAt 14 Cert.Kernel3Ideal.cfg0.N, fun c => (Cert.Kernel3Ideal.Gen.dats m 0 c).arrAt 15 Cert.Kernel3Ideal.cfg0.N,
    fun c => (Cert.Kernel3Ideal.Gen.dats m 0 c).arrAt 16 Cert.Kernel3Ideal.cfg0.N,
    (θ_run Cert.Kernel3Ideal.defs _ _).mono (fun r h c => ?_) (Cert.Kernel3Ideal.Value.run_blocks (F := Ideal) m g), ?_⟩
  · obtain ⟨b0, b1, b2, b3, b4, b5⟩ := h c
    exact ⟨b0, b1, b2, b3, b4, b5⟩
  refine (θ_run Cert.Reference3Ideal.defs _ _).mono (fun r h c => ?_) (Cert.Reference3Ideal.SsdIn.run_rows m' g')
  obtain ⟨v0, v1, v2, v3, v4, v5⟩ := h c
  obtain ⟨a0, a1, a2, a3, a4, a5, a6, a7, a8, a9⟩ := hagree c
  have eu : Cert.Reference3Ideal.SsdIn.u (Idealize.ShloMosaic.StableHlo.launchContents m' c) = Cert.Kernel3Ideal.SsdIn.u m c := by
    funext r k
    exact Cert.Kernel3Ideal.SsdIn.urow_congr (fun q => congrFun a0 _) (fun q => congrFun a2 _) (fun q => congrFun a1 _) (fun q => congrFun a1 _) k
  have ec : Cert.Reference3Ideal.SsdIn.conv (Idealize.ShloMosaic.StableHlo.launchContents m' c) = Cert.Kernel3Ideal.SsdIn.conv m c := by
    funext r l
    refine (congrArg (fun U => Cert.Rows.convRow U _ _ _ _ _ _ r) eu).trans ?_
    exact Cert.Kernel3Ideal.SsdIn.convRow_congr (fun k => congrFun a4 _) (congrFun a7 _) (congrFun a7 _) (congrFun a7 _) (congrFun a7 _) (congrFun a8 _)
  refine ⟨v0.trans ?_, v1.trans ?_, v2.trans ?_, v3.trans ?_, v4.trans ?_, v5⟩
  · refine Eq.trans (funext fun j => ?_) (Cert.Kernel3Ideal.SsdIn.final12 m c).symm
    rw [eu]
    exact Cert.Kernel3Ideal.SsdIn.dot_congr (fun _ => rfl) (fun k => congrFun a3 _)
  · refine Eq.trans (funext fun j => ?_) (Cert.Kernel3Ideal.SsdIn.final13 m c).symm
    rw [ec]
  · refine Eq.trans (funext fun j => ?_) (Cert.Kernel3Ideal.SsdIn.final14 m c).symm
    rw [ec]
  · refine Eq.trans (funext fun j => ?_) (Cert.Kernel3Ideal.SsdIn.final15 m c).symm
    rw [eu]
    exact congrArg Cert.Rows.softplus (congrArg₂ (· + ·) (Cert.Kernel3Ideal.SsdIn.dot_congr (fun _ => rfl) (fun k => congrFun a5 _)) (congrFun a9 _))
  · refine Eq.trans (funext fun j => ?_) (Cert.Kernel3Ideal.SsdIn.final16 m c).symm
    rw [eu]
    exact congrArg Cert.Rows.softplus (congrArg₂ (· + ·) (Cert.Kernel3Ideal.SsdIn.dot_congr (fun _ => rfl) (fun k => congrFun a6 _)) (congrFun a9 _))

end Cert.SsdIn

end
-- ==== Proof.EvenRows.lean ====
/- The row-wise pieces of the pooling layer: the pooled mix of a block of 256 rows and the gated linear layer. -/
module

public import proofs.«01_k».proof.Proof.SsdInRows
public import Idealize.ShloMosaic.Lib.Pointwise

@[expose] public section

noncomputable section

namespace Cert.Rows

open Idealize.ShloMosaic

/-- A number that is neither infinity. -/
def Fin' (x : EReal) : Prop := x ≠ ⊤ ∧ x ≠ ⊥

theorem Fin'.coe (r : ℝ) : Fin' (r : EReal) := ⟨EReal.coe_ne_top r, EReal.coe_ne_bot r⟩

theorem Fin'.exists {x : EReal} (h : Fin' x) : ∃ r : ℝ, x = (r : EReal) := ⟨x.toReal, (EReal.coe_toReal h.1 h.2).symm⟩

theorem Fin'.mul {x y : EReal} (hx : Fin' x) (hy : Fin' y) : Fin' (x * y) := by
  obtain ⟨a, rfl⟩ := hx.exists
  obtain ⟨b, rfl⟩ := hy.exists
  rw [← EReal.coe_mul]
  exact Fin'.coe _

theorem Fin'.add {x y : EReal} (hx : Fin' x) (hy : Fin' y) : Fin' (x + y) := by
  obtain ⟨a, rfl⟩ := hx.exists
  obtain ⟨b, rfl⟩ := hy.exists
  rw [← EReal.coe_add]
  exact Fin'.coe _

theorem Fin'.sub_self {x : EReal} (h : Fin' x) : x - x = 0 := EReal.sub_self h.1 h.2

/-- A number whose absolute value is below infinity is finite. -/
theorem fin_of_abs_lt {x : EReal} (h : max x (-x) < ⊤) : Fin' x := by
  refine ⟨fun e => ?_, fun e => ?_⟩
  · subst e; simp at h
  · subst e; simp at h

/-- The smoothing constant is a positive number. -/
theorem eps_pos : ∃ e : ℝ, 0 < e ∧ eps = (e : EReal) := by
  unfold eps Ideal.ofBits Ideal.ieee
  dsimp only
  rw [if_neg (by decide), if_neg (by decide)]
  refine ⟨_, ?_, rfl⟩
  rw [if_neg (by decide)]
  positivity

/-- The row's length is a positive number. -/
theorem len_pos : ∃ e : ℝ, 0 < e ∧ Ideal.ofBits .f32 0x44800000#32 = (e : EReal) := by
  unfold Ideal.ofBits Ideal.ieee
  dsimp only
  rw [if_neg (by decide), if_neg (by decide)]
  refine ⟨_, ?_, rfl⟩
  rw [if_neg (by decide)]
  positivity

/-- The pattern of infinity. -/
theorem inf_top : Ideal.ofBits .f32 0x7F800000#32 = ⊤ := by
  unfold Ideal.ofBits Ideal.ieee
  dsimp only
  rw [if_pos (by decide), if_pos (by decide), if_neg (by decide)]

theorem coe_sum_real {n : ℕ} (f : Fin n → ℝ) : ((∑ j : Fin n, f j : ℝ) : EReal) = ∑ j : Fin n, (f j : EReal) := by
  induction n with
  | zero => simp
  | succ n ih => rw [Fin.sum_univ_succ, Fin.sum_univ_succ, EReal.coe_add, ih]

theorem sq_nonneg' (x : EReal) : 0 ≤ x * x := by
  induction x with
  | bot => simp
  | top => simp
  | coe r => rw [← EReal.coe_mul]; exact EReal.coe_nonneg.mpr (mul_self_nonneg r)

theorem sum_sq_nonneg {n : ℕ} (x : Fin n → EReal) : 0 ≤ ∑ j : Fin n, x j * x j := Finset.sum_nonneg fun j _ => sq_nonneg' (x j)

/-- The norm's factor times the row is finite, also where the row is not. -/
theorem rms_fin {n : ℕ} {len : EReal} (hl : ∃ e : ℝ, 0 < e ∧ len = (e : EReal)) (x w : Fin n → EReal) (k : Fin n) (hw : Fin' (w k)) : Fin' (rms len x w k) := by
  obtain ⟨l, l0, rfl⟩ := hl
  obtain ⟨e, e0, he⟩ := eps_pos
  unfold rms
  refine Fin'.mul ?_ hw
  rw [he, Ideal.div_coe l0.ne']
  by_cases h : ∀ j, Fin' (x j)
  · choose f hf using fun j => (h j).exists
    obtain rfl : x = fun j => (f j : EReal) := funext hf
    have hs : (∑ j : Fin n, (f j : EReal) * (f j : EReal)) = ((∑ j : Fin n, f j * f j : ℝ) : EReal) := by
      rw [coe_sum_real]
      exact Finset.sum_congr rfl fun j _ => (EReal.coe_mul _ _).symm
    have h0 : 0 ≤ ∑ j : Fin n, f j * f j := Finset.sum_nonneg fun j _ => mul_self_nonneg _
    have hp : 0 < (∑ j : Fin n, f j * f j) * (1 / l) + e := by positivity
    rw [hs, ← EReal.coe_mul, ← EReal.coe_add, Ideal.rsqrt_coe, if_neg (not_lt.mpr hp.le), if_neg hp.ne']
    exact Fin'.mul (Fin'.coe _) (Fin'.coe _)
  · rw [not_forall] at h
    obtain ⟨j, hj⟩ := h
    have ht : x j * x j = ⊤ := by
      by_cases h1 : x j = ⊤
      · rw [h1]; rfl
      · by_cases h2 : x j = ⊥
        · rw [h2]; rfl
        · exact absurd ⟨h1, h2⟩ hj
    have hs : ∑ j : Fin n, x j * x j = ⊤ := by
      refine top_le_iff.mp ?_
      rw [← ht]
      exact Finset.single_le_sum (f := fun j => x j * x j) (fun j _ => sq_nonneg' (x j)) (Finset.mem_univ j)
    rw [hs, EReal.top_mul_coe_of_pos (by positivity), EReal.top_add_coe, Ideal.rsqrt_top, mul_zero]
    exact Fin'.coe 0

theorem urow_fin (x w sc sh : Fin 1024 → EReal) (k : Fin 1024) (hw : Fin' (w k)) (h0 : Fin' (sc k)) (h1 : Fin' (sh k)) : Fin' (urow x w sc sh k) :=
  ((rms_fin len_pos x w k hw).mul ((Fin'.coe 1).add h0)).add h1

/-- The group of 256 channels a channel lies in, and its place there. -/
def grp (k : Fin 1024) : Fin 4 := ⟨k.val / 256, by have := k.isLt; omega⟩
def col (k : Fin 1024) : Fin 256 := ⟨k.val % 256, Nat.mod_lt _ (by decide)⟩

/-- The channel at place `c` of group `g`. -/
def chan (g : Fin 4) (c : Fin 256) : Fin 1024 := ⟨g.val * 256 + c.val, by have := g.isLt; have := c.isLt; omega⟩

theorem chan_grp_col (k : Fin 1024) : chan (grp k) (col k) = k := Fin.ext (by show k.val / 256 * 256 + k.val % 256 = k.val; omega)
theorem grp_chan (g : Fin 4) (c : Fin 256) : grp (chan g c) = g := Fin.ext (by show (g.val * 256 + c.val) / 256 = g.val; have := c.isLt; omega)
theorem col_chan (g : Fin 4) (c : Fin 256) : col (chan g c) = c := Fin.ext (by show (g.val * 256 + c.val) % 256 = c.val; have := c.isLt; omega)

/-- The weighted mean of a column in two parts of weights, less the column's own value. -/
def pooled (a b u : Fin 256 → EReal) (ui : EReal) : EReal := (∑ s : Fin 256, a s * u s + ∑ s : Fin 256, b s * u s) - ui

/-- One place of the pooled mix of row `i` of a block of rows `u`: the pooled channels of the place's group against its weights. -/
def mixAt (a b : Fin 4 → Fin 256 → EReal) (u : Fin 256 → Fin 1024 → EReal) (ui : Fin 1024 → EReal) (pw : Fin 4 → Fin 256 → Fin 256 → EReal) (k : Fin 1024) : EReal :=
  ∑ c : Fin 256, pooled (a (grp k)) (b (grp k)) (fun s => u s (chan (grp k) c)) (ui (chan (grp k) c)) * pw (grp k) c (col k)

/-- A row after the pooled mix. -/
def mixRow (x gate mix ps : Fin 1024 → EReal) (k : Fin 1024) : EReal := x k + gate k * (mix k * ps k)

/-- One hidden number of the gated linear layer. -/
def hid (v : Fin 1024 → EReal) (w1 w3 : Fin 1024 → EReal) : EReal := silu (dot v w1) * dot v w3

/-- One place of the gated linear layer. -/
def ffn (v : Fin 1024 → EReal) (w1 w3 : Fin 1024 → Fin 2816 → EReal) (w2 : Fin 2816 → EReal) : EReal :=
  ∑ f : Fin 2816, hid v (fun k => w1 k f) (fun k => w3 k f) * w2 f

/-- The hidden columns of one chunk. -/
def ffnChunk {n : ℕ} (v : Fin 1024 → EReal) (w1 w3 : Fin 1024 → Fin n → EReal) (w2 : Fin n → EReal) : EReal :=
  ∑ f : Fin n, hid v (fun k => w1 k f) (fun k => w3 k f) * w2 f

/-- Five chunks of 512 and one of 256 make the sum over 2816. -/
theorem sum_chunks (f : Fin 2816 → EReal) :
    (∑ s : Fin 512, f ⟨0 + s.val, by omega⟩) + (∑ s : Fin 512, f ⟨512 + s.val, by omega⟩) + (∑ s : Fin 512, f ⟨1024 + s.val, by omega⟩)
      + (∑ s : Fin 512, f ⟨1536 + s.val, by omega⟩) + (∑ s : Fin 512, f ⟨2048 + s.val, by omega⟩) + (∑ s : Fin 256, f ⟨2560 + s.val, by omega⟩) = ∑ s : Fin 2816, f s := by
  have e : ∀ (a b : ℕ) (g : Fin (a + b) → EReal), ∑ s : Fin (a + b), g s = ∑ s : Fin a, g (Fin.castAdd b s) + ∑ s : Fin b, g (Fin.natAdd a s) := fun a b g => Fin.sum_univ_add g
  rw [e 2560 256 f, e 2048 512 (fun s => f (Fin.castAdd 256 s)), e 1536 512 (fun s => f (Fin.castAdd 256 (Fin.castAdd 512 s))),
    e 1024 512 (fun s => f (Fin.castAdd 256 (Fin.castAdd 512 (Fin.castAdd 512 s)))),
    e 512 512 (fun s => f (Fin.castAdd 256 (Fin.castAdd 512 (Fin.castAdd 512 (Fin.castAdd 512 s)))))]
  congr 6
  funext s
  exact congrArg f (Fin.ext (Nat.zero_add _))

/-- Three parts of 256 make the sum over 768. -/
theorem sum_thirds (f : Fin 768 → EReal) :
    ∑ s : Fin 768, f s = (∑ s : Fin 256, f ⟨s.val, by omega⟩) + (∑ s : Fin 256, f ⟨256 + s.val, by omega⟩) + (∑ s : Fin 256, f ⟨512 + s.val, by omega⟩) := by
  have e : ∀ (a b : ℕ) (g : Fin (a + b) → EReal), ∑ s : Fin (a + b), g s = ∑ s : Fin a, g (Fin.castAdd b s) + ∑ s : Fin b, g (Fin.natAdd a s) := fun a b g => Fin.sum_univ_add g
  rw [e 512 256 f, e 256 256 (fun s => f (Fin.castAdd 256 s))]
  rfl

/-- What the pooling layer is handed: the rows, the table of its layer, the norms' weights, the averaging weights by part, group, row and column,
the mixing weights, the mix's scale and the gated linear layer's weights. -/
structure EvenArgs where
  h : Fin 33280 → Fin 1024 → EReal
  tbl : Fin 8 → Fin 6144 → EReal
  nw1 : Fin 1024 → EReal
  nw2 : Fin 1024 → EReal
  avg : Fin 2 → Fin 4 → Fin 256 → Fin 768 → EReal
  pw : Fin 4 → Fin 256 → Fin 256 → EReal
  ps : Fin 1024 → EReal
  w1 : Fin 1024 → Fin 2816 → EReal
  w3 : Fin 1024 → Fin 2816 → EReal
  w2 : Fin 2816 → Fin 1024 → EReal

/-- Row `i` of block `b`. -/
def rowOf (b : Fin 130) (i : Fin 256) : Fin 33280 := ⟨b.val * 256 + i.val, by have := b.isLt; have := i.isLt; omega⟩

/-- The averaging weights' number: 1 for a block of the context, else 0. -/
def kindOf (b : Fin 130) : Fin 2 := if b.val % 65 = 0 then 1 else 0

theorem modAt_rowOf (b : Fin 130) (i : Fin 256) : modAt (rowOf b i) = modAt (rowOf b 0) := by
  refine Fin.ext ?_
  show modRow (b.val * 256 + i.val) = modRow (b.val * 256 + 0)
  have := b.isLt
  have := i.isLt
  unfold modRow
  split <;> split <;> omega

namespace EvenArgs
variable (D : EvenArgs)

/-- The table's column `n + k` for the block. -/
def modc (n : ℕ) (hn : n + 1024 ≤ 6144) (b : Fin 130) (k : Fin 1024) : EReal := D.tbl (modAt (rowOf b 0)) ⟨n + k.val, by omega⟩

/-- The modulated norm of a row. -/
def u (b : Fin 130) (i : Fin 256) : Fin 1024 → EReal := urow (D.h (rowOf b i)) D.nw1 (D.modc 1024 (by decide) b) (D.modc 0 (by decide) b)

/-- A row's pooled mix. -/
def mix (b : Fin 130) (i : Fin 256) : Fin 1024 → EReal :=
  mixAt (fun g s => D.avg (kindOf b) g i ⟨s.val, by omega⟩) (fun g s => D.avg (kindOf b) g i ⟨256 + s.val, by omega⟩) (D.u b) (D.u b i) D.pw

/-- A row after the mix. -/
def h1 (b : Fin 130) (i : Fin 256) : Fin 1024 → EReal := mixRow (D.h (rowOf b i)) (D.modc 2048 (by decide) b) (D.mix b i) D.ps

/-- The second modulated norm of a row. -/
def v (b : Fin 130) (i : Fin 256) : Fin 1024 → EReal := urow (D.h1 b i) D.nw2 (D.modc 4096 (by decide) b) (D.modc 3072 (by decide) b)

/-- A row of the layer's output. -/
def out (b : Fin 130) (i : Fin 256) (k : Fin 1024) : EReal := D.h1 b i k + D.modc 5120 (by decide) b k * ffn (D.v b i) D.w1 D.w3 (fun f => D.w2 f k)

/-- The first norm's weight and the first two parts of the table are finite. -/
def Finite : Prop := (∀ k, Fin' (D.nw1 k)) ∧ ∀ q : Fin 8, ∀ j : Fin 6144, j.val < 2048 → Fin' (D.tbl q j)

theorem u_fin (hD : D.Finite) (b : Fin 130) (i : Fin 256) (k : Fin 1024) : Fin' (D.u b i k) :=
  urow_fin _ _ _ _ k (hD.1 k) (hD.2 _ _ (by show 1024 + k.val < 2048; have := k.isLt; omega)) (hD.2 _ _ (by show 0 + k.val < 2048; have := k.isLt; omega))

end EvenArgs

end Cert.Rows

end
-- ==== Proof.EvenPool.lean ====
/- The pooled mix of a block of 256 rows, as the body computes it. -/
module

public import proofs.«01_k».proof.Proof.EvenRows
public import proofs.«01_k».proof.Proof.Gen.Kernel4Ideal.Value

@[expose] public section

set_option maxRecDepth 16384
set_option Elab.async false

noncomputable section

namespace Cert.Kernel4Ideal.Even

open Cert.Kernel4Ideal Cert.Kernel4Ideal.Gen
open Idealize.ShloMosaic
open Idealize.ShloMosaic.TcCoe Idealize.ShloMosaic.Tactic
open Idealize.SL Idealize.SL.Sem
open Cert.Rows

/-- A column block in its two parts, the second the remainder of the first. -/
def parts (u : FVec Ideal S256x256 .f32) : FVec Ideal S768x256 .bf16 :=
  concatenate S768x256 0 [⟨S256x256, (truncf .bf16 u bitsLt_bf16_f32 : FVec Ideal S256x256 .bf16)⟩, ⟨S256x256, (truncf .bf16 u bitsLt_bf16_f32 : FVec Ideal S256x256 .bf16)⟩,
    ⟨S256x256, (truncf .bf16 (subf u (extf .f32 (truncf .bf16 u bitsLt_bf16_f32 : FVec Ideal S256x256 .bf16) bitsLt_bf16_f32)) bitsLt_bf16_f32 : FVec Ideal S256x256 .bf16)⟩]
    concatenates_S256x256_S256x256_S256x256_S768x256_d0

/-- The weighted means of a column block. -/
def meanOf (a : FVec Ideal S1x1x256x768 .bf16) (u : FVec Ideal S256x256 .f32) : FVec Ideal S256x256 .f32 :=
  matmul dot_S256x768_S768x256_S256x256_1_0_0_1_n_n none (shapeCast S256x768 a shapeCasts_S1x1x256x768_S256x768 : FVec Ideal S256x768 .bf16) (parts u) (constant S256x256 .f32 0x00000000#32)

/-- One group's pooled and mixed block. -/
def mixed (a : FVec Ideal S1x1x256x768 .bf16) (p : FVec Ideal S1x1x256x256 .bf16) (u : FVec Ideal S256x256 .f32) : FVec Ideal S256x256 .f32 :=
  matmul dot_S256x256_S256x256_S256x256_1_0_0_1_n_n none (truncf .bf16 (subf (meanOf a u) u) bitsLt_bf16_f32 : FVec Ideal S256x256 .bf16)
    (shapeCast S256x256 p shapeCasts_S1x1x256x256_S256x256 : FVec Ideal S256x256 .bf16) (constant S256x256 .f32 0x00000000#32)

/-- The four groups side by side. -/
def joined (m0 m1 m2 m3 : FVec Ideal S256x256 .f32) : FVec Ideal S256x1024 .f32 :=
  concatenate S256x1024 1 [⟨S256x256, m0⟩, ⟨S256x256, m1⟩, ⟨S256x256, m2⟩, ⟨S256x256, m3⟩] concatenates_S256x256_S256x256_S256x256_S256x256_S256x1024_d1

/-- The four groups' channels of a block. -/
def ug0 (U : FVec Ideal S256x1024 .f32) : FVec Ideal S256x256 .f32 := extractStridedSlice S256x256 ![0, 0] U slices_S256x1024_o0_0_S256x256
def ug1 (U : FVec Ideal S256x1024 .f32) : FVec Ideal S256x256 .f32 := extractStridedSlice S256x256 ![0, 256] U slices_S256x1024_o0_256_S256x256
def ug2 (U : FVec Ideal S256x1024 .f32) : FVec Ideal S256x256 .f32 := extractStridedSlice S256x256 ![0, 512] U slices_S256x1024_o0_512_S256x256
def ug3 (U : FVec Ideal S256x1024 .f32) : FVec Ideal S256x256 .f32 := extractStridedSlice S256x256 ![0, 768] U slices_S256x1024_o0_768_S256x256

theorem ug0_at (U : FVec Ideal S256x1024 .f32) (i c : Fin 256) : ug0 U (ix2 i c) = U (ix2 i (chan 0 c)) := by
  pointwise [ug0]
  exact congrArg U (congrArg (ix2 _) (Fin.ext (by show c.val = 0 * 256 + c.val; omega)))
theorem ug1_at (U : FVec Ideal S256x1024 .f32) (i c : Fin 256) : ug1 U (ix2 i c) = U (ix2 i (chan 1 c)) := by
  pointwise [ug1]
  exact congrArg U (congrArg (ix2 _) (Fin.ext (by show 256 + c.val = 1 * 256 + c.val; omega)))
theorem ug2_at (U : FVec Ideal S256x1024 .f32) (i c : Fin 256) : ug2 U (ix2 i c) = U (ix2 i (chan 2 c)) := by
  pointwise [ug2]
  exact congrArg U (congrArg (ix2 _) (Fin.ext (by show 512 + c.val = 2 * 256 + c.val; omega)))
theorem ug3_at (U : FVec Ideal S256x1024 .f32) (i c : Fin 256) : ug3 U (ix2 i c) = U (ix2 i (chan 3 c)) := by
  pointwise [ug3]
  exact congrArg U (congrArg (ix2 _) (Fin.ext (by show 768 + c.val = 3 * 256 + c.val; omega)))

theorem parts_0 (u : FVec Ideal S256x256 .f32) (s c : Fin 256) : parts u (ix2 ⟨s.val, by omega⟩ c) = u (ix2 s c) := by
  have := s.isLt
  pointwise [parts]

theorem parts_1 (u : FVec Ideal S256x256 .f32) (s c : Fin 256) : parts u (ix2 ⟨256 + s.val, by omega⟩ c) = u (ix2 s c) := by
  have := s.isLt
  pointwise [parts]

theorem parts_2 (u : FVec Ideal S256x256 .f32) (s c : Fin 256) (h : Fin' (u (ix2 s c))) : parts u (ix2 ⟨512 + s.val, by omega⟩ c) = 0 := by
  have := s.isLt
  pointwise [parts]
  split
  · omega
  · split
    · omega
    · have e : (⟨512 + s.val - 256 - 256, by omega⟩ : Fin 256) = s := Fin.ext (by show 512 + s.val - 256 - 256 = s.val; omega)
      exact (congrArg (fun q => u (ix2 q c) - u (ix2 q c)) e).trans h.sub_self

theorem mean_at (a : FVec Ideal S1x1x256x768 .bf16) (u : FVec Ideal S256x256 .f32) (hu : ∀ s c, Fin' (u (ix2 s c))) (i c : Fin 256) :
    meanOf a u (ix2 i c) = ∑ s : Fin 256, a (ix4 0 0 i ⟨s.val, by omega⟩) * u (ix2 s c) + ∑ s : Fin 256, a (ix4 0 0 i ⟨256 + s.val, by omega⟩) * u (ix2 s c) := by
  have e : meanOf a u (ix2 i c) = ∑ s : Fin 768, a (ix4 0 0 i s) * parts u (ix2 s c) := by
    pointwise [meanOf]
  rw [e, sum_thirds]
  have z : ∑ s : Fin 256, a (ix4 0 0 i ⟨512 + s.val, by omega⟩) * parts u (ix2 ⟨512 + s.val, by omega⟩ c) = 0 :=
    Finset.sum_eq_zero fun s _ => by rw [parts_2 u s c (hu s c), mul_zero]
  rw [z, add_zero]
  refine congrArg₂ (· + ·) (Finset.sum_congr rfl fun s _ => ?_) (Finset.sum_congr rfl fun s _ => ?_)
  · rw [parts_0]
  · rw [parts_1]

theorem mixed_at (a : FVec Ideal S1x1x256x768 .bf16) (p : FVec Ideal S1x1x256x256 .bf16) (u : FVec Ideal S256x256 .f32) (hu : ∀ s c, Fin' (u (ix2 s c))) (i o : Fin 256) :
    mixed a p u (ix2 i o) = ∑ c : Fin 256, pooled (fun s => a (ix4 0 0 i ⟨s.val, by omega⟩)) (fun s => a (ix4 0 0 i ⟨256 + s.val, by omega⟩)) (fun s => u (ix2 s c)) (u (ix2 i c)) * p (ix4 0 0 c o) := by
  have e : mixed a p u (ix2 i o) = ∑ c : Fin 256, (meanOf a u (ix2 i c) - u (ix2 i c)) * p (ix4 0 0 c o) := by
    pointwise [mixed]
  rw [e]
  refine Finset.sum_congr rfl fun c _ => ?_
  rw [mean_at a u hu]
  rfl

theorem joined_at (m : Fin 4 → FVec Ideal S256x256 .f32) (i : Fin 256) (k : Fin 1024) : joined (m 0) (m 1) (m 2) (m 3) (ix2 i k) = m (grp k) (ix2 i (col k)) := by
  obtain ⟨g, o, rfl⟩ : ∃ g o, k = chan g o := ⟨grp k, col k, (chan_grp_col k).symm⟩
  rw [grp_chan, col_chan]
  have := o.isLt
  pointwise [joined]
  have hv : (chan g o).val = g.val * 256 + o.val := rfl
  obtain ⟨g, hg⟩ := g
  have hv' : (chan ⟨g, hg⟩ o).val = g * 256 + o.val := rfl
  match g, hg with
  | 0, hg =>
    rw [dif_pos (by omega)]
    exact congrArg (fun q => m 0 (ix2 i q)) (Fin.ext (by show (chan _ o).val = o.val; omega))
  | 1, hg =>
    rw [dif_neg (by omega), dif_pos (by omega)]
    exact congrArg (fun q => m 1 (ix2 i q)) (Fin.ext (by show (chan _ o).val - 256 = o.val; omega))
  | 2, hg =>
    rw [dif_neg (by omega), dif_neg (by omega), dif_pos (by omega)]
    exact congrArg (fun q => m 2 (ix2 i q)) (Fin.ext (by show (chan _ o).val - 256 - 256 = o.val; omega))
  | 3, hg =>
    rw [dif_neg (by omega), dif_neg (by omega), dif_neg (by omega)]
    exact congrArg (fun q => m 3 (ix2 i q)) (Fin.ext (by show (chan _ o).val - 256 - 256 - 256 = o.val; omega))

/-- The four groups' channels of a block, by the group's number. -/
def ug (U : FVec Ideal S256x1024 .f32) : Fin 4 → FVec Ideal S256x256 .f32 := ![ug0 U, ug1 U, ug2 U, ug3 U]

theorem ug_at (U : FVec Ideal S256x1024 .f32) (g : Fin 4) (i c : Fin 256) : ug U g (ix2 i c) = U (ix2 i (chan g c)) := by
  match g with
  | ⟨0, _⟩ => exact ug0_at U i c
  | ⟨1, _⟩ => exact ug1_at U i c
  | ⟨2, _⟩ => exact ug2_at U i c
  | ⟨3, _⟩ => exact ug3_at U i c

/-- The mix of a block, at one place. -/
theorem mix_at (a : Fin 4 → FVec Ideal S1x1x256x768 .bf16) (p : Fin 4 → FVec Ideal S1x1x256x256 .bf16) (U : FVec Ideal S256x1024 .f32) (hU : ∀ s k, Fin' (U (ix2 s k)))
    (i : Fin 256) (k : Fin 1024) :
    joined (mixed (a 0) (p 0) (ug0 U)) (mixed (a 1) (p 1) (ug1 U)) (mixed (a 2) (p 2) (ug2 U)) (mixed (a 3) (p 3) (ug3 U)) (ix2 i k)
      = mixAt (fun g s => a g (ix4 0 0 i ⟨s.val, by omega⟩)) (fun g s => a g (ix4 0 0 i ⟨256 + s.val, by omega⟩)) (fun s k => U (ix2 s k)) (fun k => U (ix2 i k))
        (fun g c o => p g (ix4 0 0 c o)) k := by
  refine (joined_at (fun g => mixed (a g) (p g) (ug U g)) i k).trans ?_
  refine (mixed_at _ _ _ (fun s c => by rw [ug_at]; exact hU s _) i _).trans ?_
  unfold mixAt
  simp only [ug_at]

section
variable (X : FVec Ideal S256x1024 .f32) (w sc sh ps gt : FVec Ideal S1x1x1024 .f32) (a : Fin 4 → FVec Ideal S1x1x256x768 .bf16) (p : Fin 4 → FVec Ideal S1x1x256x256 .bf16)
  (i : Fin 256) (k : Fin 1024)

theorem u_first : k0_pay3 (F := Ideal) (k0_pay2 X w) sc sh (ix2 i k)
    = urow (fun k => X (ix2 i k)) (fun k => w (ix3 0 0 k)) (fun k => sc (ix3 0 0 k)) (fun k => sh (ix3 0 0 k)) k := by
  pointwise [k0_pay3, k0_pay2, urow, rms]

theorem u_last : k0_pay11 (F := Ideal) (k0_pay10 X w sc) sh (ix2 i k)
    = urow (fun k => X (ix2 i k)) (fun k => w (ix3 0 0 k)) (fun k => sc (ix3 0 0 k)) (fun k => sh (ix3 0 0 k)) k := by
  pointwise [k0_pay11, k0_pay10, urow, rms]

/-- The first 256 rows after the mix, as the body stacks it. -/
def firstMix : FVec Ideal S256x1024 .f32 :=
  k0_pay6 (F := Ideal) (k0_pay3 (k0_pay2 X w) sc sh) (k0_pay4 (k0_pay2 X w) sc sh (a 0) (p 0)) (k0_pay5 (k0_pay2 X w) sc sh (a 1)) (p 1) (a 2) (p 2) (a 3) (p 3)

theorem firstMix_eq : firstMix X w sc sh a p = joined (mixed (a 0) (p 0) (ug0 (k0_pay3 (k0_pay2 X w) sc sh))) (mixed (a 1) (p 1) (ug1 (k0_pay3 (k0_pay2 X w) sc sh)))
    (mixed (a 2) (p 2) (ug2 (k0_pay3 (k0_pay2 X w) sc sh))) (mixed (a 3) (p 3) (ug3 (k0_pay3 (k0_pay2 X w) sc sh))) := rfl

theorem h1_first (hU : ∀ s k, Fin' (k0_pay3 (F := Ideal) (k0_pay2 X w) sc sh (ix2 s k))) :
    k0_pay8 (F := Ideal) X (firstMix X w sc sh a p) (k0_pay7 ps) gt (ix2 i k)
      = mixRow (fun k => X (ix2 i k)) (fun k => gt (ix3 0 0 k))
        (mixAt (fun g s => a g (ix4 0 0 i ⟨s.val, by omega⟩)) (fun g s => a g (ix4 0 0 i ⟨256 + s.val, by omega⟩))
          (fun s => urow (fun k => X (ix2 s k)) (fun k => w (ix3 0 0 k)) (fun k => sc (ix3 0 0 k)) (fun k => sh (ix3 0 0 k)))
          (urow (fun k => X (ix2 i k)) (fun k => w (ix3 0 0 k)) (fun k => sc (ix3 0 0 k)) (fun k => sh (ix3 0 0 k))) (fun g c o => p g (ix4 0 0 c o)))
        (fun k => ps (ix3 0 0 k)) k := by
  have e : k0_pay8 (F := Ideal) X (firstMix X w sc sh a p) (k0_pay7 ps) gt (ix2 i k)
      = X (ix2 i k) + gt (ix3 0 0 k) * (firstMix X w sc sh a p (ix2 i k) * ps (ix3 0 0 k)) := by
    pointwise [k0_pay8, k0_pay7]
  rw [e, firstMix_eq, mix_at a p _ hU]
  unfold mixRow
  simp only [u_first]

/-- The last 256 rows after the mix. -/
def lastMix : FVec Ideal S256x1024 .f32 :=
  k0_pay17 (F := Ideal) X (k0_pay11 (k0_pay10 X w sc) sh) (k0_pay12 (k0_pay10 X w sc) sh (a 0) (p 0)) (k0_pay13 (k0_pay10 X w sc) sh (a 1) (p 1))
    (k0_pay14 (k0_pay10 X w sc) sh) (k0_pay15 (k0_pay10 X w sc) sh) (k0_pay16 (k0_pay10 X w sc) sh) (a 2) (p 2) (a 3) (p 3) ps gt

theorem lastMix_eq : lastMix X w sc sh ps gt a p = k0_pay8 (F := Ideal) X (joined (mixed (a 0) (p 0) (ug0 (k0_pay11 (k0_pay10 X w sc) sh))) (mixed (a 1) (p 1) (ug1 (k0_pay11 (k0_pay10 X w sc) sh)))
    (mixed (a 2) (p 2) (ug2 (k0_pay11 (k0_pay10 X w sc) sh))) (mixed (a 3) (p 3) (ug3 (k0_pay11 (k0_pay10 X w sc) sh)))) (k0_pay7 ps) gt := rfl

theorem h1_last (hU : ∀ s k, Fin' (k0_pay11 (F := Ideal) (k0_pay10 X w sc) sh (ix2 s k))) :
    lastMix X w sc sh ps gt a p (ix2 i k)
      = mixRow (fun k => X (ix2 i k)) (fun k => gt (ix3 0 0 k))
        (mixAt (fun g s => a g (ix4 0 0 i ⟨s.val, by omega⟩)) (fun g s => a g (ix4 0 0 i ⟨256 + s.val, by omega⟩))
          (fun s => urow (fun k => X (ix2 s k)) (fun k => w (ix3 0 0 k)) (fun k => sc (ix3 0 0 k)) (fun k => sh (ix3 0 0 k)))
          (urow (fun k => X (ix2 i k)) (fun k => w (ix3 0 0 k)) (fun k => sc (ix3 0 0 k)) (fun k => sh (ix3 0 0 k))) (fun g c o => p g (ix4 0 0 c o)))
        (fun k => ps (ix3 0 0 k)) k := by
  have e : ∀ J : FVec Ideal S256x1024 .f32, k0_pay8 (F := Ideal) X J (k0_pay7 ps) gt (ix2 i k)
      = X (ix2 i k) + gt (ix3 0 0 k) * (J (ix2 i k) * ps (ix3 0 0 k)) := fun J => by
    pointwise [k0_pay8, k0_pay7]
  rw [lastMix_eq, e, mix_at a p _ hU]
  unfold mixRow
  simp only [u_last]

theorem v_first (M Ps : FVec Ideal S256x1024 .f32) : k0_pay9 (F := Ideal) X M Ps gt w sc sh (ix2 i k)
    = urow (fun k => k0_pay8 (F := Ideal) X M Ps gt (ix2 i k)) (fun k => w (ix3 0 0 k)) (fun k => sc (ix3 0 0 k)) (fun k => sh (ix3 0 0 k)) k := by
  pointwise [k0_pay9, urow, rms]

theorem v_upper (V : FVec Ideal S256x1024 .bf16) (H : FVec Ideal S256x1024 .f32) : k0_pay19 (F := Ideal) V H (k0_pay18 w) sc sh (ix2 ⟨0 + i.val, by omega⟩ k) = V (ix2 i k) := by
  have := i.isLt
  pointwise [k0_pay19, k0_pay18]

theorem v_lower (V : FVec Ideal S256x1024 .bf16) (H : FVec Ideal S256x1024 .f32) : k0_pay19 (F := Ideal) V H (k0_pay18 w) sc sh (ix2 ⟨256 + i.val, by omega⟩ k)
    = urow (fun k => H (ix2 i k)) (fun k => w (ix3 0 0 k)) (fun k => sc (ix3 0 0 k)) (fun k => sh (ix3 0 0 k)) k := by
  have := i.isLt
  pointwise [k0_pay19, k0_pay18, urow, rms]
end

end Cert.Kernel4Ideal.Even

end
-- ==== Proof.EvenBlock.lean ====
/- A block of 256 rows and the gated linear layer, from the values the body loads. -/
module

public import proofs.«01_k».proof.Proof.EvenRows
public import proofs.«01_k».proof.Proof.EvenPool

@[expose] public section

set_option maxRecDepth 16384
set_option Elab.async false

noncomputable section

namespace Cert.Kernel4Ideal.Even

open Cert.Kernel4Ideal Cert.Kernel4Ideal.Gen
open Idealize.ShloMosaic
open Idealize.ShloMosaic.TcCoe Idealize.ShloMosaic.Tactic
open Idealize.SL Idealize.SL.Sem
open Cert.Rows

section
variable (V : FVec Ideal S512x1024 .bf16) (g0 g1 g2 g3 g4 u0 u1 u2 u3 u4 : FVec Ideal S1x1024x512 .bf16) (g5 u5 : FVec Ideal S1x1024x256 .bf16)
  (c0 c1 c2 c3 c4 : FVec Ideal S1x512x1024 .bf16) (c5 : FVec Ideal S1x256x1024 .bf16)

/-- The sum of the first two chunks. -/
def acc01 : FVec Ideal S512x1024 .f32 := k0_pay26 (F := Ideal) V (k0_pay24 V g0) (k0_pay25 V u0) (k0_pay24 V g1) (k0_pay23 u1) c0 c1

theorem acc01_at (i : Fin 512) (l : Fin 1024) : acc01 V g0 g1 u0 u1 c0 c1 (ix2 i l)
    = ffnChunk (fun k => V (ix2 i k)) (fun k f => g0 (ix3 0 k f)) (fun k f => u0 (ix3 0 k f)) (fun f => c0 (ix3 0 f l))
      + ffnChunk (fun k => V (ix2 i k)) (fun k f => g1 (ix3 0 k f)) (fun k f => u1 (ix3 0 k f)) (fun f => c1 (ix3 0 f l)) := by
  pointwise [acc01, k0_pay26, k0_pay25, k0_pay24, k0_pay23, ffnChunk, hid, dot, silu]
  simp only [zero_sub]

/-- The third chunk added. -/
theorem acc2_at (A : FVec Ideal S512x1024 .f32) (i : Fin 512) (l : Fin 1024) : k0_pay27 (F := Ideal) (k0_pay24 V g2) (k0_pay25 V u2) A c2 (ix2 i l)
    = A (ix2 i l) + ffnChunk (fun k => V (ix2 i k)) (fun k f => g2 (ix3 0 k f)) (fun k f => u2 (ix3 0 k f)) (fun f => c2 (ix3 0 f l)) := by
  pointwise [k0_pay27, k0_pay25, k0_pay24, ffnChunk, hid, dot, silu]
  simp only [zero_sub]

/-- The fourth and fifth chunks added. -/
theorem acc34_at (A : FVec Ideal S512x1024 .f32) (i : Fin 512) (l : Fin 1024) : k0_pay31 (F := Ideal) A (k0_pay28 V g4) (k0_pay29 V u4) (k0_pay30 V g3 u3) c3 c4 (ix2 i l)
    = A (ix2 i l) + ffnChunk (fun k => V (ix2 i k)) (fun k f => g3 (ix3 0 k f)) (fun k f => u3 (ix3 0 k f)) (fun f => c3 (ix3 0 f l))
      + ffnChunk (fun k => V (ix2 i k)) (fun k f => g4 (ix3 0 k f)) (fun k f => u4 (ix3 0 k f)) (fun f => c4 (ix3 0 f l)) := by
  pointwise [k0_pay31, k0_pay30, k0_pay29, k0_pay28, ffnChunk, hid, dot, silu]
  simp only [zero_sub]

/-- The last chunk added. -/
theorem acc5_at (A : FVec Ideal S512x1024 .f32) (i : Fin 512) (l : Fin 1024) : k0_pay34 (F := Ideal) A (k0_pay32 V g5 u5) (k0_pay33 c5) (ix2 i l)
    = A (ix2 i l) + ffnChunk (fun k => V (ix2 i k)) (fun k f => g5 (ix3 0 k f)) (fun k f => u5 (ix3 0 k f)) (fun f => c5 (ix3 0 f l)) := by
  pointwise [k0_pay34, k0_pay33, k0_pay32, ffnChunk, hid, dot, silu]
  simp only [zero_sub]

/-- The gated linear layer's sum over the first five chunks. -/
def acc4 : FVec Ideal S512x1024 .f32 :=
  k0_pay31 (F := Ideal) (k0_pay27 (k0_pay24 V g2) (k0_pay25 V u2) (acc01 V g0 g1 u0 u1 c0 c1) c2) (k0_pay28 V g4) (k0_pay29 V u4) (k0_pay30 V g3 u3) c3 c4

/-- The whole sum, from chunks that lie in the whole weights. -/
theorem acc_at (v : Fin 1024 → EReal) (w1 w3 : Fin 1024 → Fin 2816 → EReal) (w2 : Fin 2816 → Fin 1024 → EReal) (i : Fin 512) (l : Fin 1024)
    (hv : ∀ k, V (ix2 i k) = v k)
    (hg0 : ∀ k f, g0 (ix3 0 k f) = w1 k ⟨0 + f.val, by omega⟩) (hg1 : ∀ k f, g1 (ix3 0 k f) = w1 k ⟨512 + f.val, by omega⟩)
    (hg2 : ∀ k f, g2 (ix3 0 k f) = w1 k ⟨1024 + f.val, by omega⟩) (hg3 : ∀ k f, g3 (ix3 0 k f) = w1 k ⟨1536 + f.val, by omega⟩)
    (hg4 : ∀ k f, g4 (ix3 0 k f) = w1 k ⟨2048 + f.val, by omega⟩) (hg5 : ∀ k f, g5 (ix3 0 k f) = w1 k ⟨2560 + f.val, by omega⟩)
    (hu0 : ∀ k f, u0 (ix3 0 k f) = w3 k ⟨0 + f.val, by omega⟩) (hu1 : ∀ k f, u1 (ix3 0 k f) = w3 k ⟨512 + f.val, by omega⟩)
    (hu2 : ∀ k f, u2 (ix3 0 k f) = w3 k ⟨1024 + f.val, by omega⟩) (hu3 : ∀ k f, u3 (ix3 0 k f) = w3 k ⟨1536 + f.val, by omega⟩)
    (hu4 : ∀ k f, u4 (ix3 0 k f) = w3 k ⟨2048 + f.val, by omega⟩) (hu5 : ∀ k f, u5 (ix3 0 k f) = w3 k ⟨2560 + f.val, by omega⟩)
    (hc0 : ∀ f, c0 (ix3 0 f l) = w2 ⟨0 + f.val, by omega⟩ l) (hc1 : ∀ f, c1 (ix3 0 f l) = w2 ⟨512 + f.val, by omega⟩ l)
    (hc2 : ∀ f, c2 (ix3 0 f l) = w2 ⟨1024 + f.val, by omega⟩ l) (hc3 : ∀ f, c3 (ix3 0 f l) = w2 ⟨1536 + f.val, by omega⟩ l)
    (hc4 : ∀ f, c4 (ix3 0 f l) = w2 ⟨2048 + f.val, by omega⟩ l) (hc5 : ∀ f, c5 (ix3 0 f l) = w2 ⟨2560 + f.val, by omega⟩ l) :
    k0_pay34 (F := Ideal) (acc4 V g0 g1 g2 g3 g4 u0 u1 u2 u3 u4 c0 c1 c2 c3 c4) (k0_pay32 V g5 u5) (k0_pay33 c5) (ix2 i l) = ffn v w1 w3 (fun f => w2 f l) := by
  rw [acc5_at]
  unfold acc4
  rw [acc34_at, acc2_at, acc01_at]
  simp only [hv, hg0, hg1, hg2, hg3, hg4, hg5, hu0, hu1, hu2, hu3, hu4, hu5, hc0, hc1, hc2, hc3, hc4, hc5]
  exact sum_chunks (fun f => hid v (fun k => w1 k f) (fun k => w3 k f) * w2 f l)
end

section
variable (D : EvenArgs) (b : Fin 130) (X : FVec Ideal S256x1024 .f32) (w sc sh ps gt w' sc' sh' g5 : FVec Ideal S1x1x1024 .f32) (a : Fin 4 → FVec Ideal S1x1x256x768 .bf16)
  (p : Fin 4 → FVec Ideal S1x1x256x256 .bf16)

/-- What the loads of a block of 256 rows hold. -/
structure Loaded : Prop where
  X : ∀ i k, X (ix2 i k) = D.h (rowOf b i) k
  w : ∀ k, w (ix3 0 0 k) = D.nw1 k
  sc : ∀ k, sc (ix3 0 0 k) = D.modc 1024 (by decide) b k
  sh : ∀ k, sh (ix3 0 0 k) = D.modc 0 (by decide) b k
  ps : ∀ k, ps (ix3 0 0 k) = D.ps k
  gt : ∀ k, gt (ix3 0 0 k) = D.modc 2048 (by decide) b k
  a : ∀ g i s, a g (ix4 0 0 i s) = D.avg (kindOf b) g i s
  p : ∀ g c o, p g (ix4 0 0 c o) = D.pw g c o

variable {D b X w sc sh ps gt a p}

theorem Loaded.u_first (L : Loaded D b X w sc sh ps gt a p) (i : Fin 256) (k : Fin 1024) : k0_pay3 (F := Ideal) (k0_pay2 X w) sc sh (ix2 i k) = D.u b i k := by
  rw [Even.u_first]
  simp only [L.X, L.w, L.sc, L.sh]
  rfl

theorem Loaded.u_last (L : Loaded D b X w sc sh ps gt a p) (i : Fin 256) (k : Fin 1024) : k0_pay11 (F := Ideal) (k0_pay10 X w sc) sh (ix2 i k) = D.u b i k := by
  rw [Even.u_last]
  simp only [L.X, L.w, L.sc, L.sh]
  rfl

theorem Loaded.h1_first (L : Loaded D b X w sc sh ps gt a p) (hD : D.Finite) (i : Fin 256) (k : Fin 1024) :
    k0_pay8 (F := Ideal) X (firstMix X w sc sh a p) (k0_pay7 ps) gt (ix2 i k) = D.h1 b i k := by
  rw [Even.h1_first X w sc sh ps gt a p i k fun s k => by rw [L.u_first]; exact D.u_fin hD b s k]
  simp only [L.X, L.w, L.sc, L.sh, L.ps, L.gt, L.a, L.p]
  rfl

theorem Loaded.h1_last (L : Loaded D b X w sc sh ps gt a p) (hD : D.Finite) (i : Fin 256) (k : Fin 1024) : lastMix X w sc sh ps gt a p (ix2 i k) = D.h1 b i k := by
  rw [Even.h1_last X w sc sh ps gt a p i k fun s k => by rw [L.u_last]; exact D.u_fin hD b s k]
  simp only [L.X, L.w, L.sc, L.sh, L.ps, L.gt, L.a, L.p]
  rfl

theorem Loaded.v_first (L : Loaded D b X w sc sh ps gt a p) (hD : D.Finite) (hw : ∀ k, w' (ix3 0 0 k) = D.nw2 k) (hs : ∀ k, sc' (ix3 0 0 k) = D.modc 4096 (by decide) b k)
    (hh : ∀ k, sh' (ix3 0 0 k) = D.modc 3072 (by decide) b k) (i : Fin 256) (k : Fin 1024) :
    k0_pay9 (F := Ideal) X (firstMix X w sc sh a p) (k0_pay7 ps) gt w' sc' sh' (ix2 i k) = D.v b i k := by
  rw [Even.v_first]
  simp only [L.h1_first hD, hw, hs, hh]
  rfl

theorem Loaded.v_last (L : Loaded D b X w sc sh ps gt a p) (hD : D.Finite) (hw : ∀ k, w' (ix3 0 0 k) = D.nw2 k) (hs : ∀ k, sc' (ix3 0 0 k) = D.modc 4096 (by decide) b k)
    (hh : ∀ k, sh' (ix3 0 0 k) = D.modc 3072 (by decide) b k) (V : FVec Ideal S256x1024 .bf16) (i : Fin 256) (k : Fin 1024) :
    k0_pay19 (F := Ideal) V (lastMix X w sc sh ps gt a p) (k0_pay18 w') sc' sh' (ix2 ⟨256 + i.val, by omega⟩ k) = D.v b i k := by
  rw [Even.v_lower]
  simp only [L.h1_last hD, hw, hs, hh]
  rfl

/-- The first store at one place. -/
theorem out_first_at (H : FVec Ideal S256x1024 .f32) (A : FVec Ideal S512x1024 .f32) (hd : FVec Ideal S512x256 .bf16) (w2 : FVec Ideal S256x1024 .bf16) (i : Fin 256) (l : Fin 1024) :
    k0_pay35 (F := Ideal) H A hd w2 g5 (ix2 i l) = H (ix2 i l) + g5 (ix3 0 0 l) * k0_pay34 (F := Ideal) A hd w2 (ix2 ⟨0 + i.val, by omega⟩ l) := by
  pointwise [k0_pay35]

/-- The second store at one place. -/
theorem out_last_at (H : FVec Ideal S256x1024 .f32) (A : FVec Ideal S512x1024 .f32) (i : Fin 256) (l : Fin 1024) :
    k0_pay1 (F := Ideal) H A g5 (ix2 i l) = H (ix2 i l) + g5 (ix3 0 0 l) * A (ix2 ⟨256 + i.val, by omega⟩ l) := by
  pointwise [k0_pay1]
end

end Cert.Kernel4Ideal.Even

end
-- ==== Proof.EvenLoads.lean ====
/- The pooling layer's body: what its loads hold, and what it leaves in a block of 512 rows. -/
module

public import proofs.«01_k».proof.Proof.EvenRows
public import proofs.«01_k».proof.Proof.EvenBlock

@[expose] public section

set_option maxRecDepth 16384
set_option Elab.async false

noncomputable section

namespace Cert.Kernel4Ideal.Even

open Cert.Kernel4Ideal Cert.Kernel4Ideal.Gen
open Idealize.ShloMosaic
open Idealize.ShloMosaic.TcCoe Idealize.ShloMosaic.Tactic
open Idealize.SL Idealize.SL.Sem
open Cert.Rows

/-- The number of the half block `s` of the block at point `t`. -/
def blockNo (t : Fin grid0.N) (s : Fin 2) : Fin 130 := ⟨t.val * 2 + s.val, by have : t.val < 65 := t.isLt; have := s.isLt; omega⟩

theorem off1_at : ∀ t : Fin grid0.N, ∀ s : Fin 2, k0_off1 (grid0.coords t) (BitVec.ofNat 32 s.val) = ![0, modRow (t.val * 512 + s.val * 256), 1024] := by decide +kernel
theorem off2_at : ∀ t : Fin grid0.N, ∀ s : Fin 2, k0_off2 (grid0.coords t) (BitVec.ofNat 32 s.val) = ![0, modRow (t.val * 512 + s.val * 256), 0] := by decide +kernel
theorem off7_at : ∀ t : Fin grid0.N, ∀ s : Fin 2, k0_off7 (grid0.coords t) (BitVec.ofNat 32 s.val) = ![0, modRow (t.val * 512 + s.val * 256), 2048] := by decide +kernel
theorem off8_at : ∀ t : Fin grid0.N, ∀ s : Fin 2, k0_off8 (grid0.coords t) (BitVec.ofNat 32 s.val) = ![0, modRow (t.val * 512 + s.val * 256), 4096] := by decide +kernel
theorem off9_at : ∀ t : Fin grid0.N, ∀ s : Fin 2, k0_off9 (grid0.coords t) (BitVec.ofNat 32 s.val) = ![0, modRow (t.val * 512 + s.val * 256), 3072] := by decide +kernel
theorem off10_at : ∀ t : Fin grid0.N, ∀ s : Fin 2, k0_off10 (grid0.coords t) (BitVec.ofNat 32 s.val) = ![0, modRow (t.val * 512 + s.val * 256), 5120] := by decide +kernel
theorem off3_at : ∀ t : Fin grid0.N, ∀ s : Fin 2, k0_off3 (grid0.coords t) (BitVec.ofNat 32 s.val) = ![(kindOf (blockNo t s)).val, 0, 0, 0] := by decide +kernel
theorem off4_at : ∀ t : Fin grid0.N, ∀ s : Fin 2, k0_off4 (grid0.coords t) (BitVec.ofNat 32 s.val) = ![(kindOf (blockNo t s)).val, 1, 0, 0] := by decide +kernel
theorem off5_at : ∀ t : Fin grid0.N, ∀ s : Fin 2, k0_off5 (grid0.coords t) (BitVec.ofNat 32 s.val) = ![(kindOf (blockNo t s)).val, 2, 0, 0] := by decide +kernel
theorem off6_at : ∀ t : Fin grid0.N, ∀ s : Fin 2, k0_off6 (grid0.coords t) (BitVec.ofNat 32 s.val) = ![(kindOf (blockNo t s)).val, 3, 0, 0] := by decide +kernel

variable (c : Dev nD) (arg1 : Memref sig .tc .vmem S512x1024 .f32) (harg1 : arg1.IsWhole) (arg2 : Memref sig .tc .vmem S1x8x6144 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2x4x256x768 .bf16) (harg5 : arg5.IsWhole) (arg6 : Memref sig .tc .vmem S1x4x256x256 .bf16) (harg6 : arg6.IsWhole) (arg7 : Memref sig .tc .vmem S1x1x1024 .f32) (harg7 : arg7.IsWhole) (arg8 : Memref sig .tc .vmem S1x1024x2816 .bf16) (harg8 : arg8.IsWhole) (arg9 : Memref sig .tc .vmem S1x1024x2816 .bf16) (harg9 : arg9.IsWhole) (arg10 : Memref sig .tc .vmem S1x2816x1024 .bf16) (harg10 : arg10.IsWhole) (arg11 : Memref sig .tc .vmem S512x1024 .f32) (harg11 : arg11.IsWhole)
    (x0 : Vec Ideal S512x1024 .f32) (x1 : Vec Ideal S1x8x6144 .f32) (x2 : Vec Ideal S1x1x1024 .f32) (x3 : Vec Ideal S1x1x1024 .f32) (x4 : Vec Ideal S2x4x256x768 .bf16) (x5 : Vec Ideal S1x4x256x256 .bf16) (x6 : Vec Ideal S1x1x1024 .f32) (x7 : Vec Ideal S1x1024x2816 .bf16) (x8 : Vec Ideal S1x1024x2816 .bf16) (x9 : Vec Ideal S1x2816x1024 .bf16)

/-- What the ten input blocks at point `t` hold. -/
structure Held (D : EvenArgs) (t : Fin grid0.N) : Prop where
  h : ∀ (s : Fin 2) (i : Fin 256) k, x0 (ix2 ⟨s.val * 256 + i.val, by omega⟩ k) = D.h (rowOf (blockNo t s) i) k
  tbl : ∀ q j, x1 (ix3 0 q j) = D.tbl q j
  nw1 : ∀ k, x2 (ix3 0 0 k) = D.nw1 k
  nw2 : ∀ k, x3 (ix3 0 0 k) = D.nw2 k
  avg : ∀ a g i s, x4 (ix4 a g i s) = D.avg a g i s
  pw : ∀ g c o, x5 (ix4 0 g c o) = D.pw g c o
  ps : ∀ k, x6 (ix3 0 0 k) = D.ps k
  w1 : ∀ k f, x7 (ix3 0 k f) = D.w1 k f
  w3 : ∀ k f, x8 (ix3 0 k f) = D.w3 k f
  w2 : ∀ f k, x9 (ix3 0 f k) = D.w2 f k

variable {x0 x1 x2 x3 x4 x5 x6 x7 x8 x9} {D : EvenArgs} {t : Fin grid0.N} (H : Held x0 x1 x2 x3 x4 x5 x6 x7 x8 x9 D t)
include H

theorem ld_sc (s : Fin 2) (k : Fin 1024) : (View.readAt (Elt Ideal) arg2.view (Rect.unit (s := S1x8x6144) (k0_off1 (grid0.coords t) (BitVec.ofNat 32 s.val)) S1x1x1024.size (k0_off1_inb (grid0.coords t) s)).toLoadRect (harg2.unread x1)) (ix3 0 0 k)
    = D.modc 1024 (by decide) (blockNo t s) k := by
  refine (load_at harg2 x1 _ _ _ _ (ix3 0 (modAt (rowOf (blockNo t s) 0)) ⟨1024 + k.val, by omega⟩) fun a =>
    Eq.trans ?_ (congrArg (fun q => q + 1 * ((ix3 0 0 k : S1x1x1024.Idx) a).val) (congrFun (off1_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 1024 + k.val = 1024 + 1 * k.val; omega

theorem ld_sh (s : Fin 2) (k : Fin 1024) : (View.readAt (Elt Ideal) arg2.view (Rect.unit (s := S1x8x6144) (k0_off2 (grid0.coords t) (BitVec.ofNat 32 s.val)) S1x1x1024.size (k0_off2_inb (grid0.coords t) s)).toLoadRect (harg2.unread x1)) (ix3 0 0 k)
    = D.modc 0 (by decide) (blockNo t s) k := by
  refine (load_at harg2 x1 _ _ _ _ (ix3 0 (modAt (rowOf (blockNo t s) 0)) ⟨0 + k.val, by omega⟩) fun a =>
    Eq.trans ?_ (congrArg (fun q => q + 1 * ((ix3 0 0 k : S1x1x1024.Idx) a).val) (congrFun (off2_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 0 + k.val = 0 + 1 * k.val; omega

theorem ld_gt (s : Fin 2) (k : Fin 1024) : (View.readAt (Elt Ideal) arg2.view (Rect.unit (s := S1x8x6144) (k0_off7 (grid0.coords t) (BitVec.ofNat 32 s.val)) S1x1x1024.size (k0_off7_inb (grid0.coords t) s)).toLoadRect (harg2.unread x1)) (ix3 0 0 k)
    = D.modc 2048 (by decide) (blockNo t s) k := by
  refine (load_at harg2 x1 _ _ _ _ (ix3 0 (modAt (rowOf (blockNo t s) 0)) ⟨2048 + k.val, by omega⟩) fun a =>
    Eq.trans ?_ (congrArg (fun q => q + 1 * ((ix3 0 0 k : S1x1x1024.Idx) a).val) (congrFun (off7_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 2048 + k.val = 2048 + 1 * k.val; omega

theorem ld_sc2 (s : Fin 2) (k : Fin 1024) : (View.readAt (Elt Ideal) arg2.view (Rect.unit (s := S1x8x6144) (k0_off8 (grid0.coords t) (BitVec.ofNat 32 s.val)) S1x1x1024.size (k0_off8_inb (grid0.coords t) s)).toLoadRect (harg2.unread x1)) (ix3 0 0 k)
    = D.modc 4096 (by decide) (blockNo t s) k := by
  refine (load_at harg2 x1 _ _ _ _ (ix3 0 (modAt (rowOf (blockNo t s) 0)) ⟨4096 + k.val, by omega⟩) fun a =>
    Eq.trans ?_ (congrArg (fun q => q + 1 * ((ix3 0 0 k : S1x1x1024.Idx) a).val) (congrFun (off8_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 4096 + k.val = 4096 + 1 * k.val; omega

theorem ld_sh2 (s : Fin 2) (k : Fin 1024) : (View.readAt (Elt Ideal) arg2.view (Rect.unit (s := S1x8x6144) (k0_off9 (grid0.coords t) (BitVec.ofNat 32 s.val)) S1x1x1024.size (k0_off9_inb (grid0.coords t) s)).toLoadRect (harg2.unread x1)) (ix3 0 0 k)
    = D.modc 3072 (by decide) (blockNo t s) k := by
  refine (load_at harg2 x1 _ _ _ _ (ix3 0 (modAt (rowOf (blockNo t s) 0)) ⟨3072 + k.val, by omega⟩) fun a =>
    Eq.trans ?_ (congrArg (fun q => q + 1 * ((ix3 0 0 k : S1x1x1024.Idx) a).val) (congrFun (off9_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 3072 + k.val = 3072 + 1 * k.val; omega

theorem ld_g5 (s : Fin 2) (k : Fin 1024) : (View.readAt (Elt Ideal) arg2.view (Rect.unit (s := S1x8x6144) (k0_off10 (grid0.coords t) (BitVec.ofNat 32 s.val)) S1x1x1024.size (k0_off10_inb (grid0.coords t) s)).toLoadRect (harg2.unread x1)) (ix3 0 0 k)
    = D.modc 5120 (by decide) (blockNo t s) k := by
  refine (load_at harg2 x1 _ _ _ _ (ix3 0 (modAt (rowOf (blockNo t s) 0)) ⟨5120 + k.val, by omega⟩) fun a =>
    Eq.trans ?_ (congrArg (fun q => q + 1 * ((ix3 0 0 k : S1x1x1024.Idx) a).val) (congrFun (off10_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 5120 + k.val = 5120 + 1 * k.val; omega

theorem ld_a0 (s : Fin 2) (i : Fin 256) (j : Fin 768) : (View.readAt (Elt Ideal) arg5.view (Rect.unit (s := S2x4x256x768) (k0_off3 (grid0.coords t) (BitVec.ofNat 32 s.val)) S1x1x256x768.size (k0_off3_inb (grid0.coords t) s)).toLoadRect (harg5.unread x4)) (ix4 0 0 i j)
    = D.avg (kindOf (blockNo t s)) 0 i j := by
  refine (load_at harg5 x4 _ _ _ _ (ix4 (kindOf (blockNo t s)) 0 i j) fun a =>
    Eq.trans ?_ (congrArg (fun q => q + 1 * ((ix4 0 0 i j : S1x1x256x768.Idx) a).val) (congrFun (off3_at t s) a).symm)).trans (H.avg _ _ _ _)
  match a with
  | ⟨0, _⟩ => rfl
  | ⟨1, _⟩ => rfl
  | ⟨2, _⟩ => show i.val = 0 + 1 * i.val; omega
  | ⟨3, _⟩ => show j.val = 0 + 1 * j.val; omega

theorem ld_a1 (s : Fin 2) (i : Fin 256) (j : Fin 768) : (View.readAt (Elt Ideal) arg5.view (Rect.unit (s := S2x4x256x768) (k0_off4 (grid0.coords t) (BitVec.ofNat 32 s.val)) S1x1x256x768.size (k0_off4_inb (grid0.coords t) s)).toLoadRect (harg5.unread x4)) (ix4 0 0 i j)
    = D.avg (kindOf (blockNo t s)) 1 i j := by
  refine (load_at harg5 x4 _ _ _ _ (ix4 (kindOf (blockNo t s)) 1 i j) fun a =>
    Eq.trans ?_ (congrArg (fun q => q + 1 * ((ix4 0 0 i j : S1x1x256x768.Idx) a).val) (congrFun (off4_at t s) a).symm)).trans (H.avg _ _ _ _)
  match a with
  | ⟨0, _⟩ => rfl
  | ⟨1, _⟩ => rfl
  | ⟨2, _⟩ => show i.val = 0 + 1 * i.val; omega
  | ⟨3, _⟩ => show j.val = 0 + 1 * j.val; omega

theorem ld_a2 (s : Fin 2) (i : Fin 256) (j : Fin 768) : (View.readAt (Elt Ideal) arg5.view (Rect.unit (s := S2x4x256x768) (k0_off5 (grid0.coords t) (BitVec.ofNat 32 s.val)) S1x1x256x768.size (k0_off5_inb (grid0.coords t) s)).toLoadRect (harg5.unread x4)) (ix4 0 0 i j)
    = D.avg (kindOf (blockNo t s)) 2 i j := by
  refine (load_at harg5 x4 _ _ _ _ (ix4 (kindOf (blockNo t s)) 2 i j) fun a =>
    Eq.trans ?_ (congrArg (fun q => q + 1 * ((ix4 0 0 i j : S1x1x256x768.Idx) a).val) (congrFun (off5_at t s) a).symm)).trans (H.avg _ _ _ _)
  match a with
  | ⟨0, _⟩ => rfl
  | ⟨1, _⟩ => rfl
  | ⟨2, _⟩ => show i.val = 0 + 1 * i.val; omega
  | ⟨3, _⟩ => show j.val = 0 + 1 * j.val; omega

theorem ld_a3 (s : Fin 2) (i : Fin 256) (j : Fin 768) : (View.readAt (Elt Ideal) arg5.view (Rect.unit (s := S2x4x256x768) (k0_off6 (grid0.coords t) (BitVec.ofNat 32 s.val)) S1x1x256x768.size (k0_off6_inb (grid0.coords t) s)).toLoadRect (harg5.unread x4)) (ix4 0 0 i j)
    = D.avg (kindOf (blockNo t s)) 3 i j := by
  refine (load_at harg5 x4 _ _ _ _ (ix4 (kindOf (blockNo t s)) 3 i j) fun a =>
    Eq.trans ?_ (congrArg (fun q => q + 1 * ((ix4 0 0 i j : S1x1x256x768.Idx) a).val) (congrFun (off6_at t s) a).symm)).trans (H.avg _ _ _ _)
  match a with
  | ⟨0, _⟩ => rfl
  | ⟨1, _⟩ => rfl
  | ⟨2, _⟩ => show i.val = 0 + 1 * i.val; omega
  | ⟨3, _⟩ => show j.val = 0 + 1 * j.val; omega

theorem ld_p0 (q k : Fin 256) : (View.readAt (Elt Ideal) arg6.view (Rect.unit (s := S1x4x256x256) ![0, 0, 0, 0] S1x1x256x256.size (inb_S1x4x256x256_S1x1x256x256_0_0_0_0)).toLoadRect (harg6.unread x5)) (ix4 0 0 q k) = D.pw 0 q k := by
  refine (load_at harg6 x5 _ _ _ _ (ix4 0 0 q k) fun a => ?_).trans (H.pw _ _ _)
  match a with
  | ⟨0, _⟩ => rfl
  | ⟨1, _⟩ => rfl
  | ⟨2, _⟩ => show q.val = 0 + 1 * q.val; omega
  | ⟨3, _⟩ => show k.val = 0 + 1 * k.val; omega

theorem ld_p1 (q k : Fin 256) : (View.readAt (Elt Ideal) arg6.view (Rect.unit (s := S1x4x256x256) ![0, 1, 0, 0] S1x1x256x256.size (inb_S1x4x256x256_S1x1x256x256_0_1_0_0)).toLoadRect (harg6.unread x5)) (ix4 0 0 q k) = D.pw 1 q k := by
  refine (load_at harg6 x5 _ _ _ _ (ix4 0 1 q k) fun a => ?_).trans (H.pw _ _ _)
  match a with
  | ⟨0, _⟩ => rfl
  | ⟨1, _⟩ => rfl
  | ⟨2, _⟩ => show q.val = 0 + 1 * q.val; omega
  | ⟨3, _⟩ => show k.val = 0 + 1 * k.val; omega

theorem ld_p2 (q k : Fin 256) : (View.readAt (Elt Ideal) arg6.view (Rect.unit (s := S1x4x256x256) ![0, 2, 0, 0] S1x1x256x256.size (inb_S1x4x256x256_S1x1x256x256_0_2_0_0)).toLoadRect (harg6.unread x5)) (ix4 0 0 q k) = D.pw 2 q k := by
  refine (load_at harg6 x5 _ _ _ _ (ix4 0 2 q k) fun a => ?_).trans (H.pw _ _ _)
  match a with
  | ⟨0, _⟩ => rfl
  | ⟨1, _⟩ => rfl
  | ⟨2, _⟩ => show q.val = 0 + 1 * q.val; omega
  | ⟨3, _⟩ => show k.val = 0 + 1 * k.val; omega

theorem ld_p3 (q k : Fin 256) : (View.readAt (Elt Ideal) arg6.view (Rect.unit (s := S1x4x256x256) ![0, 3, 0, 0] S1x1x256x256.size (inb_S1x4x256x256_S1x1x256x256_0_3_0_0)).toLoadRect (harg6.unread x5)) (ix4 0 0 q k) = D.pw 3 q k := by
  refine (load_at harg6 x5 _ _ _ _ (ix4 0 3 q k) fun a => ?_).trans (H.pw _ _ _)
  match a with
  | ⟨0, _⟩ => rfl
  | ⟨1, _⟩ => rfl
  | ⟨2, _⟩ => show q.val = 0 + 1 * q.val; omega
  | ⟨3, _⟩ => show k.val = 0 + 1 * k.val; omega

theorem ld_nw1 (k : Fin 1024) : (View.readAt (Elt Ideal) arg3.view (Rect.unit (s := S1x1x1024) ![0, 0, 0] S1x1x1024.size (inb_S1x1x1024_S1x1x1024_0_0_0)).toLoadRect (harg3.unread x2)) (ix3 0 0 k) = D.nw1 k := by
  refine (load_at harg3 x2 _ _ _ _ (ix3 0 0 k) fun a => ?_).trans (H.nw1 _)
  match a with
  | ⟨0, _⟩ => rfl
  | ⟨1, _⟩ => rfl
  | ⟨2, _⟩ => show k.val = 0 + 1 * k.val; omega

theorem ld_nw2 (k : Fin 1024) : (View.readAt (Elt Ideal) arg4.view (Rect.unit (s := S1x1x1024) ![0, 0, 0] S1x1x1024.size (inb_S1x1x1024_S1x1x1024_0_0_0)).toLoadRect (harg4.unread x3)) (ix3 0 0 k) = D.nw2 k := by
  refine (load_at harg4 x3 _ _ _ _ (ix3 0 0 k) fun a => ?_).trans (H.nw2 _)
  match a with
  | ⟨0, _⟩ => rfl
  | ⟨1, _⟩ => rfl
  | ⟨2, _⟩ => show k.val = 0 + 1 * k.val; omega

theorem ld_ps (k : Fin 1024) : (View.readAt (Elt Ideal) arg7.view (Rect.unit (s := S1x1x1024) ![0, 0, 0] S1x1x1024.size (inb_S1x1x1024_S1x1x1024_0_0_0)).toLoadRect (harg7.unread x6)) (ix3 0 0 k) = D.ps k := by
  refine (load_at harg7 x6 _ _ _ _ (ix3 0 0 k) fun a => ?_).trans (H.ps _)
  match a with
  | ⟨0, _⟩ => rfl
  | ⟨1, _⟩ => rfl
  | ⟨2, _⟩ => show k.val = 0 + 1 * k.val; omega

theorem ld_w1_0 (k : Fin 1024) (f : Fin 512) : (View.readAt (Elt Ideal) arg8.view (Rect.unit (s := S1x1024x2816) ![0, 0, 0] S1x1024x512.size (inb_S1x1024x2816_S1x1024x512_0_0_0)).toLoadRect (harg8.unread x7)) (ix3 0 k f) = D.w1 k ⟨0 + f.val, by omega⟩ := by
  refine (load_at harg8 x7 _ _ _ _ (ix3 0 k ⟨0 + f.val, by omega⟩) fun a => ?_).trans (H.w1 _ _)
  match a with
  | ⟨0, _⟩ => rfl
  | ⟨1, _⟩ => show k.val = 0 + 1 * k.val; omega
  | ⟨2, _⟩ => show 0 + f.val = 0 + 1 * f.val; omega

theorem ld_w1_512 (k : Fin 1024) (f : Fin 512) : (View.readAt (Elt Ideal) arg8.view (Rect.unit (s := S1x1024x2816) ![0, 0, 512] S1x1024x512.size (inb_S1x1024x2816_S1x1024x512_0_0_512)).toLoadRect (harg8.unread x7)) (ix3 0 k f) = D.w1 k ⟨512 + f.val, by omega⟩ := by
  refine (load_at harg8 x7 _ _ _ _ (ix3 0 k ⟨512 + f.val, by omega⟩) fun a => ?_).trans (H.w1 _ _)
  match a with
  | ⟨0, _⟩ => rfl
  | ⟨1, _⟩ => show k.val = 0 + 1 * k.val; omega
  | ⟨2, _⟩ => show 512 + f.val = 512 + 1 * f.val; omega

theorem ld_w1_1024 (k : Fin 1024) (f : Fin 512) : (View.readAt (Elt Ideal) arg8.view (Rect.unit (s := S1x1024x2816) ![0, 0, 1024] S1x1024x512.size (inb_S1x1024x2816_S1x1024x512_0_0_1024)).toLoadRect (harg8.unread x7)) (ix3 0 k f) = D.w1 k ⟨1024 + f.val, by omega⟩ := by
  refine (load_at harg8 x7 _ _ _ _ (ix3 0 k ⟨1024 + f.val, by omega⟩) fun a => ?_).trans (H.w1 _ _)
  match a with
  | ⟨0, _⟩ => rfl
  | ⟨1, _⟩ => show k.val = 0 + 1 * k.val; omega
  | ⟨2, _⟩ => show 1024 + f.val = 1024 + 1 * f.val; omega

theorem ld_w1_1536 (k : Fin 1024) (f : Fin 512) : (View.readAt (Elt Ideal) arg8.view (Rect.unit (s := S1x1024x2816) ![0, 0, 1536] S1x1024x512.size (inb_S1x1024x2816_S1x1024x512_0_0_1536)).toLoadRect (harg8.unread x7)) (ix3 0 k f) = D.w1 k ⟨1536 + f.val, by omega⟩ := by
  refine (load_at harg8 x7 _ _ _ _ (ix3 0 k ⟨1536 + f.val, by omega⟩) fun a => ?_).trans (H.w1 _ _)
  match a with
  | ⟨0, _⟩ => rfl
  | ⟨1, _⟩ => show k.val = 0 + 1 * k.val; omega
  | ⟨2, _⟩ => show 1536 + f.val = 1536 + 1 * f.val; omega

theorem ld_w1_2048 (k : Fin 1024) (f : Fin 512) : (View.readAt (Elt Ideal) arg8.view (Rect.unit (s := S1x1024x2816) ![0, 0, 2048] S1x1024x512.size (inb_S1x1024x2816_S1x1024x512_0_0_2048)).toLoadRect (harg8.unread x7)) (ix3 0 k f) = D.w1 k ⟨2048 + f.val, by omega⟩ := by
  refine (load_at harg8 x7 _ _ _ _ (ix3 0 k ⟨2048 + f.val, by omega⟩) fun a => ?_).trans (H.w1 _ _)
  match a with
  | ⟨0, _⟩ => rfl
  | ⟨1, _⟩ => show k.val = 0 + 1 * k.val; omega
  | ⟨2, _⟩ => show 2048 + f.val = 2048 + 1 * f.val; omega

theorem ld_w1_2560 (k : Fin 1024) (f : Fin 256) : (View.readAt (Elt Ideal) arg8.view (Rect.unit (s := S1x1024x2816) ![0, 0, 2560] S1x1024x256.size (inb_S1x1024x2816_S1x1024x256_0_0_2560)).toLoadRect (harg8.unread x7)) (ix3 0 k f) = D.w1 k ⟨2560 + f.val, by omega⟩ := by
  refine (load_at harg8 x7 _ _ _ _ (ix3 0 k ⟨2560 + f.val, by omega⟩) fun a => ?_).trans (H.w1 _ _)
  match a with
  | ⟨0, _⟩ => rfl
  | ⟨1, _⟩ => show k.val = 0 + 1 * k.val; omega
  | ⟨2, _⟩ => show 2560 + f.val = 2560 + 1 * f.val; omega

theorem ld_w3_0 (k : Fin 1024) (f : Fin 512) : (View.readAt (Elt Ideal) arg9.view (Rect.unit (s := S1x1024x2816) ![0, 0, 0] S1x1024x512.size (inb_S1x1024x2816_S1x1024x512_0_0_0)).toLoadRect (harg9.unread x8)) (ix3 0 k f) = D.w3 k ⟨0 + f.val, by omega⟩ := by
  refine (load_at harg9 x8 _ _ _ _ (ix3 0 k ⟨0 + f.val, by omega⟩) fun a => ?_).trans (H.w3 _ _)
  match a with
  | ⟨0, _⟩ => rfl
  | ⟨1, _⟩ => show k.val = 0 + 1 * k.val; omega
  | ⟨2, _⟩ => show 0 + f.val = 0 + 1 * f.val; omega

theorem ld_w3_512 (k : Fin 1024) (f : Fin 512) : (View.readAt (Elt Ideal) arg9.view (Rect.unit (s := S1x1024x2816) ![0, 0, 512] S1x1024x512.size (inb_S1x1024x2816_S1x1024x512_0_0_512)).toLoadRect (harg9.unread x8)) (ix3 0 k f) = D.w3 k ⟨512 + f.val, by omega⟩ := by
  refine (load_at harg9 x8 _ _ _ _ (ix3 0 k ⟨512 + f.val, by omega⟩) fun a => ?_).trans (H.w3 _ _)
  match a with
  | ⟨0, _⟩ => rfl
  | ⟨1, _⟩ => show k.val = 0 + 1 * k.val; omega
  | ⟨2, _⟩ => show 512 + f.val = 512 + 1 * f.val; omega

theorem ld_w3_1024 (k : Fin 1024) (f : Fin 512) : (View.readAt (Elt Ideal) arg9.view (Rect.unit (s := S1x1024x2816) ![0, 0, 1024] S1x1024x512.size (inb_S1x1024x2816_S1x1024x512_0_0_1024)).toLoadRect (harg9.unread x8)) (ix3 0 k f) = D.w3 k ⟨1024 + f.val, by omega⟩ := by
  refine (load_at harg9 x8 _ _ _ _ (ix3 0 k ⟨1024 + f.val, by omega⟩) fun a => ?_).trans (H.w3 _ _)
  match a with
  | ⟨0, _⟩ => rfl
  | ⟨1, _⟩ => show k.val = 0 + 1 * k.val; omega
  | ⟨2, _⟩ => show 1024 + f.val = 1024 + 1 * f.val; omega

theorem ld_w3_1536 (k : Fin 1024) (f : Fin 512) : (View.readAt (Elt Ideal) arg9.view (Rect.unit (s := S1x1024x2816) ![0, 0, 1536] S1x1024x512.size (inb_S1x1024x2816_S1x1024x512_0_0_1536)).toLoadRect (harg9.unread x8)) (ix3 0 k f) = D.w3 k ⟨1536 + f.val, by omega⟩ := by
  refine (load_at harg9 x8 _ _ _ _ (ix3 0 k ⟨1536 + f.val, by omega⟩) fun a => ?_).trans (H.w3 _ _)
  match a with
  | ⟨0, _⟩ => rfl
  | ⟨1, _⟩ => show k.val = 0 + 1 * k.val; omega
  | ⟨2, _⟩ => show 1536 + f.val = 1536 + 1 * f.val; omega

theorem ld_w3_2048 (k : Fin 1024) (f : Fin 512) : (View.readAt (Elt Ideal) arg9.view (Rect.unit (s := S1x1024x2816) ![0, 0, 2048] S1x1024x512.size (inb_S1x1024x2816_S1x1024x512_0_0_2048)).toLoadRect (harg9.unread x8)) (ix3 0 k f) = D.w3 k ⟨2048 + f.val, by omega⟩ := by
  refine (load_at harg9 x8 _ _ _ _ (ix3 0 k ⟨2048 + f.val, by omega⟩) fun a => ?_).trans (H.w3 _ _)
  match a with
  | ⟨0, _⟩ => rfl
  | ⟨1, _⟩ => show k.val = 0 + 1 * k.val; omega
  | ⟨2, _⟩ => show 2048 + f.val = 2048 + 1 * f.val; omega

theorem ld_w3_2560 (k : Fin 1024) (f : Fin 256) : (View.readAt (Elt Ideal) arg9.view (Rect.unit (s := S1x1024x2816) ![0, 0, 2560] S1x1024x256.size (inb_S1x1024x2816_S1x1024x256_0_0_2560)).toLoadRect (harg9.unread x8)) (ix3 0 k f) = D.w3 k ⟨2560 + f.val, by omega⟩ := by
  refine (load_at harg9 x8 _ _ _ _ (ix3 0 k ⟨2560 + f.val, by omega⟩) fun a => ?_).trans (H.w3 _ _)
  match a with
  | ⟨0, _⟩ => rfl
  | ⟨1, _⟩ => show k.val = 0 + 1 * k.val; omega
  | ⟨2, _⟩ => show 2560 + f.val = 2560 + 1 * f.val; omega

theorem ld_w2_0 (k : Fin 1024) (f : Fin 512) : (View.readAt (Elt Ideal) arg10.view (Rect.unit (s := S1x2816x1024) ![0, 0, 0] S1x512x1024.size (inb_S1x2816x1024_S1x512x1024_0_0_0)).toLoadRect (harg10.unread x9)) (ix3 0 f k) = D.w2 ⟨0 + f.val, by omega⟩ k := by
  refine (load_at harg10 x9 _ _ _ _ (ix3 0 ⟨0 + f.val, by omega⟩ k) fun a => ?_).trans (H.w2 _ _)
  match a with
  | ⟨0, _⟩ => rfl
  | ⟨1, _⟩ => show 0 + f.val = 0 + 1 * f.val; omega
  | ⟨2, _⟩ => show k.val = 0 + 1 * k.val; omega

theorem ld_w2_512 (k : Fin 1024) (f : Fin 512) : (View.readAt (Elt Ideal) arg10.view (Rect.unit (s := S1x2816x1024) ![0, 512, 0] S1x512x1024.size (inb_S1x2816x1024_S1x512x1024_0_512_0)).toLoadRect (harg10.unread x9)) (ix3 0 f k) = D.w2 ⟨512 + f.val, by omega⟩ k := by
  refine (load_at harg10 x9 _ _ _ _ (ix3 0 ⟨512 + f.val, by omega⟩ k) fun a => ?_).trans (H.w2 _ _)
  match a with
  | ⟨0, _⟩ => rfl
  | ⟨1, _⟩ => show 512 + f.val = 512 + 1 * f.val; omega
  | ⟨2, _⟩ => show k.val = 0 + 1 * k.val; omega

theorem ld_w2_1024 (k : Fin 1024) (f : Fin 512) : (View.readAt (Elt Ideal) arg10.view (Rect.unit (s := S1x2816x1024) ![0, 1024, 0] S1x512x1024.size (inb_S1x2816x1024_S1x512x1024_0_1024_0)).toLoadRect (harg10.unread x9)) (ix3 0 f k) = D.w2 ⟨1024 + f.val, by omega⟩ k := by
  refine (load_at harg10 x9 _ _ _ _ (ix3 0 ⟨1024 + f.val, by omega⟩ k) fun a => ?_).trans (H.w2 _ _)
  match a with
  | ⟨0, _⟩ => rfl
  | ⟨1, _⟩ => show 1024 + f.val = 1024 + 1 * f.val; omega
  | ⟨2, _⟩ => show k.val = 0 + 1 * k.val; omega

theorem ld_w2_1536 (k : Fin 1024) (f : Fin 512) : (View.readAt (Elt Ideal) arg10.view (Rect.unit (s := S1x2816x1024) ![0, 1536, 0] S1x512x1024.size (inb_S1x2816x1024_S1x512x1024_0_1536_0)).toLoadRect (harg10.unread x9)) (ix3 0 f k) = D.w2 ⟨1536 + f.val, by omega⟩ k := by
  refine (load_at harg10 x9 _ _ _ _ (ix3 0 ⟨1536 + f.val, by omega⟩ k) fun a => ?_).trans (H.w2 _ _)
  match a with
  | ⟨0, _⟩ => rfl
  | ⟨1, _⟩ => show 1536 + f.val = 1536 + 1 * f.val; omega
  | ⟨2, _⟩ => show k.val = 0 + 1 * k.val; omega

theorem ld_w2_2048 (k : Fin 1024) (f : Fin 512) : (View.readAt (Elt Ideal) arg10.view (Rect.unit (s := S1x2816x1024) ![0, 2048, 0] S1x512x1024.size (inb_S1x2816x1024_S1x512x1024_0_2048_0)).toLoadRect (harg10.unread x9)) (ix3 0 f k) = D.w2 ⟨2048 + f.val, by omega⟩ k := by
  refine (load_at harg10 x9 _ _ _ _ (ix3 0 ⟨2048 + f.val, by omega⟩ k) fun a => ?_).trans (H.w2 _ _)
  match a with
  | ⟨0, _⟩ => rfl
  | ⟨1, _⟩ => show 2048 + f.val = 2048 + 1 * f.val; omega
  | ⟨2, _⟩ => show k.val = 0 + 1 * k.val; omega

theorem ld_w2_2560 (k : Fin 1024) (f : Fin 256) : (View.readAt (Elt Ideal) arg10.view (Rect.unit (s := S1x2816x1024) ![0, 2560, 0] S1x256x1024.size (inb_S1x2816x1024_S1x256x1024_0_2560_0)).toLoadRect (harg10.unread x9)) (ix3 0 f k) = D.w2 ⟨2560 + f.val, by omega⟩ k := by
  refine (load_at harg10 x9 _ _ _ _ (ix3 0 ⟨2560 + f.val, by omega⟩ k) fun a => ?_).trans (H.w2 _ _)
  match a with
  | ⟨0, _⟩ => rfl
  | ⟨1, _⟩ => show 2560 + f.val = 2560 + 1 * f.val; omega
  | ⟨2, _⟩ => show k.val = 0 + 1 * k.val; omega

theorem ld_X0 (i : Fin 256) (k : Fin 1024) : (View.readAt (Elt Ideal) arg1.view (Rect.unit (s := S512x1024) ![0, 0] S256x1024.size (inb_S512x1024_S256x1024_0_0)).toLoadRect (harg1.unread x0)) (ix2 i k) = D.h (rowOf (blockNo t 0) i) k := by
  refine (load_at harg1 x0 _ _ _ _ (ix2 ⟨((0 : Fin 2)).val * 256 + i.val, by have := i.isLt; show 0 * 256 + i.val < 512; omega⟩ k) fun a => ?_).trans (H.h 0 i k)
  match a with
  | ⟨0, _⟩ => show 0 * 256 + i.val = 0 + 1 * i.val; omega
  | ⟨1, _⟩ => show k.val = 0 + 1 * k.val; omega

theorem ld_X1 (i : Fin 256) (k : Fin 1024) : (View.readAt (Elt Ideal) arg1.view (Rect.unit (s := S512x1024) ![256, 0] S256x1024.size (inb_S512x1024_S256x1024_256_0)).toLoadRect (harg1.unread x0)) (ix2 i k) = D.h (rowOf (blockNo t 1) i) k := by
  refine (load_at harg1 x0 _ _ _ _ (ix2 ⟨((1 : Fin 2)).val * 256 + i.val, by have := i.isLt; show 1 * 256 + i.val < 512; omega⟩ k) fun a => ?_).trans (H.h 1 i k)
  match a with
  | ⟨0, _⟩ => show 1 * 256 + i.val = 256 + 1 * i.val; omega
  | ⟨1, _⟩ => show k.val = 0 + 1 * k.val; omega

theorem loaded0 : Loaded D (blockNo t 0) (View.readAt (Elt Ideal) arg1.view (Rect.unit (s := S512x1024) ![0, 0] S256x1024.size (inb_S512x1024_S256x1024_0_0)).toLoadRect (harg1.unread x0))
    (View.readAt (Elt Ideal) arg3.view (Rect.unit (s := S1x1x1024) ![0, 0, 0] S1x1x1024.size (inb_S1x1x1024_S1x1x1024_0_0_0)).toLoadRect (harg3.unread x2))
    (View.readAt (Elt Ideal) arg2.view (Rect.unit (s := S1x8x6144) (k0_off1 (grid0.coords t) 0#32) S1x1x1024.size (k0_off1_inb (grid0.coords t) 0)).toLoadRect (harg2.unread x1))
    (View.readAt (Elt Ideal) arg2.view (Rect.unit (s := S1x8x6144) (k0_off2 (grid0.coords t) 0#32) S1x1x1024.size (k0_off2_inb (grid0.coords t) 0)).toLoadRect (harg2.unread x1))
    (View.readAt (Elt Ideal) arg7.view (Rect.unit (s := S1x1x1024) ![0, 0, 0] S1x1x1024.size (inb_S1x1x1024_S1x1x1024_0_0_0)).toLoadRect (harg7.unread x6))
    (View.readAt (Elt Ideal) arg2.view (Rect.unit (s := S1x8x6144) (k0_off7 (grid0.coords t) 0#32) S1x1x1024.size (k0_off7_inb (grid0.coords t) 0)).toLoadRect (harg2.unread x1))
    ![(View.readAt (Elt Ideal) arg5.view (Rect.unit (s := S2x4x256x768) (k0_off3 (grid0.coords t) 0#32) S1x1x256x768.size (k0_off3_inb (grid0.coords t) 0)).toLoadRect (harg5.unread x4)),
      (View.readAt (Elt Ideal) arg5.view (Rect.unit (s := S2x4x256x768) (k0_off4 (grid0.coords t) 0#32) S1x1x256x768.size (k0_off4_inb (grid0.coords t) 0)).toLoadRect (harg5.unread x4)),
      (View.readAt (Elt Ideal) arg5.view (Rect.unit (s := S2x4x256x768) (k0_off5 (grid0.coords t) 0#32) S1x1x256x768.size (k0_off5_inb (grid0.coords t) 0)).toLoadRect (harg5.unread x4)),
      (View.readAt (Elt Ideal) arg5.view (Rect.unit (s := S2x4x256x768) (k0_off6 (grid0.coords t) 0#32) S1x1x256x768.size (k0_off6_inb (grid0.coords t) 0)).toLoadRect (harg5.unread x4))]
    ![(View.readAt (Elt Ideal) arg6.view (Rect.unit (s := S1x4x256x256) ![0, 0, 0, 0] S1x1x256x256.size (inb_S1x4x256x256_S1x1x256x256_0_0_0_0)).toLoadRect (harg6.unread x5)),
      (View.readAt (Elt Ideal) arg6.view (Rect.unit (s := S1x4x256x256) ![0, 1, 0, 0] S1x1x256x256.size (inb_S1x4x256x256_S1x1x256x256_0_1_0_0)).toLoadRect (harg6.unread x5)),
      (View.readAt (Elt Ideal) arg6.view (Rect.unit (s := S1x4x256x256) ![0, 2, 0, 0] S1x1x256x256.size (inb_S1x4x256x256_S1x1x256x256_0_2_0_0)).toLoadRect (harg6.unread x5)),
      (View.readAt (Elt Ideal) arg6.view (Rect.unit (s := S1x4x256x256) ![0, 3, 0, 0] S1x1x256x256.size (inb_S1x4x256x256_S1x1x256x256_0_3_0_0)).toLoadRect (harg6.unread x5))] where
  X := ld_X0 arg1 harg1 H
  w := ld_nw1 arg3 harg3 H
  sc := ld_sc arg2 harg2 H 0
  sh := ld_sh arg2 harg2 H 0
  ps := ld_ps arg7 harg7 H
  gt := ld_gt arg2 harg2 H 0
  a := fun g i j => by
    match g with
    | ⟨0, _⟩ => exact ld_a0 arg5 harg5 H 0 i j
    | ⟨1, _⟩ => exact ld_a1 arg5 harg5 H 0 i j
    | ⟨2, _⟩ => exact ld_a2 arg5 harg5 H 0 i j
    | ⟨3, _⟩ => exact ld_a3 arg5 harg5 H 0 i j
  p := fun g q k => by
    match g with
    | ⟨0, _⟩ => exact ld_p0 arg6 harg6 H q k
    | ⟨1, _⟩ => exact ld_p1 arg6 harg6 H q k
    | ⟨2, _⟩ => exact ld_p2 arg6 harg6 H q k
    | ⟨3, _⟩ => exact ld_p3 arg6 harg6 H q k

theorem loaded1 : Loaded D (blockNo t 1) (View.readAt (Elt Ideal) arg1.view (Rect.unit (s := S512x1024) ![256, 0] S256x1024.size (inb_S512x1024_S256x1024_256_0)).toLoadRect (harg1.unread x0))
    (View.readAt (Elt Ideal) arg3.view (Rect.unit (s := S1x1x1024) ![0, 0, 0] S1x1x1024.size (inb_S1x1x1024_S1x1x1024_0_0_0)).toLoadRect (harg3.unread x2))
    (View.readAt (Elt Ideal) arg2.view (Rect.unit (s := S1x8x6144) (k0_off1 (grid0.coords t) 1#32) S1x1x1024.size (k0_off1_inb (grid0.coords t) 1)).toLoadRect (harg2.unread x1))
    (View.readAt (Elt Ideal) arg2.view (Rect.unit (s := S1x8x6144) (k0_off2 (grid0.coords t) 1#32) S1x1x1024.size (k0_off2_inb (grid0.coords t) 1)).toLoadRect (harg2.unread x1))
    (View.readAt (Elt Ideal) arg7.view (Rect.unit (s := S1x1x1024) ![0, 0, 0] S1x1x1024.size (inb_S1x1x1024_S1x1x1024_0_0_0)).toLoadRect (harg7.unread x6))
    (View.readAt (Elt Ideal) arg2.view (Rect.unit (s := S1x8x6144) (k0_off7 (grid0.coords t) 1#32) S1x1x1024.size (k0_off7_inb (grid0.coords t) 1)).toLoadRect (harg2.unread x1))
    ![(View.readAt (Elt Ideal) arg5.view (Rect.unit (s := S2x4x256x768) (k0_off3 (grid0.coords t) 1#32) S1x1x256x768.size (k0_off3_inb (grid0.coords t) 1)).toLoadRect (harg5.unread x4)),
      (View.readAt (Elt Ideal) arg5.view (Rect.unit (s := S2x4x256x768) (k0_off4 (grid0.coords t) 1#32) S1x1x256x768.size (k0_off4_inb (grid0.coords t) 1)).toLoadRect (harg5.unread x4)),
      (View.readAt (Elt Ideal) arg5.view (Rect.unit (s := S2x4x256x768) (k0_off5 (grid0.coords t) 1#32) S1x1x256x768.size (k0_off5_inb (grid0.coords t) 1)).toLoadRect (harg5.unread x4)),
      (View.readAt (Elt Ideal) arg5.view (Rect.unit (s := S2x4x256x768) (k0_off6 (grid0.coords t) 1#32) S1x1x256x768.size (k0_off6_inb (grid0.coords t) 1)).toLoadRect (harg5.unread x4))]
    ![(View.readAt (Elt Ideal) arg6.view (Rect.unit (s := S1x4x256x256) ![0, 0, 0, 0] S1x1x256x256.size (inb_S1x4x256x256_S1x1x256x256_0_0_0_0)).toLoadRect (harg6.unread x5)),
      (View.readAt (Elt Ideal) arg6.view (Rect.unit (s := S1x4x256x256) ![0, 1, 0, 0] S1x1x256x256.size (inb_S1x4x256x256_S1x1x256x256_0_1_0_0)).toLoadRect (harg6.unread x5)),
      (View.readAt (Elt Ideal) arg6.view (Rect.unit (s := S1x4x256x256) ![0, 2, 0, 0] S1x1x256x256.size (inb_S1x4x256x256_S1x1x256x256_0_2_0_0)).toLoadRect (harg6.unread x5)),
      (View.readAt (Elt Ideal) arg6.view (Rect.unit (s := S1x4x256x256) ![0, 3, 0, 0] S1x1x256x256.size (inb_S1x4x256x256_S1x1x256x256_0_3_0_0)).toLoadRect (harg6.unread x5))] where
  X := ld_X1 arg1 harg1 H
  w := ld_nw1 arg3 harg3 H
  sc := ld_sc arg2 harg2 H 1
  sh := ld_sh arg2 harg2 H 1
  ps := ld_ps arg7 harg7 H
  gt := ld_gt arg2 harg2 H 1
  a := fun g i j => by
    match g with
    | ⟨0, _⟩ => exact ld_a0 arg5 harg5 H 1 i j
    | ⟨1, _⟩ => exact ld_a1 arg5 harg5 H 1 i j
    | ⟨2, _⟩ => exact ld_a2 arg5 harg5 H 1 i j
    | ⟨3, _⟩ => exact ld_a3 arg5 harg5 H 1 i j
  p := fun g q k => by
    match g with
    | ⟨0, _⟩ => exact ld_p0 arg6 harg6 H q k
    | ⟨1, _⟩ => exact ld_p1 arg6 harg6 H q k
    | ⟨2, _⟩ => exact ld_p2 arg6 harg6 H q k
    | ⟨3, _⟩ => exact ld_p3 arg6 harg6 H q k

end Cert.Kernel4Ideal.Even

end
-- ==== Proof.EvenBody.lean ====
/- What the pooling layer's body leaves in a block of 512 rows. -/
module

public import proofs.«01_k».proof.Proof.EvenRows
public import proofs.«01_k».proof.Proof.EvenLoads

@[expose] public section

set_option maxRecDepth 16384
set_option Elab.async false

noncomputable section

namespace Cert.Kernel4Ideal.Even

open Cert.Kernel4Ideal Cert.Kernel4Ideal.Gen
open Idealize.ShloMosaic
open Idealize.ShloMosaic.TcCoe Idealize.ShloMosaic.Tactic
open Idealize.SL Idealize.SL.Sem
open Cert.Rows

variable (c : Dev nD) (arg1 : Memref sig .tc .vmem S512x1024 .f32) (harg1 : arg1.IsWhole) (arg2 : Memref sig .tc .vmem S1x8x6144 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2x4x256x768 .bf16) (harg5 : arg5.IsWhole) (arg6 : Memref sig .tc .vmem S1x4x256x256 .bf16) (harg6 : arg6.IsWhole) (arg7 : Memref sig .tc .vmem S1x1x1024 .f32) (harg7 : arg7.IsWhole) (arg8 : Memref sig .tc .vmem S1x1024x2816 .bf16) (harg8 : arg8.IsWhole) (arg9 : Memref sig .tc .vmem S1x1024x2816 .bf16) (harg9 : arg9.IsWhole) (arg10 : Memref sig .tc .vmem S1x2816x1024 .bf16) (harg10 : arg10.IsWhole) (arg11 : Memref sig .tc .vmem S512x1024 .f32) (harg11 : arg11.IsWhole)
    (x0 : Vec Ideal S512x1024 .f32) (x1 : Vec Ideal S1x8x6144 .f32) (x2 : Vec Ideal S1x1x1024 .f32) (x3 : Vec Ideal S1x1x1024 .f32) (x4 : Vec Ideal S2x4x256x768 .bf16) (x5 : Vec Ideal S1x4x256x256 .bf16) (x6 : Vec Ideal S1x1x1024 .f32) (x7 : Vec Ideal S1x1024x2816 .bf16) (x8 : Vec Ideal S1x1024x2816 .bf16) (x9 : Vec Ideal S1x2816x1024 .bf16)
variable {x0 x1 x2 x3 x4 x5 x6 x7 x8 x9} {D : EvenArgs} {t : Fin grid0.N} (H : Held x0 x1 x2 x3 x4 x5 x6 x7 x8 x9 D t) (hD : D.Finite)
include H hD

/-- The first 256 rows after the mix. -/
theorem mix0 (i : Fin 256) (k : Fin 1024) : kernelRun0_A.sl.r_7 (F := Ideal) c (grid0.coords t) arg1 harg1 arg2 harg2 arg3 harg3 arg5 harg5 arg6 harg6 arg7 harg7 x0 x1 x2 x4 x5 x6 (ix2 i k) = D.h1 (blockNo t 0) i k :=
  (loaded0 arg1 harg1 arg2 harg2 arg3 harg3 arg5 harg5 arg6 harg6 arg7 harg7 H).h1_first hD i k

/-- The last 256 rows after the mix. -/
theorem mix1 (i : Fin 256) (k : Fin 1024) : kernelRun0_A.sl.r_18 (F := Ideal) c (grid0.coords t) arg1 harg1 arg2 harg2 arg3 harg3 arg5 harg5 arg6 harg6 arg7 harg7 x0 x1 x2 x4 x5 x6 (ix2 i k) = D.h1 (blockNo t 1) i k :=
  (loaded1 arg1 harg1 arg2 harg2 arg3 harg3 arg5 harg5 arg6 harg6 arg7 harg7 H).h1_last hD i k

/-- The second norms of the first 256 rows. -/
theorem norm0 (i : Fin 256) (k : Fin 1024) : kernelRun0_A.sl.r_8 (F := Ideal) c (grid0.coords t) arg1 harg1 arg2 harg2 arg3 harg3 arg4 harg4 arg5 harg5 arg6 harg6 arg7 harg7 x0 x1 x2 x3 x4 x5 x6 (ix2 i k) = D.v (blockNo t 0) i k :=
  (loaded0 arg1 harg1 arg2 harg2 arg3 harg3 arg5 harg5 arg6 harg6 arg7 harg7 H).v_first _ _ _ hD (ld_nw2 arg4 harg4 H) (ld_sc2 arg2 harg2 H 0) (ld_sh2 arg2 harg2 H 0) i k

/-- The second norms of both halves. -/
theorem norm_upper (i : Fin 256) (k : Fin 1024) : kernelRun0_A.sl.r_20 (F := Ideal) c (grid0.coords t) arg1 harg1 arg2 harg2 arg3 harg3 arg4 harg4 arg5 harg5 arg6 harg6 arg7 harg7 x0 x1 x2 x3 x4 x5 x6 (ix2 ⟨0 + i.val, by omega⟩ k) = D.v (blockNo t 0) i k :=
  (v_upper _ _ _ i k _ _).trans (norm0 c arg1 harg1 arg2 harg2 arg3 harg3 arg4 harg4 arg5 harg5 arg6 harg6 arg7 harg7 H hD i k)

theorem norm_lower (i : Fin 256) (k : Fin 1024) : kernelRun0_A.sl.r_20 (F := Ideal) c (grid0.coords t) arg1 harg1 arg2 harg2 arg3 harg3 arg4 harg4 arg5 harg5 arg6 harg6 arg7 harg7 x0 x1 x2 x3 x4 x5 x6 (ix2 ⟨256 + i.val, by omega⟩ k) = D.v (blockNo t 1) i k :=
  (loaded1 arg1 harg1 arg2 harg2 arg3 harg3 arg5 harg5 arg6 harg6 arg7 harg7 H).v_last _ _ _ hD (ld_nw2 arg4 harg4 H) (ld_sc2 arg2 harg2 H 1) (ld_sh2 arg2 harg2 H 1) _ i k

omit hD in
/-- The gated linear layer of a row whose second norm is known. -/
theorem layer (v : Fin 1024 → EReal) (i : Fin 512) (l : Fin 1024) (hv : ∀ k, kernelRun0_A.sl.r_20 (F := Ideal) c (grid0.coords t) arg1 harg1 arg2 harg2 arg3 harg3 arg4 harg4 arg5 harg5 arg6 harg6 arg7 harg7 x0 x1 x2 x3 x4 x5 x6 (ix2 i k) = v k) :
    k0_pay34 (F := Ideal) (kernelRun0_A.sl.r_32 c (grid0.coords t) arg1 harg1 arg2 harg2 arg3 harg3 arg4 harg4 arg5 harg5 arg6 harg6 arg7 harg7 arg8 harg8 arg9 harg9 arg10 harg10 x0 x1 x2 x3 x4 x5 x6 x7 x8 x9) (kernelRun0_A.sl.r_33 c (grid0.coords t) arg1 harg1 arg2 harg2 arg3 harg3 arg4 harg4 arg5 harg5 arg6 harg6 arg7 harg7 arg8 harg8 arg9 harg9 x0 x1 x2 x3 x4 x5 x6 x7 x8) (kernelRun0_A.sl.r_34 c arg10 harg10 x9) (ix2 i l)
      = ffn v D.w1 D.w3 (fun f => D.w2 f l) :=
  acc_at (kernelRun0_A.sl.r_20 (F := Ideal) c (grid0.coords t) arg1 harg1 arg2 harg2 arg3 harg3 arg4 harg4 arg5 harg5 arg6 harg6 arg7 harg7 x0 x1 x2 x3 x4 x5 x6) _ _ _ _ _ _ _ _ _ _ _ _ _ _ _ _ _ _ v D.w1 D.w3 D.w2 i l hv
    (ld_w1_0 arg8 harg8 H) (ld_w1_512 arg8 harg8 H) (ld_w1_1024 arg8 harg8 H) (ld_w1_1536 arg8 harg8 H) (ld_w1_2048 arg8 harg8 H) (ld_w1_2560 arg8 harg8 H)
    (ld_w3_0 arg9 harg9 H) (ld_w3_512 arg9 harg9 H) (ld_w3_1024 arg9 harg9 H) (ld_w3_1536 arg9 harg9 H) (ld_w3_2048 arg9 harg9 H) (ld_w3_2560 arg9 harg9 H)
    (ld_w2_0 arg10 harg10 H l) (ld_w2_512 arg10 harg10 H l) (ld_w2_1024 arg10 harg10 H l) (ld_w2_1536 arg10 harg10 H l) (ld_w2_2048 arg10 harg10 H l) (ld_w2_2560 arg10 harg10 H l)

/-- The store of the first 256 rows. -/
theorem store0 (i : Fin 256) (l : Fin 1024) : k0_pay35 (F := Ideal) (kernelRun0_A.sl.r_7 c (grid0.coords t) arg1 harg1 arg2 harg2 arg3 harg3 arg5 harg5 arg6 harg6 arg7 harg7 x0 x1 x2 x4 x5 x6) (kernelRun0_A.sl.r_32 c (grid0.coords t) arg1 harg1 arg2 harg2 arg3 harg3 arg4 harg4 arg5 harg5 arg6 harg6 arg7 harg7 arg8 harg8 arg9 harg9 arg10 harg10 x0 x1 x2 x3 x4 x5 x6 x7 x8 x9) (kernelRun0_A.sl.r_33 c (grid0.coords t) arg1 harg1 arg2 harg2 arg3 harg3 arg4 harg4 arg5 harg5 arg6 harg6 arg7 harg7 arg8 harg8 arg9 harg9 x0 x1 x2 x3 x4 x5 x6 x7 x8) (kernelRun0_A.sl.r_34 c arg10 harg10 x9)
    (View.readAt (Elt Ideal) arg2.view (Rect.unit (s := S1x8x6144) (k0_off10 (grid0.coords t) 0#32) S1x1x1024.size (k0_off10_inb (grid0.coords t) 0)).toLoadRect (harg2.unread x1)) (ix2 i l) = D.out (blockNo t 0) i l := by
  rw [out_first_at, mix0 c arg1 harg1 arg2 harg2 arg3 harg3 arg5 harg5 arg6 harg6 arg7 harg7 H hD, layer c arg1 harg1 arg2 harg2 arg3 harg3 arg4 harg4 arg5 harg5 arg6 harg6 arg7 harg7 arg8 harg8 arg9 harg9 arg10 harg10 H _ _ l (norm_upper c arg1 harg1 arg2 harg2 arg3 harg3 arg4 harg4 arg5 harg5 arg6 harg6 arg7 harg7 H hD i)]
  exact congrArg (fun q => _ + q * _) (ld_g5 arg2 harg2 H 0 l)

/-- The store of the last 256 rows. -/
theorem store1 (i : Fin 256) (l : Fin 1024) : k0_pay1 (F := Ideal) (kernelRun0_A.sl.r_18 c (grid0.coords t) arg1 harg1 arg2 harg2 arg3 harg3 arg5 harg5 arg6 harg6 arg7 harg7 x0 x1 x2 x4 x5 x6) (kernelRun0_A.sl.r_35 c (grid0.coords t) arg1 harg1 arg2 harg2 arg3 harg3 arg4 harg4 arg5 harg5 arg6 harg6 arg7 harg7 arg8 harg8 arg9 harg9 arg10 harg10 x0 x1 x2 x3 x4 x5 x6 x7 x8 x9)
    (View.readAt (Elt Ideal) arg2.view (Rect.unit (s := S1x8x6144) (k0_off10 (grid0.coords t) 1#32) S1x1x1024.size (k0_off10_inb (grid0.coords t) 1)).toLoadRect (harg2.unread x1)) (ix2 i l) = D.out (blockNo t 1) i l := by
  rw [out_last_at, mix1 c arg1 harg1 arg2 harg2 arg3 harg3 arg5 harg5 arg6 harg6 arg7 harg7 H hD]
  refine (congrArg₂ (fun q w => _ + q * w) (ld_g5 arg2 harg2 H 1 l) (layer c arg1 harg1 arg2 harg2 arg3 harg3 arg4 harg4 arg5 harg5 arg6 harg6 arg7 harg7 arg8 harg8 arg9 harg9 arg10 harg10 H _ _ l (norm_lower c arg1 harg1 arg2 harg2 arg3 harg3 arg4 harg4 arg5 harg5 arg6 harg6 arg7 harg7 H hD i))).trans ?_
  rfl

omit H hD in
/-- The block's formula. -/
def blockOut (D : EvenArgs) (t : Fin grid0.N) : S512x1024.Idx → EReal := fun y =>
  D.out ⟨t.val * 2 + (y 0).val / 256, by have : (y 0).val < 512 := (y 0).isLt; have : t.val < 65 := t.isLt; omega⟩ ⟨(y 0).val % 256, Nat.mod_lt _ (by decide)⟩ (y 1)

omit H hD in
theorem blockOut_at (s : Fin 2) (i : Fin 256) (l : Fin 1024) (y : S512x1024.Idx) (h0 : (y 0).val = s.val * 256 + i.val) (h1 : (y 1).val = l.val) :
    D.out (blockNo t s) i l = blockOut D t y := by
  unfold blockOut
  have e0 : blockNo t s = ⟨t.val * 2 + (y 0).val / 256, by have : (y 0).val < 512 := (y 0).isLt; have : t.val < 65 := t.isLt; omega⟩ :=
    Fin.ext (by show t.val * 2 + s.val = t.val * 2 + (y 0).val / 256; have := i.isLt; omega)
  have e1 : i = ⟨(y 0).val % 256, Nat.mod_lt _ (by decide)⟩ := Fin.ext (by show i.val = (y 0).val % 256; have := i.isLt; omega)
  have e2 : l = y 1 := Fin.ext h1.symm
  rw [e0, e2]
  exact congrArg (fun q => D.out _ q _) e1

theorem out_eq (y : S512x1024.Idx) :
    out0_A_10 c (grid0.coords t) arg1 harg1 arg2 harg2 arg3 harg3 arg4 harg4 arg5 harg5 arg6 harg6 arg7 harg7 arg8 harg8 arg9 harg9 arg10 harg10 arg11 harg11 x0 x1 x2 x3 x4 x5 x6 x7 x8 x9 y = blockOut D t y := by
  unfold out0_A_10
  refine View.read_writes_apply_of_pieces _ _ (blockOut D t) _ ?_ y (cover0_A_10 c (grid0.coords t) arg1 harg1 arg2 harg2 arg3 harg3 arg4 harg4 arg5 harg5 arg6 harg6 arg7 harg7 arg8 harg8 arg9 harg9 arg10 harg10 arg11 harg11 x0 x1 x2 x3 x4 x5 x6 x7 x8 x9 y)
  unfold kernelRun0_A
  refine List.forall_mem_cons.mpr ⟨fun z => ?_, List.forall_mem_cons.mpr ⟨fun z => ?_, fun _ h => nomatch h⟩⟩
  · obtain ⟨i, l, rfl⟩ : ∃ (i : Fin 256) (l : Fin 1024), z = ix2 i l := ⟨z 0, z 1, by idx_vars z⟩
    exact (store1 c arg1 harg1 arg2 harg2 arg3 harg3 arg4 harg4 arg5 harg5 arg6 harg6 arg7 harg7 arg8 harg8 arg9 harg9 arg10 harg10 H hD i l).trans (blockOut_at 1 i l _ (by show 256 + 1 * i.val = 1 * 256 + i.val; omega) (by show 0 + 1 * l.val = l.val; omega))
  · obtain ⟨i, l, rfl⟩ : ∃ (i : Fin 256) (l : Fin 1024), z = ix2 i l := ⟨z 0, z 1, by idx_vars z⟩
    exact (store0 c arg1 harg1 arg2 harg2 arg3 harg3 arg4 harg4 arg5 harg5 arg6 harg6 arg7 harg7 arg8 harg8 arg9 harg9 arg10 harg10 H hD i l).trans (blockOut_at 0 i l _ (by show 0 + 1 * i.val = 0 * 256 + i.val; omega) (by show 0 + 1 * l.val = l.val; omega))

end Cert.Kernel4Ideal.Even

end
-- ==== Proof.EvenReference.lean ====
/- The pooling layer's reference, row by row. -/
module

public import proofs.«01_k».proof.Defs
public import proofs.«01_k».proof.Proof.EvenRows
public import proofs.«01_k».proof.Proof.Gen.Reference4Ideal.Run

@[expose] public section

set_option maxRecDepth 16384

noncomputable section

namespace Cert.Reference4Ideal.Even

open Cert.Reference4Ideal Cert.Reference4Ideal.Gen Cert.Reference4Ideal.Value
open Idealize.ShloMosaic
open Idealize.ShloMosaic.TcCoe Idealize.ShloMosaic.Tactic
open Idealize.SL Idealize.SL.Sem
open Cert.Rows
open Idealize.ShloMosaic.StableHlo (launchContents)

variable (V : Valuation τ sig (Elt Ideal))

/-- The layer's arguments, by their rows and columns. -/
def args : EvenArgs where
  h r k := V (Proc.devRef .tc main_arg0) (ix2 r k)
  tbl q j := V (Proc.devRef .tc main_arg1) (ix3 2 q j)
  nw1 k := V (Proc.devRef .tc main_arg2) (ix3 2 0 k)
  nw2 k := V (Proc.devRef .tc main_arg3) (ix3 2 0 k)
  avg a g i s := V (Proc.devRef .tc main_arg4) (ix4 a g i s)
  pw g c o := V (Proc.devRef .tc main_arg5) (ix4 1 g c o)
  ps k := V (Proc.devRef .tc main_arg6) (ix3 1 0 k)
  w1 k f := V (Proc.devRef .tc main_arg7) (ix3 1 k f)
  w3 k f := V (Proc.devRef .tc main_arg8) (ix3 1 k f)
  w2 f k := V (Proc.devRef .tc main_arg9) (ix3 1 f k)

/-- The split in context and latents selects the modulation's row. -/
theorem split_eq (r : Fin 33280) (f : Fin 8 → EReal) : (if h : r.val % 16640 < 256 then f 2 else f ⟨r.val / 16640, by omega⟩) = f (modAt r) := by
  by_cases h : r.val % 16640 < 256
  · rw [dif_pos h]; exact congrArg f (Fin.ext (if_pos h).symm)
  · rw [dif_neg h]; exact congrArg f (Fin.ext (if_neg h).symm)

theorem u_at (r : Fin 33280) (k : Fin 1024) : res_main_v38 (F := Ideal) V (ix2 r k)
    = urow ((args V).h r) (args V).nw1 (fun k => (args V).tbl (modAt r) ⟨1024 + k.val, by omega⟩) (fun k => (args V).tbl (modAt r) ⟨0 + k.val, by omega⟩) k := by
  pointwise [res_main_v38, res_main_v16, res_main_v29, urow, rms, args]
  exact congrArg₂ (· + ·) (congrArg₂ (· * ·) rfl (congrArg₂ (· + ·) rfl (split_eq r fun q => V (Proc.devRef .tc main_arg1) (ix3 2 q ⟨1024 + k.val, by omega⟩))))
    (split_eq r fun q => V (Proc.devRef .tc main_arg1) (ix3 2 q ⟨k.val, by omega⟩))

theorem u_block (b : Fin 130) (i : Fin 256) (k : Fin 1024) : res_main_v38 (F := Ideal) V (ix2 (rowOf b i) k) = (args V).u b i k := by
  rw [u_at, modAt_rowOf]
  rfl

/-- Where a block lies in its sample. -/
theorem sample_of (b : Fin 130) (i : Fin 256) : (rowOf b i).val / 16640 = b.val / 65 := by
  have hi := i.isLt
  have hb := b.isLt
  show (b.val * 256 + i.val) / 16640 = _
  omega
theorem place_of (b : Fin 130) (i : Fin 256) : (rowOf b i).val % 16640 = b.val % 65 * 256 + i.val := by
  have hi := i.isLt
  have hb := b.isLt
  show (b.val * 256 + i.val) % 16640 = _
  omega

/-- One group's mixing at a row: the window's weighted sums of the group's channels, less the row itself, projected. -/
theorem group_at (b : Fin 130) (i : Fin 256) (g : Fin 4) (o : Fin 256) (ctx : Fin 2 → Fin 256 → Fin 256 → EReal) (lat : Fin 128 → Fin 256 → Fin 256 → EReal)
    (all : Fin 2 → Fin 16640 → Fin 256 → EReal) (hc : ∀ q s c (r : Fin 33280), r.val = q.val * 16640 + s.val → ctx q s c = res_main_v38 (F := Ideal) V (ix2 r (chan g c)))
    (hl : ∀ n s c (r : Fin 33280), r.val = n.val / 64 * 16640 + 256 + n.val % 64 * 256 + s.val → lat n s c = res_main_v38 (F := Ideal) V (ix2 r (chan g c)))
    (ha : ∀ q p c (r : Fin 33280), r.val = q.val * 16640 + p.val → all q p c = res_main_v38 (F := Ideal) V (ix2 r (chan g c)))
    (p0 : (rowOf b i).val / 16640 < 2) (p1 : (rowOf b i).val % 16640 < 16640) (p2 : (rowOf b i).val / 16640 * 64 + ((rowOf b i).val % 16640 - 256) / 256 < 128)
    (p3 : ((rowOf b i).val % 16640 - 256) % 256 < 256) :
    ∑ c : Fin 256, ((if h : (rowOf b i).val % 16640 < 256 then
          ∑ s : Fin 256, ctx ⟨(rowOf b i).val / 16640, p0⟩ s c * (V (Proc.devRef .tc main_arg4) (ix4 1 g ⟨(rowOf b i).val % 16640, h⟩ ⟨s.val, by omega⟩) : EReal)
          + ∑ s : Fin 256, ctx ⟨(rowOf b i).val / 16640, p0⟩ s c * (V (Proc.devRef .tc main_arg4) (ix4 1 g ⟨(rowOf b i).val % 16640, h⟩ ⟨256 + s.val, by omega⟩) : EReal)
        else
          ∑ s : Fin 256, lat ⟨(rowOf b i).val / 16640 * 64 + ((rowOf b i).val % 16640 - 256) / 256, p2⟩ s c * (V (Proc.devRef .tc main_arg4) (ix4 0 g ⟨((rowOf b i).val % 16640 - 256) % 256, p3⟩ ⟨s.val, by omega⟩) : EReal)
          + ∑ s : Fin 256, lat ⟨(rowOf b i).val / 16640 * 64 + ((rowOf b i).val % 16640 - 256) / 256, p2⟩ s c * (V (Proc.devRef .tc main_arg4) (ix4 0 g ⟨((rowOf b i).val % 16640 - 256) % 256, p3⟩ ⟨256 + s.val, by omega⟩) : EReal))
        - all ⟨(rowOf b i).val / 16640, p0⟩ ⟨(rowOf b i).val % 16640, p1⟩ c) * (V (Proc.devRef .tc main_arg5) (ix4 1 g c o) : EReal)
      = (args V).mix b i (chan g o) := by
  have hi := i.isLt
  have hb := b.isLt
  have e1 := sample_of b i
  have e2 := place_of b i
  unfold EvenArgs.mix mixAt
  rw [grp_chan, col_chan]
  refine Finset.sum_congr rfl fun c _ => congrArg₂ (· * ·) ?_ rfl
  refine congrArg₂ (· - ·) ?_ ((ha _ _ c (rowOf b i) (by show (rowOf b i).val = (rowOf b i).val / 16640 * 16640 + (rowOf b i).val % 16640; omega)).trans (u_block V b i (chan g c)))
  by_cases h : (rowOf b i).val % 16640 < 256
  · have hk : kindOf b = 1 := if_pos (by omega)
    have ei : (⟨(rowOf b i).val % 16640, h⟩ : Fin 256) = i := Fin.ext (by show (rowOf b i).val % 16640 = i.val; omega)
    have eu : ∀ s : Fin 256, ctx ⟨(rowOf b i).val / 16640, p0⟩ s c = (args V).u b s (chan g c) := fun s =>
      (hc _ s c (rowOf b s) (by show b.val * 256 + s.val = (rowOf b i).val / 16640 * 16640 + s.val; omega)).trans (u_block V b s (chan g c))
    rw [dif_pos h, hk, ei]
    exact congrArg₂ (· + ·) (Finset.sum_congr rfl fun s _ => (congrArg (· * _) (eu s)).trans (mul_comm _ _)) (Finset.sum_congr rfl fun s _ => (congrArg (· * _) (eu s)).trans (mul_comm _ _))
  · have hk : kindOf b = 0 := if_neg (by omega)
    have ei : (⟨((rowOf b i).val % 16640 - 256) % 256, p3⟩ : Fin 256) = i := Fin.ext (by show ((rowOf b i).val % 16640 - 256) % 256 = i.val; omega)
    have eu : ∀ s : Fin 256, lat ⟨(rowOf b i).val / 16640 * 64 + ((rowOf b i).val % 16640 - 256) / 256, p2⟩ s c = (args V).u b s (chan g c) := fun s =>
      (hl _ s c (rowOf b s) (by
        show b.val * 256 + s.val = ((rowOf b i).val / 16640 * 64 + ((rowOf b i).val % 16640 - 256) / 256) / 64 * 16640 + 256
          + ((rowOf b i).val / 16640 * 64 + ((rowOf b i).val % 16640 - 256) / 256) % 64 * 256 + s.val
        omega)).trans (u_block V b s (chan g c))
    rw [dif_neg h, hk, ei]
    exact congrArg₂ (· + ·) (Finset.sum_congr rfl fun s _ => (congrArg (· * _) (eu s)).trans (mul_comm _ _)) (Finset.sum_congr rfl fun s _ => (congrArg (· * _) (eu s)).trans (mul_comm _ _))

/-- Group 0's channels of the modulated norms: all rows, the context's and the latents'. -/
theorem all0 (q : Fin 2) (p : Fin 16640) (c : Fin 256) (r : Fin 33280) (hr : r.val = q.val * 16640 + p.val) : (res_main_v40 (F := Ideal) V (ix3 q p c) : EReal) = res_main_v38 (F := Ideal) V (ix2 r (chan 0 c)) := by
  pointwise [res_main_v40]
  exact congrArg₂ (fun x y => res_main_v38 (F := Ideal) V (ix2 x y)) (Fin.ext hr.symm) (Fin.ext (by show c.val = 0 * 256 + c.val; omega))
theorem ctx0 (q : Fin 2) (s : Fin 256) (c : Fin 256) (r : Fin 33280) (hr : r.val = q.val * 16640 + s.val) : (res_main_v55 (F := Ideal) V (ix3 q s c) : EReal) = res_main_v38 (F := Ideal) V (ix2 r (chan 0 c)) := by
  pointwise [res_main_v55]
  exact all0 V _ _ c r hr
theorem lat0 (n : Fin 128) (s : Fin 256) (c : Fin 256) (r : Fin 33280) (hr : r.val = n.val / 64 * 16640 + 256 + n.val % 64 * 256 + s.val) : (res_main_v42 (F := Ideal) V (ix3 n s c) : EReal) = res_main_v38 (F := Ideal) V (ix2 r (chan 0 c)) := by
  have hn := n.isLt
  have hs := s.isLt
  pointwise [res_main_v42]
  exact all0 V _ _ c r (by rw [hr]; dsimp only; omega)

/-- Group 1's channels of the modulated norms: all rows, the context's and the latents'. -/
theorem all1 (q : Fin 2) (p : Fin 16640) (c : Fin 256) (r : Fin 33280) (hr : r.val = q.val * 16640 + p.val) : (res_main_v75 (F := Ideal) V (ix3 q p c) : EReal) = res_main_v38 (F := Ideal) V (ix2 r (chan 1 c)) := by
  pointwise [res_main_v75]
  exact congrArg₂ (fun x y => res_main_v38 (F := Ideal) V (ix2 x y)) (Fin.ext hr.symm) (Fin.ext (by show 256 + c.val = 1 * 256 + c.val; omega))
theorem ctx1 (q : Fin 2) (s : Fin 256) (c : Fin 256) (r : Fin 33280) (hr : r.val = q.val * 16640 + s.val) : (res_main_v90 (F := Ideal) V (ix3 q s c) : EReal) = res_main_v38 (F := Ideal) V (ix2 r (chan 1 c)) := by
  pointwise [res_main_v90]
  exact all1 V _ _ c r hr
theorem lat1 (n : Fin 128) (s : Fin 256) (c : Fin 256) (r : Fin 33280) (hr : r.val = n.val / 64 * 16640 + 256 + n.val % 64 * 256 + s.val) : (res_main_v77 (F := Ideal) V (ix3 n s c) : EReal) = res_main_v38 (F := Ideal) V (ix2 r (chan 1 c)) := by
  have hn := n.isLt
  have hs := s.isLt
  pointwise [res_main_v77]
  exact all1 V _ _ c r (by rw [hr]; dsimp only; omega)

/-- Group 2's channels of the modulated norms: all rows, the context's and the latents'. -/
theorem all2 (q : Fin 2) (p : Fin 16640) (c : Fin 256) (r : Fin 33280) (hr : r.val = q.val * 16640 + p.val) : (res_main_v110 (F := Ideal) V (ix3 q p c) : EReal) = res_main_v38 (F := Ideal) V (ix2 r (chan 2 c)) := by
  pointwise [res_main_v110]
  exact congrArg₂ (fun x y => res_main_v38 (F := Ideal) V (ix2 x y)) (Fin.ext hr.symm) (Fin.ext (by show 512 + c.val = 2 * 256 + c.val; omega))
theorem ctx2 (q : Fin 2) (s : Fin 256) (c : Fin 256) (r : Fin 33280) (hr : r.val = q.val * 16640 + s.val) : (res_main_v125 (F := Ideal) V (ix3 q s c) : EReal) = res_main_v38 (F := Ideal) V (ix2 r (chan 2 c)) := by
  pointwise [res_main_v125]
  exact all2 V _ _ c r hr
theorem lat2 (n : Fin 128) (s : Fin 256) (c : Fin 256) (r : Fin 33280) (hr : r.val = n.val / 64 * 16640 + 256 + n.val % 64 * 256 + s.val) : (res_main_v112 (F := Ideal) V (ix3 n s c) : EReal) = res_main_v38 (F := Ideal) V (ix2 r (chan 2 c)) := by
  have hn := n.isLt
  have hs := s.isLt
  pointwise [res_main_v112]
  exact all2 V _ _ c r (by rw [hr]; dsimp only; omega)

/-- Group 3's channels of the modulated norms: all rows, the context's and the latents'. -/
theorem all3 (q : Fin 2) (p : Fin 16640) (c : Fin 256) (r : Fin 33280) (hr : r.val = q.val * 16640 + p.val) : (res_main_v145 (F := Ideal) V (ix3 q p c) : EReal) = res_main_v38 (F := Ideal) V (ix2 r (chan 3 c)) := by
  pointwise [res_main_v145]
  exact congrArg₂ (fun x y => res_main_v38 (F := Ideal) V (ix2 x y)) (Fin.ext hr.symm) (Fin.ext (by show 768 + c.val = 3 * 256 + c.val; omega))
theorem ctx3 (q : Fin 2) (s : Fin 256) (c : Fin 256) (r : Fin 33280) (hr : r.val = q.val * 16640 + s.val) : (res_main_v160 (F := Ideal) V (ix3 q s c) : EReal) = res_main_v38 (F := Ideal) V (ix2 r (chan 3 c)) := by
  pointwise [res_main_v160]
  exact all3 V _ _ c r hr
theorem lat3 (n : Fin 128) (s : Fin 256) (c : Fin 256) (r : Fin 33280) (hr : r.val = n.val / 64 * 16640 + 256 + n.val % 64 * 256 + s.val) : (res_main_v147 (F := Ideal) V (ix3 n s c) : EReal) = res_main_v38 (F := Ideal) V (ix2 r (chan 3 c)) := by
  have hn := n.isLt
  have hs := s.isLt
  pointwise [res_main_v147]
  exact all3 V _ _ c r (by rw [hr]; dsimp only; omega)

theorem mix_at (b : Fin 130) (i : Fin 256) (k : Fin 1024) : (res_main_v189 (F := Ideal) V (ix2 (rowOf b i) k) : EReal) = (args V).mix b i k := by
  have hk := k.isLt
  have hb := b.isLt
  have hi := i.isLt
  have e1 := sample_of b i
  have e2 := place_of b i
  have p0 : (rowOf b i).val / 16640 < 2 := by omega
  have p1 : (rowOf b i).val % 16640 < 16640 := by omega
  have p2 : (rowOf b i).val / 16640 * 64 + ((rowOf b i).val % 16640 - 256) / 256 < 128 := by omega
  have p3 : ((rowOf b i).val % 16640 - 256) % 256 < 256 := by omega
  pointwise [res_main_v189]
  by_cases c0 : k.val < 256
  · rw [dif_pos c0]
    refine @Eq.trans EReal _ _ _ (Finset.sum_congr rfl fun c _ => congrArg₂ (· * ·) (congrArg₂ (· - ·) ?_ rfl) rfl) ((group_at V b i 0 ⟨k.val, by omega⟩ (fun q s c => res_main_v55 V (ix3 q s c)) (fun n s c => res_main_v42 V (ix3 n s c)) (fun q p c => res_main_v40 V (ix3 q p c)) (ctx0 V) (lat0 V) (all0 V) p0 p1 p2 p3).trans
      (congrArg ((args V).mix b i) (Fin.ext (by show 0 * 256 + (k.val) = k.val; omega))))
    by_cases h : (rowOf b i).val % 16640 < 256
    · simp only [dif_pos h]
    · simp only [dif_neg h]
  rw [dif_neg c0]
  by_cases c1 : k.val - 256 < 256
  · rw [dif_pos c1]
    refine @Eq.trans EReal _ _ _ (Finset.sum_congr rfl fun c _ => congrArg₂ (· * ·) (congrArg₂ (· - ·) ?_ rfl) rfl) ((group_at V b i 1 ⟨k.val - 256, by omega⟩ (fun q s c => res_main_v90 V (ix3 q s c)) (fun n s c => res_main_v77 V (ix3 n s c)) (fun q p c => res_main_v75 V (ix3 q p c)) (ctx1 V) (lat1 V) (all1 V) p0 p1 p2 p3).trans
      (congrArg ((args V).mix b i) (Fin.ext (by show 1 * 256 + (k.val - 256) = k.val; omega))))
    by_cases h : (rowOf b i).val % 16640 < 256
    · simp only [dif_pos h]
    · simp only [dif_neg h]
  rw [dif_neg c1]
  by_cases c2 : k.val - 256 - 256 < 256
  · rw [dif_pos c2]
    refine @Eq.trans EReal _ _ _ (Finset.sum_congr rfl fun c _ => congrArg₂ (· * ·) (congrArg₂ (· - ·) ?_ rfl) rfl) ((group_at V b i 2 ⟨k.val - 256 - 256, by omega⟩ (fun q s c => res_main_v125 V (ix3 q s c)) (fun n s c => res_main_v112 V (ix3 n s c)) (fun q p c => res_main_v110 V (ix3 q p c)) (ctx2 V) (lat2 V) (all2 V) p0 p1 p2 p3).trans
      (congrArg ((args V).mix b i) (Fin.ext (by show 2 * 256 + (k.val - 256 - 256) = k.val; omega))))
    by_cases h : (rowOf b i).val % 16640 < 256
    · simp only [dif_pos h]
    · simp only [dif_neg h]
  rw [dif_neg c2]
  refine @Eq.trans EReal _ _ _ (Finset.sum_congr rfl fun c _ => congrArg₂ (· * ·) (congrArg₂ (· - ·) ?_ rfl) rfl) ((group_at V b i 3 ⟨k.val - 256 - 256 - 256, by omega⟩ (fun q s c => res_main_v160 V (ix3 q s c)) (fun n s c => res_main_v147 V (ix3 n s c)) (fun q p c => res_main_v145 V (ix3 q p c)) (ctx3 V) (lat3 V) (all3 V) p0 p1 p2 p3).trans
    (congrArg ((args V).mix b i) (Fin.ext (by show 3 * 256 + (k.val - 256 - 256 - 256) = k.val; omega))))
  by_cases h : (rowOf b i).val % 16640 < 256
  · simp only [dif_pos h]
  · simp only [dif_neg h]

/-- The stream after the mixing half. -/
theorem h1_at (b : Fin 130) (i : Fin 256) (k : Fin 1024) : (res_main_v196 (F := Ideal) V (ix2 (rowOf b i) k) : EReal) = (args V).h1 b i k := by
  pointwise [res_main_v196, res_main_v180]
  refine congrArg₂ (· + ·) rfl (congrArg₂ (· * ·) ?_ (congrArg₂ (· * ·) (mix_at V b i k) rfl))
  refine (split_eq (rowOf b i) fun q => V (Proc.devRef .tc main_arg1) (ix3 2 q ⟨2048 + k.val, by omega⟩)).trans ?_
  rw [modAt_rowOf]
  rfl

theorem v_row (r : Fin 33280) (k : Fin 1024) : (res_main_v235 (F := Ideal) V (ix2 r k) : EReal)
    = urow (fun k => res_main_v196 (F := Ideal) V (ix2 r k)) (args V).nw2 (fun k => (args V).tbl (modAt r) ⟨4096 + k.val, by omega⟩) (fun k => (args V).tbl (modAt r) ⟨3072 + k.val, by omega⟩) k := by
  pointwise [res_main_v235, res_main_v213, res_main_v226, urow, rms, args]
  exact congrArg₂ (· + ·) (congrArg₂ (· * ·) rfl (congrArg₂ (· + ·) rfl (split_eq r fun q => V (Proc.devRef .tc main_arg1) (ix3 2 q ⟨4096 + k.val, by omega⟩))))
    (split_eq r fun q => V (Proc.devRef .tc main_arg1) (ix3 2 q ⟨3072 + k.val, by omega⟩))

/-- What the feed-forward half reads. -/
theorem v_at (b : Fin 130) (i : Fin 256) (k : Fin 1024) : (res_main_v235 (F := Ideal) V (ix2 (rowOf b i) k) : EReal) = (args V).v b i k := by
  rw [v_row, modAt_rowOf, show (fun k => res_main_v196 (F := Ideal) V (ix2 (rowOf b i) k)) = (args V).h1 b i from funext (h1_at V b i)]
  rfl

theorem gate_at (b : Fin 130) (i : Fin 256) (f : Fin 2816) : (res_main_v255 (F := Ideal) V (ix2 (rowOf b i) f) : EReal) = dot ((args V).v b i) (fun k => (args V).w1 k f) := by
  pointwise [res_main_v255, dot]
  simp only [v_at]
  rfl

/-- The layer's result. -/
theorem out_at (b : Fin 130) (i : Fin 256) (k : Fin 1024) :
    (addf (F := Ideal) (res_main_v196 V) (mulf (shapeCast _ (concatenate S2x16640x1024 1 [⟨S2x256x1024, (broadcastInDim S2x256x1024 ![2] bcast_S1024_S2x256x1024_2 (shapeCast _ (extractStridedSlice S1x1024 ![2, 0] (res_main_v237 V) slices_S8x1024_S1x1024_2_0) shapeCasts_S1x1024_S1024))⟩, ⟨S2x16384x1024, (broadcastInDim S2x16384x1024 ![0, 1, 2] bcast_S2x1x1024_S2x16384x1024_0_1_2 (broadcastInDim S2x1x1024 ![0, 2] bcast_S2x1024_S2x1x1024_0_2 (extractStridedSlice S2x1024 ![0, 0] (res_main_v237 V) slices_S8x1024_S2x1024_0_0)))⟩] concatenates_S2x256x1024_S2x16384x1024_S2x16640x1024_d1) shapeCasts_S2x16640x1024_S33280x1024) (Host.dotGeneral dot_S33280x2816_S2816x1024_S33280x1024_1_0_0_1_n_n none (mulf (mulf (res_main_v255 V) (Host.divf (broadcastInDim S33280x2816 ![] bcast_S_S33280x2816 (constant S_ .f32 0x3F800000#32)) (addf (broadcastInDim S33280x2816 ![] bcast_S_S33280x2816 (constant S_ .f32 0x3F800000#32)) (Host.exp (Host.negf (res_main_v255 V)))))) (Host.dotGeneral (φ₁ := .f32) dot_S33280x1024_S1024x2816_S33280x2816_1_0_0_1_n_n none (res_main_v235 V) (extf .f32 (shapeCast _ (extractStridedSlice S1x1024x2816 ![1, 0, 0] (V (Proc.devRef .tc main_arg8)) slices_S2x1024x2816_S1x1024x2816_1_0_0) shapeCasts_S1x1024x2816_S1024x2816) bitsLt_bf16_f32))) (extf .f32 (shapeCast _ (extractStridedSlice S1x2816x1024 ![1, 0, 0] (V (Proc.devRef .tc main_arg9)) slices_S2x2816x1024_S1x2816x1024_1_0_0) shapeCasts_S1x2816x1024_S2816x1024) bitsLt_bf16_f32))) (ix2 (rowOf b i) k) : EReal) = (args V).out b i k := by
  pointwise [res_main_v237]
  simp only [gate_at, v_at]
  refine congrArg₂ (· + ·) (h1_at V b i k) (congrArg₂ (· * ·) ?_ ?_)
  · refine (split_eq (rowOf b i) fun q => V (Proc.devRef .tc main_arg1) (ix3 2 q ⟨5120 + k.val, by omega⟩)).trans ?_
    rw [modAt_rowOf]
    rfl
  · rfl

variable (m : (ℓ : Loc nD τ sig) → Buf (Elt Ideal) ℓ) (ρ : Dev nD → PrngReg)

/-- The result at any row. -/
def outAll (D : EvenArgs) (r : Fin 33280) (k : Fin 1024) : EReal := D.out ⟨r.val / 256, by omega⟩ ⟨r.val % 256, by omega⟩ k

theorem outAll_rowOf (D : EvenArgs) (b : Fin 130) (i : Fin 256) (k : Fin 1024) : outAll D (rowOf b i) k = D.out b i k := by
  have hi := i.isLt
  exact congrArg₂ (fun x y => D.out x y k) (Fin.ext (by show (b.val * 256 + i.val) / 256 = b.val; omega)) (Fin.ext (by show (b.val * 256 + i.val) % 256 = i.val; omega))

/-- The run, with the result as a formula of the arguments, and the arguments kept. -/
theorem run_rows : θ_run defs (onTc (τ := τ) (main (F := Ideal))) ⟨m, fun _ => 0, ρ⟩ fun r => ∀ c : Dev nD,
    r.2.mem ((c.tc : Thread nD τ).loc main_v261) = (fun j => outAll (args (launchContents m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ⟨?_, (h c).2⟩) (Value.run m ρ)
  refine (h c).1.trans (funext fun j => ?_)
  idx_vars j
  obtain ⟨b, i, e⟩ : ∃ b i, j0 = rowOf b i := ⟨⟨j0.val / 256, by omega⟩, ⟨j0.val % 256, by omega⟩, Fin.ext (by show j0.val = j0.val / 256 * 256 + j0.val % 256; omega)⟩
  subst e
  exact (out_at (launchContents m c) b i j1).trans (outAll_rowOf _ b i j1).symm

end Cert.Reference4Ideal.Even

end
-- ==== Proof.EvenValue.lean ====
/- The pooling layer's result, and its equality with the reference's. -/
module

public import proofs.«01_k».proof.Defs
public import proofs.«01_k».proof.Proof.EvenBody
public import proofs.«01_k».proof.Proof.EvenReference
public import proofs.«01_k».proof.Proof.Gen.Kernel4Ideal.Value
public import proofs.«01_k».proof.Proof.Gen.Pre_mods_finite
public import Idealize.ShloMosaic.Lib.ReduceAll

@[expose] public section

set_option maxRecDepth 16384

noncomputable section

namespace Cert.Kernel4Ideal.Even

open Idealize.ShloMosaic
open Idealize.ShloMosaic.TcCoe Idealize.ShloMosaic.Tactic
open Idealize.SL Idealize.SL.Sem
open Cert.Kernel4Ideal Cert.Kernel4Ideal.Gen Cert.Rows

variable (m : (ℓ : Loc nD τ sig) → Buf (Elt Ideal) ℓ) (c : Dev nD)

/-- The layer's arguments, by their rows and columns. -/
def args : EvenArgs where
  h r k := m ((c.tc : Thread nD τ).loc main_arg0) (ix2 r k)
  tbl q j := m ((c.tc : Thread nD τ).loc main_arg1) (ix3 2 q j)
  nw1 k := m ((c.tc : Thread nD τ).loc main_arg2) (ix3 2 0 k)
  nw2 k := m ((c.tc : Thread nD τ).loc main_arg3) (ix3 2 0 k)
  avg a g i s := m ((c.tc : Thread nD τ).loc main_arg4) (ix4 a g i s)
  pw g c' o := m ((c.tc : Thread nD τ).loc main_arg5) (ix4 1 g c' o)
  ps k := m ((c.tc : Thread nD τ).loc main_arg6) (ix3 1 0 k)
  w1 k f := m ((c.tc : Thread nD τ).loc main_arg7) (ix3 1 k f)
  w3 k f := m ((c.tc : Thread nD τ).loc main_arg8) (ix3 1 k f)
  w2 f k := m ((c.tc : Thread nD τ).loc main_arg9) (ix3 1 f k)

theorem ixw0 : ∀ t : Fin grid0.N, ∀ a, win0_0.index t a = (![t.val, 0] : Fin 2 → ℕ) a := by decide +kernel
theorem ixw1 : ∀ t : Fin grid0.N, ∀ a, win0_1.index t a = (![2, 0, 0] : Fin 3 → ℕ) a := by decide +kernel
theorem ixw2 : ∀ t : Fin grid0.N, ∀ a, win0_2.index t a = (![2, 0, 0] : Fin 3 → ℕ) a := by decide +kernel
theorem ixw3 : ∀ t : Fin grid0.N, ∀ a, win0_3.index t a = (![2, 0, 0] : Fin 3 → ℕ) a := by decide +kernel
theorem ixw4 : ∀ t : Fin grid0.N, ∀ a, win0_4.index t a = (![0, 0, 0, 0] : Fin 4 → ℕ) a := by decide +kernel
theorem ixw5 : ∀ t : Fin grid0.N, ∀ a, win0_5.index t a = (![1, 0, 0, 0] : Fin 4 → ℕ) a := by decide +kernel
theorem ixw6 : ∀ t : Fin grid0.N, ∀ a, win0_6.index t a = (![1, 0, 0] : Fin 3 → ℕ) a := by decide +kernel
theorem ixw7 : ∀ t : Fin grid0.N, ∀ a, win0_7.index t a = (![1, 0, 0] : Fin 3 → ℕ) a := by decide +kernel
theorem ixw8 : ∀ t : Fin grid0.N, ∀ a, win0_8.index t a = (![1, 0, 0] : Fin 3 → ℕ) a := by decide +kernel
theorem ixw9 : ∀ t : Fin grid0.N, ∀ a, win0_9.index t a = (![1, 0, 0] : Fin 3 → ℕ) a := by decide +kernel
theorem ixw10 : ∀ t : Fin grid0.N, ∀ a, win0_10.index t a = (![t.val, 0] : Fin 2 → ℕ) a := by decide +kernel
theorem covers10 : (cfg0.win 10).Covers := by decide +kernel

variable (t : Fin grid0.N)

theorem blk0 (y : S512x1024.Idx) (j : S33280x1024.Idx) (h0 : (j 0).val = t.val * 512 + (y 0).val) (h1 : (j 1).val = (y 1).val) :
    iblk m c 0 t y = m ((c.tc : Thread nD τ).loc main_arg0) j := by
  refine congrArg (m ((c.tc : Thread nD τ).loc main_arg0)) (funext fun a => Fin.ext ?_)
  match a with
  | ⟨0, _⟩ => show win0_0.index t 0 * 512 + 1 * (y 0).val = (j 0).val; rw [ixw0 t 0, h0]; show t.val * 512 + _ = _; omega
  | ⟨1, _⟩ => show win0_0.index t 1 * 1024 + 1 * (y 1).val = (j 1).val; rw [ixw0 t 1, h1]; show 0 * 1024 + _ = _; omega

theorem blk1 (y : S1x8x6144.Idx) (j : S4x8x6144.Idx) (h0 : (j 0).val = 2) (h1 : (j 1).val = (y 1).val) (h2 : (j 2).val = (y 2).val) :
    iblk m c 1 t y = m ((c.tc : Thread nD τ).loc main_arg1) j := by
  refine congrArg (m ((c.tc : Thread nD τ).loc main_arg1)) (funext fun a => Fin.ext ?_)
  have y0 : (y 0).val < 1 := (y 0).isLt
  match a with
  | ⟨0, _⟩ => show win0_1.index t 0 * 1 + 1 * (y 0).val = (j 0).val; rw [ixw1 t 0, h0]; show 2 * 1 + _ = _; omega
  | ⟨1, _⟩ => show win0_1.index t 1 * 8 + 1 * (y 1).val = (j 1).val; rw [ixw1 t 1, h1]; show 0 * 8 + _ = _; omega
  | ⟨2, _⟩ => show win0_1.index t 2 * 6144 + 1 * (y 2).val = (j 2).val; rw [ixw1 t 2, h2]; show 0 * 6144 + _ = _; omega

theorem blk2 (y : S1x1x1024.Idx) (j : S4x1x1024.Idx) (h0 : (j 0).val = 2) (h1 : (j 1).val = (y 1).val) (h2 : (j 2).val = (y 2).val) :
    iblk m c 2 t y = m ((c.tc : Thread nD τ).loc main_arg2) j := by
  refine congrArg (m ((c.tc : Thread nD τ).loc main_arg2)) (funext fun a => Fin.ext ?_)
  have y0 : (y 0).val < 1 := (y 0).isLt
  match a with
  | ⟨0, _⟩ => show win0_2.index t 0 * 1 + 1 * (y 0).val = (j 0).val; rw [ixw2 t 0, h0]; show 2 * 1 + _ = _; omega
  | ⟨1, _⟩ => show win0_2.index t 1 * 1 + 1 * (y 1).val = (j 1).val; rw [ixw2 t 1, h1]; show 0 * 1 + _ = _; omega
  | ⟨2, _⟩ => show win0_2.index t 2 * 1024 + 1 * (y 2).val = (j 2).val; rw [ixw2 t 2, h2]; show 0 * 1024 + _ = _; omega

theorem blk3 (y : S1x1x1024.Idx) (j : S4x1x1024.Idx) (h0 : (j 0).val = 2) (h1 : (j 1).val = (y 1).val) (h2 : (j 2).val = (y 2).val) :
    iblk m c 3 t y = m ((c.tc : Thread nD τ).loc main_arg3) j := by
  refine congrArg (m ((c.tc : Thread nD τ).loc main_arg3)) (funext fun a => Fin.ext ?_)
  have y0 : (y 0).val < 1 := (y 0).isLt
  match a with
  | ⟨0, _⟩ => show win0_3.index t 0 * 1 + 1 * (y 0).val = (j 0).val; rw [ixw3 t 0, h0]; show 2 * 1 + _ = _; omega
  | ⟨1, _⟩ => show win0_3.index t 1 * 1 + 1 * (y 1).val = (j 1).val; rw [ixw3 t 1, h1]; show 0 * 1 + _ = _; omega
  | ⟨2, _⟩ => show win0_3.index t 2 * 1024 + 1 * (y 2).val = (j 2).val; rw [ixw3 t 2, h2]; show 0 * 1024 + _ = _; omega

theorem blk4 (y : S2x4x256x768.Idx) (j : S2x4x256x768.Idx) (h0 : (j 0).val = (y 0).val) (h1 : (j 1).val = (y 1).val) (h2 : (j 2).val = (y 2).val) (h3 : (j 3).val = (y 3).val) :
    iblk m c 4 t y = m ((c.tc : Thread nD τ).loc main_arg4) j := by
  refine congrArg (m ((c.tc : Thread nD τ).loc main_arg4)) (funext fun a => Fin.ext ?_)
  match a with
  | ⟨0, _⟩ => show win0_4.index t 0 * 2 + 1 * (y 0).val = (j 0).val; rw [ixw4 t 0, h0]; show 0 * 2 + _ = _; omega
  | ⟨1, _⟩ => show win0_4.index t 1 * 4 + 1 * (y 1).val = (j 1).val; rw [ixw4 t 1, h1]; show 0 * 4 + _ = _; omega
  | ⟨2, _⟩ => show win0_4.index t 2 * 256 + 1 * (y 2).val = (j 2).val; rw [ixw4 t 2, h2]; show 0 * 256 + _ = _; omega
  | ⟨3, _⟩ => show win0_4.index t 3 * 768 + 1 * (y 3).val = (j 3).val; rw [ixw4 t 3, h3]; show 0 * 768 + _ = _; omega

theorem blk5 (y : S1x4x256x256.Idx) (j : S2x4x256x256.Idx) (h0 : (j 0).val = 1) (h1 : (j 1).val = (y 1).val) (h2 : (j 2).val = (y 2).val) (h3 : (j 3).val = (y 3).val) :
    iblk m c 5 t y = m ((c.tc : Thread nD τ).loc main_arg5) j := by
  refine congrArg (m ((c.tc : Thread nD τ).loc main_arg5)) (funext fun a => Fin.ext ?_)
  have y0 : (y 0).val < 1 := (y 0).isLt
  match a with
  | ⟨0, _⟩ => show win0_5.index t 0 * 1 + 1 * (y 0).val = (j 0).val; rw [ixw5 t 0, h0]; show 1 * 1 + _ = _; omega
  | ⟨1, _⟩ => show win0_5.index t 1 * 4 + 1 * (y 1).val = (j 1).val; rw [ixw5 t 1, h1]; show 0 * 4 + _ = _; omega
  | ⟨2, _⟩ => show win0_5.index t 2 * 256 + 1 * (y 2).val = (j 2).val; rw [ixw5 t 2, h2]; show 0 * 256 + _ = _; omega
  | ⟨3, _⟩ => show win0_5.index t 3 * 256 + 1 * (y 3).val = (j 3).val; rw [ixw5 t 3, h3]; show 0 * 256 + _ = _; omega

theorem blk6 (y : S1x1x1024.Idx) (j : S2x1x1024.Idx) (h0 : (j 0).val = 1) (h1 : (j 1).val = (y 1).val) (h2 : (j 2).val = (y 2).val) :
    iblk m c 6 t y = m ((c.tc : Thread nD τ).loc main_arg6) j := by
  refine congrArg (m ((c.tc : Thread nD τ).loc main_arg6)) (funext fun a => Fin.ext ?_)
  have y0 : (y 0).val < 1 := (y 0).isLt
  match a with
  | ⟨0, _⟩ => show win0_6.index t 0 * 1 + 1 * (y 0).val = (j 0).val; rw [ixw6 t 0, h0]; show 1 * 1 + _ = _; omega
  | ⟨1, _⟩ => show win0_6.index t 1 * 1 + 1 * (y 1).val = (j 1).val; rw [ixw6 t 1, h1]; show 0 * 1 + _ = _; omega
  | ⟨2, _⟩ => show win0_6.index t 2 * 1024 + 1 * (y 2).val = (j 2).val; rw [ixw6 t 2, h2]; show 0 * 1024 + _ = _; omega

theorem blk7 (y : S1x1024x2816.Idx) (j : S2x1024x2816.Idx) (h0 : (j 0).val = 1) (h1 : (j 1).val = (y 1).val) (h2 : (j 2).val = (y 2).val) :
    iblk m c 7 t y = m ((c.tc : Thread nD τ).loc main_arg7) j := by
  refine congrArg (m ((c.tc : Thread nD τ).loc main_arg7)) (funext fun a => Fin.ext ?_)
  have y0 : (y 0).val < 1 := (y 0).isLt
  match a with
  | ⟨0, _⟩ => show win0_7.index t 0 * 1 + 1 * (y 0).val = (j 0).val; rw [ixw7 t 0, h0]; show 1 * 1 + _ = _; omega
  | ⟨1, _⟩ => show win0_7.index t 1 * 1024 + 1 * (y 1).val = (j 1).val; rw [ixw7 t 1, h1]; show 0 * 1024 + _ = _; omega
  | ⟨2, _⟩ => show win0_7.index t 2 * 2816 + 1 * (y 2).val = (j 2).val; rw [ixw7 t 2, h2]; show 0 * 2816 + _ = _; omega

theorem blk8 (y : S1x1024x2816.Idx) (j : S2x1024x2816.Idx) (h0 : (j 0).val = 1) (h1 : (j 1).val = (y 1).val) (h2 : (j 2).val = (y 2).val) :
    iblk m c 8 t y = m ((c.tc : Thread nD τ).loc main_arg8) j := by
  refine congrArg (m ((c.tc : Thread nD τ).loc main_arg8)) (funext fun a => Fin.ext ?_)
  have y0 : (y 0).val < 1 := (y 0).isLt
  match a with
  | ⟨0, _⟩ => show win0_8.index t 0 * 1 + 1 * (y 0).val = (j 0).val; rw [ixw8 t 0, h0]; show 1 * 1 + _ = _; omega
  | ⟨1, _⟩ => show win0_8.index t 1 * 1024 + 1 * (y 1).val = (j 1).val; rw [ixw8 t 1, h1]; show 0 * 1024 + _ = _; omega
  | ⟨2, _⟩ => show win0_8.index t 2 * 2816 + 1 * (y 2).val = (j 2).val; rw [ixw8 t 2, h2]; show 0 * 2816 + _ = _; omega

theorem blk9 (y : S1x2816x1024.Idx) (j : S2x2816x1024.Idx) (h0 : (j 0).val = 1) (h1 : (j 1).val = (y 1).val) (h2 : (j 2).val = (y 2).val) :
    iblk m c 9 t y = m ((c.tc : Thread nD τ).loc main_arg9) j := by
  refine congrArg (m ((c.tc : Thread nD τ).loc main_arg9)) (funext fun a => Fin.ext ?_)
  have y0 : (y 0).val < 1 := (y 0).isLt
  match a with
  | ⟨0, _⟩ => show win0_9.index t 0 * 1 + 1 * (y 0).val = (j 0).val; rw [ixw9 t 0, h0]; show 1 * 1 + _ = _; omega
  | ⟨1, _⟩ => show win0_9.index t 1 * 2816 + 1 * (y 1).val = (j 1).val; rw [ixw9 t 1, h1]; show 0 * 2816 + _ = _; omega
  | ⟨2, _⟩ => show win0_9.index t 2 * 1024 + 1 * (y 2).val = (j 2).val; rw [ixw9 t 2, h2]; show 0 * 1024 + _ = _; omega

/-- What a point's windows hold. -/
theorem held : Held (iblk m c 0 t) (iblk m c 1 t) (iblk m c 2 t) (iblk m c 3 t) (iblk m c 4 t) (iblk m c 5 t) (iblk m c 6 t) (iblk m c 7 t) (iblk m c 8 t) (iblk m c 9 t) (args m c) t where
  h s i k := blk0 m c t _ (ix2 (rowOf (blockNo t s) i) k) (by show (t.val * 2 + s.val) * 256 + i.val = t.val * 512 + (s.val * 256 + i.val); omega) rfl
  tbl q j := blk1 m c t _ (ix3 2 q j) rfl rfl rfl
  nw1 k := blk2 m c t _ (ix3 2 0 k) rfl rfl rfl
  nw2 k := blk3 m c t _ (ix3 2 0 k) rfl rfl rfl
  avg a g i s := blk4 m c t _ (ix4 a g i s) rfl rfl rfl rfl
  pw g c' o := blk5 m c t _ (ix4 1 g c' o) rfl rfl rfl rfl
  ps k := blk6 m c t _ (ix3 1 0 k) rfl rfl rfl
  w1 k f := blk7 m c t _ (ix3 1 k f) rfl rfl rfl
  w3 k f := blk8 m c t _ (ix3 1 k f) rfl rfl rfl
  w2 f k := blk9 m c t _ (ix3 1 f k) rfl rfl rfl

/-- A point's block, as a part of the result. -/
theorem block_eq (D : EvenArgs) (y : S512x1024.Idx) (j : S33280x1024.Idx) (h0 : (j 0).val = t.val * 512 + (y 0).val) (h1 : (j 1).val = (y 1).val) :
    blockOut D t y = Cert.Reference4Ideal.Even.outAll D (j 0) (j 1) := by
  have hy : (y 0).val < 512 := (y 0).isLt
  have ht : t.val < 65 := t.isLt
  unfold blockOut Cert.Reference4Ideal.Even.outAll
  have e0 : (⟨t.val * 2 + (y 0).val / 256, by omega⟩ : Fin 130) = ⟨(j 0).val / 256, by rw [h0]; omega⟩ := Fin.ext (by show t.val * 2 + (y 0).val / 256 = (j 0).val / 256; rw [h0]; omega)
  have e1 : (⟨(y 0).val % 256, Nat.mod_lt _ (by decide)⟩ : Fin 256) = ⟨(j 0).val % 256, Nat.mod_lt _ (by decide)⟩ := Fin.ext (by show (y 0).val % 256 = (j 0).val % 256; rw [h0]; omega)
  have e2 : (y 1 : Fin 1024) = j 1 := Fin.ext h1.symm
  exact (congrArg (fun z => D.out z _ _) e0).trans ((congrArg (fun z => D.out _ z _) e1).trans (congrArg (fun z => D.out _ _ z) e2))

theorem final (hD : (args m c).Finite) : (dats m 0 c).arrAt 10 cfg0.N = fun j : S33280x1024.Idx => Cert.Reference4Ideal.Even.outAll (args m c) (j 0) (j 1) := by
  refine (dats m 0 c).arrAt_eq_of_covers 10 _ covers10 (fun t hf y => ?_) (Memref.isWhole_whole _)
  refine Eq.trans ?_ (block_eq t (args m c) y _ ?_ ?_)
  · show (dats m 0 c).flushed 10 t y = _
    rw [Cert.Kernel4Ideal.Value.flushed10_A m c t]
    exact out_eq _ _ _ _ _ _ _ _ _ _ _ _ _ _ _ _ _ _ _ _ _ _ _ (held m c t) hD y
  · show win0_10.index t 0 * 512 + 1 * (y 0).val = _
    rw [ixw10 t 0]; show t.val * 512 + _ = _; omega
  · show win0_10.index t 1 * 1024 + 1 * (y 1).val = _
    rw [ixw10 t 1]; show 0 * 1024 + _ = _; omega

omit c in
/-- The precondition, read at every entry. -/
theorem finite_of_pre (h : Cert.Pre_Kernel4Ideal_mods_finite (hPre_mods_finite := Cert.Pre_mods_finite.Gen.facts) m) (c : Dev nD) : (args m c).Finite := by
  have and_one : ∀ a b : BitVec 1, IntOp.andi a b = 1#1 ↔ a = 1#1 ∧ b = 1#1 := by decide
  have e := congrFun (h c) (fun a => a.elim0)
  simp only [Pre_mods_finite.fn, andi, and_one] at e
  obtain ⟨e0, e1⟩ := e
  refine ⟨fun k => ?_, fun q j hj => ?_⟩
  · have f := (Ideal.cmp_olt_eq_one _ _).1 (Host.reduce_andi_all _ _ _ _ _ e1 (ix1 k))
    refine fin_of_abs_lt (lt_of_eq_of_lt ?_ (lt_of_lt_of_eq f inf_top))
    refine Eq.symm ?_
    pointwise
    rfl
  · have f := (Ideal.cmp_olt_eq_one _ _).1 (Host.reduce_andi_all _ _ _ _ _ e0 (ix2 q ⟨j.val, hj⟩))
    refine fin_of_abs_lt (lt_of_eq_of_lt ?_ (lt_of_lt_of_eq f inf_top))
    refine Eq.symm ?_
    pointwise
    rfl

end Cert.Kernel4Ideal.Even

end

noncomputable section

namespace Cert.Even

open Idealize.ShloMosaic
open Idealize.ShloMosaic.TcCoe Idealize.ShloMosaic.Tactic
open Idealize.SL Idealize.SL.Sem

/-- Both programs run, and end with equal results. -/
theorem algebraic : Cert.algebraic_Kernel4Ideal_Reference4Ideal_pre_mods_finite (hKernel4Ideal := Cert.Kernel4Ideal.Gen.facts) (hReference4Ideal := Cert.Reference4Ideal.Gen.facts)
    (hPre_mods_finite := Cert.Pre_mods_finite.Gen.facts) := by
  intro m g m' g' hpre hagree
  refine ⟨fun c => (Cert.Kernel4Ideal.Gen.dats m 0 c).arrAt 10 Cert.Kernel4Ideal.cfg0.N, Cert.Kernel4Ideal.Value.run_blocks (F := Ideal) m g, ?_⟩
  refine (θ_run Cert.Reference4Ideal.defs _ _).mono (fun r h c => ⟨(h c).1.trans ?_, (h c).2⟩) (Cert.Reference4Ideal.Even.run_rows m' g')
  obtain ⟨a0, a1, a2, a3, a4, a5, a6, a7, a8, a9⟩ := hagree c
  refine Eq.trans (funext fun j => ?_) (Cert.Kernel4Ideal.Even.final m c (Cert.Kernel4Ideal.Even.finite_of_pre m hpre c)).symm
  have e : Cert.Reference4Ideal.Even.args (StableHlo.launchContents m' c) = Cert.Kernel4Ideal.Even.args m c := by
    unfold Cert.Reference4Ideal.Even.args Cert.Kernel4Ideal.Even.args
    rw [Cert.Rows.EvenArgs.mk.injEq]
    exact ⟨funext fun _ => funext fun _ => congrFun a0 _, funext fun _ => funext fun _ => congrFun a1 _, funext fun _ => congrFun a2 _, funext fun _ => congrFun a3 _,
      funext fun _ => funext fun _ => funext fun _ => funext fun _ => congrFun a4 _, funext fun _ => funext fun _ => funext fun _ => congrFun a5 _, funext fun _ => congrFun a6 _,
      funext fun _ => funext fun _ => congrFun a7 _, funext fun _ => funext fun _ => congrFun a8 _, funext fun _ => funext fun _ => congrFun a9 _⟩
  exact congrArg (fun D => Cert.Reference4Ideal.Even.outAll D (j 0) (j 1)) e

/-- The reference runs, leaves its arguments, and has no counters. -/
theorem reference_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m g)

end Cert.Even

end
-- ==== Proof.Even0Block.lean ====
/- The first pooling layer's block, written with the other pooling layer's. -/
module

public import proofs.«01_k».proof.Proof.EvenRows
public import proofs.«01_k».proof.Proof.EvenBlock
public import proofs.«01_k».proof.Proof.Gen.Kernel5Ideal.Value

@[expose] public section

set_option maxRecDepth 16384
set_option Elab.async false

noncomputable section

namespace Cert.Kernel5Ideal.Even0

open Cert.Kernel5Ideal Cert.Kernel5Ideal.Gen
open Idealize.ShloMosaic
open Idealize.ShloMosaic.TcCoe Idealize.ShloMosaic.Tactic
open Idealize.SL Idealize.SL.Sem
open Cert.Rows

section
variable (i : grid0.Coords) (v : BitVec 32) (cx lt : FVec Ideal S1x256x1024 .f32) (w sc sh ps gt w' sc' sh' : FVec Ideal S1x1x1024 .f32) (a : Fin 4 → FVec Ideal S1x1x256x768 .bf16)
  (p : Fin 4 → FVec Ideal S1x1x256x256 .bf16)

/-- The first 256 rows after the mix. -/
theorem first_eq : k0_pay15 (F := Ideal) (k0_pay2 i cx lt) (k0_pay6 (k0_pay2 i cx lt) (k0_pay3 w) (k0_pay4 i cx lt) sc sh (a 0) (p 0))
      (k0_pay11 (k0_pay7 (k0_pay2 i cx lt) (k0_pay3 w) (k0_pay4 i cx lt) sc sh) (k0_pay8 (k0_pay2 i cx lt) (k0_pay3 w) (k0_pay4 i cx lt) sc sh) (k0_pay9 (k0_pay2 i cx lt) (k0_pay3 w) (k0_pay4 i cx lt) sc sh) (k0_pay10 (a 1)) (p 1))
      (k0_pay12 (k0_pay5 (k0_pay2 i cx lt) (k0_pay3 w) (k0_pay4 i cx lt) sc sh) (a 2) (p 2)) (k0_pay13 (k0_pay5 (k0_pay2 i cx lt) (k0_pay3 w) (k0_pay4 i cx lt) sc sh) (a 3)) (k0_pay14 (p 3)) (constant S256x256 .f32 0x00000000#32) ps gt
    = Cert.Kernel4Ideal.Gen.k0_pay8 (F := Ideal) (k0_pay2 (F := Ideal) i cx lt) (Cert.Kernel4Ideal.Even.firstMix (k0_pay2 (F := Ideal) i cx lt) w sc sh a p) (Cert.Kernel4Ideal.Gen.k0_pay7 ps) gt := rfl

/-- Their second norms. -/
theorem firstNorm_eq : k0_pay16 (F := Ideal) (k0_pay2 i cx lt) (k0_pay6 (k0_pay2 i cx lt) (k0_pay3 w) (k0_pay4 i cx lt) sc sh (a 0) (p 0))
      (k0_pay11 (k0_pay7 (k0_pay2 i cx lt) (k0_pay3 w) (k0_pay4 i cx lt) sc sh) (k0_pay8 (k0_pay2 i cx lt) (k0_pay3 w) (k0_pay4 i cx lt) sc sh) (k0_pay9 (k0_pay2 i cx lt) (k0_pay3 w) (k0_pay4 i cx lt) sc sh) (k0_pay10 (a 1)) (p 1))
      (k0_pay12 (k0_pay5 (k0_pay2 i cx lt) (k0_pay3 w) (k0_pay4 i cx lt) sc sh) (a 2) (p 2)) (k0_pay13 (k0_pay5 (k0_pay2 i cx lt) (k0_pay3 w) (k0_pay4 i cx lt) sc sh) (a 3)) (k0_pay14 (p 3)) (constant S256x256 .f32 0x00000000#32) ps gt w' sc' sh'
    = Cert.Kernel4Ideal.Gen.k0_pay9 (F := Ideal) (k0_pay2 (F := Ideal) i cx lt) (Cert.Kernel4Ideal.Even.firstMix (k0_pay2 (F := Ideal) i cx lt) w sc sh a p) (Cert.Kernel4Ideal.Gen.k0_pay7 ps) gt w' sc' sh' := rfl

/-- The last 256 rows after the mix. -/
theorem last_eq : k0_pay24 (F := Ideal) (k0_pay17 v 65#32 cx lt) (k0_pay23 (k0_pay20 (k0_pay18 w) (k0_pay19 v 65#32 cx lt) sc sh) (k0_pay21 (k0_pay18 w) (k0_pay19 v 65#32 cx lt) sc sh (a 0) (p 0)) (k0_pay22 (k0_pay18 w) (k0_pay19 v 65#32 cx lt) sc sh (a 1)) (p 1) (a 2) (p 2) (a 3) (p 3)) ps gt = Cert.Kernel4Ideal.Even.lastMix (k0_pay17 (F := Ideal) v 65#32 cx lt) w sc sh ps gt a p := rfl

/-- The second norms of both halves. -/
theorem norms_eq (N : FVec Ideal S256x1024 .bf16) : k0_pay25 (F := Ideal) N (k0_pay17 v 65#32 cx lt) (k0_pay23 (k0_pay20 (k0_pay18 w) (k0_pay19 v 65#32 cx lt) sc sh) (k0_pay21 (k0_pay18 w) (k0_pay19 v 65#32 cx lt) sc sh (a 0) (p 0)) (k0_pay22 (k0_pay18 w) (k0_pay19 v 65#32 cx lt) sc sh (a 1)) (p 1) (a 2) (p 2) (a 3) (p 3)) ps gt w' sc' sh'
    = Cert.Kernel4Ideal.Gen.k0_pay19 (F := Ideal) N (Cert.Kernel4Ideal.Even.lastMix (k0_pay17 (F := Ideal) v 65#32 cx lt) w sc sh ps gt a p) (Cert.Kernel4Ideal.Gen.k0_pay18 w') sc' sh' := rfl

/-- The first chunk's gate. -/
theorem gate0_eq (N : FVec Ideal S256x1024 .bf16) (X M : FVec Ideal S256x1024 .f32) (g : FVec Ideal S1x1024x512 .bf16) : k0_pay26 (F := Ideal) N X M ps gt w' sc' sh' g
    = Cert.Kernel4Ideal.Gen.k0_pay24 (F := Ideal) (k0_pay25 (F := Ideal) N X M ps gt w' sc' sh') g := rfl
end

section
variable (V : FVec Ideal S512x1024 .bf16) (g0 g1 g2 g3 g4 u0 u1 u2 u3 u4 : FVec Ideal S1x1024x512 .bf16) (g5 u5 : FVec Ideal S1x1024x256 .bf16)
  (c0 c1 c2 c3 c4 : FVec Ideal S1x512x1024 .bf16) (c5 : FVec Ideal S1x256x1024 .bf16)

/-- The gated linear layer. -/
theorem layer_eq : k0_pay42 (F := Ideal) (k0_pay38 V g5) (k0_pay39 V u5)
      (k0_pay40 V (k0_pay33 V g3) (k0_pay34 V u3)
        (k0_pay35 (k0_pay27 V g1) (k0_pay28 V u1) (k0_pay29 V (Cert.Kernel4Ideal.Gen.k0_pay24 (F := Ideal) V g0) u0 c0) (k0_pay30 V g2) (k0_pay31 V u2) (k0_pay32 V g1) (Scalar.ofBits .f32 0x3F800000#32) c1 c2)
        (k0_pay36 V g4) (k0_pay37 u4) c3 c4) k0_pay41 c5
    = Cert.Kernel4Ideal.Gen.k0_pay34 (F := Ideal) (Cert.Kernel4Ideal.Even.acc4 V g0 g1 g2 g3 g4 u0 u1 u2 u3 u4 c0 c1 c2 c3 c4) (Cert.Kernel4Ideal.Gen.k0_pay32 V g5 u5) (Cert.Kernel4Ideal.Gen.k0_pay33 c5) := rfl
end

section
variable {D : EvenArgs} {b : Fin 130} {i : grid0.Coords} {v : BitVec 32} {cx lt : FVec Ideal S1x256x1024 .f32} {w sc sh ps gt w' sc' sh' : FVec Ideal S1x1x1024 .f32} {a : Fin 4 → FVec Ideal S1x1x256x768 .bf16}
  {p : Fin 4 → FVec Ideal S1x1x256x256 .bf16}

theorem h1_first (L : Cert.Kernel4Ideal.Even.Loaded D b (k0_pay2 (F := Ideal) i cx lt) w sc sh ps gt a p) (hD : D.Finite) (r : Fin 256) (k : Fin 1024) : k0_pay15 (F := Ideal) (k0_pay2 i cx lt) (k0_pay6 (k0_pay2 i cx lt) (k0_pay3 w) (k0_pay4 i cx lt) sc sh (a 0) (p 0))
      (k0_pay11 (k0_pay7 (k0_pay2 i cx lt) (k0_pay3 w) (k0_pay4 i cx lt) sc sh) (k0_pay8 (k0_pay2 i cx lt) (k0_pay3 w) (k0_pay4 i cx lt) sc sh) (k0_pay9 (k0_pay2 i cx lt) (k0_pay3 w) (k0_pay4 i cx lt) sc sh) (k0_pay10 (a 1)) (p 1))
      (k0_pay12 (k0_pay5 (k0_pay2 i cx lt) (k0_pay3 w) (k0_pay4 i cx lt) sc sh) (a 2) (p 2)) (k0_pay13 (k0_pay5 (k0_pay2 i cx lt) (k0_pay3 w) (k0_pay4 i cx lt) sc sh) (a 3)) (k0_pay14 (p 3)) (constant S256x256 .f32 0x00000000#32) ps gt (ix2 r k) = D.h1 b r k := by
  rw [first_eq]
  exact L.h1_first hD r k

theorem v_first (L : Cert.Kernel4Ideal.Even.Loaded D b (k0_pay2 (F := Ideal) i cx lt) w sc sh ps gt a p) (hD : D.Finite) (hw : ∀ k, w' (ix3 0 0 k) = D.nw2 k) (hs : ∀ k, sc' (ix3 0 0 k) = D.modc 4096 (by decide) b k)
    (hh : ∀ k, sh' (ix3 0 0 k) = D.modc 3072 (by decide) b k) (r : Fin 256) (k : Fin 1024) : k0_pay16 (F := Ideal) (k0_pay2 i cx lt) (k0_pay6 (k0_pay2 i cx lt) (k0_pay3 w) (k0_pay4 i cx lt) sc sh (a 0) (p 0))
      (k0_pay11 (k0_pay7 (k0_pay2 i cx lt) (k0_pay3 w) (k0_pay4 i cx lt) sc sh) (k0_pay8 (k0_pay2 i cx lt) (k0_pay3 w) (k0_pay4 i cx lt) sc sh) (k0_pay9 (k0_pay2 i cx lt) (k0_pay3 w) (k0_pay4 i cx lt) sc sh) (k0_pay10 (a 1)) (p 1))
      (k0_pay12 (k0_pay5 (k0_pay2 i cx lt) (k0_pay3 w) (k0_pay4 i cx lt) sc sh) (a 2) (p 2)) (k0_pay13 (k0_pay5 (k0_pay2 i cx lt) (k0_pay3 w) (k0_pay4 i cx lt) sc sh) (a 3)) (k0_pay14 (p 3)) (constant S256x256 .f32 0x00000000#32) ps gt w' sc' sh' (ix2 r k) = D.v b r k := by
  rw [firstNorm_eq]
  exact L.v_first _ _ _ hD hw hs hh r k

theorem h1_last (L : Cert.Kernel4Ideal.Even.Loaded D b (k0_pay17 (F := Ideal) v 65#32 cx lt) w sc sh ps gt a p) (hD : D.Finite) (r : Fin 256) (k : Fin 1024) : k0_pay24 (F := Ideal) (k0_pay17 v 65#32 cx lt) (k0_pay23 (k0_pay20 (k0_pay18 w) (k0_pay19 v 65#32 cx lt) sc sh) (k0_pay21 (k0_pay18 w) (k0_pay19 v 65#32 cx lt) sc sh (a 0) (p 0)) (k0_pay22 (k0_pay18 w) (k0_pay19 v 65#32 cx lt) sc sh (a 1)) (p 1) (a 2) (p 2) (a 3) (p 3)) ps gt (ix2 r k) = D.h1 b r k := by
  rw [last_eq]
  exact L.h1_last hD r k

theorem v_upper (L : Cert.Kernel4Ideal.Even.Loaded D b (k0_pay17 (F := Ideal) v 65#32 cx lt) w sc sh ps gt a p) (N : FVec Ideal S256x1024 .bf16) (r : Fin 256) (k : Fin 1024) :
    k0_pay25 (F := Ideal) N (k0_pay17 v 65#32 cx lt) (k0_pay23 (k0_pay20 (k0_pay18 w) (k0_pay19 v 65#32 cx lt) sc sh) (k0_pay21 (k0_pay18 w) (k0_pay19 v 65#32 cx lt) sc sh (a 0) (p 0)) (k0_pay22 (k0_pay18 w) (k0_pay19 v 65#32 cx lt) sc sh (a 1)) (p 1) (a 2) (p 2) (a 3) (p 3)) ps gt w' sc' sh' (ix2 ⟨0 + r.val, by omega⟩ k) = N (ix2 r k) := by
  rw [norms_eq]
  exact Cert.Kernel4Ideal.Even.v_upper _ _ _ r k _ _

theorem v_last (L : Cert.Kernel4Ideal.Even.Loaded D b (k0_pay17 (F := Ideal) v 65#32 cx lt) w sc sh ps gt a p) (hD : D.Finite) (hw : ∀ k, w' (ix3 0 0 k) = D.nw2 k) (hs : ∀ k, sc' (ix3 0 0 k) = D.modc 4096 (by decide) b k)
    (hh : ∀ k, sh' (ix3 0 0 k) = D.modc 3072 (by decide) b k) (N : FVec Ideal S256x1024 .bf16) (r : Fin 256) (k : Fin 1024) :
    k0_pay25 (F := Ideal) N (k0_pay17 v 65#32 cx lt) (k0_pay23 (k0_pay20 (k0_pay18 w) (k0_pay19 v 65#32 cx lt) sc sh) (k0_pay21 (k0_pay18 w) (k0_pay19 v 65#32 cx lt) sc sh (a 0) (p 0)) (k0_pay22 (k0_pay18 w) (k0_pay19 v 65#32 cx lt) sc sh (a 1)) (p 1) (a 2) (p 2) (a 3) (p 3)) ps gt w' sc' sh' (ix2 ⟨256 + r.val, by omega⟩ k) = D.v b r k := by
  rw [norms_eq]
  exact L.v_last _ _ _ hD hw hs hh N r k
end

section
variable (V : FVec Ideal S512x1024 .bf16) (g0 g1 g2 g3 g4 u0 u1 u2 u3 u4 : FVec Ideal S1x1024x512 .bf16) (g5 u5 : FVec Ideal S1x1024x256 .bf16)
  (c0 c1 c2 c3 c4 : FVec Ideal S1x512x1024 .bf16) (c5 : FVec Ideal S1x256x1024 .bf16)

/-- The gated linear layer's sum, from chunks that lie in the whole weights. -/
theorem layer_at (v : Fin 1024 → EReal) (w1 w3 : Fin 1024 → Fin 2816 → EReal) (w2 : Fin 2816 → Fin 1024 → EReal) (i : Fin 512) (l : Fin 1024)
    (hv : ∀ k, V (ix2 i k) = v k)
    (hg0 : ∀ k f, g0 (ix3 0 k f) = w1 k ⟨0 + f.val, by omega⟩) (hg1 : ∀ k f, g1 (ix3 0 k f) = w1 k ⟨512 + f.val, by omega⟩)
    (hg2 : ∀ k f, g2 (ix3 0 k f) = w1 k ⟨1024 + f.val, by omega⟩) (hg3 : ∀ k f, g3 (ix3 0 k f) = w1 k ⟨1536 + f.val, by omega⟩)
    (hg4 : ∀ k f, g4 (ix3 0 k f) = w1 k ⟨2048 + f.val, by omega⟩) (hg5 : ∀ k f, g5 (ix3 0 k f) = w1 k ⟨2560 + f.val, by omega⟩)
    (hu0 : ∀ k f, u0 (ix3 0 k f) = w3 k ⟨0 + f.val, by omega⟩) (hu1 : ∀ k f, u1 (ix3 0 k f) = w3 k ⟨512 + f.val, by omega⟩)
    (hu2 : ∀ k f, u2 (ix3 0 k f) = w3 k ⟨1024 + f.val, by omega⟩) (hu3 : ∀ k f, u3 (ix3 0 k f) = w3 k ⟨1536 + f.val, by omega⟩)
    (hu4 : ∀ k f, u4 (ix3 0 k f) = w3 k ⟨2048 + f.val, by omega⟩) (hu5 : ∀ k f, u5 (ix3 0 k f) = w3 k ⟨2560 + f.val, by omega⟩)
    (hc0 : ∀ f, c0 (ix3 0 f l) = w2 ⟨0 + f.val, by omega⟩ l) (hc1 : ∀ f, c1 (ix3 0 f l) = w2 ⟨512 + f.val, by omega⟩ l)
    (hc2 : ∀ f, c2 (ix3 0 f l) = w2 ⟨1024 + f.val, by omega⟩ l) (hc3 : ∀ f, c3 (ix3 0 f l) = w2 ⟨1536 + f.val, by omega⟩ l)
    (hc4 : ∀ f, c4 (ix3 0 f l) = w2 ⟨2048 + f.val, by omega⟩ l) (hc5 : ∀ f, c5 (ix3 0 f l) = w2 ⟨2560 + f.val, by omega⟩ l) :
    k0_pay42 (F := Ideal) (k0_pay38 V g5) (k0_pay39 V u5)
      (k0_pay40 V (k0_pay33 V g3) (k0_pay34 V u3)
        (k0_pay35 (k0_pay27 V g1) (k0_pay28 V u1) (k0_pay29 V (Cert.Kernel4Ideal.Gen.k0_pay24 (F := Ideal) V g0) u0 c0) (k0_pay30 V g2) (k0_pay31 V u2) (k0_pay32 V g1) (Scalar.ofBits .f32 0x3F800000#32) c1 c2)
        (k0_pay36 V g4) (k0_pay37 u4) c3 c4) k0_pay41 c5 (ix2 i l) = ffn v w1 w3 (fun f => w2 f l) := by
  rw [layer_eq]
  exact Cert.Kernel4Ideal.Even.acc_at V g0 g1 g2 g3 g4 u0 u1 u2 u3 u4 g5 u5 c0 c1 c2 c3 c4 c5 v w1 w3 w2 i l hv hg0 hg1 hg2 hg3 hg4 hg5 hu0 hu1 hu2 hu3 hu4 hu5 hc0 hc1 hc2 hc3 hc4 hc5
end

/-- The first store at one place. -/
theorem out_first_at (H : FVec Ideal S256x1024 .f32) (hg hu : FVec Ideal S512x256 .f32) (A : FVec Ideal S512x1024 .f32) (z : FVec Ideal S512x256 .f32) (w2 : FVec Ideal S1x256x1024 .bf16)
    (g : FVec Ideal S1x1x1024 .f32) (i : Fin 256) (l : Fin 1024) :
    k0_pay45 (F := Ideal) H (k0_pay43 g) (k0_pay44 hg hu A z w2) (ix2 i l) = H (ix2 i l) + g (ix3 0 0 l) * k0_pay42 (F := Ideal) hg hu A z w2 (ix2 ⟨0 + i.val, by omega⟩ l) := by
  generalize e : k0_pay42 (F := Ideal) hg hu A z w2 = Y
  have e' : k0_pay44 (F := Ideal) hg hu A z w2 = extractStridedSlice S256x1024 ![0, 0] Y slices_S512x1024_o0_0_S256x1024 := by rw [← e]; rfl
  rw [e']
  pointwise [k0_pay45, k0_pay43]

/-- The second store at one place. -/
theorem out_last_at (H : FVec Ideal S256x1024 .f32) (A : FVec Ideal S512x1024 .f32) (g : FVec Ideal S1x1x1024 .f32) (i : Fin 256) (l : Fin 1024) :
    k0_pay1 (F := Ideal) H (k0_pay46 g) (k0_pay47 A) (ix2 i l) = H (ix2 i l) + g (ix3 0 0 l) * A (ix2 ⟨256 + i.val, by omega⟩ l) := by
  pointwise [k0_pay1, k0_pay46, k0_pay47]

end Cert.Kernel5Ideal.Even0

end
-- ==== Proof.Even0Loads.lean ====
/- The first pooling layer's body: what its loads hold. -/
module

public import proofs.«01_k».proof.Proof.EvenRows
public import proofs.«01_k».proof.Proof.Even0Block

@[expose] public section

set_option maxRecDepth 16384
set_option Elab.async false

noncomputable section

namespace Cert.Kernel5Ideal.Even0

open Cert.Kernel5Ideal Cert.Kernel5Ideal.Gen
open Idealize.ShloMosaic
open Idealize.ShloMosaic.TcCoe Idealize.ShloMosaic.Tactic
open Idealize.SL Idealize.SL.Sem
open Cert.Rows
open Cert.Kernel4Ideal.Even (Loaded firstMix lastMix acc4)

/-- The number of the half block `s` of the block at point `t`. -/
def blockNo (t : Fin grid0.N) (s : Fin 2) : Fin 130 := ⟨t.val * 2 + s.val, by have : t.val < 65 := t.isLt; have := s.isLt; omega⟩

theorem off1_at : ∀ t : Fin grid0.N, ∀ s : Fin 2, k0_off1 (grid0.coords t) (BitVec.ofNat 32 s.val) = ![0, modRow (t.val * 512 + s.val * 256), 1024] := by decide +kernel
theorem off2_at : ∀ t : Fin grid0.N, ∀ s : Fin 2, k0_off2 (grid0.coords t) (BitVec.ofNat 32 s.val) = ![0, modRow (t.val * 512 + s.val * 256), 0] := by decide +kernel
theorem off7_at : ∀ t : Fin grid0.N, ∀ s : Fin 2, k0_off7 (grid0.coords t) (BitVec.ofNat 32 s.val) = ![0, modRow (t.val * 512 + s.val * 256), 2048] := by decide +kernel
theorem off8_at : ∀ t : Fin grid0.N, ∀ s : Fin 2, k0_off8 (grid0.coords t) (BitVec.ofNat 32 s.val) = ![0, modRow (t.val * 512 + s.val * 256), 4096] := by decide +kernel
theorem off9_at : ∀ t : Fin grid0.N, ∀ s : Fin 2, k0_off9 (grid0.coords t) (BitVec.ofNat 32 s.val) = ![0, modRow (t.val * 512 + s.val * 256), 3072] := by decide +kernel
theorem off10_at : ∀ t : Fin grid0.N, ∀ s : Fin 2, k0_off10 (grid0.coords t) (BitVec.ofNat 32 s.val) = ![0, modRow (t.val * 512 + s.val * 256), 5120] := by decide +kernel
theorem off3_at : ∀ t : Fin grid0.N, ∀ s : Fin 2, k0_off3 (grid0.coords t) (BitVec.ofNat 32 s.val) = ![(kindOf (blockNo t s)).val, 0, 0, 0] := by decide +kernel
theorem off4_at : ∀ t : Fin grid0.N, ∀ s : Fin 2, k0_off4 (grid0.coords t) (BitVec.ofNat 32 s.val) = ![(kindOf (blockNo t s)).val, 1, 0, 0] := by decide +kernel
theorem off5_at : ∀ t : Fin grid0.N, ∀ s : Fin 2, k0_off5 (grid0.coords t) (BitVec.ofNat 32 s.val) = ![(kindOf (blockNo t s)).val, 2, 0, 0] := by decide +kernel
theorem off6_at : ∀ t : Fin grid0.N, ∀ s : Fin 2, k0_off6 (grid0.coords t) (BitVec.ofNat 32 s.val) = ![(kindOf (blockNo t s)).val, 3, 0, 0] := by decide +kernel

/-- A block of the stream, its leading axis dropped. -/
def cast3 (x : FVec Ideal S1x256x1024 .f32) : FVec Ideal S256x1024 .f32 := shapeCast S256x1024 x shapeCasts_S1x256x1024_S256x1024

theorem cast_at (x : FVec Ideal S1x256x1024 .f32) (i : Fin 256) (k : Fin 1024) : cast3 x (ix2 i k) = x (ix3 0 i k) := by
  pointwise [cast3]

theorem kind_cases (b : Fin 130) : kindOf b = 0 ∨ kindOf b = 1 := by
  unfold kindOf
  split <;> simp

/-- Whether a half block is its sample's context, as the body decides it from the half block's number. -/
def isContext (v : BitVec 32) : BitVec 1 :=
  Scalar.cmpi .slt (Scalar.subi v (Scalar.muli (Scalar.select
    (Scalar.andi (Scalar.cmpi .ne (Scalar.subi (Scalar.extui (Scalar.cmpi .sgt v 0#32)) (Scalar.extui (Scalar.cmpi .slt v 0#32)) : BitVec 32) (Scalar.subi (Scalar.extui (Scalar.cmpi .sgt 65#32 0#32)) (Scalar.extui (Scalar.cmpi .slt 65#32 0#32))))
      (Scalar.cmpi .ne (Scalar.remsi v 65#32) 0#32))
    (Scalar.subi (Scalar.divsi v 65#32) 1#32) (Scalar.divsi v 65#32)) 65#32)) 1#32

theorem isContext0 : ∀ t : Fin grid0.N, isContext (Scalar.addi (Scalar.muli (BitVec.ofNat 32 (grid0.coords t 0).val) 2#32) 0#32) = BitVec.ofNat 1 (kindOf (blockNo t 0)).val := by decide +kernel
theorem isContext1 : ∀ t : Fin grid0.N, isContext (kernelRun0_A.sl.v154 (grid0.coords t)) = BitVec.ofNat 1 (kindOf (blockNo t 1)).val := by decide +kernel

theorem pick0 (t : Fin grid0.N) (cx lt : FVec Ideal S1x256x1024 .f32) :
    k0_pay2 (F := Ideal) (grid0.coords t) cx lt = Scalar.select (BitVec.ofNat 1 (kindOf (blockNo t 0)).val) (cast3 cx) (cast3 lt) :=
  (show k0_pay2 (F := Ideal) (grid0.coords t) cx lt = Scalar.select (isContext (Scalar.addi (Scalar.muli (BitVec.ofNat 32 (grid0.coords t 0).val) 2#32) 0#32)) (cast3 cx) (cast3 lt) from rfl).trans
    (by rw [isContext0])
theorem pick1 (t : Fin grid0.N) (cx lt : FVec Ideal S1x256x1024 .f32) :
    k0_pay17 (F := Ideal) (kernelRun0_A.sl.v154 (grid0.coords t)) 65#32 cx lt = Scalar.select (BitVec.ofNat 1 (kindOf (blockNo t 1)).val) (cast3 cx) (cast3 lt) :=
  (show k0_pay17 (F := Ideal) (kernelRun0_A.sl.v154 (grid0.coords t)) 65#32 cx lt = Scalar.select (isContext (kernelRun0_A.sl.v154 (grid0.coords t))) (cast3 cx) (cast3 lt) from rfl).trans
    (by rw [isContext1])
theorem pick0_latents (t : Fin grid0.N) (h : kindOf (blockNo t 0) = 0) (cx lt : FVec Ideal S1x256x1024 .f32) : k0_pay2 (F := Ideal) (grid0.coords t) cx lt = cast3 lt := by
  rw [pick0, h]
  rfl
theorem pick0_context (t : Fin grid0.N) (h : kindOf (blockNo t 0) = 1) (cx lt : FVec Ideal S1x256x1024 .f32) : k0_pay2 (F := Ideal) (grid0.coords t) cx lt = cast3 cx := by
  rw [pick0, h]
  rfl
theorem pick1_latents (t : Fin grid0.N) (h : kindOf (blockNo t 1) = 0) (cx lt : FVec Ideal S1x256x1024 .f32) : k0_pay17 (F := Ideal) (kernelRun0_A.sl.v154 (grid0.coords t)) 65#32 cx lt = cast3 lt := by
  rw [pick1, h]
  rfl
theorem pick1_context (t : Fin grid0.N) (h : kindOf (blockNo t 1) = 1) (cx lt : FVec Ideal S1x256x1024 .f32) : k0_pay17 (F := Ideal) (kernelRun0_A.sl.v154 (grid0.coords t)) 65#32 cx lt = cast3 cx := by
  rw [pick1, h]
  rfl

variable (c : Dev nD) (arg1 : Memref sig .tc .vmem S1x256x1024 .f32) (harg1 : arg1.IsWhole) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x6144 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S2x4x256x768 .bf16) (harg8 : arg8.IsWhole) (arg9 : Memref sig .tc .vmem S1x4x256x256 .bf16) (harg9 : arg9.IsWhole) (arg10 : Memref sig .tc .vmem S1x1x1024 .f32) (harg10 : arg10.IsWhole) (arg11 : Memref sig .tc .vmem S1x1024x2816 .bf16) (harg11 : arg11.IsWhole) (arg12 : Memref sig .tc .vmem S1x1024x2816 .bf16) (harg12 : arg12.IsWhole) (arg13 : Memref sig .tc .vmem S1x2816x1024 .bf16) (harg13 : arg13.IsWhole) (arg14 : Memref sig .tc .vmem S512x1024 .f32) (harg14 : arg14.IsWhole)
    (x0 : Vec Ideal S1x256x1024 .f32) (x1 : Vec Ideal S1x256x1024 .f32) (x2 : Vec Ideal S1x256x1024 .f32) (x3 : Vec Ideal S1x256x1024 .f32) (x4 : Vec Ideal S1x8x6144 .f32) (x5 : Vec Ideal S1x1x1024 .f32) (x6 : Vec Ideal S1x1x1024 .f32) (x7 : Vec Ideal S2x4x256x768 .bf16) (x8 : Vec Ideal S1x4x256x256 .bf16) (x9 : Vec Ideal S1x1x1024 .f32) (x10 : Vec Ideal S1x1024x2816 .bf16) (x11 : Vec Ideal S1x1024x2816 .bf16) (x12 : Vec Ideal S1x2816x1024 .bf16)

/-- What the thirteen input blocks at point `t` hold. -/
structure Held (D : EvenArgs) (t : Fin grid0.N) : Prop where
  cx0 : kindOf (blockNo t 0) = 1 → ∀ (i : Fin 256) k, x0 (ix3 0 i k) = D.h (rowOf (blockNo t 0) i) k
  lt0 : kindOf (blockNo t 0) = 0 → ∀ (i : Fin 256) k, x1 (ix3 0 i k) = D.h (rowOf (blockNo t 0) i) k
  cx1 : kindOf (blockNo t 1) = 1 → ∀ (i : Fin 256) k, x2 (ix3 0 i k) = D.h (rowOf (blockNo t 1) i) k
  lt1 : kindOf (blockNo t 1) = 0 → ∀ (i : Fin 256) k, x3 (ix3 0 i k) = D.h (rowOf (blockNo t 1) i) k
  tbl : ∀ q j, x4 (ix3 0 q j) = D.tbl q j
  nw1 : ∀ k, x5 (ix3 0 0 k) = D.nw1 k
  nw2 : ∀ k, x6 (ix3 0 0 k) = D.nw2 k
  avg : ∀ a g i s, x7 (ix4 a g i s) = D.avg a g i s
  pw : ∀ g c o, x8 (ix4 0 g c o) = D.pw g c o
  ps : ∀ k, x9 (ix3 0 0 k) = D.ps k
  w1 : ∀ k f, x10 (ix3 0 k f) = D.w1 k f
  w3 : ∀ k f, x11 (ix3 0 k f) = D.w3 k f
  w2 : ∀ f k, x12 (ix3 0 f k) = D.w2 f k

variable {x0 x1 x2 x3 x4 x5 x6 x7 x8 x9 x10 x11 x12} {D : EvenArgs} {t : Fin grid0.N} (H : Held x0 x1 x2 x3 x4 x5 x6 x7 x8 x9 x10 x11 x12 D t)
include H

theorem ld_sc (s : Fin 2) (k : Fin 1024) : (View.readAt (Elt Ideal) arg5.view (Rect.unit (s := S1x8x6144) (k0_off1 (grid0.coords t) (BitVec.ofNat 32 s.val)) S1x1x1024.size (k0_off1_inb (grid0.coords t) s)).toLoadRect (harg5.unread x4)) (ix3 0 0 k)
    = D.modc 1024 (by decide) (blockNo t s) k := by
  refine (load_at harg5 x4 _ _ _ _ (ix3 0 (modAt (rowOf (blockNo t s) 0)) ⟨1024 + k.val, by omega⟩) fun a =>
    Eq.trans ?_ (congrArg (fun q => q + 1 * ((ix3 0 0 k : S1x1x1024.Idx) a).val) (congrFun (off1_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 1024 + k.val = 1024 + 1 * k.val; omega

theorem ld_sh (s : Fin 2) (k : Fin 1024) : (View.readAt (Elt Ideal) arg5.view (Rect.unit (s := S1x8x6144) (k0_off2 (grid0.coords t) (BitVec.ofNat 32 s.val)) S1x1x1024.size (k0_off2_inb (grid0.coords t) s)).toLoadRect (harg5.unread x4)) (ix3 0 0 k)
    = D.modc 0 (by decide) (blockNo t s) k := by
  refine (load_at harg5 x4 _ _ _ _ (ix3 0 (modAt (rowOf (blockNo t s) 0)) ⟨0 + k.val, by omega⟩) fun a =>
    Eq.trans ?_ (congrArg (fun q => q + 1 * ((ix3 0 0 k : S1x1x1024.Idx) a).val) (congrFun (off2_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 0 + k.val = 0 + 1 * k.val; omega

theorem ld_gt (s : Fin 2) (k : Fin 1024) : (View.readAt (Elt Ideal) arg5.view (Rect.unit (s := S1x8x6144) (k0_off7 (grid0.coords t) (BitVec.ofNat 32 s.val)) S1x1x1024.size (k0_off7_inb (grid0.coords t) s)).toLoadRect (harg5.unread x4)) (ix3 0 0 k)
    = D.modc 2048 (by decide) (blockNo t s) k := by
  refine (load_at harg5 x4 _ _ _ _ (ix3 0 (modAt (rowOf (blockNo t s) 0)) ⟨2048 + k.val, by omega⟩) fun a =>
    Eq.trans ?_ (congrArg (fun q => q + 1 * ((ix3 0 0 k : S1x1x1024.Idx) a).val) (congrFun (off7_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 2048 + k.val = 2048 + 1 * k.val; omega

theorem ld_sc2 (s : Fin 2) (k : Fin 1024) : (View.readAt (Elt Ideal) arg5.view (Rect.unit (s := S1x8x6144) (k0_off8 (grid0.coords t) (BitVec.ofNat 32 s.val)) S1x1x1024.size (k0_off8_inb (grid0.coords t) s)).toLoadRect (harg5.unread x4)) (ix3 0 0 k)
    = D.modc 4096 (by decide) (blockNo t s) k := by
  refine (load_at harg5 x4 _ _ _ _ (ix3 0 (modAt (rowOf (blockNo t s) 0)) ⟨4096 + k.val, by omega⟩) fun a =>
    Eq.trans ?_ (congrArg (fun q => q + 1 * ((ix3 0 0 k : S1x1x1024.Idx) a).val) (congrFun (off8_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 4096 + k.val = 4096 + 1 * k.val; omega

theorem ld_sh2 (s : Fin 2) (k : Fin 1024) : (View.readAt (Elt Ideal) arg5.view (Rect.unit (s := S1x8x6144) (k0_off9 (grid0.coords t) (BitVec.ofNat 32 s.val)) S1x1x1024.size (k0_off9_inb (grid0.coords t) s)).toLoadRect (harg5.unread x4)) (ix3 0 0 k)
    = D.modc 3072 (by decide) (blockNo t s) k := by
  refine (load_at harg5 x4 _ _ _ _ (ix3 0 (modAt (rowOf (blockNo t s) 0)) ⟨3072 + k.val, by omega⟩) fun a =>
    Eq.trans ?_ (congrArg (fun q => q + 1 * ((ix3 0 0 k : S1x1x1024.Idx) a).val) (congrFun (off9_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 3072 + k.val = 3072 + 1 * k.val; omega

theorem ld_g5 (s : Fin 2) (k : Fin 1024) : (View.readAt (Elt Ideal) arg5.view (Rect.unit (s := S1x8x6144) (k0_off10 (grid0.coords t) (BitVec.ofNat 32 s.val)) S1x1x1024.size (k0_off10_inb (grid0.coords t) s)).toLoadRect (harg5.unread x4)) (ix3 0 0 k)
    = D.modc 5120 (by decide) (blockNo t s) k := by
  refine (load_at harg5 x4 _ _ _ _ (ix3 0 (modAt (rowOf (blockNo t s) 0)) ⟨5120 + k.val, by omega⟩) fun a =>
    Eq.trans ?_ (congrArg (fun q => q + 1 * ((ix3 0 0 k : S1x1x1024.Idx) a).val) (congrFun (off10_at t s) a).symm)).trans (H.tbl _ _)
  match a with
  | ⟨0, _⟩ => rfl
  | ⟨1, _⟩ =>
    show modRow ((t.val * 2 + s.val) * 256 + 0) = modRow (t.val * 512 + s.val * 256) + 1 * 0
    rw [show (t.val * 2 + s.val) * 256 + 0 = t.val * 512 + s.val * 256 by omega]
    rfl
  | ⟨2, _⟩ => show 5120 + k.val = 5120 + 1 * k.val; omega

theorem ld_a0 (s : Fin 2) (i : Fin 256) (j : Fin 768) : (View.readAt (Elt Ideal) arg8.view (Rect.unit (s := S2x4x256x768) (k0_off3 (grid0.coords t) (BitVec.ofNat 32 s.val)) S1x1x256x768.size (k0_off3_inb (grid0.coords t) s)).toLoadRect (harg8.unread x7)) (ix4 0 0 i j)
    = D.avg (kindOf (blockNo t s)) 0 i j := by
  refine (load_at harg8 x7 _ _ _ _ (ix4 (kindOf (blockNo t s)) 0 i j) fun a =>
    Eq.trans ?_ (congrArg (fun q => q + 1 * ((ix4 0 0 i j : S1x1x256x768.Idx) a).val) (congrFun (off3_at t s) a).symm)).trans (H.avg _ _ _ _)
  match a with
  | ⟨0, _⟩ => rfl
  | ⟨1, _⟩ => rfl
  | ⟨2, _⟩ => show i.val = 0 + 1 * i.val; omega
  | ⟨3, _⟩ => show j.val = 0 + 1 * j.val; omega

theorem ld_a1 (s : Fin 2) (i : Fin 256) (j : Fin 768) : (View.readAt (Elt Ideal) arg8.view (Rect.unit (s := S2x4x256x768) (k0_off4 (grid0.coords t) (BitVec.ofNat 32 s.val)) S1x1x256x768.size (k0_off4_inb (grid0.coords t) s)).toLoadRect (harg8.unread x7)) (ix4 0 0 i j)
    = D.avg (kindOf (blockNo t s)) 1 i j := by
  refine (load_at harg8 x7 _ _ _ _ (ix4 (kindOf (blockNo t s)) 1 i j) fun a =>
    Eq.trans ?_ (congrArg (fun q => q + 1 * ((ix4 0 0 i j : S1x1x256x768.Idx) a).val) (congrFun (off4_at t s) a).symm)).trans (H.avg _ _ _ _)
  match a with
  | ⟨0, _⟩ => rfl
  | ⟨1, _⟩ => rfl
  | ⟨2, _⟩ => show i.val = 0 + 1 * i.val; omega
  | ⟨3, _⟩ => show j.val = 0 + 1 * j.val; omega

theorem ld_a2 (s : Fin 2) (i : Fin 256) (j : Fin 768) : (View.readAt (Elt Ideal) arg8.view (Rect.unit (s := S2x4x256x768) (k0_off5 (grid0.coords t) (BitVec.ofNat 32 s.val)) S1x1x256x768.size (k0_off5_inb (grid0.coords t) s)).toLoadRect (harg8.unread x7)) (ix4 0 0 i j)
    = D.avg (kindOf (blockNo t s)) 2 i j := by
  refine (load_at harg8 x7 _ _ _ _ (ix4 (kindOf (blockNo t s)) 2 i j) fun a =>
    Eq.trans ?_ (congrArg (fun q => q + 1 * ((ix4 0 0 i j : S1x1x256x768.Idx) a).val) (congrFun (off5_at t s) a).symm)).trans (H.avg _ _ _ _)
  match a with
  | ⟨0, _⟩ => rfl
  | ⟨1, _⟩ => rfl
  | ⟨2, _⟩ => show i.val = 0 + 1 * i.val; omega
  | ⟨3, _⟩ => show j.val = 0 + 1 * j.val; omega

theorem ld_a3 (s : Fin 2) (i : Fin 256) (j : Fin 768) : (View.readAt (Elt Ideal) arg8.view (Rect.unit (s := S2x4x256x768) (k0_off6 (grid0.coords t) (BitVec.ofNat 32 s.val)) S1x1x256x768.size (k0_off6_inb (grid0.coords t) s)).toLoadRect (harg8.unread x7)) (ix4 0 0 i j)
    = D.avg (kindOf (blockNo t s)) 3 i j := by
  refine (load_at harg8 x7 _ _ _ _ (ix4 (kindOf (blockNo t s)) 3 i j) fun a =>
    Eq.trans ?_ (congrArg (fun q => q + 1 * ((ix4 0 0 i j : S1x1x256x768.Idx) a).val) (congrFun (off6_at t s) a).symm)).trans (H.avg _ _ _ _)
  match a with
  | ⟨0, _⟩ => rfl
  | ⟨1, _⟩ => rfl
  | ⟨2, _⟩ => show i.val = 0 + 1 * i.val; omega
  | ⟨3, _⟩ => show j.val = 0 + 1 * j.val; omega

theorem ld_p0 (q k : Fin 256) : (View.readAt (Elt Ideal) arg9.view (Rect.unit (s := S1x4x256x256) ![0, 0, 0, 0] S1x1x256x256.size (inb_S1x4x256x256_S1x1x256x256_0_0_0_0)).toLoadRect (harg9.unread x8)) (ix4 0 0 q k) = D.pw 0 q k := by
  refine (load_at harg9 x8 _ _ _ _ (ix4 0 0 q k) fun a => ?_).trans (H.pw _ _ _)
  match a with
  | ⟨0, _⟩ => rfl
  | ⟨1, _⟩ => rfl
  | ⟨2, _⟩ => show q.val = 0 + 1 * q.val; omega
  | ⟨3, _⟩ => show k.val = 0 + 1 * k.val; omega

theorem ld_p1 (q k : Fin 256) : (View.readAt (Elt Ideal) arg9.view (Rect.unit (s := S1x4x256x256) ![0, 1, 0, 0] S1x1x256x256.size (inb_S1x4x256x256_S1x1x256x256_0_1_0_0)).toLoadRect (harg9.unread x8)) (ix4 0 0 q k) = D.pw 1 q k := by
  refine (load_at harg9 x8 _ _ _ _ (ix4 0 1 q k) fun a => ?_).trans (H.pw _ _ _)
  match a with
  | ⟨0, _⟩ => rfl
  | ⟨1, _⟩ => rfl
  | ⟨2, _⟩ => show q.val = 0 + 1 * q.val; omega
  | ⟨3, _⟩ => show k.val = 0 + 1 * k.val; omega

theorem ld_p2 (q k : Fin 256) : (View.readAt (Elt Ideal) arg9.view (Rect.unit (s := S1x4x256x256) ![0, 2, 0, 0] S1x1x256x256.size (inb_S1x4x256x256_S1x1x256x256_0_2_0_0)).toLoadRect (harg9.unread x8)) (ix4 0 0 q k) = D.pw 2 q k := by
  refine (load_at harg9 x8 _ _ _ _ (ix4 0 2 q k) fun a => ?_).trans (H.pw _ _ _)
  match a with
  | ⟨0, _⟩ => rfl
  | ⟨1, _⟩ => rfl
  | ⟨2, _⟩ => show q.val = 0 + 1 * q.val; omega
  | ⟨3, _⟩ => show k.val = 0 + 1 * k.val; omega

theorem ld_p3 (q k : Fin 256) : (View.readAt (Elt Ideal) arg9.view (Rect.unit (s := S1x4x256x256) ![0, 3, 0, 0] S1x1x256x256.size (inb_S1x4x256x256_S1x1x256x256_0_3_0_0)).toLoadRect (harg9.unread x8)) (ix4 0 0 q k) = D.pw 3 q k := by
  refine (load_at harg9 x8 _ _ _ _ (ix4 0 3 q k) fun a => ?_).trans (H.pw _ _ _)
  match a with
  | ⟨0, _⟩ => rfl
  | ⟨1, _⟩ => rfl
  | ⟨2, _⟩ => show q.val = 0 + 1 * q.val; omega
  | ⟨3, _⟩ => show k.val = 0 + 1 * k.val; omega

theorem ld_nw1 (k : Fin 1024) : (View.readAt (Elt Ideal) arg6.view (Rect.unit (s := S1x1x1024) ![0, 0, 0] S1x1x1024.size (inb_S1x1x1024_S1x1x1024_0_0_0)).toLoadRect (harg6.unread x5)) (ix3 0 0 k) = D.nw1 k := by
  refine (load_at harg6 x5 _ _ _ _ (ix3 0 0 k) fun a => ?_).trans (H.nw1 _)
  match a with
  | ⟨0, _⟩ => rfl
  | ⟨1, _⟩ => rfl
  | ⟨2, _⟩ => show k.val = 0 + 1 * k.val; omega

theorem ld_nw2 (k : Fin 1024) : (View.readAt (Elt Ideal) arg7.view (Rect.unit (s := S1x1x1024) ![0, 0, 0] S1x1x1024.size (inb_S1x1x1024_S1x1x1024_0_0_0)).toLoadRect (harg7.unread x6)) (ix3 0 0 k) = D.nw2 k := by
  refine (load_at harg7 x6 _ _ _ _ (ix3 0 0 k) fun a => ?_).trans (H.nw2 _)
  match a with
  | ⟨0, _⟩ => rfl
  | ⟨1, _⟩ => rfl
  | ⟨2, _⟩ => show k.val = 0 + 1 * k.val; omega

theorem ld_ps (k : Fin 1024) : (View.readAt (Elt Ideal) arg10.view (Rect.unit (s := S1x1x1024) ![0, 0, 0] S1x1x1024.size (inb_S1x1x1024_S1x1x1024_0_0_0)).toLoadRect (harg10.unread x9)) (ix3 0 0 k) = D.ps k := by
  refine (load_at harg10 x9 _ _ _ _ (ix3 0 0 k) fun a => ?_).trans (H.ps _)
  match a with
  | ⟨0, _⟩ => rfl
  | ⟨1, _⟩ => rfl
  | ⟨2, _⟩ => show k.val = 0 + 1 * k.val; omega

theorem ld_w1_0 (k : Fin 1024) (f : Fin 512) : (View.readAt (Elt Ideal) arg11.view (Rect.unit (s := S1x1024x2816) ![0, 0, 0] S1x1024x512.size (inb_S1x1024x2816_S1x1024x512_0_0_0)).toLoadRect (harg11.unread x10)) (ix3 0 k f) = D.w1 k ⟨0 + f.val, by omega⟩ := by
  refine (load_at harg11 x10 _ _ _ _ (ix3 0 k ⟨0 + f.val, by omega⟩) fun a => ?_).trans (H.w1 _ _)
  match a with
  | ⟨0, _⟩ => rfl
  | ⟨1, _⟩ => show k.val = 0 + 1 * k.val; omega
  | ⟨2, _⟩ => show 0 + f.val = 0 + 1 * f.val; omega

theorem ld_w1_512 (k : Fin 1024) (f : Fin 512) : (View.readAt (Elt Ideal) arg11.view (Rect.unit (s := S1x1024x2816) ![0, 0, 512] S1x1024x512.size (inb_S1x1024x2816_S1x1024x512_0_0_512)).toLoadRect (harg11.unread x10)) (ix3 0 k f) = D.w1 k ⟨512 + f.val, by omega⟩ := by
  refine (load_at harg11 x10 _ _ _ _ (ix3 0 k ⟨512 + f.val, by omega⟩) fun a => ?_).trans (H.w1 _ _)
  match a with
  | ⟨0, _⟩ => rfl
  | ⟨1, _⟩ => show k.val = 0 + 1 * k.val; omega
  | ⟨2, _⟩ => show 512 + f.val = 512 + 1 * f.val; omega

theorem ld_w1_1024 (k : Fin 1024) (f : Fin 512) : (View.readAt (Elt Ideal) arg11.view (Rect.unit (s := S1x1024x2816) ![0, 0, 1024] S1x1024x512.size (inb_S1x1024x2816_S1x1024x512_0_0_1024)).toLoadRect (harg11.unread x10)) (ix3 0 k f) = D.w1 k ⟨1024 + f.val, by omega⟩ := by
  refine (load_at harg11 x10 _ _ _ _ (ix3 0 k ⟨1024 + f.val, by omega⟩) fun a => ?_).trans (H.w1 _ _)
  match a with
  | ⟨0, _⟩ => rfl
  | ⟨1, _⟩ => show k.val = 0 + 1 * k.val; omega
  | ⟨2, _⟩ => show 1024 + f.val = 1024 + 1 * f.val; omega

theorem ld_w1_1536 (k : Fin 1024) (f : Fin 512) : (View.readAt (Elt Ideal) arg11.view (Rect.unit (s := S1x1024x2816) ![0, 0, 1536] S1x1024x512.size (inb_S1x1024x2816_S1x1024x512_0_0_1536)).toLoadRect (harg11.unread x10)) (ix3 0 k f) = D.w1 k ⟨1536 + f.val, by omega⟩ := by
  refine (load_at harg11 x10 _ _ _ _ (ix3 0 k ⟨1536 + f.val, by omega⟩) fun a => ?_).trans (H.w1 _ _)
  match a with
  | ⟨0, _⟩ => rfl
  | ⟨1, _⟩ => show k.val = 0 + 1 * k.val; omega
  | ⟨2, _⟩ => show 1536 + f.val = 1536 + 1 * f.val; omega

theorem ld_w1_2048 (k : Fin 1024) (f : Fin 512) : (View.readAt (Elt Ideal) arg11.view (Rect.unit (s := S1x1024x2816) ![0, 0, 2048] S1x1024x512.size (inb_S1x1024x2816_S1x1024x512_0_0_2048)).toLoadRect (harg11.unread x10)) (ix3 0 k f) = D.w1 k ⟨2048 + f.val, by omega⟩ := by
  refine (load_at harg11 x10 _ _ _ _ (ix3 0 k ⟨2048 + f.val, by omega⟩) fun a => ?_).trans (H.w1 _ _)
  match a with
  | ⟨0, _⟩ => rfl
  | ⟨1, _⟩ => show k.val = 0 + 1 * k.val; omega
  | ⟨2, _⟩ => show 2048 + f.val = 2048 + 1 * f.val; omega

theorem ld_w1_2560 (k : Fin 1024) (f : Fin 256) : (View.readAt (Elt Ideal) arg11.view (Rect.unit (s := S1x1024x2816) ![0, 0, 2560] S1x1024x256.size (inb_S1x1024x2816_S1x1024x256_0_0_2560)).toLoadRect (harg11.unread x10)) (ix3 0 k f) = D.w1 k ⟨2560 + f.val, by omega⟩ := by
  refine (load_at harg11 x10 _ _ _ _ (ix3 0 k ⟨2560 + f.val, by omega⟩) fun a => ?_).trans (H.w1 _ _)
  match a with
  | ⟨0, _⟩ => rfl
  | ⟨1, _⟩ => show k.val = 0 + 1 * k.val; omega
  | ⟨2, _⟩ => show 2560 + f.val = 2560 + 1 * f.val; omega

theorem ld_w3_0 (k : Fin 1024) (f : Fin 512) : (View.readAt (Elt Ideal) arg12.view (Rect.unit (s := S1x1024x2816) ![0, 0, 0] S1x1024x512.size (inb_S1x1024x2816_S1x1024x512_0_0_0)).toLoadRect (harg12.unread x11)) (ix3 0 k f) = D.w3 k ⟨0 + f.val, by omega⟩ := by
  refine (load_at harg12 x11 _ _ _ _ (ix3 0 k ⟨0 + f.val, by omega⟩) fun a => ?_).trans (H.w3 _ _)
  match a with
  | ⟨0, _⟩ => rfl
  | ⟨1, _⟩ => show k.val = 0 + 1 * k.val; omega
  | ⟨2, _⟩ => show 0 + f.val = 0 + 1 * f.val; omega

theorem ld_w3_512 (k : Fin 1024) (f : Fin 512) : (View.readAt (Elt Ideal) arg12.view (Rect.unit (s := S1x1024x2816) ![0, 0, 512] S1x1024x512.size (inb_S1x1024x2816_S1x1024x512_0_0_512)).toLoadRect (harg12.unread x11)) (ix3 0 k f) = D.w3 k ⟨512 + f.val, by omega⟩ := by
  refine (load_at harg12 x11 _ _ _ _ (ix3 0 k ⟨512 + f.val, by omega⟩) fun a => ?_).trans (H.w3 _ _)
  match a with
  | ⟨0, _⟩ => rfl
  | ⟨1, _⟩ => show k.val = 0 + 1 * k.val; omega
  | ⟨2, _⟩ => show 512 + f.val = 512 + 1 * f.val; omega

theorem ld_w3_1024 (k : Fin 1024) (f : Fin 512) : (View.readAt (Elt Ideal) arg12.view (Rect.unit (s := S1x1024x2816) ![0, 0, 1024] S1x1024x512.size (inb_S1x1024x2816_S1x1024x512_0_0_1024)).toLoadRect (harg12.unread x11)) (ix3 0 k f) = D.w3 k ⟨1024 + f.val, by omega⟩ := by
  refine (load_at harg12 x11 _ _ _ _ (ix3 0 k ⟨1024 + f.val, by omega⟩) fun a => ?_).trans (H.w3 _ _)
  match a with
  | ⟨0, _⟩ => rfl
  | ⟨1, _⟩ => show k.val = 0 + 1 * k.val; omega
  | ⟨2, _⟩ => show 1024 + f.val = 1024 + 1 * f.val; omega

theorem ld_w3_1536 (k : Fin 1024) (f : Fin 512) : (View.readAt (Elt Ideal) arg12.view (Rect.unit (s := S1x1024x2816) ![0, 0, 1536] S1x1024x512.size (inb_S1x1024x2816_S1x1024x512_0_0_1536)).toLoadRect (harg12.unread x11)) (ix3 0 k f) = D.w3 k ⟨1536 + f.val, by omega⟩ := by
  refine (load_at harg12 x11 _ _ _ _ (ix3 0 k ⟨1536 + f.val, by omega⟩) fun a => ?_).trans (H.w3 _ _)
  match a with
  | ⟨0, _⟩ => rfl
  | ⟨1, _⟩ => show k.val = 0 + 1 * k.val; omega
  | ⟨2, _⟩ => show 1536 + f.val = 1536 + 1 * f.val; omega

theorem ld_w3_2048 (k : Fin 1024) (f : Fin 512) : (View.readAt (Elt Ideal) arg12.view (Rect.unit (s := S1x1024x2816) ![0, 0, 2048] S1x1024x512.size (inb_S1x1024x2816_S1x1024x512_0_0_2048)).toLoadRect (harg12.unread x11)) (ix3 0 k f) = D.w3 k ⟨2048 + f.val, by omega⟩ := by
  refine (load_at harg12 x11 _ _ _ _ (ix3 0 k ⟨2048 + f.val, by omega⟩) fun a => ?_).trans (H.w3 _ _)
  match a with
  | ⟨0, _⟩ => rfl
  | ⟨1, _⟩ => show k.val = 0 + 1 * k.val; omega
  | ⟨2, _⟩ => show 2048 + f.val = 2048 + 1 * f.val; omega

theorem ld_w3_2560 (k : Fin 1024) (f : Fin 256) : (View.readAt (Elt Ideal) arg12.view (Rect.unit (s := S1x1024x2816) ![0, 0, 2560] S1x1024x256.size (inb_S1x1024x2816_S1x1024x256_0_0_2560)).toLoadRect (harg12.unread x11)) (ix3 0 k f) = D.w3 k ⟨2560 + f.val, by omega⟩ := by
  refine (load_at harg12 x11 _ _ _ _ (ix3 0 k ⟨2560 + f.val, by omega⟩) fun a => ?_).trans (H.w3 _ _)
  match a with
  | ⟨0, _⟩ => rfl
  | ⟨1, _⟩ => show k.val = 0 + 1 * k.val; omega
  | ⟨2, _⟩ => show 2560 + f.val = 2560 + 1 * f.val; omega

theorem ld_w2_0 (k : Fin 1024) (f : Fin 512) : (View.readAt (Elt Ideal) arg13.view (Rect.unit (s := S1x2816x1024) ![0, 0, 0] S1x512x1024.size (inb_S1x2816x1024_S1x512x1024_0_0_0)).toLoadRect (harg13.unread x12)) (ix3 0 f k) = D.w2 ⟨0 + f.val, by omega⟩ k := by
  refine (load_at harg13 x12 _ _ _ _ (ix3 0 ⟨0 + f.val, by omega⟩ k) fun a => ?_).trans (H.w2 _ _)
  match a with
  | ⟨0, _⟩ => rfl
  | ⟨1, _⟩ => show 0 + f.val = 0 + 1 * f.val; omega
  | ⟨2, _⟩ => show k.val = 0 + 1 * k.val; omega

theorem ld_w2_512 (k : Fin 1024) (f : Fin 512) : (View.readAt (Elt Ideal) arg13.view (Rect.unit (s := S1x2816x1024) ![0, 512, 0] S1x512x1024.size (inb_S1x2816x1024_S1x512x1024_0_512_0)).toLoadRect (harg13.unread x12)) (ix3 0 f k) = D.w2 ⟨512 + f.val, by omega⟩ k := by
  refine (load_at harg13 x12 _ _ _ _ (ix3 0 ⟨512 + f.val, by omega⟩ k) fun a => ?_).trans (H.w2 _ _)
  match a with
  | ⟨0, _⟩ => rfl
  | ⟨1, _⟩ => show 512 + f.val = 512 + 1 * f.val; omega
  | ⟨2, _⟩ => show k.val = 0 + 1 * k.val; omega

theorem ld_w2_1024 (k : Fin 1024) (f : Fin 512) : (View.readAt (Elt Ideal) arg13.view (Rect.unit (s := S1x2816x1024) ![0, 1024, 0] S1x512x1024.size (inb_S1x2816x1024_S1x512x1024_0_1024_0)).toLoadRect (harg13.unread x12)) (ix3 0 f k) = D.w2 ⟨1024 + f.val, by omega⟩ k := by
  refine (load_at harg13 x12 _ _ _ _ (ix3 0 ⟨1024 + f.val, by omega⟩ k) fun a => ?_).trans (H.w2 _ _)
  match a with
  | ⟨0, _⟩ => rfl
  | ⟨1, _⟩ => show 1024 + f.val = 1024 + 1 * f.val; omega
  | ⟨2, _⟩ => show k.val = 0 + 1 * k.val; omega

theorem ld_w2_1536 (k : Fin 1024) (f : Fin 512) : (View.readAt (Elt Ideal) arg13.view (Rect.unit (s := S1x2816x1024) ![0, 1536, 0] S1x512x1024.size (inb_S1x2816x1024_S1x512x1024_0_1536_0)).toLoadRect (harg13.unread x12)) (ix3 0 f k) = D.w2 ⟨1536 + f.val, by omega⟩ k := by
  refine (load_at harg13 x12 _ _ _ _ (ix3 0 ⟨1536 + f.val, by omega⟩ k) fun a => ?_).trans (H.w2 _ _)
  match a with
  | ⟨0, _⟩ => rfl
  | ⟨1, _⟩ => show 1536 + f.val = 1536 + 1 * f.val; omega
  | ⟨2, _⟩ => show k.val = 0 + 1 * k.val; omega

theorem ld_w2_2048 (k : Fin 1024) (f : Fin 512) : (View.readAt (Elt Ideal) arg13.view (Rect.unit (s := S1x2816x1024) ![0, 2048, 0] S1x512x1024.size (inb_S1x2816x1024_S1x512x1024_0_2048_0)).toLoadRect (harg13.unread x12)) (ix3 0 f k) = D.w2 ⟨2048 + f.val, by omega⟩ k := by
  refine (load_at harg13 x12 _ _ _ _ (ix3 0 ⟨2048 + f.val, by omega⟩ k) fun a => ?_).trans (H.w2 _ _)
  match a with
  | ⟨0, _⟩ => rfl
  | ⟨1, _⟩ => show 2048 + f.val = 2048 + 1 * f.val; omega
  | ⟨2, _⟩ => show k.val = 0 + 1 * k.val; omega

theorem ld_w2_2560 (k : Fin 1024) (f : Fin 256) : (View.readAt (Elt Ideal) arg13.view (Rect.unit (s := S1x2816x1024) ![0, 2560, 0] S1x256x1024.size (inb_S1x2816x1024_S1x256x1024_0_2560_0)).toLoadRect (harg13.unread x12)) (ix3 0 f k) = D.w2 ⟨2560 + f.val, by omega⟩ k := by
  refine (load_at harg13 x12 _ _ _ _ (ix3 0 ⟨2560 + f.val, by omega⟩ k) fun a => ?_).trans (H.w2 _ _)
  match a with
  | ⟨0, _⟩ => rfl
  | ⟨1, _⟩ => show 2560 + f.val = 2560 + 1 * f.val; omega
  | ⟨2, _⟩ => show k.val = 0 + 1 * k.val; omega

omit H in
theorem ld_b0 (i : Fin 256) (k : Fin 1024) : (View.readAt (Elt Ideal) arg1.view (Rect.unit (s := S1x256x1024) ![0, 0, 0] S1x256x1024.size (inb_S1x256x1024_S1x256x1024_0_0_0)).toLoadRect (harg1.unread x0)) (ix3 0 i k) = x0 (ix3 0 i k) := by
  refine load_at harg1 x0 _ _ _ _ (ix3 0 i k) fun a => ?_
  match a with
  | ⟨0, _⟩ => rfl
  | ⟨1, _⟩ => show i.val = 0 + 1 * i.val; omega
  | ⟨2, _⟩ => show k.val = 0 + 1 * k.val; omega

omit H in
theorem ld_b1 (i : Fin 256) (k : Fin 1024) : (View.readAt (Elt Ideal) arg2.view (Rect.unit (s := S1x256x1024) ![0, 0, 0] S1x256x1024.size (inb_S1x256x1024_S1x256x1024_0_0_0)).toLoadRect (harg2.unread x1)) (ix3 0 i k) = x1 (ix3 0 i k) := by
  refine load_at harg2 x1 _ _ _ _ (ix3 0 i k) fun a => ?_
  match a with
  | ⟨0, _⟩ => rfl
  | ⟨1, _⟩ => show i.val = 0 + 1 * i.val; omega
  | ⟨2, _⟩ => show k.val = 0 + 1 * k.val; omega

omit H in
theorem ld_b2 (i : Fin 256) (k : Fin 1024) : (View.readAt (Elt Ideal) arg3.view (Rect.unit (s := S1x256x1024) ![0, 0, 0] S1x256x1024.size (inb_S1x256x1024_S1x256x1024_0_0_0)).toLoadRect (harg3.unread x2)) (ix3 0 i k) = x2 (ix3 0 i k) := by
  refine load_at harg3 x2 _ _ _ _ (ix3 0 i k) fun a => ?_
  match a with
  | ⟨0, _⟩ => rfl
  | ⟨1, _⟩ => show i.val = 0 + 1 * i.val; omega
  | ⟨2, _⟩ => show k.val = 0 + 1 * k.val; omega

omit H in
theorem ld_b3 (i : Fin 256) (k : Fin 1024) : (View.readAt (Elt Ideal) arg4.view (Rect.unit (s := S1x256x1024) ![0, 0, 0] S1x256x1024.size (inb_S1x256x1024_S1x256x1024_0_0_0)).toLoadRect (harg4.unread x3)) (ix3 0 i k) = x3 (ix3 0 i k) := by
  refine load_at harg4 x3 _ _ _ _ (ix3 0 i k) fun a => ?_
  match a with
  | ⟨0, _⟩ => rfl
  | ⟨1, _⟩ => show i.val = 0 + 1 * i.val; omega
  | ⟨2, _⟩ => show k.val = 0 + 1 * k.val; omega

theorem ld_X0 (i : Fin 256) (k : Fin 1024) : (k0_pay2 (F := Ideal) (grid0.coords t) (View.readAt (Elt Ideal) arg1.view (Rect.unit (s := S1x256x1024) ![0, 0, 0] S1x256x1024.size (inb_S1x256x1024_S1x256x1024_0_0_0)).toLoadRect (harg1.unread x0)) (View.readAt (Elt Ideal) arg2.view (Rect.unit (s := S1x256x1024) ![0, 0, 0] S1x256x1024.size (inb_S1x256x1024_S1x256x1024_0_0_0)).toLoadRect (harg2.unread x1))) (ix2 i k) = D.h (rowOf (blockNo t 0) i) k := by
  rcases kind_cases (blockNo t 0) with hk | hk
  · rw [pick0_latents t hk]
    exact (cast_at _ i k).trans ((ld_b1 arg2 harg2 i k).trans (H.lt0 hk i k))
  · rw [pick0_context t hk]
    exact (cast_at _ i k).trans ((ld_b0 arg1 harg1 i k).trans (H.cx0 hk i k))

theorem ld_X1 (i : Fin 256) (k : Fin 1024) : (k0_pay17 (F := Ideal) (kernelRun0_A.sl.v154 (grid0.coords t)) 65#32 (View.readAt (Elt Ideal) arg3.view (Rect.unit (s := S1x256x1024) ![0, 0, 0] S1x256x1024.size (inb_S1x256x1024_S1x256x1024_0_0_0)).toLoadRect (harg3.unread x2)) (View.readAt (Elt Ideal) arg4.view (Rect.unit (s := S1x256x1024) ![0, 0, 0] S1x256x1024.size (inb_S1x256x1024_S1x256x1024_0_0_0)).toLoadRect (harg4.unread x3))) (ix2 i k) = D.h (rowOf (blockNo t 1) i) k := by
  rcases kind_cases (blockNo t 1) with hk | hk
  · rw [pick1_latents t hk]
    exact (cast_at _ i k).trans ((ld_b3 arg4 harg4 i k).trans (H.lt1 hk i k))
  · rw [pick1_context t hk]
    exact (cast_at _ i k).trans ((ld_b2 arg3 harg3 i k).trans (H.cx1 hk i k))

theorem loaded0 : Loaded D (blockNo t 0) (k0_pay2 (F := Ideal) (grid0.coords t) (View.readAt (Elt Ideal) arg1.view (Rect.unit (s := S1x256x1024) ![0, 0, 0] S1x256x1024.size (inb_S1x256x1024_S1x256x1024_0_0_0)).toLoadRect (harg1.unread x0)) (View.readAt (Elt Ideal) arg2.view (Rect.unit (s := S1x256x1024) ![0, 0, 0] S1x256x1024.size (inb_S1x256x1024_S1x256x1024_0_0_0)).toLoadRect (harg2.unread x1)))
    (View.readAt (Elt Ideal) arg6.view (Rect.unit (s := S1x1x1024) ![0, 0, 0] S1x1x1024.size (inb_S1x1x1024_S1x1x1024_0_0_0)).toLoadRect (harg6.unread x5))
    (View.readAt (Elt Ideal) arg5.view (Rect.unit (s := S1x8x6144) (k0_off1 (grid0.coords t) 0#32) S1x1x1024.size (k0_off1_inb (grid0.coords t) 0)).toLoadRect (harg5.unread x4))
    (View.readAt (Elt Ideal) arg5.view (Rect.unit (s := S1x8x6144) (k0_off2 (grid0.coords t) 0#32) S1x1x1024.size (k0_off2_inb (grid0.coords t) 0)).toLoadRect (harg5.unread x4))
    (View.readAt (Elt Ideal) arg10.view (Rect.unit (s := S1x1x1024) ![0, 0, 0] S1x1x1024.size (inb_S1x1x1024_S1x1x1024_0_0_0)).toLoadRect (harg10.unread x9))
    (View.readAt (Elt Ideal) arg5.view (Rect.unit (s := S1x8x6144) (k0_off7 (grid0.coords t) 0#32) S1x1x1024.size (k0_off7_inb (grid0.coords t) 0)).toLoadRect (harg5.unread x4))
    ![(View.readAt (Elt Ideal) arg8.view (Rect.unit (s := S2x4x256x768) (k0_off3 (grid0.coords t) 0#32) S1x1x256x768.size (k0_off3_inb (grid0.coords t) 0)).toLoadRect (harg8.unread x7)),
      (View.readAt (Elt Ideal) arg8.view (Rect.unit (s := S2x4x256x768) (k0_off4 (grid0.coords t) 0#32) S1x1x256x768.size (k0_off4_inb (grid0.coords t) 0)).toLoadRect (harg8.unread x7)),
      (View.readAt (Elt Ideal) arg8.view (Rect.unit (s := S2x4x256x768) (k0_off5 (grid0.coords t) 0#32) S1x1x256x768.size (k0_off5_inb (grid0.coords t) 0)).toLoadRect (harg8.unread x7)),
      (View.readAt (Elt Ideal) arg8.view (Rect.unit (s := S2x4x256x768) (k0_off6 (grid0.coords t) 0#32) S1x1x256x768.size (k0_off6_inb (grid0.coords t) 0)).toLoadRect (harg8.unread x7))]
    ![(View.readAt (Elt Ideal) arg9.view (Rect.unit (s := S1x4x256x256) ![0, 0, 0, 0] S1x1x256x256.size (inb_S1x4x256x256_S1x1x256x256_0_0_0_0)).toLoadRect (harg9.unread x8)),
      (View.readAt (Elt Ideal) arg9.view (Rect.unit (s := S1x4x256x256) ![0, 1, 0, 0] S1x1x256x256.size (inb_S1x4x256x256_S1x1x256x256_0_1_0_0)).toLoadRect (harg9.unread x8)),
      (View.readAt (Elt Ideal) arg9.view (Rect.unit (s := S1x4x256x256) ![0, 2, 0, 0] S1x1x256x256.size (inb_S1x4x256x256_S1x1x256x256_0_2_0_0)).toLoadRect (harg9.unread x8)),
      (View.readAt (Elt Ideal) arg9.view (Rect.unit (s := S1x4x256x256) ![0, 3, 0, 0] S1x1x256x256.size (inb_S1x4x256x256_S1x1x256x256_0_3_0_0)).toLoadRect (harg9.unread x8))] where
  X := ld_X0 arg1 harg1 arg2 harg2 H
  w := ld_nw1 arg6 harg6 H
  sc := ld_sc arg5 harg5 H 0
  sh := ld_sh arg5 harg5 H 0
  ps := ld_ps arg10 harg10 H
  gt := ld_gt arg5 harg5 H 0
  a := fun g i j => by
    match g with
    | ⟨0, _⟩ => exact ld_a0 arg8 harg8 H 0 i j
    | ⟨1, _⟩ => exact ld_a1 arg8 harg8 H 0 i j
    | ⟨2, _⟩ => exact ld_a2 arg8 harg8 H 0 i j
    | ⟨3, _⟩ => exact ld_a3 arg8 harg8 H 0 i j
  p := fun g q k => by
    match g with
    | ⟨0, _⟩ => exact ld_p0 arg9 harg9 H q k
    | ⟨1, _⟩ => exact ld_p1 arg9 harg9 H q k
    | ⟨2, _⟩ => exact ld_p2 arg9 harg9 H q k
    | ⟨3, _⟩ => exact ld_p3 arg9 harg9 H q k

theorem loaded1 : Loaded D (blockNo t 1) (k0_pay17 (F := Ideal) (kernelRun0_A.sl.v154 (grid0.coords t)) 65#32 (View.readAt (Elt Ideal) arg3.view (Rect.unit (s := S1x256x1024) ![0, 0, 0] S1x256x1024.size (inb_S1x256x1024_S1x256x1024_0_0_0)).toLoadRect (harg3.unread x2)) (View.readAt (Elt Ideal) arg4.view (Rect.unit (s := S1x256x1024) ![0, 0, 0] S1x256x1024.size (inb_S1x256x1024_S1x256x1024_0_0_0)).toLoadRect (harg4.unread x3)))
    (View.readAt (Elt Ideal) arg6.view (Rect.unit (s := S1x1x1024) ![0, 0, 0] S1x1x1024.size (inb_S1x1x1024_S1x1x1024_0_0_0)).toLoadRect (harg6.unread x5))
    (View.readAt (Elt Ideal) arg5.view (Rect.unit (s := S1x8x6144) (k0_off1 (grid0.coords t) 1#32) S1x1x1024.size (k0_off1_inb (grid0.coords t) 1)).toLoadRect (harg5.unread x4))
    (View.readAt (Elt Ideal) arg5.view (Rect.unit (s := S1x8x6144) (k0_off2 (grid0.coords t) 1#32) S1x1x1024.size (k0_off2_inb (grid0.coords t) 1)).toLoadRect (harg5.unread x4))
    (View.readAt (Elt Ideal) arg10.view (Rect.unit (s := S1x1x1024) ![0, 0, 0] S1x1x1024.size (inb_S1x1x1024_S1x1x1024_0_0_0)).toLoadRect (harg10.unread x9))
    (View.readAt (Elt Ideal) arg5.view (Rect.unit (s := S1x8x6144) (k0_off7 (grid0.coords t) 1#32) S1x1x1024.size (k0_off7_inb (grid0.coords t) 1)).toLoadRect (harg5.unread x4))
    ![(View.readAt (Elt Ideal) arg8.view (Rect.unit (s := S2x4x256x768) (k0_off3 (grid0.coords t) 1#32) S1x1x256x768.size (k0_off3_inb (grid0.coords t) 1)).toLoadRect (harg8.unread x7)),
      (View.readAt (Elt Ideal) arg8.view (Rect.unit (s := S2x4x256x768) (k0_off4 (grid0.coords t) 1#32) S1x1x256x768.size (k0_off4_inb (grid0.coords t) 1)).toLoadRect (harg8.unread x7)),
      (View.readAt (Elt Ideal) arg8.view (Rect.unit (s := S2x4x256x768) (k0_off5 (grid0.coords t) 1#32) S1x1x256x768.size (k0_off5_inb (grid0.coords t) 1)).toLoadRect (harg8.unread x7)),
      (View.readAt (Elt Ideal) arg8.view (Rect.unit (s := S2x4x256x768) (k0_off6 (grid0.coords t) 1#32) S1x1x256x768.size (k0_off6_inb (grid0.coords t) 1)).toLoadRect (harg8.unread x7))]
    ![(View.readAt (Elt Ideal) arg9.view (Rect.unit (s := S1x4x256x256) ![0, 0, 0, 0] S1x1x256x256.size (inb_S1x4x256x256_S1x1x256x256_0_0_0_0)).toLoadRect (harg9.unread x8)),
      (View.readAt (Elt Ideal) arg9.view (Rect.unit (s := S1x4x256x256) ![0, 1, 0, 0] S1x1x256x256.size (inb_S1x4x256x256_S1x1x256x256_0_1_0_0)).toLoadRect (harg9.unread x8)),
      (View.readAt (Elt Ideal) arg9.view (Rect.unit (s := S1x4x256x256) ![0, 2, 0, 0] S1x1x256x256.size (inb_S1x4x256x256_S1x1x256x256_0_2_0_0)).toLoadRect (harg9.unread x8)),
      (View.readAt (Elt Ideal) arg9.view (Rect.unit (s := S1x4x256x256) ![0, 3, 0, 0] S1x1x256x256.size (inb_S1x4x256x256_S1x1x256x256_0_3_0_0)).toLoadRect (harg9.unread x8))] where
  X := ld_X1 arg3 harg3 arg4 harg4 H
  w := ld_nw1 arg6 harg6 H
  sc := ld_sc arg5 harg5 H 1
  sh := ld_sh arg5 harg5 H 1
  ps := ld_ps arg10 harg10 H
  gt := ld_gt arg5 harg5 H 1
  a := fun g i j => by
    match g with
    | ⟨0, _⟩ => exact ld_a0 arg8 harg8 H 1 i j
    | ⟨1, _⟩ => exact ld_a1 arg8 harg8 H 1 i j
    | ⟨2, _⟩ => exact ld_a2 arg8 harg8 H 1 i j
    | ⟨3, _⟩ => exact ld_a3 arg8 harg8 H 1 i j
  p := fun g q k => by
    match g with
    | ⟨0, _⟩ => exact ld_p0 arg9 harg9 H q k
    | ⟨1, _⟩ => exact ld_p1 arg9 harg9 H q k
    | ⟨2, _⟩ => exact ld_p2 arg9 harg9 H q k
    | ⟨3, _⟩ => exact ld_p3 arg9 harg9 H q k

end Cert.Kernel5Ideal.Even0

end
-- ==== Proof.Even0Body.lean ====
/- What the first pooling layer's body leaves in a block of 512 rows. -/
module

public import proofs.«01_k».proof.Proof.EvenRows
public import proofs.«01_k».proof.Proof.Even0Loads

@[expose] public section

set_option maxRecDepth 16384
set_option Elab.async false

noncomputable section

namespace Cert.Kernel5Ideal.Even0

open Cert.Kernel5Ideal Cert.Kernel5Ideal.Gen
open Idealize.ShloMosaic
open Idealize.ShloMosaic.TcCoe Idealize.ShloMosaic.Tactic
open Idealize.SL Idealize.SL.Sem
open Cert.Rows
open Cert.Kernel4Ideal.Even (Loaded firstMix lastMix acc4)

variable (c : Dev nD) (arg1 : Memref sig .tc .vmem S1x256x1024 .f32) (harg1 : arg1.IsWhole) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x6144 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S2x4x256x768 .bf16) (harg8 : arg8.IsWhole) (arg9 : Memref sig .tc .vmem S1x4x256x256 .bf16) (harg9 : arg9.IsWhole) (arg10 : Memref sig .tc .vmem S1x1x1024 .f32) (harg10 : arg10.IsWhole) (arg11 : Memref sig .tc .vmem S1x1024x2816 .bf16) (harg11 : arg11.IsWhole) (arg12 : Memref sig .tc .vmem S1x1024x2816 .bf16) (harg12 : arg12.IsWhole) (arg13 : Memref sig .tc .vmem S1x2816x1024 .bf16) (harg13 : arg13.IsWhole) (arg14 : Memref sig .tc .vmem S512x1024 .f32) (harg14 : arg14.IsWhole)
    (x0 : Vec Ideal S1x256x1024 .f32) (x1 : Vec Ideal S1x256x1024 .f32) (x2 : Vec Ideal S1x256x1024 .f32) (x3 : Vec Ideal S1x256x1024 .f32) (x4 : Vec Ideal S1x8x6144 .f32) (x5 : Vec Ideal S1x1x1024 .f32) (x6 : Vec Ideal S1x1x1024 .f32) (x7 : Vec Ideal S2x4x256x768 .bf16) (x8 : Vec Ideal S1x4x256x256 .bf16) (x9 : Vec Ideal S1x1x1024 .f32) (x10 : Vec Ideal S1x1024x2816 .bf16) (x11 : Vec Ideal S1x1024x2816 .bf16) (x12 : Vec Ideal S1x2816x1024 .bf16)
variable {x0 x1 x2 x3 x4 x5 x6 x7 x8 x9 x10 x11 x12} {D : EvenArgs} {t : Fin grid0.N} (H : Held x0 x1 x2 x3 x4 x5 x6 x7 x8 x9 x10 x11 x12 D t) (hD : D.Finite)
include H hD

/-- The first 256 rows after the mix. -/
theorem mix0 (i : Fin 256) (k : Fin 1024) : kernelRun0_A.sl.r_13 (F := Ideal) c (grid0.coords t) arg1 harg1 arg2 harg2 arg5 harg5 arg6 harg6 arg8 harg8 arg9 harg9 arg10 harg10 x0 x1 x4 x5 x7 x8 x9 (ix2 i k) = D.h1 (blockNo t 0) i k :=
  h1_first (loaded0 arg1 harg1 arg2 harg2 arg5 harg5 arg6 harg6 arg8 harg8 arg9 harg9 arg10 harg10 H) hD i k

/-- The last 256 rows after the mix. -/
theorem mix1 (i : Fin 256) (k : Fin 1024) : kernelRun0_A.sl.r_23 (F := Ideal) c (grid0.coords t) arg3 harg3 arg4 harg4 arg5 harg5 arg6 harg6 arg8 harg8 arg9 harg9 arg10 harg10 x2 x3 x4 x5 x7 x8 x9 (ix2 i k) = D.h1 (blockNo t 1) i k :=
  h1_last (loaded1 arg3 harg3 arg4 harg4 arg5 harg5 arg6 harg6 arg8 harg8 arg9 harg9 arg10 harg10 H) hD i k

/-- The second norms of the first 256 rows. -/
theorem norm0 (i : Fin 256) (k : Fin 1024) : kernelRun0_A.sl.r_14 (F := Ideal) c (grid0.coords t) arg1 harg1 arg2 harg2 arg5 harg5 arg6 harg6 arg7 harg7 arg8 harg8 arg9 harg9 arg10 harg10 x0 x1 x4 x5 x6 x7 x8 x9 (ix2 i k) = D.v (blockNo t 0) i k :=
  v_first (loaded0 arg1 harg1 arg2 harg2 arg5 harg5 arg6 harg6 arg8 harg8 arg9 harg9 arg10 harg10 H) hD (ld_nw2 arg7 harg7 H) (ld_sc2 arg5 harg5 H 0) (ld_sh2 arg5 harg5 H 0) i k

/-- The second norms of both halves. -/
theorem norm_upper (i : Fin 256) (k : Fin 1024) : kernelRun0_A.sl.r_24 (F := Ideal) c (grid0.coords t) arg1 harg1 arg2 harg2 arg3 harg3 arg4 harg4 arg5 harg5 arg6 harg6 arg7 harg7 arg8 harg8 arg9 harg9 arg10 harg10 x0 x1 x2 x3 x4 x5 x6 x7 x8 x9 (ix2 ⟨0 + i.val, by omega⟩ k) = D.v (blockNo t 0) i k :=
  (v_upper (loaded1 arg3 harg3 arg4 harg4 arg5 harg5 arg6 harg6 arg8 harg8 arg9 harg9 arg10 harg10 H) _ i k).trans (norm0 c arg1 harg1 arg2 harg2 arg5 harg5 arg6 harg6 arg7 harg7 arg8 harg8 arg9 harg9 arg10 harg10 H hD i k)

theorem norm_lower (i : Fin 256) (k : Fin 1024) : kernelRun0_A.sl.r_24 (F := Ideal) c (grid0.coords t) arg1 harg1 arg2 harg2 arg3 harg3 arg4 harg4 arg5 harg5 arg6 harg6 arg7 harg7 arg8 harg8 arg9 harg9 arg10 harg10 x0 x1 x2 x3 x4 x5 x6 x7 x8 x9 (ix2 ⟨256 + i.val, by omega⟩ k) = D.v (blockNo t 1) i k :=
  v_last (loaded1 arg3 harg3 arg4 harg4 arg5 harg5 arg6 harg6 arg8 harg8 arg9 harg9 arg10 harg10 H) hD (ld_nw2 arg7 harg7 H) (ld_sc2 arg5 harg5 H 1) (ld_sh2 arg5 harg5 H 1) _ i k

omit hD in
/-- The gated linear layer of a row whose second norm is known. -/
theorem layer (v : Fin 1024 → EReal) (i : Fin 512) (l : Fin 1024) (hv : ∀ k, kernelRun0_A.sl.r_24 (F := Ideal) c (grid0.coords t) arg1 harg1 arg2 harg2 arg3 harg3 arg4 harg4 arg5 harg5 arg6 harg6 arg7 harg7 arg8 harg8 arg9 harg9 arg10 harg10 x0 x1 x2 x3 x4 x5 x6 x7 x8 x9 (ix2 i k) = v k) :
    k0_pay42 (F := Ideal) (kernelRun0_A.sl.r_37 c (grid0.coords t) arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_38 c (grid0.coords t) arg1 harg1 arg2 harg2 arg3 harg3 arg4 harg4 arg5 harg5 arg6 harg6 arg7 harg7 arg8 harg8 arg9 harg9 arg10 harg10 arg12 harg12 x0 x1 x2 x3 x4 x5 x6 x7 x8 x9 x11) (kernelRun0_A.sl.r_39 c (grid0.coords t) arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) k0_pay41
      (View.readAt (Elt Ideal) arg13.view (Rect.unit (s := S1x2816x1024) ![0, 2560, 0] S1x256x1024.size (inb_S1x2816x1024_S1x256x1024_0_2560_0)).toLoadRect (harg13.unread x12)) (ix2 i l) = ffn v D.w1 D.w3 (fun f => D.w2 f l) :=
  layer_at (kernelRun0_A.sl.r_24 (F := Ideal) c (grid0.coords t) arg1 harg1 arg2 harg2 arg3 harg3 arg4 harg4 arg5 harg5 arg6 harg6 arg7 harg7 arg8 harg8 arg9 harg9 arg10 harg10 x0 x1 x2 x3 x4 x5 x6 x7 x8 x9) _ _ _ _ _ _ _ _ _ _ _ _ _ _ _ _ _ _ v D.w1 D.w3 D.w2 i l hv
    (ld_w1_0 arg11 harg11 H) (ld_w1_512 arg11 harg11 H) (ld_w1_1024 arg11 harg11 H) (ld_w1_1536 arg11 harg11 H) (ld_w1_2048 arg11 harg11 H) (ld_w1_2560 arg11 harg11 H)
    (ld_w3_0 arg12 harg12 H) (ld_w3_512 arg12 harg12 H) (ld_w3_1024 arg12 harg12 H) (ld_w3_1536 arg12 harg12 H) (ld_w3_2048 arg12 harg12 H) (ld_w3_2560 arg12 harg12 H)
    (ld_w2_0 arg13 harg13 H l) (ld_w2_512 arg13 harg13 H l) (ld_w2_1024 arg13 harg13 H l) (ld_w2_1536 arg13 harg13 H l) (ld_w2_2048 arg13 harg13 H l) (ld_w2_2560 arg13 harg13 H l)

/-- The store of the first 256 rows. -/
theorem store0 (i : Fin 256) (l : Fin 1024) : k0_pay45 (F := Ideal) (kernelRun0_A.sl.r_13 c (grid0.coords t) arg1 harg1 arg2 harg2 arg5 harg5 arg6 harg6 arg8 harg8 arg9 harg9 arg10 harg10 x0 x1 x4 x5 x7 x8 x9) (kernelRun0_A.sl.r_41 c (grid0.coords t) arg5 harg5 x4) (kernelRun0_A.sl.r_42 c (grid0.coords t) arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (ix2 i l) = D.out (blockNo t 0) i l := by
  refine ((out_first_at _ _ _ _ _ _ _ i l).trans (congrArg₂ (· + ·) (mix0 c arg1 harg1 arg2 harg2 arg5 harg5 arg6 harg6 arg8 harg8 arg9 harg9 arg10 harg10 H hD i l) (congrArg₂ (· * ·) (ld_g5 arg5 harg5 H 0 l)
    (layer c arg1 harg1 arg2 harg2 arg3 harg3 arg4 harg4 arg5 harg5 arg6 harg6 arg7 harg7 arg8 harg8 arg9 harg9 arg10 harg10 arg11 harg11 arg12 harg12 arg13 harg13 H _ _ l (norm_upper c arg1 harg1 arg2 harg2 arg3 harg3 arg4 harg4 arg5 harg5 arg6 harg6 arg7 harg7 arg8 harg8 arg9 harg9 arg10 harg10 H hD i))))).trans ?_
  rfl

/-- The store of the last 256 rows. -/
theorem store1 (i : Fin 256) (l : Fin 1024) : k0_pay1 (F := Ideal) (kernelRun0_A.sl.r_23 c (grid0.coords t) arg3 harg3 arg4 harg4 arg5 harg5 arg6 harg6 arg8 harg8 arg9 harg9 arg10 harg10 x2 x3 x4 x5 x7 x8 x9) (kernelRun0_A.sl.r_43 c (grid0.coords t) arg5 harg5 x4) (kernelRun0_A.sl.r_44 c (grid0.coords t) arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (ix2 i l) = D.out (blockNo t 1) i l := by
  refine ((out_last_at _ _ _ i l).trans (congrArg₂ (· + ·) (mix1 c arg3 harg3 arg4 harg4 arg5 harg5 arg6 harg6 arg8 harg8 arg9 harg9 arg10 harg10 H hD i l) (congrArg₂ (· * ·) (ld_g5 arg5 harg5 H 1 l)
    (layer c arg1 harg1 arg2 harg2 arg3 harg3 arg4 harg4 arg5 harg5 arg6 harg6 arg7 harg7 arg8 harg8 arg9 harg9 arg10 harg10 arg11 harg11 arg12 harg12 arg13 harg13 H _ _ l (norm_lower c arg1 harg1 arg2 harg2 arg3 harg3 arg4 harg4 arg5 harg5 arg6 harg6 arg7 harg7 arg8 harg8 arg9 harg9 arg10 harg10 H hD i))))).trans ?_
  rfl

omit H hD in
/-- The block's formula. -/
def blockOut (D : EvenArgs) (t : Fin grid0.N) : S512x1024.Idx → EReal := fun y =>
  D.out ⟨t.val * 2 + (y 0).val / 256, by have : (y 0).val < 512 := (y 0).isLt; have : t.val < 65 := t.isLt; omega⟩ ⟨(y 0).val % 256, Nat.mod_lt _ (by decide)⟩ (y 1)

omit H hD in
theorem blockOut_at (s : Fin 2) (i : Fin 256) (l : Fin 1024) (y : S512x1024.Idx) (h0 : (y 0).val = s.val * 256 + i.val) (h1 : (y 1).val = l.val) :
    D.out (blockNo t s) i l = blockOut D t y := by
  unfold blockOut
  have e0 : blockNo t s = ⟨t.val * 2 + (y 0).val / 256, by have : (y 0).val < 512 := (y 0).isLt; have : t.val < 65 := t.isLt; omega⟩ :=
    Fin.ext (by show t.val * 2 + s.val = t.val * 2 + (y 0).val / 256; have := i.isLt; omega)
  have e1 : i = ⟨(y 0).val % 256, Nat.mod_lt _ (by decide)⟩ := Fin.ext (by show i.val = (y 0).val % 256; have := i.isLt; omega)
  have e2 : l = y 1 := Fin.ext h1.symm
  rw [e0, e2]
  exact congrArg (fun q => D.out _ q _) e1

theorem out_eq (y : S512x1024.Idx) :
    out0_A_13 c (grid0.coords t) arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 y = blockOut D t y := by
  unfold out0_A_13
  refine View.read_writes_apply_of_pieces _ _ (blockOut D t) _ ?_ y (cover0_A_13 c (grid0.coords t) arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 y)
  unfold kernelRun0_A
  refine List.forall_mem_cons.mpr ⟨fun z => ?_, List.forall_mem_cons.mpr ⟨fun z => ?_, fun _ h => nomatch h⟩⟩
  · obtain ⟨i, l, rfl⟩ : ∃ (i : Fin 256) (l : Fin 1024), z = ix2 i l := ⟨z 0, z 1, by idx_vars z⟩
    exact (store1 c arg1 harg1 arg2 harg2 arg3 harg3 arg4 harg4 arg5 harg5 arg6 harg6 arg7 harg7 arg8 harg8 arg9 harg9 arg10 harg10 arg11 harg11 arg12 harg12 arg13 harg13 H hD i l).trans (blockOut_at 1 i l _ (by show 256 + 1 * i.val = 1 * 256 + i.val; omega) (by show 0 + 1 * l.val = l.val; omega))
  · obtain ⟨i, l, rfl⟩ : ∃ (i : Fin 256) (l : Fin 1024), z = ix2 i l := ⟨z 0, z 1, by idx_vars z⟩
    exact (store0 c arg1 harg1 arg2 harg2 arg3 harg3 arg4 harg4 arg5 harg5 arg6 harg6 arg7 harg7 arg8 harg8 arg9 harg9 arg10 harg10 arg11 harg11 arg12 harg12 arg13 harg13 H hD i l).trans (blockOut_at 0 i l _ (by show 0 + 1 * i.val = 0 * 256 + i.val; omega) (by show 0 + 1 * l.val = l.val; omega))

end Cert.Kernel5Ideal.Even0

end
-- ==== Proof.Even0Reference.lean ====
/- The first pooling layer's reference, row by row, the stream handed over as two arrays. -/
module

public import proofs.«01_k».proof.Defs
public import proofs.«01_k».proof.Proof.EvenReference
public import proofs.«01_k».proof.Proof.Gen.Reference5Ideal.Run

@[expose] public section

set_option maxRecDepth 16384

noncomputable section

namespace Cert.Reference5Ideal.Even0

open Cert.Reference5Ideal Cert.Reference5Ideal.Gen Cert.Reference5Ideal.Value
open Idealize.ShloMosaic
open Idealize.ShloMosaic.TcCoe Idealize.ShloMosaic.Tactic
open Idealize.SL Idealize.SL.Sem
open Cert.Rows
open Cert.Reference4Ideal.Even (split_eq sample_of place_of outAll outAll_rowOf)
open Idealize.ShloMosaic.StableHlo (launchContents)

variable (V : Valuation τ sig (Elt Ideal))

/-- The layer's arguments, by their rows and columns. -/
def args : EvenArgs where
  h r k := res_main_v1 (F := Ideal) V (ix2 r k)
  tbl q j := V (Proc.devRef .tc main_arg2) (ix3 0 q j)
  nw1 k := V (Proc.devRef .tc main_arg3) (ix3 0 0 k)
  nw2 k := V (Proc.devRef .tc main_arg4) (ix3 0 0 k)
  avg a g i s := V (Proc.devRef .tc main_arg5) (ix4 a g i s)
  pw g c o := V (Proc.devRef .tc main_arg6) (ix4 0 g c o)
  ps k := V (Proc.devRef .tc main_arg7) (ix3 0 0 k)
  w1 k f := V (Proc.devRef .tc main_arg8) (ix3 0 k f)
  w3 k f := V (Proc.devRef .tc main_arg9) (ix3 0 k f)
  w2 f k := V (Proc.devRef .tc main_arg10) (ix3 0 f k)

theorem u_at (r : Fin 33280) (k : Fin 1024) : res_main_v40 (F := Ideal) V (ix2 r k)
    = urow ((args V).h r) (args V).nw1 (fun k => (args V).tbl (modAt r) ⟨1024 + k.val, by omega⟩) (fun k => (args V).tbl (modAt r) ⟨0 + k.val, by omega⟩) k := by
  pointwise [res_main_v40, res_main_v18, res_main_v31, urow, rms, args]
  exact congrArg₂ (· + ·) (congrArg₂ (· * ·) rfl (congrArg₂ (· + ·) rfl (split_eq r fun q => V (Proc.devRef .tc main_arg2) (ix3 0 q ⟨1024 + k.val, by omega⟩))))
    (split_eq r fun q => V (Proc.devRef .tc main_arg2) (ix3 0 q ⟨k.val, by omega⟩))

theorem u_block (b : Fin 130) (i : Fin 256) (k : Fin 1024) : res_main_v40 (F := Ideal) V (ix2 (rowOf b i) k) = (args V).u b i k := by
  rw [u_at, modAt_rowOf]
  rfl

/-- One group's mixing at a row: the window's weighted sums of the group's channels, less the row itself, projected. -/
theorem group_at (b : Fin 130) (i : Fin 256) (g : Fin 4) (o : Fin 256) (ctx : Fin 2 → Fin 256 → Fin 256 → EReal) (lat : Fin 128 → Fin 256 → Fin 256 → EReal)
    (all : Fin 2 → Fin 16640 → Fin 256 → EReal) (hc : ∀ q s c (r : Fin 33280), r.val = q.val * 16640 + s.val → ctx q s c = res_main_v40 (F := Ideal) V (ix2 r (chan g c)))
    (hl : ∀ n s c (r : Fin 33280), r.val = n.val / 64 * 16640 + 256 + n.val % 64 * 256 + s.val → lat n s c = res_main_v40 (F := Ideal) V (ix2 r (chan g c)))
    (ha : ∀ q p c (r : Fin 33280), r.val = q.val * 16640 + p.val → all q p c = res_main_v40 (F := Ideal) V (ix2 r (chan g c)))
    (p0 : (rowOf b i).val / 16640 < 2) (p1 : (rowOf b i).val % 16640 < 16640) (p2 : (rowOf b i).val / 16640 * 64 + ((rowOf b i).val % 16640 - 256) / 256 < 128)
    (p3 : ((rowOf b i).val % 16640 - 256) % 256 < 256) :
    ∑ c : Fin 256, ((if h : (rowOf b i).val % 16640 < 256 then
          ∑ s : Fin 256, ctx ⟨(rowOf b i).val / 16640, p0⟩ s c * (V (Proc.devRef .tc main_arg5) (ix4 1 g ⟨(rowOf b i).val % 16640, h⟩ ⟨s.val, by omega⟩) : EReal)
          + ∑ s : Fin 256, ctx ⟨(rowOf b i).val / 16640, p0⟩ s c * (V (Proc.devRef .tc main_arg5) (ix4 1 g ⟨(rowOf b i).val % 16640, h⟩ ⟨256 + s.val, by omega⟩) : EReal)
        else
          ∑ s : Fin 256, lat ⟨(rowOf b i).val / 16640 * 64 + ((rowOf b i).val % 16640 - 256) / 256, p2⟩ s c * (V (Proc.devRef .tc main_arg5) (ix4 0 g ⟨((rowOf b i).val % 16640 - 256) % 256, p3⟩ ⟨s.val, by omega⟩) : EReal)
          + ∑ s : Fin 256, lat ⟨(rowOf b i).val / 16640 * 64 + ((rowOf b i).val % 16640 - 256) / 256, p2⟩ s c * (V (Proc.devRef .tc main_arg5) (ix4 0 g ⟨((rowOf b i).val % 16640 - 256) % 256, p3⟩ ⟨256 + s.val, by omega⟩) : EReal))
        - all ⟨(rowOf b i).val / 16640, p0⟩ ⟨(rowOf b i).val % 16640, p1⟩ c) * (V (Proc.devRef .tc main_arg6) (ix4 0 g c o) : EReal)
      = (args V).mix b i (chan g o) := by
  have hi := i.isLt
  have hb := b.isLt
  have e1 := sample_of b i
  have e2 := place_of b i
  unfold EvenArgs.mix mixAt
  rw [grp_chan, col_chan]
  refine Finset.sum_congr rfl fun c _ => congrArg₂ (· * ·) ?_ rfl
  refine congrArg₂ (· - ·) ?_ ((ha _ _ c (rowOf b i) (by show (rowOf b i).val = (rowOf b i).val / 16640 * 16640 + (rowOf b i).val % 16640; omega)).trans (u_block V b i (chan g c)))
  by_cases h : (rowOf b i).val % 16640 < 256
  · have hk : kindOf b = 1 := if_pos (by omega)
    have ei : (⟨(rowOf b i).val % 16640, h⟩ : Fin 256) = i := Fin.ext (by show (rowOf b i).val % 16640 = i.val; omega)
    have eu : ∀ s : Fin 256, ctx ⟨(rowOf b i).val / 16640, p0⟩ s c = (args V).u b s (chan g c) := fun s =>
      (hc _ s c (rowOf b s) (by show b.val * 256 + s.val = (rowOf b i).val / 16640 * 16640 + s.val; omega)).trans (u_block V b s (chan g c))
    rw [dif_pos h, hk, ei]
    exact congrArg₂ (· + ·) (Finset.sum_congr rfl fun s _ => (congrArg (· * _) (eu s)).trans (mul_comm _ _)) (Finset.sum_congr rfl fun s _ => (congrArg (· * _) (eu s)).trans (mul_comm _ _))
  · have hk : kindOf b = 0 := if_neg (by omega)
    have ei : (⟨((rowOf b i).val % 16640 - 256) % 256, p3⟩ : Fin 256) = i := Fin.ext (by show ((rowOf b i).val % 16640 - 256) % 256 = i.val; omega)
    have eu : ∀ s : Fin 256, lat ⟨(rowOf b i).val / 16640 * 64 + ((rowOf b i).val % 16640 - 256) / 256, p2⟩ s c = (args V).u b s (chan g c) := fun s =>
      (hl _ s c (rowOf b s) (by
        show b.val * 256 + s.val = ((rowOf b i).val / 16640 * 64 + ((rowOf b i).val % 16640 - 256) / 256) / 64 * 16640 + 256
          + ((rowOf b i).val / 16640 * 64 + ((rowOf b i).val % 16640 - 256) / 256) % 64 * 256 + s.val
        omega)).trans (u_block V b s (chan g c))
    rw [dif_neg h, hk, ei]
    exact congrArg₂ (· + ·) (Finset.sum_congr rfl fun s _ => (congrArg (· * _) (eu s)).trans (mul_comm _ _)) (Finset.sum_congr rfl fun s _ => (congrArg (· * _) (eu s)).trans (mul_comm _ _))

/-- Group 0's channels of the modulated norms: all rows, the context's and the latents'. -/
theorem all0 (q : Fin 2) (p : Fin 16640) (c : Fin 256) (r : Fin 33280) (hr : r.val = q.val * 16640 + p.val) : (res_main_v42 (F := Ideal) V (ix3 q p c) : EReal) = res_main_v40 (F := Ideal) V (ix2 r (chan 0 c)) := by
  pointwise [res_main_v42]
  exact congrArg₂ (fun x y => res_main_v40 (F := Ideal) V (ix2 x y)) (Fin.ext hr.symm) (Fin.ext (by show c.val = 0 * 256 + c.val; omega))
theorem ctx0 (q : Fin 2) (s : Fin 256) (c : Fin 256) (r : Fin 33280) (hr : r.val = q.val * 16640 + s.val) : (res_main_v57 (F := Ideal) V (ix3 q s c) : EReal) = res_main_v40 (F := Ideal) V (ix2 r (chan 0 c)) := by
  pointwise [res_main_v57]
  exact all0 V _ _ c r hr
theorem lat0 (n : Fin 128) (s : Fin 256) (c : Fin 256) (r : Fin 33280) (hr : r.val = n.val / 64 * 16640 + 256 + n.val % 64 * 256 + s.val) : (res_main_v44 (F := Ideal) V (ix3 n s c) : EReal) = res_main_v40 (F := Ideal) V (ix2 r (chan 0 c)) := by
  have hn := n.isLt
  have hs := s.isLt
  pointwise [res_main_v44]
  exact all0 V _ _ c r (by rw [hr]; dsimp only; omega)

/-- Group 1's channels of the modulated norms: all rows, the context's and the latents'. -/
theorem all1 (q : Fin 2) (p : Fin 16640) (c : Fin 256) (r : Fin 33280) (hr : r.val = q.val * 16640 + p.val) : (res_main_v77 (F := Ideal) V (ix3 q p c) : EReal) = res_main_v40 (F := Ideal) V (ix2 r (chan 1 c)) := by
  pointwise [res_main_v77]
  exact congrArg₂ (fun x y => res_main_v40 (F := Ideal) V (ix2 x y)) (Fin.ext hr.symm) (Fin.ext (by show 256 + c.val = 1 * 256 + c.val; omega))
theorem ctx1 (q : Fin 2) (s : Fin 256) (c : Fin 256) (r : Fin 33280) (hr : r.val = q.val * 16640 + s.val) : (res_main_v92 (F := Ideal) V (ix3 q s c) : EReal) = res_main_v40 (F := Ideal) V (ix2 r (chan 1 c)) := by
  pointwise [res_main_v92]
  exact all1 V _ _ c r hr
theorem lat1 (n : Fin 128) (s : Fin 256) (c : Fin 256) (r : Fin 33280) (hr : r.val = n.val / 64 * 16640 + 256 + n.val % 64 * 256 + s.val) : (res_main_v79 (F := Ideal) V (ix3 n s c) : EReal) = res_main_v40 (F := Ideal) V (ix2 r (chan 1 c)) := by
  have hn := n.isLt
  have hs := s.isLt
  pointwise [res_main_v79]
  exact all1 V _ _ c r (by rw [hr]; dsimp only; omega)

/-- Group 2's channels of the modulated norms: all rows, the context's and the latents'. -/
theorem all2 (q : Fin 2) (p : Fin 16640) (c : Fin 256) (r : Fin 33280) (hr : r.val = q.val * 16640 + p.val) : (res_main_v112 (F := Ideal) V (ix3 q p c) : EReal) = res_main_v40 (F := Ideal) V (ix2 r (chan 2 c)) := by
  pointwise [res_main_v112]
  exact congrArg₂ (fun x y => res_main_v40 (F := Ideal) V (ix2 x y)) (Fin.ext hr.symm) (Fin.ext (by show 512 + c.val = 2 * 256 + c.val; omega))
theorem ctx2 (q : Fin 2) (s : Fin 256) (c : Fin 256) (r : Fin 33280) (hr : r.val = q.val * 16640 + s.val) : (res_main_v127 (F := Ideal) V (ix3 q s c) : EReal) = res_main_v40 (F := Ideal) V (ix2 r (chan 2 c)) := by
  pointwise [res_main_v127]
  exact all2 V _ _ c r hr
theorem lat2 (n : Fin 128) (s : Fin 256) (c : Fin 256) (r : Fin 33280) (hr : r.val = n.val / 64 * 16640 + 256 + n.val % 64 * 256 + s.val) : (res_main_v114 (F := Ideal) V (ix3 n s c) : EReal) = res_main_v40 (F := Ideal) V (ix2 r (chan 2 c)) := by
  have hn := n.isLt
  have hs := s.isLt
  pointwise [res_main_v114]
  exact all2 V _ _ c r (by rw [hr]; dsimp only; omega)

/-- Group 3's channels of the modulated norms: all rows, the context's and the latents'. -/
theorem all3 (q : Fin 2) (p : Fin 16640) (c : Fin 256) (r : Fin 33280) (hr : r.val = q.val * 16640 + p.val) : (res_main_v147 (F := Ideal) V (ix3 q p c) : EReal) = res_main_v40 (F := Ideal) V (ix2 r (chan 3 c)) := by
  pointwise [res_main_v147]
  exact congrArg₂ (fun x y => res_main_v40 (F := Ideal) V (ix2 x y)) (Fin.ext hr.symm) (Fin.ext (by show 768 + c.val = 3 * 256 + c.val; omega))
theorem ctx3 (q : Fin 2) (s : Fin 256) (c : Fin 256) (r : Fin 33280) (hr : r.val = q.val * 16640 + s.val) : (res_main_v162 (F := Ideal) V (ix3 q s c) : EReal) = res_main_v40 (F := Ideal) V (ix2 r (chan 3 c)) := by
  pointwise [res_main_v162]
  exact all3 V _ _ c r hr
theorem lat3 (n : Fin 128) (s : Fin 256) (c : Fin 256) (r : Fin 33280) (hr : r.val = n.val / 64 * 16640 + 256 + n.val % 64 * 256 + s.val) : (res_main_v149 (F := Ideal) V (ix3 n s c) : EReal) = res_main_v40 (F := Ideal) V (ix2 r (chan 3 c)) := by
  have hn := n.isLt
  have hs := s.isLt
  pointwise [res_main_v149]
  exact all3 V _ _ c r (by rw [hr]; dsimp only; omega)

/-- The four groups' mixing side by side, of the groups' channels, the averages and the groups' projections. -/
def mixOf (a0 a1 a2 a3 : FVec Ideal S2x16640x256 .f32) (l0 l1 l2 l3 : FVec Ideal S128x256x256 .f32) (x0 x1 x2 x3 : FVec Ideal S2x256x256 .f32) (A : FVec Ideal S2x4x256x768 .bf16) (W0 W1 W2 W3 : FVec Ideal S256x256 .f32) : FVec Ideal S33280x1024 .f32 :=
  (concatenate S33280x1024 1 [⟨S33280x256, ((Host.dotGeneral dot_S33280x256_S256x256_S33280x256_1_0_0_1_n_n none (shapeCast _ (subf (concatenate S2x16640x256 1 [⟨S2x256x256, (addf (transpose S2x256x256 [0, 2, 1] (Host.dotGeneral dot_S2x256x256_S256x256_S2x256x256_1_1_02_0_n_n none x0 (extf .f32 (shapeCast _ (extractStridedSlice S1x1x256x256 ![1, 0, 0, 0] A slices_S2x4x256x768_S1x1x256x256_1_0_0_0) shapeCasts_S1x1x256x256_S256x256) bitsLt_bf16_f32)) transposes_S2x256x256_S2x256x256_0_2_1) (transpose S2x256x256 [0, 2, 1] (Host.dotGeneral dot_S2x256x256_S256x256_S2x256x256_1_1_02_0_n_n none x0 (extf .f32 (shapeCast _ (extractStridedSlice S1x1x256x256 ![1, 0, 0, 256] A slices_S2x4x256x768_S1x1x256x256_1_0_0_256) shapeCasts_S1x1x256x256_S256x256) bitsLt_bf16_f32)) transposes_S2x256x256_S2x256x256_0_2_1))⟩, ⟨S2x16384x256, (shapeCast _ (addf (transpose S128x256x256 [0, 2, 1] (Host.dotGeneral dot_S128x256x256_S256x256_S128x256x256_1_1_02_0_n_n none l0 (extf .f32 (shapeCast _ (extractStridedSlice S1x1x256x256 ![0, 0, 0, 0] A slices_S2x4x256x768_S1x1x256x256_0_0_0_0) shapeCasts_S1x1x256x256_S256x256) bitsLt_bf16_f32)) transposes_S128x256x256_S128x256x256_0_2_1) (transpose S128x256x256 [0, 2, 1] (Host.dotGeneral dot_S128x256x256_S256x256_S128x256x256_1_1_02_0_n_n none l0 (extf .f32 (shapeCast _ (extractStridedSlice S1x1x256x256 ![0, 0, 0, 256] A slices_S2x4x256x768_S1x1x256x256_0_0_0_256) shapeCasts_S1x1x256x256_S256x256) bitsLt_bf16_f32)) transposes_S128x256x256_S128x256x256_0_2_1)) shapeCasts_S128x256x256_S2x16384x256)⟩] concatenates_S2x256x256_S2x16384x256_S2x16640x256_d1) a0) shapeCasts_S2x16640x256_S33280x256) W0) : (⟨S33280x256, .f32⟩ : BufTy).Contents (Elt Ideal))⟩, ⟨S33280x256, ((Host.dotGeneral dot_S33280x256_S256x256_S33280x256_1_0_0_1_n_n none (shapeCast _ (subf (concatenate S2x16640x256 1 [⟨S2x256x256, (addf (transpose S2x256x256 [0, 2, 1] (Host.dotGeneral dot_S2x256x256_S256x256_S2x256x256_1_1_02_0_n_n none x1 (extf .f32 (shapeCast _ (extractStridedSlice S1x1x256x256 ![1, 1, 0, 0] A slices_S2x4x256x768_S1x1x256x256_1_1_0_0) shapeCasts_S1x1x256x256_S256x256) bitsLt_bf16_f32)) transposes_S2x256x256_S2x256x256_0_2_1) (transpose S2x256x256 [0, 2, 1] (Host.dotGeneral dot_S2x256x256_S256x256_S2x256x256_1_1_02_0_n_n none x1 (extf .f32 (shapeCast _ (extractStridedSlice S1x1x256x256 ![1, 1, 0, 256] A slices_S2x4x256x768_S1x1x256x256_1_1_0_256) shapeCasts_S1x1x256x256_S256x256) bitsLt_bf16_f32)) transposes_S2x256x256_S2x256x256_0_2_1))⟩, ⟨S2x16384x256, (shapeCast _ (addf (transpose S128x256x256 [0, 2, 1] (Host.dotGeneral dot_S128x256x256_S256x256_S128x256x256_1_1_02_0_n_n none l1 (extf .f32 (shapeCast _ (extractStridedSlice S1x1x256x256 ![0, 1, 0, 0] A slices_S2x4x256x768_S1x1x256x256_0_1_0_0) shapeCasts_S1x1x256x256_S256x256) bitsLt_bf16_f32)) transposes_S128x256x256_S128x256x256_0_2_1) (transpose S128x256x256 [0, 2, 1] (Host.dotGeneral dot_S128x256x256_S256x256_S128x256x256_1_1_02_0_n_n none l1 (extf .f32 (shapeCast _ (extractStridedSlice S1x1x256x256 ![0, 1, 0, 256] A slices_S2x4x256x768_S1x1x256x256_0_1_0_256) shapeCasts_S1x1x256x256_S256x256) bitsLt_bf16_f32)) transposes_S128x256x256_S128x256x256_0_2_1)) shapeCasts_S128x256x256_S2x16384x256)⟩] concatenates_S2x256x256_S2x16384x256_S2x16640x256_d1) a1) shapeCasts_S2x16640x256_S33280x256) W1) : (⟨S33280x256, .f32⟩ : BufTy).Contents (Elt Ideal))⟩, ⟨S33280x256, ((Host.dotGeneral dot_S33280x256_S256x256_S33280x256_1_0_0_1_n_n none (shapeCast _ (subf (concatenate S2x16640x256 1 [⟨S2x256x256, (addf (transpose S2x256x256 [0, 2, 1] (Host.dotGeneral dot_S2x256x256_S256x256_S2x256x256_1_1_02_0_n_n none x2 (extf .f32 (shapeCast _ (extractStridedSlice S1x1x256x256 ![1, 2, 0, 0] A slices_S2x4x256x768_S1x1x256x256_1_2_0_0) shapeCasts_S1x1x256x256_S256x256) bitsLt_bf16_f32)) transposes_S2x256x256_S2x256x256_0_2_1) (transpose S2x256x256 [0, 2, 1] (Host.dotGeneral dot_S2x256x256_S256x256_S2x256x256_1_1_02_0_n_n none x2 (extf .f32 (shapeCast _ (extractStridedSlice S1x1x256x256 ![1, 2, 0, 256] A slices_S2x4x256x768_S1x1x256x256_1_2_0_256) shapeCasts_S1x1x256x256_S256x256) bitsLt_bf16_f32)) transposes_S2x256x256_S2x256x256_0_2_1))⟩, ⟨S2x16384x256, (shapeCast _ (addf (transpose S128x256x256 [0, 2, 1] (Host.dotGeneral dot_S128x256x256_S256x256_S128x256x256_1_1_02_0_n_n none l2 (extf .f32 (shapeCast _ (extractStridedSlice S1x1x256x256 ![0, 2, 0, 0] A slices_S2x4x256x768_S1x1x256x256_0_2_0_0) shapeCasts_S1x1x256x256_S256x256) bitsLt_bf16_f32)) transposes_S128x256x256_S128x256x256_0_2_1) (transpose S128x256x256 [0, 2, 1] (Host.dotGeneral dot_S128x256x256_S256x256_S128x256x256_1_1_02_0_n_n none l2 (extf .f32 (shapeCast _ (extractStridedSlice S1x1x256x256 ![0, 2, 0, 256] A slices_S2x4x256x768_S1x1x256x256_0_2_0_256) shapeCasts_S1x1x256x256_S256x256) bitsLt_bf16_f32)) transposes_S128x256x256_S128x256x256_0_2_1)) shapeCasts_S128x256x256_S2x16384x256)⟩] concatenates_S2x256x256_S2x16384x256_S2x16640x256_d1) a2) shapeCasts_S2x16640x256_S33280x256) W2) : (⟨S33280x256, .f32⟩ : BufTy).Contents (Elt Ideal))⟩, ⟨S33280x256, ((Host.dotGeneral dot_S33280x256_S256x256_S33280x256_1_0_0_1_n_n none (shapeCast _ (subf (concatenate S2x16640x256 1 [⟨S2x256x256, (addf (transpose S2x256x256 [0, 2, 1] (Host.dotGeneral dot_S2x256x256_S256x256_S2x256x256_1_1_02_0_n_n none x3 (extf .f32 (shapeCast _ (extractStridedSlice S1x1x256x256 ![1, 3, 0, 0] A slices_S2x4x256x768_S1x1x256x256_1_3_0_0) shapeCasts_S1x1x256x256_S256x256) bitsLt_bf16_f32)) transposes_S2x256x256_S2x256x256_0_2_1) (transpose S2x256x256 [0, 2, 1] (Host.dotGeneral dot_S2x256x256_S256x256_S2x256x256_1_1_02_0_n_n none x3 (extf .f32 (shapeCast _ (extractStridedSlice S1x1x256x256 ![1, 3, 0, 256] A slices_S2x4x256x768_S1x1x256x256_1_3_0_256) shapeCasts_S1x1x256x256_S256x256) bitsLt_bf16_f32)) transposes_S2x256x256_S2x256x256_0_2_1))⟩, ⟨S2x16384x256, (shapeCast _ (addf (transpose S128x256x256 [0, 2, 1] (Host.dotGeneral dot_S128x256x256_S256x256_S128x256x256_1_1_02_0_n_n none l3 (extf .f32 (shapeCast _ (extractStridedSlice S1x1x256x256 ![0, 3, 0, 0] A slices_S2x4x256x768_S1x1x256x256_0_3_0_0) shapeCasts_S1x1x256x256_S256x256) bitsLt_bf16_f32)) transposes_S128x256x256_S128x256x256_0_2_1) (transpose S128x256x256 [0, 2, 1] (Host.dotGeneral dot_S128x256x256_S256x256_S128x256x256_1_1_02_0_n_n none l3 (extf .f32 (shapeCast _ (extractStridedSlice S1x1x256x256 ![0, 3, 0, 256] A slices_S2x4x256x768_S1x1x256x256_0_3_0_256) shapeCasts_S1x1x256x256_S256x256) bitsLt_bf16_f32)) transposes_S128x256x256_S128x256x256_0_2_1)) shapeCasts_S128x256x256_S2x16384x256)⟩] concatenates_S2x256x256_S2x16384x256_S2x16640x256_d1) a3) shapeCasts_S2x16640x256_S33280x256) W3) : (⟨S33280x256, .f32⟩ : BufTy).Contents (Elt Ideal))⟩] concatenates_S33280x256_S33280x256_S33280x256_S33280x256_S33280x1024_d1 : (⟨S33280x1024, .f32⟩ : BufTy).Contents (Elt Ideal))

/-- One group's mixing at a row. -/
def groupOf (a : FVec Ideal S2x16640x256 .f32) (l : FVec Ideal S128x256x256 .f32) (x : FVec Ideal S2x256x256 .f32) (A : FVec Ideal S2x4x256x768 .bf16) (W : FVec Ideal S256x256 .f32) (g : Fin 4)
    (r : Fin 33280) (o : Fin 256) : EReal :=
  ∑ c : Fin 256, ((if h : r.val % 16640 < 256 then
          ∑ s : Fin 256, x (ix3 ⟨r.val / 16640, by omega⟩ s c) * (A (ix4 1 g ⟨r.val % 16640, h⟩ ⟨s.val, by omega⟩) : EReal)
          + ∑ s : Fin 256, x (ix3 ⟨r.val / 16640, by omega⟩ s c) * (A (ix4 1 g ⟨r.val % 16640, h⟩ ⟨256 + s.val, by omega⟩) : EReal)
        else
          ∑ s : Fin 256, l (ix3 ⟨r.val / 16640 * 64 + (r.val % 16640 - 256) / 256, by omega⟩ s c) * (A (ix4 0 g ⟨(r.val % 16640 - 256) % 256, by omega⟩ ⟨s.val, by omega⟩) : EReal)
          + ∑ s : Fin 256, l (ix3 ⟨r.val / 16640 * 64 + (r.val % 16640 - 256) / 256, by omega⟩ s c) * (A (ix4 0 g ⟨(r.val % 16640 - 256) % 256, by omega⟩ ⟨256 + s.val, by omega⟩) : EReal))
        - a (ix3 ⟨r.val / 16640, by omega⟩ ⟨r.val % 16640, by omega⟩ c)) * W (ix2 c o)

theorem mixOf_at (a0 a1 a2 a3 : FVec Ideal S2x16640x256 .f32) (l0 l1 l2 l3 : FVec Ideal S128x256x256 .f32) (x0 x1 x2 x3 : FVec Ideal S2x256x256 .f32) (A : FVec Ideal S2x4x256x768 .bf16) (W0 W1 W2 W3 : FVec Ideal S256x256 .f32) (r : Fin 33280) (k : Fin 1024) : mixOf a0 a1 a2 a3 l0 l1 l2 l3 x0 x1 x2 x3 A W0 W1 W2 W3 (ix2 r k)
    = if h0 : k.val < 256 then groupOf a0 l0 x0 A W0 0 r ⟨k.val, h0⟩ else if h1 : k.val - 256 < 256 then groupOf a1 l1 x1 A W1 1 r ⟨k.val - 256, h1⟩
      else if h2 : k.val - 256 - 256 < 256 then groupOf a2 l2 x2 A W2 2 r ⟨k.val - 256 - 256, h2⟩ else groupOf a3 l3 x3 A W3 3 r ⟨k.val - 256 - 256 - 256, by omega⟩ := by
  pointwise [mixOf, groupOf]

/-- A group's projection. -/
def proj (V : Valuation τ sig (Elt Ideal)) : Fin 4 → FVec Ideal S256x256 .f32 := ![
  (extf .f32 (shapeCast S256x256 (extractStridedSlice S1x1x256x256 ![0, 0, 0, 0] (V (Proc.devRef .tc main_arg6) : FVec Ideal S2x4x256x256 .bf16) slices_S2x4x256x256_S1x1x256x256_0_0_0_0 : FVec Ideal S1x1x256x256 .bf16) shapeCasts_S1x1x256x256_S256x256 : FVec Ideal S256x256 .bf16) bitsLt_bf16_f32 : FVec Ideal S256x256 .f32),
  (extf .f32 (shapeCast S256x256 (extractStridedSlice S1x1x256x256 ![0, 1, 0, 0] (V (Proc.devRef .tc main_arg6) : FVec Ideal S2x4x256x256 .bf16) slices_S2x4x256x256_S1x1x256x256_0_1_0_0 : FVec Ideal S1x1x256x256 .bf16) shapeCasts_S1x1x256x256_S256x256 : FVec Ideal S256x256 .bf16) bitsLt_bf16_f32 : FVec Ideal S256x256 .f32),
  (extf .f32 (shapeCast S256x256 (extractStridedSlice S1x1x256x256 ![0, 2, 0, 0] (V (Proc.devRef .tc main_arg6) : FVec Ideal S2x4x256x256 .bf16) slices_S2x4x256x256_S1x1x256x256_0_2_0_0 : FVec Ideal S1x1x256x256 .bf16) shapeCasts_S1x1x256x256_S256x256 : FVec Ideal S256x256 .bf16) bitsLt_bf16_f32 : FVec Ideal S256x256 .f32),
  (extf .f32 (shapeCast S256x256 (extractStridedSlice S1x1x256x256 ![0, 3, 0, 0] (V (Proc.devRef .tc main_arg6) : FVec Ideal S2x4x256x256 .bf16) slices_S2x4x256x256_S1x1x256x256_0_3_0_0 : FVec Ideal S1x1x256x256 .bf16) shapeCasts_S1x1x256x256_S256x256 : FVec Ideal S256x256 .bf16) bitsLt_bf16_f32 : FVec Ideal S256x256 .f32)]

theorem proj0_at (c o : Fin 256) : proj V 0 (ix2 c o) = (V (Proc.devRef .tc main_arg6) (ix4 0 0 c o) : EReal) := by
  show (extf .f32 (shapeCast S256x256 (extractStridedSlice S1x1x256x256 ![0, 0, 0, 0] (V (Proc.devRef .tc main_arg6) : FVec Ideal S2x4x256x256 .bf16) slices_S2x4x256x256_S1x1x256x256_0_0_0_0 : FVec Ideal S1x1x256x256 .bf16) shapeCasts_S1x1x256x256_S256x256 : FVec Ideal S256x256 .bf16) bitsLt_bf16_f32 : FVec Ideal S256x256 .f32) (ix2 c o) = _
  pointwise

theorem proj1_at (c o : Fin 256) : proj V 1 (ix2 c o) = (V (Proc.devRef .tc main_arg6) (ix4 0 1 c o) : EReal) := by
  show (extf .f32 (shapeCast S256x256 (extractStridedSlice S1x1x256x256 ![0, 1, 0, 0] (V (Proc.devRef .tc main_arg6) : FVec Ideal S2x4x256x256 .bf16) slices_S2x4x256x256_S1x1x256x256_0_1_0_0 : FVec Ideal S1x1x256x256 .bf16) shapeCasts_S1x1x256x256_S256x256 : FVec Ideal S256x256 .bf16) bitsLt_bf16_f32 : FVec Ideal S256x256 .f32) (ix2 c o) = _
  pointwise

theorem proj2_at (c o : Fin 256) : proj V 2 (ix2 c o) = (V (Proc.devRef .tc main_arg6) (ix4 0 2 c o) : EReal) := by
  show (extf .f32 (shapeCast S256x256 (extractStridedSlice S1x1x256x256 ![0, 2, 0, 0] (V (Proc.devRef .tc main_arg6) : FVec Ideal S2x4x256x256 .bf16) slices_S2x4x256x256_S1x1x256x256_0_2_0_0 : FVec Ideal S1x1x256x256 .bf16) shapeCasts_S1x1x256x256_S256x256 : FVec Ideal S256x256 .bf16) bitsLt_bf16_f32 : FVec Ideal S256x256 .f32) (ix2 c o) = _
  pointwise

theorem proj3_at (c o : Fin 256) : proj V 3 (ix2 c o) = (V (Proc.devRef .tc main_arg6) (ix4 0 3 c o) : EReal) := by
  show (extf .f32 (shapeCast S256x256 (extractStridedSlice S1x1x256x256 ![0, 3, 0, 0] (V (Proc.devRef .tc main_arg6) : FVec Ideal S2x4x256x256 .bf16) slices_S2x4x256x256_S1x1x256x256_0_3_0_0 : FVec Ideal S1x1x256x256 .bf16) shapeCasts_S1x1x256x256_S256x256 : FVec Ideal S256x256 .bf16) bitsLt_bf16_f32 : FVec Ideal S256x256 .f32) (ix2 c o) = _
  pointwise

theorem mix_eq : res_main_v191 (F := Ideal) V = mixOf (res_main_v42 (F := Ideal) V) (res_main_v77 (F := Ideal) V) (res_main_v112 (F := Ideal) V) (res_main_v147 (F := Ideal) V) (res_main_v44 (F := Ideal) V) (res_main_v79 (F := Ideal) V) (res_main_v114 (F := Ideal) V) (res_main_v149 (F := Ideal) V) (res_main_v57 (F := Ideal) V) (res_main_v92 (F := Ideal) V) (res_main_v127 (F := Ideal) V) (res_main_v162 (F := Ideal) V) (V (Proc.devRef .tc main_arg5)) (proj V 0) (proj V 1) (proj V 2) (proj V 3) := rfl

theorem mix_at (b : Fin 130) (i : Fin 256) (k : Fin 1024) : (res_main_v191 (F := Ideal) V (ix2 (rowOf b i) k) : EReal) = (args V).mix b i k := by
  have hk := k.isLt
  have hb := b.isLt
  have hi := i.isLt
  have e1 := sample_of b i
  have e2 := place_of b i
  have p0 : (rowOf b i).val / 16640 < 2 := by omega
  have p1 : (rowOf b i).val % 16640 < 16640 := by omega
  have p2 : (rowOf b i).val / 16640 * 64 + ((rowOf b i).val % 16640 - 256) / 256 < 128 := by omega
  have p3 : ((rowOf b i).val % 16640 - 256) % 256 < 256 := by omega
  refine (congrFun (mix_eq V) _).trans ((mixOf_at _ _ _ _ _ _ _ _ _ _ _ _ _ _ _ _ _ _ _).trans ?_)
  by_cases c0 : k.val < 256
  · rw [dif_pos c0]
    refine @Eq.trans EReal _ _ _ (Finset.sum_congr rfl fun c _ => congrArg₂ (· * ·) rfl (proj0_at V c _)) ((group_at V b i 0 ⟨k.val, by omega⟩ (fun q s c => res_main_v57 V (ix3 q s c)) (fun n s c => res_main_v44 V (ix3 n s c)) (fun q p c => res_main_v42 V (ix3 q p c)) (ctx0 V) (lat0 V) (all0 V) p0 p1 p2 p3).trans
      (congrArg ((args V).mix b i) (Fin.ext (by show 0 * 256 + (k.val) = k.val; omega))))
  rw [dif_neg c0]
  by_cases c1 : k.val - 256 < 256
  · rw [dif_pos c1]
    refine @Eq.trans EReal _ _ _ (Finset.sum_congr rfl fun c _ => congrArg₂ (· * ·) rfl (proj1_at V c _)) ((group_at V b i 1 ⟨k.val - 256, by omega⟩ (fun q s c => res_main_v92 V (ix3 q s c)) (fun n s c => res_main_v79 V (ix3 n s c)) (fun q p c => res_main_v77 V (ix3 q p c)) (ctx1 V) (lat1 V) (all1 V) p0 p1 p2 p3).trans
      (congrArg ((args V).mix b i) (Fin.ext (by show 1 * 256 + (k.val - 256) = k.val; omega))))
  rw [dif_neg c1]
  by_cases c2 : k.val - 256 - 256 < 256
  · rw [dif_pos c2]
    refine @Eq.trans EReal _ _ _ (Finset.sum_congr rfl fun c _ => congrArg₂ (· * ·) rfl (proj2_at V c _)) ((group_at V b i 2 ⟨k.val - 256 - 256, by omega⟩ (fun q s c => res_main_v127 V (ix3 q s c)) (fun n s c => res_main_v114 V (ix3 n s c)) (fun q p c => res_main_v112 V (ix3 q p c)) (ctx2 V) (lat2 V) (all2 V) p0 p1 p2 p3).trans
      (congrArg ((args V).mix b i) (Fin.ext (by show 2 * 256 + (k.val - 256 - 256) = k.val; omega))))
  rw [dif_neg c2]
  refine @Eq.trans EReal _ _ _ (Finset.sum_congr rfl fun c _ => congrArg₂ (· * ·) rfl (proj3_at V c _)) ((group_at V b i 3 ⟨k.val - 256 - 256 - 256, by omega⟩ (fun q s c => res_main_v162 V (ix3 q s c)) (fun n s c => res_main_v149 V (ix3 n s c)) (fun q p c => res_main_v147 V (ix3 q p c)) (ctx3 V) (lat3 V) (all3 V) p0 p1 p2 p3).trans
    (congrArg ((args V).mix b i) (Fin.ext (by show 3 * 256 + (k.val - 256 - 256 - 256) = k.val; omega))))

/-- The stream after the mixing half. -/
theorem h1_at (b : Fin 130) (i : Fin 256) (k : Fin 1024) : (res_main_v198 (F := Ideal) V (ix2 (rowOf b i) k) : EReal) = (args V).h1 b i k := by
  pointwise [res_main_v198, res_main_v182]
  refine congrArg₂ (· + ·) rfl (congrArg₂ (· * ·) ?_ (congrArg₂ (· * ·) (mix_at V b i k) rfl))
  refine (split_eq (rowOf b i) fun q => V (Proc.devRef .tc main_arg2) (ix3 0 q ⟨2048 + k.val, by omega⟩)).trans ?_
  rw [modAt_rowOf]
  rfl

theorem v_row (r : Fin 33280) (k : Fin 1024) : (res_main_v237 (F := Ideal) V (ix2 r k) : EReal)
    = urow (fun k => res_main_v198 (F := Ideal) V (ix2 r k)) (args V).nw2 (fun k => (args V).tbl (modAt r) ⟨4096 + k.val, by omega⟩) (fun k => (args V).tbl (modAt r) ⟨3072 + k.val, by omega⟩) k := by
  pointwise [res_main_v237, res_main_v215, res_main_v228, urow, rms, args]
  exact congrArg₂ (· + ·) (congrArg₂ (· * ·) rfl (congrArg₂ (· + ·) rfl (split_eq r fun q => V (Proc.devRef .tc main_arg2) (ix3 0 q ⟨4096 + k.val, by omega⟩))))
    (split_eq r fun q => V (Proc.devRef .tc main_arg2) (ix3 0 q ⟨3072 + k.val, by omega⟩))

/-- What the feed-forward half reads. -/
theorem v_at (b : Fin 130) (i : Fin 256) (k : Fin 1024) : (res_main_v237 (F := Ideal) V (ix2 (rowOf b i) k) : EReal) = (args V).v b i k := by
  rw [v_row, modAt_rowOf, show (fun k => res_main_v198 (F := Ideal) V (ix2 (rowOf b i) k)) = (args V).h1 b i from funext (h1_at V b i)]
  rfl

theorem gate_at (b : Fin 130) (i : Fin 256) (f : Fin 2816) : (res_main_v257 (F := Ideal) V (ix2 (rowOf b i) f) : EReal) = dot ((args V).v b i) (fun k => (args V).w1 k f) := by
  pointwise [res_main_v257, dot]
  simp only [v_at]
  rfl

/-- The layer's result. -/
theorem out_at (b : Fin 130) (i : Fin 256) (k : Fin 1024) :
    (addf (F := Ideal) (res_main_v198 V) (mulf (shapeCast _ (concatenate S2x16640x1024 1 [⟨S2x256x1024, (broadcastInDim S2x256x1024 ![2] bcast_S1024_S2x256x1024_2 (shapeCast _ (extractStridedSlice S1x1024 ![2, 0] (res_main_v239 V) slices_S8x1024_S1x1024_2_0) shapeCasts_S1x1024_S1024))⟩, ⟨S2x16384x1024, (broadcastInDim S2x16384x1024 ![0, 1, 2] bcast_S2x1x1024_S2x16384x1024_0_1_2 (broadcastInDim S2x1x1024 ![0, 2] bcast_S2x1024_S2x1x1024_0_2 (extractStridedSlice S2x1024 ![0, 0] (res_main_v239 V) slices_S8x1024_S2x1024_0_0)))⟩] concatenates_S2x256x1024_S2x16384x1024_S2x16640x1024_d1) shapeCasts_S2x16640x1024_S33280x1024) (Host.dotGeneral dot_S33280x2816_S2816x1024_S33280x1024_1_0_0_1_n_n none (mulf (mulf (res_main_v257 V) (Host.divf (broadcastInDim S33280x2816 ![] bcast_S_S33280x2816 (constant S_ .f32 0x3F800000#32)) (addf (broadcastInDim S33280x2816 ![] bcast_S_S33280x2816 (constant S_ .f32 0x3F800000#32)) (Host.exp (Host.negf (res_main_v257 V)))))) (Host.dotGeneral (φ₁ := .f32) dot_S33280x1024_S1024x2816_S33280x2816_1_0_0_1_n_n none (res_main_v237 V) (extf .f32 (shapeCast _ (extractStridedSlice S1x1024x2816 ![0, 0, 0] (V (Proc.devRef .tc main_arg9)) slices_S2x1024x2816_S1x1024x2816_0_0_0) shapeCasts_S1x1024x2816_S1024x2816) bitsLt_bf16_f32))) (extf .f32 (shapeCast _ (extractStridedSlice S1x2816x1024 ![0, 0, 0] (V (Proc.devRef .tc main_arg10)) slices_S2x2816x1024_S1x2816x1024_0_0_0) shapeCasts_S1x2816x1024_S2816x1024) bitsLt_bf16_f32))) (ix2 (rowOf b i) k) : EReal) = (args V).out b i k := by
  pointwise [res_main_v239]
  simp only [gate_at, v_at]
  refine congrArg₂ (· + ·) (h1_at V b i k) (congrArg₂ (· * ·) ?_ ?_)
  · refine (split_eq (rowOf b i) fun q => V (Proc.devRef .tc main_arg2) (ix3 0 q ⟨5120 + k.val, by omega⟩)).trans ?_
    rw [modAt_rowOf]
    rfl
  · rfl

variable (m : (ℓ : Loc nD τ sig) → Buf (Elt Ideal) ℓ) (ρ : Dev nD → PrngReg)

/-- The run, with the result as a formula of the arguments, and the arguments kept. -/
theorem run_rows : θ_run defs (onTc (τ := τ) (main (F := Ideal))) ⟨m, fun _ => 0, ρ⟩ fun r => ∀ c : Dev nD,
    r.2.mem ((c.tc : Thread nD τ).loc main_v263) = (fun j => outAll (args (launchContents m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun r h c => ⟨?_, (h c).2⟩) (Value.run m ρ)
  refine (h c).1.trans (funext fun j => ?_)
  idx_vars j
  obtain ⟨b, i, e⟩ : ∃ b i, j0 = rowOf b i := ⟨⟨j0.val / 256, by omega⟩, ⟨j0.val % 256, by omega⟩, Fin.ext (by show j0.val = j0.val / 256 * 256 + j0.val % 256; omega)⟩
  subst e
  exact (out_at (launchContents m c) b i j1).trans (outAll_rowOf _ b i j1).symm

end Cert.Reference5Ideal.Even0

end
-- ==== Proof.Even0Value.lean ====
/- The first pooling layer's result, and its equality with the reference's. -/
module

public import proofs.«01_k».proof.Defs
public import proofs.«01_k».proof.Proof.Even0Body
public import proofs.«01_k».proof.Proof.Even0Reference
public import proofs.«01_k».proof.Proof.Gen.Kernel5Ideal.Value
public import proofs.«01_k».proof.Proof.Gen.Pre_mods_finite0
public import Idealize.ShloMosaic.Lib.ReduceAll

@[expose] public section

set_option maxRecDepth 16384

noncomputable section

namespace Cert.Kernel5Ideal.Even0

open Idealize.ShloMosaic
open Idealize.ShloMosaic.TcCoe Idealize.ShloMosaic.Tactic
open Idealize.SL Idealize.SL.Sem
open Cert.Kernel5Ideal Cert.Kernel5Ideal.Gen Cert.Rows

variable (m : (ℓ : Loc nD τ sig) → Buf (Elt Ideal) ℓ) (c : Dev nD)

/-- The stream's rows: each sample's context, then its latents. -/
def streamAt (x : Fin 2 → Fin 256 → EReal) (y : Fin 2 → Fin 16384 → EReal) (r : Fin 33280) : EReal :=
  if h : r.val % 16640 < 256 then x ⟨r.val / 16640, by omega⟩ ⟨r.val % 16640, h⟩ else y ⟨r.val / 16640, by omega⟩ ⟨r.val % 16640 - 256, by omega⟩

/-- The layer's arguments, by their rows and columns. -/
def args : EvenArgs where
  h r k := streamAt (fun q i => m ((c.tc : Thread nD τ).loc main_arg0) (ix3 q i k)) (fun q i => m ((c.tc : Thread nD τ).loc main_arg1) (ix3 q i k)) r
  tbl q j := m ((c.tc : Thread nD τ).loc main_arg2) (ix3 0 q j)
  nw1 k := m ((c.tc : Thread nD τ).loc main_arg3) (ix3 0 0 k)
  nw2 k := m ((c.tc : Thread nD τ).loc main_arg4) (ix3 0 0 k)
  avg a g i s := m ((c.tc : Thread nD τ).loc main_arg5) (ix4 a g i s)
  pw g c' o := m ((c.tc : Thread nD τ).loc main_arg6) (ix4 0 g c' o)
  ps k := m ((c.tc : Thread nD τ).loc main_arg7) (ix3 0 0 k)
  w1 k f := m ((c.tc : Thread nD τ).loc main_arg8) (ix3 0 k f)
  w3 k f := m ((c.tc : Thread nD τ).loc main_arg9) (ix3 0 k f)
  w2 f k := m ((c.tc : Thread nD τ).loc main_arg10) (ix3 0 f k)

theorem ixw0 : ∀ t : Fin grid0.N, ∀ a, win0_0.index t a = (![t.val * 2 / 65, 0, 0] : Fin 3 → ℕ) a := by decide +kernel
theorem ixw1 : ∀ t : Fin grid0.N, ∀ a, win0_1.index t a = (![t.val * 2 / 65, (t.val * 2 % 65 - 1), 0] : Fin 3 → ℕ) a := by decide +kernel
theorem ixw2 : ∀ t : Fin grid0.N, ∀ a, win0_2.index t a = (![(t.val * 2 + 1) / 65, 0, 0] : Fin 3 → ℕ) a := by decide +kernel
theorem ixw3 : ∀ t : Fin grid0.N, ∀ a, win0_3.index t a = (![(t.val * 2 + 1) / 65, ((t.val * 2 + 1) % 65 - 1), 0] : Fin 3 → ℕ) a := by decide +kernel
theorem ixw4 : ∀ t : Fin grid0.N, ∀ a, win0_4.index t a = (![0, 0, 0] : Fin 3 → ℕ) a := by decide +kernel
theorem ixw5 : ∀ t : Fin grid0.N, ∀ a, win0_5.index t a = (![0, 0, 0] : Fin 3 → ℕ) a := by decide +kernel
theorem ixw6 : ∀ t : Fin grid0.N, ∀ a, win0_6.index t a = (![0, 0, 0] : Fin 3 → ℕ) a := by decide +kernel
theorem ixw7 : ∀ t : Fin grid0.N, ∀ a, win0_7.index t a = (![0, 0, 0, 0] : Fin 4 → ℕ) a := by decide +kernel
theorem ixw8 : ∀ t : Fin grid0.N, ∀ a, win0_8.index t a = (![0, 0, 0, 0] : Fin 4 → ℕ) a := by decide +kernel
theorem ixw9 : ∀ t : Fin grid0.N, ∀ a, win0_9.index t a = (![0, 0, 0] : Fin 3 → ℕ) a := by decide +kernel
theorem ixw10 : ∀ t : Fin grid0.N, ∀ a, win0_10.index t a = (![0, 0, 0] : Fin 3 → ℕ) a := by decide +kernel
theorem ixw11 : ∀ t : Fin grid0.N, ∀ a, win0_11.index t a = (![0, 0, 0] : Fin 3 → ℕ) a := by decide +kernel
theorem ixw12 : ∀ t : Fin grid0.N, ∀ a, win0_12.index t a = (![0, 0, 0] : Fin 3 → ℕ) a := by decide +kernel
theorem ixw13 : ∀ t : Fin grid0.N, ∀ a, win0_13.index t a = (![t.val, 0] : Fin 2 → ℕ) a := by decide +kernel
theorem covers13 : (cfg0.win 13).Covers := by decide +kernel

variable (t : Fin grid0.N)

theorem blk0 (y : S1x256x1024.Idx) (j : S2x256x1024.Idx) (h0 : (j 0).val = t.val * 2 / 65) (h1 : (j 1).val = (y 1).val) (h2 : (j 2).val = (y 2).val) :
    iblk m c 0 t y = m ((c.tc : Thread nD τ).loc main_arg0) j := by
  refine congrArg (m ((c.tc : Thread nD τ).loc main_arg0)) (funext fun a => Fin.ext ?_)
  have y0 : (y 0).val < 1 := (y 0).isLt
  match a with
  | ⟨0, _⟩ => show win0_0.index t 0 * 1 + 1 * (y 0).val = (j 0).val; rw [ixw0 t 0, h0]; show t.val * 2 / 65 * 1 + _ = _; omega
  | ⟨1, _⟩ => show win0_0.index t 1 * 256 + 1 * (y 1).val = (j 1).val; rw [ixw0 t 1, h1]; show 0 * 256 + _ = _; omega
  | ⟨2, _⟩ => show win0_0.index t 2 * 1024 + 1 * (y 2).val = (j 2).val; rw [ixw0 t 2, h2]; show 0 * 1024 + _ = _; omega

theorem blk1 (y : S1x256x1024.Idx) (j : S2x16384x1024.Idx) (h0 : (j 0).val = t.val * 2 / 65) (h1 : (j 1).val = (t.val * 2 % 65 - 1) * 256 + (y 1).val) (h2 : (j 2).val = (y 2).val) :
    iblk m c 1 t y = m ((c.tc : Thread nD τ).loc main_arg1) j := by
  refine congrArg (m ((c.tc : Thread nD τ).loc main_arg1)) (funext fun a => Fin.ext ?_)
  have y0 : (y 0).val < 1 := (y 0).isLt
  match a with
  | ⟨0, _⟩ => show win0_1.index t 0 * 1 + 1 * (y 0).val = (j 0).val; rw [ixw1 t 0, h0]; show t.val * 2 / 65 * 1 + _ = _; omega
  | ⟨1, _⟩ => show win0_1.index t 1 * 256 + 1 * (y 1).val = (j 1).val; rw [ixw1 t 1, h1]; show (t.val * 2 % 65 - 1) * 256 + _ = _; omega
  | ⟨2, _⟩ => show win0_1.index t 2 * 1024 + 1 * (y 2).val = (j 2).val; rw [ixw1 t 2, h2]; show 0 * 1024 + _ = _; omega

theorem blk2 (y : S1x256x1024.Idx) (j : S2x256x1024.Idx) (h0 : (j 0).val = (t.val * 2 + 1) / 65) (h1 : (j 1).val = (y 1).val) (h2 : (j 2).val = (y 2).val) :
    iblk m c 2 t y = m ((c.tc : Thread nD τ).loc main_arg0) j := by
  refine congrArg (m ((c.tc : Thread nD τ).loc main_arg0)) (funext fun a => Fin.ext ?_)
  have y0 : (y 0).val < 1 := (y 0).isLt
  match a with
  | ⟨0, _⟩ => show win0_2.index t 0 * 1 + 1 * (y 0).val = (j 0).val; rw [ixw2 t 0, h0]; show (t.val * 2 + 1) / 65 * 1 + _ = _; omega
  | ⟨1, _⟩ => show win0_2.index t 1 * 256 + 1 * (y 1).val = (j 1).val; rw [ixw2 t 1, h1]; show 0 * 256 + _ = _; omega
  | ⟨2, _⟩ => show win0_2.index t 2 * 1024 + 1 * (y 2).val = (j 2).val; rw [ixw2 t 2, h2]; show 0 * 1024 + _ = _; omega

theorem blk3 (y : S1x256x1024.Idx) (j : S2x16384x1024.Idx) (h0 : (j 0).val = (t.val * 2 + 1) / 65) (h1 : (j 1).val = ((t.val * 2 + 1) % 65 - 1) * 256 + (y 1).val) (h2 : (j 2).val = (y 2).val) :
    iblk m c 3 t y = m ((c.tc : Thread nD τ).loc main_arg1) j := by
  refine congrArg (m ((c.tc : Thread nD τ).loc main_arg1)) (funext fun a => Fin.ext ?_)
  have y0 : (y 0).val < 1 := (y 0).isLt
  match a with
  | ⟨0, _⟩ => show win0_3.index t 0 * 1 + 1 * (y 0).val = (j 0).val; rw [ixw3 t 0, h0]; show (t.val * 2 + 1) / 65 * 1 + _ = _; omega
  | ⟨1, _⟩ => show win0_3.index t 1 * 256 + 1 * (y 1).val = (j 1).val; rw [ixw3 t 1, h1]; show ((t.val * 2 + 1) % 65 - 1) * 256 + _ = _; omega
  | ⟨2, _⟩ => show win0_3.index t 2 * 1024 + 1 * (y 2).val = (j 2).val; rw [ixw3 t 2, h2]; show 0 * 1024 + _ = _; omega

theorem blk4 (y : S1x8x6144.Idx) (j : S4x8x6144.Idx) (h0 : (j 0).val = (y 0).val) (h1 : (j 1).val = (y 1).val) (h2 : (j 2).val = (y 2).val) :
    iblk m c 4 t y = m ((c.tc : Thread nD τ).loc main_arg2) j := by
  refine congrArg (m ((c.tc : Thread nD τ).loc main_arg2)) (funext fun a => Fin.ext ?_)
  match a with
  | ⟨0, _⟩ => show win0_4.index t 0 * 1 + 1 * (y 0).val = (j 0).val; rw [ixw4 t 0, h0]; show 0 * 1 + _ = _; omega
  | ⟨1, _⟩ => show win0_4.index t 1 * 8 + 1 * (y 1).val = (j 1).val; rw [ixw4 t 1, h1]; show 0 * 8 + _ = _; omega
  | ⟨2, _⟩ => show win0_4.index t 2 * 6144 + 1 * (y 2).val = (j 2).val; rw [ixw4 t 2, h2]; show 0 * 6144 + _ = _; omega

theorem blk5 (y : S1x1x1024.Idx) (j : S4x1x1024.Idx) (h0 : (j 0).val = (y 0).val) (h1 : (j 1).val = (y 1).val) (h2 : (j 2).val = (y 2).val) :
    iblk m c 5 t y = m ((c.tc : Thread nD τ).loc main_arg3) j := by
  refine congrArg (m ((c.tc : Thread nD τ).loc main_arg3)) (funext fun a => Fin.ext ?_)
  match a with
  | ⟨0, _⟩ => show win0_5.index t 0 * 1 + 1 * (y 0).val = (j 0).val; rw [ixw5 t 0, h0]; show 0 * 1 + _ = _; omega
  | ⟨1, _⟩ => show win0_5.index t 1 * 1 + 1 * (y 1).val = (j 1).val; rw [ixw5 t 1, h1]; show 0 * 1 + _ = _; omega
  | ⟨2, _⟩ => show win0_5.index t 2 * 1024 + 1 * (y 2).val = (j 2).val; rw [ixw5 t 2, h2]; show 0 * 1024 + _ = _; omega

theorem blk6 (y : S1x1x1024.Idx) (j : S4x1x1024.Idx) (h0 : (j 0).val = (y 0).val) (h1 : (j 1).val = (y 1).val) (h2 : (j 2).val = (y 2).val) :
    iblk m c 6 t y = m ((c.tc : Thread nD τ).loc main_arg4) j := by
  refine congrArg (m ((c.tc : Thread nD τ).loc main_arg4)) (funext fun a => Fin.ext ?_)
  match a with
  | ⟨0, _⟩ => show win0_6.index t 0 * 1 + 1 * (y 0).val = (j 0).val; rw [ixw6 t 0, h0]; show 0 * 1 + _ = _; omega
  | ⟨1, _⟩ => show win0_6.index t 1 * 1 + 1 * (y 1).val = (j 1).val; rw [ixw6 t 1, h1]; show 0 * 1 + _ = _; omega
  | ⟨2, _⟩ => show win0_6.index t 2 * 1024 + 1 * (y 2).val = (j 2).val; rw [ixw6 t 2, h2]; show 0 * 1024 + _ = _; omega

theorem blk7 (y : S2x4x256x768.Idx) (j : S2x4x256x768.Idx) (h0 : (j 0).val = (y 0).val) (h1 : (j 1).val = (y 1).val) (h2 : (j 2).val = (y 2).val) (h3 : (j 3).val = (y 3).val) :
    iblk m c 7 t y = m ((c.tc : Thread nD τ).loc main_arg5) j := by
  refine congrArg (m ((c.tc : Thread nD τ).loc main_arg5)) (funext fun a => Fin.ext ?_)
  match a with
  | ⟨0, _⟩ => show win0_7.index t 0 * 2 + 1 * (y 0).val = (j 0).val; rw [ixw7 t 0, h0]; show 0 * 2 + _ = _; omega
  | ⟨1, _⟩ => show win0_7.index t 1 * 4 + 1 * (y 1).val = (j 1).val; rw [ixw7 t 1, h1]; show 0 * 4 + _ = _; omega
  | ⟨2, _⟩ => show win0_7.index t 2 * 256 + 1 * (y 2).val = (j 2).val; rw [ixw7 t 2, h2]; show 0 * 256 + _ = _; omega
  | ⟨3, _⟩ => show win0_7.index t 3 * 768 + 1 * (y 3).val = (j 3).val; rw [ixw7 t 3, h3]; show 0 * 768 + _ = _; omega

theorem blk8 (y : S1x4x256x256.Idx) (j : S2x4x256x256.Idx) (h0 : (j 0).val = (y 0).val) (h1 : (j 1).val = (y 1).val) (h2 : (j 2).val = (y 2).val) (h3 : (j 3).val = (y 3).val) :
    iblk m c 8 t y = m ((c.tc : Thread nD τ).loc main_arg6) j := by
  refine congrArg (m ((c.tc : Thread nD τ).loc main_arg6)) (funext fun a => Fin.ext ?_)
  match a with
  | ⟨0, _⟩ => show win0_8.index t 0 * 1 + 1 * (y 0).val = (j 0).val; rw [ixw8 t 0, h0]; show 0 * 1 + _ = _; omega
  | ⟨1, _⟩ => show win0_8.index t 1 * 4 + 1 * (y 1).val = (j 1).val; rw [ixw8 t 1, h1]; show 0 * 4 + _ = _; omega
  | ⟨2, _⟩ => show win0_8.index t 2 * 256 + 1 * (y 2).val = (j 2).val; rw [ixw8 t 2, h2]; show 0 * 256 + _ = _; omega
  | ⟨3, _⟩ => show win0_8.index t 3 * 256 + 1 * (y 3).val = (j 3).val; rw [ixw8 t 3, h3]; show 0 * 256 + _ = _; omega

theorem blk9 (y : S1x1x1024.Idx) (j : S2x1x1024.Idx) (h0 : (j 0).val = (y 0).val) (h1 : (j 1).val = (y 1).val) (h2 : (j 2).val = (y 2).val) :
    iblk m c 9 t y = m ((c.tc : Thread nD τ).loc main_arg7) j := by
  refine congrArg (m ((c.tc : Thread nD τ).loc main_arg7)) (funext fun a => Fin.ext ?_)
  match a with
  | ⟨0, _⟩ => show win0_9.index t 0 * 1 + 1 * (y 0).val = (j 0).val; rw [ixw9 t 0, h0]; show 0 * 1 + _ = _; omega
  | ⟨1, _⟩ => show win0_9.index t 1 * 1 + 1 * (y 1).val = (j 1).val; rw [ixw9 t 1, h1]; show 0 * 1 + _ = _; omega
  | ⟨2, _⟩ => show win0_9.index t 2 * 1024 + 1 * (y 2).val = (j 2).val; rw [ixw9 t 2, h2]; show 0 * 1024 + _ = _; omega

theorem blk10 (y : S1x1024x2816.Idx) (j : S2x1024x2816.Idx) (h0 : (j 0).val = (y 0).val) (h1 : (j 1).val = (y 1).val) (h2 : (j 2).val = (y 2).val) :
    iblk m c 10 t y = m ((c.tc : Thread nD τ).loc main_arg8) j := by
  refine congrArg (m ((c.tc : Thread nD τ).loc main_arg8)) (funext fun a => Fin.ext ?_)
  match a with
  | ⟨0, _⟩ => show win0_10.index t 0 * 1 + 1 * (y 0).val = (j 0).val; rw [ixw10 t 0, h0]; show 0 * 1 + _ = _; omega
  | ⟨1, _⟩ => show win0_10.index t 1 * 1024 + 1 * (y 1).val = (j 1).val; rw [ixw10 t 1, h1]; show 0 * 1024 + _ = _; omega
  | ⟨2, _⟩ => show win0_10.index t 2 * 2816 + 1 * (y 2).val = (j 2).val; rw [ixw10 t 2, h2]; show 0 * 2816 + _ = _; omega

theorem blk11 (y : S1x1024x2816.Idx) (j : S2x1024x2816.Idx) (h0 : (j 0).val = (y 0).val) (h1 : (j 1).val = (y 1).val) (h2 : (j 2).val = (y 2).val) :
    iblk m c 11 t y = m ((c.tc : Thread nD τ).loc main_arg9) j := by
  refine congrArg (m ((c.tc : Thread nD τ).loc main_arg9)) (funext fun a => Fin.ext ?_)
  match a with
  | ⟨0, _⟩ => show win0_11.index t 0 * 1 + 1 * (y 0).val = (j 0).val; rw [ixw11 t 0, h0]; show 0 * 1 + _ = _; omega
  | ⟨1, _⟩ => show win0_11.index t 1 * 1024 + 1 * (y 1).val = (j 1).val; rw [ixw11 t 1, h1]; show 0 * 1024 + _ = _; omega
  | ⟨2, _⟩ => show win0_11.index t 2 * 2816 + 1 * (y 2).val = (j 2).val; rw [ixw11 t 2, h2]; show 0 * 2816 + _ = _; omega

theorem blk12 (y : S1x2816x1024.Idx) (j : S2x2816x1024.Idx) (h0 : (j 0).val = (y 0).val) (h1 : (j 1).val = (y 1).val) (h2 : (j 2).val = (y 2).val) :
    iblk m c 12 t y = m ((c.tc : Thread nD τ).loc main_arg10) j := by
  refine congrArg (m ((c.tc : Thread nD τ).loc main_arg10)) (funext fun a => Fin.ext ?_)
  match a with
  | ⟨0, _⟩ => show win0_12.index t 0 * 1 + 1 * (y 0).val = (j 0).val; rw [ixw12 t 0, h0]; show 0 * 1 + _ = _; omega
  | ⟨1, _⟩ => show win0_12.index t 1 * 2816 + 1 * (y 1).val = (j 1).val; rw [ixw12 t 1, h1]; show 0 * 2816 + _ = _; omega
  | ⟨2, _⟩ => show win0_12.index t 2 * 1024 + 1 * (y 2).val = (j 2).val; rw [ixw12 t 2, h2]; show 0 * 1024 + _ = _; omega

theorem kind_one (b : Fin 130) (h : kindOf b = 1) : b.val % 65 = 0 := by
  unfold kindOf at h
  split at h
  · assumption
  · exact absurd h (by decide)
theorem kind_zero (b : Fin 130) (h : kindOf b = 0) : b.val % 65 ≠ 0 := by
  unfold kindOf at h
  split at h
  · exact absurd h (by decide)
  · assumption

/-- A context block of the stream. -/
theorem stream_context (b : Fin 130) (hk : kindOf b = 1) (i : Fin 256) (k : Fin 1024) :
    (args m c).h (rowOf b i) k = m ((c.tc : Thread nD τ).loc main_arg0) (ix3 ⟨b.val / 65, by omega⟩ i k) := by
  have e1 := Cert.Reference4Ideal.Even.sample_of b i
  have e2 := Cert.Reference4Ideal.Even.place_of b i
  have e3 := kind_one b hk
  have hi := i.isLt
  show streamAt (fun q i => m ((c.tc : Thread nD τ).loc main_arg0) (ix3 q i k)) (fun q i => m ((c.tc : Thread nD τ).loc main_arg1) (ix3 q i k)) (rowOf b i) = _
  unfold streamAt
  rw [dif_pos (by omega)]
  exact congrArg₂ (fun q j => m ((c.tc : Thread nD τ).loc main_arg0) (ix3 q j k)) (Fin.ext e1) (Fin.ext (by show (rowOf b i).val % 16640 = i.val; omega))

/-- A latents' block of the stream. -/
theorem stream_latents (b : Fin 130) (hk : kindOf b = 0) (i : Fin 256) (k : Fin 1024) :
    (args m c).h (rowOf b i) k = m ((c.tc : Thread nD τ).loc main_arg1) (ix3 ⟨b.val / 65, by omega⟩ ⟨(b.val % 65 - 1) * 256 + i.val, by omega⟩ k) := by
  have e1 := Cert.Reference4Ideal.Even.sample_of b i
  have e2 := Cert.Reference4Ideal.Even.place_of b i
  have e3 := kind_zero b hk
  have hi := i.isLt
  show streamAt (fun q i => m ((c.tc : Thread nD τ).loc main_arg0) (ix3 q i k)) (fun q i => m ((c.tc : Thread nD τ).loc main_arg1) (ix3 q i k)) (rowOf b i) = _
  unfold streamAt
  rw [dif_neg (by omega)]
  exact congrArg₂ (fun q j => m ((c.tc : Thread nD τ).loc main_arg1) (ix3 q j k)) (Fin.ext e1) (Fin.ext (by show (rowOf b i).val % 16640 - 256 = (b.val % 65 - 1) * 256 + i.val; omega))

/-- What a point's windows hold. -/
theorem held : Held (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (args m c) t where
  cx0 hk i k := (blk0 m c t _ (ix3 ⟨(blockNo t 0).val / 65, by omega⟩ i k) rfl rfl rfl).trans (stream_context m c _ hk i k).symm
  lt0 hk i k := (blk1 m c t _ (ix3 ⟨(blockNo t 0).val / 65, by omega⟩ ⟨((blockNo t 0).val % 65 - 1) * 256 + i.val, by omega⟩ k) rfl rfl rfl).trans (stream_latents m c _ hk i k).symm
  cx1 hk i k := (blk2 m c t _ (ix3 ⟨(blockNo t 1).val / 65, by omega⟩ i k) rfl rfl rfl).trans (stream_context m c _ hk i k).symm
  lt1 hk i k := (blk3 m c t _ (ix3 ⟨(blockNo t 1).val / 65, by omega⟩ ⟨((blockNo t 1).val % 65 - 1) * 256 + i.val, by omega⟩ k) rfl rfl rfl).trans (stream_latents m c _ hk i k).symm
  tbl q j := blk4 m c t _ (ix3 0 q j) rfl rfl rfl
  nw1 k := blk5 m c t _ (ix3 0 0 k) rfl rfl rfl
  nw2 k := blk6 m c t _ (ix3 0 0 k) rfl rfl rfl
  avg a g i s := blk7 m c t _ (ix4 a g i s) rfl rfl rfl rfl
  pw g c' o := blk8 m c t _ (ix4 0 g c' o) rfl rfl rfl rfl
  ps k := blk9 m c t _ (ix3 0 0 k) rfl rfl rfl
  w1 k f := blk10 m c t _ (ix3 0 k f) rfl rfl rfl
  w3 k f := blk11 m c t _ (ix3 0 k f) rfl rfl rfl
  w2 f k := blk12 m c t _ (ix3 0 f k) rfl rfl rfl

/-- A point's block, as a part of the result. -/
theorem block_eq (D : EvenArgs) (y : S512x1024.Idx) (j : S33280x1024.Idx) (h0 : (j 0).val = t.val * 512 + (y 0).val) (h1 : (j 1).val = (y 1).val) :
    blockOut D t y = Cert.Reference4Ideal.Even.outAll D (j 0) (j 1) := by
  have hy : (y 0).val < 512 := (y 0).isLt
  have ht : t.val < 65 := t.isLt
  unfold blockOut Cert.Reference4Ideal.Even.outAll
  have e0 : (⟨t.val * 2 + (y 0).val / 256, by omega⟩ : Fin 130) = ⟨(j 0).val / 256, by rw [h0]; omega⟩ := Fin.ext (by show t.val * 2 + (y 0).val / 256 = (j 0).val / 256; rw [h0]; omega)
  have e1 : (⟨(y 0).val % 256, Nat.mod_lt _ (by decide)⟩ : Fin 256) = ⟨(j 0).val % 256, Nat.mod_lt _ (by decide)⟩ := Fin.ext (by show (y 0).val % 256 = (j 0).val % 256; rw [h0]; omega)
  have e2 : (y 1 : Fin 1024) = j 1 := Fin.ext h1.symm
  exact (congrArg (fun z => D.out z _ _) e0).trans ((congrArg (fun z => D.out _ z _) e1).trans (congrArg (fun z => D.out _ _ z) e2))

theorem final (hD : (args m c).Finite) : (dats m 0 c).arrAt 13 cfg0.N = fun j : S33280x1024.Idx => Cert.Reference4Ideal.Even.outAll (args m c) (j 0) (j 1) := by
  refine (dats m 0 c).arrAt_eq_of_covers 13 _ covers13 (fun t hf y => ?_) (Memref.isWhole_whole _)
  refine Eq.trans ?_ (block_eq t (args m c) y _ ?_ ?_)
  · show (dats m 0 c).flushed 13 t y = _
    rw [Cert.Kernel5Ideal.Value.flushed13_A m c t]
    exact out_eq _ _ _ _ _ _ _ _ _ _ _ _ _ _ _ _ _ _ _ _ _ _ _ _ _ _ _ _ _ (held m c t) hD y
  · show win0_13.index t 0 * 512 + 1 * (y 0).val = _
    rw [ixw13 t 0]; show t.val * 512 + _ = _; omega
  · show win0_13.index t 1 * 1024 + 1 * (y 1).val = _
    rw [ixw13 t 1]; show 0 * 1024 + _ = _; omega

omit c in
/-- The precondition, read at every entry. -/
theorem finite_of_pre (h : Cert.Pre_Kernel5Ideal_mods_finite0 (hPre_mods_finite0 := Cert.Pre_mods_finite0.Gen.facts) m) (c : Dev nD) : (args m c).Finite := by
  have and_one : ∀ a b : BitVec 1, IntOp.andi a b = 1#1 ↔ a = 1#1 ∧ b = 1#1 := by decide
  have e := congrFun (h c) (fun a => a.elim0)
  simp only [Pre_mods_finite0.fn, andi, and_one] at e
  obtain ⟨e0, e1⟩ := e
  refine ⟨fun k => ?_, fun q j hj => ?_⟩
  · have f := (Ideal.cmp_olt_eq_one _ _).1 (Host.reduce_andi_all _ _ _ _ _ e1 (ix1 k))
    refine fin_of_abs_lt (lt_of_eq_of_lt ?_ (lt_of_lt_of_eq f inf_top))
    refine Eq.symm ?_
    pointwise
    rfl
  · have f := (Ideal.cmp_olt_eq_one _ _).1 (Host.reduce_andi_all _ _ _ _ _ e0 (ix2 q ⟨j.val, hj⟩))
    refine fin_of_abs_lt (lt_of_eq_of_lt ?_ (lt_of_lt_of_eq f inf_top))
    refine Eq.symm ?_
    pointwise
    rfl

end Cert.Kernel5Ideal.Even0

end

noncomputable section

namespace Cert.Reference5Ideal.Even0

open Cert.Reference5Ideal Cert.Reference5Ideal.Gen Cert.Reference5Ideal.Value
open Idealize.ShloMosaic
open Idealize.ShloMosaic.TcCoe Idealize.ShloMosaic.Tactic
open Idealize.SL Idealize.SL.Sem

/-- The stream the reference joins, at one place. -/
theorem stream_at (V : Valuation τ sig (Elt Ideal)) (r : Fin 33280) (k : Fin 1024) : (res_main_v1 (F := Ideal) V (ix2 r k) : EReal)
    = Cert.Kernel5Ideal.Even0.streamAt (fun q i => V (Proc.devRef .tc main_arg0) (ix3 q i k)) (fun q i => V (Proc.devRef .tc main_arg1) (ix3 q i k)) r := by
  pointwise [res_main_v1, Cert.Kernel5Ideal.Even0.streamAt]

end Cert.Reference5Ideal.Even0

end

noncomputable section

namespace Cert.Even0

open Idealize.ShloMosaic
open Idealize.ShloMosaic.TcCoe Idealize.ShloMosaic.Tactic
open Idealize.SL Idealize.SL.Sem

/-- Both programs run, and end with equal results. -/
theorem algebraic : Cert.algebraic_Kernel5Ideal_Reference5Ideal_pre_mods_finite0 (hKernel5Ideal := Cert.Kernel5Ideal.Gen.facts) (hReference5Ideal := Cert.Reference5Ideal.Gen.facts)
    (hPre_mods_finite0 := Cert.Pre_mods_finite0.Gen.facts) := by
  intro m g m' g' hpre hagree
  refine ⟨fun c => (Cert.Kernel5Ideal.Gen.dats m 0 c).arrAt 13 Cert.Kernel5Ideal.cfg0.N, Cert.Kernel5Ideal.Value.run_blocks (F := Ideal) m g, ?_⟩
  refine (θ_run Cert.Reference5Ideal.defs _ _).mono (fun r h c => ⟨(h c).1.trans ?_, (h c).2⟩) (Cert.Reference5Ideal.Even0.run_rows m' g')
  obtain ⟨a0, a1, a2, a3, a4, a5, a6, a7, a8, a9, a10⟩ := hagree c
  refine Eq.trans (funext fun j => ?_) (Cert.Kernel5Ideal.Even0.final m c (Cert.Kernel5Ideal.Even0.finite_of_pre m hpre c)).symm
  have e : Cert.Reference5Ideal.Even0.args (StableHlo.launchContents m' c) = Cert.Kernel5Ideal.Even0.args m c := by
    unfold Cert.Reference5Ideal.Even0.args Cert.Kernel5Ideal.Even0.args
    rw [Cert.Rows.EvenArgs.mk.injEq]
    exact ⟨funext fun r => funext fun k => (Cert.Reference5Ideal.Even0.stream_at _ r k).trans (congrArg₂ (fun x y => Cert.Kernel5Ideal.Even0.streamAt x y r)
        (funext fun _ => funext fun _ => congrFun a0 _) (funext fun _ => funext fun _ => congrFun a1 _)),
      funext fun _ => funext fun _ => congrFun a2 _, funext fun _ => congrFun a3 _, funext fun _ => congrFun a4 _,
      funext fun _ => funext fun _ => funext fun _ => funext fun _ => congrFun a5 _, funext fun _ => funext fun _ => funext fun _ => congrFun a6 _, funext fun _ => congrFun a7 _,
      funext fun _ => funext fun _ => congrFun a8 _, funext fun _ => funext fun _ => congrFun a9 _, funext fun _ => funext fun _ => congrFun a10 _⟩
  exact congrArg (fun D => Cert.Reference4Ideal.Even.outAll D (j 0) (j 1)) e

/-- The reference runs, leaves its arguments, and has no counters. -/
theorem reference_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m g)

end Cert.Even0

end
-- ==== Proof.lean ====
/- The claims, from the modules beside this one. -/
module

public import proofs.«01_k».proof.Defs
public import proofs.«01_k».proof.Proof.KernelPre
public import proofs.«01_k».proof.Proof.KernelIdealPre
public import proofs.«01_k».proof.Proof.Gen.ReferenceIdeal.Run
public import proofs.«01_k».proof.Proof.Equal
public import proofs.«01_k».proof.Proof.Gen.Kernel2Ideal.Value
public import proofs.«01_k».proof.Proof.Gen.Kernel3Ideal.Value
public import proofs.«01_k».proof.Proof.Gen.Kernel2.Frame
public import proofs.«01_k».proof.Proof.Gen.Kernel3.Frame
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_mods_finite
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Pre_mods_finite0
public import proofs.«01_k».proof.Proof.SsdOutValue
public import proofs.«01_k».proof.Proof.SsdInFrame
public import proofs.«01_k».proof.Proof.SsdInValue
public import proofs.«01_k».proof.Proof.EvenValue
public import proofs.«01_k».proof.Proof.Even0Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_table_range.Gen.facts, Cert.Pre_mods_finite.Gen.facts, Cert.Pre_mods_finite0.Gen.facts,
  fun m g h => (Cert.Kernel.Experts.tables_of_pre m h).elim fun T hp => Cert.Kernel.Experts.frame T m g hp,
  fun m g h => (Cert.KernelIdeal.Experts.tables_of_pre m h).elim fun T hp => Cert.KernelIdeal.Experts.frame T m g hp,
  fun m g _ => Cert.Experts.reference_frame m g, fun m g _ => Cert.Experts.reference_frame m g,
  fun m g _ => Cert.Kernel2.Gen.frame m g, fun m g _ => Cert.Kernel2Ideal.Gen.frame m g, fun m g _ => Cert.SsdOut.reference_frame m g,
  fun m g _ => Cert.Kernel3.Gen.frame m g, fun m g _ => Cert.Kernel3Ideal.Gen.frame m g, fun m g _ => Cert.SsdIn.reference_frame m g,
  fun m g _ => Cert.Kernel4.Gen.frame m g, fun m g _ => Cert.Kernel4Ideal.Gen.frame m g, fun m g _ => Cert.Kernel4Ideal.Gen.frame m g,
  fun m g _ => Cert.Even.reference_frame m g, fun m g _ => Cert.Even.reference_frame m g,
  fun m g _ => Cert.Kernel5.Gen.frame m g, fun m g _ => Cert.Kernel5Ideal.Gen.frame m g, fun m g _ => Cert.Kernel5Ideal.Gen.frame m g,
  fun m g _ => Cert.Even0.reference_frame m g, fun m g _ => Cert.Even0.reference_frame m g,
  trivial, Cert.Experts.algebraic, trivial, Cert.SsdOut.algebraic, trivial, Cert.SsdIn.algebraic, trivial, Cert.Even.algebraic, trivial, Cert.Even0.algebraic⟩

end Cert.Proof

end
